-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_FfnDwOut (m : (ℓ : Loc Cert.FfnDwOut.nD Cert.FfnDwOut.τ Cert.FfnDwOut.sig) → Buf (Elt Bits) ℓ) : Prop :=
  True

def Pre_FfnDwOutIdeal (m : (ℓ : Loc Cert.FfnDwOutIdeal.nD Cert.FfnDwOutIdeal.τ Cert.FfnDwOutIdeal.sig) → Buf (Elt Ideal) ℓ) : Prop :=
  True

def Pre_FfnDwOutReferenceIdeal (m : (ℓ : Loc Cert.FfnDwOutReferenceIdeal.nD Cert.FfnDwOutReferenceIdeal.τ Cert.FfnDwOutReferenceIdeal.sig) → Buf (Elt Ideal) ℓ) : Prop :=
  True

def Pre_FfnDwIn (m : (ℓ : Loc Cert.FfnDwIn.nD Cert.FfnDwIn.τ Cert.FfnDwIn.sig) → Buf (Elt Bits) ℓ) : Prop :=
  True

def Pre_FfnDwInIdeal (m : (ℓ : Loc Cert.FfnDwInIdeal.nD Cert.FfnDwInIdeal.τ Cert.FfnDwInIdeal.sig) → Buf (Elt Ideal) ℓ) : Prop :=
  True

def Pre_FfnDwInReferenceIdeal (m : (ℓ : Loc Cert.FfnDwInReferenceIdeal.nD Cert.FfnDwInReferenceIdeal.τ Cert.FfnDwInReferenceIdeal.sig) → Buf (Elt Ideal) ℓ) : Prop :=
  True

def Pre_SsmDwOut (m : (ℓ : Loc Cert.SsmDwOut.nD Cert.SsmDwOut.τ Cert.SsmDwOut.sig) → Buf (Elt Bits) ℓ) : Prop :=
  True

def Pre_SsmDwOutIdeal (m : (ℓ : Loc Cert.SsmDwOutIdeal.nD Cert.SsmDwOutIdeal.τ Cert.SsmDwOutIdeal.sig) → Buf (Elt Ideal) ℓ) : Prop :=
  True

def Pre_SsmDwOutReferenceIdeal (m : (ℓ : Loc Cert.SsmDwOutReferenceIdeal.nD Cert.SsmDwOutReferenceIdeal.τ Cert.SsmDwOutReferenceIdeal.sig) → Buf (Elt Ideal) ℓ) : Prop :=
  True

def Pre_SsmDwZ (m : (ℓ : Loc Cert.SsmDwZ.nD Cert.SsmDwZ.τ Cert.SsmDwZ.sig) → Buf (Elt Bits) ℓ) : Prop :=
  True

def Pre_SsmDwZIdeal (m : (ℓ : Loc Cert.SsmDwZIdeal.nD Cert.SsmDwZIdeal.τ Cert.SsmDwZIdeal.sig) → Buf (Elt Ideal) ℓ) : Prop :=
  True

def Pre_SsmDwZReferenceIdeal (m : (ℓ : Loc Cert.SsmDwZReferenceIdeal.nD Cert.SsmDwZReferenceIdeal.τ Cert.SsmDwZReferenceIdeal.sig) → Buf (Elt Ideal) ℓ) : Prop :=
  True

def Pre_SsmDwX (m : (ℓ : Loc Cert.SsmDwX.nD Cert.SsmDwX.τ Cert.SsmDwX.sig) → Buf (Elt Bits) ℓ) : Prop :=
  True

def Pre_SsmDwXIdeal (m : (ℓ : Loc Cert.SsmDwXIdeal.nD Cert.SsmDwXIdeal.τ Cert.SsmDwXIdeal.sig) → Buf (Elt Ideal) ℓ) : Prop :=
  True

def Pre_SsmDwXReferenceIdeal (m : (ℓ : Loc Cert.SsmDwXReferenceIdeal.nD Cert.SsmDwXReferenceIdeal.τ Cert.SsmDwXReferenceIdeal.sig) → Buf (Elt Ideal) ℓ) : Prop :=
  True

def Pre_AttnDwIn (m : (ℓ : Loc Cert.AttnDwIn.nD Cert.AttnDwIn.τ Cert.AttnDwIn.sig) → Buf (Elt Bits) ℓ) : Prop :=
  True

def Pre_AttnDwInIdeal (m : (ℓ : Loc Cert.AttnDwInIdeal.nD Cert.AttnDwInIdeal.τ Cert.AttnDwInIdeal.sig) → Buf (Elt Ideal) ℓ) : Prop :=
  True

def Pre_AttnDwInReferenceIdeal (m : (ℓ : Loc Cert.AttnDwInReferenceIdeal.nD Cert.AttnDwInReferenceIdeal.τ Cert.AttnDwInReferenceIdeal.sig) → Buf (Elt Ideal) ℓ) : Prop :=
  True

def Pre_AttnDwOut (m : (ℓ : Loc Cert.AttnDwOut.nD Cert.AttnDwOut.τ Cert.AttnDwOut.sig) → Buf (Elt Bits) ℓ) : Prop :=
  True

def Pre_AttnDwOutIdeal (m : (ℓ : Loc Cert.AttnDwOutIdeal.nD Cert.AttnDwOutIdeal.τ Cert.AttnDwOutIdeal.sig) → Buf (Elt Ideal) ℓ) : Prop :=
  True

def Pre_AttnDwOutReferenceIdeal (m : (ℓ : Loc Cert.AttnDwOutReferenceIdeal.nD Cert.AttnDwOutReferenceIdeal.τ Cert.AttnDwOutReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutReferenceIdeal (m : (ℓ : Loc Cert.SsmOutReferenceIdeal.nD Cert.SsmOutReferenceIdeal.τ Cert.SsmOutReferenceIdeal.sig) → Buf (Elt Ideal) ℓ) : Prop :=
  True

def Pre_SsmDy (m : (ℓ : Loc Cert.SsmDy.nD Cert.SsmDy.τ Cert.SsmDy.sig) → Buf (Elt Bits) ℓ) : Prop :=
  True

def Pre_SsmDyIdeal (m : (ℓ : Loc Cert.SsmDyIdeal.nD Cert.SsmDyIdeal.τ Cert.SsmDyIdeal.sig) → Buf (Elt Ideal) ℓ) : Prop :=
  True

def Pre_SsmDyReferenceIdeal (m : (ℓ : Loc Cert.SsmDyReferenceIdeal.nD Cert.SsmDyReferenceIdeal.τ Cert.SsmDyReferenceIdeal.sig) → Buf (Elt Ideal) ℓ) : Prop :=
  True

def Pre_AttnDo (m : (ℓ : Loc Cert.AttnDo.nD Cert.AttnDo.τ Cert.AttnDo.sig) → Buf (Elt Bits) ℓ) : Prop :=
  True

def Pre_AttnDoIdeal (m : (ℓ : Loc Cert.AttnDoIdeal.nD Cert.AttnDoIdeal.τ Cert.AttnDoIdeal.sig) → Buf (Elt Ideal) ℓ) : Prop :=
  True

def Pre_AttnDoReferenceIdeal (m : (ℓ : Loc Cert.AttnDoReferenceIdeal.nD Cert.AttnDoReferenceIdeal.τ Cert.AttnDoReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInReferenceIdeal (m : (ℓ : Loc Cert.AttnInReferenceIdeal.nD Cert.AttnInReferenceIdeal.τ Cert.AttnInReferenceIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhReferenceIdeal (m : (ℓ : Loc Cert.FfnDhReferenceIdeal.nD Cert.FfnDhReferenceIdeal.τ Cert.FfnDhReferenceIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossReferenceIdeal (m : (ℓ : Loc Cert.FfnLossReferenceIdeal.nD Cert.FfnLossReferenceIdeal.τ Cert.FfnLossReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_SsmDh (m : (ℓ : Loc Cert.SsmDh.nD Cert.SsmDh.τ Cert.SsmDh.sig) → Buf (Elt Bits) ℓ) : Prop :=
  True

def Pre_SsmDhIdeal (m : (ℓ : Loc Cert.SsmDhIdeal.nD Cert.SsmDhIdeal.τ Cert.SsmDhIdeal.sig) → Buf (Elt Ideal) ℓ) : Prop :=
  True

def Pre_SsmDhReferenceIdeal (m : (ℓ : Loc Cert.SsmDhReferenceIdeal.nD Cert.SsmDhReferenceIdeal.τ Cert.SsmDhReferenceIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInReferenceIdeal (m : (ℓ : Loc Cert.SsmInReferenceIdeal.nD Cert.SsmInReferenceIdeal.τ Cert.SsmInReferenceIdeal.sig) → Buf (Elt Ideal) ℓ) : Prop :=
  True

def Pre_AdamAttnWIn (m : (ℓ : Loc Cert.AdamAttnWIn.nD Cert.AdamAttnWIn.τ Cert.AdamAttnWIn.sig) → Buf (Elt Bits) ℓ) : Prop :=
  True

def Pre_AdamAttnWInIdeal (m : (ℓ : Loc Cert.AdamAttnWInIdeal.nD Cert.AdamAttnWInIdeal.τ Cert.AdamAttnWInIdeal.sig) → Buf (Elt Ideal) ℓ) : Prop :=
  True

def Pre_AdamAttnWInReferenceIdeal (m : (ℓ : Loc Cert.AdamAttnWInReferenceIdeal.nD Cert.AdamAttnWInReferenceIdeal.τ Cert.AdamAttnWInReferenceIdeal.sig) → Buf (Elt Ideal) ℓ) : Prop :=
  True

def Pre_AdamAttnWOut (m : (ℓ : Loc Cert.AdamAttnWOut.nD Cert.AdamAttnWOut.τ Cert.AdamAttnWOut.sig) → Buf (Elt Bits) ℓ) : Prop :=
  True

def Pre_AdamAttnWOutIdeal (m : (ℓ : Loc Cert.AdamAttnWOutIdeal.nD Cert.AdamAttnWOutIdeal.τ Cert.AdamAttnWOutIdeal.sig) → Buf (Elt Ideal) ℓ) : Prop :=
  True

def Pre_AdamAttnWOutReferenceIdeal (m : (ℓ : Loc Cert.AdamAttnWOutReferenceIdeal.nD Cert.AdamAttnWOutReferenceIdeal.τ Cert.AdamAttnWOutReferenceIdeal.sig) → Buf (Elt Ideal) ℓ) : Prop :=
  True

def Pre_AdamSsmWIn (m : (ℓ : Loc Cert.AdamSsmWIn.nD Cert.AdamSsmWIn.τ Cert.AdamSsmWIn.sig) → Buf (Elt Bits) ℓ) : Prop :=
  True

def Pre_AdamSsmWInIdeal (m : (ℓ : Loc Cert.AdamSsmWInIdeal.nD Cert.AdamSsmWInIdeal.τ Cert.AdamSsmWInIdeal.sig) → Buf (Elt Ideal) ℓ) : Prop :=
  True

def Pre_AdamSsmWInReferenceIdeal (m : (ℓ : Loc Cert.AdamSsmWInReferenceIdeal.nD Cert.AdamSsmWInReferenceIdeal.τ Cert.AdamSsmWInReferenceIdeal.sig) → Buf (Elt Ideal) ℓ) : Prop :=
  True

def Pre_AdamSsmWOut (m : (ℓ : Loc Cert.AdamSsmWOut.nD Cert.AdamSsmWOut.τ Cert.AdamSsmWOut.sig) → Buf (Elt Bits) ℓ) : Prop :=
  True

def Pre_AdamSsmWOutIdeal (m : (ℓ : Loc Cert.AdamSsmWOutIdeal.nD Cert.AdamSsmWOutIdeal.τ Cert.AdamSsmWOutIdeal.sig) → Buf (Elt Ideal) ℓ) : Prop :=
  True

def Pre_AdamSsmWOutReferenceIdeal (m : (ℓ : Loc Cert.AdamSsmWOutReferenceIdeal.nD Cert.AdamSsmWOutReferenceIdeal.τ Cert.AdamSsmWOutReferenceIdeal.sig) → Buf (Elt Ideal) ℓ) : Prop :=
  True

def Pre_AdamFfnWIn (m : (ℓ : Loc Cert.AdamFfnWIn.nD Cert.AdamFfnWIn.τ Cert.AdamFfnWIn.sig) → Buf (Elt Bits) ℓ) : Prop :=
  True

def Pre_AdamFfnWInIdeal (m : (ℓ : Loc Cert.AdamFfnWInIdeal.nD Cert.AdamFfnWInIdeal.τ Cert.AdamFfnWInIdeal.sig) → Buf (Elt Ideal) ℓ) : Prop :=
  True

def Pre_AdamFfnWInReferenceIdeal (m : (ℓ : Loc Cert.AdamFfnWInReferenceIdeal.nD Cert.AdamFfnWInReferenceIdeal.τ Cert.AdamFfnWInReferenceIdeal.sig) → Buf (Elt Ideal) ℓ) : Prop :=
  True

def Pre_AdamFfnWOut (m : (ℓ : Loc Cert.AdamFfnWOut.nD Cert.AdamFfnWOut.τ Cert.AdamFfnWOut.sig) → Buf (Elt Bits) ℓ) : Prop :=
  True

def Pre_AdamFfnWOutIdeal (m : (ℓ : Loc Cert.AdamFfnWOutIdeal.nD Cert.AdamFfnWOutIdeal.τ Cert.AdamFfnWOutIdeal.sig) → Buf (Elt Ideal) ℓ) : Prop :=
  True

def Pre_AdamFfnWOutReferenceIdeal (m : (ℓ : Loc Cert.AdamFfnWOutReferenceIdeal.nD Cert.AdamFfnWOutReferenceIdeal.τ Cert.AdamFfnWOutReferenceIdeal.sig) → Buf (Elt Ideal) ℓ) : Prop :=
  True

def Pre_SumAttnWIn (m : (ℓ : Loc Cert.SumAttnWIn.nD Cert.SumAttnWIn.τ Cert.SumAttnWIn.sig) → Buf (Elt Bits) ℓ) : Prop :=
  True

def Pre_SumAttnWInIdeal (m : (ℓ : Loc Cert.SumAttnWInIdeal.nD Cert.SumAttnWInIdeal.τ Cert.SumAttnWInIdeal.sig) → Buf (Elt Ideal) ℓ) : Prop :=
  True

def Pre_SumAttnWInReferenceIdeal (m : (ℓ : Loc Cert.SumAttnWInReferenceIdeal.nD Cert.SumAttnWInReferenceIdeal.τ Cert.SumAttnWInReferenceIdeal.sig) → Buf (Elt Ideal) ℓ) : Prop :=
  True

def Pre_SumSsmWIn (m : (ℓ : Loc Cert.SumSsmWIn.nD Cert.SumSsmWIn.τ Cert.SumSsmWIn.sig) → Buf (Elt Bits) ℓ) : Prop :=
  True

def Pre_SumSsmWInIdeal (m : (ℓ : Loc Cert.SumSsmWInIdeal.nD Cert.SumSsmWInIdeal.τ Cert.SumSsmWInIdeal.sig) → Buf (Elt Ideal) ℓ) : Prop :=
  True

def Pre_SumSsmWInReferenceIdeal (m : (ℓ : Loc Cert.SumSsmWInReferenceIdeal.nD Cert.SumSsmWInReferenceIdeal.τ Cert.SumSsmWInReferenceIdeal.sig) → Buf (Elt Ideal) ℓ) : Prop :=
  True

def Pre_SumFfnWIn (m : (ℓ : Loc Cert.SumFfnWIn.nD Cert.SumFfnWIn.τ Cert.SumFfnWIn.sig) → Buf (Elt Bits) ℓ) : Prop :=
  True

def Pre_SumFfnWInIdeal (m : (ℓ : Loc Cert.SumFfnWInIdeal.nD Cert.SumFfnWInIdeal.τ Cert.SumFfnWInIdeal.sig) → Buf (Elt Ideal) ℓ) : Prop :=
  True

def Pre_SumFfnWInReferenceIdeal (m : (ℓ : Loc Cert.SumFfnWInReferenceIdeal.nD Cert.SumFfnWInReferenceIdeal.τ Cert.SumFfnWInReferenceIdeal.sig) → Buf (Elt Ideal) ℓ) : Prop :=
  True

def Pre_SsmDwDt (m : (ℓ : Loc Cert.SsmDwDt.nD Cert.SsmDwDt.τ Cert.SsmDwDt.sig) → Buf (Elt Bits) ℓ) : Prop :=
  True

def Pre_SsmDwDtIdeal (m : (ℓ : Loc Cert.SsmDwDtIdeal.nD Cert.SsmDwDtIdeal.τ Cert.SsmDwDtIdeal.sig) → Buf (Elt Ideal) ℓ) : Prop :=
  True

def Pre_SsmDwDtReferenceIdeal (m : (ℓ : Loc Cert.SsmDwDtReferenceIdeal.nD Cert.SsmDwDtReferenceIdeal.τ Cert.SsmDwDtReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnDwOut [hFfnDwOut : Cert.FfnDwOut.Facts] : Prop :=
  ∀ (m : (ℓ : Loc Cert.FfnDwOut.nD Cert.FfnDwOut.τ Cert.FfnDwOut.sig) → Buf (Elt Bits) ℓ) (g : Dev Cert.FfnDwOut.nD → PrngReg), Pre_FfnDwOut m →
    θ_run (Cert.FfnDwOut.defs (F := Bits)) (onTc (τ := Cert.FfnDwOut.τ) (Cert.FfnDwOut.main (F := Bits))) ⟨m, fun _ => 0, g⟩ (fun r => (∀ c : Dev Cert.FfnDwOut.nD,
      r.2.mem ((c.tc : Thread Cert.FfnDwOut.nD Cert.FfnDwOut.τ).loc Cert.FfnDwOut.main_arg0) = m ((c.tc : Thread Cert.FfnDwOut.nD Cert.FfnDwOut.τ).loc Cert.FfnDwOut.main_arg0)
      ∧ r.2.mem ((c.tc : Thread Cert.FfnDwOut.nD Cert.FfnDwOut.τ).loc Cert.FfnDwOut.main_arg1) = m ((c.tc : Thread Cert.FfnDwOut.nD Cert.FfnDwOut.τ).loc Cert.FfnDwOut.main_arg1))
      ∧ r.2.sem = fun _ => 0)

def quiescent_FfnDwOutIdeal [hFfnDwOutIdeal : Cert.FfnDwOutIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg), Pre_FfnDwOutIdeal m →
    θ_run (Cert.FfnDwOutIdeal.defs (F := Ideal)) (onTc (τ := Cert.FfnDwOutIdeal.τ) (Cert.FfnDwOutIdeal.main (F := Ideal))) ⟨m, fun _ => 0, g⟩ (fun r => (∀ c : Dev Cert.FfnDwOutIdeal.nD,
      r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
      ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1))
      ∧ r.2.sem = fun _ => 0)

def quiescent_FfnDwOutReferenceIdeal [hFfnDwOutReferenceIdeal : Cert.FfnDwOutReferenceIdeal.Facts] : Prop :=
  ∀ (m : (ℓ : Loc Cert.FfnDwOutReferenceIdeal.nD Cert.FfnDwOutReferenceIdeal.τ Cert.FfnDwOutReferenceIdeal.sig) → Buf (Elt Ideal) ℓ) (g : Dev Cert.FfnDwOutReferenceIdeal.nD → PrngReg), Pre_FfnDwOutReferenceIdeal m →
    θ_run (Cert.FfnDwOutReferenceIdeal.defs (F := Ideal)) (onTc (τ := Cert.FfnDwOutReferenceIdeal.τ) (Cert.FfnDwOutReferenceIdeal.main (F := Ideal))) ⟨m, fun _ => 0, g⟩ (fun r => (∀ c : Dev Cert.FfnDwOutReferenceIdeal.nD,
      r.2.mem ((c.tc : Thread Cert.FfnDwOutReferenceIdeal.nD Cert.FfnDwOutReferenceIdeal.τ).loc Cert.FfnDwOutReferenceIdeal.main_arg0) = m ((c.tc : Thread Cert.FfnDwOutReferenceIdeal.nD Cert.FfnDwOutReferenceIdeal.τ).loc Cert.FfnDwOutReferenceIdeal.main_arg0)
      ∧ r.2.mem ((c.tc : Thread Cert.FfnDwOutReferenceIdeal.nD Cert.FfnDwOutReferenceIdeal.τ).loc Cert.FfnDwOutReferenceIdeal.main_arg1) = m ((c.tc : Thread Cert.FfnDwOutReferenceIdeal.nD Cert.FfnDwOutReferenceIdeal.τ).loc Cert.FfnDwOutReferenceIdeal.main_arg1))
      ∧ r.2.sem = fun _ => 0)

def quiescent_FfnDwIn [hFfnDwIn : Cert.FfnDwIn.Facts] : Prop :=
  ∀ (m : (ℓ : Loc Cert.FfnDwIn.nD Cert.FfnDwIn.τ Cert.FfnDwIn.sig) → Buf (Elt Bits) ℓ) (g : Dev Cert.FfnDwIn.nD → PrngReg), Pre_FfnDwIn m →
    θ_run (Cert.FfnDwIn.defs (F := Bits)) (onTc (τ := Cert.FfnDwIn.τ) (Cert.FfnDwIn.main (F := Bits))) ⟨m, fun _ => 0, g⟩ (fun r => (∀ c : Dev Cert.FfnDwIn.nD,
      r.2.mem ((c.tc : Thread Cert.FfnDwIn.nD Cert.FfnDwIn.τ).loc Cert.FfnDwIn.main_arg0) = m ((c.tc : Thread Cert.FfnDwIn.nD Cert.FfnDwIn.τ).loc Cert.FfnDwIn.main_arg0)
      ∧ r.2.mem ((c.tc : Thread Cert.FfnDwIn.nD Cert.FfnDwIn.τ).loc Cert.FfnDwIn.main_arg1) = m ((c.tc : Thread Cert.FfnDwIn.nD Cert.FfnDwIn.τ).loc Cert.FfnDwIn.main_arg1))
      ∧ r.2.sem = fun _ => 0)

def quiescent_FfnDwInIdeal [hFfnDwInIdeal : Cert.FfnDwInIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg), Pre_FfnDwInIdeal m →
    θ_run (Cert.FfnDwInIdeal.defs (F := Ideal)) (onTc (τ := Cert.FfnDwInIdeal.τ) (Cert.FfnDwInIdeal.main (F := Ideal))) ⟨m, fun _ => 0, g⟩ (fun r => (∀ c : Dev Cert.FfnDwInIdeal.nD,
      r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
      ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ r.2.sem = fun _ => 0)

def quiescent_FfnDwInReferenceIdeal [hFfnDwInReferenceIdeal : Cert.FfnDwInReferenceIdeal.Facts] : Prop :=
  ∀ (m : (ℓ : Loc Cert.FfnDwInReferenceIdeal.nD Cert.FfnDwInReferenceIdeal.τ Cert.FfnDwInReferenceIdeal.sig) → Buf (Elt Ideal) ℓ) (g : Dev Cert.FfnDwInReferenceIdeal.nD → PrngReg), Pre_FfnDwInReferenceIdeal m →
    θ_run (Cert.FfnDwInReferenceIdeal.defs (F := Ideal)) (onTc (τ := Cert.FfnDwInReferenceIdeal.τ) (Cert.FfnDwInReferenceIdeal.main (F := Ideal))) ⟨m, fun _ => 0, g⟩ (fun r => (∀ c : Dev Cert.FfnDwInReferenceIdeal.nD,
      r.2.mem ((c.tc : Thread Cert.FfnDwInReferenceIdeal.nD Cert.FfnDwInReferenceIdeal.τ).loc Cert.FfnDwInReferenceIdeal.main_arg0) = m ((c.tc : Thread Cert.FfnDwInReferenceIdeal.nD Cert.FfnDwInReferenceIdeal.τ).loc Cert.FfnDwInReferenceIdeal.main_arg0)
      ∧ r.2.mem ((c.tc : Thread Cert.FfnDwInReferenceIdeal.nD Cert.FfnDwInReferenceIdeal.τ).loc Cert.FfnDwInReferenceIdeal.main_arg1) = m ((c.tc : Thread Cert.FfnDwInReferenceIdeal.nD Cert.FfnDwInReferenceIdeal.τ).loc Cert.FfnDwInReferenceIdeal.main_arg1))
      ∧ r.2.sem = fun _ => 0)

def quiescent_SsmDwOut [hSsmDwOut : Cert.SsmDwOut.Facts] : Prop :=
  ∀ (m : (ℓ : Loc Cert.SsmDwOut.nD Cert.SsmDwOut.τ Cert.SsmDwOut.sig) → Buf (Elt Bits) ℓ) (g : Dev Cert.SsmDwOut.nD → PrngReg), Pre_SsmDwOut m →
    θ_run (Cert.SsmDwOut.defs (F := Bits)) (onTc (τ := Cert.SsmDwOut.τ) (Cert.SsmDwOut.main (F := Bits))) ⟨m, fun _ => 0, g⟩ (fun r => (∀ c : Dev Cert.SsmDwOut.nD,
      r.2.mem ((c.tc : Thread Cert.SsmDwOut.nD Cert.SsmDwOut.τ).loc Cert.SsmDwOut.main_arg0) = m ((c.tc : Thread Cert.SsmDwOut.nD Cert.SsmDwOut.τ).loc Cert.SsmDwOut.main_arg0)
      ∧ r.2.mem ((c.tc : Thread Cert.SsmDwOut.nD Cert.SsmDwOut.τ).loc Cert.SsmDwOut.main_arg1) = m ((c.tc : Thread Cert.SsmDwOut.nD Cert.SsmDwOut.τ).loc Cert.SsmDwOut.main_arg1))
      ∧ r.2.sem = fun _ => 0)

def quiescent_SsmDwOutIdeal [hSsmDwOutIdeal : Cert.SsmDwOutIdeal.Facts] : Prop :=
  ∀ (m : (ℓ : Loc Cert.SsmDwOutIdeal.nD Cert.SsmDwOutIdeal.τ Cert.SsmDwOutIdeal.sig) → Buf (Elt Ideal) ℓ) (g : Dev Cert.SsmDwOutIdeal.nD → PrngReg), Pre_SsmDwOutIdeal m →
    θ_run (Cert.SsmDwOutIdeal.defs (F := Ideal)) (onTc (τ := Cert.SsmDwOutIdeal.τ) (Cert.SsmDwOutIdeal.main (F := Ideal))) ⟨m, fun _ => 0, g⟩ (fun r => (∀ c : Dev Cert.SsmDwOutIdeal.nD,
      r.2.mem ((c.tc : Thread Cert.SsmDwOutIdeal.nD Cert.SsmDwOutIdeal.τ).loc Cert.SsmDwOutIdeal.main_arg0) = m ((c.tc : Thread Cert.SsmDwOutIdeal.nD Cert.SsmDwOutIdeal.τ).loc Cert.SsmDwOutIdeal.main_arg0)
      ∧ r.2.mem ((c.tc : Thread Cert.SsmDwOutIdeal.nD Cert.SsmDwOutIdeal.τ).loc Cert.SsmDwOutIdeal.main_arg1) = m ((c.tc : Thread Cert.SsmDwOutIdeal.nD Cert.SsmDwOutIdeal.τ).loc Cert.SsmDwOutIdeal.main_arg1))
      ∧ r.2.sem = fun _ => 0)

def quiescent_SsmDwOutReferenceIdeal [hSsmDwOutReferenceIdeal : Cert.SsmDwOutReferenceIdeal.Facts] : Prop :=
  ∀ (m : (ℓ : Loc Cert.SsmDwOutReferenceIdeal.nD Cert.SsmDwOutReferenceIdeal.τ Cert.SsmDwOutReferenceIdeal.sig) → Buf (Elt Ideal) ℓ) (g : Dev Cert.SsmDwOutReferenceIdeal.nD → PrngReg), Pre_SsmDwOutReferenceIdeal m →
    θ_run (Cert.SsmDwOutReferenceIdeal.defs (F := Ideal)) (onTc (τ := Cert.SsmDwOutReferenceIdeal.τ) (Cert.SsmDwOutReferenceIdeal.main (F := Ideal))) ⟨m, fun _ => 0, g⟩ (fun r => (∀ c : Dev Cert.SsmDwOutReferenceIdeal.nD,
      r.2.mem ((c.tc : Thread Cert.SsmDwOutReferenceIdeal.nD Cert.SsmDwOutReferenceIdeal.τ).loc Cert.SsmDwOutReferenceIdeal.main_arg0) = m ((c.tc : Thread Cert.SsmDwOutReferenceIdeal.nD Cert.SsmDwOutReferenceIdeal.τ).loc Cert.SsmDwOutReferenceIdeal.main_arg0)
      ∧ r.2.mem ((c.tc : Thread Cert.SsmDwOutReferenceIdeal.nD Cert.SsmDwOutReferenceIdeal.τ).loc Cert.SsmDwOutReferenceIdeal.main_arg1) = m ((c.tc : Thread Cert.SsmDwOutReferenceIdeal.nD Cert.SsmDwOutReferenceIdeal.τ).loc Cert.SsmDwOutReferenceIdeal.main_arg1))
      ∧ r.2.sem = fun _ => 0)

def quiescent_SsmDwZ [hSsmDwZ : Cert.SsmDwZ.Facts] : Prop :=
  ∀ (m : (ℓ : Loc Cert.SsmDwZ.nD Cert.SsmDwZ.τ Cert.SsmDwZ.sig) → Buf (Elt Bits) ℓ) (g : Dev Cert.SsmDwZ.nD → PrngReg), Pre_SsmDwZ m →
    θ_run (Cert.SsmDwZ.defs (F := Bits)) (onTc (τ := Cert.SsmDwZ.τ) (Cert.SsmDwZ.main (F := Bits))) ⟨m, fun _ => 0, g⟩ (fun r => (∀ c : Dev Cert.SsmDwZ.nD,
      r.2.mem ((c.tc : Thread Cert.SsmDwZ.nD Cert.SsmDwZ.τ).loc Cert.SsmDwZ.main_arg0) = m ((c.tc : Thread Cert.SsmDwZ.nD Cert.SsmDwZ.τ).loc Cert.SsmDwZ.main_arg0)
      ∧ r.2.mem ((c.tc : Thread Cert.SsmDwZ.nD Cert.SsmDwZ.τ).loc Cert.SsmDwZ.main_arg1) = m ((c.tc : Thread Cert.SsmDwZ.nD Cert.SsmDwZ.τ).loc Cert.SsmDwZ.main_arg1))
      ∧ r.2.sem = fun _ => 0)

def quiescent_SsmDwZIdeal [hSsmDwZIdeal : Cert.SsmDwZIdeal.Facts] : Prop :=
  ∀ (m : (ℓ : Loc Cert.SsmDwZIdeal.nD Cert.SsmDwZIdeal.τ Cert.SsmDwZIdeal.sig) → Buf (Elt Ideal) ℓ) (g : Dev Cert.SsmDwZIdeal.nD → PrngReg), Pre_SsmDwZIdeal m →
    θ_run (Cert.SsmDwZIdeal.defs (F := Ideal)) (onTc (τ := Cert.SsmDwZIdeal.τ) (Cert.SsmDwZIdeal.main (F := Ideal))) ⟨m, fun _ => 0, g⟩ (fun r => (∀ c : Dev Cert.SsmDwZIdeal.nD,
      r.2.mem ((c.tc : Thread Cert.SsmDwZIdeal.nD Cert.SsmDwZIdeal.τ).loc Cert.SsmDwZIdeal.main_arg0) = m ((c.tc : Thread Cert.SsmDwZIdeal.nD Cert.SsmDwZIdeal.τ).loc Cert.SsmDwZIdeal.main_arg0)
      ∧ r.2.mem ((c.tc : Thread Cert.SsmDwZIdeal.nD Cert.SsmDwZIdeal.τ).loc Cert.SsmDwZIdeal.main_arg1) = m ((c.tc : Thread Cert.SsmDwZIdeal.nD Cert.SsmDwZIdeal.τ).loc Cert.SsmDwZIdeal.main_arg1))
      ∧ r.2.sem = fun _ => 0)

def quiescent_SsmDwZReferenceIdeal [hSsmDwZReferenceIdeal : Cert.SsmDwZReferenceIdeal.Facts] : Prop :=
  ∀ (m : (ℓ : Loc Cert.SsmDwZReferenceIdeal.nD Cert.SsmDwZReferenceIdeal.τ Cert.SsmDwZReferenceIdeal.sig) → Buf (Elt Ideal) ℓ) (g : Dev Cert.SsmDwZReferenceIdeal.nD → PrngReg), Pre_SsmDwZReferenceIdeal m →
    θ_run (Cert.SsmDwZReferenceIdeal.defs (F := Ideal)) (onTc (τ := Cert.SsmDwZReferenceIdeal.τ) (Cert.SsmDwZReferenceIdeal.main (F := Ideal))) ⟨m, fun _ => 0, g⟩ (fun r => (∀ c : Dev Cert.SsmDwZReferenceIdeal.nD,
      r.2.mem ((c.tc : Thread Cert.SsmDwZReferenceIdeal.nD Cert.SsmDwZReferenceIdeal.τ).loc Cert.SsmDwZReferenceIdeal.main_arg0) = m ((c.tc : Thread Cert.SsmDwZReferenceIdeal.nD Cert.SsmDwZReferenceIdeal.τ).loc Cert.SsmDwZReferenceIdeal.main_arg0)
      ∧ r.2.mem ((c.tc : Thread Cert.SsmDwZReferenceIdeal.nD Cert.SsmDwZReferenceIdeal.τ).loc Cert.SsmDwZReferenceIdeal.main_arg1) = m ((c.tc : Thread Cert.SsmDwZReferenceIdeal.nD Cert.SsmDwZReferenceIdeal.τ).loc Cert.SsmDwZReferenceIdeal.main_arg1))
      ∧ r.2.sem = fun _ => 0)

def quiescent_SsmDwX [hSsmDwX : Cert.SsmDwX.Facts] : Prop :=
  ∀ (m : (ℓ : Loc Cert.SsmDwX.nD Cert.SsmDwX.τ Cert.SsmDwX.sig) → Buf (Elt Bits) ℓ) (g : Dev Cert.SsmDwX.nD → PrngReg), Pre_SsmDwX m →
    θ_run (Cert.SsmDwX.defs (F := Bits)) (onTc (τ := Cert.SsmDwX.τ) (Cert.SsmDwX.main (F := Bits))) ⟨m, fun _ => 0, g⟩ (fun r => (∀ c : Dev Cert.SsmDwX.nD,
      r.2.mem ((c.tc : Thread Cert.SsmDwX.nD Cert.SsmDwX.τ).loc Cert.SsmDwX.main_arg0) = m ((c.tc : Thread Cert.SsmDwX.nD Cert.SsmDwX.τ).loc Cert.SsmDwX.main_arg0)
      ∧ r.2.mem ((c.tc : Thread Cert.SsmDwX.nD Cert.SsmDwX.τ).loc Cert.SsmDwX.main_arg1) = m ((c.tc : Thread Cert.SsmDwX.nD Cert.SsmDwX.τ).loc Cert.SsmDwX.main_arg1))
      ∧ r.2.sem = fun _ => 0)

def quiescent_SsmDwXIdeal [hSsmDwXIdeal : Cert.SsmDwXIdeal.Facts] : Prop :=
  ∀ (m : (ℓ : Loc Cert.SsmDwXIdeal.nD Cert.SsmDwXIdeal.τ Cert.SsmDwXIdeal.sig) → Buf (Elt Ideal) ℓ) (g : Dev Cert.SsmDwXIdeal.nD → PrngReg), Pre_SsmDwXIdeal m →
    θ_run (Cert.SsmDwXIdeal.defs (F := Ideal)) (onTc (τ := Cert.SsmDwXIdeal.τ) (Cert.SsmDwXIdeal.main (F := Ideal))) ⟨m, fun _ => 0, g⟩ (fun r => (∀ c : Dev Cert.SsmDwXIdeal.nD,
      r.2.mem ((c.tc : Thread Cert.SsmDwXIdeal.nD Cert.SsmDwXIdeal.τ).loc Cert.SsmDwXIdeal.main_arg0) = m ((c.tc : Thread Cert.SsmDwXIdeal.nD Cert.SsmDwXIdeal.τ).loc Cert.SsmDwXIdeal.main_arg0)
      ∧ r.2.mem ((c.tc : Thread Cert.SsmDwXIdeal.nD Cert.SsmDwXIdeal.τ).loc Cert.SsmDwXIdeal.main_arg1) = m ((c.tc : Thread Cert.SsmDwXIdeal.nD Cert.SsmDwXIdeal.τ).loc Cert.SsmDwXIdeal.main_arg1))
      ∧ r.2.sem = fun _ => 0)

def quiescent_SsmDwXReferenceIdeal [hSsmDwXReferenceIdeal : Cert.SsmDwXReferenceIdeal.Facts] : Prop :=
  ∀ (m : (ℓ : Loc Cert.SsmDwXReferenceIdeal.nD Cert.SsmDwXReferenceIdeal.τ Cert.SsmDwXReferenceIdeal.sig) → Buf (Elt Ideal) ℓ) (g : Dev Cert.SsmDwXReferenceIdeal.nD → PrngReg), Pre_SsmDwXReferenceIdeal m →
    θ_run (Cert.SsmDwXReferenceIdeal.defs (F := Ideal)) (onTc (τ := Cert.SsmDwXReferenceIdeal.τ) (Cert.SsmDwXReferenceIdeal.main (F := Ideal))) ⟨m, fun _ => 0, g⟩ (fun r => (∀ c : Dev Cert.SsmDwXReferenceIdeal.nD,
      r.2.mem ((c.tc : Thread Cert.SsmDwXReferenceIdeal.nD Cert.SsmDwXReferenceIdeal.τ).loc Cert.SsmDwXReferenceIdeal.main_arg0) = m ((c.tc : Thread Cert.SsmDwXReferenceIdeal.nD Cert.SsmDwXReferenceIdeal.τ).loc Cert.SsmDwXReferenceIdeal.main_arg0)
      ∧ r.2.mem ((c.tc : Thread Cert.SsmDwXReferenceIdeal.nD Cert.SsmDwXReferenceIdeal.τ).loc Cert.SsmDwXReferenceIdeal.main_arg1) = m ((c.tc : Thread Cert.SsmDwXReferenceIdeal.nD Cert.SsmDwXReferenceIdeal.τ).loc Cert.SsmDwXReferenceIdeal.main_arg1))
      ∧ r.2.sem = fun _ => 0)

def quiescent_AttnDwIn [hAttnDwIn : Cert.AttnDwIn.Facts] : Prop :=
  ∀ (m : (ℓ : Loc Cert.AttnDwIn.nD Cert.AttnDwIn.τ Cert.AttnDwIn.sig) → Buf (Elt Bits) ℓ) (g : Dev Cert.AttnDwIn.nD → PrngReg), Pre_AttnDwIn m →
    θ_run (Cert.AttnDwIn.defs (F := Bits)) (onTc (τ := Cert.AttnDwIn.τ) (Cert.AttnDwIn.main (F := Bits))) ⟨m, fun _ => 0, g⟩ (fun r => (∀ c : Dev Cert.AttnDwIn.nD,
      r.2.mem ((c.tc : Thread Cert.AttnDwIn.nD Cert.AttnDwIn.τ).loc Cert.AttnDwIn.main_arg0) = m ((c.tc : Thread Cert.AttnDwIn.nD Cert.AttnDwIn.τ).loc Cert.AttnDwIn.main_arg0)
      ∧ r.2.mem ((c.tc : Thread Cert.AttnDwIn.nD Cert.AttnDwIn.τ).loc Cert.AttnDwIn.main_arg1) = m ((c.tc : Thread Cert.AttnDwIn.nD Cert.AttnDwIn.τ).loc Cert.AttnDwIn.main_arg1))
      ∧ r.2.sem = fun _ => 0)

def quiescent_AttnDwInIdeal [hAttnDwInIdeal : Cert.AttnDwInIdeal.Facts] : Prop :=
  ∀ (m : (ℓ : Loc Cert.AttnDwInIdeal.nD Cert.AttnDwInIdeal.τ Cert.AttnDwInIdeal.sig) → Buf (Elt Ideal) ℓ) (g : Dev Cert.AttnDwInIdeal.nD → PrngReg), Pre_AttnDwInIdeal m →
    θ_run (Cert.AttnDwInIdeal.defs (F := Ideal)) (onTc (τ := Cert.AttnDwInIdeal.τ) (Cert.AttnDwInIdeal.main (F := Ideal))) ⟨m, fun _ => 0, g⟩ (fun r => (∀ c : Dev Cert.AttnDwInIdeal.nD,
      r.2.mem ((c.tc : Thread Cert.AttnDwInIdeal.nD Cert.AttnDwInIdeal.τ).loc Cert.AttnDwInIdeal.main_arg0) = m ((c.tc : Thread Cert.AttnDwInIdeal.nD Cert.AttnDwInIdeal.τ).loc Cert.AttnDwInIdeal.main_arg0)
      ∧ r.2.mem ((c.tc : Thread Cert.AttnDwInIdeal.nD Cert.AttnDwInIdeal.τ).loc Cert.AttnDwInIdeal.main_arg1) = m ((c.tc : Thread Cert.AttnDwInIdeal.nD Cert.AttnDwInIdeal.τ).loc Cert.AttnDwInIdeal.main_arg1))
      ∧ r.2.sem = fun _ => 0)

def quiescent_AttnDwInReferenceIdeal [hAttnDwInReferenceIdeal : Cert.AttnDwInReferenceIdeal.Facts] : Prop :=
  ∀ (m : (ℓ : Loc Cert.AttnDwInReferenceIdeal.nD Cert.AttnDwInReferenceIdeal.τ Cert.AttnDwInReferenceIdeal.sig) → Buf (Elt Ideal) ℓ) (g : Dev Cert.AttnDwInReferenceIdeal.nD → PrngReg), Pre_AttnDwInReferenceIdeal m →
    θ_run (Cert.AttnDwInReferenceIdeal.defs (F := Ideal)) (onTc (τ := Cert.AttnDwInReferenceIdeal.τ) (Cert.AttnDwInReferenceIdeal.main (F := Ideal))) ⟨m, fun _ => 0, g⟩ (fun r => (∀ c : Dev Cert.AttnDwInReferenceIdeal.nD,
      r.2.mem ((c.tc : Thread Cert.AttnDwInReferenceIdeal.nD Cert.AttnDwInReferenceIdeal.τ).loc Cert.AttnDwInReferenceIdeal.main_arg0) = m ((c.tc : Thread Cert.AttnDwInReferenceIdeal.nD Cert.AttnDwInReferenceIdeal.τ).loc Cert.AttnDwInReferenceIdeal.main_arg0)
      ∧ r.2.mem ((c.tc : Thread Cert.AttnDwInReferenceIdeal.nD Cert.AttnDwInReferenceIdeal.τ).loc Cert.AttnDwInReferenceIdeal.main_arg1) = m ((c.tc : Thread Cert.AttnDwInReferenceIdeal.nD Cert.AttnDwInReferenceIdeal.τ).loc Cert.AttnDwInReferenceIdeal.main_arg1))
      ∧ r.2.sem = fun _ => 0)

def quiescent_AttnDwOut [hAttnDwOut : Cert.AttnDwOut.Facts] : Prop :=
  ∀ (m : (ℓ : Loc Cert.AttnDwOut.nD Cert.AttnDwOut.τ Cert.AttnDwOut.sig) → Buf (Elt Bits) ℓ) (g : Dev Cert.AttnDwOut.nD → PrngReg), Pre_AttnDwOut m →
    θ_run (Cert.AttnDwOut.defs (F := Bits)) (onTc (τ := Cert.AttnDwOut.τ) (Cert.AttnDwOut.main (F := Bits))) ⟨m, fun _ => 0, g⟩ (fun r => (∀ c : Dev Cert.AttnDwOut.nD,
      r.2.mem ((c.tc : Thread Cert.AttnDwOut.nD Cert.AttnDwOut.τ).loc Cert.AttnDwOut.main_arg0) = m ((c.tc : Thread Cert.AttnDwOut.nD Cert.AttnDwOut.τ).loc Cert.AttnDwOut.main_arg0)
      ∧ r.2.mem ((c.tc : Thread Cert.AttnDwOut.nD Cert.AttnDwOut.τ).loc Cert.AttnDwOut.main_arg1) = m ((c.tc : Thread Cert.AttnDwOut.nD Cert.AttnDwOut.τ).loc Cert.AttnDwOut.main_arg1))
      ∧ r.2.sem = fun _ => 0)

def quiescent_AttnDwOutIdeal [hAttnDwOutIdeal : Cert.AttnDwOutIdeal.Facts] : Prop :=
  ∀ (m : (ℓ : Loc Cert.AttnDwOutIdeal.nD Cert.AttnDwOutIdeal.τ Cert.AttnDwOutIdeal.sig) → Buf (Elt Ideal) ℓ) (g : Dev Cert.AttnDwOutIdeal.nD → PrngReg), Pre_AttnDwOutIdeal m →
    θ_run (Cert.AttnDwOutIdeal.defs (F := Ideal)) (onTc (τ := Cert.AttnDwOutIdeal.τ) (Cert.AttnDwOutIdeal.main (F := Ideal))) ⟨m, fun _ => 0, g⟩ (fun r => (∀ c : Dev Cert.AttnDwOutIdeal.nD,
      r.2.mem ((c.tc : Thread Cert.AttnDwOutIdeal.nD Cert.AttnDwOutIdeal.τ).loc Cert.AttnDwOutIdeal.main_arg0) = m ((c.tc : Thread Cert.AttnDwOutIdeal.nD Cert.AttnDwOutIdeal.τ).loc Cert.AttnDwOutIdeal.main_arg0)
      ∧ r.2.mem ((c.tc : Thread Cert.AttnDwOutIdeal.nD Cert.AttnDwOutIdeal.τ).loc Cert.AttnDwOutIdeal.main_arg1) = m ((c.tc : Thread Cert.AttnDwOutIdeal.nD Cert.AttnDwOutIdeal.τ).loc Cert.AttnDwOutIdeal.main_arg1))
      ∧ r.2.sem = fun _ => 0)

def quiescent_AttnDwOutReferenceIdeal [hAttnDwOutReferenceIdeal : Cert.AttnDwOutReferenceIdeal.Facts] : Prop :=
  ∀ (m : (ℓ : Loc Cert.AttnDwOutReferenceIdeal.nD Cert.AttnDwOutReferenceIdeal.τ Cert.AttnDwOutReferenceIdeal.sig) → Buf (Elt Ideal) ℓ) (g : Dev Cert.AttnDwOutReferenceIdeal.nD → PrngReg), Pre_AttnDwOutReferenceIdeal m →
    θ_run (Cert.AttnDwOutReferenceIdeal.defs (F := Ideal)) (onTc (τ := Cert.AttnDwOutReferenceIdeal.τ) (Cert.AttnDwOutReferenceIdeal.main (F := Ideal))) ⟨m, fun _ => 0, g⟩ (fun r => (∀ c : Dev Cert.AttnDwOutReferenceIdeal.nD,
      r.2.mem ((c.tc : Thread Cert.AttnDwOutReferenceIdeal.nD Cert.AttnDwOutReferenceIdeal.τ).loc Cert.AttnDwOutReferenceIdeal.main_arg0) = m ((c.tc : Thread Cert.AttnDwOutReferenceIdeal.nD Cert.AttnDwOutReferenceIdeal.τ).loc Cert.AttnDwOutReferenceIdeal.main_arg0)
      ∧ r.2.mem ((c.tc : Thread Cert.AttnDwOutReferenceIdeal.nD Cert.AttnDwOutReferenceIdeal.τ).loc Cert.AttnDwOutReferenceIdeal.main_arg1) = m ((c.tc : Thread Cert.AttnDwOutReferenceIdeal.nD Cert.AttnDwOutReferenceIdeal.τ).loc Cert.AttnDwOutReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ r.2.sem = fun _ => 0)

def quiescent_SsmOutReferenceIdeal [hSsmOutReferenceIdeal : Cert.SsmOutReferenceIdeal.Facts] : Prop :=
  ∀ (m : (ℓ : Loc Cert.SsmOutReferenceIdeal.nD Cert.SsmOutReferenceIdeal.τ Cert.SsmOutReferenceIdeal.sig) → Buf (Elt Ideal) ℓ) (g : Dev Cert.SsmOutReferenceIdeal.nD → PrngReg), Pre_SsmOutReferenceIdeal m →
    θ_run (Cert.SsmOutReferenceIdeal.defs (F := Ideal)) (onTc (τ := Cert.SsmOutReferenceIdeal.τ) (Cert.SsmOutReferenceIdeal.main (F := Ideal))) ⟨m, fun _ => 0, g⟩ (fun r => (∀ c : Dev Cert.SsmOutReferenceIdeal.nD,
      r.2.mem ((c.tc : Thread Cert.SsmOutReferenceIdeal.nD Cert.SsmOutReferenceIdeal.τ).loc Cert.SsmOutReferenceIdeal.main_arg0) = m ((c.tc : Thread Cert.SsmOutReferenceIdeal.nD Cert.SsmOutReferenceIdeal.τ).loc Cert.SsmOutReferenceIdeal.main_arg0)
      ∧ r.2.mem ((c.tc : Thread Cert.SsmOutReferenceIdeal.nD Cert.SsmOutReferenceIdeal.τ).loc Cert.SsmOutReferenceIdeal.main_arg1) = m ((c.tc : Thread Cert.SsmOutReferenceIdeal.nD Cert.SsmOutReferenceIdeal.τ).loc Cert.SsmOutReferenceIdeal.main_arg1)
      ∧ r.2.mem ((c.tc : Thread Cert.SsmOutReferenceIdeal.nD Cert.SsmOutReferenceIdeal.τ).loc Cert.SsmOutReferenceIdeal.main_arg2) = m ((c.tc : Thread Cert.SsmOutReferenceIdeal.nD Cert.SsmOutReferenceIdeal.τ).loc Cert.SsmOutReferenceIdeal.main_arg2))
      ∧ r.2.sem = fun _ => 0)

def quiescent_SsmDy [hSsmDy : Cert.SsmDy.Facts] : Prop :=
  ∀ (m : (ℓ : Loc Cert.SsmDy.nD Cert.SsmDy.τ Cert.SsmDy.sig) → Buf (Elt Bits) ℓ) (g : Dev Cert.SsmDy.nD → PrngReg), Pre_SsmDy m →
    θ_run (Cert.SsmDy.defs (F := Bits)) (onTc (τ := Cert.SsmDy.τ) (Cert.SsmDy.main (F := Bits))) ⟨m, fun _ => 0, g⟩ (fun r => (∀ c : Dev Cert.SsmDy.nD,
      r.2.mem ((c.tc : Thread Cert.SsmDy.nD Cert.SsmDy.τ).loc Cert.SsmDy.main_arg0) = m ((c.tc : Thread Cert.SsmDy.nD Cert.SsmDy.τ).loc Cert.SsmDy.main_arg0)
      ∧ r.2.mem ((c.tc : Thread Cert.SsmDy.nD Cert.SsmDy.τ).loc Cert.SsmDy.main_arg1) = m ((c.tc : Thread Cert.SsmDy.nD Cert.SsmDy.τ).loc Cert.SsmDy.main_arg1))
      ∧ r.2.sem = fun _ => 0)

def quiescent_SsmDyIdeal [hSsmDyIdeal : Cert.SsmDyIdeal.Facts] : Prop :=
  ∀ (m : (ℓ : Loc Cert.SsmDyIdeal.nD Cert.SsmDyIdeal.τ Cert.SsmDyIdeal.sig) → Buf (Elt Ideal) ℓ) (g : Dev Cert.SsmDyIdeal.nD → PrngReg), Pre_SsmDyIdeal m →
    θ_run (Cert.SsmDyIdeal.defs (F := Ideal)) (onTc (τ := Cert.SsmDyIdeal.τ) (Cert.SsmDyIdeal.main (F := Ideal))) ⟨m, fun _ => 0, g⟩ (fun r => (∀ c : Dev Cert.SsmDyIdeal.nD,
      r.2.mem ((c.tc : Thread Cert.SsmDyIdeal.nD Cert.SsmDyIdeal.τ).loc Cert.SsmDyIdeal.main_arg0) = m ((c.tc : Thread Cert.SsmDyIdeal.nD Cert.SsmDyIdeal.τ).loc Cert.SsmDyIdeal.main_arg0)
      ∧ r.2.mem ((c.tc : Thread Cert.SsmDyIdeal.nD Cert.SsmDyIdeal.τ).loc Cert.SsmDyIdeal.main_arg1) = m ((c.tc : Thread Cert.SsmDyIdeal.nD Cert.SsmDyIdeal.τ).loc Cert.SsmDyIdeal.main_arg1))
      ∧ r.2.sem = fun _ => 0)

def quiescent_SsmDyReferenceIdeal [hSsmDyReferenceIdeal : Cert.SsmDyReferenceIdeal.Facts] : Prop :=
  ∀ (m : (ℓ : Loc Cert.SsmDyReferenceIdeal.nD Cert.SsmDyReferenceIdeal.τ Cert.SsmDyReferenceIdeal.sig) → Buf (Elt Ideal) ℓ) (g : Dev Cert.SsmDyReferenceIdeal.nD → PrngReg), Pre_SsmDyReferenceIdeal m →
    θ_run (Cert.SsmDyReferenceIdeal.defs (F := Ideal)) (onTc (τ := Cert.SsmDyReferenceIdeal.τ) (Cert.SsmDyReferenceIdeal.main (F := Ideal))) ⟨m, fun _ => 0, g⟩ (fun r => (∀ c : Dev Cert.SsmDyReferenceIdeal.nD,
      r.2.mem ((c.tc : Thread Cert.SsmDyReferenceIdeal.nD Cert.SsmDyReferenceIdeal.τ).loc Cert.SsmDyReferenceIdeal.main_arg0) = m ((c.tc : Thread Cert.SsmDyReferenceIdeal.nD Cert.SsmDyReferenceIdeal.τ).loc Cert.SsmDyReferenceIdeal.main_arg0)
      ∧ r.2.mem ((c.tc : Thread Cert.SsmDyReferenceIdeal.nD Cert.SsmDyReferenceIdeal.τ).loc Cert.SsmDyReferenceIdeal.main_arg1) = m ((c.tc : Thread Cert.SsmDyReferenceIdeal.nD Cert.SsmDyReferenceIdeal.τ).loc Cert.SsmDyReferenceIdeal.main_arg1))
      ∧ r.2.sem = fun _ => 0)

def quiescent_AttnDo [hAttnDo : Cert.AttnDo.Facts] : Prop :=
  ∀ (m : (ℓ : Loc Cert.AttnDo.nD Cert.AttnDo.τ Cert.AttnDo.sig) → Buf (Elt Bits) ℓ) (g : Dev Cert.AttnDo.nD → PrngReg), Pre_AttnDo m →
    θ_run (Cert.AttnDo.defs (F := Bits)) (onTc (τ := Cert.AttnDo.τ) (Cert.AttnDo.main (F := Bits))) ⟨m, fun _ => 0, g⟩ (fun r => (∀ c : Dev Cert.AttnDo.nD,
      r.2.mem ((c.tc : Thread Cert.AttnDo.nD Cert.AttnDo.τ).loc Cert.AttnDo.main_arg0) = m ((c.tc : Thread Cert.AttnDo.nD Cert.AttnDo.τ).loc Cert.AttnDo.main_arg0)
      ∧ r.2.mem ((c.tc : Thread Cert.AttnDo.nD Cert.AttnDo.τ).loc Cert.AttnDo.main_arg1) = m ((c.tc : Thread Cert.AttnDo.nD Cert.AttnDo.τ).loc Cert.AttnDo.main_arg1))
      ∧ r.2.sem = fun _ => 0)

def quiescent_AttnDoIdeal [hAttnDoIdeal : Cert.AttnDoIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg), Pre_AttnDoIdeal m →
    θ_run (Cert.AttnDoIdeal.defs (F := Ideal)) (onTc (τ := Cert.AttnDoIdeal.τ) (Cert.AttnDoIdeal.main (F := Ideal))) ⟨m, fun _ => 0, g⟩ (fun r => (∀ c : Dev Cert.AttnDoIdeal.nD,
      r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
      ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1))
      ∧ r.2.sem = fun _ => 0)

def quiescent_AttnDoReferenceIdeal [hAttnDoReferenceIdeal : Cert.AttnDoReferenceIdeal.Facts] : Prop :=
  ∀ (m : (ℓ : Loc Cert.AttnDoReferenceIdeal.nD Cert.AttnDoReferenceIdeal.τ Cert.AttnDoReferenceIdeal.sig) → Buf (Elt Ideal) ℓ) (g : Dev Cert.AttnDoReferenceIdeal.nD → PrngReg), Pre_AttnDoReferenceIdeal m →
    θ_run (Cert.AttnDoReferenceIdeal.defs (F := Ideal)) (onTc (τ := Cert.AttnDoReferenceIdeal.τ) (Cert.AttnDoReferenceIdeal.main (F := Ideal))) ⟨m, fun _ => 0, g⟩ (fun r => (∀ c : Dev Cert.AttnDoReferenceIdeal.nD,
      r.2.mem ((c.tc : Thread Cert.AttnDoReferenceIdeal.nD Cert.AttnDoReferenceIdeal.τ).loc Cert.AttnDoReferenceIdeal.main_arg0) = m ((c.tc : Thread Cert.AttnDoReferenceIdeal.nD Cert.AttnDoReferenceIdeal.τ).loc Cert.AttnDoReferenceIdeal.main_arg0)
      ∧ r.2.mem ((c.tc : Thread Cert.AttnDoReferenceIdeal.nD Cert.AttnDoReferenceIdeal.τ).loc Cert.AttnDoReferenceIdeal.main_arg1) = m ((c.tc : Thread Cert.AttnDoReferenceIdeal.nD Cert.AttnDoReferenceIdeal.τ).loc Cert.AttnDoReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2))
      ∧ r.2.sem = fun _ => 0)

def quiescent_AttnInReferenceIdeal [hAttnInReferenceIdeal : Cert.AttnInReferenceIdeal.Facts] : Prop :=
  ∀ (m : (ℓ : Loc Cert.AttnInReferenceIdeal.nD Cert.AttnInReferenceIdeal.τ Cert.AttnInReferenceIdeal.sig) → Buf (Elt Ideal) ℓ) (g : Dev Cert.AttnInReferenceIdeal.nD → PrngReg), Pre_AttnInReferenceIdeal m →
    θ_run (Cert.AttnInReferenceIdeal.defs (F := Ideal)) (onTc (τ := Cert.AttnInReferenceIdeal.τ) (Cert.AttnInReferenceIdeal.main (F := Ideal))) ⟨m, fun _ => 0, g⟩ (fun r => (∀ c : Dev Cert.AttnInReferenceIdeal.nD,
      r.2.mem ((c.tc : Thread Cert.AttnInReferenceIdeal.nD Cert.AttnInReferenceIdeal.τ).loc Cert.AttnInReferenceIdeal.main_arg0) = m ((c.tc : Thread Cert.AttnInReferenceIdeal.nD Cert.AttnInReferenceIdeal.τ).loc Cert.AttnInReferenceIdeal.main_arg0)
      ∧ r.2.mem ((c.tc : Thread Cert.AttnInReferenceIdeal.nD Cert.AttnInReferenceIdeal.τ).loc Cert.AttnInReferenceIdeal.main_arg1) = m ((c.tc : Thread Cert.AttnInReferenceIdeal.nD Cert.AttnInReferenceIdeal.τ).loc Cert.AttnInReferenceIdeal.main_arg1)
      ∧ r.2.mem ((c.tc : Thread Cert.AttnInReferenceIdeal.nD Cert.AttnInReferenceIdeal.τ).loc Cert.AttnInReferenceIdeal.main_arg2) = m ((c.tc : Thread Cert.AttnInReferenceIdeal.nD Cert.AttnInReferenceIdeal.τ).loc Cert.AttnInReferenceIdeal.main_arg2))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4))
      ∧ r.2.sem = fun _ => 0)

def quiescent_FfnDhReferenceIdeal [hFfnDhReferenceIdeal : Cert.FfnDhReferenceIdeal.Facts] : Prop :=
  ∀ (m : (ℓ : Loc Cert.FfnDhReferenceIdeal.nD Cert.FfnDhReferenceIdeal.τ Cert.FfnDhReferenceIdeal.sig) → Buf (Elt Ideal) ℓ) (g : Dev Cert.FfnDhReferenceIdeal.nD → PrngReg), Pre_FfnDhReferenceIdeal m →
    θ_run (Cert.FfnDhReferenceIdeal.defs (F := Ideal)) (onTc (τ := Cert.FfnDhReferenceIdeal.τ) (Cert.FfnDhReferenceIdeal.main (F := Ideal))) ⟨m, fun _ => 0, g⟩ (fun r => (∀ c : Dev Cert.FfnDhReferenceIdeal.nD,
      r.2.mem ((c.tc : Thread Cert.FfnDhReferenceIdeal.nD Cert.FfnDhReferenceIdeal.τ).loc Cert.FfnDhReferenceIdeal.main_arg0) = m ((c.tc : Thread Cert.FfnDhReferenceIdeal.nD Cert.FfnDhReferenceIdeal.τ).loc Cert.FfnDhReferenceIdeal.main_arg0)
      ∧ r.2.mem ((c.tc : Thread Cert.FfnDhReferenceIdeal.nD Cert.FfnDhReferenceIdeal.τ).loc Cert.FfnDhReferenceIdeal.main_arg1) = m ((c.tc : Thread Cert.FfnDhReferenceIdeal.nD Cert.FfnDhReferenceIdeal.τ).loc Cert.FfnDhReferenceIdeal.main_arg1)
      ∧ r.2.mem ((c.tc : Thread Cert.FfnDhReferenceIdeal.nD Cert.FfnDhReferenceIdeal.τ).loc Cert.FfnDhReferenceIdeal.main_arg2) = m ((c.tc : Thread Cert.FfnDhReferenceIdeal.nD Cert.FfnDhReferenceIdeal.τ).loc Cert.FfnDhReferenceIdeal.main_arg2)
      ∧ r.2.mem ((c.tc : Thread Cert.FfnDhReferenceIdeal.nD Cert.FfnDhReferenceIdeal.τ).loc Cert.FfnDhReferenceIdeal.main_arg3) = m ((c.tc : Thread Cert.FfnDhReferenceIdeal.nD Cert.FfnDhReferenceIdeal.τ).loc Cert.FfnDhReferenceIdeal.main_arg3)
      ∧ r.2.mem ((c.tc : Thread Cert.FfnDhReferenceIdeal.nD Cert.FfnDhReferenceIdeal.τ).loc Cert.FfnDhReferenceIdeal.main_arg4) = m ((c.tc : Thread Cert.FfnDhReferenceIdeal.nD Cert.FfnDhReferenceIdeal.τ).loc Cert.FfnDhReferenceIdeal.main_arg4))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3))
      ∧ r.2.sem = fun _ => 0)

def quiescent_FfnLossReferenceIdeal [hFfnLossReferenceIdeal : Cert.FfnLossReferenceIdeal.Facts] : Prop :=
  ∀ (m : (ℓ : Loc Cert.FfnLossReferenceIdeal.nD Cert.FfnLossReferenceIdeal.τ Cert.FfnLossReferenceIdeal.sig) → Buf (Elt Ideal) ℓ) (g : Dev Cert.FfnLossReferenceIdeal.nD → PrngReg), Pre_FfnLossReferenceIdeal m →
    θ_run (Cert.FfnLossReferenceIdeal.defs (F := Ideal)) (onTc (τ := Cert.FfnLossReferenceIdeal.τ) (Cert.FfnLossReferenceIdeal.main (F := Ideal))) ⟨m, fun _ => 0, g⟩ (fun r => (∀ c : Dev Cert.FfnLossReferenceIdeal.nD,
      r.2.mem ((c.tc : Thread Cert.FfnLossReferenceIdeal.nD Cert.FfnLossReferenceIdeal.τ).loc Cert.FfnLossReferenceIdeal.main_arg0) = m ((c.tc : Thread Cert.FfnLossReferenceIdeal.nD Cert.FfnLossReferenceIdeal.τ).loc Cert.FfnLossReferenceIdeal.main_arg0)
      ∧ r.2.mem ((c.tc : Thread Cert.FfnLossReferenceIdeal.nD Cert.FfnLossReferenceIdeal.τ).loc Cert.FfnLossReferenceIdeal.main_arg1) = m ((c.tc : Thread Cert.FfnLossReferenceIdeal.nD Cert.FfnLossReferenceIdeal.τ).loc Cert.FfnLossReferenceIdeal.main_arg1)
      ∧ r.2.mem ((c.tc : Thread Cert.FfnLossReferenceIdeal.nD Cert.FfnLossReferenceIdeal.τ).loc Cert.FfnLossReferenceIdeal.main_arg2) = m ((c.tc : Thread Cert.FfnLossReferenceIdeal.nD Cert.FfnLossReferenceIdeal.τ).loc Cert.FfnLossReferenceIdeal.main_arg2)
      ∧ r.2.mem ((c.tc : Thread Cert.FfnLossReferenceIdeal.nD Cert.FfnLossReferenceIdeal.τ).loc Cert.FfnLossReferenceIdeal.main_arg3) = m ((c.tc : Thread Cert.FfnLossReferenceIdeal.nD Cert.FfnLossReferenceIdeal.τ).loc Cert.FfnLossReferenceIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4))
      ∧ r.2.sem = fun _ => 0)

def quiescent_SsmDh [hSsmDh : Cert.SsmDh.Facts] : Prop :=
  ∀ (m : (ℓ : Loc Cert.SsmDh.nD Cert.SsmDh.τ Cert.SsmDh.sig) → Buf (Elt Bits) ℓ) (g : Dev Cert.SsmDh.nD → PrngReg), Pre_SsmDh m →
    θ_run (Cert.SsmDh.defs (F := Bits)) (onTc (τ := Cert.SsmDh.τ) (Cert.SsmDh.main (F := Bits))) ⟨m, fun _ => 0, g⟩ (fun r => (∀ c : Dev Cert.SsmDh.nD,
      r.2.mem ((c.tc : Thread Cert.SsmDh.nD Cert.SsmDh.τ).loc Cert.SsmDh.main_arg0) = m ((c.tc : Thread Cert.SsmDh.nD Cert.SsmDh.τ).loc Cert.SsmDh.main_arg0)
      ∧ r.2.mem ((c.tc : Thread Cert.SsmDh.nD Cert.SsmDh.τ).loc Cert.SsmDh.main_arg1) = m ((c.tc : Thread Cert.SsmDh.nD Cert.SsmDh.τ).loc Cert.SsmDh.main_arg1)
      ∧ r.2.mem ((c.tc : Thread Cert.SsmDh.nD Cert.SsmDh.τ).loc Cert.SsmDh.main_arg2) = m ((c.tc : Thread Cert.SsmDh.nD Cert.SsmDh.τ).loc Cert.SsmDh.main_arg2)
      ∧ r.2.mem ((c.tc : Thread Cert.SsmDh.nD Cert.SsmDh.τ).loc Cert.SsmDh.main_arg3) = m ((c.tc : Thread Cert.SsmDh.nD Cert.SsmDh.τ).loc Cert.SsmDh.main_arg3)
      ∧ r.2.mem ((c.tc : Thread Cert.SsmDh.nD Cert.SsmDh.τ).loc Cert.SsmDh.main_arg4) = m ((c.tc : Thread Cert.SsmDh.nD Cert.SsmDh.τ).loc Cert.SsmDh.main_arg4)
      ∧ r.2.mem ((c.tc : Thread Cert.SsmDh.nD Cert.SsmDh.τ).loc Cert.SsmDh.main_arg5) = m ((c.tc : Thread Cert.SsmDh.nD Cert.SsmDh.τ).loc Cert.SsmDh.main_arg5)
      ∧ r.2.mem ((c.tc : Thread Cert.SsmDh.nD Cert.SsmDh.τ).loc Cert.SsmDh.main_arg6) = m ((c.tc : Thread Cert.SsmDh.nD Cert.SsmDh.τ).loc Cert.SsmDh.main_arg6))
      ∧ r.2.sem = fun _ => 0)

def quiescent_SsmDhIdeal [hSsmDhIdeal : Cert.SsmDhIdeal.Facts] : Prop :=
  ∀ (m : (ℓ : Loc Cert.SsmDhIdeal.nD Cert.SsmDhIdeal.τ Cert.SsmDhIdeal.sig) → Buf (Elt Ideal) ℓ) (g : Dev Cert.SsmDhIdeal.nD → PrngReg), Pre_SsmDhIdeal m →
    θ_run (Cert.SsmDhIdeal.defs (F := Ideal)) (onTc (τ := Cert.SsmDhIdeal.τ) (Cert.SsmDhIdeal.main (F := Ideal))) ⟨m, fun _ => 0, g⟩ (fun r => (∀ c : Dev Cert.SsmDhIdeal.nD,
      r.2.mem ((c.tc : Thread Cert.SsmDhIdeal.nD Cert.SsmDhIdeal.τ).loc Cert.SsmDhIdeal.main_arg0) = m ((c.tc : Thread Cert.SsmDhIdeal.nD Cert.SsmDhIdeal.τ).loc Cert.SsmDhIdeal.main_arg0)
      ∧ r.2.mem ((c.tc : Thread Cert.SsmDhIdeal.nD Cert.SsmDhIdeal.τ).loc Cert.SsmDhIdeal.main_arg1) = m ((c.tc : Thread Cert.SsmDhIdeal.nD Cert.SsmDhIdeal.τ).loc Cert.SsmDhIdeal.main_arg1)
      ∧ r.2.mem ((c.tc : Thread Cert.SsmDhIdeal.nD Cert.SsmDhIdeal.τ).loc Cert.SsmDhIdeal.main_arg2) = m ((c.tc : Thread Cert.SsmDhIdeal.nD Cert.SsmDhIdeal.τ).loc Cert.SsmDhIdeal.main_arg2)
      ∧ r.2.mem ((c.tc : Thread Cert.SsmDhIdeal.nD Cert.SsmDhIdeal.τ).loc Cert.SsmDhIdeal.main_arg3) = m ((c.tc : Thread Cert.SsmDhIdeal.nD Cert.SsmDhIdeal.τ).loc Cert.SsmDhIdeal.main_arg3)
      ∧ r.2.mem ((c.tc : Thread Cert.SsmDhIdeal.nD Cert.SsmDhIdeal.τ).loc Cert.SsmDhIdeal.main_arg4) = m ((c.tc : Thread Cert.SsmDhIdeal.nD Cert.SsmDhIdeal.τ).loc Cert.SsmDhIdeal.main_arg4)
      ∧ r.2.mem ((c.tc : Thread Cert.SsmDhIdeal.nD Cert.SsmDhIdeal.τ).loc Cert.SsmDhIdeal.main_arg5) = m ((c.tc : Thread Cert.SsmDhIdeal.nD Cert.SsmDhIdeal.τ).loc Cert.SsmDhIdeal.main_arg5)
      ∧ r.2.mem ((c.tc : Thread Cert.SsmDhIdeal.nD Cert.SsmDhIdeal.τ).loc Cert.SsmDhIdeal.main_arg6) = m ((c.tc : Thread Cert.SsmDhIdeal.nD Cert.SsmDhIdeal.τ).loc Cert.SsmDhIdeal.main_arg6))
      ∧ r.2.sem = fun _ => 0)

def quiescent_SsmDhReferenceIdeal [hSsmDhReferenceIdeal : Cert.SsmDhReferenceIdeal.Facts] : Prop :=
  ∀ (m : (ℓ : Loc Cert.SsmDhReferenceIdeal.nD Cert.SsmDhReferenceIdeal.τ Cert.SsmDhReferenceIdeal.sig) → Buf (Elt Ideal) ℓ) (g : Dev Cert.SsmDhReferenceIdeal.nD → PrngReg), Pre_SsmDhReferenceIdeal m →
    θ_run (Cert.SsmDhReferenceIdeal.defs (F := Ideal)) (onTc (τ := Cert.SsmDhReferenceIdeal.τ) (Cert.SsmDhReferenceIdeal.main (F := Ideal))) ⟨m, fun _ => 0, g⟩ (fun r => (∀ c : Dev Cert.SsmDhReferenceIdeal.nD,
      r.2.mem ((c.tc : Thread Cert.SsmDhReferenceIdeal.nD Cert.SsmDhReferenceIdeal.τ).loc Cert.SsmDhReferenceIdeal.main_arg0) = m ((c.tc : Thread Cert.SsmDhReferenceIdeal.nD Cert.SsmDhReferenceIdeal.τ).loc Cert.SsmDhReferenceIdeal.main_arg0)
      ∧ r.2.mem ((c.tc : Thread Cert.SsmDhReferenceIdeal.nD Cert.SsmDhReferenceIdeal.τ).loc Cert.SsmDhReferenceIdeal.main_arg1) = m ((c.tc : Thread Cert.SsmDhReferenceIdeal.nD Cert.SsmDhReferenceIdeal.τ).loc Cert.SsmDhReferenceIdeal.main_arg1)
      ∧ r.2.mem ((c.tc : Thread Cert.SsmDhReferenceIdeal.nD Cert.SsmDhReferenceIdeal.τ).loc Cert.SsmDhReferenceIdeal.main_arg2) = m ((c.tc : Thread Cert.SsmDhReferenceIdeal.nD Cert.SsmDhReferenceIdeal.τ).loc Cert.SsmDhReferenceIdeal.main_arg2)
      ∧ r.2.mem ((c.tc : Thread Cert.SsmDhReferenceIdeal.nD Cert.SsmDhReferenceIdeal.τ).loc Cert.SsmDhReferenceIdeal.main_arg3) = m ((c.tc : Thread Cert.SsmDhReferenceIdeal.nD Cert.SsmDhReferenceIdeal.τ).loc Cert.SsmDhReferenceIdeal.main_arg3)
      ∧ r.2.mem ((c.tc : Thread Cert.SsmDhReferenceIdeal.nD Cert.SsmDhReferenceIdeal.τ).loc Cert.SsmDhReferenceIdeal.main_arg4) = m ((c.tc : Thread Cert.SsmDhReferenceIdeal.nD Cert.SsmDhReferenceIdeal.τ).loc Cert.SsmDhReferenceIdeal.main_arg4)
      ∧ r.2.mem ((c.tc : Thread Cert.SsmDhReferenceIdeal.nD Cert.SsmDhReferenceIdeal.τ).loc Cert.SsmDhReferenceIdeal.main_arg5) = m ((c.tc : Thread Cert.SsmDhReferenceIdeal.nD Cert.SsmDhReferenceIdeal.τ).loc Cert.SsmDhReferenceIdeal.main_arg5)
      ∧ r.2.mem ((c.tc : Thread Cert.SsmDhReferenceIdeal.nD Cert.SsmDhReferenceIdeal.τ).loc Cert.SsmDhReferenceIdeal.main_arg6) = m ((c.tc : Thread Cert.SsmDhReferenceIdeal.nD Cert.SsmDhReferenceIdeal.τ).loc Cert.SsmDhReferenceIdeal.main_arg6))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1)
      ∧ r.2.mem ((c.tc : Thread Cert.SsmIn.nD Cert.SsmIn.τ).loc Cert.SsmIn.main_arg2) = m ((c.tc : Thread Cert.SsmIn.nD Cert.SsmIn.τ).loc Cert.SsmIn.main_arg2)
      ∧ r.2.mem ((c.tc : Thread Cert.SsmIn.nD Cert.SsmIn.τ).loc Cert.SsmIn.main_arg3) = m ((c.tc : Thread Cert.SsmIn.nD Cert.SsmIn.τ).loc Cert.SsmIn.main_arg3)
      ∧ r.2.mem ((c.tc : Thread Cert.SsmIn.nD Cert.SsmIn.τ).loc Cert.SsmIn.main_arg4) = m ((c.tc : Thread Cert.SsmIn.nD Cert.SsmIn.τ).loc Cert.SsmIn.main_arg4)
      ∧ r.2.mem ((c.tc : Thread Cert.SsmIn.nD Cert.SsmIn.τ).loc Cert.SsmIn.main_arg5) = m ((c.tc : Thread Cert.SsmIn.nD Cert.SsmIn.τ).loc Cert.SsmIn.main_arg5))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
      ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2)
      ∧ r.2.mem ((c.tc : Thread Cert.SsmInIdeal.nD Cert.SsmInIdeal.τ).loc Cert.SsmInIdeal.main_arg3) = m ((c.tc : Thread Cert.SsmInIdeal.nD Cert.SsmInIdeal.τ).loc Cert.SsmInIdeal.main_arg3)
      ∧ r.2.mem ((c.tc : Thread Cert.SsmInIdeal.nD Cert.SsmInIdeal.τ).loc Cert.SsmInIdeal.main_arg4) = m ((c.tc : Thread Cert.SsmInIdeal.nD Cert.SsmInIdeal.τ).loc Cert.SsmInIdeal.main_arg4)
      ∧ r.2.mem ((c.tc : Thread Cert.SsmInIdeal.nD Cert.SsmInIdeal.τ).loc Cert.SsmInIdeal.main_arg5) = m ((c.tc : Thread Cert.SsmInIdeal.nD Cert.SsmInIdeal.τ).loc Cert.SsmInIdeal.main_arg5))
      ∧ r.2.sem = fun _ => 0)

def quiescent_SsmInReferenceIdeal [hSsmInReferenceIdeal : Cert.SsmInReferenceIdeal.Facts] : Prop :=
  ∀ (m : (ℓ : Loc Cert.SsmInReferenceIdeal.nD Cert.SsmInReferenceIdeal.τ Cert.SsmInReferenceIdeal.sig) → Buf (Elt Ideal) ℓ) (g : Dev Cert.SsmInReferenceIdeal.nD → PrngReg), Pre_SsmInReferenceIdeal m →
    θ_run (Cert.SsmInReferenceIdeal.defs (F := Ideal)) (onTc (τ := Cert.SsmInReferenceIdeal.τ) (Cert.SsmInReferenceIdeal.main (F := Ideal))) ⟨m, fun _ => 0, g⟩ (fun r => (∀ c : Dev Cert.SsmInReferenceIdeal.nD,
      r.2.mem ((c.tc : Thread Cert.SsmInReferenceIdeal.nD Cert.SsmInReferenceIdeal.τ).loc Cert.SsmInReferenceIdeal.main_arg0) = m ((c.tc : Thread Cert.SsmInReferenceIdeal.nD Cert.SsmInReferenceIdeal.τ).loc Cert.SsmInReferenceIdeal.main_arg0)
      ∧ r.2.mem ((c.tc : Thread Cert.SsmInReferenceIdeal.nD Cert.SsmInReferenceIdeal.τ).loc Cert.SsmInReferenceIdeal.main_arg1) = m ((c.tc : Thread Cert.SsmInReferenceIdeal.nD Cert.SsmInReferenceIdeal.τ).loc Cert.SsmInReferenceIdeal.main_arg1)
      ∧ r.2.mem ((c.tc : Thread Cert.SsmInReferenceIdeal.nD Cert.SsmInReferenceIdeal.τ).loc Cert.SsmInReferenceIdeal.main_arg2) = m ((c.tc : Thread Cert.SsmInReferenceIdeal.nD Cert.SsmInReferenceIdeal.τ).loc Cert.SsmInReferenceIdeal.main_arg2)
      ∧ r.2.mem ((c.tc : Thread Cert.SsmInReferenceIdeal.nD Cert.SsmInReferenceIdeal.τ).loc Cert.SsmInReferenceIdeal.main_arg3) = m ((c.tc : Thread Cert.SsmInReferenceIdeal.nD Cert.SsmInReferenceIdeal.τ).loc Cert.SsmInReferenceIdeal.main_arg3)
      ∧ r.2.mem ((c.tc : Thread Cert.SsmInReferenceIdeal.nD Cert.SsmInReferenceIdeal.τ).loc Cert.SsmInReferenceIdeal.main_arg4) = m ((c.tc : Thread Cert.SsmInReferenceIdeal.nD Cert.SsmInReferenceIdeal.τ).loc Cert.SsmInReferenceIdeal.main_arg4)
      ∧ r.2.mem ((c.tc : Thread Cert.SsmInReferenceIdeal.nD Cert.SsmInReferenceIdeal.τ).loc Cert.SsmInReferenceIdeal.main_arg5) = m ((c.tc : Thread Cert.SsmInReferenceIdeal.nD Cert.SsmInReferenceIdeal.τ).loc Cert.SsmInReferenceIdeal.main_arg5))
      ∧ r.2.sem = fun _ => 0)

def quiescent_AdamAttnWIn [hAdamAttnWIn : Cert.AdamAttnWIn.Facts] : Prop :=
  ∀ (m : (ℓ : Loc Cert.AdamAttnWIn.nD Cert.AdamAttnWIn.τ Cert.AdamAttnWIn.sig) → Buf (Elt Bits) ℓ) (g : Dev Cert.AdamAttnWIn.nD → PrngReg), Pre_AdamAttnWIn m →
    θ_run (Cert.AdamAttnWIn.defs (F := Bits)) (onTc (τ := Cert.AdamAttnWIn.τ) (Cert.AdamAttnWIn.main (F := Bits))) ⟨m, fun _ => 0, g⟩ (fun r => (∀ c : Dev Cert.AdamAttnWIn.nD,
      r.2.mem ((c.tc : Thread Cert.AdamAttnWIn.nD Cert.AdamAttnWIn.τ).loc Cert.AdamAttnWIn.main_arg0) = m ((c.tc : Thread Cert.AdamAttnWIn.nD Cert.AdamAttnWIn.τ).loc Cert.AdamAttnWIn.main_arg0)
      ∧ r.2.mem ((c.tc : Thread Cert.AdamAttnWIn.nD Cert.AdamAttnWIn.τ).loc Cert.AdamAttnWIn.main_arg1) = m ((c.tc : Thread Cert.AdamAttnWIn.nD Cert.AdamAttnWIn.τ).loc Cert.AdamAttnWIn.main_arg1)
      ∧ r.2.mem ((c.tc : Thread Cert.AdamAttnWIn.nD Cert.AdamAttnWIn.τ).loc Cert.AdamAttnWIn.main_arg2) = m ((c.tc : Thread Cert.AdamAttnWIn.nD Cert.AdamAttnWIn.τ).loc Cert.AdamAttnWIn.main_arg2)
      ∧ r.2.mem ((c.tc : Thread Cert.AdamAttnWIn.nD Cert.AdamAttnWIn.τ).loc Cert.AdamAttnWIn.main_arg3) = m ((c.tc : Thread Cert.AdamAttnWIn.nD Cert.AdamAttnWIn.τ).loc Cert.AdamAttnWIn.main_arg3))
      ∧ r.2.sem = fun _ => 0)

def quiescent_AdamAttnWInIdeal [hAdamAttnWInIdeal : Cert.AdamAttnWInIdeal.Facts] : Prop :=
  ∀ (m : (ℓ : Loc Cert.AdamAttnWInIdeal.nD Cert.AdamAttnWInIdeal.τ Cert.AdamAttnWInIdeal.sig) → Buf (Elt Ideal) ℓ) (g : Dev Cert.AdamAttnWInIdeal.nD → PrngReg), Pre_AdamAttnWInIdeal m →
    θ_run (Cert.AdamAttnWInIdeal.defs (F := Ideal)) (onTc (τ := Cert.AdamAttnWInIdeal.τ) (Cert.AdamAttnWInIdeal.main (F := Ideal))) ⟨m, fun _ => 0, g⟩ (fun r => (∀ c : Dev Cert.AdamAttnWInIdeal.nD,
      r.2.mem ((c.tc : Thread Cert.AdamAttnWInIdeal.nD Cert.AdamAttnWInIdeal.τ).loc Cert.AdamAttnWInIdeal.main_arg0) = m ((c.tc : Thread Cert.AdamAttnWInIdeal.nD Cert.AdamAttnWInIdeal.τ).loc Cert.AdamAttnWInIdeal.main_arg0)
      ∧ r.2.mem ((c.tc : Thread Cert.AdamAttnWInIdeal.nD Cert.AdamAttnWInIdeal.τ).loc Cert.AdamAttnWInIdeal.main_arg1) = m ((c.tc : Thread Cert.AdamAttnWInIdeal.nD Cert.AdamAttnWInIdeal.τ).loc Cert.AdamAttnWInIdeal.main_arg1)
      ∧ r.2.mem ((c.tc : Thread Cert.AdamAttnWInIdeal.nD Cert.AdamAttnWInIdeal.τ).loc Cert.AdamAttnWInIdeal.main_arg2) = m ((c.tc : Thread Cert.AdamAttnWInIdeal.nD Cert.AdamAttnWInIdeal.τ).loc Cert.AdamAttnWInIdeal.main_arg2)
      ∧ r.2.mem ((c.tc : Thread Cert.AdamAttnWInIdeal.nD Cert.AdamAttnWInIdeal.τ).loc Cert.AdamAttnWInIdeal.main_arg3) = m ((c.tc : Thread Cert.AdamAttnWInIdeal.nD Cert.AdamAttnWInIdeal.τ).loc Cert.AdamAttnWInIdeal.main_arg3))
      ∧ r.2.sem = fun _ => 0)

def quiescent_AdamAttnWInReferenceIdeal [hAdamAttnWInReferenceIdeal : Cert.AdamAttnWInReferenceIdeal.Facts] : Prop :=
  ∀ (m : (ℓ : Loc Cert.AdamAttnWInReferenceIdeal.nD Cert.AdamAttnWInReferenceIdeal.τ Cert.AdamAttnWInReferenceIdeal.sig) → Buf (Elt Ideal) ℓ) (g : Dev Cert.AdamAttnWInReferenceIdeal.nD → PrngReg), Pre_AdamAttnWInReferenceIdeal m →
    θ_run (Cert.AdamAttnWInReferenceIdeal.defs (F := Ideal)) (onTc (τ := Cert.AdamAttnWInReferenceIdeal.τ) (Cert.AdamAttnWInReferenceIdeal.main (F := Ideal))) ⟨m, fun _ => 0, g⟩ (fun r => (∀ c : Dev Cert.AdamAttnWInReferenceIdeal.nD,
      r.2.mem ((c.tc : Thread Cert.AdamAttnWInReferenceIdeal.nD Cert.AdamAttnWInReferenceIdeal.τ).loc Cert.AdamAttnWInReferenceIdeal.main_arg0) = m ((c.tc : Thread Cert.AdamAttnWInReferenceIdeal.nD Cert.AdamAttnWInReferenceIdeal.τ).loc Cert.AdamAttnWInReferenceIdeal.main_arg0)
      ∧ r.2.mem ((c.tc : Thread Cert.AdamAttnWInReferenceIdeal.nD Cert.AdamAttnWInReferenceIdeal.τ).loc Cert.AdamAttnWInReferenceIdeal.main_arg1) = m ((c.tc : Thread Cert.AdamAttnWInReferenceIdeal.nD Cert.AdamAttnWInReferenceIdeal.τ).loc Cert.AdamAttnWInReferenceIdeal.main_arg1)
      ∧ r.2.mem ((c.tc : Thread Cert.AdamAttnWInReferenceIdeal.nD Cert.AdamAttnWInReferenceIdeal.τ).loc Cert.AdamAttnWInReferenceIdeal.main_arg2) = m ((c.tc : Thread Cert.AdamAttnWInReferenceIdeal.nD Cert.AdamAttnWInReferenceIdeal.τ).loc Cert.AdamAttnWInReferenceIdeal.main_arg2)
      ∧ r.2.mem ((c.tc : Thread Cert.AdamAttnWInReferenceIdeal.nD Cert.AdamAttnWInReferenceIdeal.τ).loc Cert.AdamAttnWInReferenceIdeal.main_arg3) = m ((c.tc : Thread Cert.AdamAttnWInReferenceIdeal.nD Cert.AdamAttnWInReferenceIdeal.τ).loc Cert.AdamAttnWInReferenceIdeal.main_arg3))
      ∧ r.2.sem = fun _ => 0)

def quiescent_AdamAttnWOut [hAdamAttnWOut : Cert.AdamAttnWOut.Facts] : Prop :=
  ∀ (m : (ℓ : Loc Cert.AdamAttnWOut.nD Cert.AdamAttnWOut.τ Cert.AdamAttnWOut.sig) → Buf (Elt Bits) ℓ) (g : Dev Cert.AdamAttnWOut.nD → PrngReg), Pre_AdamAttnWOut m →
    θ_run (Cert.AdamAttnWOut.defs (F := Bits)) (onTc (τ := Cert.AdamAttnWOut.τ) (Cert.AdamAttnWOut.main (F := Bits))) ⟨m, fun _ => 0, g⟩ (fun r => (∀ c : Dev Cert.AdamAttnWOut.nD,
      r.2.mem ((c.tc : Thread Cert.AdamAttnWOut.nD Cert.AdamAttnWOut.τ).loc Cert.AdamAttnWOut.main_arg0) = m ((c.tc : Thread Cert.AdamAttnWOut.nD Cert.AdamAttnWOut.τ).loc Cert.AdamAttnWOut.main_arg0)
      ∧ r.2.mem ((c.tc : Thread Cert.AdamAttnWOut.nD Cert.AdamAttnWOut.τ).loc Cert.AdamAttnWOut.main_arg1) = m ((c.tc : Thread Cert.AdamAttnWOut.nD Cert.AdamAttnWOut.τ).loc Cert.AdamAttnWOut.main_arg1)
      ∧ r.2.mem ((c.tc : Thread Cert.AdamAttnWOut.nD Cert.AdamAttnWOut.τ).loc Cert.AdamAttnWOut.main_arg2) = m ((c.tc : Thread Cert.AdamAttnWOut.nD Cert.AdamAttnWOut.τ).loc Cert.AdamAttnWOut.main_arg2)
      ∧ r.2.mem ((c.tc : Thread Cert.AdamAttnWOut.nD Cert.AdamAttnWOut.τ).loc Cert.AdamAttnWOut.main_arg3) = m ((c.tc : Thread Cert.AdamAttnWOut.nD Cert.AdamAttnWOut.τ).loc Cert.AdamAttnWOut.main_arg3))
      ∧ r.2.sem = fun _ => 0)

def quiescent_AdamAttnWOutIdeal [hAdamAttnWOutIdeal : Cert.AdamAttnWOutIdeal.Facts] : Prop :=
  ∀ (m : (ℓ : Loc Cert.AdamAttnWOutIdeal.nD Cert.AdamAttnWOutIdeal.τ Cert.AdamAttnWOutIdeal.sig) → Buf (Elt Ideal) ℓ) (g : Dev Cert.AdamAttnWOutIdeal.nD → PrngReg), Pre_AdamAttnWOutIdeal m →
    θ_run (Cert.AdamAttnWOutIdeal.defs (F := Ideal)) (onTc (τ := Cert.AdamAttnWOutIdeal.τ) (Cert.AdamAttnWOutIdeal.main (F := Ideal))) ⟨m, fun _ => 0, g⟩ (fun r => (∀ c : Dev Cert.AdamAttnWOutIdeal.nD,
      r.2.mem ((c.tc : Thread Cert.AdamAttnWOutIdeal.nD Cert.AdamAttnWOutIdeal.τ).loc Cert.AdamAttnWOutIdeal.main_arg0) = m ((c.tc : Thread Cert.AdamAttnWOutIdeal.nD Cert.AdamAttnWOutIdeal.τ).loc Cert.AdamAttnWOutIdeal.main_arg0)
      ∧ r.2.mem ((c.tc : Thread Cert.AdamAttnWOutIdeal.nD Cert.AdamAttnWOutIdeal.τ).loc Cert.AdamAttnWOutIdeal.main_arg1) = m ((c.tc : Thread Cert.AdamAttnWOutIdeal.nD Cert.AdamAttnWOutIdeal.τ).loc Cert.AdamAttnWOutIdeal.main_arg1)
      ∧ r.2.mem ((c.tc : Thread Cert.AdamAttnWOutIdeal.nD Cert.AdamAttnWOutIdeal.τ).loc Cert.AdamAttnWOutIdeal.main_arg2) = m ((c.tc : Thread Cert.AdamAttnWOutIdeal.nD Cert.AdamAttnWOutIdeal.τ).loc Cert.AdamAttnWOutIdeal.main_arg2)
      ∧ r.2.mem ((c.tc : Thread Cert.AdamAttnWOutIdeal.nD Cert.AdamAttnWOutIdeal.τ).loc Cert.AdamAttnWOutIdeal.main_arg3) = m ((c.tc : Thread Cert.AdamAttnWOutIdeal.nD Cert.AdamAttnWOutIdeal.τ).loc Cert.AdamAttnWOutIdeal.main_arg3))
      ∧ r.2.sem = fun _ => 0)

def quiescent_AdamAttnWOutReferenceIdeal [hAdamAttnWOutReferenceIdeal : Cert.AdamAttnWOutReferenceIdeal.Facts] : Prop :=
  ∀ (m : (ℓ : Loc Cert.AdamAttnWOutReferenceIdeal.nD Cert.AdamAttnWOutReferenceIdeal.τ Cert.AdamAttnWOutReferenceIdeal.sig) → Buf (Elt Ideal) ℓ) (g : Dev Cert.AdamAttnWOutReferenceIdeal.nD → PrngReg), Pre_AdamAttnWOutReferenceIdeal m →
    θ_run (Cert.AdamAttnWOutReferenceIdeal.defs (F := Ideal)) (onTc (τ := Cert.AdamAttnWOutReferenceIdeal.τ) (Cert.AdamAttnWOutReferenceIdeal.main (F := Ideal))) ⟨m, fun _ => 0, g⟩ (fun r => (∀ c : Dev Cert.AdamAttnWOutReferenceIdeal.nD,
      r.2.mem ((c.tc : Thread Cert.AdamAttnWOutReferenceIdeal.nD Cert.AdamAttnWOutReferenceIdeal.τ).loc Cert.AdamAttnWOutReferenceIdeal.main_arg0) = m ((c.tc : Thread Cert.AdamAttnWOutReferenceIdeal.nD Cert.AdamAttnWOutReferenceIdeal.τ).loc Cert.AdamAttnWOutReferenceIdeal.main_arg0)
      ∧ r.2.mem ((c.tc : Thread Cert.AdamAttnWOutReferenceIdeal.nD Cert.AdamAttnWOutReferenceIdeal.τ).loc Cert.AdamAttnWOutReferenceIdeal.main_arg1) = m ((c.tc : Thread Cert.AdamAttnWOutReferenceIdeal.nD Cert.AdamAttnWOutReferenceIdeal.τ).loc Cert.AdamAttnWOutReferenceIdeal.main_arg1)
      ∧ r.2.mem ((c.tc : Thread Cert.AdamAttnWOutReferenceIdeal.nD Cert.AdamAttnWOutReferenceIdeal.τ).loc Cert.AdamAttnWOutReferenceIdeal.main_arg2) = m ((c.tc : Thread Cert.AdamAttnWOutReferenceIdeal.nD Cert.AdamAttnWOutReferenceIdeal.τ).loc Cert.AdamAttnWOutReferenceIdeal.main_arg2)
      ∧ r.2.mem ((c.tc : Thread Cert.AdamAttnWOutReferenceIdeal.nD Cert.AdamAttnWOutReferenceIdeal.τ).loc Cert.AdamAttnWOutReferenceIdeal.main_arg3) = m ((c.tc : Thread Cert.AdamAttnWOutReferenceIdeal.nD Cert.AdamAttnWOutReferenceIdeal.τ).loc Cert.AdamAttnWOutReferenceIdeal.main_arg3))
      ∧ r.2.sem = fun _ => 0)

def quiescent_AdamSsmWIn [hAdamSsmWIn : Cert.AdamSsmWIn.Facts] : Prop :=
  ∀ (m : (ℓ : Loc Cert.AdamSsmWIn.nD Cert.AdamSsmWIn.τ Cert.AdamSsmWIn.sig) → Buf (Elt Bits) ℓ) (g : Dev Cert.AdamSsmWIn.nD → PrngReg), Pre_AdamSsmWIn m →
    θ_run (Cert.AdamSsmWIn.defs (F := Bits)) (onTc (τ := Cert.AdamSsmWIn.τ) (Cert.AdamSsmWIn.main (F := Bits))) ⟨m, fun _ => 0, g⟩ (fun r => (∀ c : Dev Cert.AdamSsmWIn.nD,
      r.2.mem ((c.tc : Thread Cert.AdamSsmWIn.nD Cert.AdamSsmWIn.τ).loc Cert.AdamSsmWIn.main_arg0) = m ((c.tc : Thread Cert.AdamSsmWIn.nD Cert.AdamSsmWIn.τ).loc Cert.AdamSsmWIn.main_arg0)
      ∧ r.2.mem ((c.tc : Thread Cert.AdamSsmWIn.nD Cert.AdamSsmWIn.τ).loc Cert.AdamSsmWIn.main_arg1) = m ((c.tc : Thread Cert.AdamSsmWIn.nD Cert.AdamSsmWIn.τ).loc Cert.AdamSsmWIn.main_arg1)
      ∧ r.2.mem ((c.tc : Thread Cert.AdamSsmWIn.nD Cert.AdamSsmWIn.τ).loc Cert.AdamSsmWIn.main_arg2) = m ((c.tc : Thread Cert.AdamSsmWIn.nD Cert.AdamSsmWIn.τ).loc Cert.AdamSsmWIn.main_arg2)
      ∧ r.2.mem ((c.tc : Thread Cert.AdamSsmWIn.nD Cert.AdamSsmWIn.τ).loc Cert.AdamSsmWIn.main_arg3) = m ((c.tc : Thread Cert.AdamSsmWIn.nD Cert.AdamSsmWIn.τ).loc Cert.AdamSsmWIn.main_arg3))
      ∧ r.2.sem = fun _ => 0)

def quiescent_AdamSsmWInIdeal [hAdamSsmWInIdeal : Cert.AdamSsmWInIdeal.Facts] : Prop :=
  ∀ (m : (ℓ : Loc Cert.AdamSsmWInIdeal.nD Cert.AdamSsmWInIdeal.τ Cert.AdamSsmWInIdeal.sig) → Buf (Elt Ideal) ℓ) (g : Dev Cert.AdamSsmWInIdeal.nD → PrngReg), Pre_AdamSsmWInIdeal m →
    θ_run (Cert.AdamSsmWInIdeal.defs (F := Ideal)) (onTc (τ := Cert.AdamSsmWInIdeal.τ) (Cert.AdamSsmWInIdeal.main (F := Ideal))) ⟨m, fun _ => 0, g⟩ (fun r => (∀ c : Dev Cert.AdamSsmWInIdeal.nD,
      r.2.mem ((c.tc : Thread Cert.AdamSsmWInIdeal.nD Cert.AdamSsmWInIdeal.τ).loc Cert.AdamSsmWInIdeal.main_arg0) = m ((c.tc : Thread Cert.AdamSsmWInIdeal.nD Cert.AdamSsmWInIdeal.τ).loc Cert.AdamSsmWInIdeal.main_arg0)
      ∧ r.2.mem ((c.tc : Thread Cert.AdamSsmWInIdeal.nD Cert.AdamSsmWInIdeal.τ).loc Cert.AdamSsmWInIdeal.main_arg1) = m ((c.tc : Thread Cert.AdamSsmWInIdeal.nD Cert.AdamSsmWInIdeal.τ).loc Cert.AdamSsmWInIdeal.main_arg1)
      ∧ r.2.mem ((c.tc : Thread Cert.AdamSsmWInIdeal.nD Cert.AdamSsmWInIdeal.τ).loc Cert.AdamSsmWInIdeal.main_arg2) = m ((c.tc : Thread Cert.AdamSsmWInIdeal.nD Cert.AdamSsmWInIdeal.τ).loc Cert.AdamSsmWInIdeal.main_arg2)
      ∧ r.2.mem ((c.tc : Thread Cert.AdamSsmWInIdeal.nD Cert.AdamSsmWInIdeal.τ).loc Cert.AdamSsmWInIdeal.main_arg3) = m ((c.tc : Thread Cert.AdamSsmWInIdeal.nD Cert.AdamSsmWInIdeal.τ).loc Cert.AdamSsmWInIdeal.main_arg3))
      ∧ r.2.sem = fun _ => 0)

def quiescent_AdamSsmWInReferenceIdeal [hAdamSsmWInReferenceIdeal : Cert.AdamSsmWInReferenceIdeal.Facts] : Prop :=
  ∀ (m : (ℓ : Loc Cert.AdamSsmWInReferenceIdeal.nD Cert.AdamSsmWInReferenceIdeal.τ Cert.AdamSsmWInReferenceIdeal.sig) → Buf (Elt Ideal) ℓ) (g : Dev Cert.AdamSsmWInReferenceIdeal.nD → PrngReg), Pre_AdamSsmWInReferenceIdeal m →
    θ_run (Cert.AdamSsmWInReferenceIdeal.defs (F := Ideal)) (onTc (τ := Cert.AdamSsmWInReferenceIdeal.τ) (Cert.AdamSsmWInReferenceIdeal.main (F := Ideal))) ⟨m, fun _ => 0, g⟩ (fun r => (∀ c : Dev Cert.AdamSsmWInReferenceIdeal.nD,
      r.2.mem ((c.tc : Thread Cert.AdamSsmWInReferenceIdeal.nD Cert.AdamSsmWInReferenceIdeal.τ).loc Cert.AdamSsmWInReferenceIdeal.main_arg0) = m ((c.tc : Thread Cert.AdamSsmWInReferenceIdeal.nD Cert.AdamSsmWInReferenceIdeal.τ).loc Cert.AdamSsmWInReferenceIdeal.main_arg0)
      ∧ r.2.mem ((c.tc : Thread Cert.AdamSsmWInReferenceIdeal.nD Cert.AdamSsmWInReferenceIdeal.τ).loc Cert.AdamSsmWInReferenceIdeal.main_arg1) = m ((c.tc : Thread Cert.AdamSsmWInReferenceIdeal.nD Cert.AdamSsmWInReferenceIdeal.τ).loc Cert.AdamSsmWInReferenceIdeal.main_arg1)
      ∧ r.2.mem ((c.tc : Thread Cert.AdamSsmWInReferenceIdeal.nD Cert.AdamSsmWInReferenceIdeal.τ).loc Cert.AdamSsmWInReferenceIdeal.main_arg2) = m ((c.tc : Thread Cert.AdamSsmWInReferenceIdeal.nD Cert.AdamSsmWInReferenceIdeal.τ).loc Cert.AdamSsmWInReferenceIdeal.main_arg2)
      ∧ r.2.mem ((c.tc : Thread Cert.AdamSsmWInReferenceIdeal.nD Cert.AdamSsmWInReferenceIdeal.τ).loc Cert.AdamSsmWInReferenceIdeal.main_arg3) = m ((c.tc : Thread Cert.AdamSsmWInReferenceIdeal.nD Cert.AdamSsmWInReferenceIdeal.τ).loc Cert.AdamSsmWInReferenceIdeal.main_arg3))
      ∧ r.2.sem = fun _ => 0)

def quiescent_AdamSsmWOut [hAdamSsmWOut : Cert.AdamSsmWOut.Facts] : Prop :=
  ∀ (m : (ℓ : Loc Cert.AdamSsmWOut.nD Cert.AdamSsmWOut.τ Cert.AdamSsmWOut.sig) → Buf (Elt Bits) ℓ) (g : Dev Cert.AdamSsmWOut.nD → PrngReg), Pre_AdamSsmWOut m →
    θ_run (Cert.AdamSsmWOut.defs (F := Bits)) (onTc (τ := Cert.AdamSsmWOut.τ) (Cert.AdamSsmWOut.main (F := Bits))) ⟨m, fun _ => 0, g⟩ (fun r => (∀ c : Dev Cert.AdamSsmWOut.nD,
      r.2.mem ((c.tc : Thread Cert.AdamSsmWOut.nD Cert.AdamSsmWOut.τ).loc Cert.AdamSsmWOut.main_arg0) = m ((c.tc : Thread Cert.AdamSsmWOut.nD Cert.AdamSsmWOut.τ).loc Cert.AdamSsmWOut.main_arg0)
      ∧ r.2.mem ((c.tc : Thread Cert.AdamSsmWOut.nD Cert.AdamSsmWOut.τ).loc Cert.AdamSsmWOut.main_arg1) = m ((c.tc : Thread Cert.AdamSsmWOut.nD Cert.AdamSsmWOut.τ).loc Cert.AdamSsmWOut.main_arg1)
      ∧ r.2.mem ((c.tc : Thread Cert.AdamSsmWOut.nD Cert.AdamSsmWOut.τ).loc Cert.AdamSsmWOut.main_arg2) = m ((c.tc : Thread Cert.AdamSsmWOut.nD Cert.AdamSsmWOut.τ).loc Cert.AdamSsmWOut.main_arg2)
      ∧ r.2.mem ((c.tc : Thread Cert.AdamSsmWOut.nD Cert.AdamSsmWOut.τ).loc Cert.AdamSsmWOut.main_arg3) = m ((c.tc : Thread Cert.AdamSsmWOut.nD Cert.AdamSsmWOut.τ).loc Cert.AdamSsmWOut.main_arg3))
      ∧ r.2.sem = fun _ => 0)

def quiescent_AdamSsmWOutIdeal [hAdamSsmWOutIdeal : Cert.AdamSsmWOutIdeal.Facts] : Prop :=
  ∀ (m : (ℓ : Loc Cert.AdamSsmWOutIdeal.nD Cert.AdamSsmWOutIdeal.τ Cert.AdamSsmWOutIdeal.sig) → Buf (Elt Ideal) ℓ) (g : Dev Cert.AdamSsmWOutIdeal.nD → PrngReg), Pre_AdamSsmWOutIdeal m →
    θ_run (Cert.AdamSsmWOutIdeal.defs (F := Ideal)) (onTc (τ := Cert.AdamSsmWOutIdeal.τ) (Cert.AdamSsmWOutIdeal.main (F := Ideal))) ⟨m, fun _ => 0, g⟩ (fun r => (∀ c : Dev Cert.AdamSsmWOutIdeal.nD,
      r.2.mem ((c.tc : Thread Cert.AdamSsmWOutIdeal.nD Cert.AdamSsmWOutIdeal.τ).loc Cert.AdamSsmWOutIdeal.main_arg0) = m ((c.tc : Thread Cert.AdamSsmWOutIdeal.nD Cert.AdamSsmWOutIdeal.τ).loc Cert.AdamSsmWOutIdeal.main_arg0)
      ∧ r.2.mem ((c.tc : Thread Cert.AdamSsmWOutIdeal.nD Cert.AdamSsmWOutIdeal.τ).loc Cert.AdamSsmWOutIdeal.main_arg1) = m ((c.tc : Thread Cert.AdamSsmWOutIdeal.nD Cert.AdamSsmWOutIdeal.τ).loc Cert.AdamSsmWOutIdeal.main_arg1)
      ∧ r.2.mem ((c.tc : Thread Cert.AdamSsmWOutIdeal.nD Cert.AdamSsmWOutIdeal.τ).loc Cert.AdamSsmWOutIdeal.main_arg2) = m ((c.tc : Thread Cert.AdamSsmWOutIdeal.nD Cert.AdamSsmWOutIdeal.τ).loc Cert.AdamSsmWOutIdeal.main_arg2)
      ∧ r.2.mem ((c.tc : Thread Cert.AdamSsmWOutIdeal.nD Cert.AdamSsmWOutIdeal.τ).loc Cert.AdamSsmWOutIdeal.main_arg3) = m ((c.tc : Thread Cert.AdamSsmWOutIdeal.nD Cert.AdamSsmWOutIdeal.τ).loc Cert.AdamSsmWOutIdeal.main_arg3))
      ∧ r.2.sem = fun _ => 0)

def quiescent_AdamSsmWOutReferenceIdeal [hAdamSsmWOutReferenceIdeal : Cert.AdamSsmWOutReferenceIdeal.Facts] : Prop :=
  ∀ (m : (ℓ : Loc Cert.AdamSsmWOutReferenceIdeal.nD Cert.AdamSsmWOutReferenceIdeal.τ Cert.AdamSsmWOutReferenceIdeal.sig) → Buf (Elt Ideal) ℓ) (g : Dev Cert.AdamSsmWOutReferenceIdeal.nD → PrngReg), Pre_AdamSsmWOutReferenceIdeal m →
    θ_run (Cert.AdamSsmWOutReferenceIdeal.defs (F := Ideal)) (onTc (τ := Cert.AdamSsmWOutReferenceIdeal.τ) (Cert.AdamSsmWOutReferenceIdeal.main (F := Ideal))) ⟨m, fun _ => 0, g⟩ (fun r => (∀ c : Dev Cert.AdamSsmWOutReferenceIdeal.nD,
      r.2.mem ((c.tc : Thread Cert.AdamSsmWOutReferenceIdeal.nD Cert.AdamSsmWOutReferenceIdeal.τ).loc Cert.AdamSsmWOutReferenceIdeal.main_arg0) = m ((c.tc : Thread Cert.AdamSsmWOutReferenceIdeal.nD Cert.AdamSsmWOutReferenceIdeal.τ).loc Cert.AdamSsmWOutReferenceIdeal.main_arg0)
      ∧ r.2.mem ((c.tc : Thread Cert.AdamSsmWOutReferenceIdeal.nD Cert.AdamSsmWOutReferenceIdeal.τ).loc Cert.AdamSsmWOutReferenceIdeal.main_arg1) = m ((c.tc : Thread Cert.AdamSsmWOutReferenceIdeal.nD Cert.AdamSsmWOutReferenceIdeal.τ).loc Cert.AdamSsmWOutReferenceIdeal.main_arg1)
      ∧ r.2.mem ((c.tc : Thread Cert.AdamSsmWOutReferenceIdeal.nD Cert.AdamSsmWOutReferenceIdeal.τ).loc Cert.AdamSsmWOutReferenceIdeal.main_arg2) = m ((c.tc : Thread Cert.AdamSsmWOutReferenceIdeal.nD Cert.AdamSsmWOutReferenceIdeal.τ).loc Cert.AdamSsmWOutReferenceIdeal.main_arg2)
      ∧ r.2.mem ((c.tc : Thread Cert.AdamSsmWOutReferenceIdeal.nD Cert.AdamSsmWOutReferenceIdeal.τ).loc Cert.AdamSsmWOutReferenceIdeal.main_arg3) = m ((c.tc : Thread Cert.AdamSsmWOutReferenceIdeal.nD Cert.AdamSsmWOutReferenceIdeal.τ).loc Cert.AdamSsmWOutReferenceIdeal.main_arg3))
      ∧ r.2.sem = fun _ => 0)

def quiescent_AdamFfnWIn [hAdamFfnWIn : Cert.AdamFfnWIn.Facts] : Prop :=
  ∀ (m : (ℓ : Loc Cert.AdamFfnWIn.nD Cert.AdamFfnWIn.τ Cert.AdamFfnWIn.sig) → Buf (Elt Bits) ℓ) (g : Dev Cert.AdamFfnWIn.nD → PrngReg), Pre_AdamFfnWIn m →
    θ_run (Cert.AdamFfnWIn.defs (F := Bits)) (onTc (τ := Cert.AdamFfnWIn.τ) (Cert.AdamFfnWIn.main (F := Bits))) ⟨m, fun _ => 0, g⟩ (fun r => (∀ c : Dev Cert.AdamFfnWIn.nD,
      r.2.mem ((c.tc : Thread Cert.AdamFfnWIn.nD Cert.AdamFfnWIn.τ).loc Cert.AdamFfnWIn.main_arg0) = m ((c.tc : Thread Cert.AdamFfnWIn.nD Cert.AdamFfnWIn.τ).loc Cert.AdamFfnWIn.main_arg0)
      ∧ r.2.mem ((c.tc : Thread Cert.AdamFfnWIn.nD Cert.AdamFfnWIn.τ).loc Cert.AdamFfnWIn.main_arg1) = m ((c.tc : Thread Cert.AdamFfnWIn.nD Cert.AdamFfnWIn.τ).loc Cert.AdamFfnWIn.main_arg1)
      ∧ r.2.mem ((c.tc : Thread Cert.AdamFfnWIn.nD Cert.AdamFfnWIn.τ).loc Cert.AdamFfnWIn.main_arg2) = m ((c.tc : Thread Cert.AdamFfnWIn.nD Cert.AdamFfnWIn.τ).loc Cert.AdamFfnWIn.main_arg2)
      ∧ r.2.mem ((c.tc : Thread Cert.AdamFfnWIn.nD Cert.AdamFfnWIn.τ).loc Cert.AdamFfnWIn.main_arg3) = m ((c.tc : Thread Cert.AdamFfnWIn.nD Cert.AdamFfnWIn.τ).loc Cert.AdamFfnWIn.main_arg3)
      ∧ r.2.mem ((c.tc : Thread Cert.AdamFfnWIn.nD Cert.AdamFfnWIn.τ).loc Cert.AdamFfnWIn.main_arg4) = m ((c.tc : Thread Cert.AdamFfnWIn.nD Cert.AdamFfnWIn.τ).loc Cert.AdamFfnWIn.main_arg4))
      ∧ r.2.sem = fun _ => 0)

def quiescent_AdamFfnWInIdeal [hAdamFfnWInIdeal : Cert.AdamFfnWInIdeal.Facts] : Prop :=
  ∀ (m : (ℓ : Loc Cert.AdamFfnWInIdeal.nD Cert.AdamFfnWInIdeal.τ Cert.AdamFfnWInIdeal.sig) → Buf (Elt Ideal) ℓ) (g : Dev Cert.AdamFfnWInIdeal.nD → PrngReg), Pre_AdamFfnWInIdeal m →
    θ_run (Cert.AdamFfnWInIdeal.defs (F := Ideal)) (onTc (τ := Cert.AdamFfnWInIdeal.τ) (Cert.AdamFfnWInIdeal.main (F := Ideal))) ⟨m, fun _ => 0, g⟩ (fun r => (∀ c : Dev Cert.AdamFfnWInIdeal.nD,
      r.2.mem ((c.tc : Thread Cert.AdamFfnWInIdeal.nD Cert.AdamFfnWInIdeal.τ).loc Cert.AdamFfnWInIdeal.main_arg0) = m ((c.tc : Thread Cert.AdamFfnWInIdeal.nD Cert.AdamFfnWInIdeal.τ).loc Cert.AdamFfnWInIdeal.main_arg0)
      ∧ r.2.mem ((c.tc : Thread Cert.AdamFfnWInIdeal.nD Cert.AdamFfnWInIdeal.τ).loc Cert.AdamFfnWInIdeal.main_arg1) = m ((c.tc : Thread Cert.AdamFfnWInIdeal.nD Cert.AdamFfnWInIdeal.τ).loc Cert.AdamFfnWInIdeal.main_arg1)
      ∧ r.2.mem ((c.tc : Thread Cert.AdamFfnWInIdeal.nD Cert.AdamFfnWInIdeal.τ).loc Cert.AdamFfnWInIdeal.main_arg2) = m ((c.tc : Thread Cert.AdamFfnWInIdeal.nD Cert.AdamFfnWInIdeal.τ).loc Cert.AdamFfnWInIdeal.main_arg2)
      ∧ r.2.mem ((c.tc : Thread Cert.AdamFfnWInIdeal.nD Cert.AdamFfnWInIdeal.τ).loc Cert.AdamFfnWInIdeal.main_arg3) = m ((c.tc : Thread Cert.AdamFfnWInIdeal.nD Cert.AdamFfnWInIdeal.τ).loc Cert.AdamFfnWInIdeal.main_arg3)
      ∧ r.2.mem ((c.tc : Thread Cert.AdamFfnWInIdeal.nD Cert.AdamFfnWInIdeal.τ).loc Cert.AdamFfnWInIdeal.main_arg4) = m ((c.tc : Thread Cert.AdamFfnWInIdeal.nD Cert.AdamFfnWInIdeal.τ).loc Cert.AdamFfnWInIdeal.main_arg4))
      ∧ r.2.sem = fun _ => 0)

def quiescent_AdamFfnWInReferenceIdeal [hAdamFfnWInReferenceIdeal : Cert.AdamFfnWInReferenceIdeal.Facts] : Prop :=
  ∀ (m : (ℓ : Loc Cert.AdamFfnWInReferenceIdeal.nD Cert.AdamFfnWInReferenceIdeal.τ Cert.AdamFfnWInReferenceIdeal.sig) → Buf (Elt Ideal) ℓ) (g : Dev Cert.AdamFfnWInReferenceIdeal.nD → PrngReg), Pre_AdamFfnWInReferenceIdeal m →
    θ_run (Cert.AdamFfnWInReferenceIdeal.defs (F := Ideal)) (onTc (τ := Cert.AdamFfnWInReferenceIdeal.τ) (Cert.AdamFfnWInReferenceIdeal.main (F := Ideal))) ⟨m, fun _ => 0, g⟩ (fun r => (∀ c : Dev Cert.AdamFfnWInReferenceIdeal.nD,
      r.2.mem ((c.tc : Thread Cert.AdamFfnWInReferenceIdeal.nD Cert.AdamFfnWInReferenceIdeal.τ).loc Cert.AdamFfnWInReferenceIdeal.main_arg0) = m ((c.tc : Thread Cert.AdamFfnWInReferenceIdeal.nD Cert.AdamFfnWInReferenceIdeal.τ).loc Cert.AdamFfnWInReferenceIdeal.main_arg0)
      ∧ r.2.mem ((c.tc : Thread Cert.AdamFfnWInReferenceIdeal.nD Cert.AdamFfnWInReferenceIdeal.τ).loc Cert.AdamFfnWInReferenceIdeal.main_arg1) = m ((c.tc : Thread Cert.AdamFfnWInReferenceIdeal.nD Cert.AdamFfnWInReferenceIdeal.τ).loc Cert.AdamFfnWInReferenceIdeal.main_arg1)
      ∧ r.2.mem ((c.tc : Thread Cert.AdamFfnWInReferenceIdeal.nD Cert.AdamFfnWInReferenceIdeal.τ).loc Cert.AdamFfnWInReferenceIdeal.main_arg2) = m ((c.tc : Thread Cert.AdamFfnWInReferenceIdeal.nD Cert.AdamFfnWInReferenceIdeal.τ).loc Cert.AdamFfnWInReferenceIdeal.main_arg2)
      ∧ r.2.mem ((c.tc : Thread Cert.AdamFfnWInReferenceIdeal.nD Cert.AdamFfnWInReferenceIdeal.τ).loc Cert.AdamFfnWInReferenceIdeal.main_arg3) = m ((c.tc : Thread Cert.AdamFfnWInReferenceIdeal.nD Cert.AdamFfnWInReferenceIdeal.τ).loc Cert.AdamFfnWInReferenceIdeal.main_arg3)
      ∧ r.2.mem ((c.tc : Thread Cert.AdamFfnWInReferenceIdeal.nD Cert.AdamFfnWInReferenceIdeal.τ).loc Cert.AdamFfnWInReferenceIdeal.main_arg4) = m ((c.tc : Thread Cert.AdamFfnWInReferenceIdeal.nD Cert.AdamFfnWInReferenceIdeal.τ).loc Cert.AdamFfnWInReferenceIdeal.main_arg4))
      ∧ r.2.sem = fun _ => 0)

def quiescent_AdamFfnWOut [hAdamFfnWOut : Cert.AdamFfnWOut.Facts] : Prop :=
  ∀ (m : (ℓ : Loc Cert.AdamFfnWOut.nD Cert.AdamFfnWOut.τ Cert.AdamFfnWOut.sig) → Buf (Elt Bits) ℓ) (g : Dev Cert.AdamFfnWOut.nD → PrngReg), Pre_AdamFfnWOut m →
    θ_run (Cert.AdamFfnWOut.defs (F := Bits)) (onTc (τ := Cert.AdamFfnWOut.τ) (Cert.AdamFfnWOut.main (F := Bits))) ⟨m, fun _ => 0, g⟩ (fun r => (∀ c : Dev Cert.AdamFfnWOut.nD,
      r.2.mem ((c.tc : Thread Cert.AdamFfnWOut.nD Cert.AdamFfnWOut.τ).loc Cert.AdamFfnWOut.main_arg0) = m ((c.tc : Thread Cert.AdamFfnWOut.nD Cert.AdamFfnWOut.τ).loc Cert.AdamFfnWOut.main_arg0)
      ∧ r.2.mem ((c.tc : Thread Cert.AdamFfnWOut.nD Cert.AdamFfnWOut.τ).loc Cert.AdamFfnWOut.main_arg1) = m ((c.tc : Thread Cert.AdamFfnWOut.nD Cert.AdamFfnWOut.τ).loc Cert.AdamFfnWOut.main_arg1)
      ∧ r.2.mem ((c.tc : Thread Cert.AdamFfnWOut.nD Cert.AdamFfnWOut.τ).loc Cert.AdamFfnWOut.main_arg2) = m ((c.tc : Thread Cert.AdamFfnWOut.nD Cert.AdamFfnWOut.τ).loc Cert.AdamFfnWOut.main_arg2)
      ∧ r.2.mem ((c.tc : Thread Cert.AdamFfnWOut.nD Cert.AdamFfnWOut.τ).loc Cert.AdamFfnWOut.main_arg3) = m ((c.tc : Thread Cert.AdamFfnWOut.nD Cert.AdamFfnWOut.τ).loc Cert.AdamFfnWOut.main_arg3)
      ∧ r.2.mem ((c.tc : Thread Cert.AdamFfnWOut.nD Cert.AdamFfnWOut.τ).loc Cert.AdamFfnWOut.main_arg4) = m ((c.tc : Thread Cert.AdamFfnWOut.nD Cert.AdamFfnWOut.τ).loc Cert.AdamFfnWOut.main_arg4))
      ∧ r.2.sem = fun _ => 0)

def quiescent_AdamFfnWOutIdeal [hAdamFfnWOutIdeal : Cert.AdamFfnWOutIdeal.Facts] : Prop :=
  ∀ (m : (ℓ : Loc Cert.AdamFfnWOutIdeal.nD Cert.AdamFfnWOutIdeal.τ Cert.AdamFfnWOutIdeal.sig) → Buf (Elt Ideal) ℓ) (g : Dev Cert.AdamFfnWOutIdeal.nD → PrngReg), Pre_AdamFfnWOutIdeal m →
    θ_run (Cert.AdamFfnWOutIdeal.defs (F := Ideal)) (onTc (τ := Cert.AdamFfnWOutIdeal.τ) (Cert.AdamFfnWOutIdeal.main (F := Ideal))) ⟨m, fun _ => 0, g⟩ (fun r => (∀ c : Dev Cert.AdamFfnWOutIdeal.nD,
      r.2.mem ((c.tc : Thread Cert.AdamFfnWOutIdeal.nD Cert.AdamFfnWOutIdeal.τ).loc Cert.AdamFfnWOutIdeal.main_arg0) = m ((c.tc : Thread Cert.AdamFfnWOutIdeal.nD Cert.AdamFfnWOutIdeal.τ).loc Cert.AdamFfnWOutIdeal.main_arg0)
      ∧ r.2.mem ((c.tc : Thread Cert.AdamFfnWOutIdeal.nD Cert.AdamFfnWOutIdeal.τ).loc Cert.AdamFfnWOutIdeal.main_arg1) = m ((c.tc : Thread Cert.AdamFfnWOutIdeal.nD Cert.AdamFfnWOutIdeal.τ).loc Cert.AdamFfnWOutIdeal.main_arg1)
      ∧ r.2.mem ((c.tc : Thread Cert.AdamFfnWOutIdeal.nD Cert.AdamFfnWOutIdeal.τ).loc Cert.AdamFfnWOutIdeal.main_arg2) = m ((c.tc : Thread Cert.AdamFfnWOutIdeal.nD Cert.AdamFfnWOutIdeal.τ).loc Cert.AdamFfnWOutIdeal.main_arg2)
      ∧ r.2.mem ((c.tc : Thread Cert.AdamFfnWOutIdeal.nD Cert.AdamFfnWOutIdeal.τ).loc Cert.AdamFfnWOutIdeal.main_arg3) = m ((c.tc : Thread Cert.AdamFfnWOutIdeal.nD Cert.AdamFfnWOutIdeal.τ).loc Cert.AdamFfnWOutIdeal.main_arg3)
      ∧ r.2.mem ((c.tc : Thread Cert.AdamFfnWOutIdeal.nD Cert.AdamFfnWOutIdeal.τ).loc Cert.AdamFfnWOutIdeal.main_arg4) = m ((c.tc : Thread Cert.AdamFfnWOutIdeal.nD Cert.AdamFfnWOutIdeal.τ).loc Cert.AdamFfnWOutIdeal.main_arg4))
      ∧ r.2.sem = fun _ => 0)

def quiescent_AdamFfnWOutReferenceIdeal [hAdamFfnWOutReferenceIdeal : Cert.AdamFfnWOutReferenceIdeal.Facts] : Prop :=
  ∀ (m : (ℓ : Loc Cert.AdamFfnWOutReferenceIdeal.nD Cert.AdamFfnWOutReferenceIdeal.τ Cert.AdamFfnWOutReferenceIdeal.sig) → Buf (Elt Ideal) ℓ) (g : Dev Cert.AdamFfnWOutReferenceIdeal.nD → PrngReg), Pre_AdamFfnWOutReferenceIdeal m →
    θ_run (Cert.AdamFfnWOutReferenceIdeal.defs (F := Ideal)) (onTc (τ := Cert.AdamFfnWOutReferenceIdeal.τ) (Cert.AdamFfnWOutReferenceIdeal.main (F := Ideal))) ⟨m, fun _ => 0, g⟩ (fun r => (∀ c : Dev Cert.AdamFfnWOutReferenceIdeal.nD,
      r.2.mem ((c.tc : Thread Cert.AdamFfnWOutReferenceIdeal.nD Cert.AdamFfnWOutReferenceIdeal.τ).loc Cert.AdamFfnWOutReferenceIdeal.main_arg0) = m ((c.tc : Thread Cert.AdamFfnWOutReferenceIdeal.nD Cert.AdamFfnWOutReferenceIdeal.τ).loc Cert.AdamFfnWOutReferenceIdeal.main_arg0)
      ∧ r.2.mem ((c.tc : Thread Cert.AdamFfnWOutReferenceIdeal.nD Cert.AdamFfnWOutReferenceIdeal.τ).loc Cert.AdamFfnWOutReferenceIdeal.main_arg1) = m ((c.tc : Thread Cert.AdamFfnWOutReferenceIdeal.nD Cert.AdamFfnWOutReferenceIdeal.τ).loc Cert.AdamFfnWOutReferenceIdeal.main_arg1)
      ∧ r.2.mem ((c.tc : Thread Cert.AdamFfnWOutReferenceIdeal.nD Cert.AdamFfnWOutReferenceIdeal.τ).loc Cert.AdamFfnWOutReferenceIdeal.main_arg2) = m ((c.tc : Thread Cert.AdamFfnWOutReferenceIdeal.nD Cert.AdamFfnWOutReferenceIdeal.τ).loc Cert.AdamFfnWOutReferenceIdeal.main_arg2)
      ∧ r.2.mem ((c.tc : Thread Cert.AdamFfnWOutReferenceIdeal.nD Cert.AdamFfnWOutReferenceIdeal.τ).loc Cert.AdamFfnWOutReferenceIdeal.main_arg3) = m ((c.tc : Thread Cert.AdamFfnWOutReferenceIdeal.nD Cert.AdamFfnWOutReferenceIdeal.τ).loc Cert.AdamFfnWOutReferenceIdeal.main_arg3)
      ∧ r.2.mem ((c.tc : Thread Cert.AdamFfnWOutReferenceIdeal.nD Cert.AdamFfnWOutReferenceIdeal.τ).loc Cert.AdamFfnWOutReferenceIdeal.main_arg4) = m ((c.tc : Thread Cert.AdamFfnWOutReferenceIdeal.nD Cert.AdamFfnWOutReferenceIdeal.τ).loc Cert.AdamFfnWOutReferenceIdeal.main_arg4))
      ∧ r.2.sem = fun _ => 0)

def quiescent_SumAttnWIn [hSumAttnWIn : Cert.SumAttnWIn.Facts] : Prop :=
  ∀ (m : (ℓ : Loc Cert.SumAttnWIn.nD Cert.SumAttnWIn.τ Cert.SumAttnWIn.sig) → Buf (Elt Bits) ℓ) (g : Dev Cert.SumAttnWIn.nD → PrngReg), Pre_SumAttnWIn m →
    θ_run (Cert.SumAttnWIn.defs (F := Bits)) (onTc (τ := Cert.SumAttnWIn.τ) (Cert.SumAttnWIn.main (F := Bits))) ⟨m, fun _ => 0, g⟩ (fun r => (∀ c : Dev Cert.SumAttnWIn.nD,
      r.2.mem ((c.tc : Thread Cert.SumAttnWIn.nD Cert.SumAttnWIn.τ).loc Cert.SumAttnWIn.main_arg0) = m ((c.tc : Thread Cert.SumAttnWIn.nD Cert.SumAttnWIn.τ).loc Cert.SumAttnWIn.main_arg0))
      ∧ r.2.sem = fun _ => 0)

def quiescent_SumAttnWInIdeal [hSumAttnWInIdeal : Cert.SumAttnWInIdeal.Facts] : Prop :=
  ∀ (m : (ℓ : Loc Cert.SumAttnWInIdeal.nD Cert.SumAttnWInIdeal.τ Cert.SumAttnWInIdeal.sig) → Buf (Elt Ideal) ℓ) (g : Dev Cert.SumAttnWInIdeal.nD → PrngReg), Pre_SumAttnWInIdeal m →
    θ_run (Cert.SumAttnWInIdeal.defs (F := Ideal)) (onTc (τ := Cert.SumAttnWInIdeal.τ) (Cert.SumAttnWInIdeal.main (F := Ideal))) ⟨m, fun _ => 0, g⟩ (fun r => (∀ c : Dev Cert.SumAttnWInIdeal.nD,
      r.2.mem ((c.tc : Thread Cert.SumAttnWInIdeal.nD Cert.SumAttnWInIdeal.τ).loc Cert.SumAttnWInIdeal.main_arg0) = m ((c.tc : Thread Cert.SumAttnWInIdeal.nD Cert.SumAttnWInIdeal.τ).loc Cert.SumAttnWInIdeal.main_arg0))
      ∧ r.2.sem = fun _ => 0)

def quiescent_SumAttnWInReferenceIdeal [hSumAttnWInReferenceIdeal : Cert.SumAttnWInReferenceIdeal.Facts] : Prop :=
  ∀ (m : (ℓ : Loc Cert.SumAttnWInReferenceIdeal.nD Cert.SumAttnWInReferenceIdeal.τ Cert.SumAttnWInReferenceIdeal.sig) → Buf (Elt Ideal) ℓ) (g : Dev Cert.SumAttnWInReferenceIdeal.nD → PrngReg), Pre_SumAttnWInReferenceIdeal m →
    θ_run (Cert.SumAttnWInReferenceIdeal.defs (F := Ideal)) (onTc (τ := Cert.SumAttnWInReferenceIdeal.τ) (Cert.SumAttnWInReferenceIdeal.main (F := Ideal))) ⟨m, fun _ => 0, g⟩ (fun r => (∀ c : Dev Cert.SumAttnWInReferenceIdeal.nD,
      r.2.mem ((c.tc : Thread Cert.SumAttnWInReferenceIdeal.nD Cert.SumAttnWInReferenceIdeal.τ).loc Cert.SumAttnWInReferenceIdeal.main_arg0) = m ((c.tc : Thread Cert.SumAttnWInReferenceIdeal.nD Cert.SumAttnWInReferenceIdeal.τ).loc Cert.SumAttnWInReferenceIdeal.main_arg0))
      ∧ r.2.sem = fun _ => 0)

def quiescent_SumSsmWIn [hSumSsmWIn : Cert.SumSsmWIn.Facts] : Prop :=
  ∀ (m : (ℓ : Loc Cert.SumSsmWIn.nD Cert.SumSsmWIn.τ Cert.SumSsmWIn.sig) → Buf (Elt Bits) ℓ) (g : Dev Cert.SumSsmWIn.nD → PrngReg), Pre_SumSsmWIn m →
    θ_run (Cert.SumSsmWIn.defs (F := Bits)) (onTc (τ := Cert.SumSsmWIn.τ) (Cert.SumSsmWIn.main (F := Bits))) ⟨m, fun _ => 0, g⟩ (fun r => (∀ c : Dev Cert.SumSsmWIn.nD,
      r.2.mem ((c.tc : Thread Cert.SumSsmWIn.nD Cert.SumSsmWIn.τ).loc Cert.SumSsmWIn.main_arg0) = m ((c.tc : Thread Cert.SumSsmWIn.nD Cert.SumSsmWIn.τ).loc Cert.SumSsmWIn.main_arg0))
      ∧ r.2.sem = fun _ => 0)

def quiescent_SumSsmWInIdeal [hSumSsmWInIdeal : Cert.SumSsmWInIdeal.Facts] : Prop :=
  ∀ (m : (ℓ : Loc Cert.SumSsmWInIdeal.nD Cert.SumSsmWInIdeal.τ Cert.SumSsmWInIdeal.sig) → Buf (Elt Ideal) ℓ) (g : Dev Cert.SumSsmWInIdeal.nD → PrngReg), Pre_SumSsmWInIdeal m →
    θ_run (Cert.SumSsmWInIdeal.defs (F := Ideal)) (onTc (τ := Cert.SumSsmWInIdeal.τ) (Cert.SumSsmWInIdeal.main (F := Ideal))) ⟨m, fun _ => 0, g⟩ (fun r => (∀ c : Dev Cert.SumSsmWInIdeal.nD,
      r.2.mem ((c.tc : Thread Cert.SumSsmWInIdeal.nD Cert.SumSsmWInIdeal.τ).loc Cert.SumSsmWInIdeal.main_arg0) = m ((c.tc : Thread Cert.SumSsmWInIdeal.nD Cert.SumSsmWInIdeal.τ).loc Cert.SumSsmWInIdeal.main_arg0))
      ∧ r.2.sem = fun _ => 0)

def quiescent_SumSsmWInReferenceIdeal [hSumSsmWInReferenceIdeal : Cert.SumSsmWInReferenceIdeal.Facts] : Prop :=
  ∀ (m : (ℓ : Loc Cert.SumSsmWInReferenceIdeal.nD Cert.SumSsmWInReferenceIdeal.τ Cert.SumSsmWInReferenceIdeal.sig) → Buf (Elt Ideal) ℓ) (g : Dev Cert.SumSsmWInReferenceIdeal.nD → PrngReg), Pre_SumSsmWInReferenceIdeal m →
    θ_run (Cert.SumSsmWInReferenceIdeal.defs (F := Ideal)) (onTc (τ := Cert.SumSsmWInReferenceIdeal.τ) (Cert.SumSsmWInReferenceIdeal.main (F := Ideal))) ⟨m, fun _ => 0, g⟩ (fun r => (∀ c : Dev Cert.SumSsmWInReferenceIdeal.nD,
      r.2.mem ((c.tc : Thread Cert.SumSsmWInReferenceIdeal.nD Cert.SumSsmWInReferenceIdeal.τ).loc Cert.SumSsmWInReferenceIdeal.main_arg0) = m ((c.tc : Thread Cert.SumSsmWInReferenceIdeal.nD Cert.SumSsmWInReferenceIdeal.τ).loc Cert.SumSsmWInReferenceIdeal.main_arg0))
      ∧ r.2.sem = fun _ => 0)

def quiescent_SumFfnWIn [hSumFfnWIn : Cert.SumFfnWIn.Facts] : Prop :=
  ∀ (m : (ℓ : Loc Cert.SumFfnWIn.nD Cert.SumFfnWIn.τ Cert.SumFfnWIn.sig) → Buf (Elt Bits) ℓ) (g : Dev Cert.SumFfnWIn.nD → PrngReg), Pre_SumFfnWIn m →
    θ_run (Cert.SumFfnWIn.defs (F := Bits)) (onTc (τ := Cert.SumFfnWIn.τ) (Cert.SumFfnWIn.main (F := Bits))) ⟨m, fun _ => 0, g⟩ (fun r => (∀ c : Dev Cert.SumFfnWIn.nD,
      r.2.mem ((c.tc : Thread Cert.SumFfnWIn.nD Cert.SumFfnWIn.τ).loc Cert.SumFfnWIn.main_arg0) = m ((c.tc : Thread Cert.SumFfnWIn.nD Cert.SumFfnWIn.τ).loc Cert.SumFfnWIn.main_arg0))
      ∧ r.2.sem = fun _ => 0)

def quiescent_SumFfnWInIdeal [hSumFfnWInIdeal : Cert.SumFfnWInIdeal.Facts] : Prop :=
  ∀ (m : (ℓ : Loc Cert.SumFfnWInIdeal.nD Cert.SumFfnWInIdeal.τ Cert.SumFfnWInIdeal.sig) → Buf (Elt Ideal) ℓ) (g : Dev Cert.SumFfnWInIdeal.nD → PrngReg), Pre_SumFfnWInIdeal m →
    θ_run (Cert.SumFfnWInIdeal.defs (F := Ideal)) (onTc (τ := Cert.SumFfnWInIdeal.τ) (Cert.SumFfnWInIdeal.main (F := Ideal))) ⟨m, fun _ => 0, g⟩ (fun r => (∀ c : Dev Cert.SumFfnWInIdeal.nD,
      r.2.mem ((c.tc : Thread Cert.SumFfnWInIdeal.nD Cert.SumFfnWInIdeal.τ).loc Cert.SumFfnWInIdeal.main_arg0) = m ((c.tc : Thread Cert.SumFfnWInIdeal.nD Cert.SumFfnWInIdeal.τ).loc Cert.SumFfnWInIdeal.main_arg0))
      ∧ r.2.sem = fun _ => 0)

def quiescent_SumFfnWInReferenceIdeal [hSumFfnWInReferenceIdeal : Cert.SumFfnWInReferenceIdeal.Facts] : Prop :=
  ∀ (m : (ℓ : Loc Cert.SumFfnWInReferenceIdeal.nD Cert.SumFfnWInReferenceIdeal.τ Cert.SumFfnWInReferenceIdeal.sig) → Buf (Elt Ideal) ℓ) (g : Dev Cert.SumFfnWInReferenceIdeal.nD → PrngReg), Pre_SumFfnWInReferenceIdeal m →
    θ_run (Cert.SumFfnWInReferenceIdeal.defs (F := Ideal)) (onTc (τ := Cert.SumFfnWInReferenceIdeal.τ) (Cert.SumFfnWInReferenceIdeal.main (F := Ideal))) ⟨m, fun _ => 0, g⟩ (fun r => (∀ c : Dev Cert.SumFfnWInReferenceIdeal.nD,
      r.2.mem ((c.tc : Thread Cert.SumFfnWInReferenceIdeal.nD Cert.SumFfnWInReferenceIdeal.τ).loc Cert.SumFfnWInReferenceIdeal.main_arg0) = m ((c.tc : Thread Cert.SumFfnWInReferenceIdeal.nD Cert.SumFfnWInReferenceIdeal.τ).loc Cert.SumFfnWInReferenceIdeal.main_arg0))
      ∧ r.2.sem = fun _ => 0)

def quiescent_SsmDwDt [hSsmDwDt : Cert.SsmDwDt.Facts] : Prop :=
  ∀ (m : (ℓ : Loc Cert.SsmDwDt.nD Cert.SsmDwDt.τ Cert.SsmDwDt.sig) → Buf (Elt Bits) ℓ) (g : Dev Cert.SsmDwDt.nD → PrngReg), Pre_SsmDwDt m →
    θ_run (Cert.SsmDwDt.defs (F := Bits)) (onTc (τ := Cert.SsmDwDt.τ) (Cert.SsmDwDt.main (F := Bits))) ⟨m, fun _ => 0, g⟩ (fun r => (∀ c : Dev Cert.SsmDwDt.nD,
      r.2.mem ((c.tc : Thread Cert.SsmDwDt.nD Cert.SsmDwDt.τ).loc Cert.SsmDwDt.main_arg0) = m ((c.tc : Thread Cert.SsmDwDt.nD Cert.SsmDwDt.τ).loc Cert.SsmDwDt.main_arg0)
      ∧ r.2.mem ((c.tc : Thread Cert.SsmDwDt.nD Cert.SsmDwDt.τ).loc Cert.SsmDwDt.main_arg1) = m ((c.tc : Thread Cert.SsmDwDt.nD Cert.SsmDwDt.τ).loc Cert.SsmDwDt.main_arg1))
      ∧ r.2.sem = fun _ => 0)

def quiescent_SsmDwDtIdeal [hSsmDwDtIdeal : Cert.SsmDwDtIdeal.Facts] : Prop :=
  ∀ (m : (ℓ : Loc Cert.SsmDwDtIdeal.nD Cert.SsmDwDtIdeal.τ Cert.SsmDwDtIdeal.sig) → Buf (Elt Ideal) ℓ) (g : Dev Cert.SsmDwDtIdeal.nD → PrngReg), Pre_SsmDwDtIdeal m →
    θ_run (Cert.SsmDwDtIdeal.defs (F := Ideal)) (onTc (τ := Cert.SsmDwDtIdeal.τ) (Cert.SsmDwDtIdeal.main (F := Ideal))) ⟨m, fun _ => 0, g⟩ (fun r => (∀ c : Dev Cert.SsmDwDtIdeal.nD,
      r.2.mem ((c.tc : Thread Cert.SsmDwDtIdeal.nD Cert.SsmDwDtIdeal.τ).loc Cert.SsmDwDtIdeal.main_arg0) = m ((c.tc : Thread Cert.SsmDwDtIdeal.nD Cert.SsmDwDtIdeal.τ).loc Cert.SsmDwDtIdeal.main_arg0)
      ∧ r.2.mem ((c.tc : Thread Cert.SsmDwDtIdeal.nD Cert.SsmDwDtIdeal.τ).loc Cert.SsmDwDtIdeal.main_arg1) = m ((c.tc : Thread Cert.SsmDwDtIdeal.nD Cert.SsmDwDtIdeal.τ).loc Cert.SsmDwDtIdeal.main_arg1))
      ∧ r.2.sem = fun _ => 0)

def quiescent_SsmDwDtReferenceIdeal [hSsmDwDtReferenceIdeal : Cert.SsmDwDtReferenceIdeal.Facts] : Prop :=
  ∀ (m : (ℓ : Loc Cert.SsmDwDtReferenceIdeal.nD Cert.SsmDwDtReferenceIdeal.τ Cert.SsmDwDtReferenceIdeal.sig) → Buf (Elt Ideal) ℓ) (g : Dev Cert.SsmDwDtReferenceIdeal.nD → PrngReg), Pre_SsmDwDtReferenceIdeal m →
    θ_run (Cert.SsmDwDtReferenceIdeal.defs (F := Ideal)) (onTc (τ := Cert.SsmDwDtReferenceIdeal.τ) (Cert.SsmDwDtReferenceIdeal.main (F := Ideal))) ⟨m, fun _ => 0, g⟩ (fun r => (∀ c : Dev Cert.SsmDwDtReferenceIdeal.nD,
      r.2.mem ((c.tc : Thread Cert.SsmDwDtReferenceIdeal.nD Cert.SsmDwDtReferenceIdeal.τ).loc Cert.SsmDwDtReferenceIdeal.main_arg0) = m ((c.tc : Thread Cert.SsmDwDtReferenceIdeal.nD Cert.SsmDwDtReferenceIdeal.τ).loc Cert.SsmDwDtReferenceIdeal.main_arg0)
      ∧ r.2.mem ((c.tc : Thread Cert.SsmDwDtReferenceIdeal.nD Cert.SsmDwDtReferenceIdeal.τ).loc Cert.SsmDwDtReferenceIdeal.main_arg1) = m ((c.tc : Thread Cert.SsmDwDtReferenceIdeal.nD Cert.SsmDwDtReferenceIdeal.τ).loc Cert.SsmDwDtReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnDwOut_FfnDwOutIdeal : Prop :=
  True

def algebraic_FfnDwOutIdeal_FfnDwOutReferenceIdeal [hFfnDwOutIdeal : Cert.FfnDwOutIdeal.Facts] [hFfnDwOutReferenceIdeal : Cert.FfnDwOutReferenceIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg)
    (m' : (ℓ : Loc Cert.FfnDwOutReferenceIdeal.nD Cert.FfnDwOutReferenceIdeal.τ Cert.FfnDwOutReferenceIdeal.sig) → Buf (Elt Ideal) ℓ) (g' : Dev Cert.FfnDwOutReferenceIdeal.nD → PrngReg), Pre_FfnDwOutIdeal m →
    (∀ c : Dev Cert.FfnDwOutIdeal.nD,
      m' ((c.tc : Thread Cert.FfnDwOutReferenceIdeal.nD Cert.FfnDwOutReferenceIdeal.τ).loc Cert.FfnDwOutReferenceIdeal.main_arg0) = m ((c.tc : Thread Cert.FfnDwOutIdeal.nD Cert.FfnDwOutIdeal.τ).loc Cert.FfnDwOutIdeal.main_arg0)
      ∧ m' ((c.tc : Thread Cert.FfnDwOutReferenceIdeal.nD Cert.FfnDwOutReferenceIdeal.τ).loc Cert.FfnDwOutReferenceIdeal.main_arg1) = m ((c.tc : Thread Cert.FfnDwOutIdeal.nD Cert.FfnDwOutIdeal.τ).loc Cert.FfnDwOutIdeal.main_arg1)) →
    ∃ (v0 : (c : Dev Cert.FfnDwOutIdeal.nD) → Buf (Elt Ideal) ((c.tc : Thread Cert.FfnDwOutIdeal.nD Cert.FfnDwOutIdeal.τ).loc Cert.FfnDwOutIdeal.main_v2)),
      θ_run (Cert.FfnDwOutIdeal.defs (F := Ideal)) (onTc (τ := Cert.FfnDwOutIdeal.τ) (Cert.FfnDwOutIdeal.main (F := Ideal))) ⟨m, fun _ => 0, g⟩ (fun r => ∀ c : Dev Cert.FfnDwOutIdeal.nD,
          r.2.mem ((c.tc : Thread Cert.FfnDwOutIdeal.nD Cert.FfnDwOutIdeal.τ).loc Cert.FfnDwOutIdeal.main_v2) = v0 c
          ∧ r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
          ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1))
      ∧ θ_run (Cert.FfnDwOutReferenceIdeal.defs (F := Ideal)) (onTc (τ := Cert.FfnDwOutReferenceIdeal.τ) (Cert.FfnDwOutReferenceIdeal.main (F := Ideal))) ⟨m', fun _ => 0, g'⟩ (fun r => ∀ c : Dev Cert.FfnDwOutReferenceIdeal.nD,
          r.2.mem ((c.tc : Thread Cert.FfnDwOutReferenceIdeal.nD Cert.FfnDwOutReferenceIdeal.τ).loc Cert.FfnDwOutReferenceIdeal.main_v4) = v0 c
          ∧ r.2.mem ((c.tc : Thread Cert.FfnDwOutReferenceIdeal.nD Cert.FfnDwOutReferenceIdeal.τ).loc Cert.FfnDwOutReferenceIdeal.main_arg0) = m' ((c.tc : Thread Cert.FfnDwOutReferenceIdeal.nD Cert.FfnDwOutReferenceIdeal.τ).loc Cert.FfnDwOutReferenceIdeal.main_arg0)
          ∧ r.2.mem ((c.tc : Thread Cert.FfnDwOutReferenceIdeal.nD Cert.FfnDwOutReferenceIdeal.τ).loc Cert.FfnDwOutReferenceIdeal.main_arg1) = m' ((c.tc : Thread Cert.FfnDwOutReferenceIdeal.nD Cert.FfnDwOutReferenceIdeal.τ).loc Cert.FfnDwOutReferenceIdeal.main_arg1))

def preserves_FfnDwIn_FfnDwInIdeal : Prop :=
  True

def algebraic_FfnDwInIdeal_FfnDwInReferenceIdeal [hFfnDwInIdeal : Cert.FfnDwInIdeal.Facts] [hFfnDwInReferenceIdeal : Cert.FfnDwInReferenceIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg)
    (m' : (ℓ : Loc Cert.FfnDwInReferenceIdeal.nD Cert.FfnDwInReferenceIdeal.τ Cert.FfnDwInReferenceIdeal.sig) → Buf (Elt Ideal) ℓ) (g' : Dev Cert.FfnDwInReferenceIdeal.nD → PrngReg), Pre_FfnDwInIdeal m →
    (∀ c : Dev Cert.FfnDwInIdeal.nD,
      m' ((c.tc : Thread Cert.FfnDwInReferenceIdeal.nD Cert.FfnDwInReferenceIdeal.τ).loc Cert.FfnDwInReferenceIdeal.main_arg0) = m ((c.tc : Thread Cert.FfnDwInIdeal.nD Cert.FfnDwInIdeal.τ).loc Cert.FfnDwInIdeal.main_arg0)
      ∧ m' ((c.tc : Thread Cert.FfnDwInReferenceIdeal.nD Cert.FfnDwInReferenceIdeal.τ).loc Cert.FfnDwInReferenceIdeal.main_arg1) = m ((c.tc : Thread Cert.FfnDwInIdeal.nD Cert.FfnDwInIdeal.τ).loc Cert.FfnDwInIdeal.main_arg1)) →
    ∃ (v0 : (c : Dev Cert.FfnDwInIdeal.nD) → Buf (Elt Ideal) ((c.tc : Thread Cert.FfnDwInIdeal.nD Cert.FfnDwInIdeal.τ).loc Cert.FfnDwInIdeal.main_v2)),
      θ_run (Cert.FfnDwInIdeal.defs (F := Ideal)) (onTc (τ := Cert.FfnDwInIdeal.τ) (Cert.FfnDwInIdeal.main (F := Ideal))) ⟨m, fun _ => 0, g⟩ (fun r => ∀ c : Dev Cert.FfnDwInIdeal.nD,
          r.2.mem ((c.tc : Thread Cert.FfnDwInIdeal.nD Cert.FfnDwInIdeal.τ).loc Cert.FfnDwInIdeal.main_v2) = v0 c
          ∧ r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
          ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1))
      ∧ θ_run (Cert.FfnDwInReferenceIdeal.defs (F := Ideal)) (onTc (τ := Cert.FfnDwInReferenceIdeal.τ) (Cert.FfnDwInReferenceIdeal.main (F := Ideal))) ⟨m', fun _ => 0, g'⟩ (fun r => ∀ c : Dev Cert.FfnDwInReferenceIdeal.nD,
          r.2.mem ((c.tc : Thread Cert.FfnDwInReferenceIdeal.nD Cert.FfnDwInReferenceIdeal.τ).loc Cert.FfnDwInReferenceIdeal.main_v5) = v0 c
          ∧ r.2.mem ((c.tc : Thread Cert.FfnDwInReferenceIdeal.nD Cert.FfnDwInReferenceIdeal.τ).loc Cert.FfnDwInReferenceIdeal.main_arg0) = m' ((c.tc : Thread Cert.FfnDwInReferenceIdeal.nD Cert.FfnDwInReferenceIdeal.τ).loc Cert.FfnDwInReferenceIdeal.main_arg0)
          ∧ r.2.mem ((c.tc : Thread Cert.FfnDwInReferenceIdeal.nD Cert.FfnDwInReferenceIdeal.τ).loc Cert.FfnDwInReferenceIdeal.main_arg1) = m' ((c.tc : Thread Cert.FfnDwInReferenceIdeal.nD Cert.FfnDwInReferenceIdeal.τ).loc Cert.FfnDwInReferenceIdeal.main_arg1))

def preserves_SsmDwOut_SsmDwOutIdeal : Prop :=
  True

def algebraic_SsmDwOutIdeal_SsmDwOutReferenceIdeal [hSsmDwOutIdeal : Cert.SsmDwOutIdeal.Facts] [hSsmDwOutReferenceIdeal : Cert.SsmDwOutReferenceIdeal.Facts] : Prop :=
  ∀ (m : (ℓ : Loc Cert.SsmDwOutIdeal.nD Cert.SsmDwOutIdeal.τ Cert.SsmDwOutIdeal.sig) → Buf (Elt Ideal) ℓ) (g : Dev Cert.SsmDwOutIdeal.nD → PrngReg)
    (m' : (ℓ : Loc Cert.SsmDwOutReferenceIdeal.nD Cert.SsmDwOutReferenceIdeal.τ Cert.SsmDwOutReferenceIdeal.sig) → Buf (Elt Ideal) ℓ) (g' : Dev Cert.SsmDwOutReferenceIdeal.nD → PrngReg), Pre_SsmDwOutIdeal m →
    (∀ c : Dev Cert.SsmDwOutIdeal.nD,
      m' ((c.tc : Thread Cert.SsmDwOutReferenceIdeal.nD Cert.SsmDwOutReferenceIdeal.τ).loc Cert.SsmDwOutReferenceIdeal.main_arg0) = m ((c.tc : Thread Cert.SsmDwOutIdeal.nD Cert.SsmDwOutIdeal.τ).loc Cert.SsmDwOutIdeal.main_arg0)
      ∧ m' ((c.tc : Thread Cert.SsmDwOutReferenceIdeal.nD Cert.SsmDwOutReferenceIdeal.τ).loc Cert.SsmDwOutReferenceIdeal.main_arg1) = m ((c.tc : Thread Cert.SsmDwOutIdeal.nD Cert.SsmDwOutIdeal.τ).loc Cert.SsmDwOutIdeal.main_arg1)) →
    ∃ (v0 : (c : Dev Cert.SsmDwOutIdeal.nD) → Buf (Elt Ideal) ((c.tc : Thread Cert.SsmDwOutIdeal.nD Cert.SsmDwOutIdeal.τ).loc Cert.SsmDwOutIdeal.main_v2)),
      θ_run (Cert.SsmDwOutIdeal.defs (F := Ideal)) (onTc (τ := Cert.SsmDwOutIdeal.τ) (Cert.SsmDwOutIdeal.main (F := Ideal))) ⟨m, fun _ => 0, g⟩ (fun r => ∀ c : Dev Cert.SsmDwOutIdeal.nD,
          r.2.mem ((c.tc : Thread Cert.SsmDwOutIdeal.nD Cert.SsmDwOutIdeal.τ).loc Cert.SsmDwOutIdeal.main_v2) = v0 c
          ∧ r.2.mem ((c.tc : Thread Cert.SsmDwOutIdeal.nD Cert.SsmDwOutIdeal.τ).loc Cert.SsmDwOutIdeal.main_arg0) = m ((c.tc : Thread Cert.SsmDwOutIdeal.nD Cert.SsmDwOutIdeal.τ).loc Cert.SsmDwOutIdeal.main_arg0)
          ∧ r.2.mem ((c.tc : Thread Cert.SsmDwOutIdeal.nD Cert.SsmDwOutIdeal.τ).loc Cert.SsmDwOutIdeal.main_arg1) = m ((c.tc : Thread Cert.SsmDwOutIdeal.nD Cert.SsmDwOutIdeal.τ).loc Cert.SsmDwOutIdeal.main_arg1))
      ∧ θ_run (Cert.SsmDwOutReferenceIdeal.defs (F := Ideal)) (onTc (τ := Cert.SsmDwOutReferenceIdeal.τ) (Cert.SsmDwOutReferenceIdeal.main (F := Ideal))) ⟨m', fun _ => 0, g'⟩ (fun r => ∀ c : Dev Cert.SsmDwOutReferenceIdeal.nD,
          r.2.mem ((c.tc : Thread Cert.SsmDwOutReferenceIdeal.nD Cert.SsmDwOutReferenceIdeal.τ).loc Cert.SsmDwOutReferenceIdeal.main_v4) = v0 c
          ∧ r.2.mem ((c.tc : Thread Cert.SsmDwOutReferenceIdeal.nD Cert.SsmDwOutReferenceIdeal.τ).loc Cert.SsmDwOutReferenceIdeal.main_arg0) = m' ((c.tc : Thread Cert.SsmDwOutReferenceIdeal.nD Cert.SsmDwOutReferenceIdeal.τ).loc Cert.SsmDwOutReferenceIdeal.main_arg0)
          ∧ r.2.mem ((c.tc : Thread Cert.SsmDwOutReferenceIdeal.nD Cert.SsmDwOutReferenceIdeal.τ).loc Cert.SsmDwOutReferenceIdeal.main_arg1) = m' ((c.tc : Thread Cert.SsmDwOutReferenceIdeal.nD Cert.SsmDwOutReferenceIdeal.τ).loc Cert.SsmDwOutReferenceIdeal.main_arg1))

def preserves_SsmDwZ_SsmDwZIdeal : Prop :=
  True

def algebraic_SsmDwZIdeal_SsmDwZReferenceIdeal [hSsmDwZIdeal : Cert.SsmDwZIdeal.Facts] [hSsmDwZReferenceIdeal : Cert.SsmDwZReferenceIdeal.Facts] : Prop :=
  ∀ (m : (ℓ : Loc Cert.SsmDwZIdeal.nD Cert.SsmDwZIdeal.τ Cert.SsmDwZIdeal.sig) → Buf (Elt Ideal) ℓ) (g : Dev Cert.SsmDwZIdeal.nD → PrngReg)
    (m' : (ℓ : Loc Cert.SsmDwZReferenceIdeal.nD Cert.SsmDwZReferenceIdeal.τ Cert.SsmDwZReferenceIdeal.sig) → Buf (Elt Ideal) ℓ) (g' : Dev Cert.SsmDwZReferenceIdeal.nD → PrngReg), Pre_SsmDwZIdeal m →
    (∀ c : Dev Cert.SsmDwZIdeal.nD,
      m' ((c.tc : Thread Cert.SsmDwZReferenceIdeal.nD Cert.SsmDwZReferenceIdeal.τ).loc Cert.SsmDwZReferenceIdeal.main_arg0) = m ((c.tc : Thread Cert.SsmDwZIdeal.nD Cert.SsmDwZIdeal.τ).loc Cert.SsmDwZIdeal.main_arg0)
      ∧ m' ((c.tc : Thread Cert.SsmDwZReferenceIdeal.nD Cert.SsmDwZReferenceIdeal.τ).loc Cert.SsmDwZReferenceIdeal.main_arg1) = m ((c.tc : Thread Cert.SsmDwZIdeal.nD Cert.SsmDwZIdeal.τ).loc Cert.SsmDwZIdeal.main_arg1)) →
    ∃ (v0 : (c : Dev Cert.SsmDwZIdeal.nD) → Buf (Elt Ideal) ((c.tc : Thread Cert.SsmDwZIdeal.nD Cert.SsmDwZIdeal.τ).loc Cert.SsmDwZIdeal.main_v2)),
      θ_run (Cert.SsmDwZIdeal.defs (F := Ideal)) (onTc (τ := Cert.SsmDwZIdeal.τ) (Cert.SsmDwZIdeal.main (F := Ideal))) ⟨m, fun _ => 0, g⟩ (fun r => ∀ c : Dev Cert.SsmDwZIdeal.nD,
          r.2.mem ((c.tc : Thread Cert.SsmDwZIdeal.nD Cert.SsmDwZIdeal.τ).loc Cert.SsmDwZIdeal.main_v2) = v0 c
          ∧ r.2.mem ((c.tc : Thread Cert.SsmDwZIdeal.nD Cert.SsmDwZIdeal.τ).loc Cert.SsmDwZIdeal.main_arg0) = m ((c.tc : Thread Cert.SsmDwZIdeal.nD Cert.SsmDwZIdeal.τ).loc Cert.SsmDwZIdeal.main_arg0)
          ∧ r.2.mem ((c.tc : Thread Cert.SsmDwZIdeal.nD Cert.SsmDwZIdeal.τ).loc Cert.SsmDwZIdeal.main_arg1) = m ((c.tc : Thread Cert.SsmDwZIdeal.nD Cert.SsmDwZIdeal.τ).loc Cert.SsmDwZIdeal.main_arg1))
      ∧ θ_run (Cert.SsmDwZReferenceIdeal.defs (F := Ideal)) (onTc (τ := Cert.SsmDwZReferenceIdeal.τ) (Cert.SsmDwZReferenceIdeal.main (F := Ideal))) ⟨m', fun _ => 0, g'⟩ (fun r => ∀ c : Dev Cert.SsmDwZReferenceIdeal.nD,
          r.2.mem ((c.tc : Thread Cert.SsmDwZReferenceIdeal.nD Cert.SsmDwZReferenceIdeal.τ).loc Cert.SsmDwZReferenceIdeal.main_v5) = v0 c
          ∧ r.2.mem ((c.tc : Thread Cert.SsmDwZReferenceIdeal.nD Cert.SsmDwZReferenceIdeal.τ).loc Cert.SsmDwZReferenceIdeal.main_arg0) = m' ((c.tc : Thread Cert.SsmDwZReferenceIdeal.nD Cert.SsmDwZReferenceIdeal.τ).loc Cert.SsmDwZReferenceIdeal.main_arg0)
          ∧ r.2.mem ((c.tc : Thread Cert.SsmDwZReferenceIdeal.nD Cert.SsmDwZReferenceIdeal.τ).loc Cert.SsmDwZReferenceIdeal.main_arg1) = m' ((c.tc : Thread Cert.SsmDwZReferenceIdeal.nD Cert.SsmDwZReferenceIdeal.τ).loc Cert.SsmDwZReferenceIdeal.main_arg1))

def preserves_SsmDwX_SsmDwXIdeal : Prop :=
  True

def algebraic_SsmDwXIdeal_SsmDwXReferenceIdeal [hSsmDwXIdeal : Cert.SsmDwXIdeal.Facts] [hSsmDwXReferenceIdeal : Cert.SsmDwXReferenceIdeal.Facts] : Prop :=
  ∀ (m : (ℓ : Loc Cert.SsmDwXIdeal.nD Cert.SsmDwXIdeal.τ Cert.SsmDwXIdeal.sig) → Buf (Elt Ideal) ℓ) (g : Dev Cert.SsmDwXIdeal.nD → PrngReg)
    (m' : (ℓ : Loc Cert.SsmDwXReferenceIdeal.nD Cert.SsmDwXReferenceIdeal.τ Cert.SsmDwXReferenceIdeal.sig) → Buf (Elt Ideal) ℓ) (g' : Dev Cert.SsmDwXReferenceIdeal.nD → PrngReg), Pre_SsmDwXIdeal m →
    (∀ c : Dev Cert.SsmDwXIdeal.nD,
      m' ((c.tc : Thread Cert.SsmDwXReferenceIdeal.nD Cert.SsmDwXReferenceIdeal.τ).loc Cert.SsmDwXReferenceIdeal.main_arg0) = m ((c.tc : Thread Cert.SsmDwXIdeal.nD Cert.SsmDwXIdeal.τ).loc Cert.SsmDwXIdeal.main_arg0)
      ∧ m' ((c.tc : Thread Cert.SsmDwXReferenceIdeal.nD Cert.SsmDwXReferenceIdeal.τ).loc Cert.SsmDwXReferenceIdeal.main_arg1) = m ((c.tc : Thread Cert.SsmDwXIdeal.nD Cert.SsmDwXIdeal.τ).loc Cert.SsmDwXIdeal.main_arg1)) →
    ∃ (v0 : (c : Dev Cert.SsmDwXIdeal.nD) → Buf (Elt Ideal) ((c.tc : Thread Cert.SsmDwXIdeal.nD Cert.SsmDwXIdeal.τ).loc Cert.SsmDwXIdeal.main_v2)),
      θ_run (Cert.SsmDwXIdeal.defs (F := Ideal)) (onTc (τ := Cert.SsmDwXIdeal.τ) (Cert.SsmDwXIdeal.main (F := Ideal))) ⟨m, fun _ => 0, g⟩ (fun r => ∀ c : Dev Cert.SsmDwXIdeal.nD,
          r.2.mem ((c.tc : Thread Cert.SsmDwXIdeal.nD Cert.SsmDwXIdeal.τ).loc Cert.SsmDwXIdeal.main_v2) = v0 c
          ∧ r.2.mem ((c.tc : Thread Cert.SsmDwXIdeal.nD Cert.SsmDwXIdeal.τ).loc Cert.SsmDwXIdeal.main_arg0) = m ((c.tc : Thread Cert.SsmDwXIdeal.nD Cert.SsmDwXIdeal.τ).loc Cert.SsmDwXIdeal.main_arg0)
          ∧ r.2.mem ((c.tc : Thread Cert.SsmDwXIdeal.nD Cert.SsmDwXIdeal.τ).loc Cert.SsmDwXIdeal.main_arg1) = m ((c.tc : Thread Cert.SsmDwXIdeal.nD Cert.SsmDwXIdeal.τ).loc Cert.SsmDwXIdeal.main_arg1))
      ∧ θ_run (Cert.SsmDwXReferenceIdeal.defs (F := Ideal)) (onTc (τ := Cert.SsmDwXReferenceIdeal.τ) (Cert.SsmDwXReferenceIdeal.main (F := Ideal))) ⟨m', fun _ => 0, g'⟩ (fun r => ∀ c : Dev Cert.SsmDwXReferenceIdeal.nD,
          r.2.mem ((c.tc : Thread Cert.SsmDwXReferenceIdeal.nD Cert.SsmDwXReferenceIdeal.τ).loc Cert.SsmDwXReferenceIdeal.main_v5) = v0 c
          ∧ r.2.mem ((c.tc : Thread Cert.SsmDwXReferenceIdeal.nD Cert.SsmDwXReferenceIdeal.τ).loc Cert.SsmDwXReferenceIdeal.main_arg0) = m' ((c.tc : Thread Cert.SsmDwXReferenceIdeal.nD Cert.SsmDwXReferenceIdeal.τ).loc Cert.SsmDwXReferenceIdeal.main_arg0)
          ∧ r.2.mem ((c.tc : Thread Cert.SsmDwXReferenceIdeal.nD Cert.SsmDwXReferenceIdeal.τ).loc Cert.SsmDwXReferenceIdeal.main_arg1) = m' ((c.tc : Thread Cert.SsmDwXReferenceIdeal.nD Cert.SsmDwXReferenceIdeal.τ).loc Cert.SsmDwXReferenceIdeal.main_arg1))

def preserves_AttnDwIn_AttnDwInIdeal : Prop :=
  True

def algebraic_AttnDwInIdeal_AttnDwInReferenceIdeal [hAttnDwInIdeal : Cert.AttnDwInIdeal.Facts] [hAttnDwInReferenceIdeal : Cert.AttnDwInReferenceIdeal.Facts] : Prop :=
  ∀ (m : (ℓ : Loc Cert.AttnDwInIdeal.nD Cert.AttnDwInIdeal.τ Cert.AttnDwInIdeal.sig) → Buf (Elt Ideal) ℓ) (g : Dev Cert.AttnDwInIdeal.nD → PrngReg)
    (m' : (ℓ : Loc Cert.AttnDwInReferenceIdeal.nD Cert.AttnDwInReferenceIdeal.τ Cert.AttnDwInReferenceIdeal.sig) → Buf (Elt Ideal) ℓ) (g' : Dev Cert.AttnDwInReferenceIdeal.nD → PrngReg), Pre_AttnDwInIdeal m →
    (∀ c : Dev Cert.AttnDwInIdeal.nD,
      m' ((c.tc : Thread Cert.AttnDwInReferenceIdeal.nD Cert.AttnDwInReferenceIdeal.τ).loc Cert.AttnDwInReferenceIdeal.main_arg0) = m ((c.tc : Thread Cert.AttnDwInIdeal.nD Cert.AttnDwInIdeal.τ).loc Cert.AttnDwInIdeal.main_arg0)
      ∧ m' ((c.tc : Thread Cert.AttnDwInReferenceIdeal.nD Cert.AttnDwInReferenceIdeal.τ).loc Cert.AttnDwInReferenceIdeal.main_arg1) = m ((c.tc : Thread Cert.AttnDwInIdeal.nD Cert.AttnDwInIdeal.τ).loc Cert.AttnDwInIdeal.main_arg1)) →
    ∃ (v0 : (c : Dev Cert.AttnDwInIdeal.nD) → Buf (Elt Ideal) ((c.tc : Thread Cert.AttnDwInIdeal.nD Cert.AttnDwInIdeal.τ).loc Cert.AttnDwInIdeal.main_v2)),
      θ_run (Cert.AttnDwInIdeal.defs (F := Ideal)) (onTc (τ := Cert.AttnDwInIdeal.τ) (Cert.AttnDwInIdeal.main (F := Ideal))) ⟨m, fun _ => 0, g⟩ (fun r => ∀ c : Dev Cert.AttnDwInIdeal.nD,
          r.2.mem ((c.tc : Thread Cert.AttnDwInIdeal.nD Cert.AttnDwInIdeal.τ).loc Cert.AttnDwInIdeal.main_v2) = v0 c
          ∧ r.2.mem ((c.tc : Thread Cert.AttnDwInIdeal.nD Cert.AttnDwInIdeal.τ).loc Cert.AttnDwInIdeal.main_arg0) = m ((c.tc : Thread Cert.AttnDwInIdeal.nD Cert.AttnDwInIdeal.τ).loc Cert.AttnDwInIdeal.main_arg0)
          ∧ r.2.mem ((c.tc : Thread Cert.AttnDwInIdeal.nD Cert.AttnDwInIdeal.τ).loc Cert.AttnDwInIdeal.main_arg1) = m ((c.tc : Thread Cert.AttnDwInIdeal.nD Cert.AttnDwInIdeal.τ).loc Cert.AttnDwInIdeal.main_arg1))
      ∧ θ_run (Cert.AttnDwInReferenceIdeal.defs (F := Ideal)) (onTc (τ := Cert.AttnDwInReferenceIdeal.τ) (Cert.AttnDwInReferenceIdeal.main (F := Ideal))) ⟨m', fun _ => 0, g'⟩ (fun r => ∀ c : Dev Cert.AttnDwInReferenceIdeal.nD,
          r.2.mem ((c.tc : Thread Cert.AttnDwInReferenceIdeal.nD Cert.AttnDwInReferenceIdeal.τ).loc Cert.AttnDwInReferenceIdeal.main_v5) = v0 c
          ∧ r.2.mem ((c.tc : Thread Cert.AttnDwInReferenceIdeal.nD Cert.AttnDwInReferenceIdeal.τ).loc Cert.AttnDwInReferenceIdeal.main_arg0) = m' ((c.tc : Thread Cert.AttnDwInReferenceIdeal.nD Cert.AttnDwInReferenceIdeal.τ).loc Cert.AttnDwInReferenceIdeal.main_arg0)
          ∧ r.2.mem ((c.tc : Thread Cert.AttnDwInReferenceIdeal.nD Cert.AttnDwInReferenceIdeal.τ).loc Cert.AttnDwInReferenceIdeal.main_arg1) = m' ((c.tc : Thread Cert.AttnDwInReferenceIdeal.nD Cert.AttnDwInReferenceIdeal.τ).loc Cert.AttnDwInReferenceIdeal.main_arg1))

def preserves_AttnDwOut_AttnDwOutIdeal : Prop :=
  True

def algebraic_AttnDwOutIdeal_AttnDwOutReferenceIdeal [hAttnDwOutIdeal : Cert.AttnDwOutIdeal.Facts] [hAttnDwOutReferenceIdeal : Cert.AttnDwOutReferenceIdeal.Facts] : Prop :=
  ∀ (m : (ℓ : Loc Cert.AttnDwOutIdeal.nD Cert.AttnDwOutIdeal.τ Cert.AttnDwOutIdeal.sig) → Buf (Elt Ideal) ℓ) (g : Dev Cert.AttnDwOutIdeal.nD → PrngReg)
    (m' : (ℓ : Loc Cert.AttnDwOutReferenceIdeal.nD Cert.AttnDwOutReferenceIdeal.τ Cert.AttnDwOutReferenceIdeal.sig) → Buf (Elt Ideal) ℓ) (g' : Dev Cert.AttnDwOutReferenceIdeal.nD → PrngReg), Pre_AttnDwOutIdeal m →
    (∀ c : Dev Cert.AttnDwOutIdeal.nD,
      m' ((c.tc : Thread Cert.AttnDwOutReferenceIdeal.nD Cert.AttnDwOutReferenceIdeal.τ).loc Cert.AttnDwOutReferenceIdeal.main_arg0) = m ((c.tc : Thread Cert.AttnDwOutIdeal.nD Cert.AttnDwOutIdeal.τ).loc Cert.AttnDwOutIdeal.main_arg0)
      ∧ m' ((c.tc : Thread Cert.AttnDwOutReferenceIdeal.nD Cert.AttnDwOutReferenceIdeal.τ).loc Cert.AttnDwOutReferenceIdeal.main_arg1) = m ((c.tc : Thread Cert.AttnDwOutIdeal.nD Cert.AttnDwOutIdeal.τ).loc Cert.AttnDwOutIdeal.main_arg1)) →
    ∃ (v0 : (c : Dev Cert.AttnDwOutIdeal.nD) → Buf (Elt Ideal) ((c.tc : Thread Cert.AttnDwOutIdeal.nD Cert.AttnDwOutIdeal.τ).loc Cert.AttnDwOutIdeal.main_v2)),
      θ_run (Cert.AttnDwOutIdeal.defs (F := Ideal)) (onTc (τ := Cert.AttnDwOutIdeal.τ) (Cert.AttnDwOutIdeal.main (F := Ideal))) ⟨m, fun _ => 0, g⟩ (fun r => ∀ c : Dev Cert.AttnDwOutIdeal.nD,
          r.2.mem ((c.tc : Thread Cert.AttnDwOutIdeal.nD Cert.AttnDwOutIdeal.τ).loc Cert.AttnDwOutIdeal.main_v2) = v0 c
          ∧ r.2.mem ((c.tc : Thread Cert.AttnDwOutIdeal.nD Cert.AttnDwOutIdeal.τ).loc Cert.AttnDwOutIdeal.main_arg0) = m ((c.tc : Thread Cert.AttnDwOutIdeal.nD Cert.AttnDwOutIdeal.τ).loc Cert.AttnDwOutIdeal.main_arg0)
          ∧ r.2.mem ((c.tc : Thread Cert.AttnDwOutIdeal.nD Cert.AttnDwOutIdeal.τ).loc Cert.AttnDwOutIdeal.main_arg1) = m ((c.tc : Thread Cert.AttnDwOutIdeal.nD Cert.AttnDwOutIdeal.τ).loc Cert.AttnDwOutIdeal.main_arg1))
      ∧ θ_run (Cert.AttnDwOutReferenceIdeal.defs (F := Ideal)) (onTc (τ := Cert.AttnDwOutReferenceIdeal.τ) (Cert.AttnDwOutReferenceIdeal.main (F := Ideal))) ⟨m', fun _ => 0, g'⟩ (fun r => ∀ c : Dev Cert.AttnDwOutReferenceIdeal.nD,
          r.2.mem ((c.tc : Thread Cert.AttnDwOutReferenceIdeal.nD Cert.AttnDwOutReferenceIdeal.τ).loc Cert.AttnDwOutReferenceIdeal.main_v4) = v0 c
          ∧ r.2.mem ((c.tc : Thread Cert.AttnDwOutReferenceIdeal.nD Cert.AttnDwOutReferenceIdeal.τ).loc Cert.AttnDwOutReferenceIdeal.main_arg0) = m' ((c.tc : Thread Cert.AttnDwOutReferenceIdeal.nD Cert.AttnDwOutReferenceIdeal.τ).loc Cert.AttnDwOutReferenceIdeal.main_arg0)
          ∧ r.2.mem ((c.tc : Thread Cert.AttnDwOutReferenceIdeal.nD Cert.AttnDwOutReferenceIdeal.τ).loc Cert.AttnDwOutReferenceIdeal.main_arg1) = m' ((c.tc : Thread Cert.AttnDwOutReferenceIdeal.nD Cert.AttnDwOutReferenceIdeal.τ).loc Cert.AttnDwOutReferenceIdeal.main_arg1))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v1) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2))

def preserves_SsmOut_SsmOutIdeal : Prop :=
  True

def algebraic_SsmOutIdeal_SsmOutReferenceIdeal [hSsmOutIdeal : Cert.SsmOutIdeal.Facts] [hSsmOutReferenceIdeal : Cert.SsmOutReferenceIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutReferenceIdeal.nD Cert.SsmOutReferenceIdeal.τ Cert.SsmOutReferenceIdeal.sig) → Buf (Elt Ideal) ℓ) (g' : Dev Cert.SsmOutReferenceIdeal.nD → PrngReg), Pre_SsmOutIdeal m →
    (∀ c : Dev Cert.SsmOutIdeal.nD,
      m' ((c.tc : Thread Cert.SsmOutReferenceIdeal.nD Cert.SsmOutReferenceIdeal.τ).loc Cert.SsmOutReferenceIdeal.main_arg0) = m ((c.tc : Thread Cert.SsmOutIdeal.nD Cert.SsmOutIdeal.τ).loc Cert.SsmOutIdeal.main_arg0)
      ∧ m' ((c.tc : Thread Cert.SsmOutReferenceIdeal.nD Cert.SsmOutReferenceIdeal.τ).loc Cert.SsmOutReferenceIdeal.main_arg1) = m ((c.tc : Thread Cert.SsmOutIdeal.nD Cert.SsmOutIdeal.τ).loc Cert.SsmOutIdeal.main_arg1)
      ∧ m' ((c.tc : Thread Cert.SsmOutReferenceIdeal.nD Cert.SsmOutReferenceIdeal.τ).loc Cert.SsmOutReferenceIdeal.main_arg2) = m ((c.tc : Thread Cert.SsmOutIdeal.nD Cert.SsmOutIdeal.τ).loc Cert.SsmOutIdeal.main_arg2)) →
    ∃ (v0 : (c : Dev Cert.SsmOutIdeal.nD) → Buf (Elt Ideal) ((c.tc : Thread Cert.SsmOutIdeal.nD Cert.SsmOutIdeal.τ).loc Cert.SsmOutIdeal.main_v2)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v2) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ θ_run (Cert.SsmOutReferenceIdeal.defs (F := Ideal)) (onTc (τ := Cert.SsmOutReferenceIdeal.τ) (Cert.SsmOutReferenceIdeal.main (F := Ideal))) ⟨m', fun _ => 0, g'⟩ (fun r => ∀ c : Dev Cert.SsmOutReferenceIdeal.nD,
          r.2.mem ((c.tc : Thread Cert.SsmOutReferenceIdeal.nD Cert.SsmOutReferenceIdeal.τ).loc Cert.SsmOutReferenceIdeal.main_v1) = v0 c
          ∧ r.2.mem ((c.tc : Thread Cert.SsmOutReferenceIdeal.nD Cert.SsmOutReferenceIdeal.τ).loc Cert.SsmOutReferenceIdeal.main_arg0) = m' ((c.tc : Thread Cert.SsmOutReferenceIdeal.nD Cert.SsmOutReferenceIdeal.τ).loc Cert.SsmOutReferenceIdeal.main_arg0)
          ∧ r.2.mem ((c.tc : Thread Cert.SsmOutReferenceIdeal.nD Cert.SsmOutReferenceIdeal.τ).loc Cert.SsmOutReferenceIdeal.main_arg1) = m' ((c.tc : Thread Cert.SsmOutReferenceIdeal.nD Cert.SsmOutReferenceIdeal.τ).loc Cert.SsmOutReferenceIdeal.main_arg1)
          ∧ r.2.mem ((c.tc : Thread Cert.SsmOutReferenceIdeal.nD Cert.SsmOutReferenceIdeal.τ).loc Cert.SsmOutReferenceIdeal.main_arg2) = m' ((c.tc : Thread Cert.SsmOutReferenceIdeal.nD Cert.SsmOutReferenceIdeal.τ).loc Cert.SsmOutReferenceIdeal.main_arg2))

def preserves_SsmDy_SsmDyIdeal : Prop :=
  True

def algebraic_SsmDyIdeal_SsmDyReferenceIdeal [hSsmDyIdeal : Cert.SsmDyIdeal.Facts] [hSsmDyReferenceIdeal : Cert.SsmDyReferenceIdeal.Facts] : Prop :=
  ∀ (m : (ℓ : Loc Cert.SsmDyIdeal.nD Cert.SsmDyIdeal.τ Cert.SsmDyIdeal.sig) → Buf (Elt Ideal) ℓ) (g : Dev Cert.SsmDyIdeal.nD → PrngReg)
    (m' : (ℓ : Loc Cert.SsmDyReferenceIdeal.nD Cert.SsmDyReferenceIdeal.τ Cert.SsmDyReferenceIdeal.sig) → Buf (Elt Ideal) ℓ) (g' : Dev Cert.SsmDyReferenceIdeal.nD → PrngReg), Pre_SsmDyIdeal m →
    (∀ c : Dev Cert.SsmDyIdeal.nD,
      m' ((c.tc : Thread Cert.SsmDyReferenceIdeal.nD Cert.SsmDyReferenceIdeal.τ).loc Cert.SsmDyReferenceIdeal.main_arg0) = m ((c.tc : Thread Cert.SsmDyIdeal.nD Cert.SsmDyIdeal.τ).loc Cert.SsmDyIdeal.main_arg0)
      ∧ m' ((c.tc : Thread Cert.SsmDyReferenceIdeal.nD Cert.SsmDyReferenceIdeal.τ).loc Cert.SsmDyReferenceIdeal.main_arg1) = m ((c.tc : Thread Cert.SsmDyIdeal.nD Cert.SsmDyIdeal.τ).loc Cert.SsmDyIdeal.main_arg1)) →
    ∃ (v0 : (c : Dev Cert.SsmDyIdeal.nD) → Buf (Elt Ideal) ((c.tc : Thread Cert.SsmDyIdeal.nD Cert.SsmDyIdeal.τ).loc Cert.SsmDyIdeal.main_v2)),
      θ_run (Cert.SsmDyIdeal.defs (F := Ideal)) (onTc (τ := Cert.SsmDyIdeal.τ) (Cert.SsmDyIdeal.main (F := Ideal))) ⟨m, fun _ => 0, g⟩ (fun r => ∀ c : Dev Cert.SsmDyIdeal.nD,
          r.2.mem ((c.tc : Thread Cert.SsmDyIdeal.nD Cert.SsmDyIdeal.τ).loc Cert.SsmDyIdeal.main_v2) = v0 c
          ∧ r.2.mem ((c.tc : Thread Cert.SsmDyIdeal.nD Cert.SsmDyIdeal.τ).loc Cert.SsmDyIdeal.main_arg0) = m ((c.tc : Thread Cert.SsmDyIdeal.nD Cert.SsmDyIdeal.τ).loc Cert.SsmDyIdeal.main_arg0)
          ∧ r.2.mem ((c.tc : Thread Cert.SsmDyIdeal.nD Cert.SsmDyIdeal.τ).loc Cert.SsmDyIdeal.main_arg1) = m ((c.tc : Thread Cert.SsmDyIdeal.nD Cert.SsmDyIdeal.τ).loc Cert.SsmDyIdeal.main_arg1))
      ∧ θ_run (Cert.SsmDyReferenceIdeal.defs (F := Ideal)) (onTc (τ := Cert.SsmDyReferenceIdeal.τ) (Cert.SsmDyReferenceIdeal.main (F := Ideal))) ⟨m', fun _ => 0, g'⟩ (fun r => ∀ c : Dev Cert.SsmDyReferenceIdeal.nD,
          r.2.mem ((c.tc : Thread Cert.SsmDyReferenceIdeal.nD Cert.SsmDyReferenceIdeal.τ).loc Cert.SsmDyReferenceIdeal.main_v2) = v0 c
          ∧ r.2.mem ((c.tc : Thread Cert.SsmDyReferenceIdeal.nD Cert.SsmDyReferenceIdeal.τ).loc Cert.SsmDyReferenceIdeal.main_arg0) = m' ((c.tc : Thread Cert.SsmDyReferenceIdeal.nD Cert.SsmDyReferenceIdeal.τ).loc Cert.SsmDyReferenceIdeal.main_arg0)
          ∧ r.2.mem ((c.tc : Thread Cert.SsmDyReferenceIdeal.nD Cert.SsmDyReferenceIdeal.τ).loc Cert.SsmDyReferenceIdeal.main_arg1) = m' ((c.tc : Thread Cert.SsmDyReferenceIdeal.nD Cert.SsmDyReferenceIdeal.τ).loc Cert.SsmDyReferenceIdeal.main_arg1))

def preserves_AttnDo_AttnDoIdeal : Prop :=
  True

def algebraic_AttnDoIdeal_AttnDoReferenceIdeal [hAttnDoIdeal : Cert.AttnDoIdeal.Facts] [hAttnDoReferenceIdeal : Cert.AttnDoReferenceIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg)
    (m' : (ℓ : Loc Cert.AttnDoReferenceIdeal.nD Cert.AttnDoReferenceIdeal.τ Cert.AttnDoReferenceIdeal.sig) → Buf (Elt Ideal) ℓ) (g' : Dev Cert.AttnDoReferenceIdeal.nD → PrngReg), Pre_AttnDoIdeal m →
    (∀ c : Dev Cert.AttnDoIdeal.nD,
      m' ((c.tc : Thread Cert.AttnDoReferenceIdeal.nD Cert.AttnDoReferenceIdeal.τ).loc Cert.AttnDoReferenceIdeal.main_arg0) = m ((c.tc : Thread Cert.AttnDoIdeal.nD Cert.AttnDoIdeal.τ).loc Cert.AttnDoIdeal.main_arg0)
      ∧ m' ((c.tc : Thread Cert.AttnDoReferenceIdeal.nD Cert.AttnDoReferenceIdeal.τ).loc Cert.AttnDoReferenceIdeal.main_arg1) = m ((c.tc : Thread Cert.AttnDoIdeal.nD Cert.AttnDoIdeal.τ).loc Cert.AttnDoIdeal.main_arg1)) →
    ∃ (v0 : (c : Dev Cert.AttnDoIdeal.nD) → Buf (Elt Ideal) ((c.tc : Thread Cert.AttnDoIdeal.nD Cert.AttnDoIdeal.τ).loc Cert.AttnDoIdeal.main_v2)),
      θ_run (Cert.AttnDoIdeal.defs (F := Ideal)) (onTc (τ := Cert.AttnDoIdeal.τ) (Cert.AttnDoIdeal.main (F := Ideal))) ⟨m, fun _ => 0, g⟩ (fun r => ∀ c : Dev Cert.AttnDoIdeal.nD,
          r.2.mem ((c.tc : Thread Cert.AttnDoIdeal.nD Cert.AttnDoIdeal.τ).loc Cert.AttnDoIdeal.main_v2) = v0 c
          ∧ r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
          ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1))
      ∧ θ_run (Cert.AttnDoReferenceIdeal.defs (F := Ideal)) (onTc (τ := Cert.AttnDoReferenceIdeal.τ) (Cert.AttnDoReferenceIdeal.main (F := Ideal))) ⟨m', fun _ => 0, g'⟩ (fun r => ∀ c : Dev Cert.AttnDoReferenceIdeal.nD,
          r.2.mem ((c.tc : Thread Cert.AttnDoReferenceIdeal.nD Cert.AttnDoReferenceIdeal.τ).loc Cert.AttnDoReferenceIdeal.main_v3) = v0 c
          ∧ r.2.mem ((c.tc : Thread Cert.AttnDoReferenceIdeal.nD Cert.AttnDoReferenceIdeal.τ).loc Cert.AttnDoReferenceIdeal.main_arg0) = m' ((c.tc : Thread Cert.AttnDoReferenceIdeal.nD Cert.AttnDoReferenceIdeal.τ).loc Cert.AttnDoReferenceIdeal.main_arg0)
          ∧ r.2.mem ((c.tc : Thread Cert.AttnDoReferenceIdeal.nD Cert.AttnDoReferenceIdeal.τ).loc Cert.AttnDoReferenceIdeal.main_arg1) = m' ((c.tc : Thread Cert.AttnDoReferenceIdeal.nD Cert.AttnDoReferenceIdeal.τ).loc Cert.AttnDoReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v3)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v3) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v2) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3))

def preserves_AttnIn_AttnInIdeal : Prop :=
  True

def algebraic_AttnInIdeal_AttnInReferenceIdeal [hAttnInIdeal : Cert.AttnInIdeal.Facts] [hAttnInReferenceIdeal : Cert.AttnInReferenceIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInReferenceIdeal.nD Cert.AttnInReferenceIdeal.τ Cert.AttnInReferenceIdeal.sig) → Buf (Elt Ideal) ℓ) (g' : Dev Cert.AttnInReferenceIdeal.nD → PrngReg), Pre_AttnInIdeal m →
    (∀ c : Dev Cert.AttnInIdeal.nD,
      m' ((c.tc : Thread Cert.AttnInReferenceIdeal.nD Cert.AttnInReferenceIdeal.τ).loc Cert.AttnInReferenceIdeal.main_arg0) = m ((c.tc : Thread Cert.AttnInIdeal.nD Cert.AttnInIdeal.τ).loc Cert.AttnInIdeal.main_arg0)
      ∧ m' ((c.tc : Thread Cert.AttnInReferenceIdeal.nD Cert.AttnInReferenceIdeal.τ).loc Cert.AttnInReferenceIdeal.main_arg1) = m ((c.tc : Thread Cert.AttnInIdeal.nD Cert.AttnInIdeal.τ).loc Cert.AttnInIdeal.main_arg1)
      ∧ m' ((c.tc : Thread Cert.AttnInReferenceIdeal.nD Cert.AttnInReferenceIdeal.τ).loc Cert.AttnInReferenceIdeal.main_arg2) = m ((c.tc : Thread Cert.AttnInIdeal.nD Cert.AttnInIdeal.τ).loc Cert.AttnInIdeal.main_arg2)) →
    ∃ (v0 : (c : Dev Cert.AttnInIdeal.nD) → Buf (Elt Ideal) ((c.tc : Thread Cert.AttnInIdeal.nD Cert.AttnInIdeal.τ).loc Cert.AttnInIdeal.main_v2_0)) (v1 : (c : Dev Cert.AttnInIdeal.nD) → Buf (Elt Ideal) ((c.tc : Thread Cert.AttnInIdeal.nD Cert.AttnInIdeal.τ).loc Cert.AttnInIdeal.main_v2_1)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v2_0) = v0 c
          ∧ r.2.mem ((c.tc : Thread Cert.AttnInIdeal.nD Cert.AttnInIdeal.τ).loc Cert.AttnInIdeal.main_v2_1) = v1 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2))
      ∧ θ_run (Cert.AttnInReferenceIdeal.defs (F := Ideal)) (onTc (τ := Cert.AttnInReferenceIdeal.τ) (Cert.AttnInReferenceIdeal.main (F := Ideal))) ⟨m', fun _ => 0, g'⟩ (fun r => ∀ c : Dev Cert.AttnInReferenceIdeal.nD,
          r.2.mem ((c.tc : Thread Cert.AttnInReferenceIdeal.nD Cert.AttnInReferenceIdeal.τ).loc Cert.AttnInReferenceIdeal.main_v12) = v0 c
          ∧ r.2.mem ((c.tc : Thread Cert.AttnInReferenceIdeal.nD Cert.AttnInReferenceIdeal.τ).loc Cert.AttnInReferenceIdeal.main_v13) = v1 c
          ∧ r.2.mem ((c.tc : Thread Cert.AttnInReferenceIdeal.nD Cert.AttnInReferenceIdeal.τ).loc Cert.AttnInReferenceIdeal.main_arg0) = m' ((c.tc : Thread Cert.AttnInReferenceIdeal.nD Cert.AttnInReferenceIdeal.τ).loc Cert.AttnInReferenceIdeal.main_arg0)
          ∧ r.2.mem ((c.tc : Thread Cert.AttnInReferenceIdeal.nD Cert.AttnInReferenceIdeal.τ).loc Cert.AttnInReferenceIdeal.main_arg1) = m' ((c.tc : Thread Cert.AttnInReferenceIdeal.nD Cert.AttnInReferenceIdeal.τ).loc Cert.AttnInReferenceIdeal.main_arg1)
          ∧ r.2.mem ((c.tc : Thread Cert.AttnInReferenceIdeal.nD Cert.AttnInReferenceIdeal.τ).loc Cert.AttnInReferenceIdeal.main_arg2) = m' ((c.tc : Thread Cert.AttnInReferenceIdeal.nD Cert.AttnInReferenceIdeal.τ).loc Cert.AttnInReferenceIdeal.main_arg2))

def preserves_FfnDh_FfnDhIdeal : Prop :=
  True

def algebraic_FfnDhIdeal_FfnDhReferenceIdeal [hFfnDhIdeal : Cert.FfnDhIdeal.Facts] [hFfnDhReferenceIdeal : Cert.FfnDhReferenceIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhReferenceIdeal.nD Cert.FfnDhReferenceIdeal.τ Cert.FfnDhReferenceIdeal.sig) → Buf (Elt Ideal) ℓ) (g' : Dev Cert.FfnDhReferenceIdeal.nD → PrngReg), Pre_FfnDhIdeal m →
    (∀ c : Dev Cert.FfnDhIdeal.nD,
      m' ((c.tc : Thread Cert.FfnDhReferenceIdeal.nD Cert.FfnDhReferenceIdeal.τ).loc Cert.FfnDhReferenceIdeal.main_arg0) = m ((c.tc : Thread Cert.FfnDhIdeal.nD Cert.FfnDhIdeal.τ).loc Cert.FfnDhIdeal.main_arg0)
      ∧ m' ((c.tc : Thread Cert.FfnDhReferenceIdeal.nD Cert.FfnDhReferenceIdeal.τ).loc Cert.FfnDhReferenceIdeal.main_arg1) = m ((c.tc : Thread Cert.FfnDhIdeal.nD Cert.FfnDhIdeal.τ).loc Cert.FfnDhIdeal.main_arg1)
      ∧ m' ((c.tc : Thread Cert.FfnDhReferenceIdeal.nD Cert.FfnDhReferenceIdeal.τ).loc Cert.FfnDhReferenceIdeal.main_arg2) = m ((c.tc : Thread Cert.FfnDhIdeal.nD Cert.FfnDhIdeal.τ).loc Cert.FfnDhIdeal.main_arg2)
      ∧ m' ((c.tc : Thread Cert.FfnDhReferenceIdeal.nD Cert.FfnDhReferenceIdeal.τ).loc Cert.FfnDhReferenceIdeal.main_arg3) = m ((c.tc : Thread Cert.FfnDhIdeal.nD Cert.FfnDhIdeal.τ).loc Cert.FfnDhIdeal.main_arg3)
      ∧ m' ((c.tc : Thread Cert.FfnDhReferenceIdeal.nD Cert.FfnDhReferenceIdeal.τ).loc Cert.FfnDhReferenceIdeal.main_arg4) = m ((c.tc : Thread Cert.FfnDhIdeal.nD Cert.FfnDhIdeal.τ).loc Cert.FfnDhIdeal.main_arg4)) →
    ∃ (v0 : (c : Dev Cert.FfnDhIdeal.nD) → Buf (Elt Ideal) ((c.tc : Thread Cert.FfnDhIdeal.nD Cert.FfnDhIdeal.τ).loc Cert.FfnDhIdeal.main_v3_0)) (v1 : (c : Dev Cert.FfnDhIdeal.nD) → Buf (Elt Ideal) ((c.tc : Thread Cert.FfnDhIdeal.nD Cert.FfnDhIdeal.τ).loc Cert.FfnDhIdeal.main_v3_1)) (v2 : (c : Dev Cert.FfnDhIdeal.nD) → Buf (Elt Ideal) ((c.tc : Thread Cert.FfnDhIdeal.nD Cert.FfnDhIdeal.τ).loc Cert.FfnDhIdeal.main_v3_2)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v3_0) = v0 c
          ∧ r.2.mem ((c.tc : Thread Cert.FfnDhIdeal.nD Cert.FfnDhIdeal.τ).loc Cert.FfnDhIdeal.main_v3_1) = v1 c
          ∧ r.2.mem ((c.tc : Thread Cert.FfnDhIdeal.nD Cert.FfnDhIdeal.τ).loc Cert.FfnDhIdeal.main_v3_2) = v2 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4))
      ∧ θ_run (Cert.FfnDhReferenceIdeal.defs (F := Ideal)) (onTc (τ := Cert.FfnDhReferenceIdeal.τ) (Cert.FfnDhReferenceIdeal.main (F := Ideal))) ⟨m', fun _ => 0, g'⟩ (fun r => ∀ c : Dev Cert.FfnDhReferenceIdeal.nD,
          r.2.mem ((c.tc : Thread Cert.FfnDhReferenceIdeal.nD Cert.FfnDhReferenceIdeal.τ).loc Cert.FfnDhReferenceIdeal.main_v36) = v0 c
          ∧ r.2.mem ((c.tc : Thread Cert.FfnDhReferenceIdeal.nD Cert.FfnDhReferenceIdeal.τ).loc Cert.FfnDhReferenceIdeal.main_v37) = v1 c
          ∧ r.2.mem ((c.tc : Thread Cert.FfnDhReferenceIdeal.nD Cert.FfnDhReferenceIdeal.τ).loc Cert.FfnDhReferenceIdeal.main_v19) = v2 c
          ∧ r.2.mem ((c.tc : Thread Cert.FfnDhReferenceIdeal.nD Cert.FfnDhReferenceIdeal.τ).loc Cert.FfnDhReferenceIdeal.main_arg0) = m' ((c.tc : Thread Cert.FfnDhReferenceIdeal.nD Cert.FfnDhReferenceIdeal.τ).loc Cert.FfnDhReferenceIdeal.main_arg0)
          ∧ r.2.mem ((c.tc : Thread Cert.FfnDhReferenceIdeal.nD Cert.FfnDhReferenceIdeal.τ).loc Cert.FfnDhReferenceIdeal.main_arg1) = m' ((c.tc : Thread Cert.FfnDhReferenceIdeal.nD Cert.FfnDhReferenceIdeal.τ).loc Cert.FfnDhReferenceIdeal.main_arg1)
          ∧ r.2.mem ((c.tc : Thread Cert.FfnDhReferenceIdeal.nD Cert.FfnDhReferenceIdeal.τ).loc Cert.FfnDhReferenceIdeal.main_arg2) = m' ((c.tc : Thread Cert.FfnDhReferenceIdeal.nD Cert.FfnDhReferenceIdeal.τ).loc Cert.FfnDhReferenceIdeal.main_arg2)
          ∧ r.2.mem ((c.tc : Thread Cert.FfnDhReferenceIdeal.nD Cert.FfnDhReferenceIdeal.τ).loc Cert.FfnDhReferenceIdeal.main_arg3) = m' ((c.tc : Thread Cert.FfnDhReferenceIdeal.nD Cert.FfnDhReferenceIdeal.τ).loc Cert.FfnDhReferenceIdeal.main_arg3)
          ∧ r.2.mem ((c.tc : Thread Cert.FfnDhReferenceIdeal.nD Cert.FfnDhReferenceIdeal.τ).loc Cert.FfnDhReferenceIdeal.main_arg4) = m' ((c.tc : Thread Cert.FfnDhReferenceIdeal.nD Cert.FfnDhReferenceIdeal.τ).loc Cert.FfnDhReferenceIdeal.main_arg4))

def preserves_FfnLoss_FfnLossIdeal : Prop :=
  True

def algebraic_FfnLossIdeal_FfnLossReferenceIdeal [hFfnLossIdeal : Cert.FfnLossIdeal.Facts] [hFfnLossReferenceIdeal : Cert.FfnLossReferenceIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossReferenceIdeal.nD Cert.FfnLossReferenceIdeal.τ Cert.FfnLossReferenceIdeal.sig) → Buf (Elt Ideal) ℓ) (g' : Dev Cert.FfnLossReferenceIdeal.nD → PrngReg), Pre_FfnLossIdeal m →
    (∀ c : Dev Cert.FfnLossIdeal.nD,
      m' ((c.tc : Thread Cert.FfnLossReferenceIdeal.nD Cert.FfnLossReferenceIdeal.τ).loc Cert.FfnLossReferenceIdeal.main_arg0) = m ((c.tc : Thread Cert.FfnLossIdeal.nD Cert.FfnLossIdeal.τ).loc Cert.FfnLossIdeal.main_arg0)
      ∧ m' ((c.tc : Thread Cert.FfnLossReferenceIdeal.nD Cert.FfnLossReferenceIdeal.τ).loc Cert.FfnLossReferenceIdeal.main_arg1) = m ((c.tc : Thread Cert.FfnLossIdeal.nD Cert.FfnLossIdeal.τ).loc Cert.FfnLossIdeal.main_arg1)
      ∧ m' ((c.tc : Thread Cert.FfnLossReferenceIdeal.nD Cert.FfnLossReferenceIdeal.τ).loc Cert.FfnLossReferenceIdeal.main_arg2) = m ((c.tc : Thread Cert.FfnLossIdeal.nD Cert.FfnLossIdeal.τ).loc Cert.FfnLossIdeal.main_arg2)
      ∧ m' ((c.tc : Thread Cert.FfnLossReferenceIdeal.nD Cert.FfnLossReferenceIdeal.τ).loc Cert.FfnLossReferenceIdeal.main_arg3) = m ((c.tc : Thread Cert.FfnLossIdeal.nD Cert.FfnLossIdeal.τ).loc Cert.FfnLossIdeal.main_arg3)) →
    ∃ (v0 : (c : Dev Cert.FfnLossIdeal.nD) → Buf (Elt Ideal) ((c.tc : Thread Cert.FfnLossIdeal.nD Cert.FfnLossIdeal.τ).loc Cert.FfnLossIdeal.main_v2_0)) (v1 : (c : Dev Cert.FfnLossIdeal.nD) → Buf (Elt Ideal) ((c.tc : Thread Cert.FfnLossIdeal.nD Cert.FfnLossIdeal.τ).loc Cert.FfnLossIdeal.main_v2_1)) (v2 : (c : Dev Cert.FfnLossIdeal.nD) → Buf (Elt Ideal) ((c.tc : Thread Cert.FfnLossIdeal.nD Cert.FfnLossIdeal.τ).loc Cert.FfnLossIdeal.main_v2_2)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v2_0) = v0 c
          ∧ r.2.mem ((c.tc : Thread Cert.FfnLossIdeal.nD Cert.FfnLossIdeal.τ).loc Cert.FfnLossIdeal.main_v2_1) = v1 c
          ∧ r.2.mem ((c.tc : Thread Cert.FfnLossIdeal.nD Cert.FfnLossIdeal.τ).loc Cert.FfnLossIdeal.main_v2_2) = v2 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3))
      ∧ θ_run (Cert.FfnLossReferenceIdeal.defs (F := Ideal)) (onTc (τ := Cert.FfnLossReferenceIdeal.τ) (Cert.FfnLossReferenceIdeal.main (F := Ideal))) ⟨m', fun _ => 0, g'⟩ (fun r => ∀ c : Dev Cert.FfnLossReferenceIdeal.nD,
          r.2.mem ((c.tc : Thread Cert.FfnLossReferenceIdeal.nD Cert.FfnLossReferenceIdeal.τ).loc Cert.FfnLossReferenceIdeal.main_v16) = v0 c
          ∧ r.2.mem ((c.tc : Thread Cert.FfnLossReferenceIdeal.nD Cert.FfnLossReferenceIdeal.τ).loc Cert.FfnLossReferenceIdeal.main_v17) = v1 c
          ∧ r.2.mem ((c.tc : Thread Cert.FfnLossReferenceIdeal.nD Cert.FfnLossReferenceIdeal.τ).loc Cert.FfnLossReferenceIdeal.main_v21) = v2 c
          ∧ r.2.mem ((c.tc : Thread Cert.FfnLossReferenceIdeal.nD Cert.FfnLossReferenceIdeal.τ).loc Cert.FfnLossReferenceIdeal.main_arg0) = m' ((c.tc : Thread Cert.FfnLossReferenceIdeal.nD Cert.FfnLossReferenceIdeal.τ).loc Cert.FfnLossReferenceIdeal.main_arg0)
          ∧ r.2.mem ((c.tc : Thread Cert.FfnLossReferenceIdeal.nD Cert.FfnLossReferenceIdeal.τ).loc Cert.FfnLossReferenceIdeal.main_arg1) = m' ((c.tc : Thread Cert.FfnLossReferenceIdeal.nD Cert.FfnLossReferenceIdeal.τ).loc Cert.FfnLossReferenceIdeal.main_arg1)
          ∧ r.2.mem ((c.tc : Thread Cert.FfnLossReferenceIdeal.nD Cert.FfnLossReferenceIdeal.τ).loc Cert.FfnLossReferenceIdeal.main_arg2) = m' ((c.tc : Thread Cert.FfnLossReferenceIdeal.nD Cert.FfnLossReferenceIdeal.τ).loc Cert.FfnLossReferenceIdeal.main_arg2)
          ∧ r.2.mem ((c.tc : Thread Cert.FfnLossReferenceIdeal.nD Cert.FfnLossReferenceIdeal.τ).loc Cert.FfnLossReferenceIdeal.main_arg3) = m' ((c.tc : Thread Cert.FfnLossReferenceIdeal.nD Cert.FfnLossReferenceIdeal.τ).loc Cert.FfnLossReferenceIdeal.main_arg3))

def preserves_FfnIn_FfnInIdeal : Prop :=
  True

def algebraic_FfnInIdeal_FfnInReferenceIdeal [hFfnInIdeal : Cert.FfnInIdeal.Facts] [hFfnInReferenceIdeal : Cert.FfnInReferenceIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInIdeal m →
    (∀ c : Dev Cert.FfnInIdeal.nD,
      m' ((c.tc : Thread Cert.FfnInReferenceIdeal.nD Cert.FfnInReferenceIdeal.τ).loc Cert.FfnInReferenceIdeal.main_arg0) = m ((c.tc : Thread Cert.FfnInIdeal.nD Cert.FfnInIdeal.τ).loc Cert.FfnInIdeal.main_arg0)
      ∧ m' ((c.tc : Thread Cert.FfnInReferenceIdeal.nD Cert.FfnInReferenceIdeal.τ).loc Cert.FfnInReferenceIdeal.main_arg1) = m ((c.tc : Thread Cert.FfnInIdeal.nD Cert.FfnInIdeal.τ).loc Cert.FfnInIdeal.main_arg1)
      ∧ m' ((c.tc : Thread Cert.FfnInReferenceIdeal.nD Cert.FfnInReferenceIdeal.τ).loc Cert.FfnInReferenceIdeal.main_arg2) = m ((c.tc : Thread Cert.FfnInIdeal.nD Cert.FfnInIdeal.τ).loc Cert.FfnInIdeal.main_arg2)
      ∧ m' ((c.tc : Thread Cert.FfnInReferenceIdeal.nD Cert.FfnInReferenceIdeal.τ).loc Cert.FfnInReferenceIdeal.main_arg3) = m ((c.tc : Thread Cert.FfnInIdeal.nD Cert.FfnInIdeal.τ).loc Cert.FfnInIdeal.main_arg3)
      ∧ m' ((c.tc : Thread Cert.FfnInReferenceIdeal.nD Cert.FfnInReferenceIdeal.τ).loc Cert.FfnInReferenceIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)) (v2 : (c : Dev Cert.FfnInIdeal.nD) → Buf (Elt Ideal) ((c.tc : Thread Cert.FfnInIdeal.nD Cert.FfnInIdeal.τ).loc Cert.FfnInIdeal.main_v3_2)) (v3 : (c : Dev Cert.FfnInIdeal.nD) → Buf (Elt Ideal) ((c.tc : Thread Cert.FfnInIdeal.nD Cert.FfnInIdeal.τ).loc Cert.FfnInIdeal.main_v3_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_v3_2) = v2 c
          ∧ r.2.mem ((c.tc : Thread Cert.FfnInIdeal.nD Cert.FfnInIdeal.τ).loc Cert.FfnInIdeal.main_v3_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v43) = v0 c
          ∧ r.2.mem ((c.tc : Thread Cert.FfnInReferenceIdeal.nD Cert.FfnInReferenceIdeal.τ).loc Cert.FfnInReferenceIdeal.main_v44) = v1 c
          ∧ r.2.mem ((c.tc : Thread Cert.FfnInReferenceIdeal.nD Cert.FfnInReferenceIdeal.τ).loc Cert.FfnInReferenceIdeal.main_v45) = v2 c
          ∧ r.2.mem ((c.tc : Thread Cert.FfnInReferenceIdeal.nD Cert.FfnInReferenceIdeal.τ).loc Cert.FfnInReferenceIdeal.main_v46) = v3 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3)
          ∧ r.2.mem ((c.tc : Thread Cert.FfnInReferenceIdeal.nD Cert.FfnInReferenceIdeal.τ).loc Cert.FfnInReferenceIdeal.main_arg4) = m' ((c.tc : Thread Cert.FfnInReferenceIdeal.nD Cert.FfnInReferenceIdeal.τ).loc Cert.FfnInReferenceIdeal.main_arg4))

def preserves_SsmDh_SsmDhIdeal : Prop :=
  True

def algebraic_SsmDhIdeal_SsmDhReferenceIdeal [hSsmDhIdeal : Cert.SsmDhIdeal.Facts] [hSsmDhReferenceIdeal : Cert.SsmDhReferenceIdeal.Facts] : Prop :=
  ∀ (m : (ℓ : Loc Cert.SsmDhIdeal.nD Cert.SsmDhIdeal.τ Cert.SsmDhIdeal.sig) → Buf (Elt Ideal) ℓ) (g : Dev Cert.SsmDhIdeal.nD → PrngReg)
    (m' : (ℓ : Loc Cert.SsmDhReferenceIdeal.nD Cert.SsmDhReferenceIdeal.τ Cert.SsmDhReferenceIdeal.sig) → Buf (Elt Ideal) ℓ) (g' : Dev Cert.SsmDhReferenceIdeal.nD → PrngReg), Pre_SsmDhIdeal m →
    (∀ c : Dev Cert.SsmDhIdeal.nD,
      m' ((c.tc : Thread Cert.SsmDhReferenceIdeal.nD Cert.SsmDhReferenceIdeal.τ).loc Cert.SsmDhReferenceIdeal.main_arg0) = m ((c.tc : Thread Cert.SsmDhIdeal.nD Cert.SsmDhIdeal.τ).loc Cert.SsmDhIdeal.main_arg0)
      ∧ m' ((c.tc : Thread Cert.SsmDhReferenceIdeal.nD Cert.SsmDhReferenceIdeal.τ).loc Cert.SsmDhReferenceIdeal.main_arg1) = m ((c.tc : Thread Cert.SsmDhIdeal.nD Cert.SsmDhIdeal.τ).loc Cert.SsmDhIdeal.main_arg1)
      ∧ m' ((c.tc : Thread Cert.SsmDhReferenceIdeal.nD Cert.SsmDhReferenceIdeal.τ).loc Cert.SsmDhReferenceIdeal.main_arg2) = m ((c.tc : Thread Cert.SsmDhIdeal.nD Cert.SsmDhIdeal.τ).loc Cert.SsmDhIdeal.main_arg2)
      ∧ m' ((c.tc : Thread Cert.SsmDhReferenceIdeal.nD Cert.SsmDhReferenceIdeal.τ).loc Cert.SsmDhReferenceIdeal.main_arg3) = m ((c.tc : Thread Cert.SsmDhIdeal.nD Cert.SsmDhIdeal.τ).loc Cert.SsmDhIdeal.main_arg3)
      ∧ m' ((c.tc : Thread Cert.SsmDhReferenceIdeal.nD Cert.SsmDhReferenceIdeal.τ).loc Cert.SsmDhReferenceIdeal.main_arg4) = m ((c.tc : Thread Cert.SsmDhIdeal.nD Cert.SsmDhIdeal.τ).loc Cert.SsmDhIdeal.main_arg4)
      ∧ m' ((c.tc : Thread Cert.SsmDhReferenceIdeal.nD Cert.SsmDhReferenceIdeal.τ).loc Cert.SsmDhReferenceIdeal.main_arg5) = m ((c.tc : Thread Cert.SsmDhIdeal.nD Cert.SsmDhIdeal.τ).loc Cert.SsmDhIdeal.main_arg5)
      ∧ m' ((c.tc : Thread Cert.SsmDhReferenceIdeal.nD Cert.SsmDhReferenceIdeal.τ).loc Cert.SsmDhReferenceIdeal.main_arg6) = m ((c.tc : Thread Cert.SsmDhIdeal.nD Cert.SsmDhIdeal.τ).loc Cert.SsmDhIdeal.main_arg6)) →
    ∃ (v0 : (c : Dev Cert.SsmDhIdeal.nD) → Buf (Elt Ideal) ((c.tc : Thread Cert.SsmDhIdeal.nD Cert.SsmDhIdeal.τ).loc Cert.SsmDhIdeal.main_v8_0)) (v1 : (c : Dev Cert.SsmDhIdeal.nD) → Buf (Elt Ideal) ((c.tc : Thread Cert.SsmDhIdeal.nD Cert.SsmDhIdeal.τ).loc Cert.SsmDhIdeal.main_v8_1)) (v2 : (c : Dev Cert.SsmDhIdeal.nD) → Buf (Elt Ideal) ((c.tc : Thread Cert.SsmDhIdeal.nD Cert.SsmDhIdeal.τ).loc Cert.SsmDhIdeal.main_v8_2)),
      θ_run (Cert.SsmDhIdeal.defs (F := Ideal)) (onTc (τ := Cert.SsmDhIdeal.τ) (Cert.SsmDhIdeal.main (F := Ideal))) ⟨m, fun _ => 0, g⟩ (fun r => ∀ c : Dev Cert.SsmDhIdeal.nD,
          r.2.mem ((c.tc : Thread Cert.SsmDhIdeal.nD Cert.SsmDhIdeal.τ).loc Cert.SsmDhIdeal.main_v8_0) = v0 c
          ∧ r.2.mem ((c.tc : Thread Cert.SsmDhIdeal.nD Cert.SsmDhIdeal.τ).loc Cert.SsmDhIdeal.main_v8_1) = v1 c
          ∧ r.2.mem ((c.tc : Thread Cert.SsmDhIdeal.nD Cert.SsmDhIdeal.τ).loc Cert.SsmDhIdeal.main_v8_2) = v2 c
          ∧ r.2.mem ((c.tc : Thread Cert.SsmDhIdeal.nD Cert.SsmDhIdeal.τ).loc Cert.SsmDhIdeal.main_arg0) = m ((c.tc : Thread Cert.SsmDhIdeal.nD Cert.SsmDhIdeal.τ).loc Cert.SsmDhIdeal.main_arg0)
          ∧ r.2.mem ((c.tc : Thread Cert.SsmDhIdeal.nD Cert.SsmDhIdeal.τ).loc Cert.SsmDhIdeal.main_arg1) = m ((c.tc : Thread Cert.SsmDhIdeal.nD Cert.SsmDhIdeal.τ).loc Cert.SsmDhIdeal.main_arg1)
          ∧ r.2.mem ((c.tc : Thread Cert.SsmDhIdeal.nD Cert.SsmDhIdeal.τ).loc Cert.SsmDhIdeal.main_arg2) = m ((c.tc : Thread Cert.SsmDhIdeal.nD Cert.SsmDhIdeal.τ).loc Cert.SsmDhIdeal.main_arg2)
          ∧ r.2.mem ((c.tc : Thread Cert.SsmDhIdeal.nD Cert.SsmDhIdeal.τ).loc Cert.SsmDhIdeal.main_arg3) = m ((c.tc : Thread Cert.SsmDhIdeal.nD Cert.SsmDhIdeal.τ).loc Cert.SsmDhIdeal.main_arg3)
          ∧ r.2.mem ((c.tc : Thread Cert.SsmDhIdeal.nD Cert.SsmDhIdeal.τ).loc Cert.SsmDhIdeal.main_arg4) = m ((c.tc : Thread Cert.SsmDhIdeal.nD Cert.SsmDhIdeal.τ).loc Cert.SsmDhIdeal.main_arg4)
          ∧ r.2.mem ((c.tc : Thread Cert.SsmDhIdeal.nD Cert.SsmDhIdeal.τ).loc Cert.SsmDhIdeal.main_arg5) = m ((c.tc : Thread Cert.SsmDhIdeal.nD Cert.SsmDhIdeal.τ).loc Cert.SsmDhIdeal.main_arg5)
          ∧ r.2.mem ((c.tc : Thread Cert.SsmDhIdeal.nD Cert.SsmDhIdeal.τ).loc Cert.SsmDhIdeal.main_arg6) = m ((c.tc : Thread Cert.SsmDhIdeal.nD Cert.SsmDhIdeal.τ).loc Cert.SsmDhIdeal.main_arg6))
      ∧ θ_run (Cert.SsmDhReferenceIdeal.defs (F := Ideal)) (onTc (τ := Cert.SsmDhReferenceIdeal.τ) (Cert.SsmDhReferenceIdeal.main (F := Ideal))) ⟨m', fun _ => 0, g'⟩ (fun r => ∀ c : Dev Cert.SsmDhReferenceIdeal.nD,
          r.2.mem ((c.tc : Thread Cert.SsmDhReferenceIdeal.nD Cert.SsmDhReferenceIdeal.τ).loc Cert.SsmDhReferenceIdeal.main_v40) = v0 c
          ∧ r.2.mem ((c.tc : Thread Cert.SsmDhReferenceIdeal.nD Cert.SsmDhReferenceIdeal.τ).loc Cert.SsmDhReferenceIdeal.main_v41) = v1 c
          ∧ r.2.mem ((c.tc : Thread Cert.SsmDhReferenceIdeal.nD Cert.SsmDhReferenceIdeal.τ).loc Cert.SsmDhReferenceIdeal.main_v23) = v2 c
          ∧ r.2.mem ((c.tc : Thread Cert.SsmDhReferenceIdeal.nD Cert.SsmDhReferenceIdeal.τ).loc Cert.SsmDhReferenceIdeal.main_arg0) = m' ((c.tc : Thread Cert.SsmDhReferenceIdeal.nD Cert.SsmDhReferenceIdeal.τ).loc Cert.SsmDhReferenceIdeal.main_arg0)
          ∧ r.2.mem ((c.tc : Thread Cert.SsmDhReferenceIdeal.nD Cert.SsmDhReferenceIdeal.τ).loc Cert.SsmDhReferenceIdeal.main_arg1) = m' ((c.tc : Thread Cert.SsmDhReferenceIdeal.nD Cert.SsmDhReferenceIdeal.τ).loc Cert.SsmDhReferenceIdeal.main_arg1)
          ∧ r.2.mem ((c.tc : Thread Cert.SsmDhReferenceIdeal.nD Cert.SsmDhReferenceIdeal.τ).loc Cert.SsmDhReferenceIdeal.main_arg2) = m' ((c.tc : Thread Cert.SsmDhReferenceIdeal.nD Cert.SsmDhReferenceIdeal.τ).loc Cert.SsmDhReferenceIdeal.main_arg2)
          ∧ r.2.mem ((c.tc : Thread Cert.SsmDhReferenceIdeal.nD Cert.SsmDhReferenceIdeal.τ).loc Cert.SsmDhReferenceIdeal.main_arg3) = m' ((c.tc : Thread Cert.SsmDhReferenceIdeal.nD Cert.SsmDhReferenceIdeal.τ).loc Cert.SsmDhReferenceIdeal.main_arg3)
          ∧ r.2.mem ((c.tc : Thread Cert.SsmDhReferenceIdeal.nD Cert.SsmDhReferenceIdeal.τ).loc Cert.SsmDhReferenceIdeal.main_arg4) = m' ((c.tc : Thread Cert.SsmDhReferenceIdeal.nD Cert.SsmDhReferenceIdeal.τ).loc Cert.SsmDhReferenceIdeal.main_arg4)
          ∧ r.2.mem ((c.tc : Thread Cert.SsmDhReferenceIdeal.nD Cert.SsmDhReferenceIdeal.τ).loc Cert.SsmDhReferenceIdeal.main_arg5) = m' ((c.tc : Thread Cert.SsmDhReferenceIdeal.nD Cert.SsmDhReferenceIdeal.τ).loc Cert.SsmDhReferenceIdeal.main_arg5)
          ∧ r.2.mem ((c.tc : Thread Cert.SsmDhReferenceIdeal.nD Cert.SsmDhReferenceIdeal.τ).loc Cert.SsmDhReferenceIdeal.main_arg6) = m' ((c.tc : Thread Cert.SsmDhReferenceIdeal.nD Cert.SsmDhReferenceIdeal.τ).loc Cert.SsmDhReferenceIdeal.main_arg6))

def preserves_SsmIn_SsmInIdeal : Prop :=
  True

def algebraic_SsmInIdeal_SsmInReferenceIdeal [hSsmInIdeal : Cert.SsmInIdeal.Facts] [hSsmInReferenceIdeal : Cert.SsmInReferenceIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInReferenceIdeal.nD Cert.SsmInReferenceIdeal.τ Cert.SsmInReferenceIdeal.sig) → Buf (Elt Ideal) ℓ) (g' : Dev Cert.SsmInReferenceIdeal.nD → PrngReg), Pre_SsmInIdeal m →
    (∀ c : Dev Cert.SsmInIdeal.nD,
      m' ((c.tc : Thread Cert.SsmInReferenceIdeal.nD Cert.SsmInReferenceIdeal.τ).loc Cert.SsmInReferenceIdeal.main_arg0) = m ((c.tc : Thread Cert.SsmInIdeal.nD Cert.SsmInIdeal.τ).loc Cert.SsmInIdeal.main_arg0)
      ∧ m' ((c.tc : Thread Cert.SsmInReferenceIdeal.nD Cert.SsmInReferenceIdeal.τ).loc Cert.SsmInReferenceIdeal.main_arg1) = m ((c.tc : Thread Cert.SsmInIdeal.nD Cert.SsmInIdeal.τ).loc Cert.SsmInIdeal.main_arg1)
      ∧ m' ((c.tc : Thread Cert.SsmInReferenceIdeal.nD Cert.SsmInReferenceIdeal.τ).loc Cert.SsmInReferenceIdeal.main_arg2) = m ((c.tc : Thread Cert.SsmInIdeal.nD Cert.SsmInIdeal.τ).loc Cert.SsmInIdeal.main_arg2)
      ∧ m' ((c.tc : Thread Cert.SsmInReferenceIdeal.nD Cert.SsmInReferenceIdeal.τ).loc Cert.SsmInReferenceIdeal.main_arg3) = m ((c.tc : Thread Cert.SsmInIdeal.nD Cert.SsmInIdeal.τ).loc Cert.SsmInIdeal.main_arg3)
      ∧ m' ((c.tc : Thread Cert.SsmInReferenceIdeal.nD Cert.SsmInReferenceIdeal.τ).loc Cert.SsmInReferenceIdeal.main_arg4) = m ((c.tc : Thread Cert.SsmInIdeal.nD Cert.SsmInIdeal.τ).loc Cert.SsmInIdeal.main_arg4)
      ∧ m' ((c.tc : Thread Cert.SsmInReferenceIdeal.nD Cert.SsmInReferenceIdeal.τ).loc Cert.SsmInReferenceIdeal.main_arg5) = m ((c.tc : Thread Cert.SsmInIdeal.nD Cert.SsmInIdeal.τ).loc Cert.SsmInIdeal.main_arg5)) →
    ∃ (v0 : (c : Dev Cert.SsmInIdeal.nD) → Buf (Elt Ideal) ((c.tc : Thread Cert.SsmInIdeal.nD Cert.SsmInIdeal.τ).loc Cert.SsmInIdeal.main_v7_0)) (v1 : (c : Dev Cert.SsmInIdeal.nD) → Buf (Elt Ideal) ((c.tc : Thread Cert.SsmInIdeal.nD Cert.SsmInIdeal.τ).loc Cert.SsmInIdeal.main_v7_1)) (v2 : (c : Dev Cert.SsmInIdeal.nD) → Buf (Elt Ideal) ((c.tc : Thread Cert.SsmInIdeal.nD Cert.SsmInIdeal.τ).loc Cert.SsmInIdeal.main_v7_2)) (v3 : (c : Dev Cert.SsmInIdeal.nD) → Buf (Elt Ideal) ((c.tc : Thread Cert.SsmInIdeal.nD Cert.SsmInIdeal.τ).loc Cert.SsmInIdeal.main_v7_3)) (v4 : (c : Dev Cert.SsmInIdeal.nD) → Buf (Elt Ideal) ((c.tc : Thread Cert.SsmInIdeal.nD Cert.SsmInIdeal.τ).loc Cert.SsmInIdeal.main_v7_4)) (v5 : (c : Dev Cert.SsmInIdeal.nD) → Buf (Elt Ideal) ((c.tc : Thread Cert.SsmInIdeal.nD Cert.SsmInIdeal.τ).loc Cert.SsmInIdeal.main_v7_5)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v7_0) = v0 c
          ∧ r.2.mem ((c.tc : Thread Cert.SsmInIdeal.nD Cert.SsmInIdeal.τ).loc Cert.SsmInIdeal.main_v7_1) = v1 c
          ∧ r.2.mem ((c.tc : Thread Cert.SsmInIdeal.nD Cert.SsmInIdeal.τ).loc Cert.SsmInIdeal.main_v7_2) = v2 c
          ∧ r.2.mem ((c.tc : Thread Cert.SsmInIdeal.nD Cert.SsmInIdeal.τ).loc Cert.SsmInIdeal.main_v7_3) = v3 c
          ∧ r.2.mem ((c.tc : Thread Cert.SsmInIdeal.nD Cert.SsmInIdeal.τ).loc Cert.SsmInIdeal.main_v7_4) = v4 c
          ∧ r.2.mem ((c.tc : Thread Cert.SsmInIdeal.nD Cert.SsmInIdeal.τ).loc Cert.SsmInIdeal.main_v7_5) = v5 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1)
          ∧ r.2.mem ((c.tc : Thread Cert.SsmInIdeal.nD Cert.SsmInIdeal.τ).loc Cert.SsmInIdeal.main_arg2) = m ((c.tc : Thread Cert.SsmInIdeal.nD Cert.SsmInIdeal.τ).loc Cert.SsmInIdeal.main_arg2)
          ∧ r.2.mem ((c.tc : Thread Cert.SsmInIdeal.nD Cert.SsmInIdeal.τ).loc Cert.SsmInIdeal.main_arg3) = m ((c.tc : Thread Cert.SsmInIdeal.nD Cert.SsmInIdeal.τ).loc Cert.SsmInIdeal.main_arg3)
          ∧ r.2.mem ((c.tc : Thread Cert.SsmInIdeal.nD Cert.SsmInIdeal.τ).loc Cert.SsmInIdeal.main_arg4) = m ((c.tc : Thread Cert.SsmInIdeal.nD Cert.SsmInIdeal.τ).loc Cert.SsmInIdeal.main_arg4)
          ∧ r.2.mem ((c.tc : Thread Cert.SsmInIdeal.nD Cert.SsmInIdeal.τ).loc Cert.SsmInIdeal.main_arg5) = m ((c.tc : Thread Cert.SsmInIdeal.nD Cert.SsmInIdeal.τ).loc Cert.SsmInIdeal.main_arg5))
      ∧ θ_run (Cert.SsmInReferenceIdeal.defs (F := Ideal)) (onTc (τ := Cert.SsmInReferenceIdeal.τ) (Cert.SsmInReferenceIdeal.main (F := Ideal))) ⟨m', fun _ => 0, g'⟩ (fun r => ∀ c : Dev Cert.SsmInReferenceIdeal.nD,
          r.2.mem ((c.tc : Thread Cert.SsmInReferenceIdeal.nD Cert.SsmInReferenceIdeal.τ).loc Cert.SsmInReferenceIdeal.main_v49) = v0 c
          ∧ r.2.mem ((c.tc : Thread Cert.SsmInReferenceIdeal.nD Cert.SsmInReferenceIdeal.τ).loc Cert.SsmInReferenceIdeal.main_v50) = v1 c
          ∧ r.2.mem ((c.tc : Thread Cert.SsmInReferenceIdeal.nD Cert.SsmInReferenceIdeal.τ).loc Cert.SsmInReferenceIdeal.main_v51) = v2 c
          ∧ r.2.mem ((c.tc : Thread Cert.SsmInReferenceIdeal.nD Cert.SsmInReferenceIdeal.τ).loc Cert.SsmInReferenceIdeal.main_v52) = v3 c
          ∧ r.2.mem ((c.tc : Thread Cert.SsmInReferenceIdeal.nD Cert.SsmInReferenceIdeal.τ).loc Cert.SsmInReferenceIdeal.main_v53) = v4 c
          ∧ r.2.mem ((c.tc : Thread Cert.SsmInReferenceIdeal.nD Cert.SsmInReferenceIdeal.τ).loc Cert.SsmInReferenceIdeal.main_v58) = v5 c
          ∧ r.2.mem ((c.tc : Thread Cert.SsmInReferenceIdeal.nD Cert.SsmInReferenceIdeal.τ).loc Cert.SsmInReferenceIdeal.main_arg0) = m' ((c.tc : Thread Cert.SsmInReferenceIdeal.nD Cert.SsmInReferenceIdeal.τ).loc Cert.SsmInReferenceIdeal.main_arg0)
          ∧ r.2.mem ((c.tc : Thread Cert.SsmInReferenceIdeal.nD Cert.SsmInReferenceIdeal.τ).loc Cert.SsmInReferenceIdeal.main_arg1) = m' ((c.tc : Thread Cert.SsmInReferenceIdeal.nD Cert.SsmInReferenceIdeal.τ).loc Cert.SsmInReferenceIdeal.main_arg1)
          ∧ r.2.mem ((c.tc : Thread Cert.SsmInReferenceIdeal.nD Cert.SsmInReferenceIdeal.τ).loc Cert.SsmInReferenceIdeal.main_arg2) = m' ((c.tc : Thread Cert.SsmInReferenceIdeal.nD Cert.SsmInReferenceIdeal.τ).loc Cert.SsmInReferenceIdeal.main_arg2)
          ∧ r.2.mem ((c.tc : Thread Cert.SsmInReferenceIdeal.nD Cert.SsmInReferenceIdeal.τ).loc Cert.SsmInReferenceIdeal.main_arg3) = m' ((c.tc : Thread Cert.SsmInReferenceIdeal.nD Cert.SsmInReferenceIdeal.τ).loc Cert.SsmInReferenceIdeal.main_arg3)
          ∧ r.2.mem ((c.tc : Thread Cert.SsmInReferenceIdeal.nD Cert.SsmInReferenceIdeal.τ).loc Cert.SsmInReferenceIdeal.main_arg4) = m' ((c.tc : Thread Cert.SsmInReferenceIdeal.nD Cert.SsmInReferenceIdeal.τ).loc Cert.SsmInReferenceIdeal.main_arg4)
          ∧ r.2.mem ((c.tc : Thread Cert.SsmInReferenceIdeal.nD Cert.SsmInReferenceIdeal.τ).loc Cert.SsmInReferenceIdeal.main_arg5) = m' ((c.tc : Thread Cert.SsmInReferenceIdeal.nD Cert.SsmInReferenceIdeal.τ).loc Cert.SsmInReferenceIdeal.main_arg5))

def preserves_AdamAttnWIn_AdamAttnWInIdeal : Prop :=
  True

def algebraic_AdamAttnWInIdeal_AdamAttnWInReferenceIdeal [hAdamAttnWInIdeal : Cert.AdamAttnWInIdeal.Facts] [hAdamAttnWInReferenceIdeal : Cert.AdamAttnWInReferenceIdeal.Facts] : Prop :=
  ∀ (m : (ℓ : Loc Cert.AdamAttnWInIdeal.nD Cert.AdamAttnWInIdeal.τ Cert.AdamAttnWInIdeal.sig) → Buf (Elt Ideal) ℓ) (g : Dev Cert.AdamAttnWInIdeal.nD → PrngReg)
    (m' : (ℓ : Loc Cert.AdamAttnWInReferenceIdeal.nD Cert.AdamAttnWInReferenceIdeal.τ Cert.AdamAttnWInReferenceIdeal.sig) → Buf (Elt Ideal) ℓ) (g' : Dev Cert.AdamAttnWInReferenceIdeal.nD → PrngReg), Pre_AdamAttnWInIdeal m →
    (∀ c : Dev Cert.AdamAttnWInIdeal.nD,
      m' ((c.tc : Thread Cert.AdamAttnWInReferenceIdeal.nD Cert.AdamAttnWInReferenceIdeal.τ).loc Cert.AdamAttnWInReferenceIdeal.main_arg0) = m ((c.tc : Thread Cert.AdamAttnWInIdeal.nD Cert.AdamAttnWInIdeal.τ).loc Cert.AdamAttnWInIdeal.main_arg0)
      ∧ m' ((c.tc : Thread Cert.AdamAttnWInReferenceIdeal.nD Cert.AdamAttnWInReferenceIdeal.τ).loc Cert.AdamAttnWInReferenceIdeal.main_arg1) = m ((c.tc : Thread Cert.AdamAttnWInIdeal.nD Cert.AdamAttnWInIdeal.τ).loc Cert.AdamAttnWInIdeal.main_arg1)
      ∧ m' ((c.tc : Thread Cert.AdamAttnWInReferenceIdeal.nD Cert.AdamAttnWInReferenceIdeal.τ).loc Cert.AdamAttnWInReferenceIdeal.main_arg2) = m ((c.tc : Thread Cert.AdamAttnWInIdeal.nD Cert.AdamAttnWInIdeal.τ).loc Cert.AdamAttnWInIdeal.main_arg2)
      ∧ m' ((c.tc : Thread Cert.AdamAttnWInReferenceIdeal.nD Cert.AdamAttnWInReferenceIdeal.τ).loc Cert.AdamAttnWInReferenceIdeal.main_arg3) = m ((c.tc : Thread Cert.AdamAttnWInIdeal.nD Cert.AdamAttnWInIdeal.τ).loc Cert.AdamAttnWInIdeal.main_arg3)) →
    ∃ (v0 : (c : Dev Cert.AdamAttnWInIdeal.nD) → Buf (Elt Ideal) ((c.tc : Thread Cert.AdamAttnWInIdeal.nD Cert.AdamAttnWInIdeal.τ).loc Cert.AdamAttnWInIdeal.main_v1_0)) (v1 : (c : Dev Cert.AdamAttnWInIdeal.nD) → Buf (Elt Ideal) ((c.tc : Thread Cert.AdamAttnWInIdeal.nD Cert.AdamAttnWInIdeal.τ).loc Cert.AdamAttnWInIdeal.main_v1_1)) (v2 : (c : Dev Cert.AdamAttnWInIdeal.nD) → Buf (Elt Ideal) ((c.tc : Thread Cert.AdamAttnWInIdeal.nD Cert.AdamAttnWInIdeal.τ).loc Cert.AdamAttnWInIdeal.main_v1_2)) (v3 : (c : Dev Cert.AdamAttnWInIdeal.nD) → Buf (Elt Ideal) ((c.tc : Thread Cert.AdamAttnWInIdeal.nD Cert.AdamAttnWInIdeal.τ).loc Cert.AdamAttnWInIdeal.main_v1_3)),
      θ_run (Cert.AdamAttnWInIdeal.defs (F := Ideal)) (onTc (τ := Cert.AdamAttnWInIdeal.τ) (Cert.AdamAttnWInIdeal.main (F := Ideal))) ⟨m, fun _ => 0, g⟩ (fun r => ∀ c : Dev Cert.AdamAttnWInIdeal.nD,
          r.2.mem ((c.tc : Thread Cert.AdamAttnWInIdeal.nD Cert.AdamAttnWInIdeal.τ).loc Cert.AdamAttnWInIdeal.main_v1_0) = v0 c
          ∧ r.2.mem ((c.tc : Thread Cert.AdamAttnWInIdeal.nD Cert.AdamAttnWInIdeal.τ).loc Cert.AdamAttnWInIdeal.main_v1_1) = v1 c
          ∧ r.2.mem ((c.tc : Thread Cert.AdamAttnWInIdeal.nD Cert.AdamAttnWInIdeal.τ).loc Cert.AdamAttnWInIdeal.main_v1_2) = v2 c
          ∧ r.2.mem ((c.tc : Thread Cert.AdamAttnWInIdeal.nD Cert.AdamAttnWInIdeal.τ).loc Cert.AdamAttnWInIdeal.main_v1_3) = v3 c
          ∧ r.2.mem ((c.tc : Thread Cert.AdamAttnWInIdeal.nD Cert.AdamAttnWInIdeal.τ).loc Cert.AdamAttnWInIdeal.main_arg0) = m ((c.tc : Thread Cert.AdamAttnWInIdeal.nD Cert.AdamAttnWInIdeal.τ).loc Cert.AdamAttnWInIdeal.main_arg0)
          ∧ r.2.mem ((c.tc : Thread Cert.AdamAttnWInIdeal.nD Cert.AdamAttnWInIdeal.τ).loc Cert.AdamAttnWInIdeal.main_arg1) = m ((c.tc : Thread Cert.AdamAttnWInIdeal.nD Cert.AdamAttnWInIdeal.τ).loc Cert.AdamAttnWInIdeal.main_arg1)
          ∧ r.2.mem ((c.tc : Thread Cert.AdamAttnWInIdeal.nD Cert.AdamAttnWInIdeal.τ).loc Cert.AdamAttnWInIdeal.main_arg2) = m ((c.tc : Thread Cert.AdamAttnWInIdeal.nD Cert.AdamAttnWInIdeal.τ).loc Cert.AdamAttnWInIdeal.main_arg2)
          ∧ r.2.mem ((c.tc : Thread Cert.AdamAttnWInIdeal.nD Cert.AdamAttnWInIdeal.τ).loc Cert.AdamAttnWInIdeal.main_arg3) = m ((c.tc : Thread Cert.AdamAttnWInIdeal.nD Cert.AdamAttnWInIdeal.τ).loc Cert.AdamAttnWInIdeal.main_arg3))
      ∧ θ_run (Cert.AdamAttnWInReferenceIdeal.defs (F := Ideal)) (onTc (τ := Cert.AdamAttnWInReferenceIdeal.τ) (Cert.AdamAttnWInReferenceIdeal.main (F := Ideal))) ⟨m', fun _ => 0, g'⟩ (fun r => ∀ c : Dev Cert.AdamAttnWInReferenceIdeal.nD,
          r.2.mem ((c.tc : Thread Cert.AdamAttnWInReferenceIdeal.nD Cert.AdamAttnWInReferenceIdeal.τ).loc Cert.AdamAttnWInReferenceIdeal.main_v0) = v0 c
          ∧ r.2.mem ((c.tc : Thread Cert.AdamAttnWInReferenceIdeal.nD Cert.AdamAttnWInReferenceIdeal.τ).loc Cert.AdamAttnWInReferenceIdeal.main_v24) = v1 c
          ∧ r.2.mem ((c.tc : Thread Cert.AdamAttnWInReferenceIdeal.nD Cert.AdamAttnWInReferenceIdeal.τ).loc Cert.AdamAttnWInReferenceIdeal.main_v5) = v2 c
          ∧ r.2.mem ((c.tc : Thread Cert.AdamAttnWInReferenceIdeal.nD Cert.AdamAttnWInReferenceIdeal.τ).loc Cert.AdamAttnWInReferenceIdeal.main_v11) = v3 c
          ∧ r.2.mem ((c.tc : Thread Cert.AdamAttnWInReferenceIdeal.nD Cert.AdamAttnWInReferenceIdeal.τ).loc Cert.AdamAttnWInReferenceIdeal.main_arg0) = m' ((c.tc : Thread Cert.AdamAttnWInReferenceIdeal.nD Cert.AdamAttnWInReferenceIdeal.τ).loc Cert.AdamAttnWInReferenceIdeal.main_arg0)
          ∧ r.2.mem ((c.tc : Thread Cert.AdamAttnWInReferenceIdeal.nD Cert.AdamAttnWInReferenceIdeal.τ).loc Cert.AdamAttnWInReferenceIdeal.main_arg1) = m' ((c.tc : Thread Cert.AdamAttnWInReferenceIdeal.nD Cert.AdamAttnWInReferenceIdeal.τ).loc Cert.AdamAttnWInReferenceIdeal.main_arg1)
          ∧ r.2.mem ((c.tc : Thread Cert.AdamAttnWInReferenceIdeal.nD Cert.AdamAttnWInReferenceIdeal.τ).loc Cert.AdamAttnWInReferenceIdeal.main_arg2) = m' ((c.tc : Thread Cert.AdamAttnWInReferenceIdeal.nD Cert.AdamAttnWInReferenceIdeal.τ).loc Cert.AdamAttnWInReferenceIdeal.main_arg2)
          ∧ r.2.mem ((c.tc : Thread Cert.AdamAttnWInReferenceIdeal.nD Cert.AdamAttnWInReferenceIdeal.τ).loc Cert.AdamAttnWInReferenceIdeal.main_arg3) = m' ((c.tc : Thread Cert.AdamAttnWInReferenceIdeal.nD Cert.AdamAttnWInReferenceIdeal.τ).loc Cert.AdamAttnWInReferenceIdeal.main_arg3))

def preserves_AdamAttnWOut_AdamAttnWOutIdeal : Prop :=
  True

def algebraic_AdamAttnWOutIdeal_AdamAttnWOutReferenceIdeal [hAdamAttnWOutIdeal : Cert.AdamAttnWOutIdeal.Facts] [hAdamAttnWOutReferenceIdeal : Cert.AdamAttnWOutReferenceIdeal.Facts] : Prop :=
  ∀ (m : (ℓ : Loc Cert.AdamAttnWOutIdeal.nD Cert.AdamAttnWOutIdeal.τ Cert.AdamAttnWOutIdeal.sig) → Buf (Elt Ideal) ℓ) (g : Dev Cert.AdamAttnWOutIdeal.nD → PrngReg)
    (m' : (ℓ : Loc Cert.AdamAttnWOutReferenceIdeal.nD Cert.AdamAttnWOutReferenceIdeal.τ Cert.AdamAttnWOutReferenceIdeal.sig) → Buf (Elt Ideal) ℓ) (g' : Dev Cert.AdamAttnWOutReferenceIdeal.nD → PrngReg), Pre_AdamAttnWOutIdeal m →
    (∀ c : Dev Cert.AdamAttnWOutIdeal.nD,
      m' ((c.tc : Thread Cert.AdamAttnWOutReferenceIdeal.nD Cert.AdamAttnWOutReferenceIdeal.τ).loc Cert.AdamAttnWOutReferenceIdeal.main_arg0) = m ((c.tc : Thread Cert.AdamAttnWOutIdeal.nD Cert.AdamAttnWOutIdeal.τ).loc Cert.AdamAttnWOutIdeal.main_arg0)
      ∧ m' ((c.tc : Thread Cert.AdamAttnWOutReferenceIdeal.nD Cert.AdamAttnWOutReferenceIdeal.τ).loc Cert.AdamAttnWOutReferenceIdeal.main_arg1) = m ((c.tc : Thread Cert.AdamAttnWOutIdeal.nD Cert.AdamAttnWOutIdeal.τ).loc Cert.AdamAttnWOutIdeal.main_arg1)
      ∧ m' ((c.tc : Thread Cert.AdamAttnWOutReferenceIdeal.nD Cert.AdamAttnWOutReferenceIdeal.τ).loc Cert.AdamAttnWOutReferenceIdeal.main_arg2) = m ((c.tc : Thread Cert.AdamAttnWOutIdeal.nD Cert.AdamAttnWOutIdeal.τ).loc Cert.AdamAttnWOutIdeal.main_arg2)
      ∧ m' ((c.tc : Thread Cert.AdamAttnWOutReferenceIdeal.nD Cert.AdamAttnWOutReferenceIdeal.τ).loc Cert.AdamAttnWOutReferenceIdeal.main_arg3) = m ((c.tc : Thread Cert.AdamAttnWOutIdeal.nD Cert.AdamAttnWOutIdeal.τ).loc Cert.AdamAttnWOutIdeal.main_arg3)) →
    ∃ (v0 : (c : Dev Cert.AdamAttnWOutIdeal.nD) → Buf (Elt Ideal) ((c.tc : Thread Cert.AdamAttnWOutIdeal.nD Cert.AdamAttnWOutIdeal.τ).loc Cert.AdamAttnWOutIdeal.main_v1_0)) (v1 : (c : Dev Cert.AdamAttnWOutIdeal.nD) → Buf (Elt Ideal) ((c.tc : Thread Cert.AdamAttnWOutIdeal.nD Cert.AdamAttnWOutIdeal.τ).loc Cert.AdamAttnWOutIdeal.main_v1_1)) (v2 : (c : Dev Cert.AdamAttnWOutIdeal.nD) → Buf (Elt Ideal) ((c.tc : Thread Cert.AdamAttnWOutIdeal.nD Cert.AdamAttnWOutIdeal.τ).loc Cert.AdamAttnWOutIdeal.main_v1_2)) (v3 : (c : Dev Cert.AdamAttnWOutIdeal.nD) → Buf (Elt Ideal) ((c.tc : Thread Cert.AdamAttnWOutIdeal.nD Cert.AdamAttnWOutIdeal.τ).loc Cert.AdamAttnWOutIdeal.main_v1_3)),
      θ_run (Cert.AdamAttnWOutIdeal.defs (F := Ideal)) (onTc (τ := Cert.AdamAttnWOutIdeal.τ) (Cert.AdamAttnWOutIdeal.main (F := Ideal))) ⟨m, fun _ => 0, g⟩ (fun r => ∀ c : Dev Cert.AdamAttnWOutIdeal.nD,
          r.2.mem ((c.tc : Thread Cert.AdamAttnWOutIdeal.nD Cert.AdamAttnWOutIdeal.τ).loc Cert.AdamAttnWOutIdeal.main_v1_0) = v0 c
          ∧ r.2.mem ((c.tc : Thread Cert.AdamAttnWOutIdeal.nD Cert.AdamAttnWOutIdeal.τ).loc Cert.AdamAttnWOutIdeal.main_v1_1) = v1 c
          ∧ r.2.mem ((c.tc : Thread Cert.AdamAttnWOutIdeal.nD Cert.AdamAttnWOutIdeal.τ).loc Cert.AdamAttnWOutIdeal.main_v1_2) = v2 c
          ∧ r.2.mem ((c.tc : Thread Cert.AdamAttnWOutIdeal.nD Cert.AdamAttnWOutIdeal.τ).loc Cert.AdamAttnWOutIdeal.main_v1_3) = v3 c
          ∧ r.2.mem ((c.tc : Thread Cert.AdamAttnWOutIdeal.nD Cert.AdamAttnWOutIdeal.τ).loc Cert.AdamAttnWOutIdeal.main_arg0) = m ((c.tc : Thread Cert.AdamAttnWOutIdeal.nD Cert.AdamAttnWOutIdeal.τ).loc Cert.AdamAttnWOutIdeal.main_arg0)
          ∧ r.2.mem ((c.tc : Thread Cert.AdamAttnWOutIdeal.nD Cert.AdamAttnWOutIdeal.τ).loc Cert.AdamAttnWOutIdeal.main_arg1) = m ((c.tc : Thread Cert.AdamAttnWOutIdeal.nD Cert.AdamAttnWOutIdeal.τ).loc Cert.AdamAttnWOutIdeal.main_arg1)
          ∧ r.2.mem ((c.tc : Thread Cert.AdamAttnWOutIdeal.nD Cert.AdamAttnWOutIdeal.τ).loc Cert.AdamAttnWOutIdeal.main_arg2) = m ((c.tc : Thread Cert.AdamAttnWOutIdeal.nD Cert.AdamAttnWOutIdeal.τ).loc Cert.AdamAttnWOutIdeal.main_arg2)
          ∧ r.2.mem ((c.tc : Thread Cert.AdamAttnWOutIdeal.nD Cert.AdamAttnWOutIdeal.τ).loc Cert.AdamAttnWOutIdeal.main_arg3) = m ((c.tc : Thread Cert.AdamAttnWOutIdeal.nD Cert.AdamAttnWOutIdeal.τ).loc Cert.AdamAttnWOutIdeal.main_arg3))
      ∧ θ_run (Cert.AdamAttnWOutReferenceIdeal.defs (F := Ideal)) (onTc (τ := Cert.AdamAttnWOutReferenceIdeal.τ) (Cert.AdamAttnWOutReferenceIdeal.main (F := Ideal))) ⟨m', fun _ => 0, g'⟩ (fun r => ∀ c : Dev Cert.AdamAttnWOutReferenceIdeal.nD,
          r.2.mem ((c.tc : Thread Cert.AdamAttnWOutReferenceIdeal.nD Cert.AdamAttnWOutReferenceIdeal.τ).loc Cert.AdamAttnWOutReferenceIdeal.main_v1) = v0 c
          ∧ r.2.mem ((c.tc : Thread Cert.AdamAttnWOutReferenceIdeal.nD Cert.AdamAttnWOutReferenceIdeal.τ).loc Cert.AdamAttnWOutReferenceIdeal.main_v25) = v1 c
          ∧ r.2.mem ((c.tc : Thread Cert.AdamAttnWOutReferenceIdeal.nD Cert.AdamAttnWOutReferenceIdeal.τ).loc Cert.AdamAttnWOutReferenceIdeal.main_v6) = v2 c
          ∧ r.2.mem ((c.tc : Thread Cert.AdamAttnWOutReferenceIdeal.nD Cert.AdamAttnWOutReferenceIdeal.τ).loc Cert.AdamAttnWOutReferenceIdeal.main_v12) = v3 c
          ∧ r.2.mem ((c.tc : Thread Cert.AdamAttnWOutReferenceIdeal.nD Cert.AdamAttnWOutReferenceIdeal.τ).loc Cert.AdamAttnWOutReferenceIdeal.main_arg0) = m' ((c.tc : Thread Cert.AdamAttnWOutReferenceIdeal.nD Cert.AdamAttnWOutReferenceIdeal.τ).loc Cert.AdamAttnWOutReferenceIdeal.main_arg0)
          ∧ r.2.mem ((c.tc : Thread Cert.AdamAttnWOutReferenceIdeal.nD Cert.AdamAttnWOutReferenceIdeal.τ).loc Cert.AdamAttnWOutReferenceIdeal.main_arg1) = m' ((c.tc : Thread Cert.AdamAttnWOutReferenceIdeal.nD Cert.AdamAttnWOutReferenceIdeal.τ).loc Cert.AdamAttnWOutReferenceIdeal.main_arg1)
          ∧ r.2.mem ((c.tc : Thread Cert.AdamAttnWOutReferenceIdeal.nD Cert.AdamAttnWOutReferenceIdeal.τ).loc Cert.AdamAttnWOutReferenceIdeal.main_arg2) = m' ((c.tc : Thread Cert.AdamAttnWOutReferenceIdeal.nD Cert.AdamAttnWOutReferenceIdeal.τ).loc Cert.AdamAttnWOutReferenceIdeal.main_arg2)
          ∧ r.2.mem ((c.tc : Thread Cert.AdamAttnWOutReferenceIdeal.nD Cert.AdamAttnWOutReferenceIdeal.τ).loc Cert.AdamAttnWOutReferenceIdeal.main_arg3) = m' ((c.tc : Thread Cert.AdamAttnWOutReferenceIdeal.nD Cert.AdamAttnWOutReferenceIdeal.τ).loc Cert.AdamAttnWOutReferenceIdeal.main_arg3))

def preserves_AdamSsmWIn_AdamSsmWInIdeal : Prop :=
  True

def algebraic_AdamSsmWInIdeal_AdamSsmWInReferenceIdeal [hAdamSsmWInIdeal : Cert.AdamSsmWInIdeal.Facts] [hAdamSsmWInReferenceIdeal : Cert.AdamSsmWInReferenceIdeal.Facts] : Prop :=
  ∀ (m : (ℓ : Loc Cert.AdamSsmWInIdeal.nD Cert.AdamSsmWInIdeal.τ Cert.AdamSsmWInIdeal.sig) → Buf (Elt Ideal) ℓ) (g : Dev Cert.AdamSsmWInIdeal.nD → PrngReg)
    (m' : (ℓ : Loc Cert.AdamSsmWInReferenceIdeal.nD Cert.AdamSsmWInReferenceIdeal.τ Cert.AdamSsmWInReferenceIdeal.sig) → Buf (Elt Ideal) ℓ) (g' : Dev Cert.AdamSsmWInReferenceIdeal.nD → PrngReg), Pre_AdamSsmWInIdeal m →
    (∀ c : Dev Cert.AdamSsmWInIdeal.nD,
      m' ((c.tc : Thread Cert.AdamSsmWInReferenceIdeal.nD Cert.AdamSsmWInReferenceIdeal.τ).loc Cert.AdamSsmWInReferenceIdeal.main_arg0) = m ((c.tc : Thread Cert.AdamSsmWInIdeal.nD Cert.AdamSsmWInIdeal.τ).loc Cert.AdamSsmWInIdeal.main_arg0)
      ∧ m' ((c.tc : Thread Cert.AdamSsmWInReferenceIdeal.nD Cert.AdamSsmWInReferenceIdeal.τ).loc Cert.AdamSsmWInReferenceIdeal.main_arg1) = m ((c.tc : Thread Cert.AdamSsmWInIdeal.nD Cert.AdamSsmWInIdeal.τ).loc Cert.AdamSsmWInIdeal.main_arg1)
      ∧ m' ((c.tc : Thread Cert.AdamSsmWInReferenceIdeal.nD Cert.AdamSsmWInReferenceIdeal.τ).loc Cert.AdamSsmWInReferenceIdeal.main_arg2) = m ((c.tc : Thread Cert.AdamSsmWInIdeal.nD Cert.AdamSsmWInIdeal.τ).loc Cert.AdamSsmWInIdeal.main_arg2)
      ∧ m' ((c.tc : Thread Cert.AdamSsmWInReferenceIdeal.nD Cert.AdamSsmWInReferenceIdeal.τ).loc Cert.AdamSsmWInReferenceIdeal.main_arg3) = m ((c.tc : Thread Cert.AdamSsmWInIdeal.nD Cert.AdamSsmWInIdeal.τ).loc Cert.AdamSsmWInIdeal.main_arg3)) →
    ∃ (v0 : (c : Dev Cert.AdamSsmWInIdeal.nD) → Buf (Elt Ideal) ((c.tc : Thread Cert.AdamSsmWInIdeal.nD Cert.AdamSsmWInIdeal.τ).loc Cert.AdamSsmWInIdeal.main_v1_0)) (v1 : (c : Dev Cert.AdamSsmWInIdeal.nD) → Buf (Elt Ideal) ((c.tc : Thread Cert.AdamSsmWInIdeal.nD Cert.AdamSsmWInIdeal.τ).loc Cert.AdamSsmWInIdeal.main_v1_1)) (v2 : (c : Dev Cert.AdamSsmWInIdeal.nD) → Buf (Elt Ideal) ((c.tc : Thread Cert.AdamSsmWInIdeal.nD Cert.AdamSsmWInIdeal.τ).loc Cert.AdamSsmWInIdeal.main_v1_2)) (v3 : (c : Dev Cert.AdamSsmWInIdeal.nD) → Buf (Elt Ideal) ((c.tc : Thread Cert.AdamSsmWInIdeal.nD Cert.AdamSsmWInIdeal.τ).loc Cert.AdamSsmWInIdeal.main_v1_3)),
      θ_run (Cert.AdamSsmWInIdeal.defs (F := Ideal)) (onTc (τ := Cert.AdamSsmWInIdeal.τ) (Cert.AdamSsmWInIdeal.main (F := Ideal))) ⟨m, fun _ => 0, g⟩ (fun r => ∀ c : Dev Cert.AdamSsmWInIdeal.nD,
          r.2.mem ((c.tc : Thread Cert.AdamSsmWInIdeal.nD Cert.AdamSsmWInIdeal.τ).loc Cert.AdamSsmWInIdeal.main_v1_0) = v0 c
          ∧ r.2.mem ((c.tc : Thread Cert.AdamSsmWInIdeal.nD Cert.AdamSsmWInIdeal.τ).loc Cert.AdamSsmWInIdeal.main_v1_1) = v1 c
          ∧ r.2.mem ((c.tc : Thread Cert.AdamSsmWInIdeal.nD Cert.AdamSsmWInIdeal.τ).loc Cert.AdamSsmWInIdeal.main_v1_2) = v2 c
          ∧ r.2.mem ((c.tc : Thread Cert.AdamSsmWInIdeal.nD Cert.AdamSsmWInIdeal.τ).loc Cert.AdamSsmWInIdeal.main_v1_3) = v3 c
          ∧ r.2.mem ((c.tc : Thread Cert.AdamSsmWInIdeal.nD Cert.AdamSsmWInIdeal.τ).loc Cert.AdamSsmWInIdeal.main_arg0) = m ((c.tc : Thread Cert.AdamSsmWInIdeal.nD Cert.AdamSsmWInIdeal.τ).loc Cert.AdamSsmWInIdeal.main_arg0)
          ∧ r.2.mem ((c.tc : Thread Cert.AdamSsmWInIdeal.nD Cert.AdamSsmWInIdeal.τ).loc Cert.AdamSsmWInIdeal.main_arg1) = m ((c.tc : Thread Cert.AdamSsmWInIdeal.nD Cert.AdamSsmWInIdeal.τ).loc Cert.AdamSsmWInIdeal.main_arg1)
          ∧ r.2.mem ((c.tc : Thread Cert.AdamSsmWInIdeal.nD Cert.AdamSsmWInIdeal.τ).loc Cert.AdamSsmWInIdeal.main_arg2) = m ((c.tc : Thread Cert.AdamSsmWInIdeal.nD Cert.AdamSsmWInIdeal.τ).loc Cert.AdamSsmWInIdeal.main_arg2)
          ∧ r.2.mem ((c.tc : Thread Cert.AdamSsmWInIdeal.nD Cert.AdamSsmWInIdeal.τ).loc Cert.AdamSsmWInIdeal.main_arg3) = m ((c.tc : Thread Cert.AdamSsmWInIdeal.nD Cert.AdamSsmWInIdeal.τ).loc Cert.AdamSsmWInIdeal.main_arg3))
      ∧ θ_run (Cert.AdamSsmWInReferenceIdeal.defs (F := Ideal)) (onTc (τ := Cert.AdamSsmWInReferenceIdeal.τ) (Cert.AdamSsmWInReferenceIdeal.main (F := Ideal))) ⟨m', fun _ => 0, g'⟩ (fun r => ∀ c : Dev Cert.AdamSsmWInReferenceIdeal.nD,
          r.2.mem ((c.tc : Thread Cert.AdamSsmWInReferenceIdeal.nD Cert.AdamSsmWInReferenceIdeal.τ).loc Cert.AdamSsmWInReferenceIdeal.main_v0) = v0 c
          ∧ r.2.mem ((c.tc : Thread Cert.AdamSsmWInReferenceIdeal.nD Cert.AdamSsmWInReferenceIdeal.τ).loc Cert.AdamSsmWInReferenceIdeal.main_v24) = v1 c
          ∧ r.2.mem ((c.tc : Thread Cert.AdamSsmWInReferenceIdeal.nD Cert.AdamSsmWInReferenceIdeal.τ).loc Cert.AdamSsmWInReferenceIdeal.main_v5) = v2 c
          ∧ r.2.mem ((c.tc : Thread Cert.AdamSsmWInReferenceIdeal.nD Cert.AdamSsmWInReferenceIdeal.τ).loc Cert.AdamSsmWInReferenceIdeal.main_v11) = v3 c
          ∧ r.2.mem ((c.tc : Thread Cert.AdamSsmWInReferenceIdeal.nD Cert.AdamSsmWInReferenceIdeal.τ).loc Cert.AdamSsmWInReferenceIdeal.main_arg0) = m' ((c.tc : Thread Cert.AdamSsmWInReferenceIdeal.nD Cert.AdamSsmWInReferenceIdeal.τ).loc Cert.AdamSsmWInReferenceIdeal.main_arg0)
          ∧ r.2.mem ((c.tc : Thread Cert.AdamSsmWInReferenceIdeal.nD Cert.AdamSsmWInReferenceIdeal.τ).loc Cert.AdamSsmWInReferenceIdeal.main_arg1) = m' ((c.tc : Thread Cert.AdamSsmWInReferenceIdeal.nD Cert.AdamSsmWInReferenceIdeal.τ).loc Cert.AdamSsmWInReferenceIdeal.main_arg1)
          ∧ r.2.mem ((c.tc : Thread Cert.AdamSsmWInReferenceIdeal.nD Cert.AdamSsmWInReferenceIdeal.τ).loc Cert.AdamSsmWInReferenceIdeal.main_arg2) = m' ((c.tc : Thread Cert.AdamSsmWInReferenceIdeal.nD Cert.AdamSsmWInReferenceIdeal.τ).loc Cert.AdamSsmWInReferenceIdeal.main_arg2)
          ∧ r.2.mem ((c.tc : Thread Cert.AdamSsmWInReferenceIdeal.nD Cert.AdamSsmWInReferenceIdeal.τ).loc Cert.AdamSsmWInReferenceIdeal.main_arg3) = m' ((c.tc : Thread Cert.AdamSsmWInReferenceIdeal.nD Cert.AdamSsmWInReferenceIdeal.τ).loc Cert.AdamSsmWInReferenceIdeal.main_arg3))

def preserves_AdamSsmWOut_AdamSsmWOutIdeal : Prop :=
  True

def algebraic_AdamSsmWOutIdeal_AdamSsmWOutReferenceIdeal [hAdamSsmWOutIdeal : Cert.AdamSsmWOutIdeal.Facts] [hAdamSsmWOutReferenceIdeal : Cert.AdamSsmWOutReferenceIdeal.Facts] : Prop :=
  ∀ (m : (ℓ : Loc Cert.AdamSsmWOutIdeal.nD Cert.AdamSsmWOutIdeal.τ Cert.AdamSsmWOutIdeal.sig) → Buf (Elt Ideal) ℓ) (g : Dev Cert.AdamSsmWOutIdeal.nD → PrngReg)
    (m' : (ℓ : Loc Cert.AdamSsmWOutReferenceIdeal.nD Cert.AdamSsmWOutReferenceIdeal.τ Cert.AdamSsmWOutReferenceIdeal.sig) → Buf (Elt Ideal) ℓ) (g' : Dev Cert.AdamSsmWOutReferenceIdeal.nD → PrngReg), Pre_AdamSsmWOutIdeal m →
    (∀ c : Dev Cert.AdamSsmWOutIdeal.nD,
      m' ((c.tc : Thread Cert.AdamSsmWOutReferenceIdeal.nD Cert.AdamSsmWOutReferenceIdeal.τ).loc Cert.AdamSsmWOutReferenceIdeal.main_arg0) = m ((c.tc : Thread Cert.AdamSsmWOutIdeal.nD Cert.AdamSsmWOutIdeal.τ).loc Cert.AdamSsmWOutIdeal.main_arg0)
      ∧ m' ((c.tc : Thread Cert.AdamSsmWOutReferenceIdeal.nD Cert.AdamSsmWOutReferenceIdeal.τ).loc Cert.AdamSsmWOutReferenceIdeal.main_arg1) = m ((c.tc : Thread Cert.AdamSsmWOutIdeal.nD Cert.AdamSsmWOutIdeal.τ).loc Cert.AdamSsmWOutIdeal.main_arg1)
      ∧ m' ((c.tc : Thread Cert.AdamSsmWOutReferenceIdeal.nD Cert.AdamSsmWOutReferenceIdeal.τ).loc Cert.AdamSsmWOutReferenceIdeal.main_arg2) = m ((c.tc : Thread Cert.AdamSsmWOutIdeal.nD Cert.AdamSsmWOutIdeal.τ).loc Cert.AdamSsmWOutIdeal.main_arg2)
      ∧ m' ((c.tc : Thread Cert.AdamSsmWOutReferenceIdeal.nD Cert.AdamSsmWOutReferenceIdeal.τ).loc Cert.AdamSsmWOutReferenceIdeal.main_arg3) = m ((c.tc : Thread Cert.AdamSsmWOutIdeal.nD Cert.AdamSsmWOutIdeal.τ).loc Cert.AdamSsmWOutIdeal.main_arg3)) →
    ∃ (v0 : (c : Dev Cert.AdamSsmWOutIdeal.nD) → Buf (Elt Ideal) ((c.tc : Thread Cert.AdamSsmWOutIdeal.nD Cert.AdamSsmWOutIdeal.τ).loc Cert.AdamSsmWOutIdeal.main_v1_0)) (v1 : (c : Dev Cert.AdamSsmWOutIdeal.nD) → Buf (Elt Ideal) ((c.tc : Thread Cert.AdamSsmWOutIdeal.nD Cert.AdamSsmWOutIdeal.τ).loc Cert.AdamSsmWOutIdeal.main_v1_1)) (v2 : (c : Dev Cert.AdamSsmWOutIdeal.nD) → Buf (Elt Ideal) ((c.tc : Thread Cert.AdamSsmWOutIdeal.nD Cert.AdamSsmWOutIdeal.τ).loc Cert.AdamSsmWOutIdeal.main_v1_2)) (v3 : (c : Dev Cert.AdamSsmWOutIdeal.nD) → Buf (Elt Ideal) ((c.tc : Thread Cert.AdamSsmWOutIdeal.nD Cert.AdamSsmWOutIdeal.τ).loc Cert.AdamSsmWOutIdeal.main_v1_3)),
      θ_run (Cert.AdamSsmWOutIdeal.defs (F := Ideal)) (onTc (τ := Cert.AdamSsmWOutIdeal.τ) (Cert.AdamSsmWOutIdeal.main (F := Ideal))) ⟨m, fun _ => 0, g⟩ (fun r => ∀ c : Dev Cert.AdamSsmWOutIdeal.nD,
          r.2.mem ((c.tc : Thread Cert.AdamSsmWOutIdeal.nD Cert.AdamSsmWOutIdeal.τ).loc Cert.AdamSsmWOutIdeal.main_v1_0) = v0 c
          ∧ r.2.mem ((c.tc : Thread Cert.AdamSsmWOutIdeal.nD Cert.AdamSsmWOutIdeal.τ).loc Cert.AdamSsmWOutIdeal.main_v1_1) = v1 c
          ∧ r.2.mem ((c.tc : Thread Cert.AdamSsmWOutIdeal.nD Cert.AdamSsmWOutIdeal.τ).loc Cert.AdamSsmWOutIdeal.main_v1_2) = v2 c
          ∧ r.2.mem ((c.tc : Thread Cert.AdamSsmWOutIdeal.nD Cert.AdamSsmWOutIdeal.τ).loc Cert.AdamSsmWOutIdeal.main_v1_3) = v3 c
          ∧ r.2.mem ((c.tc : Thread Cert.AdamSsmWOutIdeal.nD Cert.AdamSsmWOutIdeal.τ).loc Cert.AdamSsmWOutIdeal.main_arg0) = m ((c.tc : Thread Cert.AdamSsmWOutIdeal.nD Cert.AdamSsmWOutIdeal.τ).loc Cert.AdamSsmWOutIdeal.main_arg0)
          ∧ r.2.mem ((c.tc : Thread Cert.AdamSsmWOutIdeal.nD Cert.AdamSsmWOutIdeal.τ).loc Cert.AdamSsmWOutIdeal.main_arg1) = m ((c.tc : Thread Cert.AdamSsmWOutIdeal.nD Cert.AdamSsmWOutIdeal.τ).loc Cert.AdamSsmWOutIdeal.main_arg1)
          ∧ r.2.mem ((c.tc : Thread Cert.AdamSsmWOutIdeal.nD Cert.AdamSsmWOutIdeal.τ).loc Cert.AdamSsmWOutIdeal.main_arg2) = m ((c.tc : Thread Cert.AdamSsmWOutIdeal.nD Cert.AdamSsmWOutIdeal.τ).loc Cert.AdamSsmWOutIdeal.main_arg2)
          ∧ r.2.mem ((c.tc : Thread Cert.AdamSsmWOutIdeal.nD Cert.AdamSsmWOutIdeal.τ).loc Cert.AdamSsmWOutIdeal.main_arg3) = m ((c.tc : Thread Cert.AdamSsmWOutIdeal.nD Cert.AdamSsmWOutIdeal.τ).loc Cert.AdamSsmWOutIdeal.main_arg3))
      ∧ θ_run (Cert.AdamSsmWOutReferenceIdeal.defs (F := Ideal)) (onTc (τ := Cert.AdamSsmWOutReferenceIdeal.τ) (Cert.AdamSsmWOutReferenceIdeal.main (F := Ideal))) ⟨m', fun _ => 0, g'⟩ (fun r => ∀ c : Dev Cert.AdamSsmWOutReferenceIdeal.nD,
          r.2.mem ((c.tc : Thread Cert.AdamSsmWOutReferenceIdeal.nD Cert.AdamSsmWOutReferenceIdeal.τ).loc Cert.AdamSsmWOutReferenceIdeal.main_v1) = v0 c
          ∧ r.2.mem ((c.tc : Thread Cert.AdamSsmWOutReferenceIdeal.nD Cert.AdamSsmWOutReferenceIdeal.τ).loc Cert.AdamSsmWOutReferenceIdeal.main_v25) = v1 c
          ∧ r.2.mem ((c.tc : Thread Cert.AdamSsmWOutReferenceIdeal.nD Cert.AdamSsmWOutReferenceIdeal.τ).loc Cert.AdamSsmWOutReferenceIdeal.main_v6) = v2 c
          ∧ r.2.mem ((c.tc : Thread Cert.AdamSsmWOutReferenceIdeal.nD Cert.AdamSsmWOutReferenceIdeal.τ).loc Cert.AdamSsmWOutReferenceIdeal.main_v12) = v3 c
          ∧ r.2.mem ((c.tc : Thread Cert.AdamSsmWOutReferenceIdeal.nD Cert.AdamSsmWOutReferenceIdeal.τ).loc Cert.AdamSsmWOutReferenceIdeal.main_arg0) = m' ((c.tc : Thread Cert.AdamSsmWOutReferenceIdeal.nD Cert.AdamSsmWOutReferenceIdeal.τ).loc Cert.AdamSsmWOutReferenceIdeal.main_arg0)
          ∧ r.2.mem ((c.tc : Thread Cert.AdamSsmWOutReferenceIdeal.nD Cert.AdamSsmWOutReferenceIdeal.τ).loc Cert.AdamSsmWOutReferenceIdeal.main_arg1) = m' ((c.tc : Thread Cert.AdamSsmWOutReferenceIdeal.nD Cert.AdamSsmWOutReferenceIdeal.τ).loc Cert.AdamSsmWOutReferenceIdeal.main_arg1)
          ∧ r.2.mem ((c.tc : Thread Cert.AdamSsmWOutReferenceIdeal.nD Cert.AdamSsmWOutReferenceIdeal.τ).loc Cert.AdamSsmWOutReferenceIdeal.main_arg2) = m' ((c.tc : Thread Cert.AdamSsmWOutReferenceIdeal.nD Cert.AdamSsmWOutReferenceIdeal.τ).loc Cert.AdamSsmWOutReferenceIdeal.main_arg2)
          ∧ r.2.mem ((c.tc : Thread Cert.AdamSsmWOutReferenceIdeal.nD Cert.AdamSsmWOutReferenceIdeal.τ).loc Cert.AdamSsmWOutReferenceIdeal.main_arg3) = m' ((c.tc : Thread Cert.AdamSsmWOutReferenceIdeal.nD Cert.AdamSsmWOutReferenceIdeal.τ).loc Cert.AdamSsmWOutReferenceIdeal.main_arg3))

def preserves_AdamFfnWIn_AdamFfnWInIdeal : Prop :=
  True

def algebraic_AdamFfnWInIdeal_AdamFfnWInReferenceIdeal [hAdamFfnWInIdeal : Cert.AdamFfnWInIdeal.Facts] [hAdamFfnWInReferenceIdeal : Cert.AdamFfnWInReferenceIdeal.Facts] : Prop :=
  ∀ (m : (ℓ : Loc Cert.AdamFfnWInIdeal.nD Cert.AdamFfnWInIdeal.τ Cert.AdamFfnWInIdeal.sig) → Buf (Elt Ideal) ℓ) (g : Dev Cert.AdamFfnWInIdeal.nD → PrngReg)
    (m' : (ℓ : Loc Cert.AdamFfnWInReferenceIdeal.nD Cert.AdamFfnWInReferenceIdeal.τ Cert.AdamFfnWInReferenceIdeal.sig) → Buf (Elt Ideal) ℓ) (g' : Dev Cert.AdamFfnWInReferenceIdeal.nD → PrngReg), Pre_AdamFfnWInIdeal m →
    (∀ c : Dev Cert.AdamFfnWInIdeal.nD,
      m' ((c.tc : Thread Cert.AdamFfnWInReferenceIdeal.nD Cert.AdamFfnWInReferenceIdeal.τ).loc Cert.AdamFfnWInReferenceIdeal.main_arg0) = m ((c.tc : Thread Cert.AdamFfnWInIdeal.nD Cert.AdamFfnWInIdeal.τ).loc Cert.AdamFfnWInIdeal.main_arg0)
      ∧ m' ((c.tc : Thread Cert.AdamFfnWInReferenceIdeal.nD Cert.AdamFfnWInReferenceIdeal.τ).loc Cert.AdamFfnWInReferenceIdeal.main_arg1) = m ((c.tc : Thread Cert.AdamFfnWInIdeal.nD Cert.AdamFfnWInIdeal.τ).loc Cert.AdamFfnWInIdeal.main_arg1)
      ∧ m' ((c.tc : Thread Cert.AdamFfnWInReferenceIdeal.nD Cert.AdamFfnWInReferenceIdeal.τ).loc Cert.AdamFfnWInReferenceIdeal.main_arg2) = m ((c.tc : Thread Cert.AdamFfnWInIdeal.nD Cert.AdamFfnWInIdeal.τ).loc Cert.AdamFfnWInIdeal.main_arg2)
      ∧ m' ((c.tc : Thread Cert.AdamFfnWInReferenceIdeal.nD Cert.AdamFfnWInReferenceIdeal.τ).loc Cert.AdamFfnWInReferenceIdeal.main_arg3) = m ((c.tc : Thread Cert.AdamFfnWInIdeal.nD Cert.AdamFfnWInIdeal.τ).loc Cert.AdamFfnWInIdeal.main_arg3)
      ∧ m' ((c.tc : Thread Cert.AdamFfnWInReferenceIdeal.nD Cert.AdamFfnWInReferenceIdeal.τ).loc Cert.AdamFfnWInReferenceIdeal.main_arg4) = m ((c.tc : Thread Cert.AdamFfnWInIdeal.nD Cert.AdamFfnWInIdeal.τ).loc Cert.AdamFfnWInIdeal.main_arg4)) →
    ∃ (v0 : (c : Dev Cert.AdamFfnWInIdeal.nD) → Buf (Elt Ideal) ((c.tc : Thread Cert.AdamFfnWInIdeal.nD Cert.AdamFfnWInIdeal.τ).loc Cert.AdamFfnWInIdeal.main_v2_0)) (v1 : (c : Dev Cert.AdamFfnWInIdeal.nD) → Buf (Elt Ideal) ((c.tc : Thread Cert.AdamFfnWInIdeal.nD Cert.AdamFfnWInIdeal.τ).loc Cert.AdamFfnWInIdeal.main_v2_1)) (v2 : (c : Dev Cert.AdamFfnWInIdeal.nD) → Buf (Elt Ideal) ((c.tc : Thread Cert.AdamFfnWInIdeal.nD Cert.AdamFfnWInIdeal.τ).loc Cert.AdamFfnWInIdeal.main_v2_2)) (v3 : (c : Dev Cert.AdamFfnWInIdeal.nD) → Buf (Elt Ideal) ((c.tc : Thread Cert.AdamFfnWInIdeal.nD Cert.AdamFfnWInIdeal.τ).loc Cert.AdamFfnWInIdeal.main_v2_3)),
      θ_run (Cert.AdamFfnWInIdeal.defs (F := Ideal)) (onTc (τ := Cert.AdamFfnWInIdeal.τ) (Cert.AdamFfnWInIdeal.main (F := Ideal))) ⟨m, fun _ => 0, g⟩ (fun r => ∀ c : Dev Cert.AdamFfnWInIdeal.nD,
          r.2.mem ((c.tc : Thread Cert.AdamFfnWInIdeal.nD Cert.AdamFfnWInIdeal.τ).loc Cert.AdamFfnWInIdeal.main_v2_0) = v0 c
          ∧ r.2.mem ((c.tc : Thread Cert.AdamFfnWInIdeal.nD Cert.AdamFfnWInIdeal.τ).loc Cert.AdamFfnWInIdeal.main_v2_1) = v1 c
          ∧ r.2.mem ((c.tc : Thread Cert.AdamFfnWInIdeal.nD Cert.AdamFfnWInIdeal.τ).loc Cert.AdamFfnWInIdeal.main_v2_2) = v2 c
          ∧ r.2.mem ((c.tc : Thread Cert.AdamFfnWInIdeal.nD Cert.AdamFfnWInIdeal.τ).loc Cert.AdamFfnWInIdeal.main_v2_3) = v3 c
          ∧ r.2.mem ((c.tc : Thread Cert.AdamFfnWInIdeal.nD Cert.AdamFfnWInIdeal.τ).loc Cert.AdamFfnWInIdeal.main_arg0) = m ((c.tc : Thread Cert.AdamFfnWInIdeal.nD Cert.AdamFfnWInIdeal.τ).loc Cert.AdamFfnWInIdeal.main_arg0)
          ∧ r.2.mem ((c.tc : Thread Cert.AdamFfnWInIdeal.nD Cert.AdamFfnWInIdeal.τ).loc Cert.AdamFfnWInIdeal.main_arg1) = m ((c.tc : Thread Cert.AdamFfnWInIdeal.nD Cert.AdamFfnWInIdeal.τ).loc Cert.AdamFfnWInIdeal.main_arg1)
          ∧ r.2.mem ((c.tc : Thread Cert.AdamFfnWInIdeal.nD Cert.AdamFfnWInIdeal.τ).loc Cert.AdamFfnWInIdeal.main_arg2) = m ((c.tc : Thread Cert.AdamFfnWInIdeal.nD Cert.AdamFfnWInIdeal.τ).loc Cert.AdamFfnWInIdeal.main_arg2)
          ∧ r.2.mem ((c.tc : Thread Cert.AdamFfnWInIdeal.nD Cert.AdamFfnWInIdeal.τ).loc Cert.AdamFfnWInIdeal.main_arg3) = m ((c.tc : Thread Cert.AdamFfnWInIdeal.nD Cert.AdamFfnWInIdeal.τ).loc Cert.AdamFfnWInIdeal.main_arg3)
          ∧ r.2.mem ((c.tc : Thread Cert.AdamFfnWInIdeal.nD Cert.AdamFfnWInIdeal.τ).loc Cert.AdamFfnWInIdeal.main_arg4) = m ((c.tc : Thread Cert.AdamFfnWInIdeal.nD Cert.AdamFfnWInIdeal.τ).loc Cert.AdamFfnWInIdeal.main_arg4))
      ∧ θ_run (Cert.AdamFfnWInReferenceIdeal.defs (F := Ideal)) (onTc (τ := Cert.AdamFfnWInReferenceIdeal.τ) (Cert.AdamFfnWInReferenceIdeal.main (F := Ideal))) ⟨m', fun _ => 0, g'⟩ (fun r => ∀ c : Dev Cert.AdamFfnWInReferenceIdeal.nD,
          r.2.mem ((c.tc : Thread Cert.AdamFfnWInReferenceIdeal.nD Cert.AdamFfnWInReferenceIdeal.τ).loc Cert.AdamFfnWInReferenceIdeal.main_v2) = v0 c
          ∧ r.2.mem ((c.tc : Thread Cert.AdamFfnWInReferenceIdeal.nD Cert.AdamFfnWInReferenceIdeal.τ).loc Cert.AdamFfnWInReferenceIdeal.main_v26) = v1 c
          ∧ r.2.mem ((c.tc : Thread Cert.AdamFfnWInReferenceIdeal.nD Cert.AdamFfnWInReferenceIdeal.τ).loc Cert.AdamFfnWInReferenceIdeal.main_v7) = v2 c
          ∧ r.2.mem ((c.tc : Thread Cert.AdamFfnWInReferenceIdeal.nD Cert.AdamFfnWInReferenceIdeal.τ).loc Cert.AdamFfnWInReferenceIdeal.main_v13) = v3 c
          ∧ r.2.mem ((c.tc : Thread Cert.AdamFfnWInReferenceIdeal.nD Cert.AdamFfnWInReferenceIdeal.τ).loc Cert.AdamFfnWInReferenceIdeal.main_arg0) = m' ((c.tc : Thread Cert.AdamFfnWInReferenceIdeal.nD Cert.AdamFfnWInReferenceIdeal.τ).loc Cert.AdamFfnWInReferenceIdeal.main_arg0)
          ∧ r.2.mem ((c.tc : Thread Cert.AdamFfnWInReferenceIdeal.nD Cert.AdamFfnWInReferenceIdeal.τ).loc Cert.AdamFfnWInReferenceIdeal.main_arg1) = m' ((c.tc : Thread Cert.AdamFfnWInReferenceIdeal.nD Cert.AdamFfnWInReferenceIdeal.τ).loc Cert.AdamFfnWInReferenceIdeal.main_arg1)
          ∧ r.2.mem ((c.tc : Thread Cert.AdamFfnWInReferenceIdeal.nD Cert.AdamFfnWInReferenceIdeal.τ).loc Cert.AdamFfnWInReferenceIdeal.main_arg2) = m' ((c.tc : Thread Cert.AdamFfnWInReferenceIdeal.nD Cert.AdamFfnWInReferenceIdeal.τ).loc Cert.AdamFfnWInReferenceIdeal.main_arg2)
          ∧ r.2.mem ((c.tc : Thread Cert.AdamFfnWInReferenceIdeal.nD Cert.AdamFfnWInReferenceIdeal.τ).loc Cert.AdamFfnWInReferenceIdeal.main_arg3) = m' ((c.tc : Thread Cert.AdamFfnWInReferenceIdeal.nD Cert.AdamFfnWInReferenceIdeal.τ).loc Cert.AdamFfnWInReferenceIdeal.main_arg3)
          ∧ r.2.mem ((c.tc : Thread Cert.AdamFfnWInReferenceIdeal.nD Cert.AdamFfnWInReferenceIdeal.τ).loc Cert.AdamFfnWInReferenceIdeal.main_arg4) = m' ((c.tc : Thread Cert.AdamFfnWInReferenceIdeal.nD Cert.AdamFfnWInReferenceIdeal.τ).loc Cert.AdamFfnWInReferenceIdeal.main_arg4))

def preserves_AdamFfnWOut_AdamFfnWOutIdeal : Prop :=
  True

def algebraic_AdamFfnWOutIdeal_AdamFfnWOutReferenceIdeal [hAdamFfnWOutIdeal : Cert.AdamFfnWOutIdeal.Facts] [hAdamFfnWOutReferenceIdeal : Cert.AdamFfnWOutReferenceIdeal.Facts] : Prop :=
  ∀ (m : (ℓ : Loc Cert.AdamFfnWOutIdeal.nD Cert.AdamFfnWOutIdeal.τ Cert.AdamFfnWOutIdeal.sig) → Buf (Elt Ideal) ℓ) (g : Dev Cert.AdamFfnWOutIdeal.nD → PrngReg)
    (m' : (ℓ : Loc Cert.AdamFfnWOutReferenceIdeal.nD Cert.AdamFfnWOutReferenceIdeal.τ Cert.AdamFfnWOutReferenceIdeal.sig) → Buf (Elt Ideal) ℓ) (g' : Dev Cert.AdamFfnWOutReferenceIdeal.nD → PrngReg), Pre_AdamFfnWOutIdeal m →
    (∀ c : Dev Cert.AdamFfnWOutIdeal.nD,
      m' ((c.tc : Thread Cert.AdamFfnWOutReferenceIdeal.nD Cert.AdamFfnWOutReferenceIdeal.τ).loc Cert.AdamFfnWOutReferenceIdeal.main_arg0) = m ((c.tc : Thread Cert.AdamFfnWOutIdeal.nD Cert.AdamFfnWOutIdeal.τ).loc Cert.AdamFfnWOutIdeal.main_arg0)
      ∧ m' ((c.tc : Thread Cert.AdamFfnWOutReferenceIdeal.nD Cert.AdamFfnWOutReferenceIdeal.τ).loc Cert.AdamFfnWOutReferenceIdeal.main_arg1) = m ((c.tc : Thread Cert.AdamFfnWOutIdeal.nD Cert.AdamFfnWOutIdeal.τ).loc Cert.AdamFfnWOutIdeal.main_arg1)
      ∧ m' ((c.tc : Thread Cert.AdamFfnWOutReferenceIdeal.nD Cert.AdamFfnWOutReferenceIdeal.τ).loc Cert.AdamFfnWOutReferenceIdeal.main_arg2) = m ((c.tc : Thread Cert.AdamFfnWOutIdeal.nD Cert.AdamFfnWOutIdeal.τ).loc Cert.AdamFfnWOutIdeal.main_arg2)
      ∧ m' ((c.tc : Thread Cert.AdamFfnWOutReferenceIdeal.nD Cert.AdamFfnWOutReferenceIdeal.τ).loc Cert.AdamFfnWOutReferenceIdeal.main_arg3) = m ((c.tc : Thread Cert.AdamFfnWOutIdeal.nD Cert.AdamFfnWOutIdeal.τ).loc Cert.AdamFfnWOutIdeal.main_arg3)
      ∧ m' ((c.tc : Thread Cert.AdamFfnWOutReferenceIdeal.nD Cert.AdamFfnWOutReferenceIdeal.τ).loc Cert.AdamFfnWOutReferenceIdeal.main_arg4) = m ((c.tc : Thread Cert.AdamFfnWOutIdeal.nD Cert.AdamFfnWOutIdeal.τ).loc Cert.AdamFfnWOutIdeal.main_arg4)) →
    ∃ (v0 : (c : Dev Cert.AdamFfnWOutIdeal.nD) → Buf (Elt Ideal) ((c.tc : Thread Cert.AdamFfnWOutIdeal.nD Cert.AdamFfnWOutIdeal.τ).loc Cert.AdamFfnWOutIdeal.main_v2_0)) (v1 : (c : Dev Cert.AdamFfnWOutIdeal.nD) → Buf (Elt Ideal) ((c.tc : Thread Cert.AdamFfnWOutIdeal.nD Cert.AdamFfnWOutIdeal.τ).loc Cert.AdamFfnWOutIdeal.main_v2_1)) (v2 : (c : Dev Cert.AdamFfnWOutIdeal.nD) → Buf (Elt Ideal) ((c.tc : Thread Cert.AdamFfnWOutIdeal.nD Cert.AdamFfnWOutIdeal.τ).loc Cert.AdamFfnWOutIdeal.main_v2_2)) (v3 : (c : Dev Cert.AdamFfnWOutIdeal.nD) → Buf (Elt Ideal) ((c.tc : Thread Cert.AdamFfnWOutIdeal.nD Cert.AdamFfnWOutIdeal.τ).loc Cert.AdamFfnWOutIdeal.main_v2_3)),
      θ_run (Cert.AdamFfnWOutIdeal.defs (F := Ideal)) (onTc (τ := Cert.AdamFfnWOutIdeal.τ) (Cert.AdamFfnWOutIdeal.main (F := Ideal))) ⟨m, fun _ => 0, g⟩ (fun r => ∀ c : Dev Cert.AdamFfnWOutIdeal.nD,
          r.2.mem ((c.tc : Thread Cert.AdamFfnWOutIdeal.nD Cert.AdamFfnWOutIdeal.τ).loc Cert.AdamFfnWOutIdeal.main_v2_0) = v0 c
          ∧ r.2.mem ((c.tc : Thread Cert.AdamFfnWOutIdeal.nD Cert.AdamFfnWOutIdeal.τ).loc Cert.AdamFfnWOutIdeal.main_v2_1) = v1 c
          ∧ r.2.mem ((c.tc : Thread Cert.AdamFfnWOutIdeal.nD Cert.AdamFfnWOutIdeal.τ).loc Cert.AdamFfnWOutIdeal.main_v2_2) = v2 c
          ∧ r.2.mem ((c.tc : Thread Cert.AdamFfnWOutIdeal.nD Cert.AdamFfnWOutIdeal.τ).loc Cert.AdamFfnWOutIdeal.main_v2_3) = v3 c
          ∧ r.2.mem ((c.tc : Thread Cert.AdamFfnWOutIdeal.nD Cert.AdamFfnWOutIdeal.τ).loc Cert.AdamFfnWOutIdeal.main_arg0) = m ((c.tc : Thread Cert.AdamFfnWOutIdeal.nD Cert.AdamFfnWOutIdeal.τ).loc Cert.AdamFfnWOutIdeal.main_arg0)
          ∧ r.2.mem ((c.tc : Thread Cert.AdamFfnWOutIdeal.nD Cert.AdamFfnWOutIdeal.τ).loc Cert.AdamFfnWOutIdeal.main_arg1) = m ((c.tc : Thread Cert.AdamFfnWOutIdeal.nD Cert.AdamFfnWOutIdeal.τ).loc Cert.AdamFfnWOutIdeal.main_arg1)
          ∧ r.2.mem ((c.tc : Thread Cert.AdamFfnWOutIdeal.nD Cert.AdamFfnWOutIdeal.τ).loc Cert.AdamFfnWOutIdeal.main_arg2) = m ((c.tc : Thread Cert.AdamFfnWOutIdeal.nD Cert.AdamFfnWOutIdeal.τ).loc Cert.AdamFfnWOutIdeal.main_arg2)
          ∧ r.2.mem ((c.tc : Thread Cert.AdamFfnWOutIdeal.nD Cert.AdamFfnWOutIdeal.τ).loc Cert.AdamFfnWOutIdeal.main_arg3) = m ((c.tc : Thread Cert.AdamFfnWOutIdeal.nD Cert.AdamFfnWOutIdeal.τ).loc Cert.AdamFfnWOutIdeal.main_arg3)
          ∧ r.2.mem ((c.tc : Thread Cert.AdamFfnWOutIdeal.nD Cert.AdamFfnWOutIdeal.τ).loc Cert.AdamFfnWOutIdeal.main_arg4) = m ((c.tc : Thread Cert.AdamFfnWOutIdeal.nD Cert.AdamFfnWOutIdeal.τ).loc Cert.AdamFfnWOutIdeal.main_arg4))
      ∧ θ_run (Cert.AdamFfnWOutReferenceIdeal.defs (F := Ideal)) (onTc (τ := Cert.AdamFfnWOutReferenceIdeal.τ) (Cert.AdamFfnWOutReferenceIdeal.main (F := Ideal))) ⟨m', fun _ => 0, g'⟩ (fun r => ∀ c : Dev Cert.AdamFfnWOutReferenceIdeal.nD,
          r.2.mem ((c.tc : Thread Cert.AdamFfnWOutReferenceIdeal.nD Cert.AdamFfnWOutReferenceIdeal.τ).loc Cert.AdamFfnWOutReferenceIdeal.main_v4) = v0 c
          ∧ r.2.mem ((c.tc : Thread Cert.AdamFfnWOutReferenceIdeal.nD Cert.AdamFfnWOutReferenceIdeal.τ).loc Cert.AdamFfnWOutReferenceIdeal.main_v28) = v1 c
          ∧ r.2.mem ((c.tc : Thread Cert.AdamFfnWOutReferenceIdeal.nD Cert.AdamFfnWOutReferenceIdeal.τ).loc Cert.AdamFfnWOutReferenceIdeal.main_v9) = v2 c
          ∧ r.2.mem ((c.tc : Thread Cert.AdamFfnWOutReferenceIdeal.nD Cert.AdamFfnWOutReferenceIdeal.τ).loc Cert.AdamFfnWOutReferenceIdeal.main_v15) = v3 c
          ∧ r.2.mem ((c.tc : Thread Cert.AdamFfnWOutReferenceIdeal.nD Cert.AdamFfnWOutReferenceIdeal.τ).loc Cert.AdamFfnWOutReferenceIdeal.main_arg0) = m' ((c.tc : Thread Cert.AdamFfnWOutReferenceIdeal.nD Cert.AdamFfnWOutReferenceIdeal.τ).loc Cert.AdamFfnWOutReferenceIdeal.main_arg0)
          ∧ r.2.mem ((c.tc : Thread Cert.AdamFfnWOutReferenceIdeal.nD Cert.AdamFfnWOutReferenceIdeal.τ).loc Cert.AdamFfnWOutReferenceIdeal.main_arg1) = m' ((c.tc : Thread Cert.AdamFfnWOutReferenceIdeal.nD Cert.AdamFfnWOutReferenceIdeal.τ).loc Cert.AdamFfnWOutReferenceIdeal.main_arg1)
          ∧ r.2.mem ((c.tc : Thread Cert.AdamFfnWOutReferenceIdeal.nD Cert.AdamFfnWOutReferenceIdeal.τ).loc Cert.AdamFfnWOutReferenceIdeal.main_arg2) = m' ((c.tc : Thread Cert.AdamFfnWOutReferenceIdeal.nD Cert.AdamFfnWOutReferenceIdeal.τ).loc Cert.AdamFfnWOutReferenceIdeal.main_arg2)
          ∧ r.2.mem ((c.tc : Thread Cert.AdamFfnWOutReferenceIdeal.nD Cert.AdamFfnWOutReferenceIdeal.τ).loc Cert.AdamFfnWOutReferenceIdeal.main_arg3) = m' ((c.tc : Thread Cert.AdamFfnWOutReferenceIdeal.nD Cert.AdamFfnWOutReferenceIdeal.τ).loc Cert.AdamFfnWOutReferenceIdeal.main_arg3)
          ∧ r.2.mem ((c.tc : Thread Cert.AdamFfnWOutReferenceIdeal.nD Cert.AdamFfnWOutReferenceIdeal.τ).loc Cert.AdamFfnWOutReferenceIdeal.main_arg4) = m' ((c.tc : Thread Cert.AdamFfnWOutReferenceIdeal.nD Cert.AdamFfnWOutReferenceIdeal.τ).loc Cert.AdamFfnWOutReferenceIdeal.main_arg4))

def preserves_SumAttnWIn_SumAttnWInIdeal : Prop :=
  True

def algebraic_SumAttnWInIdeal_SumAttnWInReferenceIdeal [hSumAttnWInIdeal : Cert.SumAttnWInIdeal.Facts] [hSumAttnWInReferenceIdeal : Cert.SumAttnWInReferenceIdeal.Facts] : Prop :=
  ∀ (m : (ℓ : Loc Cert.SumAttnWInIdeal.nD Cert.SumAttnWInIdeal.τ Cert.SumAttnWInIdeal.sig) → Buf (Elt Ideal) ℓ) (g : Dev Cert.SumAttnWInIdeal.nD → PrngReg)
    (m' : (ℓ : Loc Cert.SumAttnWInReferenceIdeal.nD Cert.SumAttnWInReferenceIdeal.τ Cert.SumAttnWInReferenceIdeal.sig) → Buf (Elt Ideal) ℓ) (g' : Dev Cert.SumAttnWInReferenceIdeal.nD → PrngReg), Pre_SumAttnWInIdeal m →
    (∀ c : Dev Cert.SumAttnWInIdeal.nD,
      m' ((c.tc : Thread Cert.SumAttnWInReferenceIdeal.nD Cert.SumAttnWInReferenceIdeal.τ).loc Cert.SumAttnWInReferenceIdeal.main_arg0) = m ((c.tc : Thread Cert.SumAttnWInIdeal.nD Cert.SumAttnWInIdeal.τ).loc Cert.SumAttnWInIdeal.main_arg0)) →
    ∃ (v0 : (c : Dev Cert.SumAttnWInIdeal.nD) → Buf (Elt Ideal) ((c.tc : Thread Cert.SumAttnWInIdeal.nD Cert.SumAttnWInIdeal.τ).loc Cert.SumAttnWInIdeal.main_v1)),
      θ_run (Cert.SumAttnWInIdeal.defs (F := Ideal)) (onTc (τ := Cert.SumAttnWInIdeal.τ) (Cert.SumAttnWInIdeal.main (F := Ideal))) ⟨m, fun _ => 0, g⟩ (fun r => ∀ c : Dev Cert.SumAttnWInIdeal.nD,
          r.2.mem ((c.tc : Thread Cert.SumAttnWInIdeal.nD Cert.SumAttnWInIdeal.τ).loc Cert.SumAttnWInIdeal.main_v1) = v0 c
          ∧ r.2.mem ((c.tc : Thread Cert.SumAttnWInIdeal.nD Cert.SumAttnWInIdeal.τ).loc Cert.SumAttnWInIdeal.main_arg0) = m ((c.tc : Thread Cert.SumAttnWInIdeal.nD Cert.SumAttnWInIdeal.τ).loc Cert.SumAttnWInIdeal.main_arg0))
      ∧ θ_run (Cert.SumAttnWInReferenceIdeal.defs (F := Ideal)) (onTc (τ := Cert.SumAttnWInReferenceIdeal.τ) (Cert.SumAttnWInReferenceIdeal.main (F := Ideal))) ⟨m', fun _ => 0, g'⟩ (fun r => ∀ c : Dev Cert.SumAttnWInReferenceIdeal.nD,
          r.2.mem ((c.tc : Thread Cert.SumAttnWInReferenceIdeal.nD Cert.SumAttnWInReferenceIdeal.τ).loc Cert.SumAttnWInReferenceIdeal.main_v0) = v0 c
          ∧ r.2.mem ((c.tc : Thread Cert.SumAttnWInReferenceIdeal.nD Cert.SumAttnWInReferenceIdeal.τ).loc Cert.SumAttnWInReferenceIdeal.main_arg0) = m' ((c.tc : Thread Cert.SumAttnWInReferenceIdeal.nD Cert.SumAttnWInReferenceIdeal.τ).loc Cert.SumAttnWInReferenceIdeal.main_arg0))

def preserves_SumSsmWIn_SumSsmWInIdeal : Prop :=
  True

def algebraic_SumSsmWInIdeal_SumSsmWInReferenceIdeal [hSumSsmWInIdeal : Cert.SumSsmWInIdeal.Facts] [hSumSsmWInReferenceIdeal : Cert.SumSsmWInReferenceIdeal.Facts] : Prop :=
  ∀ (m : (ℓ : Loc Cert.SumSsmWInIdeal.nD Cert.SumSsmWInIdeal.τ Cert.SumSsmWInIdeal.sig) → Buf (Elt Ideal) ℓ) (g : Dev Cert.SumSsmWInIdeal.nD → PrngReg)
    (m' : (ℓ : Loc Cert.SumSsmWInReferenceIdeal.nD Cert.SumSsmWInReferenceIdeal.τ Cert.SumSsmWInReferenceIdeal.sig) → Buf (Elt Ideal) ℓ) (g' : Dev Cert.SumSsmWInReferenceIdeal.nD → PrngReg), Pre_SumSsmWInIdeal m →
    (∀ c : Dev Cert.SumSsmWInIdeal.nD,
      m' ((c.tc : Thread Cert.SumSsmWInReferenceIdeal.nD Cert.SumSsmWInReferenceIdeal.τ).loc Cert.SumSsmWInReferenceIdeal.main_arg0) = m ((c.tc : Thread Cert.SumSsmWInIdeal.nD Cert.SumSsmWInIdeal.τ).loc Cert.SumSsmWInIdeal.main_arg0)) →
    ∃ (v0 : (c : Dev Cert.SumSsmWInIdeal.nD) → Buf (Elt Ideal) ((c.tc : Thread Cert.SumSsmWInIdeal.nD Cert.SumSsmWInIdeal.τ).loc Cert.SumSsmWInIdeal.main_v1)),
      θ_run (Cert.SumSsmWInIdeal.defs (F := Ideal)) (onTc (τ := Cert.SumSsmWInIdeal.τ) (Cert.SumSsmWInIdeal.main (F := Ideal))) ⟨m, fun _ => 0, g⟩ (fun r => ∀ c : Dev Cert.SumSsmWInIdeal.nD,
          r.2.mem ((c.tc : Thread Cert.SumSsmWInIdeal.nD Cert.SumSsmWInIdeal.τ).loc Cert.SumSsmWInIdeal.main_v1) = v0 c
          ∧ r.2.mem ((c.tc : Thread Cert.SumSsmWInIdeal.nD Cert.SumSsmWInIdeal.τ).loc Cert.SumSsmWInIdeal.main_arg0) = m ((c.tc : Thread Cert.SumSsmWInIdeal.nD Cert.SumSsmWInIdeal.τ).loc Cert.SumSsmWInIdeal.main_arg0))
      ∧ θ_run (Cert.SumSsmWInReferenceIdeal.defs (F := Ideal)) (onTc (τ := Cert.SumSsmWInReferenceIdeal.τ) (Cert.SumSsmWInReferenceIdeal.main (F := Ideal))) ⟨m', fun _ => 0, g'⟩ (fun r => ∀ c : Dev Cert.SumSsmWInReferenceIdeal.nD,
          r.2.mem ((c.tc : Thread Cert.SumSsmWInReferenceIdeal.nD Cert.SumSsmWInReferenceIdeal.τ).loc Cert.SumSsmWInReferenceIdeal.main_v0) = v0 c
          ∧ r.2.mem ((c.tc : Thread Cert.SumSsmWInReferenceIdeal.nD Cert.SumSsmWInReferenceIdeal.τ).loc Cert.SumSsmWInReferenceIdeal.main_arg0) = m' ((c.tc : Thread Cert.SumSsmWInReferenceIdeal.nD Cert.SumSsmWInReferenceIdeal.τ).loc Cert.SumSsmWInReferenceIdeal.main_arg0))

def preserves_SumFfnWIn_SumFfnWInIdeal : Prop :=
  True

def algebraic_SumFfnWInIdeal_SumFfnWInReferenceIdeal [hSumFfnWInIdeal : Cert.SumFfnWInIdeal.Facts] [hSumFfnWInReferenceIdeal : Cert.SumFfnWInReferenceIdeal.Facts] : Prop :=
  ∀ (m : (ℓ : Loc Cert.SumFfnWInIdeal.nD Cert.SumFfnWInIdeal.τ Cert.SumFfnWInIdeal.sig) → Buf (Elt Ideal) ℓ) (g : Dev Cert.SumFfnWInIdeal.nD → PrngReg)
    (m' : (ℓ : Loc Cert.SumFfnWInReferenceIdeal.nD Cert.SumFfnWInReferenceIdeal.τ Cert.SumFfnWInReferenceIdeal.sig) → Buf (Elt Ideal) ℓ) (g' : Dev Cert.SumFfnWInReferenceIdeal.nD → PrngReg), Pre_SumFfnWInIdeal m →
    (∀ c : Dev Cert.SumFfnWInIdeal.nD,
      m' ((c.tc : Thread Cert.SumFfnWInReferenceIdeal.nD Cert.SumFfnWInReferenceIdeal.τ).loc Cert.SumFfnWInReferenceIdeal.main_arg0) = m ((c.tc : Thread Cert.SumFfnWInIdeal.nD Cert.SumFfnWInIdeal.τ).loc Cert.SumFfnWInIdeal.main_arg0)) →
    ∃ (v0 : (c : Dev Cert.SumFfnWInIdeal.nD) → Buf (Elt Ideal) ((c.tc : Thread Cert.SumFfnWInIdeal.nD Cert.SumFfnWInIdeal.τ).loc Cert.SumFfnWInIdeal.main_v1)),
      θ_run (Cert.SumFfnWInIdeal.defs (F := Ideal)) (onTc (τ := Cert.SumFfnWInIdeal.τ) (Cert.SumFfnWInIdeal.main (F := Ideal))) ⟨m, fun _ => 0, g⟩ (fun r => ∀ c : Dev Cert.SumFfnWInIdeal.nD,
          r.2.mem ((c.tc : Thread Cert.SumFfnWInIdeal.nD Cert.SumFfnWInIdeal.τ).loc Cert.SumFfnWInIdeal.main_v1) = v0 c
          ∧ r.2.mem ((c.tc : Thread Cert.SumFfnWInIdeal.nD Cert.SumFfnWInIdeal.τ).loc Cert.SumFfnWInIdeal.main_arg0) = m ((c.tc : Thread Cert.SumFfnWInIdeal.nD Cert.SumFfnWInIdeal.τ).loc Cert.SumFfnWInIdeal.main_arg0))
      ∧ θ_run (Cert.SumFfnWInReferenceIdeal.defs (F := Ideal)) (onTc (τ := Cert.SumFfnWInReferenceIdeal.τ) (Cert.SumFfnWInReferenceIdeal.main (F := Ideal))) ⟨m', fun _ => 0, g'⟩ (fun r => ∀ c : Dev Cert.SumFfnWInReferenceIdeal.nD,
          r.2.mem ((c.tc : Thread Cert.SumFfnWInReferenceIdeal.nD Cert.SumFfnWInReferenceIdeal.τ).loc Cert.SumFfnWInReferenceIdeal.main_v0) = v0 c
          ∧ r.2.mem ((c.tc : Thread Cert.SumFfnWInReferenceIdeal.nD Cert.SumFfnWInReferenceIdeal.τ).loc Cert.SumFfnWInReferenceIdeal.main_arg0) = m' ((c.tc : Thread Cert.SumFfnWInReferenceIdeal.nD Cert.SumFfnWInReferenceIdeal.τ).loc Cert.SumFfnWInReferenceIdeal.main_arg0))

def preserves_SsmDwDt_SsmDwDtIdeal : Prop :=
  True

def algebraic_SsmDwDtIdeal_SsmDwDtReferenceIdeal [hSsmDwDtIdeal : Cert.SsmDwDtIdeal.Facts] [hSsmDwDtReferenceIdeal : Cert.SsmDwDtReferenceIdeal.Facts] : Prop :=
  ∀ (m : (ℓ : Loc Cert.SsmDwDtIdeal.nD Cert.SsmDwDtIdeal.τ Cert.SsmDwDtIdeal.sig) → Buf (Elt Ideal) ℓ) (g : Dev Cert.SsmDwDtIdeal.nD → PrngReg)
    (m' : (ℓ : Loc Cert.SsmDwDtReferenceIdeal.nD Cert.SsmDwDtReferenceIdeal.τ Cert.SsmDwDtReferenceIdeal.sig) → Buf (Elt Ideal) ℓ) (g' : Dev Cert.SsmDwDtReferenceIdeal.nD → PrngReg), Pre_SsmDwDtIdeal m →
    (∀ c : Dev Cert.SsmDwDtIdeal.nD,
      m' ((c.tc : Thread Cert.SsmDwDtReferenceIdeal.nD Cert.SsmDwDtReferenceIdeal.τ).loc Cert.SsmDwDtReferenceIdeal.main_arg0) = m ((c.tc : Thread Cert.SsmDwDtIdeal.nD Cert.SsmDwDtIdeal.τ).loc Cert.SsmDwDtIdeal.main_arg0)
      ∧ m' ((c.tc : Thread Cert.SsmDwDtReferenceIdeal.nD Cert.SsmDwDtReferenceIdeal.τ).loc Cert.SsmDwDtReferenceIdeal.main_arg1) = m ((c.tc : Thread Cert.SsmDwDtIdeal.nD Cert.SsmDwDtIdeal.τ).loc Cert.SsmDwDtIdeal.main_arg1)) →
    ∃ (v0 : (c : Dev Cert.SsmDwDtIdeal.nD) → Buf (Elt Ideal) ((c.tc : Thread Cert.SsmDwDtIdeal.nD Cert.SsmDwDtIdeal.τ).loc Cert.SsmDwDtIdeal.main_v2)),
      θ_run (Cert.SsmDwDtIdeal.defs (F := Ideal)) (onTc (τ := Cert.SsmDwDtIdeal.τ) (Cert.SsmDwDtIdeal.main (F := Ideal))) ⟨m, fun _ => 0, g⟩ (fun r => ∀ c : Dev Cert.SsmDwDtIdeal.nD,
          r.2.mem ((c.tc : Thread Cert.SsmDwDtIdeal.nD Cert.SsmDwDtIdeal.τ).loc Cert.SsmDwDtIdeal.main_v2) = v0 c
          ∧ r.2.mem ((c.tc : Thread Cert.SsmDwDtIdeal.nD Cert.SsmDwDtIdeal.τ).loc Cert.SsmDwDtIdeal.main_arg0) = m ((c.tc : Thread Cert.SsmDwDtIdeal.nD Cert.SsmDwDtIdeal.τ).loc Cert.SsmDwDtIdeal.main_arg0)
          ∧ r.2.mem ((c.tc : Thread Cert.SsmDwDtIdeal.nD Cert.SsmDwDtIdeal.τ).loc Cert.SsmDwDtIdeal.main_arg1) = m ((c.tc : Thread Cert.SsmDwDtIdeal.nD Cert.SsmDwDtIdeal.τ).loc Cert.SsmDwDtIdeal.main_arg1))
      ∧ θ_run (Cert.SsmDwDtReferenceIdeal.defs (F := Ideal)) (onTc (τ := Cert.SsmDwDtReferenceIdeal.τ) (Cert.SsmDwDtReferenceIdeal.main (F := Ideal))) ⟨m', fun _ => 0, g'⟩ (fun r => ∀ c : Dev Cert.SsmDwDtReferenceIdeal.nD,
          r.2.mem ((c.tc : Thread Cert.SsmDwDtReferenceIdeal.nD Cert.SsmDwDtReferenceIdeal.τ).loc Cert.SsmDwDtReferenceIdeal.main_v5) = v0 c
          ∧ r.2.mem ((c.tc : Thread Cert.SsmDwDtReferenceIdeal.nD Cert.SsmDwDtReferenceIdeal.τ).loc Cert.SsmDwDtReferenceIdeal.main_arg0) = m' ((c.tc : Thread Cert.SsmDwDtReferenceIdeal.nD Cert.SsmDwDtReferenceIdeal.τ).loc Cert.SsmDwDtReferenceIdeal.main_arg0)
          ∧ r.2.mem ((c.tc : Thread Cert.SsmDwDtReferenceIdeal.nD Cert.SsmDwDtReferenceIdeal.τ).loc Cert.SsmDwDtReferenceIdeal.main_arg1) = m' ((c.tc : Thread Cert.SsmDwDtReferenceIdeal.nD Cert.SsmDwDtReferenceIdeal.τ).loc Cert.SsmDwDtReferenceIdeal.main_arg1))

def Claim : Prop :=
  ∃ (hKernel : Cert.Kernel.Facts) (hKernelIdeal : Cert.KernelIdeal.Facts) (hReferenceIdeal : Cert.ReferenceIdeal.Facts) (hFfnDwOut : Cert.FfnDwOut.Facts) (hFfnDwOutIdeal : Cert.FfnDwOutIdeal.Facts) (hFfnDwOutReferenceIdeal : Cert.FfnDwOutReferenceIdeal.Facts) (hFfnDwIn : Cert.FfnDwIn.Facts) (hFfnDwInIdeal : Cert.FfnDwInIdeal.Facts) (hFfnDwInReferenceIdeal : Cert.FfnDwInReferenceIdeal.Facts) (hSsmDwOut : Cert.SsmDwOut.Facts) (hSsmDwOutIdeal : Cert.SsmDwOutIdeal.Facts) (hSsmDwOutReferenceIdeal : Cert.SsmDwOutReferenceIdeal.Facts) (hSsmDwZ : Cert.SsmDwZ.Facts) (hSsmDwZIdeal : Cert.SsmDwZIdeal.Facts) (hSsmDwZReferenceIdeal : Cert.SsmDwZReferenceIdeal.Facts) (hSsmDwX : Cert.SsmDwX.Facts) (hSsmDwXIdeal : Cert.SsmDwXIdeal.Facts) (hSsmDwXReferenceIdeal : Cert.SsmDwXReferenceIdeal.Facts) (hAttnDwIn : Cert.AttnDwIn.Facts) (hAttnDwInIdeal : Cert.AttnDwInIdeal.Facts) (hAttnDwInReferenceIdeal : Cert.AttnDwInReferenceIdeal.Facts) (hAttnDwOut : Cert.AttnDwOut.Facts) (hAttnDwOutIdeal : Cert.AttnDwOutIdeal.Facts) (hAttnDwOutReferenceIdeal : Cert.AttnDwOutReferenceIdeal.Facts) (hFfnOut : Cert.FfnOut.Facts) (hFfnOutIdeal : Cert.FfnOutIdeal.Facts) (hFfnOutReferenceIdeal : Cert.FfnOutReferenceIdeal.Facts) (hSsmOut : Cert.SsmOut.Facts) (hSsmOutIdeal : Cert.SsmOutIdeal.Facts) (hSsmOutReferenceIdeal : Cert.SsmOutReferenceIdeal.Facts) (hSsmDy : Cert.SsmDy.Facts) (hSsmDyIdeal : Cert.SsmDyIdeal.Facts) (hSsmDyReferenceIdeal : Cert.SsmDyReferenceIdeal.Facts) (hAttnDo : Cert.AttnDo.Facts) (hAttnDoIdeal : Cert.AttnDoIdeal.Facts) (hAttnDoReferenceIdeal : Cert.AttnDoReferenceIdeal.Facts) (hAttnOut : Cert.AttnOut.Facts) (hAttnOutIdeal : Cert.AttnOutIdeal.Facts) (hAttnOutReferenceIdeal : Cert.AttnOutReferenceIdeal.Facts) (hAttnIn : Cert.AttnIn.Facts) (hAttnInIdeal : Cert.AttnInIdeal.Facts) (hAttnInReferenceIdeal : Cert.AttnInReferenceIdeal.Facts) (hFfnDh : Cert.FfnDh.Facts) (hFfnDhIdeal : Cert.FfnDhIdeal.Facts) (hFfnDhReferenceIdeal : Cert.FfnDhReferenceIdeal.Facts) (hFfnLoss : Cert.FfnLoss.Facts) (hFfnLossIdeal : Cert.FfnLossIdeal.Facts) (hFfnLossReferenceIdeal : Cert.FfnLossReferenceIdeal.Facts) (hFfnIn : Cert.FfnIn.Facts) (hFfnInIdeal : Cert.FfnInIdeal.Facts) (hFfnInReferenceIdeal : Cert.FfnInReferenceIdeal.Facts) (hSsmDh : Cert.SsmDh.Facts) (hSsmDhIdeal : Cert.SsmDhIdeal.Facts) (hSsmDhReferenceIdeal : Cert.SsmDhReferenceIdeal.Facts) (hSsmIn : Cert.SsmIn.Facts) (hSsmInIdeal : Cert.SsmInIdeal.Facts) (hSsmInReferenceIdeal : Cert.SsmInReferenceIdeal.Facts) (hAdamAttnWIn : Cert.AdamAttnWIn.Facts) (hAdamAttnWInIdeal : Cert.AdamAttnWInIdeal.Facts) (hAdamAttnWInReferenceIdeal : Cert.AdamAttnWInReferenceIdeal.Facts) (hAdamAttnWOut : Cert.AdamAttnWOut.Facts) (hAdamAttnWOutIdeal : Cert.AdamAttnWOutIdeal.Facts) (hAdamAttnWOutReferenceIdeal : Cert.AdamAttnWOutReferenceIdeal.Facts) (hAdamSsmWIn : Cert.AdamSsmWIn.Facts) (hAdamSsmWInIdeal : Cert.AdamSsmWInIdeal.Facts) (hAdamSsmWInReferenceIdeal : Cert.AdamSsmWInReferenceIdeal.Facts) (hAdamSsmWOut : Cert.AdamSsmWOut.Facts) (hAdamSsmWOutIdeal : Cert.AdamSsmWOutIdeal.Facts) (hAdamSsmWOutReferenceIdeal : Cert.AdamSsmWOutReferenceIdeal.Facts) (hAdamFfnWIn : Cert.AdamFfnWIn.Facts) (hAdamFfnWInIdeal : Cert.AdamFfnWInIdeal.Facts) (hAdamFfnWInReferenceIdeal : Cert.AdamFfnWInReferenceIdeal.Facts) (hAdamFfnWOut : Cert.AdamFfnWOut.Facts) (hAdamFfnWOutIdeal : Cert.AdamFfnWOutIdeal.Facts) (hAdamFfnWOutReferenceIdeal : Cert.AdamFfnWOutReferenceIdeal.Facts) (hSumAttnWIn : Cert.SumAttnWIn.Facts) (hSumAttnWInIdeal : Cert.SumAttnWInIdeal.Facts) (hSumAttnWInReferenceIdeal : Cert.SumAttnWInReferenceIdeal.Facts) (hSumSsmWIn : Cert.SumSsmWIn.Facts) (hSumSsmWInIdeal : Cert.SumSsmWInIdeal.Facts) (hSumSsmWInReferenceIdeal : Cert.SumSsmWInReferenceIdeal.Facts) (hSumFfnWIn : Cert.SumFfnWIn.Facts) (hSumFfnWInIdeal : Cert.SumFfnWInIdeal.Facts) (hSumFfnWInReferenceIdeal : Cert.SumFfnWInReferenceIdeal.Facts) (hSsmDwDt : Cert.SsmDwDt.Facts) (hSsmDwDtIdeal : Cert.SsmDwDtIdeal.Facts) (hSsmDwDtReferenceIdeal : Cert.SsmDwDtReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnDwOut (hFfnDwOut := hFfnDwOut)
    ∧ quiescent_FfnDwOutIdeal (hFfnDwOutIdeal := hFfnDwOutIdeal)
    ∧ quiescent_FfnDwOutReferenceIdeal (hFfnDwOutReferenceIdeal := hFfnDwOutReferenceIdeal)
    ∧ quiescent_FfnDwIn (hFfnDwIn := hFfnDwIn)
    ∧ quiescent_FfnDwInIdeal (hFfnDwInIdeal := hFfnDwInIdeal)
    ∧ quiescent_FfnDwInReferenceIdeal (hFfnDwInReferenceIdeal := hFfnDwInReferenceIdeal)
    ∧ quiescent_SsmDwOut (hSsmDwOut := hSsmDwOut)
    ∧ quiescent_SsmDwOutIdeal (hSsmDwOutIdeal := hSsmDwOutIdeal)
    ∧ quiescent_SsmDwOutReferenceIdeal (hSsmDwOutReferenceIdeal := hSsmDwOutReferenceIdeal)
    ∧ quiescent_SsmDwZ (hSsmDwZ := hSsmDwZ)
    ∧ quiescent_SsmDwZIdeal (hSsmDwZIdeal := hSsmDwZIdeal)
    ∧ quiescent_SsmDwZReferenceIdeal (hSsmDwZReferenceIdeal := hSsmDwZReferenceIdeal)
    ∧ quiescent_SsmDwX (hSsmDwX := hSsmDwX)
    ∧ quiescent_SsmDwXIdeal (hSsmDwXIdeal := hSsmDwXIdeal)
    ∧ quiescent_SsmDwXReferenceIdeal (hSsmDwXReferenceIdeal := hSsmDwXReferenceIdeal)
    ∧ quiescent_AttnDwIn (hAttnDwIn := hAttnDwIn)
    ∧ quiescent_AttnDwInIdeal (hAttnDwInIdeal := hAttnDwInIdeal)
    ∧ quiescent_AttnDwInReferenceIdeal (hAttnDwInReferenceIdeal := hAttnDwInReferenceIdeal)
    ∧ quiescent_AttnDwOut (hAttnDwOut := hAttnDwOut)
    ∧ quiescent_AttnDwOutIdeal (hAttnDwOutIdeal := hAttnDwOutIdeal)
    ∧ quiescent_AttnDwOutReferenceIdeal (hAttnDwOutReferenceIdeal := hAttnDwOutReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_SsmOut (hSsmOut := hSsmOut)
    ∧ quiescent_SsmOutIdeal (hSsmOutIdeal := hSsmOutIdeal)
    ∧ quiescent_SsmOutReferenceIdeal (hSsmOutReferenceIdeal := hSsmOutReferenceIdeal)
    ∧ quiescent_SsmDy (hSsmDy := hSsmDy)
    ∧ quiescent_SsmDyIdeal (hSsmDyIdeal := hSsmDyIdeal)
    ∧ quiescent_SsmDyReferenceIdeal (hSsmDyReferenceIdeal := hSsmDyReferenceIdeal)
    ∧ quiescent_AttnDo (hAttnDo := hAttnDo)
    ∧ quiescent_AttnDoIdeal (hAttnDoIdeal := hAttnDoIdeal)
    ∧ quiescent_AttnDoReferenceIdeal (hAttnDoReferenceIdeal := hAttnDoReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_AttnIn (hAttnIn := hAttnIn)
    ∧ quiescent_AttnInIdeal (hAttnInIdeal := hAttnInIdeal)
    ∧ quiescent_AttnInReferenceIdeal (hAttnInReferenceIdeal := hAttnInReferenceIdeal)
    ∧ quiescent_FfnDh (hFfnDh := hFfnDh)
    ∧ quiescent_FfnDhIdeal (hFfnDhIdeal := hFfnDhIdeal)
    ∧ quiescent_FfnDhReferenceIdeal (hFfnDhReferenceIdeal := hFfnDhReferenceIdeal)
    ∧ quiescent_FfnLoss (hFfnLoss := hFfnLoss)
    ∧ quiescent_FfnLossIdeal (hFfnLossIdeal := hFfnLossIdeal)
    ∧ quiescent_FfnLossReferenceIdeal (hFfnLossReferenceIdeal := hFfnLossReferenceIdeal)
    ∧ quiescent_FfnIn (hFfnIn := hFfnIn)
    ∧ quiescent_FfnInIdeal (hFfnInIdeal := hFfnInIdeal)
    ∧ quiescent_FfnInReferenceIdeal (hFfnInReferenceIdeal := hFfnInReferenceIdeal)
    ∧ quiescent_SsmDh (hSsmDh := hSsmDh)
    ∧ quiescent_SsmDhIdeal (hSsmDhIdeal := hSsmDhIdeal)
    ∧ quiescent_SsmDhReferenceIdeal (hSsmDhReferenceIdeal := hSsmDhReferenceIdeal)
    ∧ quiescent_SsmIn (hSsmIn := hSsmIn)
    ∧ quiescent_SsmInIdeal (hSsmInIdeal := hSsmInIdeal)
    ∧ quiescent_SsmInReferenceIdeal (hSsmInReferenceIdeal := hSsmInReferenceIdeal)
    ∧ quiescent_AdamAttnWIn (hAdamAttnWIn := hAdamAttnWIn)
    ∧ quiescent_AdamAttnWInIdeal (hAdamAttnWInIdeal := hAdamAttnWInIdeal)
    ∧ quiescent_AdamAttnWInReferenceIdeal (hAdamAttnWInReferenceIdeal := hAdamAttnWInReferenceIdeal)
    ∧ quiescent_AdamAttnWOut (hAdamAttnWOut := hAdamAttnWOut)
    ∧ quiescent_AdamAttnWOutIdeal (hAdamAttnWOutIdeal := hAdamAttnWOutIdeal)
    ∧ quiescent_AdamAttnWOutReferenceIdeal (hAdamAttnWOutReferenceIdeal := hAdamAttnWOutReferenceIdeal)
    ∧ quiescent_AdamSsmWIn (hAdamSsmWIn := hAdamSsmWIn)
    ∧ quiescent_AdamSsmWInIdeal (hAdamSsmWInIdeal := hAdamSsmWInIdeal)
    ∧ quiescent_AdamSsmWInReferenceIdeal (hAdamSsmWInReferenceIdeal := hAdamSsmWInReferenceIdeal)
    ∧ quiescent_AdamSsmWOut (hAdamSsmWOut := hAdamSsmWOut)
    ∧ quiescent_AdamSsmWOutIdeal (hAdamSsmWOutIdeal := hAdamSsmWOutIdeal)
    ∧ quiescent_AdamSsmWOutReferenceIdeal (hAdamSsmWOutReferenceIdeal := hAdamSsmWOutReferenceIdeal)
    ∧ quiescent_AdamFfnWIn (hAdamFfnWIn := hAdamFfnWIn)
    ∧ quiescent_AdamFfnWInIdeal (hAdamFfnWInIdeal := hAdamFfnWInIdeal)
    ∧ quiescent_AdamFfnWInReferenceIdeal (hAdamFfnWInReferenceIdeal := hAdamFfnWInReferenceIdeal)
    ∧ quiescent_AdamFfnWOut (hAdamFfnWOut := hAdamFfnWOut)
    ∧ quiescent_AdamFfnWOutIdeal (hAdamFfnWOutIdeal := hAdamFfnWOutIdeal)
    ∧ quiescent_AdamFfnWOutReferenceIdeal (hAdamFfnWOutReferenceIdeal := hAdamFfnWOutReferenceIdeal)
    ∧ quiescent_SumAttnWIn (hSumAttnWIn := hSumAttnWIn)
    ∧ quiescent_SumAttnWInIdeal (hSumAttnWInIdeal := hSumAttnWInIdeal)
    ∧ quiescent_SumAttnWInReferenceIdeal (hSumAttnWInReferenceIdeal := hSumAttnWInReferenceIdeal)
    ∧ quiescent_SumSsmWIn (hSumSsmWIn := hSumSsmWIn)
    ∧ quiescent_SumSsmWInIdeal (hSumSsmWInIdeal := hSumSsmWInIdeal)
    ∧ quiescent_SumSsmWInReferenceIdeal (hSumSsmWInReferenceIdeal := hSumSsmWInReferenceIdeal)
    ∧ quiescent_SumFfnWIn (hSumFfnWIn := hSumFfnWIn)
    ∧ quiescent_SumFfnWInIdeal (hSumFfnWInIdeal := hSumFfnWInIdeal)
    ∧ quiescent_SumFfnWInReferenceIdeal (hSumFfnWInReferenceIdeal := hSumFfnWInReferenceIdeal)
    ∧ quiescent_SsmDwDt (hSsmDwDt := hSsmDwDt)
    ∧ quiescent_SsmDwDtIdeal (hSsmDwDtIdeal := hSsmDwDtIdeal)
    ∧ quiescent_SsmDwDtReferenceIdeal (hSsmDwDtReferenceIdeal := hSsmDwDtReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnDwOut_FfnDwOutIdeal
    ∧ algebraic_FfnDwOutIdeal_FfnDwOutReferenceIdeal (hFfnDwOutIdeal := hFfnDwOutIdeal) (hFfnDwOutReferenceIdeal := hFfnDwOutReferenceIdeal)
    ∧ preserves_FfnDwIn_FfnDwInIdeal
    ∧ algebraic_FfnDwInIdeal_FfnDwInReferenceIdeal (hFfnDwInIdeal := hFfnDwInIdeal) (hFfnDwInReferenceIdeal := hFfnDwInReferenceIdeal)
    ∧ preserves_SsmDwOut_SsmDwOutIdeal
    ∧ algebraic_SsmDwOutIdeal_SsmDwOutReferenceIdeal (hSsmDwOutIdeal := hSsmDwOutIdeal) (hSsmDwOutReferenceIdeal := hSsmDwOutReferenceIdeal)
    ∧ preserves_SsmDwZ_SsmDwZIdeal
    ∧ algebraic_SsmDwZIdeal_SsmDwZReferenceIdeal (hSsmDwZIdeal := hSsmDwZIdeal) (hSsmDwZReferenceIdeal := hSsmDwZReferenceIdeal)
    ∧ preserves_SsmDwX_SsmDwXIdeal
    ∧ algebraic_SsmDwXIdeal_SsmDwXReferenceIdeal (hSsmDwXIdeal := hSsmDwXIdeal) (hSsmDwXReferenceIdeal := hSsmDwXReferenceIdeal)
    ∧ preserves_AttnDwIn_AttnDwInIdeal
    ∧ algebraic_AttnDwInIdeal_AttnDwInReferenceIdeal (hAttnDwInIdeal := hAttnDwInIdeal) (hAttnDwInReferenceIdeal := hAttnDwInReferenceIdeal)
    ∧ preserves_AttnDwOut_AttnDwOutIdeal
    ∧ algebraic_AttnDwOutIdeal_AttnDwOutReferenceIdeal (hAttnDwOutIdeal := hAttnDwOutIdeal) (hAttnDwOutReferenceIdeal := hAttnDwOutReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_SsmOut_SsmOutIdeal
    ∧ algebraic_SsmOutIdeal_SsmOutReferenceIdeal (hSsmOutIdeal := hSsmOutIdeal) (hSsmOutReferenceIdeal := hSsmOutReferenceIdeal)
    ∧ preserves_SsmDy_SsmDyIdeal
    ∧ algebraic_SsmDyIdeal_SsmDyReferenceIdeal (hSsmDyIdeal := hSsmDyIdeal) (hSsmDyReferenceIdeal := hSsmDyReferenceIdeal)
    ∧ preserves_AttnDo_AttnDoIdeal
    ∧ algebraic_AttnDoIdeal_AttnDoReferenceIdeal (hAttnDoIdeal := hAttnDoIdeal) (hAttnDoReferenceIdeal := hAttnDoReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_AttnIn_AttnInIdeal
    ∧ algebraic_AttnInIdeal_AttnInReferenceIdeal (hAttnInIdeal := hAttnInIdeal) (hAttnInReferenceIdeal := hAttnInReferenceIdeal)
    ∧ preserves_FfnDh_FfnDhIdeal
    ∧ algebraic_FfnDhIdeal_FfnDhReferenceIdeal (hFfnDhIdeal := hFfnDhIdeal) (hFfnDhReferenceIdeal := hFfnDhReferenceIdeal)
    ∧ preserves_FfnLoss_FfnLossIdeal
    ∧ algebraic_FfnLossIdeal_FfnLossReferenceIdeal (hFfnLossIdeal := hFfnLossIdeal) (hFfnLossReferenceIdeal := hFfnLossReferenceIdeal)
    ∧ preserves_FfnIn_FfnInIdeal
    ∧ algebraic_FfnInIdeal_FfnInReferenceIdeal (hFfnInIdeal := hFfnInIdeal) (hFfnInReferenceIdeal := hFfnInReferenceIdeal)
    ∧ preserves_SsmDh_SsmDhIdeal
    ∧ algebraic_SsmDhIdeal_SsmDhReferenceIdeal (hSsmDhIdeal := hSsmDhIdeal) (hSsmDhReferenceIdeal := hSsmDhReferenceIdeal)
    ∧ preserves_SsmIn_SsmInIdeal
    ∧ algebraic_SsmInIdeal_SsmInReferenceIdeal (hSsmInIdeal := hSsmInIdeal) (hSsmInReferenceIdeal := hSsmInReferenceIdeal)
    ∧ preserves_AdamAttnWIn_AdamAttnWInIdeal
    ∧ algebraic_AdamAttnWInIdeal_AdamAttnWInReferenceIdeal (hAdamAttnWInIdeal := hAdamAttnWInIdeal) (hAdamAttnWInReferenceIdeal := hAdamAttnWInReferenceIdeal)
    ∧ preserves_AdamAttnWOut_AdamAttnWOutIdeal
    ∧ algebraic_AdamAttnWOutIdeal_AdamAttnWOutReferenceIdeal (hAdamAttnWOutIdeal := hAdamAttnWOutIdeal) (hAdamAttnWOutReferenceIdeal := hAdamAttnWOutReferenceIdeal)
    ∧ preserves_AdamSsmWIn_AdamSsmWInIdeal
    ∧ algebraic_AdamSsmWInIdeal_AdamSsmWInReferenceIdeal (hAdamSsmWInIdeal := hAdamSsmWInIdeal) (hAdamSsmWInReferenceIdeal := hAdamSsmWInReferenceIdeal)
    ∧ preserves_AdamSsmWOut_AdamSsmWOutIdeal
    ∧ algebraic_AdamSsmWOutIdeal_AdamSsmWOutReferenceIdeal (hAdamSsmWOutIdeal := hAdamSsmWOutIdeal) (hAdamSsmWOutReferenceIdeal := hAdamSsmWOutReferenceIdeal)
    ∧ preserves_AdamFfnWIn_AdamFfnWInIdeal
    ∧ algebraic_AdamFfnWInIdeal_AdamFfnWInReferenceIdeal (hAdamFfnWInIdeal := hAdamFfnWInIdeal) (hAdamFfnWInReferenceIdeal := hAdamFfnWInReferenceIdeal)
    ∧ preserves_AdamFfnWOut_AdamFfnWOutIdeal
    ∧ algebraic_AdamFfnWOutIdeal_AdamFfnWOutReferenceIdeal (hAdamFfnWOutIdeal := hAdamFfnWOutIdeal) (hAdamFfnWOutReferenceIdeal := hAdamFfnWOutReferenceIdeal)
    ∧ preserves_SumAttnWIn_SumAttnWInIdeal
    ∧ algebraic_SumAttnWInIdeal_SumAttnWInReferenceIdeal (hSumAttnWInIdeal := hSumAttnWInIdeal) (hSumAttnWInReferenceIdeal := hSumAttnWInReferenceIdeal)
    ∧ preserves_SumSsmWIn_SumSsmWInIdeal
    ∧ algebraic_SumSsmWInIdeal_SumSsmWInReferenceIdeal (hSumSsmWInIdeal := hSumSsmWInIdeal) (hSumSsmWInReferenceIdeal := hSumSsmWInReferenceIdeal)
    ∧ preserves_SumFfnWIn_SumFfnWInIdeal
    ∧ algebraic_SumFfnWInIdeal_SumFfnWInReferenceIdeal (hSumFfnWInIdeal := hSumFfnWInIdeal) (hSumFfnWInReferenceIdeal := hSumFfnWInReferenceIdeal)
    ∧ preserves_SsmDwDt_SsmDwDtIdeal
    ∧ algebraic_SsmDwDtIdeal_SsmDwDtReferenceIdeal (hSsmDwDtIdeal := hSsmDwDtIdeal) (hSsmDwDtReferenceIdeal := hSsmDwDtReferenceIdeal)
-- ==== Pre_finite.lean ====
abbrev S8192x5632 : Shape := ⟨2, ![8192, 5632]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  bcast_S_S3x2816 : S_.BroadcastsInDim S3x2816 (![] : Fin 0 → Fin S3x2816.rank)
  bcast_S_S1x2816 : S_.BroadcastsInDim S1x2816 (![] : Fin 0 → Fin S1x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S3x2816 .f32) (main_arg2 : FVec F S1x2816 .f32) (main_arg3 : FVec F S2816x1024 .f32) (main_arg4 : FVec F S8192x1024 .f32) : IVec S8192x5632 1 × IVec S3x2816 1 × IVec S1x2816 1 × IVec S2816x1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S3x2816 .f32 := Host.absf main_arg1
  let main_cst_0 : FVec F S_ .f32 := constant S_ .f32 0x7F800000#32
  let main_v4 : FVec F S3x2816 .f32 := broadcastInDim S3x2816 ![] bcast_S_S3x2816 main_cst_0
  let main_v5 : IVec S3x2816 1 := cmpf .olt main_v3 main_v4
  let main_v6 : FVec F S1x2816 .f32 := Host.absf main_arg2
  let main_cst_1 : FVec F S_ .f32 := constant S_ .f32 0x7F800000#32
  let main_v7 : FVec F S1x2816 .f32 := broadcastInDim S1x2816 ![] bcast_S_S1x2816 main_cst_1
  let main_v8 : IVec S1x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Kernel.lean ====
abbrev S8192x5632 : Shape := ⟨2, ![8192, 5632]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S2816 : Shape := ⟨1, ![2816]⟩
abbrev S8x2816 : Shape := ⟨2, ![8, 2816]⟩
abbrev S256x2816 : Shape := ⟨2, ![256, 2816]⟩
abbrev S16x2816 : Shape := ⟨2, ![16, 2816]⟩
abbrev S256x1024 : Shape := ⟨2, ![256, 1024]⟩
abbrev S16x1024 : Shape := ⟨2, ![16, 1024]⟩
abbrev S256x5632 : Shape := ⟨2, ![256, 5632]⟩
abbrev S272x1024 : Shape := ⟨2, ![272, 1024]⟩
abbrev S272x1 : Shape := ⟨2, ![272, 1]⟩
abbrev S256x1408 : Shape := ⟨2, ![256, 1408]⟩
abbrev S16x1408 : Shape := ⟨2, ![16, 1408]⟩
abbrev S272x1408 : Shape := ⟨2, ![272, 1408]⟩
abbrev S1408x1024 : Shape := ⟨2, ![1408, 1024]⟩
abbrev S1x1408 : Shape := ⟨2, ![1, 1408]⟩
abbrev S1408 : Shape := ⟨1, ![1408]⟩

abbrev nBuf : Space → Nat
  | .hbm => 45
  | .vmem => 20
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S8192x1024, .f32⟩
  | .hbm, ⟨5, _⟩ => ⟨S8192x5632, .bf16⟩
  | .hbm, ⟨6, _⟩ => ⟨S8192x2816, .bf16⟩
  | .hbm, ⟨7, _⟩ => ⟨S8192x2816, .f32⟩
  | .hbm, ⟨8, _⟩ => ⟨S_, .f32⟩
  | .hbm, ⟨9, _⟩ => ⟨S2x2816, .f32⟩
  | .hbm, ⟨10, _⟩ => ⟨S8194x2816, .f32⟩
  | .hbm, ⟨11, _⟩ => ⟨S8192x2816, .f32⟩
  | .hbm, ⟨12, _⟩ => ⟨S1x2816, .f32⟩
  | .hbm, ⟨13, _⟩ => ⟨S2816, .f32⟩
  | .hbm, ⟨14, _⟩ => ⟨S1x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S1x2816, .f32⟩
  | .hbm, ⟨29, _⟩ => ⟨S2816, .f32⟩
  | .hbm, ⟨30, _⟩ => ⟨S1x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .bf16⟩
  | .hbm, ⟨37, _⟩ => ⟨S8192x1024, .bf16⟩
  | .hbm, ⟨38, _⟩ => ⟨S2816x1024, .bf16⟩
  | .hbm, ⟨39, _⟩ => ⟨S_, .i32⟩
  | .hbm, ⟨40, _⟩ => ⟨S_, .f32⟩
  | .hbm, ⟨41, _⟩ => ⟨S8x2816, .f32⟩
  | .hbm, ⟨42, _⟩ => ⟨S8192x5632, .bf16⟩
  | .hbm, ⟨43, _⟩ => ⟨S8x2816, .f32⟩
  | .hbm, ⟨44, _⟩ => ⟨S1x2816, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S16x2816, .bf16⟩
  | .local _ .vmem, ⟨5, _⟩ => ⟨S16x2816, .bf16⟩
  | .local _ .vmem, ⟨6, _⟩ => ⟨S256x2816, .bf16⟩
  | .local _ .vmem, ⟨7, _⟩ => ⟨S256x2816, .bf16⟩
  | .local _ .vmem, ⟨8, _⟩ => ⟨S16x2816, .bf16⟩
  | .local _ .vmem, ⟨9, _⟩ => ⟨S16x2816, .bf16⟩
  | .local _ .vmem, ⟨10, _⟩ => ⟨S256x1024, .bf16⟩
  | .local _ .vmem, ⟨11, _⟩ => ⟨S256x1024, .bf16⟩
  | .local _ .vmem, ⟨12, _⟩ => ⟨S16x1024, .bf16⟩
  | .local _ .vmem, ⟨13, _⟩ => ⟨S16x1024, .bf16⟩
  | .local _ .vmem, ⟨14, _⟩ => ⟨S2816x1024, .bf16⟩
  | .local _ .vmem, ⟨15, _⟩ => ⟨S8x2816, .f32⟩
  | .local _ .vmem, ⟨16, _⟩ => ⟨S256x5632, .bf16⟩
  | .local _ .vmem, ⟨17, _⟩ => ⟨S256x5632, .bf16⟩
  | .local _ .vmem, ⟨18, _⟩ => ⟨S8x2816, .f32⟩
  | .local _ .vmem, ⟨19, _⟩ => ⟨S1x2816, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_call0_v0 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8192x5632 : Shape := ⟨2, ![8192, 5632]⟩
abbrev S3x2816 : Shape := ⟨2, ![3, 2816]⟩
abbrev S1x2816 : Shape := ⟨2, ![1, 2816]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S2816 : Shape := ⟨1, ![2816]⟩
abbrev S8x2816 : Shape := ⟨2, ![8, 2816]⟩

abbrev nBuf : Space → Nat
  | .hbm => 112
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S2x2816, .f32⟩
  | .hbm, ⟨9, _⟩ => ⟨S8194x2816, .f32⟩
  | .hbm, ⟨10, _⟩ => ⟨S_, .f32⟩
  | .hbm, ⟨11, _⟩ => ⟨S2x2816, .f32⟩
  | .hbm, ⟨12, _⟩ => ⟨S8192x2816, .f32⟩
  | .hbm, ⟨13, _⟩ => ⟨S1x2816, .f32⟩
  | .hbm, ⟨14, _⟩ => ⟨S2816, .f32⟩
  | .hbm, ⟨15, _⟩ => ⟨S1x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S1x2816, .f32⟩
  | .hbm, ⟨30, _⟩ => ⟨S2816, .f32⟩
  | .hbm, ⟨31, _⟩ => ⟨S1x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S2816, .f32⟩
  | .hbm, ⟨61, _⟩ => ⟨S1x2816, .f32⟩
  | .hbm, ⟨62, _⟩ => ⟨S8192x2816, .f32⟩
  | .hbm, ⟨63, _⟩ => ⟨S_, .f32⟩
  | .hbm, ⟨64, _⟩ => ⟨S2816, .f32⟩
  | .hbm, ⟨65, _⟩ => ⟨S1x2816, .f32⟩
  | .hbm, ⟨66, _⟩ => ⟨S8192x2816, .f32⟩
  | .hbm, ⟨67, _⟩ => ⟨S8192x2816, .f32⟩
  | .hbm, ⟨68, _⟩ => ⟨S_, .f32⟩
  | .hbm, ⟨69, _⟩ => ⟨S2816, .f32⟩
  | .hbm, ⟨70, _⟩ => ⟨S1x2816, .f32⟩
  | .hbm, ⟨71, _⟩ => ⟨S_, .f32⟩
  | .hbm, ⟨72, _⟩ => ⟨S3x2816, .f32⟩
  | .hbm, ⟨73, _⟩ => ⟨S_, .f32⟩
  | .hbm, ⟨74, _⟩ => ⟨S8194x2816, .f32⟩
  | .hbm, ⟨75, _⟩ => ⟨S8192x2816, .f32⟩
  | .hbm, ⟨76, _⟩ => ⟨S_, .f32⟩
  | .hbm, ⟨77, _⟩ => ⟨S2816, .f32⟩
  | .hbm, ⟨78, _⟩ => ⟨S1x2816, .f32⟩
  | .hbm, ⟨79, _⟩ => ⟨S8192x2816, .f32⟩
  | .hbm, ⟨80, _⟩ => ⟨S8192x2816, .f32⟩
  | .hbm, ⟨81, _⟩ => ⟨S_, .f32⟩
  | .hbm, ⟨82, _⟩ => ⟨S2816, .f32⟩
  | .hbm, ⟨83, _⟩ => ⟨S1x2816, .f32⟩
  | .hbm, ⟨84, _⟩ => ⟨S_, .f32⟩
  | .hbm, ⟨85, _⟩ => ⟨S3x2816, .f32⟩
  | .hbm, ⟨86, _⟩ => ⟨S3x2816, .f32⟩
  | .hbm, ⟨87, _⟩ => ⟨S_, .f32⟩
  | .hbm, ⟨88, _⟩ => ⟨S8194x2816, .f32⟩
  | .hbm, ⟨89, _⟩ => ⟨S8194x2816, .f32⟩
  | .hbm, ⟨90, _⟩ => ⟨S8192x2816, .f32⟩
  | .hbm, ⟨91, _⟩ => ⟨S_, .f32⟩
  | .hbm, ⟨92, _⟩ => ⟨S2816, .f32⟩
  | .hbm, ⟨93, _⟩ => ⟨S1x2816, .f32⟩
  | .hbm, ⟨94, _⟩ => ⟨S8192x2816, .f32⟩
  | .hbm, ⟨95, _⟩ => ⟨S8192x2816, .f32⟩
  | .hbm, ⟨96, _⟩ => ⟨S_, .f32⟩
  | .hbm, ⟨97, _⟩ => ⟨S2816, .f32⟩
  | .hbm, ⟨98, _⟩ => ⟨S1x2816, .f32⟩
  | .hbm, ⟨99, _⟩ => ⟨S_, .f32⟩
  | .hbm, ⟨100, _⟩ => ⟨S3x2816, .f32⟩
  | .hbm, ⟨101, _⟩ => ⟨S3x2816, .f32⟩
  | .hbm, ⟨102, _⟩ => ⟨S_, .f32⟩
  | .hbm, ⟨103, _⟩ => ⟨S8194x2816, .f32⟩
  | .hbm, ⟨104, _⟩ => ⟨S8194x2816, .f32⟩
  | .hbm, ⟨105, _⟩ => ⟨S2x2816, .f32⟩
  | .hbm, ⟨106, _⟩ => ⟨S8192x2816, .f32⟩
  | .hbm, ⟨107, _⟩ => ⟨S8192x5632, .f32⟩
  | .hbm, ⟨108, _⟩ => ⟨S8192x5632, .bf16⟩
  | .hbm, ⟨109, _⟩ => ⟨S_, .i32⟩
  | .hbm, ⟨110, _⟩ => ⟨S_, .f32⟩
  | .hbm, ⟨111, _⟩ => ⟨S8x2816, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v29_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v29_1 : Ref sig .tc := ⟨.hbm, 48, rfl⟩
abbrev main_v29_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_4 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c : Ref sig .tc := ⟨.hbm, 109, rfl⟩
abbrev main_call2_v0 : Ref sig .tc := ⟨.hbm, 110, rfl⟩
abbrev main_v73 : Ref sig .tc := ⟨.hbm, 111, rfl⟩

abbrev nD : Nat := 1
abbrev τ : Topo := Topo.v7x

variable {F : FTy → Type} [FloatOps F]
-- ==== FfnDwOut.lean ====
abbrev S8192x2816 : Shape := ⟨2, ![8192, 2816]⟩
abbrev S8192x1024 : Shape := ⟨2, ![8192, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== FfnDwOutReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDwIn.lean ====
abbrev S8192x5632 : Shape := ⟨2, ![8192, 5632]⟩
abbrev S8192x1024 : Shape := ⟨2, ![8192, 1024]⟩
abbrev S5632x1024 : Shape := ⟨2, ![5632, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x5632, .bf16⟩
  | .hbm, ⟨3, _⟩ => ⟨S8192x1024, .bf16⟩
  | .hbm, ⟨4, _⟩ => ⟨S5632x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDwInReferenceIdeal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S5632x1024, .f32⟩
  | .hbm, ⟨8, _⟩ => ⟨S5632x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmDwOut.lean ====
abbrev S8192x2048 : Shape := ⟨2, ![8192, 2048]⟩
abbrev S8192x1024 : Shape := ⟨2, ![8192, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SsmDwOutReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmDwZ.lean ====
abbrev S8192x2048 : Shape := ⟨2, ![8192, 2048]⟩
abbrev S8192x1024 : Shape := ⟨2, ![8192, 1024]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SsmDwZReferenceIdeal.lean ====
abbrev S8192x2048 : Shape := ⟨2, ![8192, 2048]⟩
abbrev S8192x1024 : Shape := ⟨2, ![8192, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsmDwX.lean ====
abbrev S8192x3072 : Shape := ⟨2, ![8192, 3072]⟩
abbrev S8192x1024 : Shape := ⟨2, ![8192, 1024]⟩
abbrev S3072x1024 : Shape := ⟨2, ![3072, 1024]⟩
abbrev S512x3072 : Shape := ⟨2, ![512, 3072]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x3072, .bf16⟩
  | .hbm, ⟨3, _⟩ => ⟨S8192x1024, .bf16⟩
  | .hbm, ⟨4, _⟩ => ⟨S3072x1024, .bf16⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S3072x1024, .bf16⟩
  | .local _ .vmem, ⟨5, _⟩ => ⟨S3072x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SsmDwXReferenceIdeal.lean ====
abbrev S8192x3072 : Shape := ⟨2, ![8192, 3072]⟩
abbrev S8192x1024 : Shape := ⟨2, ![8192, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | .hbm, ⟨7, _⟩ => ⟨S3072x1024, .f32⟩
  | .hbm, ⟨8, _⟩ => ⟨S3072x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnDwIn.lean ====
abbrev S8192x2304 : Shape := ⟨2, ![8192, 2304]⟩
abbrev S8192x1024 : Shape := ⟨2, ![8192, 1024]⟩
abbrev S2304x1024 : Shape := ⟨2, ![2304, 1024]⟩
abbrev S512x2304 : Shape := ⟨2, ![512, 2304]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2304, .f32⟩
  | .hbm, ⟨1, _⟩ => ⟨S8192x1024, .f32⟩
  | .hbm, ⟨2, _⟩ => ⟨S8192x2304, .bf16⟩
  | .hbm, ⟨3, _⟩ => ⟨S8192x1024, .bf16⟩
  | .hbm, ⟨4, _⟩ => ⟨S2304x1024, .bf16⟩
  | .local _ .vmem, ⟨0, _⟩ => ⟨S512x2304, .bf16⟩
  | .local _ .vmem, ⟨1, _⟩ => ⟨S512x2304, .bf16⟩
  | .local _ .vmem, ⟨2, _⟩ => ⟨S512x1024, .bf16⟩
  | .local _ .vmem, ⟨3, _⟩ => ⟨S512x1024, .bf16⟩
  | .local _ .vmem, ⟨4, _⟩ => ⟨S2304x1024, .bf16⟩
  | .local _ .vmem, ⟨5, _⟩ => ⟨S2304x1024, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== AttnDwInReferenceIdeal.lean ====
abbrev S8192x2304 : Shape := ⟨2, ![8192, 2304]⟩
abbrev S8192x1024 : Shape := ⟨2, ![8192, 1024]⟩
abbrev S_ : Shape := ⟨0, ![]⟩
abbrev S1024x2304 : Shape := ⟨2, ![1024, 2304]⟩
abbrev S2304x1024 : Shape := ⟨2, ![2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S8192x1024, .f32⟩
  | .hbm, ⟨2, _⟩ => ⟨S_, .f32⟩
  | .hbm, ⟨3, _⟩ => ⟨S1024x2304, .f32⟩
  | .hbm, ⟨4, _⟩ => ⟨S8192x2304, .f32⟩
  | .hbm, ⟨5, _⟩ => ⟨S2304x1024, .f32⟩
  | .hbm, ⟨6, _⟩ => ⟨S1024x2304, .f32⟩
  | .hbm, ⟨7, _⟩ => ⟨S2304x1024, .f32⟩
  | .hbm, ⟨8, _⟩ => ⟨S2304x1024, .bf16⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnDwOut.lean ====
abbrev S8192x512 : Shape := ⟨2, ![8192, 512]⟩
abbrev S8192x1024 : Shape := ⟨2, ![8192, 1024]⟩
abbrev S512x1024 : Shape := ⟨2, ![512, 1024]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== AttnDwOutReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnOutReferenceIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== SsmOut.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x2048, .bf16⟩
  | .hbm, ⟨4, _⟩ => ⟨S2048x1024, .bf16⟩
  | .hbm, ⟨5, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsmOutReferenceIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== SsmDy.lean ====
abbrev S8192x1024 : Shape := ⟨2, ![8192, 1024]⟩
abbrev S2048x1024 : Shape := ⟨2, ![2048, 1024]⟩
abbrev S8192x2048 : Shape := ⟨2, ![8192, 2048]⟩
abbrev S512x1024 : Shape := ⟨2, ![512, 1024]⟩
abbrev S512x2048 : Shape := ⟨2, ![512, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .bf16⟩
  | .hbm, ⟨3, _⟩ => ⟨S2048x1024, .bf16⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .f32⟩
  | .local _ .vmem, ⟨4, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SsmDyReferenceIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttnDo.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnDoReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnOut.lean ====
abbrev S8192x512 : Shape := ⟨2, ![8192, 512]⟩
abbrev S1024x1024 : Shape := ⟨2, ![1024, 1024]⟩
abbrev S8192x1024 : Shape := ⟨2, ![8192, 1024]⟩
abbrev S512x512 : Shape := ⟨2, ![512, 512]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x512, .bf16⟩
  | .hbm, ⟨5, _⟩ => ⟨S8192x512, .bf16⟩
  | .hbm, ⟨6, _⟩ => ⟨S1024x1024, .bf16⟩
  | .hbm, ⟨7, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnOutReferenceIdeal.lean ====
abbrev S8192x512 : Shape := ⟨2, ![8192, 512]⟩
abbrev S1024x1024 : Shape := ⟨2, ![1024, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== AttnIn.lean ====
abbrev S8192x1024 : Shape := ⟨2, ![8192, 1024]⟩
abbrev S1x1024 : Shape := ⟨2, ![1, 1024]⟩
abbrev S1024x2304 : Shape := ⟨2, ![1024, 2304]⟩
abbrev S2304x1024 : Shape := ⟨2, ![2304, 1024]⟩
abbrev S8192x2304 : Shape := ⟨2, ![8192, 2304]⟩
abbrev S256x1024 : Shape := ⟨2, ![256, 1024]⟩
abbrev S256x2304 : Shape := ⟨2, ![256, 2304]⟩
abbrev S256 : Shape := ⟨1, ![256]⟩
abbrev S256x1 : Shape := ⟨2, ![256, 1]⟩
abbrev S1152x1024 : Shape := ⟨2, ![1152, 1024]⟩
abbrev S256x1152 : Shape := ⟨2, ![256, 1152]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .f32⟩
  | .hbm, ⟨3, _⟩ => ⟨S2304x1024, .f32⟩
  | .hbm, ⟨4, _⟩ => ⟨S2304x1024, .bf16⟩
  | .hbm, ⟨5, _⟩ => ⟨S8192x2304, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2304x1024, .bf16⟩
  | .local _ .vmem, ⟨4, _⟩ => ⟨S256x2304, .f32⟩
  | .local _ .vmem, ⟨5, _⟩ => ⟨S256x2304, .f32⟩
  | .local _ .vmem, ⟨6, _⟩ => ⟨S256x1024, .bf16⟩
  | .local _ .vmem, ⟨7, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnInReferenceIdeal.lean ====
abbrev S8192x1024 : Shape := ⟨2, ![8192, 1024]⟩
abbrev S1x1024 : Shape := ⟨2, ![1, 1024]⟩
abbrev S1024x2304 : Shape := ⟨2, ![1024, 2304]⟩
abbrev S_ : Shape := ⟨0, ![]⟩
abbrev S8192 : Shape := ⟨1, ![8192]⟩
abbrev S8192x1 : Shape := ⟨2, ![8192, 1]⟩
abbrev S8192x2304 : Shape := ⟨2, ![8192, 2304]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2304, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== FfnDh.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S5632x1024 : Shape := ⟨2, ![5632, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x5632, .bf16⟩
  | .hbm, ⟨6, _⟩ => ⟨S5632x1024, .f32⟩
  | .hbm, ⟨7, _⟩ => ⟨S5632x1024, .bf16⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnDhReferenceIdeal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1024x5632, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== FfnLoss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S1024 : Shape := ⟨1, ![1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x2816, .bf16⟩
  | .hbm, ⟨5, _⟩ => ⟨S2816x1024, .bf16⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnLossReferenceIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S1024 : Shape := ⟨1, ![1024]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== FfnIn.lean ====
abbrev S8192x1024 : Shape := ⟨2, ![8192, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S5632x1024 : Shape := ⟨2, ![5632, 1024]⟩
abbrev S_ : Shape := ⟨0, ![]⟩
abbrev S8x2816 : Shape := ⟨2, ![8, 2816]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S8x1408 : Shape := ⟨2, ![8, 1408]⟩
abbrev S264x1408 : Shape := ⟨2, ![264, 1408]⟩
abbrev S1x1408 : Shape := ⟨2, ![1, 1408]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S3x2816, .f32⟩
  | .hbm, ⟨4, _⟩ => ⟨S1x2816, .f32⟩
  | .hbm, ⟨5, _⟩ => ⟨S5632x1024, .f32⟩
  | .hbm, ⟨6, _⟩ => ⟨S5632x1024, .bf16⟩
  | .hbm, ⟨7, _⟩ => ⟨S_, .i32⟩
  | .hbm, ⟨8, _⟩ => ⟨S_, .f32⟩
  | .hbm, ⟨9, _⟩ => ⟨S8x2816, .f32⟩
  | .hbm, ⟨10, _⟩ => ⟨S8192x5632, .bf16⟩
  | .hbm, ⟨11, _⟩ => ⟨S8192x1024, .bf16⟩
  | .hbm, ⟨12, _⟩ => ⟨S8192x2816, .bf16⟩
  | .hbm, ⟨13, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S8x2816, .f32⟩
  | .local _ .vmem, ⟨5, _⟩ => ⟨S1x2816, .f32⟩
  | .local _ .vmem, ⟨6, _⟩ => ⟨S256x5632, .bf16⟩
  | .local _ .vmem, ⟨7, _⟩ => ⟨S256x5632, .bf16⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S8x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnInReferenceIdeal.lean ====
abbrev S8192x1024 : Shape := ⟨2, ![8192, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S2x2816 : Shape := ⟨2, ![2, 2816]⟩
abbrev S8194x2816 : Shape := ⟨2, ![8194, 2816]⟩
abbrev S2816 : Shape := ⟨1, ![2816]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S3x2816, .f32⟩
  | .hbm, ⟨4, _⟩ => ⟨S1x2816, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S2x2816, .f32⟩
  | .hbm, ⟨25, _⟩ => ⟨S8194x2816, .f32⟩
  | .hbm, ⟨26, _⟩ => ⟨S8192x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S1x2816, .f32⟩
  | .hbm, ⟨37, _⟩ => ⟨S2816, .f32⟩
  | .hbm, ⟨38, _⟩ => ⟨S1x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S1x2816, .f32⟩
  | .hbm, ⟨44, _⟩ => ⟨S2816, .f32⟩
  | .hbm, ⟨45, _⟩ => ⟨S1x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x5632, .bf16⟩
  | .hbm, ⟨62, _⟩ => ⟨S8192x1024, .bf16⟩
  | .hbm, ⟨63, _⟩ => ⟨S8192x2816, .bf16⟩
  | .hbm, ⟨64, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== SsmDh.lean ====
abbrev S8192x2048 : Shape := ⟨2, ![8192, 2048]⟩
abbrev S8192x3072 : Shape := ⟨2, ![8192, 3072]⟩
abbrev S8192x32 : Shape := ⟨2, ![8192, 32]⟩
abbrev S1024x5152 : Shape := ⟨2, ![1024, 5152]⟩
abbrev S8192x1024 : Shape := ⟨2, ![8192, 1024]⟩
abbrev S1x1024 : Shape := ⟨2, ![1, 1024]⟩
abbrev S5152x1024 : Shape := ⟨2, ![5152, 1024]⟩
abbrev S32x1024 : Shape := ⟨2, ![32, 1024]⟩
abbrev S_ : Shape := ⟨0, ![]⟩
abbrev S128x1024 : Shape := ⟨2, ![128, 1024]⟩
abbrev S8192x128 : Shape := ⟨2, ![8192, 128]⟩
abbrev S256x2048 : Shape := ⟨2, ![256, 2048]⟩
abbrev S256x3072 : Shape := ⟨2, ![256, 3072]⟩
abbrev S256x128 : Shape := ⟨2, ![256, 128]⟩
abbrev S256x1024 : Shape := ⟨2, ![256, 1024]⟩
abbrev S2048x1024 : Shape := ⟨2, ![2048, 1024]⟩
abbrev S3072x1024 : Shape := ⟨2, ![3072, 1024]⟩
abbrev S256 : Shape := ⟨1, ![256]⟩
abbrev S256x1 : Shape := ⟨2, ![256, 1]⟩
abbrev S1024 : Shape := ⟨1, ![1024]⟩

abbrev nBuf : Space → Nat
  | .hbm => 22
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x32, .f32⟩
  | .hbm, ⟨3, _⟩ => ⟨S1024x5152, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S5152x1024, .f32⟩
  | .hbm, ⟨8, _⟩ => ⟨S5152x1024, .bf16⟩
  | .hbm, ⟨9, _⟩ => ⟨S32x1024, .bf16⟩
  | .hbm, ⟨10, _⟩ => ⟨S_, .i32⟩
  | .hbm, ⟨11, _⟩ => ⟨S_, .bf16⟩
  | .hbm, ⟨12, _⟩ => ⟨S128x1024, .bf16⟩
  | .hbm, ⟨13, _⟩ => ⟨S_, .i32⟩
  | .hbm, ⟨14, _⟩ => ⟨S_, .f32⟩
  | .hbm, ⟨15, _⟩ => ⟨S8192x128, .f32⟩
  | .hbm, ⟨16, _⟩ => ⟨S8192x128, .bf16⟩
  | .hbm, ⟨17, _⟩ => ⟨S8192x2048, .bf16⟩
  | .hbm, ⟨18, _⟩ => ⟨S8192x3072, .bf16⟩
  | .hbm, ⟨19, _⟩ => ⟨S8192x1024, .f32⟩
  | .hbm, ⟨20, _⟩ => ⟨S8192x1024, .bf16⟩
  | .hbm, ⟨21, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x3072, .bf16⟩
  | .local _ .vmem, ⟨3, _⟩ => ⟨S256x3072, .bf16⟩
  | .local _ .vmem, ⟨4, _⟩ => ⟨S256x128, .bf16⟩
  | .local _ .vmem, ⟨5, _⟩ => ⟨S256x128, .bf16⟩
  | .local _ .vmem, ⟨6, _⟩ => ⟨S5152x1024, .bf16⟩
  | .local _ .vmem, ⟨7, _⟩ => ⟨S128x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SsmDhReferenceIdeal.lean ====
abbrev S8192x2048 : Shape := ⟨2, ![8192, 2048]⟩
abbrev S8192x3072 : Shape := ⟨2, ![8192, 3072]⟩
abbrev S8192x32 : Shape := ⟨2, ![8192, 32]⟩
abbrev S1024x5152 : Shape := ⟨2, ![1024, 5152]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5152 : Shape := ⟨2, ![8192, 5152]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x32, .f32⟩
  | .hbm, ⟨3, _⟩ => ⟨S1024x5152, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x5152, .f32⟩
  | .hbm, ⟨27, _⟩ => ⟨S8192x2048, .f32⟩
  | .hbm, ⟨28, _⟩ => ⟨S8192x3072, .f32⟩
  | .hbm, ⟨29, _⟩ => ⟨S8192x32, .f32⟩
  | .hbm, ⟨30, _⟩ => ⟨S8192x5152, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== SsmIn.lean ====
abbrev S8192x1024 : Shape := ⟨2, ![8192, 1024]⟩
abbrev S1x1024 : Shape := ⟨2, ![1, 1024]⟩
abbrev S1024x5152 : Shape := ⟨2, ![1024, 5152]⟩
abbrev S4x3072 : Shape := ⟨2, ![4, 3072]⟩
abbrev S1x3072 : Shape := ⟨2, ![1, 3072]⟩
abbrev S32 : Shape := ⟨1, ![32]⟩
abbrev S5152x1024 : Shape := ⟨2, ![5152, 1024]⟩
abbrev S32x1024 : Shape := ⟨2, ![32, 1024]⟩
abbrev S_ : Shape := ⟨0, ![]⟩
abbrev S128x1024 : Shape := ⟨2, ![128, 1024]⟩
abbrev S8x3072 : Shape := ⟨2, ![8, 3072]⟩
abbrev S128 : Shape := ⟨1, ![128]⟩
abbrev S1x128 : Shape := ⟨2, ![1, 128]⟩
abbrev S8192x5120 : Shape := ⟨2, ![8192, 5120]⟩
abbrev S8192x3072 : Shape := ⟨2, ![8192, 3072]⟩
abbrev S8192x128 : Shape := ⟨2, ![8192, 128]⟩
abbrev S256x1024 : Shape := ⟨2, ![256, 1024]⟩
abbrev S256x5120 : Shape := ⟨2, ![256, 5120]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩
abbrev S8x1024 : Shape := ⟨2, ![8, 1024]⟩
abbrev S264x1024 : Shape := ⟨2, ![264, 1024]⟩

abbrev nBuf : Space → Nat
  | .hbm => 25
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5152, .f32⟩
  | .hbm, ⟨3, _⟩ => ⟨S4x3072, .f32⟩
  | .hbm, ⟨4, _⟩ => ⟨S1x3072, .f32⟩
  | .hbm, ⟨5, _⟩ => ⟨S32, .f32⟩
  | .hbm, ⟨6, _⟩ => ⟨S5152x1024, .f32⟩
  | .hbm, ⟨7, _⟩ => ⟨S5152x1024, .bf16⟩
  | .hbm, ⟨8, _⟩ => ⟨S32x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S_, .i32⟩
  | .hbm, ⟨13, _⟩ => ⟨S_, .f32⟩
  | .hbm, ⟨14, _⟩ => ⟨S8x3072, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S8192x5120, .f32⟩
  | .hbm, ⟨20, _⟩ => ⟨S8192x1024, .bf16⟩
  | .hbm, ⟨21, _⟩ => ⟨S8192x3072, .f32⟩
  | .hbm, ⟨22, _⟩ => ⟨S8192x3072, .bf16⟩
  | .hbm, ⟨23, _⟩ => ⟨S8192x128, .f32⟩
  | .hbm, ⟨24, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5152x1024, .bf16⟩
  | .local _ .vmem, ⟨4, _⟩ => ⟨S128x1024, .bf16⟩
  | .local _ .vmem, ⟨5, _⟩ => ⟨S8x3072, .f32⟩
  | .local _ .vmem, ⟨6, _⟩ => ⟨S1x3072, .f32⟩
  | .local _ .vmem, ⟨7, _⟩ => ⟨S1x128, .f32⟩
  | .local _ .vmem, ⟨8, _⟩ => ⟨S256x5120, .f32⟩
  | .local _ .vmem, ⟨9, _⟩ => ⟨S256x5120, .f32⟩
  | .local _ .vmem, ⟨10, _⟩ => ⟨S256x1024, .bf16⟩
  | .local _ .vmem, ⟨11, _⟩ => ⟨S256x1024, .bf16⟩
  | .local _ .vmem, ⟨12, _⟩ => ⟨S256x3072, .f32⟩
  | .local _ .vmem, ⟨13, _⟩ => ⟨S256x3072, .f32⟩
  | .local _ .vmem, ⟨14, _⟩ => ⟨S256x3072, .bf16⟩
  | .local _ .vmem, ⟨15, _⟩ => ⟨S256x3072, .bf16⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S8x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5152x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SsmInReferenceIdeal.lean ====
abbrev S8192x1024 : Shape := ⟨2, ![8192, 1024]⟩
abbrev S1x1024 : Shape := ⟨2, ![1, 1024]⟩
abbrev S1024x5152 : Shape := ⟨2, ![1024, 5152]⟩
abbrev S4x3072 : Shape := ⟨2, ![4, 3072]⟩
abbrev S1x3072 : Shape := ⟨2, ![1, 3072]⟩
abbrev S32 : Shape := ⟨1, ![32]⟩
abbrev S_ : Shape := ⟨0, ![]⟩
abbrev S8192 : Shape := ⟨1, ![8192]⟩
abbrev S8192x1 : Shape := ⟨2, ![8192, 1]⟩
abbrev S8192x5152 : Shape := ⟨2, ![8192, 5152]⟩
abbrev S8192x2048 : Shape := ⟨2, ![8192, 2048]⟩
abbrev S8192x3072 : Shape := ⟨2, ![8192, 3072]⟩
abbrev S8192x32 : Shape := ⟨2, ![8192, 32]⟩
abbrev S3x3072 : Shape := ⟨2, ![3, 3072]⟩
abbrev S8195x3072 : Shape := ⟨2, ![8195, 3072]⟩
abbrev S3072 : Shape := ⟨1, ![3072]⟩
abbrev S8192x5120 : Shape := ⟨2, ![8192, 5120]⟩
abbrev S8192x128 : Shape := ⟨2, ![8192, 128]⟩
abbrev S1x32 : Shape := ⟨2, ![1, 32]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5152, .f32⟩
  | .hbm, ⟨3, _⟩ => ⟨S4x3072, .f32⟩
  | .hbm, ⟨4, _⟩ => ⟨S1x3072, .f32⟩
  | .hbm, ⟨5, _⟩ => ⟨S32, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x5152, .f32⟩
  | .hbm, ⟨22, _⟩ => ⟨S8192x2048, .f32⟩
  | .hbm, ⟨23, _⟩ => ⟨S8192x3072, .f32⟩
  | .hbm, ⟨24, _⟩ => ⟨S8192x32, .f32⟩
  | .hbm, ⟨25, _⟩ => ⟨S_, .f32⟩
  | .hbm, ⟨26, _⟩ => ⟨S3x3072, .f32⟩
  | .hbm, ⟨27, _⟩ => ⟨S8195x3072, .f32⟩
  | .hbm, ⟨28, _⟩ => ⟨S8192x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S1x3072, .f32⟩
  | .hbm, ⟨39, _⟩ => ⟨S3072, .f32⟩
  | .hbm, ⟨40, _⟩ => ⟨S1x3072, .f32⟩
  | .hbm, ⟨41, _⟩ => ⟨S8192x3072, .f32⟩
  | .hbm, ⟨42, _⟩ => ⟨S8192x3072, .f32⟩
  | .hbm, ⟨43, _⟩ => ⟨S8192x3072, .f32⟩
  | .hbm, ⟨44, _⟩ => ⟨S8192x3072, .f32⟩
  | .hbm, ⟨45, _⟩ => ⟨S1x3072, .f32⟩
  | .hbm, ⟨46, _⟩ => ⟨S3072, .f32⟩
  | .hbm, ⟨47, _⟩ => ⟨S1x3072, .f32⟩
  | .hbm, ⟨48, _⟩ => ⟨S8192x3072, .f32⟩
  | .hbm, ⟨49, _⟩ => ⟨S8192x3072, .f32⟩
  | .hbm, ⟨50, _⟩ => ⟨S8192x3072, .f32⟩
  | .hbm, ⟨51, _⟩ => ⟨S8192x3072, .f32⟩
  | .hbm, ⟨52, _⟩ => ⟨S1x3072, .f32⟩
  | .hbm, ⟨53, _⟩ => ⟨S3072, .f32⟩
  | .hbm, ⟨54, _⟩ => ⟨S1x3072, .f32⟩
  | .hbm, ⟨55, _⟩ => ⟨S8192x3072, .f32⟩
  | .hbm, ⟨56, _⟩ => ⟨S8192x3072, .f32⟩
  | .hbm, ⟨57, _⟩ => ⟨S8192x3072, .f32⟩
  | .hbm, ⟨58, _⟩ => ⟨S8192x3072, .f32⟩
  | .hbm, ⟨59, _⟩ => ⟨S8192x3072, .f32⟩
  | .hbm, ⟨60, _⟩ => ⟨S8192x5120, .f32⟩
  | .hbm, ⟨61, _⟩ => ⟨S8192x1024, .bf16⟩
  | .hbm, ⟨62, _⟩ => ⟨S8192x3072, .f32⟩
  | .hbm, ⟨63, _⟩ => ⟨S8192x3072, .f32⟩
  | .hbm, ⟨64, _⟩ => ⟨S_, .f32⟩
  | .hbm, ⟨65, _⟩ => ⟨S8192x3072, .f32⟩
  | .hbm, ⟨66, _⟩ => ⟨S8192x3072, .f32⟩
  | .hbm, ⟨67, _⟩ => ⟨S_, .f32⟩
  | .hbm, ⟨68, _⟩ => ⟨S8192x3072, .f32⟩
  | .hbm, ⟨69, _⟩ => ⟨S8192x3072, .f32⟩
  | .hbm, ⟨70, _⟩ => ⟨S8192x3072, .f32⟩
  | .hbm, ⟨71, _⟩ => ⟨S8192x3072, .bf16⟩
  | .hbm, ⟨72, _⟩ => ⟨S_, .i32⟩
  | .hbm, ⟨73, _⟩ => ⟨S_, .f32⟩
  | .hbm, ⟨74, _⟩ => ⟨S8192x128, .f32⟩
  | .hbm, ⟨75, _⟩ => ⟨S1x32, .f32⟩
  | .hbm, ⟨76, _⟩ => ⟨S8192x32, .f32⟩
  | .hbm, ⟨77, _⟩ => ⟨S8192x32, .f32⟩
  | .hbm, ⟨78, _⟩ => ⟨S_, .f32⟩
  | .hbm, ⟨79, _⟩ => ⟨S8192x32, .f32⟩
  | .hbm, ⟨80, _⟩ => ⟨S8192x32, .f32⟩
  | .hbm, ⟨81, _⟩ => ⟨S8192x32, .f32⟩
  | .hbm, ⟨82, _⟩ => ⟨S8192x32, .f32⟩
  | .hbm, ⟨83, _⟩ => ⟨S8192x32, .i1⟩
  | .hbm, ⟨84, _⟩ => ⟨S8192x32, .f32⟩
  | .hbm, ⟨85, _⟩ => ⟨S8192x32, .f32⟩
  | .hbm, ⟨86, _⟩ => ⟨S8192x32, .f32⟩
  | .hbm, ⟨87, _⟩ => ⟨S8192x32, .f32⟩
  | .hbm, ⟨88, _⟩ => ⟨S8192x32, .f32⟩
  | .hbm, ⟨89, _⟩ => ⟨S8192x32, .f32⟩
  | .hbm, ⟨90, _⟩ => ⟨S8192x32, .f32⟩
  | .hbm, ⟨91, _⟩ => ⟨S8192x32, .f32⟩
  | .hbm, ⟨92, _⟩ => ⟨S_, .i32⟩
  | .hbm, ⟨93, _⟩ => ⟨S_, .f32⟩
  | .hbm, ⟨94, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v51 : Ref sig .tc := ⟨.hbm, 70, rfl⟩
abbrev main_v52 : Ref sig .tc := ⟨.hbm, 71, rfl⟩
abbrev main_c : Ref sig .tc := ⟨.hbm, 72, rfl⟩
abbrev main_call1_v0 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_v57 : Ref sig .tc := ⟨.hbm, 91, rfl⟩
abbrev main_c_4 : Ref sig .tc := ⟨.hbm, 92, rfl⟩
abbrev main_call3_v0 : Ref sig .tc := ⟨.hbm, 93, rfl⟩
abbrev main_v58 : Ref sig .tc := ⟨.hbm, 94, rfl⟩

abbrev nD : Nat := 1
abbrev τ : Topo := Topo.v7x

variable {F : FTy → Type} [FloatOps F]
-- ==== AdamAttnWIn.lean ====
abbrev S1024x288 : Shape := ⟨2, ![1024, 288]⟩
abbrev S1x1024x288 : Shape := ⟨3, ![1, 1024, 288]⟩
abbrev S1x256x288 : Shape := ⟨3, ![1, 256, 288]⟩
abbrev S256x288 : Shape := ⟨2, ![256, 288]⟩

abbrev nBuf : Space → Nat
  | .hbm => 9
  | .vmem => 16
  | .smem => 0
  | _ => 0

abbrev bufTy : (tb : Table) → Fin (tcTables nBuf tb) → BufTy
  | .hbm, ⟨0, _⟩ => ⟨S1024x288, .f32⟩
  | .hbm, ⟨1, _⟩ => ⟨S1x1024x288, .f32⟩
  | .hbm, ⟨2, _⟩ => ⟨S1x1024x288, .f32⟩
  | .hbm, ⟨3, _⟩ => ⟨S1x1024x288, .f32⟩
  | .hbm, ⟨4, _⟩ => ⟨S1x1024x288, .f32⟩
  | .hbm, ⟨5, _⟩ => ⟨S1x1024x288, .f32⟩
  | .hbm, ⟨6, _⟩ => ⟨S1x1024x288, .f32⟩
  | .hbm, ⟨7, _⟩ => ⟨S1x1024x288, .f32⟩
  | .hbm, ⟨8, _⟩ => ⟨S1x1024x288, .f32⟩
  | .local _ .vmem, ⟨0, _⟩ => ⟨S1x256x288, .f32⟩
  | .local _ .vmem, ⟨1, _⟩ => ⟨S1x256x288, .f32⟩
  | .local _ .vmem, ⟨2, _⟩ => ⟨S1x256x288, .f32⟩
  | .local _ .vmem, ⟨3, _⟩ => ⟨S1x256x288, .f32⟩
  | .local _ .vmem, ⟨4, _⟩ => ⟨S1x256x288, .f32⟩
  | .local _ .vmem, ⟨5, _⟩ => ⟨S1x256x288, .f32⟩
  | .local _ .vmem, ⟨6, _⟩ => ⟨S1x256x288, .f32⟩
  | .local _ .vmem, ⟨7, _⟩ => ⟨S1x256x288, .f32⟩
  | .local _ .vmem, ⟨8, _⟩ => ⟨S1x256x288, .f32⟩
  | .local _ .vmem, ⟨9, _⟩ => ⟨S1x256x288, .f32⟩
  | .local _ .vmem, ⟨10, _⟩ => ⟨S1x256x288, .f32⟩
  | .local _ .vmem, ⟨11, _⟩ => ⟨S1x256x288, .f32⟩
  | .local _ .vmem, ⟨12, _⟩ => ⟨S1x256x288, .f32⟩
  | .local _ .vmem, ⟨13, _⟩ => ⟨S1x256x288, .f32⟩
  | .local _ .vmem, ⟨14, _⟩ => ⟨S1x256x288, .f32⟩
  | .local _ .vmem, ⟨15, _⟩ => ⟨S1x256x288, .f32⟩
  | _, _ => ⟨S1024x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamAttnWInReferenceIdeal.lean ====
abbrev S1024x288 : Shape := ⟨2, ![1024, 288]⟩
abbrev S1x1024x288 : Shape := ⟨3, ![1, 1024, 288]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x288, .f32⟩
  | .hbm, ⟨1, _⟩ => ⟨S1x1024x288, .f32⟩
  | .hbm, ⟨2, _⟩ => ⟨S1x1024x288, .f32⟩
  | .hbm, ⟨3, _⟩ => ⟨S1x1024x288, .f32⟩
  | .hbm, ⟨4, _⟩ => ⟨S1x1024x288, .f32⟩
  | .hbm, ⟨5, _⟩ => ⟨S_, .f32⟩
  | .hbm, ⟨6, _⟩ => ⟨S1x1024x288, .f32⟩
  | .hbm, ⟨7, _⟩ => ⟨S1x1024x288, .f32⟩
  | .hbm, ⟨8, _⟩ => ⟨S_, .f32⟩
  | .hbm, ⟨9, _⟩ => ⟨S1x1024x288, .f32⟩
  | .hbm, ⟨10, _⟩ => ⟨S1x1024x288, .f32⟩
  | .hbm, ⟨11, _⟩ => ⟨S1x1024x288, .f32⟩
  | .hbm, ⟨12, _⟩ => ⟨S_, .f32⟩
  | .hbm, ⟨13, _⟩ => ⟨S1x1024x288, .f32⟩
  | .hbm, ⟨14, _⟩ => ⟨S1x1024x288, .f32⟩
  | .hbm, ⟨15, _⟩ => ⟨S1x1024x288, .f32⟩
  | .hbm, ⟨16, _⟩ => ⟨S_, .f32⟩
  | .hbm, ⟨17, _⟩ => ⟨S1x1024x288, .f32⟩
  | .hbm, ⟨18, _⟩ => ⟨S1x1024x288, .f32⟩
  | .hbm, ⟨19, _⟩ => ⟨S1x1024x288, .f32⟩
  | .hbm, ⟨20, _⟩ => ⟨S_, .f32⟩
  | .hbm, ⟨21, _⟩ => ⟨S1x1024x288, .f32⟩
  | .hbm, ⟨22, _⟩ => ⟨S1x1024x288, .f32⟩
  | .hbm, ⟨23, _⟩ => ⟨S_, .f32⟩
  | .hbm, ⟨24, _⟩ => ⟨S1x1024x288, .f32⟩
  | .hbm, ⟨25, _⟩ => ⟨S1x1024x288, .f32⟩
  | .hbm, ⟨26, _⟩ => ⟨S1x1024x288, .f32⟩
  | .hbm, ⟨27, _⟩ => ⟨S_, .f32⟩
  | .hbm, ⟨28, _⟩ => ⟨S1x1024x288, .f32⟩
  | .hbm, ⟨29, _⟩ => ⟨S1x1024x288, .f32⟩
  | .hbm, ⟨30, _⟩ => ⟨S1x1024x288, .f32⟩
  | .hbm, ⟨31, _⟩ => ⟨S_, .f32⟩
  | .hbm, ⟨32, _⟩ => ⟨S1x1024x288, .f32⟩
  | .hbm, ⟨33, _⟩ => ⟨S1x1024x288, .f32⟩
  | .hbm, ⟨34, _⟩ => ⟨S1x1024x288, .f32⟩
  | .hbm, ⟨35, _⟩ => ⟨S_, .f32⟩
  | .hbm, ⟨36, _⟩ => ⟨S1x1024x288, .f32⟩
  | .hbm, ⟨37, _⟩ => ⟨S1x1024x288, .f32⟩
  | _, _ => ⟨S1024x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamAttnWOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamAttnWOutReferenceIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSsmWIn.lean ====
abbrev S1024x644 : Shape := ⟨2, ![1024, 644]⟩
abbrev S1x1024x644 : Shape := ⟨3, ![1, 1024, 644]⟩
abbrev S1x256x644 : Shape := ⟨3, ![1, 256, 644]⟩
abbrev S256x644 : Shape := ⟨2, ![256, 644]⟩

abbrev nBuf : Space → Nat
  | .hbm => 9
  | .vmem => 16
  | .smem => 0
  | _ => 0

abbrev bufTy : (tb : Table) → Fin (tcTables nBuf tb) → BufTy
  | .hbm, ⟨0, _⟩ => ⟨S1024x644, .f32⟩
  | .hbm, ⟨1, _⟩ => ⟨S1x1024x644, .f32⟩
  | .hbm, ⟨2, _⟩ => ⟨S1x1024x644, .f32⟩
  | .hbm, ⟨3, _⟩ => ⟨S1x1024x644, .f32⟩
  | .hbm, ⟨4, _⟩ => ⟨S1x1024x644, .f32⟩
  | .hbm, ⟨5, _⟩ => ⟨S1x1024x644, .f32⟩
  | .hbm, ⟨6, _⟩ => ⟨S1x1024x644, .f32⟩
  | .hbm, ⟨7, _⟩ => ⟨S1x1024x644, .f32⟩
  | .hbm, ⟨8, _⟩ => ⟨S1x1024x644, .f32⟩
  | .local _ .vmem, ⟨0, _⟩ => ⟨S1x256x644, .f32⟩
  | .local _ .vmem, ⟨1, _⟩ => ⟨S1x256x644, .f32⟩
  | .local _ .vmem, ⟨2, _⟩ => ⟨S1x256x644, .f32⟩
  | .local _ .vmem, ⟨3, _⟩ => ⟨S1x256x644, .f32⟩
  | .local _ .vmem, ⟨4, _⟩ => ⟨S1x256x644, .f32⟩
  | .local _ .vmem, ⟨5, _⟩ => ⟨S1x256x644, .f32⟩
  | .local _ .vmem, ⟨6, _⟩ => ⟨S1x256x644, .f32⟩
  | .local _ .vmem, ⟨7, _⟩ => ⟨S1x256x644, .f32⟩
  | .local _ .vmem, ⟨8, _⟩ => ⟨S1x256x644, .f32⟩
  | .local _ .vmem, ⟨9, _⟩ => ⟨S1x256x644, .f32⟩
  | .local _ .vmem, ⟨10, _⟩ => ⟨S1x256x644, .f32⟩
  | .local _ .vmem, ⟨11, _⟩ => ⟨S1x256x644, .f32⟩
  | .local _ .vmem, ⟨12, _⟩ => ⟨S1x256x644, .f32⟩
  | .local _ .vmem, ⟨13, _⟩ => ⟨S1x256x644, .f32⟩
  | .local _ .vmem, ⟨14, _⟩ => ⟨S1x256x644, .f32⟩
  | .local _ .vmem, ⟨15, _⟩ => ⟨S1x256x644, .f32⟩
  | _, _ => ⟨S1024x644, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x644 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x644 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x644 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x644 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x644 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x644 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x644 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x644 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamSsmWInReferenceIdeal.lean ====
abbrev S1024x644 : Shape := ⟨2, ![1024, 644]⟩
abbrev S1x1024x644 : Shape := ⟨3, ![1, 1024, 644]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x644, .f32⟩
  | .hbm, ⟨1, _⟩ => ⟨S1x1024x644, .f32⟩
  | .hbm, ⟨2, _⟩ => ⟨S1x1024x644, .f32⟩
  | .hbm, ⟨3, _⟩ => ⟨S1x1024x644, .f32⟩
  | .hbm, ⟨4, _⟩ => ⟨S1x1024x644, .f32⟩
  | .hbm, ⟨5, _⟩ => ⟨S_, .f32⟩
  | .hbm, ⟨6, _⟩ => ⟨S1x1024x644, .f32⟩
  | .hbm, ⟨7, _⟩ => ⟨S1x1024x644, .f32⟩
  | .hbm, ⟨8, _⟩ => ⟨S_, .f32⟩
  | .hbm, ⟨9, _⟩ => ⟨S1x1024x644, .f32⟩
  | .hbm, ⟨10, _⟩ => ⟨S1x1024x644, .f32⟩
  | .hbm, ⟨11, _⟩ => ⟨S1x1024x644, .f32⟩
  | .hbm, ⟨12, _⟩ => ⟨S_, .f32⟩
  | .hbm, ⟨13, _⟩ => ⟨S1x1024x644, .f32⟩
  | .hbm, ⟨14, _⟩ => ⟨S1x1024x644, .f32⟩
  | .hbm, ⟨15, _⟩ => ⟨S1x1024x644, .f32⟩
  | .hbm, ⟨16, _⟩ => ⟨S_, .f32⟩
  | .hbm, ⟨17, _⟩ => ⟨S1x1024x644, .f32⟩
  | .hbm, ⟨18, _⟩ => ⟨S1x1024x644, .f32⟩
  | .hbm, ⟨19, _⟩ => ⟨S1x1024x644, .f32⟩
  | .hbm, ⟨20, _⟩ => ⟨S_, .f32⟩
  | .hbm, ⟨21, _⟩ => ⟨S1x1024x644, .f32⟩
  | .hbm, ⟨22, _⟩ => ⟨S1x1024x644, .f32⟩
  | .hbm, ⟨23, _⟩ => ⟨S_, .f32⟩
  | .hbm, ⟨24, _⟩ => ⟨S1x1024x644, .f32⟩
  | .hbm, ⟨25, _⟩ => ⟨S1x1024x644, .f32⟩
  | .hbm, ⟨26, _⟩ => ⟨S1x1024x644, .f32⟩
  | .hbm, ⟨27, _⟩ => ⟨S_, .f32⟩
  | .hbm, ⟨28, _⟩ => ⟨S1x1024x644, .f32⟩
  | .hbm, ⟨29, _⟩ => ⟨S1x1024x644, .f32⟩
  | .hbm, ⟨30, _⟩ => ⟨S1x1024x644, .f32⟩
  | .hbm, ⟨31, _⟩ => ⟨S_, .f32⟩
  | .hbm, ⟨32, _⟩ => ⟨S1x1024x644, .f32⟩
  | .hbm, ⟨33, _⟩ => ⟨S1x1024x644, .f32⟩
  | .hbm, ⟨34, _⟩ => ⟨S1x1024x644, .f32⟩
  | .hbm, ⟨35, _⟩ => ⟨S_, .f32⟩
  | .hbm, ⟨36, _⟩ => ⟨S1x1024x644, .f32⟩
  | .hbm, ⟨37, _⟩ => ⟨S1x1024x644, .f32⟩
  | _, _ => ⟨S1024x644, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamSsmWOut.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .bf16⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamSsmWOutReferenceIdeal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S_, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .hbm, ⟨14, _⟩ => ⟨S_, .f32⟩
  | .hbm, ⟨15, _⟩ => ⟨S1x256x1024, .f32⟩
  | .hbm, ⟨16, _⟩ => ⟨S1x256x1024, .f32⟩
  | .hbm, ⟨17, _⟩ => ⟨S1x256x1024, .f32⟩
  | .hbm, ⟨18, _⟩ => ⟨S_, .f32⟩
  | .hbm, ⟨19, _⟩ => ⟨S1x256x1024, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S_, .f32⟩
  | .hbm, ⟨26, _⟩ => ⟨S1x256x1024, .f32⟩
  | .hbm, ⟨27, _⟩ => ⟨S1x256x1024, .f32⟩
  | .hbm, ⟨28, _⟩ => ⟨S1x256x1024, .f32⟩
  | .hbm, ⟨29, _⟩ => ⟨S_, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S_, .f32⟩
  | .hbm, ⟨34, _⟩ => ⟨S1x256x1024, .f32⟩
  | .hbm, ⟨35, _⟩ => ⟨S1x256x1024, .f32⟩
  | .hbm, ⟨36, _⟩ => ⟨S1x256x1024, .f32⟩
  | .hbm, ⟨37, _⟩ => ⟨S_, .f32⟩
  | .hbm, ⟨38, _⟩ => ⟨S1x256x1024, .f32⟩
  | .hbm, ⟨39, _⟩ => ⟨S1x256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfnWIn.lean ====
abbrev S1024x704 : Shape := ⟨2, ![1024, 704]⟩
abbrev S2x1024x704 : Shape := ⟨3, ![2, 1024, 704]⟩
abbrev S1x1024x704 : Shape := ⟨3, ![1, 1024, 704]⟩
abbrev S1x256x704 : Shape := ⟨3, ![1, 256, 704]⟩
abbrev S256x704 : Shape := ⟨2, ![256, 704]⟩

abbrev nBuf : Space → Nat
  | .hbm => 11
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S1x1024x704, .f32⟩
  | .hbm, ⟨6, _⟩ => ⟨S1x1024x704, .f32⟩
  | .hbm, ⟨7, _⟩ => ⟨S2x1024x704, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .local _ .vmem, ⟨0, _⟩ => ⟨S1x256x704, .f32⟩
  | .local _ .vmem, ⟨1, _⟩ => ⟨S1x256x704, .f32⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnWInReferenceIdeal.lean ====
abbrev S1024x704 : Shape := ⟨2, ![1024, 704]⟩
abbrev S2x1024x704 : Shape := ⟨3, ![2, 1024, 704]⟩
abbrev S1x1024x704 : Shape := ⟨3, ![1, 1024, 704]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S1x1024x704, .f32⟩
  | .hbm, ⟨6, _⟩ => ⟨S1x1024x704, .f32⟩
  | .hbm, ⟨7, _⟩ => ⟨S2x1024x704, .f32⟩
  | .hbm, ⟨8, _⟩ => ⟨S_, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamFfnWOut.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .bf16⟩
  | .hbm, ⟨6, _⟩ => ⟨S8x352x1024, .bf16⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamFfnWOutReferenceIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S1x352x1024, .f32⟩
  | .hbm, ⟨10, _⟩ => ⟨S1x352x1024, .f32⟩
  | .hbm, ⟨11, _⟩ => ⟨S2x352x1024, .f32⟩
  | .hbm, ⟨12, _⟩ => ⟨S_, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== SumAttnWIn.lean ====
abbrev S8x288x1024 : Shape := ⟨3, ![8, 288, 1024]⟩
abbrev S288x1024 : Shape := ⟨2, ![288, 1024]⟩
abbrev S8x288x256 : Shape := ⟨3, ![8, 288, 256]⟩
abbrev S288x256 : Shape := ⟨2, ![288, 256]⟩
abbrev S1x288x256 : Shape := ⟨3, ![1, 288, 256]⟩

abbrev nBuf : Space → Nat
  | .hbm => 3
  | .vmem => 4
  | .smem => 0
  | _ => 0

abbrev bufTy : (tb : Table) → Fin (tcTables nBuf tb) → BufTy
  | .hbm, ⟨0, _⟩ => ⟨S8x288x1024, .f32⟩
  | .hbm, ⟨1, _⟩ => ⟨S8x288x1024, .bf16⟩
  | .hbm, ⟨2, _⟩ => ⟨S288x1024, .f32⟩
  | .local _ .vmem, ⟨0, _⟩ => ⟨S8x288x256, .bf16⟩
  | .local _ .vmem, ⟨1, _⟩ => ⟨S8x288x256, .bf16⟩
  | .local _ .vmem, ⟨2, _⟩ => ⟨S288x256, .f32⟩
  | .local _ .vmem, ⟨3, _⟩ => ⟨S288x256, .f32⟩
  | _, _ => ⟨S8x288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x288x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumAttnWInReferenceIdeal.lean ====
abbrev S8x288x1024 : Shape := ⟨3, ![8, 288, 1024]⟩
abbrev S_ : Shape := ⟨0, ![]⟩
abbrev S288x1024 : Shape := ⟨2, ![288, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x288x1024, .f32⟩
  | .hbm, ⟨1, _⟩ => ⟨S_, .f32⟩
  | .hbm, ⟨2, _⟩ => ⟨S288x1024, .f32⟩
  | _, _ => ⟨S8x288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSsmWIn.lean ====
abbrev S8x644x1024 : Shape := ⟨3, ![8, 644, 1024]⟩
abbrev S644x1024 : Shape := ⟨2, ![644, 1024]⟩
abbrev S8x644x256 : Shape := ⟨3, ![8, 644, 256]⟩
abbrev S644x256 : Shape := ⟨2, ![644, 256]⟩
abbrev S1x644x256 : Shape := ⟨3, ![1, 644, 256]⟩

abbrev nBuf : Space → Nat
  | .hbm => 3
  | .vmem => 4
  | .smem => 0
  | _ => 0

abbrev bufTy : (tb : Table) → Fin (tcTables nBuf tb) → BufTy
  | .hbm, ⟨0, _⟩ => ⟨S8x644x1024, .f32⟩
  | .hbm, ⟨1, _⟩ => ⟨S8x644x1024, .bf16⟩
  | .hbm, ⟨2, _⟩ => ⟨S644x1024, .f32⟩
  | .local _ .vmem, ⟨0, _⟩ => ⟨S8x644x256, .bf16⟩
  | .local _ .vmem, ⟨1, _⟩ => ⟨S8x644x256, .bf16⟩
  | .local _ .vmem, ⟨2, _⟩ => ⟨S644x256, .f32⟩
  | .local _ .vmem, ⟨3, _⟩ => ⟨S644x256, .f32⟩
  | _, _ => ⟨S8x644x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x644x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S644x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSsmWInReferenceIdeal.lean ====
abbrev S8x644x1024 : Shape := ⟨3, ![8, 644, 1024]⟩
abbrev S_ : Shape := ⟨0, ![]⟩
abbrev S644x1024 : Shape := ⟨2, ![644, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x644x1024, .f32⟩
  | .hbm, ⟨1, _⟩ => ⟨S_, .f32⟩
  | .hbm, ⟨2, _⟩ => ⟨S644x1024, .f32⟩
  | _, _ => ⟨S8x644x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumFfnWIn.lean ====
abbrev S8x704x1024 : Shape := ⟨3, ![8, 704, 1024]⟩
abbrev S704x1024 : Shape := ⟨2, ![704, 1024]⟩
abbrev S8x704x256 : Shape := ⟨3, ![8, 704, 256]⟩
abbrev S704x256 : Shape := ⟨2, ![704, 256]⟩
abbrev S1x704x256 : Shape := ⟨3, ![1, 704, 256]⟩

abbrev nBuf : Space → Nat
  | .hbm => 3
  | .vmem => 4
  | .smem => 0
  | _ => 0

abbrev bufTy : (tb : Table) → Fin (tcTables nBuf tb) → BufTy
  | .hbm, ⟨0, _⟩ => ⟨S8x704x1024, .f32⟩
  | .hbm, ⟨1, _⟩ => ⟨S8x704x1024, .bf16⟩
  | .hbm, ⟨2, _⟩ => ⟨S704x1024, .f32⟩
  | .local _ .vmem, ⟨0, _⟩ => ⟨S8x704x256, .bf16⟩
  | .local _ .vmem, ⟨1, _⟩ => ⟨S8x704x256, .bf16⟩
  | .local _ .vmem, ⟨2, _⟩ => ⟨S704x256, .f32⟩
  | .local _ .vmem, ⟨3, _⟩ => ⟨S704x256, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x704x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S704x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnWInReferenceIdeal.lean ====
abbrev S8x704x1024 : Shape := ⟨3, ![8, 704, 1024]⟩
abbrev S_ : Shape := ⟨0, ![]⟩
abbrev S704x1024 : Shape := ⟨2, ![704, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S_, .f32⟩
  | .hbm, ⟨2, _⟩ => ⟨S704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SsmDwDt.lean ====
abbrev S8192x128 : Shape := ⟨2, ![8192, 128]⟩
abbrev S8192x1024 : Shape := ⟨2, ![8192, 1024]⟩
abbrev S128x1024 : Shape := ⟨2, ![128, 1024]⟩
abbrev S512x128 : Shape := ⟨2, ![512, 128]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S8192x128, .bf16⟩
  | .hbm, ⟨3, _⟩ => ⟨S8192x1024, .bf16⟩
  | .hbm, ⟨4, _⟩ => ⟨S128x1024, .bf16⟩
  | .local _ .vmem, ⟨0, _⟩ => ⟨S512x128, .bf16⟩
  | .local _ .vmem, ⟨1, _⟩ => ⟨S512x128, .bf16⟩
  | .local _ .vmem, ⟨2, _⟩ => ⟨S512x1024, .bf16⟩
  | .local _ .vmem, ⟨3, _⟩ => ⟨S512x1024, .bf16⟩
  | .local _ .vmem, ⟨4, _⟩ => ⟨S128x1024, .bf16⟩
  | .local _ .vmem, ⟨5, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SsmDwDtReferenceIdeal.lean ====
abbrev S8192x128 : Shape := ⟨2, ![8192, 128]⟩
abbrev S8192x1024 : Shape := ⟨2, ![8192, 1024]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S1024x128, .f32⟩
  | .hbm, ⟨7, _⟩ => ⟨S128x1024, .f32⟩
  | .hbm, ⟨8, _⟩ => ⟨S128x1024, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.FfnPay.lean ====
/- The arithmetic of one grid point of the feed-forward backward kernel, read entry by entry over the extended reals:
   what each stored payload holds at a row and a channel, in terms of the blocks it was computed from. -/
module

public import proofs.«01_k».proof.Proof.Gen.KernelIdeal.Skeleton
public import Idealize.ShloMosaic.Lib.Pipeline.Value
public import Idealize.ShloMosaic.Lib.Pointwise
public import Idealize.ShloMosaic.Lib.ValueIdx
public import Idealize.ShloMosaic.Lib.MatmulPlain
public import Idealize.ShloMosaic.PureOps.Ideal

@[expose] public section
set_option maxRecDepth 16384
noncomputable section
open Idealize.ShloMosaic
namespace Cert.Ffn
open Cert.KernelIdeal Cert.KernelIdeal.Gen

/-- 256 rows of a block followed by the 16 rows of its halo, read at row `q`. -/
def cat {n : ℕ} (a : (⟨2, ![256, n]⟩ : Shape).Idx → EReal) (b : (⟨2, ![16, n]⟩ : Shape).Idx → EReal) (q : ℕ) (j : Fin n) : EReal :=
  if h : q < 256 then a (ix2 ⟨q, h⟩ j) else if h' : q - 256 < 16 then b (ix2 ⟨q - 256, h'⟩ j) else 0

/-- The gate's activation `g · σ(g)`. -/
def act (g : EReal) : EReal := g * Ideal.logistic g
/-- Its derivative, as the kernel spells it: `σ(g) · (1 + g · (1 − σ(g)))`. -/
def dact (g : EReal) : EReal := Ideal.logistic g * (1 + g * (1 - Ideal.logistic g))

/-- The gradient of the activation's product at row `q`: `Σ_k dx[q,k] · w[j,k]`. -/
def rowDA {n : ℕ} (dxB : Vec Ideal S256x1024 .bf16) (dxH : Vec Ideal S16x1024 .bf16)
    (w : (⟨2, ![n, 1024]⟩ : Shape).Idx → EReal) (q : ℕ) (j : Fin n) : EReal :=
  ∑ k : Fin 1024, cat dxB dxH q k * w (ix2 j k)

/-- Whether row `q` of block `i` and its halo lies in the array: the last block has no rows after it. -/
def keep (i : grid0.Coords) (q : ℕ) : Prop := q < 256 ∨ (i 0).val ≠ 31
instance (i : grid0.Coords) (q : ℕ) : Decidable (keep i q) := by unfold keep; infer_instance

/-- The gradient of the convolved gate at row `q`. -/
def rowD {n : ℕ} (i : grid0.Coords) (dxB : Vec Ideal S256x1024 .bf16) (dxH : Vec Ideal S16x1024 .bf16)
    (w : (⟨2, ![n, 1024]⟩ : Shape).Idx → EReal)
    (gB : (⟨2, ![256, n]⟩ : Shape).Idx → EReal) (gH : (⟨2, ![16, n]⟩ : Shape).Idx → EReal)
    (uB : (⟨2, ![256, n]⟩ : Shape).Idx → EReal) (uH : (⟨2, ![16, n]⟩ : Shape).Idx → EReal) (q : ℕ) (j : Fin n) : EReal :=
  if keep i q then rowDA dxB dxH w q j * cat uB uH q j * dact (cat gB gH q j) else 0

section
variable (i : grid0.Coords) (dxB : Vec Ideal S256x1024 .bf16) (dxH : Vec Ideal S16x1024 .bf16) (w : Vec Ideal S1408x1024 .bf16)
  (gB : Vec Ideal S256x1408 .bf16) (gH : Vec Ideal S16x1408 .bf16) (uB : Vec Ideal S256x1408 .bf16) (uH : Vec Ideal S16x1408 .bf16)

theorem pay3_apply (q : Fin 272) (k : Fin 1024) : k0_pay3 (F := Ideal) dxB dxH (ix2 q k) = cat dxB dxH q.val k := by
  unfold k0_pay3 cat
  pointwise
  by_cases h : q.val < 256
  · simp only [h, dite_true]
  · have h' : q.val - 256 < 16 := by omega
    simp only [h, h', dite_true, dite_false]

theorem pay5_apply (q : Fin 272) (j : Fin 1408) : k0_pay5 (F := Ideal) gB gH (ix2 q j) = cat gB gH q.val j := by
  unfold k0_pay5 cat
  pointwise
  by_cases h : q.val < 256
  · simp only [h, dite_true]
  · have h' : q.val - 256 < 16 := by omega
    simp only [h, h', dite_true, dite_false]

theorem pay25_apply (q : Fin 272) (j : Fin 1408) : k0_pay25 (F := Ideal) gB gH (ix2 q j) = cat gB gH q.val j := by
  unfold k0_pay25 cat
  pointwise
  by_cases h : q.val < 256
  · simp only [h, dite_true]
  · have h' : q.val - 256 < 16 := by omega
    simp only [h, h', dite_true, dite_false]

theorem pay4_apply (q : Fin 272) : k0_pay4 i (ix2 q 0) = BitVec.ofBool (decide (keep i q.val)) := by
  unfold k0_pay4 keep
  pointwise
  have hq : ∀ q : Fin 272, IntOp.cmpi CmpIPredicate.slt (BitVec.ofNat 32 q.val) 256#32 = BitVec.ofBool (decide (q.val < 256)) := by decide +kernel
  have hi : ∀ i : Fin 32, Scalar.xori (Scalar.cmpi CmpIPredicate.eq (BitVec.ofNat 32 i.val) 31#32) 1#1 = BitVec.ofBool (decide (i.val ≠ 31)) := by decide +kernel
  rw [hi (i 0)]
  refine (congrArg (fun b => IntOp.ori b _) (hq q)).trans ?_
  by_cases h1 : q.val < 256 <;> by_cases h2 : (i 0).val = 31 <;> simp [h1, h2, IntOp.ori]

theorem pay9_apply (q : Fin 272) (j : Fin 1408) : k0_pay9 (F := Ideal) dxB dxH w (ix2 q j) = rowDA dxB dxH w q.val j := by
  unfold k0_pay9 rowDA
  pointwise
  exact Finset.sum_congr rfl fun k _ => by rw [pay3_apply]

theorem pay29_apply (q : Fin 272) (j : Fin 1408) : k0_pay29 (F := Ideal) (k0_pay3 dxB dxH) w (ix2 q j) = rowDA dxB dxH w q.val j := by
  unfold k0_pay29 rowDA
  pointwise
  exact Finset.sum_congr rfl fun k _ => by rw [pay3_apply]

theorem pay8_apply (q : Fin 272) (j : Fin 1408) : k0_pay8 (F := Ideal) gB gH (ix2 q j) = dact (cat gB gH q.val j) := by
  have h := pay5_apply gB gH q j
  unfold k0_pay8 k0_pay6 dact
  pointwise
  rw [h]

theorem pay7_apply (q : Fin 272) (j : Fin 1408) : k0_pay7 (F := Ideal) gB gH (ix2 q j) = act (cat gB gH q.val j) := by
  have h := pay5_apply gB gH q j
  unfold k0_pay7 k0_pay6 act
  pointwise
  rw [h]

theorem pay26_apply (q : Fin 272) (j : Fin 1408) : k0_pay26 (F := Ideal) gB gH (ix2 q j) = Ideal.logistic (cat gB gH q.val j) := by
  have h := pay25_apply gB gH q j
  unfold k0_pay26
  pointwise
  rw [h]

theorem pay27_apply (q : Fin 272) (j : Fin 1408) : k0_pay27 (F := Ideal) gB gH (ix2 q j) = act (cat gB gH q.val j) := by
  have h := pay25_apply gB gH q j
  have h' := pay26_apply gB gH q j
  unfold k0_pay27 act
  pointwise
  rw [h, h']

theorem pay28_apply (q : Fin 272) (j : Fin 1408) : k0_pay28 (F := Ideal) gB gH (ix2 q j) = 1 - Ideal.logistic (cat gB gH q.val j) := by
  have h := pay26_apply gB gH q j
  unfold k0_pay28
  pointwise
  rw [h]

theorem pick_keep (P : Prop) [Decidable P] (a b : EReal) : Scalar.select (BitVec.ofBool (decide P)) a b = if P then a else b := by
  by_cases h : P <;> simp [h, Scalar.select]

theorem cat_ups (q : Fin 272) (j : Fin 1408) :
    (if h : q.val < 256 then uB (ix2 ⟨q.val, h⟩ j) else uH (ix2 ⟨q.val - 256, (by show _ < 16; omega)⟩ j)) = cat uB uH q.val j := by
  unfold cat
  by_cases h : q.val < 256
  · simp only [h, dite_true]
  · have h' : q.val - 256 < 16 := by omega
    simp only [h, h', dite_true, dite_false]

/-- The gate gradient of the first half of the channels. -/
theorem pay12_apply (q : Fin 272) (j : Fin 1408) :
   k0_pay12 (F := Ideal) (k0_pay4 i) (k0_pay8 gB gH) (k0_pay9 dxB dxH w) (k0_pay10 uB) (k0_pay11 uH) (ix2 q j)
     = rowD i dxB dxH w gB gH uB uH q.val j := by
  unfold k0_pay12 rowD k0_pay10 k0_pay11
  pointwise
  rw [pay4_apply, pay9_apply, pay8_apply]
  erw [cat_ups uB uH q j]
  exact pick_keep _ _ _

/-- The same of the second half. -/
theorem pay30_apply (q : Fin 272) (j : Fin 1408) :
   k0_pay30 (F := Ideal) (k0_pay3 dxB dxH) (k0_pay4 i) (k0_pay25 gB gH) (k0_pay26 gB gH) (k0_pay28 gB gH) w uB uH (ix2 q j)
     = rowD i dxB dxH w gB gH uB uH q.val j := by
  unfold k0_pay30 rowD dact
  pointwise
  rw [pay4_apply, pay29_apply, pay26_apply, pay25_apply, pay28_apply]
  erw [cat_ups uB uH q j]
  exact pick_keep _ _ _

theorem pay13_apply (p : Fin 256) (j : Fin 1408) :
   k0_pay13 (F := Ideal) (k0_pay4 i) (k0_pay8 gB gH) (k0_pay9 dxB dxH w) (k0_pay10 uB) (k0_pay11 uH) (ix2 p j)
     = rowD i dxB dxH w gB gH uB uH (p.val + 0) j := by
  rw [← pay12_apply i dxB dxH w gB gH uB uH ⟨p.val + 0, by omega⟩ j]
  unfold k0_pay13
  pointwise

theorem pay14_apply (p : Fin 256) (j : Fin 1408) :
   k0_pay14 (F := Ideal) (k0_pay4 i) (k0_pay8 gB gH) (k0_pay9 dxB dxH w) (k0_pay10 uB) (k0_pay11 uH) (ix2 p j)
     = rowD i dxB dxH w gB gH uB uH (p.val + 1) j := by
  rw [← pay12_apply i dxB dxH w gB gH uB uH ⟨p.val + 1, by omega⟩ j]
  unfold k0_pay14
  pointwise
  exact congrArg (fun a => k0_pay12 (F := Ideal) (k0_pay4 i) (k0_pay8 gB gH) (k0_pay9 dxB dxH w) (k0_pay10 uB) (k0_pay11 uH) (ix2 a j)) (Fin.ext (by show (p.val + 272 - 271) % 272 = p.val + 1; omega))

theorem pay15_apply (p : Fin 256) (j : Fin 1408) :
   k0_pay15 (F := Ideal) (k0_pay4 i) (k0_pay8 gB gH) (k0_pay9 dxB dxH w) (k0_pay10 uB) (k0_pay11 uH) (ix2 p j)
     = rowD i dxB dxH w gB gH uB uH (p.val + 2) j := by
  rw [← pay12_apply i dxB dxH w gB gH uB uH ⟨p.val + 2, by omega⟩ j]
  unfold k0_pay15
  pointwise
  exact congrArg (fun a => k0_pay12 (F := Ideal) (k0_pay4 i) (k0_pay8 gB gH) (k0_pay9 dxB dxH w) (k0_pay10 uB) (k0_pay11 uH) (ix2 a j)) (Fin.ext (by show (p.val + 272 - 270) % 272 = p.val + 2; omega))

theorem pay31_apply (p : Fin 256) (j : Fin 1408) :
   k0_pay31 (F := Ideal) (k0_pay3 dxB dxH) (k0_pay4 i) (k0_pay25 gB gH) (k0_pay26 gB gH) (k0_pay28 gB gH) w uB uH (ix2 p j)
     = rowD i dxB dxH w gB gH uB uH (p.val + 0) j := by
  rw [← pay30_apply i dxB dxH w gB gH uB uH ⟨p.val + 0, by omega⟩ j]
  unfold k0_pay31
  pointwise

theorem pay32_apply (p : Fin 256) (j : Fin 1408) :
   k0_pay32 (F := Ideal) (k0_pay3 dxB dxH) (k0_pay4 i) (k0_pay25 gB gH) (k0_pay26 gB gH) (k0_pay28 gB gH) w uB uH (ix2 p j)
     = rowD i dxB dxH w gB gH uB uH (p.val + 1) j := by
  rw [← pay30_apply i dxB dxH w gB gH uB uH ⟨p.val + 1, by omega⟩ j]
  unfold k0_pay32
  pointwise
  exact congrArg (fun a => k0_pay30 (F := Ideal) (k0_pay3 dxB dxH) (k0_pay4 i) (k0_pay25 gB gH) (k0_pay26 gB gH) (k0_pay28 gB gH) w uB uH (ix2 a j)) (Fin.ext (by show (p.val + 272 - 271) % 272 = p.val + 1; omega))

theorem pay33_apply (p : Fin 256) (j : Fin 1408) :
   k0_pay33 (F := Ideal) (k0_pay3 dxB dxH) (k0_pay4 i) (k0_pay25 gB gH) (k0_pay26 gB gH) (k0_pay28 gB gH) w uB uH (ix2 p j)
     = rowD i dxB dxH w gB gH uB uH (p.val + 2) j := by
  rw [← pay30_apply i dxB dxH w gB gH uB uH ⟨p.val + 2, by omega⟩ j]
  unfold k0_pay33
  pointwise
  exact congrArg (fun a => k0_pay30 (F := Ideal) (k0_pay3 dxB dxH) (k0_pay4 i) (k0_pay25 gB gH) (k0_pay26 gB gH) (k0_pay28 gB gH) w uB uH (ix2 a j)) (Fin.ext (by show (p.val + 272 - 270) % 272 = p.val + 2; omega))

/-- The gate columns of the gradient: the three taps of the convolution turned round. -/
def taps {n : ℕ} (D : ℕ → Fin n → EReal) (w2 w1 w0 : EReal) (p : ℕ) (j : Fin n) : EReal :=
  D p j * w2 + D (p + 1) j * w1 + D (p + 2) j * w0

theorem pay17_apply (w2 w1 w0 : Vec Ideal S1x1408 .f32) (p : Fin 256) (j : Fin 1408) :
   k0_pay17 (F := Ideal) (k0_pay4 i) (k0_pay8 gB gH) (k0_pay9 dxB dxH w) (k0_pay10 uB) (k0_pay11 uH) w2 w1 w0 (ix2 p j)
     = taps (rowD i dxB dxH w gB gH uB uH) (w2 (ix2 0 j)) (w1 (ix2 0 j)) (w0 (ix2 0 j)) p.val j := by
  unfold k0_pay17 taps
  pointwise
  rw [pay13_apply, pay14_apply, pay15_apply]; rfl

theorem pay37_apply (w2 w1 w0 : Vec Ideal S1x1408 .f32) (p : Fin 256) (j : Fin 1408) :
   k0_pay37 (F := Ideal) (k0_pay33 (k0_pay3 dxB dxH) (k0_pay4 i) (k0_pay25 gB gH) (k0_pay26 gB gH) (k0_pay28 gB gH) w uB uH) (k0_pay35 (k0_pay3 dxB dxH) (k0_pay4 i) (k0_pay25 gB gH) (k0_pay26 gB gH) (k0_pay28 gB gH) w uB uH w2 w1) (k0_pay36 w0) (ix2 p j)
     = taps (rowD i dxB dxH w gB gH uB uH) (w2 (ix2 0 j)) (w1 (ix2 0 j)) (w0 (ix2 0 j)) p.val j := by
  unfold k0_pay37 k0_pay35 k0_pay36 taps
  pointwise
  rw [pay31_apply, pay32_apply, pay33_apply]; rfl

theorem pay16_apply (p : Fin 256) (j : Fin 1408) :
   k0_pay16 (F := Ideal) (k0_pay7 gB gH) (k0_pay9 dxB dxH w) (ix2 p j)
     = rowDA dxB dxH w p.val j * act (cat gB gH p.val j) := by
  unfold k0_pay16
  pointwise
  rw [pay7_apply, pay9_apply]

theorem pay34_apply (p : Fin 256) (j : Fin 1408) :
   k0_pay34 (F := Ideal) (k0_pay3 dxB dxH) (k0_pay27 gB gH) w (ix2 p j)
     = rowDA dxB dxH w p.val j * act (cat gB gH p.val j) := by
  unfold k0_pay34
  pointwise
  rw [pay27_apply, pay29_apply]

theorem pay22_apply (x : Vec Ideal S256x1408 .bf16) (acc : Vec Ideal S1x1408 .f32) (j : Fin 1408) :
   k0_pay22 (F := Ideal) (k0_pay13 (k0_pay4 i) (k0_pay8 gB gH) (k0_pay9 dxB dxH w) (k0_pay10 uB) (k0_pay11 uH)) (k0_pay18 x) acc (ix2 0 j)
     = acc (ix2 0 j) + ∑ p : Fin 256, rowD i dxB dxH w gB gH uB uH (p.val + 0) j * x (ix2 p j) := by
  unfold k0_pay22 k0_pay18
  pointwise
  exact congrArg (acc (ix2 0 j) + ·) (Finset.sum_congr rfl fun p _ => by rw [pay13_apply]; rfl)

theorem pay23_apply (x : Vec Ideal S256x1408 .bf16) (acc : Vec Ideal S1x1408 .f32) (j : Fin 1408) :
   k0_pay23 (F := Ideal) (k0_pay14 (k0_pay4 i) (k0_pay8 gB gH) (k0_pay9 dxB dxH w) (k0_pay10 uB) (k0_pay11 uH)) (k0_pay18 x) acc (ix2 0 j)
     = acc (ix2 0 j) + ∑ p : Fin 256, rowD i dxB dxH w gB gH uB uH (p.val + 1) j * x (ix2 p j) := by
  unfold k0_pay23 k0_pay18
  pointwise
  exact congrArg (acc (ix2 0 j) + ·) (Finset.sum_congr rfl fun p _ => by rw [pay14_apply])

theorem pay24_apply (x : Vec Ideal S256x1408 .bf16) (acc : Vec Ideal S1x1408 .f32) (j : Fin 1408) :
   k0_pay24 (F := Ideal) (k0_pay15 (k0_pay4 i) (k0_pay8 gB gH) (k0_pay9 dxB dxH w) (k0_pay10 uB) (k0_pay11 uH)) (k0_pay18 x) acc (ix2 0 j)
     = acc (ix2 0 j) + ∑ p : Fin 256, rowD i dxB dxH w gB gH uB uH (p.val + 2) j * x (ix2 p j) := by
  unfold k0_pay24 k0_pay18
  pointwise
  exact congrArg (acc (ix2 0 j) + ·) (Finset.sum_congr rfl fun p _ => by rw [pay15_apply])

theorem pay40_apply (x : Vec Ideal S256x1408 .bf16) (acc : Vec Ideal S1x1408 .f32) (j : Fin 1408) :
   k0_pay40 (F := Ideal) (k0_pay31 (k0_pay3 dxB dxH) (k0_pay4 i) (k0_pay25 gB gH) (k0_pay26 gB gH) (k0_pay28 gB gH) w uB uH) x acc (ix2 0 j)
     = acc (ix2 0 j) + ∑ p : Fin 256, rowD i dxB dxH w gB gH uB uH (p.val + 0) j * x (ix2 p j) := by
  unfold k0_pay40 k0_pay38
  pointwise
  exact congrArg (acc (ix2 0 j) + ·) (Finset.sum_congr rfl fun p _ => by rw [pay31_apply]; rfl)

theorem pay41_apply (x : Vec Ideal S256x1408 .bf16) (acc : Vec Ideal S1x1408 .f32) (j : Fin 1408) :
   k0_pay41 (F := Ideal) (k0_pay32 (k0_pay3 dxB dxH) (k0_pay4 i) (k0_pay25 gB gH) (k0_pay26 gB gH) (k0_pay28 gB gH) w uB uH) x acc (ix2 0 j)
     = acc (ix2 0 j) + ∑ p : Fin 256, rowD i dxB dxH w gB gH uB uH (p.val + 1) j * x (ix2 p j) := by
  unfold k0_pay41 k0_pay38
  pointwise
  exact congrArg (acc (ix2 0 j) + ·) (Finset.sum_congr rfl fun p _ => by rw [pay32_apply])

theorem pay42_apply (x : Vec Ideal S256x1408 .bf16) (acc : Vec Ideal S1x1408 .f32) (j : Fin 1408) :
   k0_pay42 (F := Ideal) (k0_pay33 (k0_pay3 dxB dxH) (k0_pay4 i) (k0_pay25 gB gH) (k0_pay26 gB gH) (k0_pay28 gB gH) w uB uH) x acc (ix2 0 j)
     = acc (ix2 0 j) + ∑ p : Fin 256, rowD i dxB dxH w gB gH uB uH (p.val + 2) j * x (ix2 p j) := by
  unfold k0_pay42 k0_pay38
  pointwise
  exact congrArg (acc (ix2 0 j) + ·) (Finset.sum_congr rfl fun p _ => by rw [pay33_apply])

theorem pay21_apply (acc : Vec Ideal S1x1408 .f32) (j : Fin 1408) :
   k0_pay21 (F := Ideal) (k0_pay19 acc) (k0_pay20 (k0_pay4 i) (k0_pay8 gB gH) (k0_pay9 dxB dxH w) (k0_pay10 uB) (k0_pay11 uH)) (ix2 0 j)
     = acc (ix2 0 j) + ∑ p : Fin 256, rowD i dxB dxH w gB gH uB uH (p.val + 0) j := by
  unfold k0_pay21 k0_pay20 k0_pay19
  pointwise
  exact congrArg (acc (ix2 0 j) + ·) (Finset.sum_congr rfl fun p _ => by rw [pay13_apply]; rfl)

theorem pay39_apply (acc : Vec Ideal S1x1408 .f32) (j : Fin 1408) :
   k0_pay39 (F := Ideal) (k0_pay31 (k0_pay3 dxB dxH) (k0_pay4 i) (k0_pay25 gB gH) (k0_pay26 gB gH) (k0_pay28 gB gH) w uB uH) acc (ix2 0 j)
     = acc (ix2 0 j) + ∑ p : Fin 256, rowD i dxB dxH w gB gH uB uH (p.val + 0) j := by
  unfold k0_pay39
  pointwise
  exact congrArg (acc (ix2 0 j) + ·) (Finset.sum_congr rfl fun p _ => by rw [pay31_apply]; rfl)

end
end Cert.Ffn
end
-- ==== Proof.FfnHost.lean ====
/-
  What the host lines hand to the kernel's windows, entry by entry.
-/
module

public import proofs.«01_k».proof.Proof.Gen.KernelIdeal.Value
public import proofs.«01_k».proof.Proof.FfnPay
public import Idealize.ShloMosaic.Lib.StableHlo.ReadAt

@[expose] public section

set_option maxRecDepth 16384
noncomputable section
open Idealize.ShloMosaic Idealize.ShloMosaic.TcCoe Idealize.SL.Sem

namespace Cert.Ffn

open Cert.KernelIdeal Cert.KernelIdeal.Gen

variable (m : (ℓ : Loc nD τ sig) → Buf (Elt Ideal) ℓ) (c : Dev nD)

theorem V_v0 (r : Fin 8192) (j : Fin 5632) : V m c main_v0 (ix2 r j) = m ((c : Thread nD τ).loc main_arg0) (ix2 r j) := by
  unfold V hostOps0 hostOps0_1
  after_reads_at

theorem V_v30 (r : Fin 8192) (j : Fin 1024) : V m c main_v30 (ix2 r j) = m ((c : Thread nD τ).loc main_arg4) (ix2 r j) := by
  unfold V hostOps0 hostOps0_1
  after_reads_at

theorem V_v31 (r : Fin 2816) (j : Fin 1024) : V m c main_v31 (ix2 r j) = m ((c : Thread nD τ).loc main_arg3) (ix2 r j) := by
  unfold V hostOps0 hostOps0_1
  after_reads_at

theorem V_v32 (r : Fin 8) (j : Fin 2816) (h : r.val < 3) :
    V m c main_v32 (ix2 r j) = m ((c : Thread nD τ).loc main_arg1) (ix2 ⟨r.val, h⟩ j) := by
  unfold V hostOps0 hostOps0_1
  after_reads_at
  rw [dif_pos h]

/-- Row `r` of the gate half of the projection, after two rows of zeros. -/
def past (P : S8192x5632.Idx → EReal) (r : ℕ) (j : Fin 2816) : EReal :=
  if h : r < 2 then 0 else if h' : r - 2 < 8192 then P (ix2 ⟨r - 2, h'⟩ ⟨j.val, by omega⟩) else 0

/-- The gate after the causal convolution of width three. -/
def conv (P : S8192x5632.Idx → EReal) (W : S3x2816.Idx → EReal) (B : S1x2816.Idx → EReal) (r : ℕ) (j : Fin 2816) : EReal :=
  past P r j * W (ix2 0 j) + past P (r + 1) j * W (ix2 1 j) + past P (r + 2) j * W (ix2 2 j) + B (ix2 0 j)

theorem conv_eq (P : S8192x5632.Idx → EReal) (W : S3x2816.Idx → EReal) (B : S1x2816.Idx → EReal) (r : Fin 8192) (j : Fin 2816)
    (h0 : ∀ _ : ¬r.val < 2, r.val - 2 < 8192) (h1 : ∀ _ : ¬1 + r.val < 2, 1 + r.val - 2 < 8192) (hj : j.val < 5632) :
    (if h : r.val < 2 then 0 else P (ix2 ⟨r.val - 2, h0 h⟩ ⟨j.val, hj⟩)) * W (ix2 0 j)
      + (if h : 1 + r.val < 2 then 0 else P (ix2 ⟨1 + r.val - 2, h1 h⟩ ⟨j.val, hj⟩)) * W (ix2 1 j)
      + P (ix2 r ⟨j.val, hj⟩) * W (ix2 2 j) + B (ix2 0 j) = conv P W B r.val j := by
  unfold conv
  have e0 : (if h : r.val < 2 then 0 else P (ix2 ⟨r.val - 2, h0 h⟩ ⟨j.val, hj⟩)) = past P r.val j := by
    unfold past
    split_ifs with h h'
    · rfl
    · rfl
    · omega
  have e1 : (if h : 1 + r.val < 2 then 0 else P (ix2 ⟨1 + r.val - 2, h1 h⟩ ⟨j.val, hj⟩)) = past P (r.val + 1) j := by
    unfold past
    split_ifs with h h' h''
    · rfl
    · omega
    · omega
    · omega
    · exact congrArg (fun a => P (ix2 a _)) (Fin.ext (by show 1 + r.val - 2 = r.val + 1 - 2; omega))
    · omega
  have e2 : P (ix2 r ⟨j.val, hj⟩) = past P (r.val + 2) j := by
    unfold past
    rw [dif_neg (by omega), dif_pos (by omega)]
    exact congrArg (fun a => P (ix2 a _)) (Fin.ext (by show r.val = r.val + 2 - 2; omega))
  rw [e0, e1, e2]

theorem V_v29 (r : Fin 8192) (j : Fin 2816) : V m c main_v29 (ix2 r j) = conv (m ((c : Thread nD τ).loc main_arg0))
    (m ((c : Thread nD τ).loc main_arg1)) (m ((c : Thread nD τ).loc main_arg2)) r.val j := by
  unfold V hostOps0 hostOps0_1
  simp only [List.flatten_cons, List.flatten_nil, List.cons_append, List.nil_append, List.append_nil]
  after_reads_at
  after_reads_at
  exact conv_eq (m ((c : Thread nD τ).loc main_arg0)) (m ((c : Thread nD τ).loc main_arg1)) (m ((c : Thread nD τ).loc main_arg2)) r j
    (fun _ => by omega) (fun _ => by omega) (by omega)
end Cert.Ffn
-- ==== Proof.FfnBlock.lean ====
/- What one grid point of the feed-forward backward kernel leaves in its three output windows, as functions of the
   blocks its input windows hold. -/
module

public import proofs.«01_k».proof.Proof.Gen.KernelIdeal.Frame
public import proofs.«01_k».proof.Proof.FfnPay
public import Idealize.ShloMosaic.Lib.Tactic

@[expose] public section
set_option maxRecDepth 16384
noncomputable section
open Idealize.ShloMosaic Idealize.ShloMosaic.TcCoe Idealize.SL.Sem
namespace Cert.Ffn
open Cert.KernelIdeal Cert.KernelIdeal.Gen

section
variable (i : grid0.Coords)
    (x0 : Vec Ideal S256x2816 .bf16) (x1 : Vec Ideal S256x2816 .bf16) (x2 : Vec Ideal S16x2816 .bf16)
    (x3 : Vec Ideal S256x2816 .bf16) (x4 : Vec Ideal S16x2816 .bf16) (x5 : Vec Ideal S256x1024 .bf16)
    (x6 : Vec Ideal S16x1024 .bf16) (x7 : Vec Ideal S2816x1024 .bf16) (x8 : Vec Ideal S8x2816 .f32)
    (xo10 : Vec Ideal S8x2816 .f32) (xo11 : Vec Ideal S1x2816 .f32)

/-- The gradient at row `p` and column `j` of the block: the gate's columns, then the up projection's. -/
def gradAt (p j : ℕ) (hj : j < 5632) : EReal :=
  if h : j < 2816 then
    taps (rowD i x5 x6 x7 x3 x4 x1 x2) (x8 (ix2 2 ⟨j, h⟩)) (x8 (ix2 1 ⟨j, h⟩)) (x8 (ix2 0 ⟨j, h⟩)) p ⟨j, h⟩
  else rowDA x5 x6 x7 p ⟨j - 2816, by omega⟩ * act (cat x3 x4 p ⟨j - 2816, by omega⟩)

def gradBlk (y : S256x5632.Idx) : EReal := gradAt i x1 x2 x3 x4 x5 x6 x7 x8 (y 0).val (y 1).val (y 1).isLt

/-- What one block adds to the convolution weight's gradient. -/
def dwAdd (y : S8x2816.Idx) : EReal :=
  if (y 0).val < 3 then ∑ p : Fin 256, rowD i x5 x6 x7 x3 x4 x1 x2 (p.val + (2 - (y 0).val)) (y 1) * x0 (ix2 p (y 1)) else 0

/-- What one block adds to the convolution bias's gradient. -/
def dbAdd (y : S1x2816.Idx) : EReal := ∑ p : Fin 256, rowD i x5 x6 x7 x3 x4 x1 x2 (p.val + 0) (y 1)
end

/-- `a` is columns `o …` of `b`. -/
def Cols {n : ℕ} (o : ℕ) (ho : o + 1408 ≤ 2816) (a : (⟨2, ![n, 1408]⟩ : Shape).Idx → EReal) (b : (⟨2, ![n, 2816]⟩ : Shape).Idx → EReal) : Prop :=
  ∀ p j, a (ix2 p j) = b (ix2 p ⟨o + j.val, by omega⟩)

theorem cat_cols {o : ℕ} {ho : o + 1408 ≤ 2816} {a b A B} (h1 : Cols (n := 256) o ho a A) (h2 : Cols (n := 16) o ho b B) (q : ℕ) (j : Fin 1408) :
    cat a b q j = cat A B q ⟨o + j.val, by omega⟩ := by
  unfold cat; simp only [h1 _ _, h2 _ _]

theorem rowDA_rows {o : ℕ} {ho : o + 1408 ≤ 2816} (dxB : Vec Ideal S256x1024 .bf16) (dxH : Vec Ideal S16x1024 .bf16)
    {w : (⟨2, ![1408, 1024]⟩ : Shape).Idx → EReal} {W : (⟨2, ![2816, 1024]⟩ : Shape).Idx → EReal}
    (hw : ∀ j k, w (ix2 j k) = W (ix2 ⟨o + j.val, by omega⟩ k)) (q : ℕ) (j : Fin 1408) :
    rowDA dxB dxH w q j = rowDA dxB dxH W q ⟨o + j.val, by omega⟩ := by
  unfold rowDA; simp only [hw _ _]

theorem rowD_cols {o : ℕ} {ho : o + 1408 ≤ 2816} (i : grid0.Coords) (dxB : Vec Ideal S256x1024 .bf16) (dxH : Vec Ideal S16x1024 .bf16)
    {w : (⟨2, ![1408, 1024]⟩ : Shape).Idx → EReal} {W : (⟨2, ![2816, 1024]⟩ : Shape).Idx → EReal} {gB gH uB uH GB GH UB UH}
    (hw : ∀ j k, w (ix2 j k) = W (ix2 ⟨o + j.val, by omega⟩ k))
    (h1 : Cols (n := 256) o ho gB GB) (h2 : Cols (n := 16) o ho gH GH) (h3 : Cols (n := 256) o ho uB UB) (h4 : Cols (n := 16) o ho uH UH)
    (q : ℕ) (j : Fin 1408) :
    rowD i dxB dxH w gB gH uB uH q j = rowD i dxB dxH W GB GH UB UH q ⟨o + j.val, by omega⟩ := by
  unfold rowD; rw [rowDA_rows (ho := ho) dxB dxH hw, cat_cols h1 h2, cat_cols h3 h4]

theorem emb_apply2 {M N m n r o : ℕ}
    (h : ∀ a, (![r, o] : Fin 2 → ℕ) a + (![m, n] : Fin 2 → ℕ) a ≤ (⟨2, ![M, N]⟩ : Shape).size a) (p : Fin m) (j : Fin n) :
    (Rect.unit (s := ⟨2, ![M, N]⟩) ![r, o] ![m, n] h).emb (ix2 p j)
      = ix2 ⟨r + p.val, by have := h 0; simp at this; omega⟩ ⟨o + j.val, by have := h 1; simp at this; omega⟩ := by
  funext a; fin_cases a <;> exact Fin.ext (by simp [Rect.unit, Rect.emb, LoadRect.idx])

theorem ld_apply2 {M N m n r o : ℕ} {e : EltTy} (X : (⟨2, ![M, N]⟩ : Shape).Idx → Elt Ideal e)
    (h : ∀ a, (![r, o] : Fin 2 → ℕ) a + (![m, n] : Fin 2 → ℕ) a ≤ (⟨2, ![M, N]⟩ : Shape).size a) (p : Fin m) (j : Fin n) :
    View.ld (Val := Elt Ideal) X (Rect.unit (s := ⟨2, ![M, N]⟩) ![r, o] ![m, n] h) (ix2 p j)
      = X (ix2 ⟨r + p.val, by have := h 0; simp at this; omega⟩ ⟨o + j.val, by have := h 1; simp at this; omega⟩) :=
  congrArg X (emb_apply2 h p j)

theorem ld_whole {M N : ℕ} {e : EltTy} (X : (⟨2, ![M, N]⟩ : Shape).Idx → Elt Ideal e)
    (h : ∀ a, (![0, 0] : Fin 2 → ℕ) a + (![M, N] : Fin 2 → ℕ) a ≤ (⟨2, ![M, N]⟩ : Shape).size a) :
    View.ld (Val := Elt Ideal) X (Rect.unit (s := ⟨2, ![M, N]⟩) ![0, 0] ![M, N] h) = X := by
  funext y
  obtain ⟨p, j, rfl⟩ : ∃ (p : Fin M) (j : Fin N), y = ix2 p j := ⟨y 0, y 1, eq_ix2 y⟩
  refine (ld_apply2 X h p j).trans ?_
  congr 2 <;> exact Fin.ext (Nat.zero_add _)

theorem piece2 {M N m n r o : ℕ}
    (h : ∀ a, (![r, o] : Fin 2 → ℕ) a + (![m, n] : Fin 2 → ℕ) a ≤ (⟨2, ![M, N]⟩ : Shape).size a)
    (w : (⟨2, ![m, n]⟩ : Shape).Idx → EReal) (G : (⟨2, ![M, N]⟩ : Shape).Idx → EReal)
    (H : ∀ p j, w (ix2 p j) = G (ix2 ⟨r + p.val, by have := h 0; simp at this; omega⟩ ⟨o + j.val, by have := h 1; simp at this; omega⟩))
    (x : (⟨2, ![m, n]⟩ : Shape).Idx) : w x = G ((Rect.unit (s := ⟨2, ![M, N]⟩) ![r, o] ![m, n] h).emb x) := by
  obtain ⟨p, j, rfl⟩ : ∃ (p : Fin m) (j : Fin n), x = ix2 p j := ⟨x 0, x 1, eq_ix2 x⟩
  exact (H p j).trans (congrArg G (emb_apply2 h p j).symm)

theorem ld_rows {n o : ℕ} (ho : o + 1408 ≤ 2816) {e : EltTy} (X : (⟨2, ![2816, n]⟩ : Shape).Idx → Elt Ideal e)
    (h : ∀ a, (![o, 0] : Fin 2 → ℕ) a + (![1408, n] : Fin 2 → ℕ) a ≤ (⟨2, ![2816, n]⟩ : Shape).size a) (j : Fin 1408) (k : Fin n) :
    View.ld (Val := Elt Ideal) X (Rect.unit (s := ⟨2, ![2816, n]⟩) ![o, 0] ![1408, n] h) (ix2 j k) = X (ix2 ⟨o + j.val, by omega⟩ k) := by
  rw [ld_apply2]
  congr 2; exact Fin.ext (Nat.zero_add _)

theorem cols_ld {n o : ℕ} (ho : o + 1408 ≤ 2816) (X : (⟨2, ![n, 2816]⟩ : Shape).Idx → Elt Ideal .bf16)
    (h : ∀ a, (![0, o] : Fin 2 → ℕ) a + (![n, 1408] : Fin 2 → ℕ) a ≤ (⟨2, ![n, 2816]⟩ : Shape).size a) :
    Cols o ho (View.ld (Val := Elt Ideal) X (Rect.unit (s := ⟨2, ![n, 2816]⟩) ![0, o] ![n, 1408] h)) X := by
  intro p j
  rw [ld_apply2]
  congr 2; exact Fin.ext (Nat.zero_add _)

theorem ld_row {m o : ℕ} (r : Fin m) (ho : o + 1408 ≤ 2816) (X : (⟨2, ![m, 2816]⟩ : Shape).Idx → Elt Ideal .f32)
    (h : ∀ a, (![r.val, o] : Fin 2 → ℕ) a + (![1, 1408] : Fin 2 → ℕ) a ≤ (⟨2, ![m, 2816]⟩ : Shape).size a) (j : Fin 1408) :
    View.ld (Val := Elt Ideal) X (Rect.unit (s := ⟨2, ![m, 2816]⟩) ![r.val, o] ![1, 1408] h) (ix2 0 j) = X (ix2 r ⟨o + j.val, by omega⟩) := by
  rw [ld_apply2]; rfl

section
variable (i : grid0.Coords)
    (x0 : Vec Ideal S256x2816 .bf16) (x1 : Vec Ideal S256x2816 .bf16) (x2 : Vec Ideal S16x2816 .bf16)
    (x3 : Vec Ideal S256x2816 .bf16) (x4 : Vec Ideal S16x2816 .bf16) (x5 : Vec Ideal S256x1024 .bf16)
    (x6 : Vec Ideal S16x1024 .bf16) (x7 : Vec Ideal S2816x1024 .bf16) (x8 : Vec Ideal S8x2816 .f32)

theorem gradBlk_gate (p : Fin 256) (j : Fin 5632) (j' : Fin 2816) (h : j.val = j'.val) :
    gradBlk i x1 x2 x3 x4 x5 x6 x7 x8 (ix2 p j)
      = taps (rowD i x5 x6 x7 x3 x4 x1 x2) (x8 (ix2 2 j')) (x8 (ix2 1 j')) (x8 (ix2 0 j')) p.val j' := by
  have h' : j.val < 2816 := h ▸ j'.isLt
  obtain rfl : ⟨j.val, h'⟩ = j' := Fin.ext h
  show gradAt i x1 x2 x3 x4 x5 x6 x7 x8 p.val j.val j.isLt = _
  unfold gradAt; exact dif_pos h'

theorem gradBlk_up (p : Fin 256) (j : Fin 5632) (j' : Fin 2816) (h : j.val = 2816 + j'.val) :
    gradBlk i x1 x2 x3 x4 x5 x6 x7 x8 (ix2 p j) = rowDA x5 x6 x7 p.val j' * act (cat x3 x4 p.val j') := by
  show gradAt i x1 x2 x3 x4 x5 x6 x7 x8 p.val j.val j.isLt = _
  unfold gradAt
  have e : ∀ h, (⟨j.val - 2816, h⟩ : Fin 2816) = j' := fun _ => Fin.ext (by show j.val - 2816 = _; omega)
  rw [dif_neg (show ¬ j.val < 2816 by omega), e]
end

section
variable (i : grid0.Coords)
    (x0 : Vec Ideal S256x2816 .bf16) (x1 : Vec Ideal S256x2816 .bf16) (x2 : Vec Ideal S16x2816 .bf16)
    (x3 : Vec Ideal S256x2816 .bf16) (x4 : Vec Ideal S16x2816 .bf16) (x5 : Vec Ideal S256x1024 .bf16)
    (x6 : Vec Ideal S16x1024 .bf16) (x7 : Vec Ideal S2816x1024 .bf16) (x8 : Vec Ideal S8x2816 .f32)
    (w : Vec Ideal S1408x1024 .bf16) (gB : Vec Ideal S256x1408 .bf16) (gH : Vec Ideal S16x1408 .bf16)
    (uB : Vec Ideal S256x1408 .bf16) (uH : Vec Ideal S16x1408 .bf16) (x : Vec Ideal S256x1408 .bf16)
    (w2 w1 w0 acc : Vec Ideal S1x1408 .f32)

/-- The loads of one half of the channels: columns `o …` of every block, rows `o …` of the weight. -/
structure Half (o : ℕ) (ho : o + 1408 ≤ 2816) : Prop where
  w : ∀ j k, w (ix2 j k) = x7 (ix2 ⟨o + j.val, by omega⟩ k)
  g : Cols (n := 256) o ho gB x3
  g' : Cols (n := 16) o ho gH x4
  u : Cols (n := 256) o ho uB x1
  u' : Cols (n := 16) o ho uH x2

/-- The loads of the convolution weight's three rows, at one half of the channels. -/
structure Taps (o : ℕ) (ho : o + 1408 ≤ 2816) : Prop where
  h2 : ∀ j, w2 (ix2 0 j) = x8 (ix2 2 ⟨o + j.val, by omega⟩)
  h1 : ∀ j, w1 (ix2 0 j) = x8 (ix2 1 ⟨o + j.val, by omega⟩)
  h0 : ∀ j, w0 (ix2 0 j) = x8 (ix2 0 ⟨o + j.val, by omega⟩)

variable {x0 x1 x2 x3 x4 x7 x8 w gB gH uB uH x w2 w1 w0}

theorem Half.rowD {o : ℕ} {ho : o + 1408 ≤ 2816} (h : Half x1 x2 x3 x4 x7 w gB gH uB uH o ho) (q : ℕ) (j : Fin 1408) :
    rowD i x5 x6 w gB gH uB uH q j = rowD i x5 x6 x7 x3 x4 x1 x2 q ⟨o + j.val, by omega⟩ :=
  rowD_cols (ho := ho) i x5 x6 h.w h.g h.g' h.u h.u' q j

theorem Half.taps {o : ℕ} {ho : o + 1408 ≤ 2816} (h : Half x1 x2 x3 x4 x7 w gB gH uB uH o ho) (h' : Taps x8 w2 w1 w0 o ho) (p : Fin 256) (j : Fin 1408)
    (e1 : 0 + p.val < 256) (e2 : o + j.val < 5632) :
    taps (Cert.Ffn.rowD i x5 x6 w gB gH uB uH) (w2 (ix2 0 j)) (w1 (ix2 0 j)) (w0 (ix2 0 j)) p.val j
      = gradBlk i x1 x2 x3 x4 x5 x6 x7 x8 (ix2 ⟨0 + p.val, e1⟩ ⟨o + j.val, e2⟩) := by
  rw [gradBlk_gate (j' := ⟨o + j.val, by omega⟩) (h := rfl)]
  unfold Cert.Ffn.taps
  rw [h.rowD, h.rowD, h.rowD, h'.h2, h'.h1, h'.h0]
  simp only [Nat.zero_add]

theorem up_half {o : ℕ} (ho : o + 1408 ≤ 2816) (hw : ∀ j k, w (ix2 j k) = x7 (ix2 ⟨o + j.val, by omega⟩ k))
    (hg : Cols (n := 256) o ho gB x3) (hg' : Cols (n := 16) o ho gH x4) (p : Fin 256) (j : Fin 1408) (j' : Fin 5632)
    (e1 : 0 + p.val < 256) (e2 : j'.val = 2816 + (o + j.val)) :
    rowDA x5 x6 w p.val j * act (cat gB gH p.val j)
      = gradBlk i x1 x2 x3 x4 x5 x6 x7 x8 (ix2 ⟨0 + p.val, e1⟩ j') := by
  rw [gradBlk_up (j' := ⟨o + j.val, by omega⟩) (h := e2), rowDA_rows (ho := ho) x5 x6 hw, cat_cols hg hg']
  simp only [Nat.zero_add]
end

theorem grad_cover (y : S256x5632.Idx) (w1 w2 w3 w4 : S256x1408.Idx → Elt Ideal .bf16) :
    ∃ p ∈ ([⟨Rect.unit ![0, 1408] ![256, 1408] inb_S256x5632_S256x1408_0_1408, w1⟩, ⟨Rect.unit ![0, 4224] ![256, 1408] inb_S256x5632_S256x1408_0_4224, w2⟩,
      ⟨Rect.unit ![0, 0] ![256, 1408] inb_S256x5632_S256x1408_0_0, w3⟩, ⟨Rect.unit ![0, 2816] ![256, 1408] inb_S256x5632_S256x1408_0_2816, w4⟩] :
      List (View.Piece (Elt Ideal) S256x5632 .bf16)), y ∈ p.1.set := by
  have h0 : (y 0).val < 256 := (y 0).isLt
  have h1 : (y 1).val < 5632 := (y 1).isLt
  simp only [List.mem_cons, List.not_mem_nil, or_false, exists_eq_or_imp, exists_eq_left, Rect.mem_set_unit]
  rcases (show (y 1).val < 1408 ∨ (1408 ≤ (y 1).val ∧ (y 1).val < 2816) ∨ (2816 ≤ (y 1).val ∧ (y 1).val < 4224) ∨ 4224 ≤ (y 1).val by omega) with h | h | h | h
  · exact .inr (.inr (.inl (by intro a; fin_cases a <;> simp <;> omega)))
  · exact .inl (by intro a; fin_cases a <;> simp <;> omega)
  · exact .inr (.inr (.inr (by intro a; fin_cases a <;> simp <;> omega)))
  · exact .inr (.inl (by intro a; fin_cases a <;> simp <;> omega))

variable (c : Dev nD) (t : Fin cfg0.N)
    (x0 : Vec Ideal S256x2816 .bf16) (x1 : Vec Ideal S256x2816 .bf16) (x2 : Vec Ideal S16x2816 .bf16)
    (x3 : Vec Ideal S256x2816 .bf16) (x4 : Vec Ideal S16x2816 .bf16) (x5 : Vec Ideal S256x1024 .bf16)
    (x6 : Vec Ideal S16x1024 .bf16) (x7 : Vec Ideal S2816x1024 .bf16) (x8 : Vec Ideal S8x2816 .f32)
    (xo10 : Vec Ideal S8x2816 .f32) (xo11 : Vec Ideal S1x2816 .f32)

theorem out0_B_9_eq (hc : ¬cond0_0 (grid0.coords t)) :
   out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc x0 x1 x2 x3 x4 x5 x6 x7 x8 xo10 xo11 = gradBlk (grid0.coords t) x1 x2 x3 x4 x5 x6 x7 x8 := by
  unfold out0_B_9
  rw [View.read_writes_junk_eq_canon]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, ld_whole]
  funext y
  refine View.canon_apply_of_pieces _ _ ?_ y (grad_cover y _ _ _ _)
  refine List.forall_mem_cons.2 ⟨?_, List.forall_mem_cons.2 ⟨?_, List.forall_mem_cons.2 ⟨?_, List.forall_mem_cons.2 ⟨?_, List.forall_mem_nil _⟩⟩⟩⟩
  · exact piece2 inb_S256x5632_S256x1408_0_1408 _ _ fun p j => (pay37_apply _ _ _ _ _ _ _ _ _ _ _ p j).trans
      (Half.taps (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ ⟨ld_row 2 (show 1408 + 1408 ≤ 2816 by decide) _ _, ld_row 1 (show 1408 + 1408 ≤ 2816 by decide) _ _, ld_row 0 (show 1408 + 1408 ≤ 2816 by decide) _ _⟩ p j _ _)
  · exact piece2 inb_S256x5632_S256x1408_0_4224 _ _ fun p j => (pay34_apply _ _ _ _ _ p j).trans
      (up_half (grid0.coords t) _ _ (show 1408 + 1408 ≤ 2816 by decide) (ld_rows (show 1408 + 1408 ≤ 2816 by decide) _ _) (cols_ld (show 1408 + 1408 ≤ 2816 by decide) _ _) (cols_ld (show 1408 + 1408 ≤ 2816 by decide) _ _) p j _ _ (by show 4224 + j.val = 2816 + (1408 + j.val); omega))
  · exact piece2 inb_S256x5632_S256x1408_0_0 _ _ fun p j => (pay17_apply _ _ _ _ _ _ _ _ _ _ _ p j).trans
      (Half.taps (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ ⟨ld_row 2 (show 0 + 1408 ≤ 2816 by decide) _ _, ld_row 1 (show 0 + 1408 ≤ 2816 by decide) _ _, ld_row 0 (show 0 + 1408 ≤ 2816 by decide) _ _⟩ p j _ _)
  · exact piece2 inb_S256x5632_S256x1408_0_2816 _ _ fun p j => (pay16_apply _ _ _ _ _ p j).trans
      (up_half (grid0.coords t) _ _ (show 0 + 1408 ≤ 2816 by decide) (ld_rows (show 0 + 1408 ≤ 2816 by decide) _ _) (cols_ld (show 0 + 1408 ≤ 2816 by decide) _ _) (cols_ld (show 0 + 1408 ≤ 2816 by decide) _ _) p j _ _ (by show 2816 + j.val = 2816 + (0 + j.val); omega))

theorem out0_A_9_eq (hc : cond0_0 (grid0.coords t)) :
   out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc x0 x1 x2 x3 x4 x5 x6 x7 x8 = gradBlk (grid0.coords t) x1 x2 x3 x4 x5 x6 x7 x8 := by
  unfold out0_A_9
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, ld_whole]
  funext y
  refine View.canon_apply_of_pieces _ _ ?_ y (grad_cover y _ _ _ _)
  refine List.forall_mem_cons.2 ⟨?_, List.forall_mem_cons.2 ⟨?_, List.forall_mem_cons.2 ⟨?_, List.forall_mem_cons.2 ⟨?_, List.forall_mem_nil _⟩⟩⟩⟩
  · exact piece2 inb_S256x5632_S256x1408_0_1408 _ _ fun p j => (pay37_apply _ _ _ _ _ _ _ _ _ _ _ p j).trans
      (Half.taps (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ ⟨ld_row 2 (show 1408 + 1408 ≤ 2816 by decide) _ _, ld_row 1 (show 1408 + 1408 ≤ 2816 by decide) _ _, ld_row 0 (show 1408 + 1408 ≤ 2816 by decide) _ _⟩ p j _ _)
  · exact piece2 inb_S256x5632_S256x1408_0_4224 _ _ fun p j => (pay34_apply _ _ _ _ _ p j).trans
      (up_half (grid0.coords t) _ _ (show 1408 + 1408 ≤ 2816 by decide) (ld_rows (show 1408 + 1408 ≤ 2816 by decide) _ _) (cols_ld (show 1408 + 1408 ≤ 2816 by decide) _ _) (cols_ld (show 1408 + 1408 ≤ 2816 by decide) _ _) p j _ _ (by show 4224 + j.val = 2816 + (1408 + j.val); omega))
  · exact piece2 inb_S256x5632_S256x1408_0_0 _ _ fun p j => (pay17_apply _ _ _ _ _ _ _ _ _ _ _ p j).trans
      (Half.taps (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ ⟨ld_row 2 (show 0 + 1408 ≤ 2816 by decide) _ _, ld_row 1 (show 0 + 1408 ≤ 2816 by decide) _ _, ld_row 0 (show 0 + 1408 ≤ 2816 by decide) _ _⟩ p j _ _)
  · exact piece2 inb_S256x5632_S256x1408_0_2816 _ _ fun p j => (pay16_apply _ _ _ _ _ p j).trans
      (up_half (grid0.coords t) _ _ (show 0 + 1408 ≤ 2816 by decide) (ld_rows (show 0 + 1408 ≤ 2816 by decide) _ _) (cols_ld (show 0 + 1408 ≤ 2816 by decide) _ _) (cols_ld (show 0 + 1408 ≤ 2816 by decide) _ _) p j _ _ (by show 2816 + j.val = 2816 + (0 + j.val); omega))

end Cert.Ffn
end
-- ==== Proof.FfnAcc.lean ====
/- What one grid point of the feed-forward backward kernel adds to its two accumulated outputs, the gradients of the
   convolution's weight and bias. -/
module

public import proofs.«01_k».proof.Proof.FfnBlock
public import Idealize.ShloMosaic.Lib.Pipeline.ReadBack

@[expose] public section
set_option maxRecDepth 16384
noncomputable section
open Idealize.ShloMosaic Idealize.ShloMosaic.TcCoe Idealize.SL.Sem
namespace Cert.Ffn
open Cert.KernelIdeal Cert.KernelIdeal.Gen

/-- Writes that are blocks of `G` over contents that already are `G` wherever no write lands leave `G`. -/
theorem writes_over {sig : RefSig} {κ : Kind} {sp : Space} {s : Shape} {e : EltTy} (v : View sig κ sp s e)
    (f : v.ty.Contents (Elt Ideal)) (G : s.Idx → Elt Ideal e) (y : s.Idx) :
    ∀ (L : List (View.Piece (Elt Ideal) s e)) (_ : View.PiecesOf G L)
      (_ : (∀ p ∈ L, y ∉ p.1.set) → v.read (Elt Ideal) f y = G y), v.read (Elt Ideal) (v.writes (Elt Ideal) f L) y = G y
  | [], _, hb => hb (by simp)
  | p :: L, h, hb => by
    by_cases hm : y ∈ p.1.set
    · obtain ⟨x, rfl⟩ := p.1.exists_idx_of_mem hm
      exact (View.read_writes_cons_emb ..).trans (h.1 x)
    · rw [View.writes_cons]
      refine (View.read_slice_write_of_not_mem _ _ _ _ fun hm' => hm (by obtain ⟨x, -, rfl⟩ := Finset.mem_map.mp hm'; exact p.1.idx_mem x)).trans ?_
      exact writes_over v f G y L h.2 fun hL => hb fun q hq => by
        rcases List.mem_cons.mp hq with rfl | hq
        · exact hm
        · exact hL q hq

section
variable (i : grid0.Coords)
    (x0 : Vec Ideal S256x2816 .bf16) (x1 : Vec Ideal S256x2816 .bf16) (x2 : Vec Ideal S16x2816 .bf16)
    (x3 : Vec Ideal S256x2816 .bf16) (x4 : Vec Ideal S16x2816 .bf16) (x5 : Vec Ideal S256x1024 .bf16)
    (x6 : Vec Ideal S16x1024 .bf16) (x7 : Vec Ideal S2816x1024 .bf16)
    (w : Vec Ideal S1408x1024 .bf16) (gB : Vec Ideal S256x1408 .bf16) (gH : Vec Ideal S16x1408 .bf16)
    (uB : Vec Ideal S256x1408 .bf16) (uH : Vec Ideal S16x1408 .bf16) (x : Vec Ideal S256x1408 .bf16)
    (acc : Vec Ideal S1x1408 .f32) (xo10 : Vec Ideal S8x2816 .f32) (xo11 : Vec Ideal S1x2816 .f32)

/-- The running weight gradient after a block. -/
def dwBlk (y : S8x2816.Idx) : EReal := xo10 y + dwAdd i x0 x1 x2 x3 x4 x5 x6 x7 y
/-- The running bias gradient after a block. -/
def dbBlk (y : S1x2816.Idx) : EReal := xo11 y + dbAdd i x1 x2 x3 x4 x5 x6 x7 y

variable {x0 x1 x2 x3 x4 x7 w gB gH uB uH x acc xo10 xo11}

theorem dw_half {o : ℕ} {ho : o + 1408 ≤ 2816} (h : Half x1 x2 x3 x4 x7 w gB gH uB uH o ho) (hx : Cols (n := 256) o ho x x0)
    (r : Fin 8) (s : ℕ) (hr : r.val + s = 2) (ha : ∀ j, acc (ix2 0 j) = xo10 (ix2 r ⟨o + j.val, by omega⟩)) (z : Fin 1) (j : Fin 1408)
    (e1 : r.val + z.val < 8) (e2 : o + j.val < 2816) :
    acc (ix2 0 j) + ∑ p : Fin 256, rowD i x5 x6 w gB gH uB uH (p.val + s) j * x (ix2 p j)
      = dwBlk i x0 x1 x2 x3 x4 x5 x6 x7 xo10 (ix2 ⟨r.val + z.val, e1⟩ ⟨o + j.val, e2⟩) := by
  obtain rfl : z = 0 := Subsingleton.elim _ _
  show _ = xo10 (ix2 r ⟨o + j.val, e2⟩) + (if r.val < 3 then ∑ p : Fin 256, rowD i x5 x6 x7 x3 x4 x1 x2 (p.val + (2 - r.val)) ⟨o + j.val, e2⟩ * x0 (ix2 p ⟨o + j.val, e2⟩) else 0)
  obtain rfl : s = 2 - r.val := by omega
  rw [if_pos (by omega), ha]
  simp only [h.rowD, hx _ _]

theorem db_half {o : ℕ} {ho : o + 1408 ≤ 2816} (h : Half x1 x2 x3 x4 x7 w gB gH uB uH o ho)
    (ha : ∀ j, acc (ix2 0 j) = xo11 (ix2 0 ⟨o + j.val, by omega⟩)) (z : Fin 1) (j : Fin 1408)
    (e1 : 0 + z.val < 1) (e2 : o + j.val < 2816) :
    acc (ix2 0 j) + ∑ p : Fin 256, rowD i x5 x6 w gB gH uB uH (p.val + 0) j
      = dbBlk i x1 x2 x3 x4 x5 x6 x7 xo11 (ix2 ⟨0 + z.val, e1⟩ ⟨o + j.val, e2⟩) := by
  obtain rfl : z = 0 := Subsingleton.elim _ _
  show _ = xo11 (ix2 0 ⟨o + j.val, e2⟩) + ∑ p : Fin 256, rowD i x5 x6 x7 x3 x4 x1 x2 (p.val + 0) ⟨o + j.val, e2⟩
  rw [ha]
  simp only [h.rowD]
end

theorem ix2_row0 {f : (⟨2, ![1, 1408]⟩ : Shape).Idx → EReal} {b : EReal} (z : Fin 1) (j : Fin 1408) (h : f (ix2 0 j) = b) : f (ix2 z j) = b := by
  obtain rfl : z = 0 := Subsingleton.elim _ _
  exact h

/-- A last write that is a block of `G`, over writes that leave `G` off it, leaves `G`. -/
theorem canon_step {s : Shape} {e : EltTy} (G : s.Idx → Elt Ideal e) (y : s.Idx) (r : Rect s) (w : r.shape.Idx → Elt Ideal e) (L : List (View.Piece (Elt Ideal) s e))
    (h : ∀ x, w x = G (r.emb x)) (hr : y ∉ r.set → View.canon L y = G y) : View.canon (⟨r, w⟩ :: L) y = G y := by
  by_cases hm : y ∈ r.set
  · obtain ⟨x, rfl⟩ := r.exists_idx_of_mem hm
    exact (View.canon_cons_emb r w L x).trans (h x)
  · exact (View.canon_cons_of_not_mem ⟨r, w⟩ L hm).trans (hr hm)

/-- Off the six stored pieces lie the weight gradient's rows past the third. -/
theorem dw_off {y : S8x2816.Idx} (a : y ∉ (Rect.unit (s := S8x2816) ![0, 1408] ![1, 1408] inb_S8x2816_S1x1408_0_1408).set)
    (b : y ∉ (Rect.unit (s := S8x2816) ![1, 1408] ![1, 1408] inb_S8x2816_S1x1408_1_1408).set)
    (c : y ∉ (Rect.unit (s := S8x2816) ![2, 1408] ![1, 1408] inb_S8x2816_S1x1408_2_1408).set)
    (d : y ∉ (Rect.unit (s := S8x2816) ![0, 0] ![1, 1408] inb_S8x2816_S1x1408_0_0).set)
    (e : y ∉ (Rect.unit (s := S8x2816) ![1, 0] ![1, 1408] inb_S8x2816_S1x1408_1_0).set)
    (f : y ∉ (Rect.unit (s := S8x2816) ![2, 0] ![1, 1408] inb_S8x2816_S1x1408_2_0).set) : ¬ (y 0).val < 3 := by
  intro h3
  have h1 : (y 1).val < 2816 := (y 1).isLt
  rw [Rect.mem_set_unit] at a b c d e f
  rcases (show ((y 0).val = 0 ∧ (y 1).val < 1408) ∨ ((y 0).val = 1 ∧ (y 1).val < 1408) ∨ ((y 0).val = 2 ∧ (y 1).val < 1408)
    ∨ ((y 0).val = 0 ∧ 1408 ≤ (y 1).val) ∨ ((y 0).val = 1 ∧ 1408 ≤ (y 1).val) ∨ ((y 0).val = 2 ∧ 1408 ≤ (y 1).val) by omega) with h | h | h | h | h | h
  · exact d (by intro a; fin_cases a <;> simp <;> omega)
  · exact e (by intro a; fin_cases a <;> simp <;> omega)
  · exact f (by intro a; fin_cases a <;> simp <;> omega)
  · exact a (by intro a; fin_cases a <;> simp <;> omega)
  · exact b (by intro a; fin_cases a <;> simp <;> omega)
  · exact c (by intro a; fin_cases a <;> simp <;> omega)

theorem db_off {y : S1x2816.Idx} (a : y ∉ (Rect.unit (s := S1x2816) ![0, 1408] ![1, 1408] inb_S1x2816_S1x1408_0_1408).set)
    (b : y ∉ (Rect.unit (s := S1x2816) ![0, 0] ![1, 1408] inb_S1x2816_S1x1408_0_0).set) : False := by
  have h0 : (y 0).val < 1 := (y 0).isLt
  have h1 : (y 1).val < 2816 := (y 1).isLt
  rw [Rect.mem_set_unit] at a b
  by_cases hh : (y 1).val < 1408
  · exact b (by intro a; fin_cases a <;> simp <;> omega)
  · exact a (by intro a; fin_cases a <;> simp <;> omega)

variable (c : Dev nD) (t : Fin cfg0.N)
    (x0 : Vec Ideal S256x2816 .bf16) (x1 : Vec Ideal S256x2816 .bf16) (x2 : Vec Ideal S16x2816 .bf16)
    (x3 : Vec Ideal S256x2816 .bf16) (x4 : Vec Ideal S16x2816 .bf16) (x5 : Vec Ideal S256x1024 .bf16)
    (x6 : Vec Ideal S16x1024 .bf16) (x7 : Vec Ideal S2816x1024 .bf16) (x8 : Vec Ideal S8x2816 .f32)
    (xo10 : Vec Ideal S8x2816 .f32) (xo11 : Vec Ideal S1x2816 .f32)

theorem out0_B_10_eq (hc : ¬cond0_0 (grid0.coords t)) :
   out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc x0 x1 x2 x3 x4 x5 x6 x7 x8 xo10 xo11 = dwBlk (grid0.coords t) x0 x1 x2 x3 x4 x5 x6 x7 xo10 := by
  unfold out0_B_10
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, ld_whole]
  funext y
  refine writes_over (e := .f32) (ms0_10 t).view ((hs0_10 t).unread xo10) (dwBlk (grid0.coords t) x0 x1 x2 x3 x4 x5 x6 x7 xo10) y [_, _, _, _, _, _] ⟨?_, ?_, ?_, ?_, ?_, ?_, trivial⟩ fun h => ?_
  · exact piece2 inb_S8x2816_S1x1408_0_1408 _ _ fun z j => ix2_row0 z j ((pay42_apply _ _ _ _ _ _ _ _ _ _ j).trans
      (dw_half (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ (cols_ld (show 1408 + 1408 ≤ 2816 by decide) _ _) 0 2 rfl (ld_row 0 (show 1408 + 1408 ≤ 2816 by decide) _ _) z j _ _))
  · exact piece2 inb_S8x2816_S1x1408_1_1408 _ _ fun z j => ix2_row0 z j ((pay41_apply _ _ _ _ _ _ _ _ _ _ j).trans
      (dw_half (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ (cols_ld (show 1408 + 1408 ≤ 2816 by decide) _ _) 1 1 rfl (ld_row 1 (show 1408 + 1408 ≤ 2816 by decide) _ _) z j _ _))
  · exact piece2 inb_S8x2816_S1x1408_2_1408 _ _ fun z j => ix2_row0 z j ((pay40_apply _ _ _ _ _ _ _ _ _ _ j).trans
      (dw_half (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ (cols_ld (show 1408 + 1408 ≤ 2816 by decide) _ _) 2 0 rfl (ld_row 2 (show 1408 + 1408 ≤ 2816 by decide) _ _) z j _ _))
  · exact piece2 inb_S8x2816_S1x1408_0_0 _ _ fun z j => ix2_row0 z j ((pay24_apply _ _ _ _ _ _ _ _ _ _ j).trans
      (dw_half (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ (cols_ld (show 0 + 1408 ≤ 2816 by decide) _ _) 0 2 rfl (ld_row 0 (show 0 + 1408 ≤ 2816 by decide) _ _) z j _ _))
  · exact piece2 inb_S8x2816_S1x1408_1_0 _ _ fun z j => ix2_row0 z j ((pay23_apply _ _ _ _ _ _ _ _ _ _ j).trans
      (dw_half (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ (cols_ld (show 0 + 1408 ≤ 2816 by decide) _ _) 1 1 rfl (ld_row 1 (show 0 + 1408 ≤ 2816 by decide) _ _) z j _ _))
  · exact piece2 inb_S8x2816_S1x1408_2_0 _ _ fun z j => ix2_row0 z j ((pay22_apply _ _ _ _ _ _ _ _ _ _ j).trans
      (dw_half (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ (cols_ld (show 0 + 1408 ≤ 2816 by decide) _ _) 2 0 rfl (ld_row 2 (show 0 + 1408 ≤ 2816 by decide) _ _) z j _ _))
  · rw [(hs0_10 t).read_unread]
    show xo10 y = xo10 y + (if (y 0).val < 3 then _ else 0)
    simp only [List.forall_mem_cons] at h
    rw [if_neg (dw_off h.1 h.2.1 h.2.2.1 h.2.2.2.1 h.2.2.2.2.1 h.2.2.2.2.2.1), add_zero]

theorem out0_A_10_eq (hc : cond0_0 (grid0.coords t)) :
   out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc x0 x1 x2 x3 x4 x5 x6 x7 x8 = dwBlk (grid0.coords t) x0 x1 x2 x3 x4 x5 x6 x7 (k0_pay1 (F := Ideal)) := by
  unfold out0_A_10
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, ld_whole]
  simp (disch := first | rfl | decide) only [↓ View.readCov_skip, ↓ View.readCov_fill]
  rw [View.read_writes_junk_eq_canon]
  funext y
  refine canon_step (e := .f32) (dwBlk (grid0.coords t) x0 x1 x2 x3 x4 x5 x6 x7 (k0_pay1 (F := Ideal))) y _ _ _ ?_ fun h0 => ?_
  · exact piece2 inb_S8x2816_S1x1408_0_1408 _ _ fun z j => ix2_row0 z j ((pay42_apply _ _ _ _ _ _ _ _ _ _ j).trans
      (dw_half (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ (cols_ld (show 1408 + 1408 ≤ 2816 by decide) _ _) 0 2 rfl (ld_row 0 (show 1408 + 1408 ≤ 2816 by decide) _ _) z j _ _))
  refine canon_step (e := .f32) (dwBlk (grid0.coords t) x0 x1 x2 x3 x4 x5 x6 x7 (k0_pay1 (F := Ideal))) y _ _ _ ?_ fun h1 => ?_
  · exact piece2 inb_S8x2816_S1x1408_1_1408 _ _ fun z j => ix2_row0 z j ((pay41_apply _ _ _ _ _ _ _ _ _ _ j).trans
      (dw_half (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ (cols_ld (show 1408 + 1408 ≤ 2816 by decide) _ _) 1 1 rfl (ld_row 1 (show 1408 + 1408 ≤ 2816 by decide) _ _) z j _ _))
  refine canon_step (e := .f32) (dwBlk (grid0.coords t) x0 x1 x2 x3 x4 x5 x6 x7 (k0_pay1 (F := Ideal))) y _ _ _ ?_ fun h2 => ?_
  · exact piece2 inb_S8x2816_S1x1408_2_1408 _ _ fun z j => ix2_row0 z j ((pay40_apply _ _ _ _ _ _ _ _ _ _ j).trans
      (dw_half (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ (cols_ld (show 1408 + 1408 ≤ 2816 by decide) _ _) 2 0 rfl (ld_row 2 (show 1408 + 1408 ≤ 2816 by decide) _ _) z j _ _))
  refine canon_step (e := .f32) (dwBlk (grid0.coords t) x0 x1 x2 x3 x4 x5 x6 x7 (k0_pay1 (F := Ideal))) y _ _ _ ?_ fun h3 => ?_
  · exact piece2 inb_S8x2816_S1x1408_0_0 _ _ fun z j => ix2_row0 z j ((pay24_apply _ _ _ _ _ _ _ _ _ _ j).trans
      (dw_half (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ (cols_ld (show 0 + 1408 ≤ 2816 by decide) _ _) 0 2 rfl (ld_row 0 (show 0 + 1408 ≤ 2816 by decide) _ _) z j _ _))
  refine canon_step (e := .f32) (dwBlk (grid0.coords t) x0 x1 x2 x3 x4 x5 x6 x7 (k0_pay1 (F := Ideal))) y _ _ _ ?_ fun h4 => ?_
  · exact piece2 inb_S8x2816_S1x1408_1_0 _ _ fun z j => ix2_row0 z j ((pay23_apply _ _ _ _ _ _ _ _ _ _ j).trans
      (dw_half (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ (cols_ld (show 0 + 1408 ≤ 2816 by decide) _ _) 1 1 rfl (ld_row 1 (show 0 + 1408 ≤ 2816 by decide) _ _) z j _ _))
  refine canon_step (e := .f32) (dwBlk (grid0.coords t) x0 x1 x2 x3 x4 x5 x6 x7 (k0_pay1 (F := Ideal))) y _ _ _ ?_ fun h5 => ?_
  · exact piece2 inb_S8x2816_S1x1408_2_0 _ _ fun z j => ix2_row0 z j ((pay22_apply _ _ _ _ _ _ _ _ _ _ j).trans
      (dw_half (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ (cols_ld (show 0 + 1408 ≤ 2816 by decide) _ _) 2 0 rfl (ld_row 2 (show 0 + 1408 ≤ 2816 by decide) _ _) z j _ _))
  refine (congrFun (View.canon_cons_unit_lit _ _ _ (by decide)) y).trans ?_
  show k0_pay1 (F := Ideal) y = k0_pay1 (F := Ideal) y + (if (y 0).val < 3 then _ else 0)
  rw [if_neg (dw_off h0 h1 h2 h3 h4 h5), add_zero]

theorem out0_B_11_eq (hc : ¬cond0_0 (grid0.coords t)) :
   out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc x0 x1 x2 x3 x4 x5 x6 x7 x8 xo10 xo11 = dbBlk (grid0.coords t) x1 x2 x3 x4 x5 x6 x7 xo11 := by
  unfold out0_B_11
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, ld_whole]
  rw [View.read_writes_junk_eq_canon]
  funext y
  refine canon_step (e := .f32) (dbBlk (grid0.coords t) x1 x2 x3 x4 x5 x6 x7 xo11) y _ _ _ ?_ fun h0 => ?_
  · exact piece2 inb_S1x2816_S1x1408_0_1408 _ _ fun z j => ix2_row0 z j ((pay39_apply _ _ _ _ _ _ _ _ _ j).trans
      (db_half (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ (ld_row 0 (show 1408 + 1408 ≤ 2816 by decide) _ _) z j _ _))
  refine canon_step (e := .f32) (dbBlk (grid0.coords t) x1 x2 x3 x4 x5 x6 x7 xo11) y _ _ _ ?_ fun h1 => ?_
  · exact piece2 inb_S1x2816_S1x1408_0_0 _ _ fun z j => ix2_row0 z j ((pay21_apply _ _ _ _ _ _ _ _ _ j).trans
      (db_half (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ (ld_row 0 (show 0 + 1408 ≤ 2816 by decide) _ _) z j _ _))
  exact (db_off h0 h1).elim

theorem out0_A_11_eq (hc : cond0_0 (grid0.coords t)) :
   out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) hc x0 x1 x2 x3 x4 x5 x6 x7 x8 = dbBlk (grid0.coords t) x1 x2 x3 x4 x5 x6 x7 (k0_pay2 (F := Ideal)) := by
  unfold out0_A_11
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_10 t).read_unread, (hs0_11 t).read_unread, ld_whole]
  simp (disch := first | rfl | decide) only [↓ View.readCov_skip, ↓ View.readCov_fill]
  rw [View.read_writes_junk_eq_canon]
  funext y
  refine canon_step (e := .f32) (dbBlk (grid0.coords t) x1 x2 x3 x4 x5 x6 x7 (k0_pay2 (F := Ideal))) y _ _ _ ?_ fun h0 => ?_
  · exact piece2 inb_S1x2816_S1x1408_0_1408 _ _ fun z j => ix2_row0 z j ((pay39_apply _ _ _ _ _ _ _ _ _ j).trans
      (db_half (o := 1408) (ho := by decide) _ _ _ ⟨ld_rows (show 1408 + 1408 ≤ 2816 by decide) _ _, cols_ld (show 1408 + 1408 ≤ 2816 by decide) _ _, cols_ld (show 1408 + 1408 ≤ 2816 by decide) _ _, cols_ld (show 1408 + 1408 ≤ 2816 by decide) _ _, cols_ld (show 1408 + 1408 ≤ 2816 by decide) _ _⟩ (ld_row 0 (show 1408 + 1408 ≤ 2816 by decide) _ _) z j _ _))
  refine canon_step (e := .f32) (dbBlk (grid0.coords t) x1 x2 x3 x4 x5 x6 x7 (k0_pay2 (F := Ideal))) y _ _ _ ?_ fun h1 => ?_
  · exact piece2 inb_S1x2816_S1x1408_0_0 _ _ fun z j => ix2_row0 z j ((pay21_apply _ _ _ _ _ _ _ _ _ j).trans
      (db_half (o := 0) (ho := by decide) _ _ _ ⟨ld_rows (show 0 + 1408 ≤ 2816 by decide) _ _, cols_ld (show 0 + 1408 ≤ 2816 by decide) _ _, cols_ld (show 0 + 1408 ≤ 2816 by decide) _ _, cols_ld (show 0 + 1408 ≤ 2816 by decide) _ _, cols_ld (show 0 + 1408 ≤ 2816 by decide) _ _⟩ (ld_row 0 (show 0 + 1408 ≤ 2816 by decide) _ _) z j _ _))
  exact (db_off h0 h1).elim

end Cert.Ffn
end
-- ==== Proof.FfnIblk.lean ====
/-
  The blocks that the kernel's windows hold at a grid point, as rows of the arrays they are cut from.
-/
module

public import proofs.«01_k».proof.Proof.FfnHost
public import proofs.«01_k».proof.Proof.FfnAcc

@[expose] public section

set_option maxRecDepth 16384
noncomputable section
open Idealize.ShloMosaic Idealize.ShloMosaic.TcCoe Idealize.SL.Sem

namespace Cert.Ffn

open Cert.KernelIdeal Cert.KernelIdeal.Gen

variable (m : (ℓ : Loc nD τ sig) → Buf (Elt Ideal) ℓ) (c : Dev nD)

theorem point_lt (t : Fin cfg0.N) : t.val < 32 := lt_of_lt_of_eq t.isLt (show cfg0.N = 32 from N_0)

theorem coords_0 : ∀ t : Fin cfg0.N, (grid0.coords t 0).val = t.val := by decide +kernel

theorem index_0 : ∀ t : Fin cfg0.N, win0_0.index t 0 = t.val ∧ win0_0.index t 1 = 0 := by decide +kernel

theorem iblk_0 (t : Fin cfg0.N) (p : Fin 256) (j : Fin 2816) : iblk m c 0 t (ix2 p j)
    = V m c main_v0 (ix2 (⟨256 * t.val + p.val, (by have := point_lt t; omega)⟩ : Fin 8192) (⟨j.val, by omega⟩ : Fin 5632)) := by
  have hi := index_0 t
  unfold iblk
  rw [View.read_apply]
  show V m c main_v0 _ = V m c main_v0 _
  refine congrArg (V m c main_v0) (funext fun a => Fin.ext ?_)
  match a with
  | ⟨0, _⟩ => show win0_0.index t 0 * 256 + 1 * p.val = 256 * t.val + p.val; rw [hi.1]; omega
  | ⟨1, _⟩ => show win0_0.index t 1 * 2816 + 1 * j.val = j.val; rw [hi.2]; omega

theorem index_1 : ∀ t : Fin cfg0.N, win0_1.index t 0 = t.val ∧ win0_1.index t 1 = 1 := by decide +kernel

theorem iblk_1 (t : Fin cfg0.N) (p : Fin 256) (j : Fin 2816) : iblk m c 1 t (ix2 p j)
    = V m c main_v0 (ix2 (⟨256 * t.val + p.val, (by have := point_lt t; omega)⟩ : Fin 8192) (⟨2816 + j.val, by omega⟩ : Fin 5632)) := by
  have hi := index_1 t
  unfold iblk
  rw [View.read_apply]
  show V m c main_v0 _ = V m c main_v0 _
  refine congrArg (V m c main_v0) (funext fun a => Fin.ext ?_)
  match a with
  | ⟨0, _⟩ => show win0_1.index t 0 * 256 + 1 * p.val = 256 * t.val + p.val; rw [hi.1]; omega
  | ⟨1, _⟩ => show win0_1.index t 1 * 2816 + 1 * j.val = 2816 + j.val; rw [hi.2]; omega

theorem index_2 : ∀ t : Fin cfg0.N, win0_2.index t 0 = min ((t.val + 1) * 16) 511 ∧ win0_2.index t 1 = 1 := by decide +kernel

theorem iblk_2 (t : Fin cfg0.N) (p : Fin 16) (j : Fin 2816) (ht : t.val ≠ 31) : iblk m c 2 t (ix2 p j)
    = V m c main_v0 (ix2 (⟨256 * (t.val + 1) + p.val, (by have := point_lt t; omega)⟩ : Fin 8192) (⟨2816 + j.val, by omega⟩ : Fin 5632)) := by
  have hi := index_2 t
  unfold iblk
  rw [View.read_apply]
  show V m c main_v0 _ = V m c main_v0 _
  refine congrArg (V m c main_v0) (funext fun a => Fin.ext ?_)
  match a with
  | ⟨0, _⟩ => show win0_2.index t 0 * 16 + 1 * p.val = 256 * (t.val + 1) + p.val; rw [hi.1]; have := point_lt t; omega
  | ⟨1, _⟩ => show win0_2.index t 1 * 2816 + 1 * j.val = 2816 + j.val; rw [hi.2]; omega

theorem index_3 : ∀ t : Fin cfg0.N, win0_3.index t 0 = t.val ∧ win0_3.index t 1 = 0 := by decide +kernel

theorem iblk_3 (t : Fin cfg0.N) (p : Fin 256) (j : Fin 2816) : iblk m c 3 t (ix2 p j)
    = V m c main_v29 (ix2 (⟨256 * t.val + p.val, (by have := point_lt t; omega)⟩ : Fin 8192) (⟨j.val, by omega⟩ : Fin 2816)) := by
  have hi := index_3 t
  unfold iblk
  rw [View.read_apply]
  show V m c main_v29 _ = V m c main_v29 _
  refine congrArg (V m c main_v29) (funext fun a => Fin.ext ?_)
  match a with
  | ⟨0, _⟩ => show win0_3.index t 0 * 256 + 1 * p.val = 256 * t.val + p.val; rw [hi.1]; omega
  | ⟨1, _⟩ => show win0_3.index t 1 * 2816 + 1 * j.val = j.val; rw [hi.2]; omega

theorem index_4 : ∀ t : Fin cfg0.N, win0_4.index t 0 = min ((t.val + 1) * 16) 511 ∧ win0_4.index t 1 = 0 := by decide +kernel

theorem iblk_4 (t : Fin cfg0.N) (p : Fin 16) (j : Fin 2816) (ht : t.val ≠ 31) : iblk m c 4 t (ix2 p j)
    = V m c main_v29 (ix2 (⟨256 * (t.val + 1) + p.val, (by have := point_lt t; omega)⟩ : Fin 8192) (⟨j.val, by omega⟩ : Fin 2816)) := by
  have hi := index_4 t
  unfold iblk
  rw [View.read_apply]
  show V m c main_v29 _ = V m c main_v29 _
  refine congrArg (V m c main_v29) (funext fun a => Fin.ext ?_)
  match a with
  | ⟨0, _⟩ => show win0_4.index t 0 * 16 + 1 * p.val = 256 * (t.val + 1) + p.val; rw [hi.1]; have := point_lt t; omega
  | ⟨1, _⟩ => show win0_4.index t 1 * 2816 + 1 * j.val = j.val; rw [hi.2]; omega

theorem index_5 : ∀ t : Fin cfg0.N, win0_5.index t 0 = t.val ∧ win0_5.index t 1 = 0 := by decide +kernel

theorem iblk_5 (t : Fin cfg0.N) (p : Fin 256) (j : Fin 1024) : iblk m c 5 t (ix2 p j)
    = V m c main_v30 (ix2 (⟨256 * t.val + p.val, (by have := point_lt t; omega)⟩ : Fin 8192) (⟨j.val, by omega⟩ : Fin 1024)) := by
  have hi := index_5 t
  unfold iblk
  rw [View.read_apply]
  show V m c main_v30 _ = V m c main_v30 _
  refine congrArg (V m c main_v30) (funext fun a => Fin.ext ?_)
  match a with
  | ⟨0, _⟩ => show win0_5.index t 0 * 256 + 1 * p.val = 256 * t.val + p.val; rw [hi.1]; omega
  | ⟨1, _⟩ => show win0_5.index t 1 * 1024 + 1 * j.val = j.val; rw [hi.2]; omega

theorem index_6 : ∀ t : Fin cfg0.N, win0_6.index t 0 = min ((t.val + 1) * 16) 511 ∧ win0_6.index t 1 = 0 := by decide +kernel

theorem iblk_6 (t : Fin cfg0.N) (p : Fin 16) (j : Fin 1024) (ht : t.val ≠ 31) : iblk m c 6 t (ix2 p j)
    = V m c main_v30 (ix2 (⟨256 * (t.val + 1) + p.val, (by have := point_lt t; omega)⟩ : Fin 8192) (⟨j.val, by omega⟩ : Fin 1024)) := by
  have hi := index_6 t
  unfold iblk
  rw [View.read_apply]
  show V m c main_v30 _ = V m c main_v30 _
  refine congrArg (V m c main_v30) (funext fun a => Fin.ext ?_)
  match a with
  | ⟨0, _⟩ => show win0_6.index t 0 * 16 + 1 * p.val = 256 * (t.val + 1) + p.val; rw [hi.1]; have := point_lt t; omega
  | ⟨1, _⟩ => show win0_6.index t 1 * 1024 + 1 * j.val = j.val; rw [hi.2]; omega

theorem index_7 : ∀ t : Fin cfg0.N, win0_7.index t 0 = 0 ∧ win0_7.index t 1 = 0 := by decide +kernel

theorem iblk_7 (t : Fin cfg0.N) (p : Fin 2816) (j : Fin 1024) : iblk m c 7 t (ix2 p j)
    = V m c main_v31 (ix2 (⟨p.val, p.isLt⟩ : Fin 2816) (⟨j.val, by omega⟩ : Fin 1024)) := by
  have hi := index_7 t
  unfold iblk
  rw [View.read_apply]
  show V m c main_v31 _ = V m c main_v31 _
  refine congrArg (V m c main_v31) (funext fun a => Fin.ext ?_)
  match a with
  | ⟨0, _⟩ => show win0_7.index t 0 * 2816 + 1 * p.val = p.val; rw [hi.1]; omega
  | ⟨1, _⟩ => show win0_7.index t 1 * 1024 + 1 * j.val = j.val; rw [hi.2]; omega

theorem index_8 : ∀ t : Fin cfg0.N, win0_8.index t 0 = 0 ∧ win0_8.index t 1 = 0 := by decide +kernel

theorem iblk_8 (t : Fin cfg0.N) (p : Fin 8) (j : Fin 2816) : iblk m c 8 t (ix2 p j)
    = V m c main_v32 (ix2 (⟨p.val, p.isLt⟩ : Fin 8) (⟨j.val, by omega⟩ : Fin 2816)) := by
  have hi := index_8 t
  unfold iblk
  rw [View.read_apply]
  show V m c main_v32 _ = V m c main_v32 _
  refine congrArg (V m c main_v32) (funext fun a => Fin.ext ?_)
  match a with
  | ⟨0, _⟩ => show win0_8.index t 0 * 8 + 1 * p.val = p.val; rw [hi.1]; omega
  | ⟨1, _⟩ => show win0_8.index t 1 * 2816 + 1 * j.val = j.val; rw [hi.2]; omega

end Cert.Ffn
-- ==== Proof.FfnArray.lean ====
/-
  What the kernel's three output arrays hold after the grid: the gradient of the projection row by row, and the gradients
  of the convolution's weight and bias summed over all 8192 rows.
-/
module

public import proofs.«01_k».proof.Proof.FfnIblk

@[expose] public section

set_option maxRecDepth 16384
noncomputable section
open Idealize.ShloMosaic Idealize.ShloMosaic.TcCoe Idealize.SL.Sem

namespace Cert.Ffn

open Cert.KernelIdeal Cert.KernelIdeal.Gen

section
variable (P : S8192x5632.Idx → EReal) (W : S3x2816.Idx → EReal) (B : S1x2816.Idx → EReal) (Wo : S2816x1024.Idx → EReal)
  (X : S8192x1024.Idx → EReal)

/-- The gradient of the gated product at row `r`. -/
def da (r : Fin 8192) (j : Fin 2816) : EReal := ∑ k : Fin 1024, X (ix2 r k) * Wo (ix2 j k)

/-- The up half of the projection. -/
def up (r : Fin 8192) (j : Fin 2816) : EReal := P (ix2 r ⟨2816 + j.val, by omega⟩)

/-- The gate half of the projection. -/
def gate (r : Fin 8192) (j : Fin 2816) : EReal := P (ix2 r ⟨j.val, by omega⟩)

/-- The gradient of the convolved gate at row `r`; zero after the last row. -/
def dgc (r : ℕ) (j : Fin 2816) : EReal :=
  if h : r < 8192 then da Wo X ⟨r, h⟩ j * up P ⟨r, h⟩ j * dact (conv P W B r j) else 0

/-- The gradient of the projection. -/
def dguAt (r : Fin 8192) (j : ℕ) (hj : j < 5632) : EReal :=
  if h : j < 2816 then taps (dgc P W B Wo X) (W (ix2 2 ⟨j, h⟩)) (W (ix2 1 ⟨j, h⟩)) (W (ix2 0 ⟨j, h⟩)) r.val ⟨j, h⟩
  else da Wo X r ⟨j - 2816, by omega⟩ * act (conv P W B r.val ⟨j - 2816, by omega⟩)
def dgu (y : S8192x5632.Idx) : EReal := dguAt P W B Wo X (y 0) (y 1).val (y 1).isLt

/-- The gradient of the convolution's weight, its three rows followed by five of zeros. -/
def dw (y : S8x2816.Idx) : EReal :=
  if (y 0).val < 3 then ∑ r : Fin 8192, dgc P W B Wo X (r.val + (2 - (y 0).val)) (y 1) * gate P r (y 1) else 0

/-- The gradient of the convolution's bias. -/
def db (y : S1x2816.Idx) : EReal := ∑ r : Fin 8192, dgc P W B Wo X r.val (y 1)
end

/-- A sum over 8192 rows, block by block. -/
theorem sum_blocks (f : ℕ → EReal) (n : ℕ) :
    ∑ t ∈ Finset.range n, ∑ p : Fin 256, f (256 * t + p.val) = ∑ r ∈ Finset.range (256 * n), f r := by
  induction n with
  | zero => rfl
  | succ n ih =>
    rw [Finset.sum_range_succ, ih, Nat.mul_succ, Finset.sum_range_add, Finset.sum_range (fun x => f (256 * n + x))]

section
variable (m : (ℓ : Loc nD τ sig) → Buf (Elt Ideal) ℓ) (c : Dev nD)

abbrev mP : S8192x5632.Idx → EReal := m ((c : Thread nD τ).loc main_arg0)
abbrev mW : S3x2816.Idx → EReal := m ((c : Thread nD τ).loc main_arg1)
abbrev mB : S1x2816.Idx → EReal := m ((c : Thread nD τ).loc main_arg2)
abbrev mWo : S2816x1024.Idx → EReal := m ((c : Thread nD τ).loc main_arg3)
abbrev mX : S8192x1024.Idx → EReal := m ((c : Thread nD τ).loc main_arg4)

theorem rowDA_eq (t : Fin cfg0.N) (q : ℕ) (j : Fin 2816) (h : q < 272) (hk : keep (grid0.coords t) q) (hr : 256 * t.val + q < 8192) :
    rowDA (iblk m c 5 t) (iblk m c 6 t) (iblk m c 7 t : S2816x1024.Idx → EReal) q j = da (mWo m c) (mX m c) ⟨256 * t.val + q, hr⟩ j := by
  unfold rowDA da
  refine Finset.sum_congr rfl fun k _ => ?_
  have e7 : (iblk m c 7 t : S2816x1024.Idx → EReal) (ix2 j k) = mWo m c (ix2 j k) := (iblk_7 m c t j k).trans (V_v31 m c _ _)
  rw [e7]
  refine congrArg (· * _) ?_
  unfold cat
  by_cases hq : q < 256
  · rw [dif_pos hq]
    exact (iblk_5 m c t ⟨q, hq⟩ k).trans (V_v30 m c _ _)
  · rw [dif_neg hq, dif_pos (by omega)]
    have ht : t.val ≠ 31 := (hk.resolve_left hq) ∘ (coords_0 t).trans
    refine (iblk_6 m c t ⟨q - 256, by omega⟩ k ht).trans ((V_v30 m c _ _).trans ?_)
    exact congrArg (fun a => mX m c (ix2 a _)) (Fin.ext (by show 256 * (t.val + 1) + (q - 256) = 256 * t.val + q; omega))

theorem cat_up (t : Fin cfg0.N) (q : ℕ) (j : Fin 2816) (h : q < 272) (hk : keep (grid0.coords t) q) (hr : 256 * t.val + q < 8192) :
    cat (iblk m c 1 t : S256x2816.Idx → EReal) (iblk m c 2 t : S16x2816.Idx → EReal) q j = up (mP m c) ⟨256 * t.val + q, hr⟩ j := by
  unfold cat up
  by_cases hq : q < 256
  · rw [dif_pos hq]
    exact (iblk_1 m c t ⟨q, hq⟩ j).trans (V_v0 m c _ _)
  · rw [dif_neg hq, dif_pos (by omega)]
    have ht : t.val ≠ 31 := (hk.resolve_left hq) ∘ (coords_0 t).trans
    refine (iblk_2 m c t ⟨q - 256, by omega⟩ j ht).trans ((V_v0 m c _ _).trans ?_)
    exact congrArg (fun a => mP m c (ix2 a _)) (Fin.ext (by show 256 * (t.val + 1) + (q - 256) = 256 * t.val + q; omega))

theorem cat_conv (t : Fin cfg0.N) (q : ℕ) (j : Fin 2816) (h : q < 272) (hk : keep (grid0.coords t) q) :
    cat (iblk m c 3 t : S256x2816.Idx → EReal) (iblk m c 4 t : S16x2816.Idx → EReal) q j
      = conv (mP m c) (mW m c) (mB m c) (256 * t.val + q) j := by
  unfold cat
  by_cases hq : q < 256
  · rw [dif_pos hq]
    exact (iblk_3 m c t ⟨q, hq⟩ j).trans (V_v29 m c _ _)
  · rw [dif_neg hq, dif_pos (by omega)]
    have ht : t.val ≠ 31 := (hk.resolve_left hq) ∘ (coords_0 t).trans
    refine (iblk_4 m c t ⟨q - 256, by omega⟩ j ht).trans ((V_v29 m c _ _).trans ?_)
    exact congrArg (fun a => conv (mP m c) (mW m c) (mB m c) a j) (by show 256 * (t.val + 1) + (q - 256) = 256 * t.val + q; omega)

theorem rowD_eq (t : Fin cfg0.N) (q : ℕ) (j : Fin 2816) (h : q < 272) :
    rowD (grid0.coords t) (iblk m c 5 t) (iblk m c 6 t) (iblk m c 7 t : S2816x1024.Idx → EReal) (iblk m c 3 t : S256x2816.Idx → EReal)
      (iblk m c 4 t : S16x2816.Idx → EReal) (iblk m c 1 t : S256x2816.Idx → EReal) (iblk m c 2 t : S16x2816.Idx → EReal) q j
      = dgc (mP m c) (mW m c) (mB m c) (mWo m c) (mX m c) (256 * t.val + q) j := by
  have hc := coords_0 t
  have ht := point_lt t
  unfold rowD dgc
  by_cases hk : keep (grid0.coords t) q
  · have hr : 256 * t.val + q < 8192 := by rcases hk with hk | hk <;> omega
    rw [if_pos hk, dif_pos hr, rowDA_eq m c t q j h hk hr, cat_up m c t q j h hk hr, cat_conv m c t q j h hk]
  · have hr : ¬ 256 * t.val + q < 8192 := by unfold keep at hk; omega
    rw [if_neg hk, dif_neg hr]

/-- Window 9's block at a point is the gradient of the projection at the block's rows. -/
theorem gradBlk_eq (t : Fin cfg0.N) (p : Fin 256) (j : Fin 5632) (hr : 256 * t.val + p.val < 8192) :
    gradBlk (grid0.coords t) (iblk m c 1 t) (iblk m c 2 t) (iblk m c 3 t) (iblk m c 4 t) (iblk m c 5 t) (iblk m c 6 t)
      (iblk m c 7 t) (iblk m c 8 t) (ix2 p j)
      = dgu (mP m c) (mW m c) (mB m c) (mWo m c) (mX m c) (ix2 ⟨256 * t.val + p.val, hr⟩ j) := by
  show _ = dguAt _ _ _ _ _ ⟨256 * t.val + p.val, hr⟩ j.val j.isLt
  unfold dguAt
  by_cases hj : j.val < 2816
  · rw [dif_pos hj, gradBlk_gate (grid0.coords t) _ _ _ _ _ _ _ _ p j ⟨j.val, hj⟩ rfl]
    have w8 : ∀ r : Fin 8, ∀ h : r.val < 3, (iblk m c 8 t : S8x2816.Idx → EReal) (ix2 r ⟨j.val, hj⟩) = mW m c (ix2 ⟨r.val, h⟩ ⟨j.val, hj⟩) :=
      fun r h => (iblk_8 m c t r _).trans (V_v32 m c r _ h)
    unfold taps
    rw [w8 2 (by decide), w8 1 (by decide), w8 0 (by decide), rowD_eq m c t _ _ (by omega), rowD_eq m c t _ _ (by omega),
      rowD_eq m c t _ _ (by omega)]
    rfl
  · have hk : keep (grid0.coords t) p.val := Or.inl p.isLt
    have e : j.val = 2816 + (⟨j.val - 2816, by omega⟩ : Fin 2816).val := by show j.val = 2816 + (j.val - 2816); omega
    rw [dif_neg hj, gradBlk_up (grid0.coords t) _ _ _ _ _ _ _ _ p j ⟨j.val - 2816, by omega⟩ e,
      rowDA_eq m c t p.val _ (by omega) hk hr, cat_conv m c t p.val _ (by omega) hk]

/-- What a grid point adds to the weight's gradient. -/
def dwTerm (n : ℕ) (y : S8x2816.Idx) : EReal :=
  if (y 0).val < 3 then ∑ p : Fin 256, dgc (mP m c) (mW m c) (mB m c) (mWo m c) (mX m c) (256 * n + p.val + (2 - (y 0).val)) (y 1)
    * (if h : 256 * n + p.val < 8192 then gate (mP m c) ⟨256 * n + p.val, h⟩ (y 1) else 0) else 0
/-- What a grid point adds to the bias's gradient. -/
def dbTerm (n : ℕ) (y : S1x2816.Idx) : EReal :=
  ∑ p : Fin 256, dgc (mP m c) (mW m c) (mB m c) (mWo m c) (mX m c) (256 * n + p.val) (y 1)

theorem dwAdd_eq (t : Fin cfg0.N) (y : S8x2816.Idx) :
    dwAdd (grid0.coords t) (iblk m c 0 t) (iblk m c 1 t) (iblk m c 2 t) (iblk m c 3 t) (iblk m c 4 t) (iblk m c 5 t) (iblk m c 6 t)
      (iblk m c 7 t) y = dwTerm m c t.val y := by
  unfold dwAdd dwTerm
  refine if_congr Iff.rfl (Finset.sum_congr rfl fun p _ => ?_) rfl
  have ht := point_lt t
  have e0 : (iblk m c 0 t : S256x2816.Idx → EReal) (ix2 p (y 1)) = gate (mP m c) ⟨256 * t.val + p.val, by omega⟩ (y 1) :=
    (iblk_0 m c t p (y 1)).trans (V_v0 m c _ _)
  rw [dif_pos (by omega), Nat.add_assoc]
  exact congrArg₂ (· * ·) (rowD_eq m c t _ _ (by omega)) e0

theorem dbAdd_eq (t : Fin cfg0.N) (y : S1x2816.Idx) :
    dbAdd (grid0.coords t) (iblk m c 1 t) (iblk m c 2 t) (iblk m c 3 t) (iblk m c 4 t) (iblk m c 5 t) (iblk m c 6 t)
      (iblk m c 7 t) y = dbTerm m c t.val y := by
  unfold dbAdd dbTerm
  refine Finset.sum_congr rfl fun p _ => ?_
  exact rowD_eq m c t _ _ (by omega)

theorem zero_10 (y : S8x2816.Idx) : (k0_pay1 (F := Ideal) : S8x2816.Idx → EReal) y = 0 := by unfold k0_pay1; pointwise
theorem zero_11 (y : S1x2816.Idx) : (k0_pay2 (F := Ideal) : S1x2816.Idx → EReal) y = 0 := by unfold k0_pay2; pointwise

theorem outs_9 (t : Fin cfg0.N) : (outsAt0 m c t.val t.isLt).1 = gradBlk (grid0.coords t) (iblk m c 1 t) (iblk m c 2 t) (iblk m c 3 t)
    (iblk m c 4 t) (iblk m c 5 t) (iblk m c 6 t) (iblk m c 7 t) (iblk m c 8 t) := by
  by_cases h0 : t.val % 32 = 0
  · have e := out0_A_9_eq c t (iblk m c 0 t) (iblk m c 1 t) (iblk m c 2 t) (iblk m c 3 t) (iblk m c 4 t) (iblk m c 5 t) (iblk m c 6 t) (iblk m c 7 t) (iblk m c 8 t) ((hcond0_0 t).mpr h0)
    rw [outsAt0_A m c t h0]
    dsimp only
    exact e
  · have e := out0_B_9_eq c t (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1
      (outsAt0 m c (t.val - 1) (Nat.lt_of_le_of_lt (Nat.sub_le _ _) t.isLt)).2.2 (fun h => h0 ((hcond0_0 t).mp h))
    rw [outsAt0_B m c t h0]
    dsimp only
    exact e

theorem outs_10_A (t : Fin cfg0.N) (h0 : t.val % 32 = 0) : (outsAt0 m c t.val t.isLt).2.1 = dwBlk (grid0.coords t) (iblk m c 0 t) (iblk m c 1 t) (iblk m c 2 t) (iblk m c 3 t) (iblk m c 4 t) (iblk m c 5 t) (iblk m c 6 t) (iblk m c 7 t) (k0_pay1 (F := Ideal)) := by
  have e := out0_A_10_eq c t (iblk m c 0 t) (iblk m c 1 t) (iblk m c 2 t) (iblk m c 3 t) (iblk m c 4 t) (iblk m c 5 t) (iblk m c 6 t) (iblk m c 7 t) (iblk m c 8 t) ((hcond0_0 t).mpr h0)
  rw [outsAt0_A m c t h0]
  dsimp only
  exact e

theorem outs_10_B (t : Fin cfg0.N) (h0 : ¬t.val % 32 = 0) : (outsAt0 m c t.val t.isLt).2.1 = dwBlk (grid0.coords t) (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2.1 := by
  have e := out0_B_10_eq c t (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1
    (outsAt0 m c (t.val - 1) (Nat.lt_of_le_of_lt (Nat.sub_le _ _) t.isLt)).2.2 (fun h => h0 ((hcond0_0 t).mp h))
  rw [outsAt0_B m c t h0]
  dsimp only
  exact e

theorem outs_11_A (t : Fin cfg0.N) (h0 : t.val % 32 = 0) : (outsAt0 m c t.val t.isLt).2.2 = dbBlk (grid0.coords t) (iblk m c 1 t) (iblk m c 2 t) (iblk m c 3 t) (iblk m c 4 t) (iblk m c 5 t) (iblk m c 6 t) (iblk m c 7 t) (k0_pay2 (F := Ideal)) := by
  have e := out0_A_11_eq c t (iblk m c 0 t) (iblk m c 1 t) (iblk m c 2 t) (iblk m c 3 t) (iblk m c 4 t) (iblk m c 5 t) (iblk m c 6 t) (iblk m c 7 t) (iblk m c 8 t) ((hcond0_0 t).mpr h0)
  rw [outsAt0_A m c t h0]
  dsimp only
  exact e

theorem outs_11_B (t : Fin cfg0.N) (h0 : ¬t.val % 32 = 0) : (outsAt0 m c t.val t.isLt).2.2 = dbBlk (grid0.coords t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2.2 := by
  have e := out0_B_11_eq c t (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1
    (outsAt0 m c (t.val - 1) (Nat.lt_of_le_of_lt (Nat.sub_le _ _) t.isLt)).2.2 (fun h => h0 ((hcond0_0 t).mp h))
  rw [outsAt0_B m c t h0]
  dsimp only
  exact e

theorem outs_10 (n : ℕ) (hn : n < cfg0.N) (y : S8x2816.Idx) :
    (outsAt0 m c n hn).2.1 y = ∑ t ∈ Finset.range (n + 1), dwTerm m c t y := by
  have h32 : n < 32 := point_lt ⟨n, hn⟩
  induction n with
  | zero =>
    refine (congrFun (outs_10_A m c ⟨0, hn⟩ rfl) y).trans ?_
    unfold dwBlk
    rw [zero_10, zero_add, dwAdd_eq, Finset.sum_range_one]
  | succ n ih =>
    refine (congrFun (outs_10_B m c ⟨n + 1, hn⟩ (by show ¬ (n + 1) % 32 = 0; omega)) y).trans ?_
    unfold dwBlk
    rw [dwAdd_eq, Finset.sum_range_succ]
    exact congrArg (· + _) (ih _ (by omega))

theorem outs_11 (n : ℕ) (hn : n < cfg0.N) (y : S1x2816.Idx) :
    (outsAt0 m c n hn).2.2 y = ∑ t ∈ Finset.range (n + 1), dbTerm m c t y := by
  have h32 : n < 32 := point_lt ⟨n, hn⟩
  induction n with
  | zero =>
    refine (congrFun (outs_11_A m c ⟨0, hn⟩ rfl) y).trans ?_
    unfold dbBlk
    rw [zero_11, zero_add, dbAdd_eq, Finset.sum_range_one]
  | succ n ih =>
    refine (congrFun (outs_11_B m c ⟨n + 1, hn⟩ (by show ¬ (n + 1) % 32 = 0; omega)) y).trans ?_
    unfold dbBlk
    rw [dbAdd_eq, Finset.sum_range_succ]
    exact congrArg (· + _) (ih _ (by omega))

theorem dw_sum (y : S8x2816.Idx) : ∑ t ∈ Finset.range 32, dwTerm m c t y = dw (mP m c) (mW m c) (mB m c) (mWo m c) (mX m c) y := by
  unfold dwTerm dw
  by_cases h : (y 0).val < 3
  · simp only [if_pos h]
    rw [sum_blocks (fun r => dgc (mP m c) (mW m c) (mB m c) (mWo m c) (mX m c) (r + (2 - (y 0).val)) (y 1)
      * (if h : r < 8192 then gate (mP m c) ⟨r, h⟩ (y 1) else 0)) 32, show 256 * 32 = 8192 from rfl, Finset.sum_range]
    exact Finset.sum_congr rfl fun r _ => by rw [dif_pos r.isLt]
  · simp only [if_neg h, Finset.sum_const_zero]

theorem db_sum (y : S1x2816.Idx) : ∑ t ∈ Finset.range 32, dbTerm m c t y = db (mP m c) (mW m c) (mB m c) (mWo m c) (mX m c) y := by
  unfold dbTerm db
  rw [sum_blocks (fun r => dgc (mP m c) (mW m c) (mB m c) (mWo m c) (mX m c) r (y 1)) 32, show 256 * 32 = 8192 from rfl, Finset.sum_range]
end

end Cert.Ffn
-- ==== Proof.FfnFinal.lean ====
/-
  The kernel's run: its three results are the gradients of FfnArray, its arguments unchanged.
-/
module

public import proofs.«01_k».proof.Proof.FfnArray

@[expose] public section

set_option maxRecDepth 16384
noncomputable section
open Idealize.ShloMosaic Idealize.ShloMosaic.TcCoe Idealize.SL.Sem

namespace Cert.Ffn

open Cert.KernelIdeal Cert.KernelIdeal.Gen

variable (m : (ℓ : Loc nD τ sig) → Buf (Elt Ideal) ℓ) (c : Dev nD)

theorem index_9 : ∀ t : Fin cfg0.N, win0_9.index t 0 = t.val ∧ win0_9.index t 1 = 0 := by decide +kernel
theorem index_10 : ∀ t : Fin cfg0.N, win0_10.index t 0 = 0 ∧ win0_10.index t 1 = 0 := by decide +kernel
theorem index_11 : ∀ t : Fin cfg0.N, win0_11.index t 0 = 0 ∧ win0_11.index t 1 = 0 := by decide +kernel

theorem emb_9 (t : Fin cfg0.N) (p : Fin 256) (j : Fin 5632) (hr : 256 * t.val + p.val < 8192) :
    ((cfg0.win 9).blk t).view.emb (ix2 p j) = (ix2 (⟨256 * t.val + p.val, hr⟩ : Fin 8192) j : S8192x5632.Idx) := by
  have hi := index_9 t
  refine funext fun a => Fin.ext ?_
  match a with
  | ⟨0, _⟩ => show win0_9.index t 0 * 256 + 1 * p.val = 256 * t.val + p.val; rw [hi.1]; omega
  | ⟨1, _⟩ => show win0_9.index t 1 * 5632 + 1 * j.val = j.val; rw [hi.2]; omega

theorem emb_10 (t : Fin cfg0.N) (y : S8x2816.Idx) : ((cfg0.win 10).blk t).view.emb y = y := by
  have hi := index_10 t
  refine funext fun a => Fin.ext ?_
  match a with
  | ⟨0, _⟩ => show win0_10.index t 0 * 8 + 1 * (y 0).val = (y 0).val; rw [hi.1]; omega
  | ⟨1, _⟩ => show win0_10.index t 1 * 2816 + 1 * (y 1).val = (y 1).val; rw [hi.2]; omega

theorem emb_11 (t : Fin cfg0.N) (y : S1x2816.Idx) : ((cfg0.win 11).blk t).view.emb y = y := by
  have hi := index_11 t
  refine funext fun a => Fin.ext ?_
  match a with
  | ⟨0, _⟩ => show win0_11.index t 0 * 1 + 1 * (y 0).val = (y 0).val; rw [hi.1]; omega
  | ⟨1, _⟩ => show win0_11.index t 1 * 2816 + 1 * (y 1).val = (y 1).val; rw [hi.2]; omega

theorem mem_9 (t : Fin cfg0.N) (p : Fin 256) (j : Fin 5632) (r : Fin 8192) (h : r.val = 256 * t.val + p.val) :
    (ix2 r j : S8192x5632.Idx) ∈ ((cfg0.win 9).blk t).view.set := by
  have hr : 256 * t.val + p.val < 8192 := h ▸ r.isLt
  have e : r = ⟨256 * t.val + p.val, hr⟩ := Fin.ext h
  rw [e, ← emb_9 t p j hr]
  exact View.emb_mem_set _ _

theorem final_9 : (dats m 0 c).arrAt 9 cfg0.N = dgu (mP m c) (mW m c) (mB m c) (mWo m c) (mX m c) := by
  refine (dats m 0 c).arrAt_eq_of_cover 9 (dgu (mP m c) (mW m c) (mB m c) (mWo m c) (mX m c)) (fun t _ => ?_) fun i => ?_
  · rw [Cert.KernelIdeal.Value.flushed9, outs_9]
    funext y
    have ht := point_lt t
    obtain ⟨p, j, rfl⟩ : ∃ (p : Fin 256) (j : Fin 5632), y = ix2 p j := ⟨y 0, y 1, eq_ix2 y⟩
    rw [View.read_apply, emb_9 t p j (by omega)]
    exact gradBlk_eq m c t p j (by omega)
  · obtain ⟨r, j, rfl⟩ : ∃ (r : Fin 8192) (j : Fin 5632), i = ix2 r j := ⟨i 0, i 1, eq_ix2 i⟩
    have hN : r.val / 256 < cfg0.N := by rw [show cfg0.N = 32 from N_0]; omega
    obtain ⟨t, ht⟩ : ∃ t : Fin cfg0.N, t.val = r.val / 256 := ⟨⟨r.val / 256, hN⟩, rfl⟩
    exact ⟨t, flush0_9 _, mem_9 t ⟨r.val % 256, Nat.mod_lt _ (by decide)⟩ j r (by show r.val = 256 * t.val + r.val % 256; omega)⟩

theorem last_lt : 31 < cfg0.N := by rw [show cfg0.N = 32 from N_0]; decide

theorem final_10 : (dats m 0 c).arrAt 10 cfg0.N = dw (mP m c) (mW m c) (mB m c) (mWo m c) (mX m c) := by
  refine (dats m 0 c).arrAt_eq_of_cover 10 (dw (mP m c) (mW m c) (mB m c) (mWo m c) (mX m c)) (fun t hf => ?_) fun i => ?_
  · have ht := point_lt t
    have h31 : t.val = 31 := by have := (flush0_10 t).mp hf; omega
    rw [Cert.KernelIdeal.Value.flushed10]
    funext y
    rw [View.read_apply, emb_10 t y]
    refine (outs_10 m c t.val t.isLt y).trans ?_
    rw [h31]
    exact dw_sum m c y
  · exact ⟨⟨31, last_lt⟩, (flush0_10 _).mpr rfl, (emb_10 ⟨31, last_lt⟩ i) ▸ View.emb_mem_set _ _⟩

theorem final_11 : (dats m 0 c).arrAt 11 cfg0.N = db (mP m c) (mW m c) (mB m c) (mWo m c) (mX m c) := by
  refine (dats m 0 c).arrAt_eq_of_cover 11 (db (mP m c) (mW m c) (mB m c) (mWo m c) (mX m c)) (fun t hf => ?_) fun i => ?_
  · have ht := point_lt t
    have h31 : t.val = 31 := by have := (flush0_11 t).mp hf; omega
    rw [Cert.KernelIdeal.Value.flushed11]
    funext y
    rw [View.read_apply, emb_11 t y]
    refine (outs_11 m c t.val t.isLt y).trans ?_
    rw [h31]
    exact db_sum m c y
  · exact ⟨⟨31, last_lt⟩, (flush0_11 _).mpr rfl, (emb_11 ⟨31, last_lt⟩ i) ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v33_0) = dgu (mP m c) (mW m c) (mB m c) (mWo m c) (mX m c)
      ∧ r.2.mem ((c : Thread nD τ).loc main_v33_1) = dw (mP m c) (mW m c) (mB m c) (mWo m c) (mX m c)
      ∧ r.2.mem ((c : Thread nD τ).loc main_v33_2) = db (mP m c) (mW m c) (mB m c) (mWo m c) (mX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_9 m c), (h c).2.1.trans (final_10 m c),
    (h c).2.2.1.trans (final_11 m c), (h c).2.2.2⟩) (Cert.KernelIdeal.Value.run_blocks m ρ)

end Cert.Ffn
-- ==== Proof.FfnRef.lean ====
/-
  What the reference computes, entry by entry.
-/
module

public import proofs.«01_k».proof.Proof.FfnArray
public import proofs.«01_k».proof.Proof.Gen.ReferenceIdeal.Read

@[expose] public section

set_option maxRecDepth 16384
noncomputable section
open Idealize.ShloMosaic Idealize.ShloMosaic.TcCoe Idealize.SL.Sem

namespace Cert.Ffn

open Cert.ReferenceIdeal Cert.ReferenceIdeal.Gen Cert.ReferenceIdeal.Read

variable (P : S8192x5632.Idx → EReal) (W : S3x2816.Idx → EReal) (B : S1x2816.Idx → EReal) (Wo : S2816x1024.Idx → EReal)
  (X : S8192x1024.Idx → EReal)

theorem past_eq (r : ℕ) (j : Fin 2816) (h0 : ∀ _ : ¬r < 2, r - 2 < 8192) (hj : j.val < 5632) :
    (if h : r < 2 then 0 else P (ix2 ⟨r - 2, h0 h⟩ ⟨j.val, hj⟩)) = past P r j := by
  unfold past
  split_ifs with h h'
  · rfl
  · rfl
  · omega

theorem ref_conv (r : Fin 8192) (j : Fin 2816) : (val_main_v28 (F := Ideal) P W B : S8192x2816.Idx → EReal) (ix2 r j) = conv P W B r.val j := by
  refine Eq.trans ?_ (conv_eq P W B r j (fun _ => by omega) (fun _ => by omega) (by omega))
  unfold val_main_v28 val_main_v26 val_main_v19 val_main_v12 val_main_v10 val_main_v18 val_main_v25 val_main_v11 val_main_cst_1 val_main_v5 val_main_v9 val_main_v13 val_main_v17 val_main_v20 val_main_v24 val_main_v27 val_main_v8 val_main_v7 val_main_v6 val_main_v16 val_main_v15 val_main_v14 val_main_v23 val_main_v22 val_main_v21 val_main_v3 val_main_v2 val_main_cst val_main_v0
  pointwise

/-- The reference's derivative of the gate's activation, applied to the gradient `d`. -/
def refAct (g d : EReal) : EReal := d * Ideal.logistic g + g * d * (Ideal.logistic g * (1 - Ideal.logistic g))

theorem ref_act (r : Fin 8192) (j : Fin 2816) :
    (val_main_v33 (F := Ideal) P W B Wo X : S8192x2816.Idx → EReal) (ix2 r j) = act (conv P W B r.val j) * da Wo X r j := by
  unfold val_main_v33 val_main_v29_0 val_main_v29_2 val_main_call0_v4 val_main_call0_cst_0 val_main_call0_v3 val_main_call0_v2 val_main_call0_cst val_main_call0_v1 val_main_call0_v0 val_main_v32 act da
  rw [← ref_conv P W B r j]
  generalize val_main_v28 (F := Ideal) P W B = G
  unfold Ideal.logistic
  pointwise

/-- The gradient of the convolved gate as the reference computes it; zero past the last token. -/
def refD (r : ℕ) (j : Fin 2816) : EReal :=
  if h : r < 8192 then refAct (conv P W B r j) (da Wo X ⟨r, h⟩ j * up P ⟨r, h⟩ j) else 0

theorem ref_dgc (r : Fin 8192) (j : Fin 2816) :
    (val_main_v35 (F := Ideal) P W B Wo X : S8192x2816.Idx → EReal) (ix2 r j) = refD P W B Wo X r.val j := by
  unfold refD
  rw [dif_pos r.isLt]
  unfold val_main_v35 val_main_call1_v2 val_main_call1_v1 val_main_call1_v0 val_main_v34 val_main_v1 val_main_v29_1 val_main_call0_v7 val_main_call0_v6 val_main_call0_cst_1 val_main_v29_2 val_main_call0_v4 val_main_call0_cst_0 val_main_call0_v3 val_main_call0_v2 val_main_call0_cst val_main_call0_v1 val_main_call0_v0 val_main_v32 refAct da up
  rw [← ref_conv P W B r j]
  generalize val_main_v28 (F := Ideal) P W B = G
  unfold Ideal.logistic
  pointwise

theorem ref_taps (r : Fin 8192) (j : Fin 2816) : (val_main_v70 (F := Ideal) P W B Wo X : S8192x2816.Idx → EReal) (ix2 r j)
    = taps (refD P W B Wo X) (W (ix2 2 j)) (W (ix2 1 j)) (W (ix2 0 j)) r.val j := by
  have hG := ref_dgc P W B Wo X
  unfold val_main_v70 val_main_v68 val_main_v57 val_main_v46 val_main_v56 val_main_v67 val_main_cst_6 val_main_cst_10 val_main_cst_14 val_main_v42 val_main_v51 val_main_v62 val_main_v41 val_main_v50 val_main_v61 val_main_v23 val_main_v16 val_main_v8 val_main_v22 val_main_v15 val_main_v7 val_main_v21 val_main_v14 val_main_v6
  generalize val_main_v35 (F := Ideal) P W B Wo X = G at hG ⊢
  pointwise
  unfold taps
  refine congrArg₂ (· + ·) (congrArg₂ (· + ·) (congrArg (· * _) (hG r j)) ?_) ?_
  · split_ifs with h
    · refine congrArg (· * _) ((hG ⟨2 + r.val - 1, h.2⟩ j).trans ?_)
      exact congrArg (fun a => refD P W B Wo X a j) (by show 2 + r.val - 1 = r.val + 1; omega)
    · unfold refD
      rw [dif_neg (by omega), zero_mul]
  · split_ifs with h
    · refine congrArg (· * _) ((hG ⟨2 + r.val, h⟩ j).trans ?_)
      exact congrArg (fun a => refD P W B Wo X a j) (by show 2 + r.val = r.val + 2; omega)
    · unfold refD
      rw [dif_neg (by omega), zero_mul]

theorem ref_past0 (r : Fin 8192) (j : Fin 2816) : (val_main_v5 (F := Ideal) P : S8192x2816.Idx → EReal) (ix2 r j) = past P r.val j := by
  refine Eq.trans ?_ (past_eq P r.val j (fun _ => by omega) (by omega))
  unfold val_main_v5 val_main_v3 val_main_v2 val_main_cst val_main_v0
  pointwise

theorem ref_past1 (r : Fin 8192) (j : Fin 2816) : (val_main_v13 (F := Ideal) P : S8192x2816.Idx → EReal) (ix2 r j) = past P (1 + r.val) j := by
  refine Eq.trans ?_ (past_eq P (1 + r.val) j (fun _ => by omega) (by omega))
  unfold val_main_v13 val_main_v3 val_main_v2 val_main_cst val_main_v0
  pointwise

theorem ref_past2 (r : Fin 8192) (j : Fin 2816) : (val_main_v20 (F := Ideal) P : S8192x2816.Idx → EReal) (ix2 r j) = past P (2 + r.val) j := by
  refine Eq.trans ?_ (past_eq P (2 + r.val) j (fun _ => by omega) (by omega))
  unfold val_main_v20 val_main_v3 val_main_v2 val_main_cst val_main_v0
  pointwise

/-- The gradient of one tap of the convolution: the gradient of the convolved gate against the gate moved by the tap. -/
def refW (s : ℕ) (j : Fin 2816) : EReal := ∑ r : Fin 8192, past P (s + r.val) j * refD P W B Wo X r.val j

theorem ref_dw2 (s : Fin 3) (j : Fin 2816) : (val_main_v45 (F := Ideal) P W B Wo X : S3x2816.Idx → EReal) (ix2 s j)
    = if s.val = 2 then refW P W B Wo X 2 j else 0 := by
  unfold refW
  simp only [← ref_dgc, ← ref_past2]
  unfold val_main_v45 val_main_v44 val_main_cst_5 val_main_v43 val_main_v40 val_main_v39 val_main_cst_4 val_main_cst_3 val_main_v38
  generalize val_main_v35 (F := Ideal) P W B Wo X = G
  generalize val_main_v20 (F := Ideal) P = A
  pointwise
  split_ifs with h h' h'
  · exact Fintype.sum_subsingleton _ 0
  · omega
  · omega
  · rfl

theorem ref_dw1 (s : Fin 3) (j : Fin 2816) : (val_main_v54 (F := Ideal) P W B Wo X : S3x2816.Idx → EReal) (ix2 s j)
    = if s.val = 1 then refW P W B Wo X 1 j else 0 := by
  unfold refW
  simp only [← ref_dgc, ← ref_past1]
  unfold val_main_v54 val_main_v53 val_main_v52 val_main_v49 val_main_v48 val_main_v47 val_main_cst_9 val_main_cst_8 val_main_cst_7
  generalize val_main_v35 (F := Ideal) P W B Wo X = G
  generalize val_main_v13 (F := Ideal) P = A
  pointwise
  split_ifs with h h' h'
  · exact Fintype.sum_subsingleton _ 0
  · omega
  · omega
  · rfl

theorem ref_dw0 (s : Fin 3) (j : Fin 2816) : (val_main_v65 (F := Ideal) P W B Wo X : S3x2816.Idx → EReal) (ix2 s j)
    = if s.val = 0 then refW P W B Wo X 0 j else 0 := by
  unfold refW
  simp only [← ref_dgc, zero_add, ← ref_past0]
  unfold val_main_v65 val_main_v64 val_main_v63 val_main_v60 val_main_v59 val_main_v58 val_main_cst_13 val_main_cst_12 val_main_cst_11
  generalize val_main_v35 (F := Ideal) P W B Wo X = G
  generalize val_main_v5 (F := Ideal) P = A
  pointwise
  split_ifs with h h' h'
  · exact Fintype.sum_subsingleton _ 0
  · omega
  · omega
  · rfl

/-- The gradient of the taps, padded to eight rows. -/
theorem ref_dw (s : Fin 8) (j : Fin 2816) : (val_main_v73 (F := Ideal) P W B Wo X : S8x2816.Idx → EReal) (ix2 s j)
    = if s.val < 3 then refW P W B Wo X s.val j else 0 := by
  have h2 := ref_dw2 P W B Wo X
  have h1 := ref_dw1 P W B Wo X
  have h0 := ref_dw0 P W B Wo X
  unfold val_main_v73 val_main_call2_v0 val_main_c val_main_v66 val_main_v55
  generalize val_main_v45 (F := Ideal) P W B Wo X = A at h2 ⊢
  generalize val_main_v54 (F := Ideal) P W B Wo X = A' at h1 ⊢
  generalize val_main_v65 (F := Ideal) P W B Wo X = A'' at h0 ⊢
  pointwise
  split_ifs with h
  · refine (congrArg₂ (· + ·) (congrArg₂ (· + ·) (h2 ⟨s.val, h⟩ j) (h1 ⟨s.val, h⟩ j)) (h0 ⟨s.val, h⟩ j)).trans ?_
    dsimp only
    have hs : s.val = 0 ∨ s.val = 1 ∨ s.val = 2 := by omega
    rcases hs with hs | hs | hs <;> simp [hs]
  · show ((((0#32 : BitVec 32).toInt : ℤ) : ℝ) : EReal) = 0
    simp

theorem ref_db (j : Fin 2816) : (val_main_v37 (F := Ideal) P W B Wo X : S1x2816.Idx → EReal) (ix2 0 j)
    = ∑ r : Fin 8192, refD P W B Wo X r.val j := by
  simp only [← ref_dgc]
  unfold val_main_v37 val_main_v36 val_main_cst_2
  generalize val_main_v35 (F := Ideal) P W B Wo X = G
  pointwise

/-- The gradient of the projection: the gate's half first, then the other. -/
theorem ref_dgu (r : Fin 8192) (j : Fin 5632) : (val_main_v72 (F := Ideal) P W B Wo X : S8192x5632.Idx → EReal) (ix2 r j)
    = if h : j.val < 2816 then taps (refD P W B Wo X) (W (ix2 2 ⟨j.val, h⟩)) (W (ix2 1 ⟨j.val, h⟩)) (W (ix2 0 ⟨j.val, h⟩)) r.val ⟨j.val, h⟩
      else da Wo X r ⟨j.val - 2816, by omega⟩ * act (conv P W B r.val ⟨j.val - 2816, by omega⟩) := by
  have h2 := ref_taps P W B Wo X
  have h1 := ref_act P W B Wo X
  unfold val_main_v72 val_main_v71
  generalize val_main_v70 (F := Ideal) P W B Wo X = A at h2 ⊢
  generalize val_main_v33 (F := Ideal) P W B Wo X = A' at h1 ⊢
  pointwise
  split_ifs with h
  · exact h2 r ⟨j.val, h⟩
  all_goals exact (h1 r ⟨j.val - 2816, by omega⟩).trans (mul_comm _ _)
end Cert.Ffn
-- ==== Proof.FfnReal.lean ====
/-
  Finite extended reals: sums and products of finite values are finite, and on finite values the two forms of the
  derivative of the gate's activation agree.
-/
module

public import proofs.«01_k».proof.Proof.FfnArray
public import proofs.«01_k».proof.Proof.FfnRef
public import proofs.«01_k».proof.Proof.Gen.Pre_finite

@[expose] public section

set_option maxRecDepth 16384
noncomputable section
open Idealize.ShloMosaic Idealize.ShloMosaic.TcCoe Idealize.SL.Sem

namespace Cert.Ffn

/-- An extended real that is a real number. -/
def IsReal (x : EReal) : Prop := ∃ a : ℝ, x = (a : EReal)

theorem IsReal.zero : IsReal 0 := ⟨0, by simp⟩
theorem IsReal.add {x y : EReal} (hx : IsReal x) (hy : IsReal y) : IsReal (x + y) := by
  obtain ⟨a, rfl⟩ := hx; obtain ⟨b, rfl⟩ := hy; exact ⟨a + b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.sum {ι : Type} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih

/-- Below infinity in absolute value is finite. -/
theorem fin_of_abs_lt {x : EReal} (h : Ideal.cmp .olt (max x (-x)) (Ideal.ofBits .f32 0x7F800000#32) = 1#1) : IsReal x := by
  induction x with
  | bot => exfalso; revert h; simp [Ideal.cmp]
  | top => exfalso; revert h; simp [Ideal.cmp]
  | coe a => exact ⟨a, rfl⟩

/-- On finite values the reference's derivative is the kernel's. -/
theorem refAct_eq {g d u : EReal} (hg : IsReal g) (hd : IsReal d) (hu : IsReal u) : refAct g (d * u) = d * u * dact g := by
  obtain ⟨a, rfl⟩ := hg; obtain ⟨b, rfl⟩ := hd; obtain ⟨c, rfl⟩ := hu
  unfold refAct dact
  rw [Ideal.logistic_coe]
  norm_cast
  ring

variable {P : Cert.KernelIdeal.S8192x5632.Idx → EReal} {W : Cert.KernelIdeal.S3x2816.Idx → EReal}
  {B : Cert.KernelIdeal.S1x2816.Idx → EReal} {Wo : Cert.KernelIdeal.S2816x1024.Idx → EReal}
  {X : Cert.KernelIdeal.S8192x1024.Idx → EReal}

theorem past_fin (hP : ∀ y, IsReal (P y)) (r : ℕ) (j : Fin 2816) : IsReal (past P r j) := by
  unfold past
  split_ifs
  · exact IsReal.zero
  · exact hP _
  · exact IsReal.zero

theorem conv_fin (hP : ∀ y, IsReal (P y)) (hW : ∀ y, IsReal (W y)) (hB : ∀ y, IsReal (B y)) (r : ℕ) (j : Fin 2816) : IsReal (conv P W B r j) :=
  ((((past_fin hP _ _).mul (hW _)).add ((past_fin hP _ _).mul (hW _))).add ((past_fin hP _ _).mul (hW _))).add (hB _)

theorem da_fin (hWo : ∀ y, IsReal (Wo y)) (hX : ∀ y, IsReal (X y)) (r : Fin 8192) (j : Fin 2816) : IsReal (da Wo X r j) :=
  IsReal.sum _ fun _ => (hX _).mul (hWo _)

/-- On finite inputs the gradient of the convolved gate is the same in both. -/
theorem refD_eq (hP : ∀ y, IsReal (P y)) (hW : ∀ y, IsReal (W y)) (hB : ∀ y, IsReal (B y)) (hWo : ∀ y, IsReal (Wo y)) (hX : ∀ y, IsReal (X y)) :
    refD P W B Wo X = dgc P W B Wo X := by
  funext r j
  unfold refD dgc
  split_ifs with h
  · exact refAct_eq (conv_fin hP hW hB r j) (da_fin hWo hX _ j) (hP _)
  · rfl

/-- The sum over tokens of the gradient against the moved gate is the sum over tokens of the moved gradient against the
    gate: the terms added on either side are zero. -/
theorem moved_sum (D : ℕ → EReal) (hD : ∀ r, 8192 ≤ r → D r = 0) (s : ℕ) (hs : s < 3) (j : Fin 2816) :
    ∑ r : Fin 8192, past P (s + r.val) j * D r.val = ∑ r : Fin 8192, D (r.val + (2 - s)) * gate P r j := by
  have hg : ∀ r : Fin 8192, gate P r j = past P (r.val + 2) j := fun r => by
    unfold past gate
    rw [dif_neg (by omega), dif_pos (by omega)]
    exact congrArg (fun a => P (ix2 a _)) (Fin.ext (by show r.val = r.val + 2 - 2; omega))
  simp only [hg]
  rw [Finset.sum_range (n := 8192) (fun r => past P (s + r) j * D r) |>.symm,
    Finset.sum_range (n := 8192) (fun r => D (r + (2 - s)) * past P (r + 2) j) |>.symm]
  have hz : ∑ q ∈ Finset.range (2 - s), past P (s + q) j * D q = 0 := Finset.sum_eq_zero fun q hq => by
    have hq' : q < 2 - s := Finset.mem_range.1 hq
    unfold past
    rw [dif_pos (by omega), zero_mul]
  have hl : ∑ q ∈ Finset.range ((2 - s) + 8192), past P (s + q) j * D q = ∑ q ∈ Finset.range 8192, past P (s + q) j * D q := by
    rw [add_comm (2 - s) 8192, Finset.sum_range_add, Finset.sum_eq_zero (s := Finset.range (2 - s)), add_zero]
    intro q _
    rw [hD _ (by omega), mul_zero]
  rw [← hl, Finset.sum_range_add, hz, zero_add]
  refine Finset.sum_congr rfl fun q _ => ?_
  rw [mul_comm]
  exact congrArg₂ (· * ·) (congrArg D (by omega)) (congrArg (fun a => past P a j) (by omega))
end Cert.Ffn
-- ==== Proof.FfnEq.lean ====
/-
  The kernel and the reference end with the same arrays.
-/
module

public import proofs.«01_k».proof.Proof.FfnReal
public import proofs.«01_k».proof.Proof.FfnFinal
public import proofs.«01_k».proof.Proof.Gen.ReferenceIdeal.Run

@[expose] public section

set_option maxRecDepth 16384
noncomputable section
open Idealize.ShloMosaic Idealize.ShloMosaic.TcCoe Idealize.SL.Sem

namespace Cert.Ffn

variable (P : Cert.KernelIdeal.S8192x5632.Idx → EReal) (W : Cert.KernelIdeal.S3x2816.Idx → EReal)
  (B : Cert.KernelIdeal.S1x2816.Idx → EReal) (Wo : Cert.KernelIdeal.S2816x1024.Idx → EReal)
  (X : Cert.KernelIdeal.S8192x1024.Idx → EReal)

/-- What the precondition says: every entry of every argument is finite. -/
theorem finite_entries (h : (Cert.Pre_finite.fn (F := Ideal) P W B Wo X).1 = (fun _ => 1#1) ∧ (Cert.Pre_finite.fn (F := Ideal) P W B Wo X).2.1 = (fun _ => 1#1) ∧ (Cert.Pre_finite.fn (F := Ideal) P W B Wo X).2.2.1 = (fun _ => 1#1)
      ∧ (Cert.Pre_finite.fn (F := Ideal) P W B Wo X).2.2.2.1 = (fun _ => 1#1) ∧ (Cert.Pre_finite.fn (F := Ideal) P W B Wo X).2.2.2.2 = (fun _ => 1#1)) :
    (∀ y, IsReal (P y)) ∧ (∀ y, IsReal (W y)) ∧ (∀ y, IsReal (B y)) ∧ (∀ y, IsReal (Wo y)) ∧ (∀ y, IsReal (X y)) := by
  obtain ⟨h0, h1, h2, h3, h4⟩ := h
  exact ⟨fun y => fin_of_abs_lt (congrFun h0 y), fun y => fin_of_abs_lt (congrFun h1 y), fun y => fin_of_abs_lt (congrFun h2 y),
    fun y => fin_of_abs_lt (congrFun h3 y), fun y => fin_of_abs_lt (congrFun h4 y)⟩

variable (hP : ∀ y, IsReal (P y)) (hW : ∀ y, IsReal (W y)) (hB : ∀ y, IsReal (B y)) (hWo : ∀ y, IsReal (Wo y)) (hX : ∀ y, IsReal (X y))
include hP hW hB hWo hX

theorem eq_dgu : (Cert.ReferenceIdeal.Read.val_main_v72 (F := Ideal) P W B Wo X : Cert.KernelIdeal.S8192x5632.Idx → EReal) = dgu P W B Wo X := by
  funext y
  obtain ⟨r, j, rfl⟩ : ∃ r j, y = ix2 r j := ⟨y 0, y 1, eq_ix2 y⟩
  refine (ref_dgu P W B Wo X r j).trans ?_
  rw [refD_eq hP hW hB hWo hX]
  rfl

theorem eq_dw : (Cert.ReferenceIdeal.Read.val_main_v73 (F := Ideal) P W B Wo X : Cert.KernelIdeal.S8x2816.Idx → EReal) = dw P W B Wo X := by
  funext y
  obtain ⟨s, j, rfl⟩ : ∃ s j, y = ix2 s j := ⟨y 0, y 1, eq_ix2 y⟩
  refine (ref_dw P W B Wo X s j).trans ?_
  unfold refW
  rw [refD_eq hP hW hB hWo hX]
  show _ = if s.val < 3 then ∑ r : Fin 8192, dgc P W B Wo X (r.val + (2 - s.val)) j * gate P r j else 0
  split_ifs with h
  · exact moved_sum (fun r => dgc P W B Wo X r j) (fun r hr => dif_neg (by omega)) s.val h j
  · rfl

theorem eq_db : (Cert.ReferenceIdeal.Read.val_main_v37 (F := Ideal) P W B Wo X : Cert.KernelIdeal.S1x2816.Idx → EReal) = db P W B Wo X := by
  funext y
  obtain ⟨s, j, rfl⟩ : ∃ s j, y = ix2 s j := ⟨y 0, y 1, eq_ix2 y⟩
  obtain rfl : s = 0 := Subsingleton.elim _ _
  refine (ref_db P W B Wo X j).trans ?_
  rw [refD_eq hP hW hB hWo hX]
  rfl
end Cert.Ffn
-- ==== Proof.Blocks.lean ====
/-
  Facts used by every launch of the step: reading a rectangle of a two-dimensional block, and what a buffer holds after
  stores that tile it.
-/
module

public import Idealize.ShloMosaic.Lib.Pipeline.Value
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.PureOps.Ideal

@[expose] public section

noncomputable section

open Idealize.ShloMosaic Idealize.ShloMosaic.TcCoe Idealize.SL.Sem

namespace Cert.Blocks

theorem emb_ix2 {M N m n r o : ℕ}
    (h : ∀ a, (![r, o] : Fin 2 → ℕ) a + (![m, n] : Fin 2 → ℕ) a ≤ (⟨2, ![M, N]⟩ : Shape).size a) (p : Fin m) (j : Fin n) :
    (Rect.unit (s := ⟨2, ![M, N]⟩) ![r, o] ![m, n] h).emb (ix2 p j)
      = ix2 ⟨r + p.val, by have := h 0; simp at this; omega⟩ ⟨o + j.val, by have := h 1; simp at this; omega⟩ := by
  funext a; fin_cases a <;> exact Fin.ext (by simp [Rect.unit, Rect.emb, LoadRect.idx])

theorem exists_ix2 {M N : ℕ} (y : (⟨2, ![M, N]⟩ : Shape).Idx) : ∃ (i : Fin M) (j : Fin N), y = ix2 i j := ⟨y 0, y 1, eq_ix2 y⟩

/-- An index of an array from its block's place: `u`, `v` are the block's offsets, `a`, `b` the index in the block. -/
theorem eq_ix2_of {M N u v o q a b : ℕ} {x : (⟨2, ![M, N]⟩ : Shape).Idx} {i : Fin M} {j : Fin N} (h : u = o ∧ v = q)
    (h0 : (x 0).val = u + 1 * a) (h1 : (x 1).val = v + 1 * b) (hi : o + a = i.val) (hj : q + b = j.val) : x = ix2 i j := by
  refine (eq_ix2 x).trans (congrArg₂ ix2 (Fin.ext ?_) (Fin.ext ?_))
  · rw [h0, h.1, Nat.one_mul, hi]
  · rw [h1, h.2, Nat.one_mul, hj]

/-- An entry of a loaded rectangle is the buffer's entry at the rectangle's offset. -/
theorem ld_ix2 {M N m n r o : ℕ} {e : EltTy} (X : (⟨2, ![M, N]⟩ : Shape).Idx → Elt Ideal e)
    (h : ∀ a, (![r, o] : Fin 2 → ℕ) a + (![m, n] : Fin 2 → ℕ) a ≤ (⟨2, ![M, N]⟩ : Shape).size a) (p : Fin m) (j : Fin n)
    (p' : Fin M) (j' : Fin N) (hp : r + p.val = p'.val) (hj : o + j.val = j'.val) :
    View.ld (Val := Elt Ideal) X (Rect.unit (s := ⟨2, ![M, N]⟩) ![r, o] ![m, n] h) (ix2 p j) = X (ix2 p' j') := by
  refine congrArg X ((emb_ix2 h p j).trans ?_)
  exact congrArg₂ ix2 (Fin.ext hp) (Fin.ext hj)

/-- The whole buffer, loaded, is the buffer. -/
theorem ld_all {M N : ℕ} {e : EltTy} (X : (⟨2, ![M, N]⟩ : Shape).Idx → Elt Ideal e)
    (h : ∀ a, (![0, 0] : Fin 2 → ℕ) a + (![M, N] : Fin 2 → ℕ) a ≤ (⟨2, ![M, N]⟩ : Shape).size a) :
    View.ld (Val := Elt Ideal) X (Rect.unit (s := ⟨2, ![M, N]⟩) ![0, 0] ![M, N] h) = X := by
  funext y
  obtain ⟨p, j, rfl⟩ : ∃ (p : Fin M) (j : Fin N), y = ix2 p j := ⟨y 0, y 1, eq_ix2 y⟩
  exact ld_ix2 X h p j p j (Nat.zero_add _) (Nat.zero_add _)

/-- A stored rectangle agrees with `G` there, entry by entry. -/
theorem store_ix2 {M N m n r o : ℕ} {e : EltTy}
    (h : ∀ a, (![r, o] : Fin 2 → ℕ) a + (![m, n] : Fin 2 → ℕ) a ≤ (⟨2, ![M, N]⟩ : Shape).size a)
    (w : (⟨2, ![m, n]⟩ : Shape).Idx → Elt Ideal e) (G : (⟨2, ![M, N]⟩ : Shape).Idx → Elt Ideal e)
    (H : ∀ (p : Fin m) (j : Fin n) (p' : Fin M) (j' : Fin N), r + p.val = p'.val → o + j.val = j'.val → w (ix2 p j) = G (ix2 p' j'))
    (x : (⟨2, ![m, n]⟩ : Shape).Idx) : w x = G ((Rect.unit (s := ⟨2, ![M, N]⟩) ![r, o] ![m, n] h).emb x) := by
  obtain ⟨p, j, rfl⟩ : ∃ (p : Fin m) (j : Fin n), x = ix2 p j := ⟨x 0, x 1, eq_ix2 x⟩
  rw [emb_ix2]
  exact H p j _ _ rfl rfl

/-- Stores that are blocks of one array and cover the buffer leave that array. -/
theorem canon_of_cover {s : Shape} {e : EltTy} (G : s.Idx → Elt Ideal e) (L : List (View.Piece (Elt Ideal) s e))
    (H : ∀ pc ∈ L, ∀ x, pc.2 x = G (pc.1.emb x)) (y : s.Idx) (hc : ∃ pc ∈ L, y ∈ pc.1.set) : View.canon L y = G y := by
  induction L with
  | nil => obtain ⟨_, h, _⟩ := hc; cases h
  | cons a L ih =>
    obtain ⟨r, w⟩ := a
    by_cases hm : y ∈ r.set
    · obtain ⟨x, rfl⟩ := r.exists_idx_of_mem hm
      exact (View.canon_cons_emb r w L x).trans (H ⟨r, w⟩ (List.mem_cons_self ..) x)
    · refine (View.canon_cons_of_not_mem ⟨r, w⟩ L hm).trans (ih (fun pc h => H pc (List.mem_cons_of_mem _ h)) ?_)
      obtain ⟨pc, hp, hy⟩ := hc
      rcases List.mem_cons.mp hp with rfl | hp
      · exact absurd hy hm
      · exact ⟨pc, hp, hy⟩

/-- Stores made before those that cover the buffer are not seen. -/
theorem canon_of_cover_append {s : Shape} {e : EltTy} (G : s.Idx → Elt Ideal e) (L L' : List (View.Piece (Elt Ideal) s e))
    (H : ∀ pc ∈ L, ∀ x, pc.2 x = G (pc.1.emb x)) (y : s.Idx) (hc : ∃ pc ∈ L, y ∈ pc.1.set) : View.canon (L ++ L') y = G y := by
  induction L with
  | nil => obtain ⟨_, h, _⟩ := hc; cases h
  | cons a L ih =>
    obtain ⟨r, w⟩ := a
    by_cases hm : y ∈ r.set
    · obtain ⟨x, rfl⟩ := r.exists_idx_of_mem hm
      exact (View.canon_cons_emb r w (L ++ L') x).trans (H ⟨r, w⟩ (List.mem_cons_self ..) x)
    · refine (View.canon_cons_of_not_mem ⟨r, w⟩ (L ++ L') hm).trans (ih (fun pc h => H pc (List.mem_cons_of_mem _ h)) ?_)
      obtain ⟨pc, hp, hy⟩ := hc
      rcases List.mem_cons.mp hp with rfl | hp
      · exact absurd hy hm
      · exact ⟨pc, hp, hy⟩

/-- One store of the whole buffer leaves what it stores. -/
theorem canon_all {M N : ℕ} {e : EltTy}
    (h : ∀ a, (![0, 0] : Fin 2 → ℕ) a + (![M, N] : Fin 2 → ℕ) a ≤ (⟨2, ![M, N]⟩ : Shape).size a)
    (w : (⟨2, ![M, N]⟩ : Shape).Idx → Elt Ideal e) :
    View.canon (Val := Elt Ideal) [⟨Rect.unit (s := ⟨2, ![M, N]⟩) ![0, 0] ![M, N] h, w⟩] = w := by
  funext y
  obtain ⟨p, j, rfl⟩ : ∃ (p : Fin M) (j : Fin N), y = ix2 p j := ⟨y 0, y 1, eq_ix2 y⟩
  have e := View.canon_cons_emb (Rect.unit (s := ⟨2, ![M, N]⟩) ![0, 0] ![M, N] h) w [] (ix2 p j)
  rw [emb_ix2] at e
  refine Eq.trans ?_ e
  exact congrArg (View.canon _) (congrArg₂ ix2 (Fin.ext (Nat.zero_add _).symm) (Fin.ext (Nat.zero_add _).symm))

end Cert.Blocks

end
-- ==== Proof.AtB.lean ====
/-
  Products of a transposed array with another, summed over the rows block by block: a launch keeps the sum of the row
  blocks met so far, sixteen blocks of 512 rows to a tile.
-/
module

public import proofs.«01_k».proof.Proof.Blocks

@[expose] public section

noncomputable section

open Idealize.ShloMosaic Idealize.ShloMosaic.TcCoe Idealize.SL.Sem

namespace Cert.AtB

variable {M D : ℕ}

/-- The product of the transpose of the first array with the second. -/
def prod (A : (⟨2, ![8192, M]⟩ : Shape).Idx → EReal) (B : (⟨2, ![8192, D]⟩ : Shape).Idx → EReal)
    (y : (⟨2, ![M, D]⟩ : Shape).Idx) : EReal :=
  ∑ r : Fin 8192, A (ix2 r (y 0)) * B (ix2 r (y 1))

/-- One row's product, and zero past the last row. -/
def term (A : (⟨2, ![8192, M]⟩ : Shape).Idx → EReal) (B : (⟨2, ![8192, D]⟩ : Shape).Idx → EReal) (i : Fin M) (j : Fin D)
    (r : ℕ) : EReal :=
  if h : r < 8192 then A (ix2 ⟨r, h⟩ i) * B (ix2 ⟨r, h⟩ j) else 0

variable {A : (⟨2, ![8192, M]⟩ : Shape).Idx → EReal} {B : (⟨2, ![8192, D]⟩ : Shape).Idx → EReal}

theorem prod_eq (i : Fin M) (j : Fin D) : prod A B (ix2 i j) = ∑ r ∈ Finset.range 8192, term A B i j r := by
  rw [Finset.sum_range]
  exact Finset.sum_congr rfl fun r _ => by unfold term; rw [dif_pos r.isLt]; rfl

/-- What the scratch holds after each point: the products of the rows of its tile met so far. -/
theorem rows {MB N : ℕ} (b0 : Fin N → (⟨2, ![512, MB]⟩ : Shape).Idx → EReal) (b1 : Fin N → (⟨2, ![512, D]⟩ : Shape).Idx → EReal)
    (s : (n : ℕ) → n < N → (⟨2, ![MB, D]⟩ : Shape).Idx → EReal)
    (h0 : ∀ (t : Fin N) (k : Fin 512) (p : Fin MB) (r : Fin 8192) (i : Fin M), r.val = 512 * (t.val % 16) + k.val →
      i.val = MB * (t.val / 16) + p.val → b0 t (ix2 k p) = A (ix2 r i))
    (h1 : ∀ (t : Fin N) (k : Fin 512) (j : Fin D) (r : Fin 8192), r.val = 512 * (t.val % 16) + k.val → b1 t (ix2 k j) = B (ix2 r j))
    (hA : ∀ (t : Fin N), t.val % 16 = 0 → ∀ (p : Fin MB) (j : Fin D),
      s t.val t.isLt (ix2 p j) = 0 + ∑ k : Fin 512, b0 t (ix2 k p) * b1 t (ix2 k j))
    (hB : ∀ (t : Fin N), ¬t.val % 16 = 0 → ∀ (p : Fin MB) (j : Fin D), s t.val t.isLt (ix2 p j)
      = s (t.val - 1) (Nat.lt_of_le_of_lt (Nat.sub_le _ _) t.isLt) (ix2 p j) + ∑ k : Fin 512, b0 t (ix2 k p) * b1 t (ix2 k j)) :
    ∀ (n : ℕ) (hn : n < N) (p : Fin MB) (j : Fin D) (i : Fin M), i.val = MB * (n / 16) + p.val →
      s n hn (ix2 p j) = ∑ r ∈ Finset.range (512 * (n % 16 + 1)), term A B i j r := by
  have point : ∀ (t : Fin N) (p : Fin MB) (j : Fin D) (i : Fin M), i.val = MB * (t.val / 16) + p.val →
      ∑ k : Fin 512, b0 t (ix2 k p) * b1 t (ix2 k j) = ∑ k ∈ Finset.range 512, term A B i j (512 * (t.val % 16) + k) := by
    intro t p j i hc
    rw [Finset.sum_range]
    refine Finset.sum_congr rfl fun k _ => ?_
    have hr : 512 * (t.val % 16) + k.val < 8192 := by omega
    unfold term
    rw [dif_pos hr]
    exact congrArg₂ (· * ·) (h0 t k p ⟨_, hr⟩ i rfl hc) (h1 t k j ⟨_, hr⟩ rfl)
  intro n
  induction n with
  | zero =>
    intro hn p j i hc
    rw [hA ⟨0, hn⟩ rfl p j, point ⟨0, hn⟩ p j i hc, zero_add]
    exact Finset.sum_congr rfl fun k _ => congrArg (term A B i j) (Nat.zero_add k)
  | succ n ih =>
    intro hn p j i hc
    by_cases h : (n + 1) % 16 = 0
    · rw [hA ⟨n + 1, hn⟩ h p j, point ⟨n + 1, hn⟩ p j i hc, zero_add]
      show ∑ k ∈ Finset.range 512, term A B i j (512 * ((n + 1) % 16) + k) = _
      rw [h]
      exact Finset.sum_congr rfl fun k _ => congrArg (term A B i j) (Nat.zero_add k)
    · have e := ih (Nat.lt_of_succ_lt hn) p j i (by rw [hc, show (n + 1) / 16 = n / 16 by omega])
      rw [show n % 16 + 1 = (n + 1) % 16 by omega] at e
      refine (hB ⟨n + 1, hn⟩ h p j).trans ?_
      rw [point ⟨n + 1, hn⟩ p j i hc, Nat.mul_succ, Finset.sum_range_add]
      exact congrArg (· + _) e

end Cert.AtB

end
-- ==== Proof.FfnDwOutValue.lean ====
/-
  The gradient of the feed-forward's second weight: the launch sums the products of the rows of its two arrays;
  what its array holds after the grid, and what the reference computes.
-/
module

public import proofs.«01_k».proof.Proof.AtB
public import proofs.«01_k».proof.Proof.Gen.FfnDwOutIdeal.Value
public import proofs.«01_k».proof.Proof.Gen.FfnDwOutReferenceIdeal.Run

@[expose] public section

set_option maxRecDepth 16384
noncomputable section
open Idealize.ShloMosaic Idealize.ShloMosaic.TcCoe Idealize.SL.Sem Cert.Blocks

namespace Cert.FfnDwOut

open Cert.FfnDwOutIdeal Cert.FfnDwOutIdeal.Gen

/-- The product of the transpose of the first array with the second. -/
abbrev prod (A : S8192x2816.Idx → EReal) (B : S8192x1024.Idx → EReal) : S2816x1024.Idx → EReal := AtB.prod A B

/-- The block product added to the carried block. -/
theorem pay2_apply (a : Vec Ideal S512x2816 .bf16) (acc : Vec Ideal S2816x1024 .f32) (b : Vec Ideal S512x1024 .bf16)
    (p : Fin 2816) (j : Fin 1024) :
    k0_pay2 (F := Ideal) a acc b (ix2 p j) = acc (ix2 p j) + ∑ k : Fin 512, a (ix2 k p) * b (ix2 k j) := by
  unfold k0_pay2
  pointwise

theorem pay1_apply (p : Fin 2816) (j : Fin 1024) : k0_pay1 (F := Ideal) (ix2 p j) = 0 := by
  unfold k0_pay1
  pointwise

section
variable (m : (ℓ : Loc nD τ sig) → Buf (Elt Ideal) ℓ) (c : Dev nD)

abbrev mA : S8192x2816.Idx → EReal := m ((c : Thread nD τ).loc main_arg0)
abbrev mB : S8192x1024.Idx → EReal := m ((c : Thread nD τ).loc main_arg1)

theorem host_0 (r : Fin 8192) (i : Fin 2816) : V m c main_v0 (ix2 r i) = mA m c (ix2 r i) := by
  unfold V hostOps0
  simp only [List.flatten_cons, List.flatten_nil, List.cons_append, List.nil_append, List.append_nil]
  after_reads_at

theorem host_1 (r : Fin 8192) (j : Fin 1024) : V m c main_v1 (ix2 r j) = mB m c (ix2 r j) := by
  unfold V hostOps0
  simp only [List.flatten_cons, List.flatten_nil, List.cons_append, List.nil_append, List.append_nil]
  after_reads_at

theorem point_lt (t : Fin cfg0.N) : t.val < 16 := lt_of_lt_of_eq t.isLt (show cfg0.N = 16 from N_0)

theorem index_0 : ∀ t : Fin cfg0.N, win0_0.index t 0 * 512 = 512 * (t.val % 16) ∧ win0_0.index t 1 * 2816 = 2816 * (t.val / 16) := by decide +kernel
theorem index_1 : ∀ t : Fin cfg0.N, win0_1.index t 0 * 512 = 512 * (t.val % 16) ∧ win0_1.index t 1 * 1024 = 0 := by decide +kernel
theorem index_2 : ∀ t : Fin cfg0.N, win0_2.index t 0 * 2816 = 2816 * (t.val / 16) ∧ win0_2.index t 1 * 1024 = 0 := by decide +kernel

theorem iblk_0 (t : Fin cfg0.N) (k : Fin 512) (p : Fin 2816) (r : Fin 8192) (i : Fin 2816)
    (hr : r.val = 512 * (t.val % 16) + k.val) (hc : i.val = 2816 * (t.val / 16) + p.val) :
    iblk m c 0 t (ix2 k p) = mA m c (ix2 r i) := by
  rw [← host_0]
  unfold iblk
  rw [View.read_apply]
  exact congrArg (V m c main_v0) (eq_ix2_of (index_0 t) rfl rfl hr.symm hc.symm)

theorem iblk_1 (t : Fin cfg0.N) (k : Fin 512) (j : Fin 1024) (r : Fin 8192) (hr : r.val = 512 * (t.val % 16) + k.val) :
    iblk m c 1 t (ix2 k j) = mB m c (ix2 r j) := by
  rw [← host_1]
  unfold iblk
  rw [View.read_apply]
  exact congrArg (V m c main_v1) (eq_ix2_of (index_1 t) rfl rfl hr.symm (Nat.zero_add _))

/-- The scratch after the first point of a tile. -/
theorem acc_A (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out

theorem acc_B (t : Fin cfg0.N) (h0 : ¬t.val % 16 = 0) :
    (outsAt0 m c t.val t.isLt).2
      = k0_pay2 (iblk m c 0 t) (outsAt0 m c (t.val - 1) (Nat.lt_of_le_of_lt (Nat.sub_le _ _) t.isLt)).2 (iblk m c 1 t) := by
  by_cases h1 : t.val % 16 = 15
  · rw [outsAt0_C m c t h0 h1]
    frame_out
    rw [read_unread_whole]
  · rw [outsAt0_B m c t h0 h1]
    frame_out
    rw [read_unread_whole]

theorem out_C (t : Fin cfg0.N) (h0 : ¬t.val % 16 = 0) (h1 : t.val % 16 = 15) :
    (outsAt0 m c t.val t.isLt).1
      = k0_pay3 (k0_pay2 (iblk m c 0 t) (outsAt0 m c (t.val - 1) (Nat.lt_of_le_of_lt (Nat.sub_le _ _) t.isLt)).2 (iblk m c 1 t)) := by
  rw [outsAt0_C m c t h0 h1]
  frame_out
  rw [read_unread_whole]

abbrev b0 (t : Fin cfg0.N) : S512x2816.Idx → EReal := iblk m c 0 t
abbrev b1 (t : Fin cfg0.N) : S512x1024.Idx → EReal := iblk m c 1 t

/-- The scratch holds the rows of its tile met so far. -/
theorem acc_eq (t : Fin cfg0.N) (p : Fin 2816) (j : Fin 1024) (i : Fin 2816) (hc : i.val = 2816 * (t.val / 16) + p.val) :
    (outsAt0 m c t.val t.isLt).2 (ix2 p j) = ∑ r ∈ Finset.range (512 * (t.val % 16 + 1)), AtB.term (mA m c) (mB m c) i j r := by
  refine AtB.rows (b0 m c) (b1 m c) (fun n hn => (outsAt0 m c n hn).2) (iblk_0 m c) (iblk_1 m c) (fun t h0 p j => ?_)
    (fun t h0 p j => ?_) t.val t.isLt p j i hc
  · rw [acc_A m c t h0 (by omega)]
    refine (pay2_apply (b0 m c t) _ (b1 m c t) p j).trans ?_
    rw [pay1_apply]
  · rw [acc_B m c t h0]
    exact pay2_apply (b0 m c t) _ (b1 m c t) p j

/-- The block written back after the last point of a tile. -/
theorem out_eq (t : Fin cfg0.N) (h1 : t.val % 16 = 15) (p : Fin 2816) (j : Fin 1024) (i : Fin 2816)
    (hc : i.val = 2816 * (t.val / 16) + p.val) :
    (outsAt0 m c t.val t.isLt).1 (ix2 p j) = prod (mA m c) (mB m c) (ix2 i j) := by
  have h0 : ¬t.val % 16 = 0 := by omega
  have e := acc_eq m c t p j i hc
  rw [acc_B m c t h0, h1] at e
  rw [out_C m c t h0 h1]
  exact e.trans (AtB.prod_eq i j).symm

theorem emb_2 (t : Fin cfg0.N) (p : Fin 2816) (j : Fin 1024) (i : Fin 2816) (hc : i.val = 2816 * (t.val / 16) + p.val) :
    ((cfg0.win 2).blk t).view.emb (ix2 p j) = (ix2 i j : S2816x1024.Idx) :=
  eq_ix2_of (index_2 t) rfl rfl hc.symm (Nat.zero_add _)

theorem final_2 : (dats m 0 c).arrAt 2 cfg0.N = prod (mA m c) (mB m c) := by
  refine (dats m 0 c).arrAt_eq_of_cover 2 (prod (mA m c) (mB m c)) (fun t hf => ?_) fun y => ?_
  · have ht := point_lt t
    rw [Cert.FfnDwOutIdeal.Value.flushed2]
    funext y
    obtain ⟨p, j, rfl⟩ := exists_ix2 y
    obtain ⟨i, hi⟩ : ∃ i : Fin 2816, i.val = 2816 * (t.val / 16) + p.val := ⟨⟨2816 * (t.val / 16) + p.val, by omega⟩, rfl⟩
    rw [View.read_apply, emb_2 t p j i hi]
    exact out_eq m c t ((flush0_2 t).mp hf) p j i hi
  · obtain ⟨i, j, rfl⟩ := exists_ix2 y
    have hN : 16 * (i.val / 2816) + 15 < cfg0.N := by rw [show cfg0.N = 16 from N_0]; omega
    obtain ⟨t, ht⟩ : ∃ t : Fin cfg0.N, t.val = 16 * (i.val / 2816) + 15 := ⟨⟨_, hN⟩, rfl⟩
    refine ⟨t, (flush0_2 t).mpr (by omega), ?_⟩
    rw [← emb_2 t ⟨i.val % 2816, Nat.mod_lt _ (by decide)⟩ j i (by show i.val = 2816 * (t.val / 16) + i.val % 2816; omega)]
    exact View.emb_mem_set _ _

theorem kernel_run (ρ : Dev nD → PrngReg) : θ_run defs (onTc (τ := τ) (main (F := Ideal))) ⟨m, fun _ => 0, ρ⟩ fun r => ∀ c : Dev nD,
      r.2.mem ((c : Thread nD τ).loc main_v2) = prod (mA m c) (mB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.FfnDwOutIdeal.Value.run_blocks m ρ)
end

end Cert.FfnDwOut

namespace Cert.FfnDwOut

open Cert.FfnDwOutReferenceIdeal Cert.FfnDwOutReferenceIdeal.Gen

/-- The reference's result is the same product. -/
theorem reference_eq (A : FVec Ideal S8192x2816 .f32) (B : FVec Ideal S8192x1024 .f32) :
    (truncf .bf16 (transpose S2816x1024 [1, 0] (Host.dotGeneral dot_S8192x1024_S8192x2816_S1024x2816_0_0_1_1_n_n none B A) transposes_S1024x2816_S2816x1024_1_0) bitsLt_bf16_f32 : FVec Ideal S2816x1024 .bf16) = prod A B := by
  funext y
  obtain ⟨i, j, rfl⟩ := exists_ix2 y
  show _ = ∑ r : Fin 8192, A (ix2 r i) * B (ix2 r j)
  pointwise
  first | done | exact Finset.sum_congr rfl fun _ _ => mul_comm _ _

end Cert.FfnDwOut

end
-- ==== Proof.FfnDwInValue.lean ====
/-
  The gradient of the feed-forward's first weight: the launch sums, tile by tile, the products of the rows of its two arrays;
  what its array holds after the grid, and what the reference computes.
-/
module

public import proofs.«01_k».proof.Proof.AtB
public import proofs.«01_k».proof.Proof.Gen.FfnDwInIdeal.Value
public import proofs.«01_k».proof.Proof.Gen.FfnDwInReferenceIdeal.Run

@[expose] public section

set_option maxRecDepth 16384
noncomputable section
open Idealize.ShloMosaic Idealize.ShloMosaic.TcCoe Idealize.SL.Sem Cert.Blocks

namespace Cert.FfnDwIn

open Cert.FfnDwInIdeal Cert.FfnDwInIdeal.Gen

/-- The product of the transpose of the first array with the second. -/
abbrev prod (A : S8192x5632.Idx → EReal) (B : S8192x1024.Idx → EReal) : S5632x1024.Idx → EReal := AtB.prod A B

/-- The block product added to the carried block. -/
theorem pay2_apply (a : Vec Ideal S512x2816 .bf16) (acc : Vec Ideal S2816x1024 .f32) (b : Vec Ideal S512x1024 .bf16)
    (p : Fin 2816) (j : Fin 1024) :
    k0_pay2 (F := Ideal) a acc b (ix2 p j) = acc (ix2 p j) + ∑ k : Fin 512, a (ix2 k p) * b (ix2 k j) := by
  unfold k0_pay2
  pointwise

theorem pay1_apply (p : Fin 2816) (j : Fin 1024) : k0_pay1 (F := Ideal) (ix2 p j) = 0 := by
  unfold k0_pay1
  pointwise

section
variable (m : (ℓ : Loc nD τ sig) → Buf (Elt Ideal) ℓ) (c : Dev nD)

abbrev mA : S8192x5632.Idx → EReal := m ((c : Thread nD τ).loc main_arg0)
abbrev mB : S8192x1024.Idx → EReal := m ((c : Thread nD τ).loc main_arg1)

theorem host_0 (r : Fin 8192) (i : Fin 5632) : V m c main_v0 (ix2 r i) = mA m c (ix2 r i) := by
  unfold V hostOps0
  simp only [List.flatten_cons, List.flatten_nil, List.cons_append, List.nil_append, List.append_nil]
  after_reads_at

theorem host_1 (r : Fin 8192) (j : Fin 1024) : V m c main_v1 (ix2 r j) = mB m c (ix2 r j) := by
  unfold V hostOps0
  simp only [List.flatten_cons, List.flatten_nil, List.cons_append, List.nil_append, List.append_nil]
  after_reads_at

theorem point_lt (t : Fin cfg0.N) : t.val < 32 := lt_of_lt_of_eq t.isLt (show cfg0.N = 32 from N_0)

theorem index_0 : ∀ t : Fin cfg0.N, win0_0.index t 0 * 512 = 512 * (t.val % 16) ∧ win0_0.index t 1 * 2816 = 2816 * (t.val / 16) := by decide +kernel
theorem index_1 : ∀ t : Fin cfg0.N, win0_1.index t 0 * 512 = 512 * (t.val % 16) ∧ win0_1.index t 1 * 1024 = 0 := by decide +kernel
theorem index_2 : ∀ t : Fin cfg0.N, win0_2.index t 0 * 2816 = 2816 * (t.val / 16) ∧ win0_2.index t 1 * 1024 = 0 := by decide +kernel

theorem iblk_0 (t : Fin cfg0.N) (k : Fin 512) (p : Fin 2816) (r : Fin 8192) (i : Fin 5632)
    (hr : r.val = 512 * (t.val % 16) + k.val) (hc : i.val = 2816 * (t.val / 16) + p.val) :
    iblk m c 0 t (ix2 k p) = mA m c (ix2 r i) := by
  rw [← host_0]
  unfold iblk
  rw [View.read_apply]
  exact congrArg (V m c main_v0) (eq_ix2_of (index_0 t) rfl rfl hr.symm hc.symm)

theorem iblk_1 (t : Fin cfg0.N) (k : Fin 512) (j : Fin 1024) (r : Fin 8192) (hr : r.val = 512 * (t.val % 16) + k.val) :
    iblk m c 1 t (ix2 k j) = mB m c (ix2 r j) := by
  rw [← host_1]
  unfold iblk
  rw [View.read_apply]
  exact congrArg (V m c main_v1) (eq_ix2_of (index_1 t) rfl rfl hr.symm (Nat.zero_add _))

/-- The scratch after the first point of a tile. -/
theorem acc_A (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out

theorem acc_B (t : Fin cfg0.N) (h0 : ¬t.val % 16 = 0) :
    (outsAt0 m c t.val t.isLt).2
      = k0_pay2 (iblk m c 0 t) (outsAt0 m c (t.val - 1) (Nat.lt_of_le_of_lt (Nat.sub_le _ _) t.isLt)).2 (iblk m c 1 t) := by
  by_cases h1 : t.val % 16 = 15
  · rw [outsAt0_C m c t h0 h1]
    frame_out
    rw [read_unread_whole]
  · rw [outsAt0_B m c t h0 h1]
    frame_out
    rw [read_unread_whole]

theorem out_C (t : Fin cfg0.N) (h0 : ¬t.val % 16 = 0) (h1 : t.val % 16 = 15) :
    (outsAt0 m c t.val t.isLt).1
      = k0_pay3 (k0_pay2 (iblk m c 0 t) (outsAt0 m c (t.val - 1) (Nat.lt_of_le_of_lt (Nat.sub_le _ _) t.isLt)).2 (iblk m c 1 t)) := by
  rw [outsAt0_C m c t h0 h1]
  frame_out
  rw [read_unread_whole]

abbrev b0 (t : Fin cfg0.N) : S512x2816.Idx → EReal := iblk m c 0 t
abbrev b1 (t : Fin cfg0.N) : S512x1024.Idx → EReal := iblk m c 1 t

/-- The scratch holds the rows of its tile met so far. -/
theorem acc_eq (t : Fin cfg0.N) (p : Fin 2816) (j : Fin 1024) (i : Fin 5632) (hc : i.val = 2816 * (t.val / 16) + p.val) :
    (outsAt0 m c t.val t.isLt).2 (ix2 p j) = ∑ r ∈ Finset.range (512 * (t.val % 16 + 1)), AtB.term (mA m c) (mB m c) i j r := by
  refine AtB.rows (b0 m c) (b1 m c) (fun n hn => (outsAt0 m c n hn).2) (iblk_0 m c) (iblk_1 m c) (fun t h0 p j => ?_)
    (fun t h0 p j => ?_) t.val t.isLt p j i hc
  · rw [acc_A m c t h0 (by omega)]
    refine (pay2_apply (b0 m c t) _ (b1 m c t) p j).trans ?_
    rw [pay1_apply]
  · rw [acc_B m c t h0]
    exact pay2_apply (b0 m c t) _ (b1 m c t) p j

/-- The block written back after the last point of a tile. -/
theorem out_eq (t : Fin cfg0.N) (h1 : t.val % 16 = 15) (p : Fin 2816) (j : Fin 1024) (i : Fin 5632)
    (hc : i.val = 2816 * (t.val / 16) + p.val) :
    (outsAt0 m c t.val t.isLt).1 (ix2 p j) = prod (mA m c) (mB m c) (ix2 i j) := by
  have h0 : ¬t.val % 16 = 0 := by omega
  have e := acc_eq m c t p j i hc
  rw [acc_B m c t h0, h1] at e
  rw [out_C m c t h0 h1]
  exact e.trans (AtB.prod_eq i j).symm

theorem emb_2 (t : Fin cfg0.N) (p : Fin 2816) (j : Fin 1024) (i : Fin 5632) (hc : i.val = 2816 * (t.val / 16) + p.val) :
    ((cfg0.win 2).blk t).view.emb (ix2 p j) = (ix2 i j : S5632x1024.Idx) :=
  eq_ix2_of (index_2 t) rfl rfl hc.symm (Nat.zero_add _)

theorem final_2 : (dats m 0 c).arrAt 2 cfg0.N = prod (mA m c) (mB m c) := by
  refine (dats m 0 c).arrAt_eq_of_cover 2 (prod (mA m c) (mB m c)) (fun t hf => ?_) fun y => ?_
  · have ht := point_lt t
    rw [Cert.FfnDwInIdeal.Value.flushed2]
    funext y
    obtain ⟨p, j, rfl⟩ := exists_ix2 y
    obtain ⟨i, hi⟩ : ∃ i : Fin 5632, i.val = 2816 * (t.val / 16) + p.val := ⟨⟨2816 * (t.val / 16) + p.val, by omega⟩, rfl⟩
    rw [View.read_apply, emb_2 t p j i hi]
    exact out_eq m c t ((flush0_2 t).mp hf) p j i hi
  · obtain ⟨i, j, rfl⟩ := exists_ix2 y
    have hN : 16 * (i.val / 2816) + 15 < cfg0.N := by rw [show cfg0.N = 32 from N_0]; omega
    obtain ⟨t, ht⟩ : ∃ t : Fin cfg0.N, t.val = 16 * (i.val / 2816) + 15 := ⟨⟨_, hN⟩, rfl⟩
    refine ⟨t, (flush0_2 t).mpr (by omega), ?_⟩
    rw [← emb_2 t ⟨i.val % 2816, Nat.mod_lt _ (by decide)⟩ j i (by show i.val = 2816 * (t.val / 16) + i.val % 2816; omega)]
    exact View.emb_mem_set _ _

theorem kernel_run (ρ : Dev nD → PrngReg) : θ_run defs (onTc (τ := τ) (main (F := Ideal))) ⟨m, fun _ => 0, ρ⟩ fun r => ∀ c : Dev nD,
      r.2.mem ((c : Thread nD τ).loc main_v2) = prod (mA m c) (mB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.FfnDwInIdeal.Value.run_blocks m ρ)
end

end Cert.FfnDwIn

namespace Cert.FfnDwIn

open Cert.FfnDwInReferenceIdeal Cert.FfnDwInReferenceIdeal.Gen

/-- The reference's result is the same product. -/
theorem reference_eq (A : FVec Ideal S8192x5632 .f32) (B : FVec Ideal S8192x1024 .f32) :
    (truncf .bf16 (transpose S5632x1024 [1, 0] (transpose S1024x5632 [1, 0] (Host.dotGeneral dot_S8192x5632_S8192x1024_S5632x1024_0_0_1_1_n_n none A B) transposes_S5632x1024_S1024x5632_1_0) transposes_S1024x5632_S5632x1024_1_0) bitsLt_bf16_f32 : FVec Ideal S5632x1024 .bf16) = prod A B := by
  funext y
  obtain ⟨i, j, rfl⟩ := exists_ix2 y
  show _ = ∑ r : Fin 8192, A (ix2 r i) * B (ix2 r j)
  pointwise
  first | done | exact Finset.sum_congr rfl fun _ _ => mul_comm _ _

end Cert.FfnDwIn

end
-- ==== Proof.SsmDwOutValue.lean ====
/-
  The gradient of the state-space layer's output weight: the launch sums the products of the rows of its two arrays;
  what its array holds after the grid, and what the reference computes.
-/
module

public import proofs.«01_k».proof.Proof.AtB
public import proofs.«01_k».proof.Proof.Gen.SsmDwOutIdeal.Value
public import proofs.«01_k».proof.Proof.Gen.SsmDwOutReferenceIdeal.Run

@[expose] public section

set_option maxRecDepth 16384
noncomputable section
open Idealize.ShloMosaic Idealize.ShloMosaic.TcCoe Idealize.SL.Sem Cert.Blocks

namespace Cert.SsmDwOut

open Cert.SsmDwOutIdeal Cert.SsmDwOutIdeal.Gen

/-- The product of the transpose of the first array with the second. -/
abbrev prod (A : S8192x2048.Idx → EReal) (B : S8192x1024.Idx → EReal) : S2048x1024.Idx → EReal := AtB.prod A B

/-- The block product added to the carried block. -/
theorem pay2_apply (a : Vec Ideal S512x2048 .bf16) (acc : Vec Ideal S2048x1024 .f32) (b : Vec Ideal S512x1024 .bf16)
    (p : Fin 2048) (j : Fin 1024) :
    k0_pay2 (F := Ideal) a acc b (ix2 p j) = acc (ix2 p j) + ∑ k : Fin 512, a (ix2 k p) * b (ix2 k j) := by
  unfold k0_pay2
  pointwise

theorem pay1_apply (p : Fin 2048) (j : Fin 1024) : k0_pay1 (F := Ideal) (ix2 p j) = 0 := by
  unfold k0_pay1
  pointwise

section
variable (m : (ℓ : Loc nD τ sig) → Buf (Elt Ideal) ℓ) (c : Dev nD)

abbrev mA : S8192x2048.Idx → EReal := m ((c : Thread nD τ).loc main_arg0)
abbrev mB : S8192x1024.Idx → EReal := m ((c : Thread nD τ).loc main_arg1)

theorem host_0 (r : Fin 8192) (i : Fin 2048) : V m c main_v0 (ix2 r i) = mA m c (ix2 r i) := by
  unfold V hostOps0
  simp only [List.flatten_cons, List.flatten_nil, List.cons_append, List.nil_append, List.append_nil]
  after_reads_at

theorem host_1 (r : Fin 8192) (j : Fin 1024) : V m c main_v1 (ix2 r j) = mB m c (ix2 r j) := by
  unfold V hostOps0
  simp only [List.flatten_cons, List.flatten_nil, List.cons_append, List.nil_append, List.append_nil]
  after_reads_at

theorem point_lt (t : Fin cfg0.N) : t.val < 16 := lt_of_lt_of_eq t.isLt (show cfg0.N = 16 from N_0)

theorem index_0 : ∀ t : Fin cfg0.N, win0_0.index t 0 * 512 = 512 * (t.val % 16) ∧ win0_0.index t 1 * 2048 = 2048 * (t.val / 16) := by decide +kernel
theorem index_1 : ∀ t : Fin cfg0.N, win0_1.index t 0 * 512 = 512 * (t.val % 16) ∧ win0_1.index t 1 * 1024 = 0 := by decide +kernel
theorem index_2 : ∀ t : Fin cfg0.N, win0_2.index t 0 * 2048 = 2048 * (t.val / 16) ∧ win0_2.index t 1 * 1024 = 0 := by decide +kernel

theorem iblk_0 (t : Fin cfg0.N) (k : Fin 512) (p : Fin 2048) (r : Fin 8192) (i : Fin 2048)
    (hr : r.val = 512 * (t.val % 16) + k.val) (hc : i.val = 2048 * (t.val / 16) + p.val) :
    iblk m c 0 t (ix2 k p) = mA m c (ix2 r i) := by
  rw [← host_0]
  unfold iblk
  rw [View.read_apply]
  exact congrArg (V m c main_v0) (eq_ix2_of (index_0 t) rfl rfl hr.symm hc.symm)

theorem iblk_1 (t : Fin cfg0.N) (k : Fin 512) (j : Fin 1024) (r : Fin 8192) (hr : r.val = 512 * (t.val % 16) + k.val) :
    iblk m c 1 t (ix2 k j) = mB m c (ix2 r j) := by
  rw [← host_1]
  unfold iblk
  rw [View.read_apply]
  exact congrArg (V m c main_v1) (eq_ix2_of (index_1 t) rfl rfl hr.symm (Nat.zero_add _))

/-- The scratch after the first point of a tile. -/
theorem acc_A (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out

theorem acc_B (t : Fin cfg0.N) (h0 : ¬t.val % 16 = 0) :
    (outsAt0 m c t.val t.isLt).2
      = k0_pay2 (iblk m c 0 t) (outsAt0 m c (t.val - 1) (Nat.lt_of_le_of_lt (Nat.sub_le _ _) t.isLt)).2 (iblk m c 1 t) := by
  by_cases h1 : t.val % 16 = 15
  · rw [outsAt0_C m c t h0 h1]
    frame_out
    rw [read_unread_whole]
  · rw [outsAt0_B m c t h0 h1]
    frame_out
    rw [read_unread_whole]

theorem out_C (t : Fin cfg0.N) (h0 : ¬t.val % 16 = 0) (h1 : t.val % 16 = 15) :
    (outsAt0 m c t.val t.isLt).1
      = k0_pay3 (k0_pay2 (iblk m c 0 t) (outsAt0 m c (t.val - 1) (Nat.lt_of_le_of_lt (Nat.sub_le _ _) t.isLt)).2 (iblk m c 1 t)) := by
  rw [outsAt0_C m c t h0 h1]
  frame_out
  rw [read_unread_whole]

abbrev b0 (t : Fin cfg0.N) : S512x2048.Idx → EReal := iblk m c 0 t
abbrev b1 (t : Fin cfg0.N) : S512x1024.Idx → EReal := iblk m c 1 t

/-- The scratch holds the rows of its tile met so far. -/
theorem acc_eq (t : Fin cfg0.N) (p : Fin 2048) (j : Fin 1024) (i : Fin 2048) (hc : i.val = 2048 * (t.val / 16) + p.val) :
    (outsAt0 m c t.val t.isLt).2 (ix2 p j) = ∑ r ∈ Finset.range (512 * (t.val % 16 + 1)), AtB.term (mA m c) (mB m c) i j r := by
  refine AtB.rows (b0 m c) (b1 m c) (fun n hn => (outsAt0 m c n hn).2) (iblk_0 m c) (iblk_1 m c) (fun t h0 p j => ?_)
    (fun t h0 p j => ?_) t.val t.isLt p j i hc
  · rw [acc_A m c t h0 (by omega)]
    refine (pay2_apply (b0 m c t) _ (b1 m c t) p j).trans ?_
    rw [pay1_apply]
  · rw [acc_B m c t h0]
    exact pay2_apply (b0 m c t) _ (b1 m c t) p j

/-- The block written back after the last point of a tile. -/
theorem out_eq (t : Fin cfg0.N) (h1 : t.val % 16 = 15) (p : Fin 2048) (j : Fin 1024) (i : Fin 2048)
    (hc : i.val = 2048 * (t.val / 16) + p.val) :
    (outsAt0 m c t.val t.isLt).1 (ix2 p j) = prod (mA m c) (mB m c) (ix2 i j) := by
  have h0 : ¬t.val % 16 = 0 := by omega
  have e := acc_eq m c t p j i hc
  rw [acc_B m c t h0, h1] at e
  rw [out_C m c t h0 h1]
  exact e.trans (AtB.prod_eq i j).symm

theorem emb_2 (t : Fin cfg0.N) (p : Fin 2048) (j : Fin 1024) (i : Fin 2048) (hc : i.val = 2048 * (t.val / 16) + p.val) :
    ((cfg0.win 2).blk t).view.emb (ix2 p j) = (ix2 i j : S2048x1024.Idx) :=
  eq_ix2_of (index_2 t) rfl rfl hc.symm (Nat.zero_add _)

theorem final_2 : (dats m 0 c).arrAt 2 cfg0.N = prod (mA m c) (mB m c) := by
  refine (dats m 0 c).arrAt_eq_of_cover 2 (prod (mA m c) (mB m c)) (fun t hf => ?_) fun y => ?_
  · have ht := point_lt t
    rw [Cert.SsmDwOutIdeal.Value.flushed2]
    funext y
    obtain ⟨p, j, rfl⟩ := exists_ix2 y
    obtain ⟨i, hi⟩ : ∃ i : Fin 2048, i.val = 2048 * (t.val / 16) + p.val := ⟨⟨2048 * (t.val / 16) + p.val, by omega⟩, rfl⟩
    rw [View.read_apply, emb_2 t p j i hi]
    exact out_eq m c t ((flush0_2 t).mp hf) p j i hi
  · obtain ⟨i, j, rfl⟩ := exists_ix2 y
    have hN : 16 * (i.val / 2048) + 15 < cfg0.N := by rw [show cfg0.N = 16 from N_0]; omega
    obtain ⟨t, ht⟩ : ∃ t : Fin cfg0.N, t.val = 16 * (i.val / 2048) + 15 := ⟨⟨_, hN⟩, rfl⟩
    refine ⟨t, (flush0_2 t).mpr (by omega), ?_⟩
    rw [← emb_2 t ⟨i.val % 2048, Nat.mod_lt _ (by decide)⟩ j i (by show i.val = 2048 * (t.val / 16) + i.val % 2048; omega)]
    exact View.emb_mem_set _ _

theorem kernel_run (ρ : Dev nD → PrngReg) : θ_run defs (onTc (τ := τ) (main (F := Ideal))) ⟨m, fun _ => 0, ρ⟩ fun r => ∀ c : Dev nD,
      r.2.mem ((c : Thread nD τ).loc main_v2) = prod (mA m c) (mB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.SsmDwOutIdeal.Value.run_blocks m ρ)
end

end Cert.SsmDwOut

namespace Cert.SsmDwOut

open Cert.SsmDwOutReferenceIdeal Cert.SsmDwOutReferenceIdeal.Gen

/-- The reference's result is the same product. -/
theorem reference_eq (A : FVec Ideal S8192x2048 .f32) (B : FVec Ideal S8192x1024 .f32) :
    (truncf .bf16 (transpose S2048x1024 [1, 0] (Host.dotGeneral dot_S8192x1024_S8192x2048_S1024x2048_0_0_1_1_n_n none B A) transposes_S1024x2048_S2048x1024_1_0) bitsLt_bf16_f32 : FVec Ideal S2048x1024 .bf16) = prod A B := by
  funext y
  obtain ⟨i, j, rfl⟩ := exists_ix2 y
  show _ = ∑ r : Fin 8192, A (ix2 r i) * B (ix2 r j)
  pointwise
  first | done | exact Finset.sum_congr rfl fun _ _ => mul_comm _ _

end Cert.SsmDwOut

end
-- ==== Proof.SsmDwZValue.lean ====
/-
  The gradient of the gate's columns of the state-space layer's input weight: the launch sums the products of the rows of its two arrays;
  what its array holds after the grid, and what the reference computes.
-/
module

public import proofs.«01_k».proof.Proof.AtB
public import proofs.«01_k».proof.Proof.Gen.SsmDwZIdeal.Value
public import proofs.«01_k».proof.Proof.Gen.SsmDwZReferenceIdeal.Run

@[expose] public section

set_option maxRecDepth 16384
noncomputable section
open Idealize.ShloMosaic Idealize.ShloMosaic.TcCoe Idealize.SL.Sem Cert.Blocks

namespace Cert.SsmDwZ

open Cert.SsmDwZIdeal Cert.SsmDwZIdeal.Gen

/-- The product of the transpose of the first array with the second. -/
abbrev prod (A : S8192x2048.Idx → EReal) (B : S8192x1024.Idx → EReal) : S2048x1024.Idx → EReal := AtB.prod A B

/-- The block product added to the carried block. -/
theorem pay2_apply (a : Vec Ideal S512x2048 .bf16) (acc : Vec Ideal S2048x1024 .f32) (b : Vec Ideal S512x1024 .bf16)
    (p : Fin 2048) (j : Fin 1024) :
    k0_pay2 (F := Ideal) a acc b (ix2 p j) = acc (ix2 p j) + ∑ k : Fin 512, a (ix2 k p) * b (ix2 k j) := by
  unfold k0_pay2
  pointwise

theorem pay1_apply (p : Fin 2048) (j : Fin 1024) : k0_pay1 (F := Ideal) (ix2 p j) = 0 := by
  unfold k0_pay1
  pointwise

section
variable (m : (ℓ : Loc nD τ sig) → Buf (Elt Ideal) ℓ) (c : Dev nD)

abbrev mA : S8192x2048.Idx → EReal := m ((c : Thread nD τ).loc main_arg0)
abbrev mB : S8192x1024.Idx → EReal := m ((c : Thread nD τ).loc main_arg1)

theorem host_0 (r : Fin 8192) (i : Fin 2048) : V m c main_v0 (ix2 r i) = mA m c (ix2 r i) := by
  unfold V hostOps0
  simp only [List.flatten_cons, List.flatten_nil, List.cons_append, List.nil_append, List.append_nil]
  after_reads_at

theorem host_1 (r : Fin 8192) (j : Fin 1024) : V m c main_v1 (ix2 r j) = mB m c (ix2 r j) := by
  unfold V hostOps0
  simp only [List.flatten_cons, List.flatten_nil, List.cons_append, List.nil_append, List.append_nil]
  after_reads_at

theorem point_lt (t : Fin cfg0.N) : t.val < 16 := lt_of_lt_of_eq t.isLt (show cfg0.N = 16 from N_0)

theorem index_0 : ∀ t : Fin cfg0.N, win0_0.index t 0 * 512 = 512 * (t.val % 16) ∧ win0_0.index t 1 * 2048 = 2048 * (t.val / 16) := by decide +kernel
theorem index_1 : ∀ t : Fin cfg0.N, win0_1.index t 0 * 512 = 512 * (t.val % 16) ∧ win0_1.index t 1 * 1024 = 0 := by decide +kernel
theorem index_2 : ∀ t : Fin cfg0.N, win0_2.index t 0 * 2048 = 2048 * (t.val / 16) ∧ win0_2.index t 1 * 1024 = 0 := by decide +kernel

theorem iblk_0 (t : Fin cfg0.N) (k : Fin 512) (p : Fin 2048) (r : Fin 8192) (i : Fin 2048)
    (hr : r.val = 512 * (t.val % 16) + k.val) (hc : i.val = 2048 * (t.val / 16) + p.val) :
    iblk m c 0 t (ix2 k p) = mA m c (ix2 r i) := by
  rw [← host_0]
  unfold iblk
  rw [View.read_apply]
  exact congrArg (V m c main_v0) (eq_ix2_of (index_0 t) rfl rfl hr.symm hc.symm)

theorem iblk_1 (t : Fin cfg0.N) (k : Fin 512) (j : Fin 1024) (r : Fin 8192) (hr : r.val = 512 * (t.val % 16) + k.val) :
    iblk m c 1 t (ix2 k j) = mB m c (ix2 r j) := by
  rw [← host_1]
  unfold iblk
  rw [View.read_apply]
  exact congrArg (V m c main_v1) (eq_ix2_of (index_1 t) rfl rfl hr.symm (Nat.zero_add _))

/-- The scratch after the first point of a tile. -/
theorem acc_A (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out

theorem acc_B (t : Fin cfg0.N) (h0 : ¬t.val % 16 = 0) :
    (outsAt0 m c t.val t.isLt).2
      = k0_pay2 (iblk m c 0 t) (outsAt0 m c (t.val - 1) (Nat.lt_of_le_of_lt (Nat.sub_le _ _) t.isLt)).2 (iblk m c 1 t) := by
  by_cases h1 : t.val % 16 = 15
  · rw [outsAt0_C m c t h0 h1]
    frame_out
    rw [read_unread_whole]
  · rw [outsAt0_B m c t h0 h1]
    frame_out
    rw [read_unread_whole]

theorem out_C (t : Fin cfg0.N) (h0 : ¬t.val % 16 = 0) (h1 : t.val % 16 = 15) :
    (outsAt0 m c t.val t.isLt).1
      = k0_pay3 (k0_pay2 (iblk m c 0 t) (outsAt0 m c (t.val - 1) (Nat.lt_of_le_of_lt (Nat.sub_le _ _) t.isLt)).2 (iblk m c 1 t)) := by
  rw [outsAt0_C m c t h0 h1]
  frame_out
  rw [read_unread_whole]

abbrev b0 (t : Fin cfg0.N) : S512x2048.Idx → EReal := iblk m c 0 t
abbrev b1 (t : Fin cfg0.N) : S512x1024.Idx → EReal := iblk m c 1 t

/-- The scratch holds the rows of its tile met so far. -/
theorem acc_eq (t : Fin cfg0.N) (p : Fin 2048) (j : Fin 1024) (i : Fin 2048) (hc : i.val = 2048 * (t.val / 16) + p.val) :
    (outsAt0 m c t.val t.isLt).2 (ix2 p j) = ∑ r ∈ Finset.range (512 * (t.val % 16 + 1)), AtB.term (mA m c) (mB m c) i j r := by
  refine AtB.rows (b0 m c) (b1 m c) (fun n hn => (outsAt0 m c n hn).2) (iblk_0 m c) (iblk_1 m c) (fun t h0 p j => ?_)
    (fun t h0 p j => ?_) t.val t.isLt p j i hc
  · rw [acc_A m c t h0 (by omega)]
    refine (pay2_apply (b0 m c t) _ (b1 m c t) p j).trans ?_
    rw [pay1_apply]
  · rw [acc_B m c t h0]
    exact pay2_apply (b0 m c t) _ (b1 m c t) p j

/-- The block written back after the last point of a tile. -/
theorem out_eq (t : Fin cfg0.N) (h1 : t.val % 16 = 15) (p : Fin 2048) (j : Fin 1024) (i : Fin 2048)
    (hc : i.val = 2048 * (t.val / 16) + p.val) :
    (outsAt0 m c t.val t.isLt).1 (ix2 p j) = prod (mA m c) (mB m c) (ix2 i j) := by
  have h0 : ¬t.val % 16 = 0 := by omega
  have e := acc_eq m c t p j i hc
  rw [acc_B m c t h0, h1] at e
  rw [out_C m c t h0 h1]
  exact e.trans (AtB.prod_eq i j).symm

theorem emb_2 (t : Fin cfg0.N) (p : Fin 2048) (j : Fin 1024) (i : Fin 2048) (hc : i.val = 2048 * (t.val / 16) + p.val) :
    ((cfg0.win 2).blk t).view.emb (ix2 p j) = (ix2 i j : S2048x1024.Idx) :=
  eq_ix2_of (index_2 t) rfl rfl hc.symm (Nat.zero_add _)

theorem final_2 : (dats m 0 c).arrAt 2 cfg0.N = prod (mA m c) (mB m c) := by
  refine (dats m 0 c).arrAt_eq_of_cover 2 (prod (mA m c) (mB m c)) (fun t hf => ?_) fun y => ?_
  · have ht := point_lt t
    rw [Cert.SsmDwZIdeal.Value.flushed2]
    funext y
    obtain ⟨p, j, rfl⟩ := exists_ix2 y
    obtain ⟨i, hi⟩ : ∃ i : Fin 2048, i.val = 2048 * (t.val / 16) + p.val := ⟨⟨2048 * (t.val / 16) + p.val, by omega⟩, rfl⟩
    rw [View.read_apply, emb_2 t p j i hi]
    exact out_eq m c t ((flush0_2 t).mp hf) p j i hi
  · obtain ⟨i, j, rfl⟩ := exists_ix2 y
    have hN : 16 * (i.val / 2048) + 15 < cfg0.N := by rw [show cfg0.N = 16 from N_0]; omega
    obtain ⟨t, ht⟩ : ∃ t : Fin cfg0.N, t.val = 16 * (i.val / 2048) + 15 := ⟨⟨_, hN⟩, rfl⟩
    refine ⟨t, (flush0_2 t).mpr (by omega), ?_⟩
    rw [← emb_2 t ⟨i.val % 2048, Nat.mod_lt _ (by decide)⟩ j i (by show i.val = 2048 * (t.val / 16) + i.val % 2048; omega)]
    exact View.emb_mem_set _ _

theorem kernel_run (ρ : Dev nD → PrngReg) : θ_run defs (onTc (τ := τ) (main (F := Ideal))) ⟨m, fun _ => 0, ρ⟩ fun r => ∀ c : Dev nD,
      r.2.mem ((c : Thread nD τ).loc main_v2) = prod (mA m c) (mB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.SsmDwZIdeal.Value.run_blocks m ρ)
end

end Cert.SsmDwZ

namespace Cert.SsmDwZ

open Cert.SsmDwZReferenceIdeal Cert.SsmDwZReferenceIdeal.Gen

/-- The reference's result is the same product. -/
theorem reference_eq (A : FVec Ideal S8192x2048 .f32) (B : FVec Ideal S8192x1024 .f32) :
    (truncf .bf16 (transpose S2048x1024 [1, 0] (transpose S1024x2048 [1, 0] (Host.dotGeneral dot_S8192x2048_S8192x1024_S2048x1024_0_0_1_1_n_n none A B) transposes_S2048x1024_S1024x2048_1_0) transposes_S1024x2048_S2048x1024_1_0) bitsLt_bf16_f32 : FVec Ideal S2048x1024 .bf16) = prod A B := by
  funext y
  obtain ⟨i, j, rfl⟩ := exists_ix2 y
  show _ = ∑ r : Fin 8192, A (ix2 r i) * B (ix2 r j)
  pointwise
  first | done | exact Finset.sum_congr rfl fun _ _ => mul_comm _ _

end Cert.SsmDwZ

end
-- ==== Proof.SsmDwXValue.lean ====
/-
  The gradient of the convolved columns of the state-space layer's input weight: the launch sums the products of the rows of its two arrays;
  what its array holds after the grid, and what the reference computes.
-/
module

public import proofs.«01_k».proof.Proof.AtB
public import proofs.«01_k».proof.Proof.Gen.SsmDwXIdeal.Value
public import proofs.«01_k».proof.Proof.Gen.SsmDwXReferenceIdeal.Run

@[expose] public section

set_option maxRecDepth 16384
noncomputable section
open Idealize.ShloMosaic Idealize.ShloMosaic.TcCoe Idealize.SL.Sem Cert.Blocks

namespace Cert.SsmDwX

open Cert.SsmDwXIdeal Cert.SsmDwXIdeal.Gen

/-- The product of the transpose of the first array with the second. -/
abbrev prod (A : S8192x3072.Idx → EReal) (B : S8192x1024.Idx → EReal) : S3072x1024.Idx → EReal := AtB.prod A B

/-- The block product added to the carried block. -/
theorem pay2_apply (a : Vec Ideal S512x3072 .bf16) (acc : Vec Ideal S3072x1024 .f32) (b : Vec Ideal S512x1024 .bf16)
    (p : Fin 3072) (j : Fin 1024) :
    k0_pay2 (F := Ideal) a acc b (ix2 p j) = acc (ix2 p j) + ∑ k : Fin 512, a (ix2 k p) * b (ix2 k j) := by
  unfold k0_pay2
  pointwise

theorem pay1_apply (p : Fin 3072) (j : Fin 1024) : k0_pay1 (F := Ideal) (ix2 p j) = 0 := by
  unfold k0_pay1
  pointwise

section
variable (m : (ℓ : Loc nD τ sig) → Buf (Elt Ideal) ℓ) (c : Dev nD)

abbrev mA : S8192x3072.Idx → EReal := m ((c : Thread nD τ).loc main_arg0)
abbrev mB : S8192x1024.Idx → EReal := m ((c : Thread nD τ).loc main_arg1)

theorem host_0 (r : Fin 8192) (i : Fin 3072) : V m c main_v0 (ix2 r i) = mA m c (ix2 r i) := by
  unfold V hostOps0
  simp only [List.flatten_cons, List.flatten_nil, List.cons_append, List.nil_append, List.append_nil]
  after_reads_at

theorem host_1 (r : Fin 8192) (j : Fin 1024) : V m c main_v1 (ix2 r j) = mB m c (ix2 r j) := by
  unfold V hostOps0
  simp only [List.flatten_cons, List.flatten_nil, List.cons_append, List.nil_append, List.append_nil]
  after_reads_at

theorem point_lt (t : Fin cfg0.N) : t.val < 16 := lt_of_lt_of_eq t.isLt (show cfg0.N = 16 from N_0)

theorem index_0 : ∀ t : Fin cfg0.N, win0_0.index t 0 * 512 = 512 * (t.val % 16) ∧ win0_0.index t 1 * 3072 = 3072 * (t.val / 16) := by decide +kernel
theorem index_1 : ∀ t : Fin cfg0.N, win0_1.index t 0 * 512 = 512 * (t.val % 16) ∧ win0_1.index t 1 * 1024 = 0 := by decide +kernel
theorem index_2 : ∀ t : Fin cfg0.N, win0_2.index t 0 * 3072 = 3072 * (t.val / 16) ∧ win0_2.index t 1 * 1024 = 0 := by decide +kernel

theorem iblk_0 (t : Fin cfg0.N) (k : Fin 512) (p : Fin 3072) (r : Fin 8192) (i : Fin 3072)
    (hr : r.val = 512 * (t.val % 16) + k.val) (hc : i.val = 3072 * (t.val / 16) + p.val) :
    iblk m c 0 t (ix2 k p) = mA m c (ix2 r i) := by
  rw [← host_0]
  unfold iblk
  rw [View.read_apply]
  exact congrArg (V m c main_v0) (eq_ix2_of (index_0 t) rfl rfl hr.symm hc.symm)

theorem iblk_1 (t : Fin cfg0.N) (k : Fin 512) (j : Fin 1024) (r : Fin 8192) (hr : r.val = 512 * (t.val % 16) + k.val) :
    iblk m c 1 t (ix2 k j) = mB m c (ix2 r j) := by
  rw [← host_1]
  unfold iblk
  rw [View.read_apply]
  exact congrArg (V m c main_v1) (eq_ix2_of (index_1 t) rfl rfl hr.symm (Nat.zero_add _))

/-- The scratch after the first point of a tile. -/
theorem acc_A (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out

theorem acc_B (t : Fin cfg0.N) (h0 : ¬t.val % 16 = 0) :
    (outsAt0 m c t.val t.isLt).2
      = k0_pay2 (iblk m c 0 t) (outsAt0 m c (t.val - 1) (Nat.lt_of_le_of_lt (Nat.sub_le _ _) t.isLt)).2 (iblk m c 1 t) := by
  by_cases h1 : t.val % 16 = 15
  · rw [outsAt0_C m c t h0 h1]
    frame_out
    rw [read_unread_whole]
  · rw [outsAt0_B m c t h0 h1]
    frame_out
    rw [read_unread_whole]

theorem out_C (t : Fin cfg0.N) (h0 : ¬t.val % 16 = 0) (h1 : t.val % 16 = 15) :
    (outsAt0 m c t.val t.isLt).1
      = k0_pay3 (k0_pay2 (iblk m c 0 t) (outsAt0 m c (t.val - 1) (Nat.lt_of_le_of_lt (Nat.sub_le _ _) t.isLt)).2 (iblk m c 1 t)) := by
  rw [outsAt0_C m c t h0 h1]
  frame_out
  rw [read_unread_whole]

abbrev b0 (t : Fin cfg0.N) : S512x3072.Idx → EReal := iblk m c 0 t
abbrev b1 (t : Fin cfg0.N) : S512x1024.Idx → EReal := iblk m c 1 t

/-- The scratch holds the rows of its tile met so far. -/
theorem acc_eq (t : Fin cfg0.N) (p : Fin 3072) (j : Fin 1024) (i : Fin 3072) (hc : i.val = 3072 * (t.val / 16) + p.val) :
    (outsAt0 m c t.val t.isLt).2 (ix2 p j) = ∑ r ∈ Finset.range (512 * (t.val % 16 + 1)), AtB.term (mA m c) (mB m c) i j r := by
  refine AtB.rows (b0 m c) (b1 m c) (fun n hn => (outsAt0 m c n hn).2) (iblk_0 m c) (iblk_1 m c) (fun t h0 p j => ?_)
    (fun t h0 p j => ?_) t.val t.isLt p j i hc
  · rw [acc_A m c t h0 (by omega)]
    refine (pay2_apply (b0 m c t) _ (b1 m c t) p j).trans ?_
    rw [pay1_apply]
  · rw [acc_B m c t h0]
    exact pay2_apply (b0 m c t) _ (b1 m c t) p j

/-- The block written back after the last point of a tile. -/
theorem out_eq (t : Fin cfg0.N) (h1 : t.val % 16 = 15) (p : Fin 3072) (j : Fin 1024) (i : Fin 3072)
    (hc : i.val = 3072 * (t.val / 16) + p.val) :
    (outsAt0 m c t.val t.isLt).1 (ix2 p j) = prod (mA m c) (mB m c) (ix2 i j) := by
  have h0 : ¬t.val % 16 = 0 := by omega
  have e := acc_eq m c t p j i hc
  rw [acc_B m c t h0, h1] at e
  rw [out_C m c t h0 h1]
  exact e.trans (AtB.prod_eq i j).symm

theorem emb_2 (t : Fin cfg0.N) (p : Fin 3072) (j : Fin 1024) (i : Fin 3072) (hc : i.val = 3072 * (t.val / 16) + p.val) :
    ((cfg0.win 2).blk t).view.emb (ix2 p j) = (ix2 i j : S3072x1024.Idx) :=
  eq_ix2_of (index_2 t) rfl rfl hc.symm (Nat.zero_add _)

theorem final_2 : (dats m 0 c).arrAt 2 cfg0.N = prod (mA m c) (mB m c) := by
  refine (dats m 0 c).arrAt_eq_of_cover 2 (prod (mA m c) (mB m c)) (fun t hf => ?_) fun y => ?_
  · have ht := point_lt t
    rw [Cert.SsmDwXIdeal.Value.flushed2]
    funext y
    obtain ⟨p, j, rfl⟩ := exists_ix2 y
    obtain ⟨i, hi⟩ : ∃ i : Fin 3072, i.val = 3072 * (t.val / 16) + p.val := ⟨⟨3072 * (t.val / 16) + p.val, by omega⟩, rfl⟩
    rw [View.read_apply, emb_2 t p j i hi]
    exact out_eq m c t ((flush0_2 t).mp hf) p j i hi
  · obtain ⟨i, j, rfl⟩ := exists_ix2 y
    have hN : 16 * (i.val / 3072) + 15 < cfg0.N := by rw [show cfg0.N = 16 from N_0]; omega
    obtain ⟨t, ht⟩ : ∃ t : Fin cfg0.N, t.val = 16 * (i.val / 3072) + 15 := ⟨⟨_, hN⟩, rfl⟩
    refine ⟨t, (flush0_2 t).mpr (by omega), ?_⟩
    rw [← emb_2 t ⟨i.val % 3072, Nat.mod_lt _ (by decide)⟩ j i (by show i.val = 3072 * (t.val / 16) + i.val % 3072; omega)]
    exact View.emb_mem_set _ _

theorem kernel_run (ρ : Dev nD → PrngReg) : θ_run defs (onTc (τ := τ) (main (F := Ideal))) ⟨m, fun _ => 0, ρ⟩ fun r => ∀ c : Dev nD,
      r.2.mem ((c : Thread nD τ).loc main_v2) = prod (mA m c) (mB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.SsmDwXIdeal.Value.run_blocks m ρ)
end

end Cert.SsmDwX

namespace Cert.SsmDwX

open Cert.SsmDwXReferenceIdeal Cert.SsmDwXReferenceIdeal.Gen

/-- The reference's result is the same product. -/
theorem reference_eq (A : FVec Ideal S8192x3072 .f32) (B : FVec Ideal S8192x1024 .f32) :
    (truncf .bf16 (transpose S3072x1024 [1, 0] (transpose S1024x3072 [1, 0] (Host.dotGeneral dot_S8192x3072_S8192x1024_S3072x1024_0_0_1_1_n_n none A B) transposes_S3072x1024_S1024x3072_1_0) transposes_S1024x3072_S3072x1024_1_0) bitsLt_bf16_f32 : FVec Ideal S3072x1024 .bf16) = prod A B := by
  funext y
  obtain ⟨i, j, rfl⟩ := exists_ix2 y
  show _ = ∑ r : Fin 8192, A (ix2 r i) * B (ix2 r j)
  pointwise
  first | done | exact Finset.sum_congr rfl fun _ _ => mul_comm _ _

end Cert.SsmDwX

end
-- ==== Proof.AttnDwInValue.lean ====
/-
  The gradient of the attention layer's input weight: the launch sums the products of the rows of its two arrays;
  what its array holds after the grid, and what the reference computes.
-/
module

public import proofs.«01_k».proof.Proof.AtB
public import proofs.«01_k».proof.Proof.Gen.AttnDwInIdeal.Value
public import proofs.«01_k».proof.Proof.Gen.AttnDwInReferenceIdeal.Run

@[expose] public section

set_option maxRecDepth 16384
noncomputable section
open Idealize.ShloMosaic Idealize.ShloMosaic.TcCoe Idealize.SL.Sem Cert.Blocks

namespace Cert.AttnDwIn

open Cert.AttnDwInIdeal Cert.AttnDwInIdeal.Gen

/-- The product of the transpose of the first array with the second. -/
abbrev prod (A : S8192x2304.Idx → EReal) (B : S8192x1024.Idx → EReal) : S2304x1024.Idx → EReal := AtB.prod A B

/-- The block product added to the carried block. -/
theorem pay2_apply (a : Vec Ideal S512x2304 .bf16) (acc : Vec Ideal S2304x1024 .f32) (b : Vec Ideal S512x1024 .bf16)
    (p : Fin 2304) (j : Fin 1024) :
    k0_pay2 (F := Ideal) a acc b (ix2 p j) = acc (ix2 p j) + ∑ k : Fin 512, a (ix2 k p) * b (ix2 k j) := by
  unfold k0_pay2
  pointwise

theorem pay1_apply (p : Fin 2304) (j : Fin 1024) : k0_pay1 (F := Ideal) (ix2 p j) = 0 := by
  unfold k0_pay1
  pointwise

section
variable (m : (ℓ : Loc nD τ sig) → Buf (Elt Ideal) ℓ) (c : Dev nD)

abbrev mA : S8192x2304.Idx → EReal := m ((c : Thread nD τ).loc main_arg0)
abbrev mB : S8192x1024.Idx → EReal := m ((c : Thread nD τ).loc main_arg1)

theorem host_0 (r : Fin 8192) (i : Fin 2304) : V m c main_v0 (ix2 r i) = mA m c (ix2 r i) := by
  unfold V hostOps0
  simp only [List.flatten_cons, List.flatten_nil, List.cons_append, List.nil_append, List.append_nil]
  after_reads_at

theorem host_1 (r : Fin 8192) (j : Fin 1024) : V m c main_v1 (ix2 r j) = mB m c (ix2 r j) := by
  unfold V hostOps0
  simp only [List.flatten_cons, List.flatten_nil, List.cons_append, List.nil_append, List.append_nil]
  after_reads_at

theorem point_lt (t : Fin cfg0.N) : t.val < 16 := lt_of_lt_of_eq t.isLt (show cfg0.N = 16 from N_0)

theorem index_0 : ∀ t : Fin cfg0.N, win0_0.index t 0 * 512 = 512 * (t.val % 16) ∧ win0_0.index t 1 * 2304 = 2304 * (t.val / 16) := by decide +kernel
theorem index_1 : ∀ t : Fin cfg0.N, win0_1.index t 0 * 512 = 512 * (t.val % 16) ∧ win0_1.index t 1 * 1024 = 0 := by decide +kernel
theorem index_2 : ∀ t : Fin cfg0.N, win0_2.index t 0 * 2304 = 2304 * (t.val / 16) ∧ win0_2.index t 1 * 1024 = 0 := by decide +kernel

theorem iblk_0 (t : Fin cfg0.N) (k : Fin 512) (p : Fin 2304) (r : Fin 8192) (i : Fin 2304)
    (hr : r.val = 512 * (t.val % 16) + k.val) (hc : i.val = 2304 * (t.val / 16) + p.val) :
    iblk m c 0 t (ix2 k p) = mA m c (ix2 r i) := by
  rw [← host_0]
  unfold iblk
  rw [View.read_apply]
  exact congrArg (V m c main_v0) (eq_ix2_of (index_0 t) rfl rfl hr.symm hc.symm)

theorem iblk_1 (t : Fin cfg0.N) (k : Fin 512) (j : Fin 1024) (r : Fin 8192) (hr : r.val = 512 * (t.val % 16) + k.val) :
    iblk m c 1 t (ix2 k j) = mB m c (ix2 r j) := by
  rw [← host_1]
  unfold iblk
  rw [View.read_apply]
  exact congrArg (V m c main_v1) (eq_ix2_of (index_1 t) rfl rfl hr.symm (Nat.zero_add _))

/-- The scratch after the first point of a tile. -/
theorem acc_A (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out

theorem acc_B (t : Fin cfg0.N) (h0 : ¬t.val % 16 = 0) :
    (outsAt0 m c t.val t.isLt).2
      = k0_pay2 (iblk m c 0 t) (outsAt0 m c (t.val - 1) (Nat.lt_of_le_of_lt (Nat.sub_le _ _) t.isLt)).2 (iblk m c 1 t) := by
  by_cases h1 : t.val % 16 = 15
  · rw [outsAt0_C m c t h0 h1]
    frame_out
    rw [read_unread_whole]
  · rw [outsAt0_B m c t h0 h1]
    frame_out
    rw [read_unread_whole]

theorem out_C (t : Fin cfg0.N) (h0 : ¬t.val % 16 = 0) (h1 : t.val % 16 = 15) :
    (outsAt0 m c t.val t.isLt).1
      = k0_pay3 (k0_pay2 (iblk m c 0 t) (outsAt0 m c (t.val - 1) (Nat.lt_of_le_of_lt (Nat.sub_le _ _) t.isLt)).2 (iblk m c 1 t)) := by
  rw [outsAt0_C m c t h0 h1]
  frame_out
  rw [read_unread_whole]

abbrev b0 (t : Fin cfg0.N) : S512x2304.Idx → EReal := iblk m c 0 t
abbrev b1 (t : Fin cfg0.N) : S512x1024.Idx → EReal := iblk m c 1 t

/-- The scratch holds the rows of its tile met so far. -/
theorem acc_eq (t : Fin cfg0.N) (p : Fin 2304) (j : Fin 1024) (i : Fin 2304) (hc : i.val = 2304 * (t.val / 16) + p.val) :
    (outsAt0 m c t.val t.isLt).2 (ix2 p j) = ∑ r ∈ Finset.range (512 * (t.val % 16 + 1)), AtB.term (mA m c) (mB m c) i j r := by
  refine AtB.rows (b0 m c) (b1 m c) (fun n hn => (outsAt0 m c n hn).2) (iblk_0 m c) (iblk_1 m c) (fun t h0 p j => ?_)
    (fun t h0 p j => ?_) t.val t.isLt p j i hc
  · rw [acc_A m c t h0 (by omega)]
    refine (pay2_apply (b0 m c t) _ (b1 m c t) p j).trans ?_
    rw [pay1_apply]
  · rw [acc_B m c t h0]
    exact pay2_apply (b0 m c t) _ (b1 m c t) p j

/-- The block written back after the last point of a tile. -/
theorem out_eq (t : Fin cfg0.N) (h1 : t.val % 16 = 15) (p : Fin 2304) (j : Fin 1024) (i : Fin 2304)
    (hc : i.val = 2304 * (t.val / 16) + p.val) :
    (outsAt0 m c t.val t.isLt).1 (ix2 p j) = prod (mA m c) (mB m c) (ix2 i j) := by
  have h0 : ¬t.val % 16 = 0 := by omega
  have e := acc_eq m c t p j i hc
  rw [acc_B m c t h0, h1] at e
  rw [out_C m c t h0 h1]
  exact e.trans (AtB.prod_eq i j).symm

theorem emb_2 (t : Fin cfg0.N) (p : Fin 2304) (j : Fin 1024) (i : Fin 2304) (hc : i.val = 2304 * (t.val / 16) + p.val) :
    ((cfg0.win 2).blk t).view.emb (ix2 p j) = (ix2 i j : S2304x1024.Idx) :=
  eq_ix2_of (index_2 t) rfl rfl hc.symm (Nat.zero_add _)

theorem final_2 : (dats m 0 c).arrAt 2 cfg0.N = prod (mA m c) (mB m c) := by
  refine (dats m 0 c).arrAt_eq_of_cover 2 (prod (mA m c) (mB m c)) (fun t hf => ?_) fun y => ?_
  · have ht := point_lt t
    rw [Cert.AttnDwInIdeal.Value.flushed2]
    funext y
    obtain ⟨p, j, rfl⟩ := exists_ix2 y
    obtain ⟨i, hi⟩ : ∃ i : Fin 2304, i.val = 2304 * (t.val / 16) + p.val := ⟨⟨2304 * (t.val / 16) + p.val, by omega⟩, rfl⟩
    rw [View.read_apply, emb_2 t p j i hi]
    exact out_eq m c t ((flush0_2 t).mp hf) p j i hi
  · obtain ⟨i, j, rfl⟩ := exists_ix2 y
    have hN : 16 * (i.val / 2304) + 15 < cfg0.N := by rw [show cfg0.N = 16 from N_0]; omega
    obtain ⟨t, ht⟩ : ∃ t : Fin cfg0.N, t.val = 16 * (i.val / 2304) + 15 := ⟨⟨_, hN⟩, rfl⟩
    refine ⟨t, (flush0_2 t).mpr (by omega), ?_⟩
    rw [← emb_2 t ⟨i.val % 2304, Nat.mod_lt _ (by decide)⟩ j i (by show i.val = 2304 * (t.val / 16) + i.val % 2304; omega)]
    exact View.emb_mem_set _ _

theorem kernel_run (ρ : Dev nD → PrngReg) : θ_run defs (onTc (τ := τ) (main (F := Ideal))) ⟨m, fun _ => 0, ρ⟩ fun r => ∀ c : Dev nD,
      r.2.mem ((c : Thread nD τ).loc main_v2) = prod (mA m c) (mB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.AttnDwInIdeal.Value.run_blocks m ρ)
end

end Cert.AttnDwIn

namespace Cert.AttnDwIn

open Cert.AttnDwInReferenceIdeal Cert.AttnDwInReferenceIdeal.Gen

/-- The reference's result is the same product. -/
theorem reference_eq (A : FVec Ideal S8192x2304 .f32) (B : FVec Ideal S8192x1024 .f32) :
    (truncf .bf16 (transpose S2304x1024 [1, 0] (transpose S1024x2304 [1, 0] (Host.dotGeneral dot_S8192x2304_S8192x1024_S2304x1024_0_0_1_1_n_n none A B) transposes_S2304x1024_S1024x2304_1_0) transposes_S1024x2304_S2304x1024_1_0) bitsLt_bf16_f32 : FVec Ideal S2304x1024 .bf16) = prod A B := by
  funext y
  obtain ⟨i, j, rfl⟩ := exists_ix2 y
  show _ = ∑ r : Fin 8192, A (ix2 r i) * B (ix2 r j)
  pointwise
  first | done | exact Finset.sum_congr rfl fun _ _ => mul_comm _ _

end Cert.AttnDwIn

end
-- ==== Proof.AttnDwOutValue.lean ====
/-
  The gradient of half of the attention layer's output weight: the launch sums the products of the rows of its two arrays;
  what its array holds after the grid, and what the reference computes.
-/
module

public import proofs.«01_k».proof.Proof.AtB
public import proofs.«01_k».proof.Proof.Gen.AttnDwOutIdeal.Value
public import proofs.«01_k».proof.Proof.Gen.AttnDwOutReferenceIdeal.Run

@[expose] public section

set_option maxRecDepth 16384
noncomputable section
open Idealize.ShloMosaic Idealize.ShloMosaic.TcCoe Idealize.SL.Sem Cert.Blocks

namespace Cert.AttnDwOut

open Cert.AttnDwOutIdeal Cert.AttnDwOutIdeal.Gen

/-- The product of the transpose of the first array with the second. -/
abbrev prod (A : S8192x512.Idx → EReal) (B : S8192x1024.Idx → EReal) : S512x1024.Idx → EReal := AtB.prod A B

/-- The block product added to the carried block. -/
theorem pay2_apply (a : Vec Ideal S512x512 .bf16) (acc : Vec Ideal S512x1024 .f32) (b : Vec Ideal S512x1024 .bf16)
    (p : Fin 512) (j : Fin 1024) :
    k0_pay2 (F := Ideal) a acc b (ix2 p j) = acc (ix2 p j) + ∑ k : Fin 512, a (ix2 k p) * b (ix2 k j) := by
  unfold k0_pay2
  pointwise

theorem pay1_apply (p : Fin 512) (j : Fin 1024) : k0_pay1 (F := Ideal) (ix2 p j) = 0 := by
  unfold k0_pay1
  pointwise

section
variable (m : (ℓ : Loc nD τ sig) → Buf (Elt Ideal) ℓ) (c : Dev nD)

abbrev mA : S8192x512.Idx → EReal := m ((c : Thread nD τ).loc main_arg0)
abbrev mB : S8192x1024.Idx → EReal := m ((c : Thread nD τ).loc main_arg1)

theorem host_0 (r : Fin 8192) (i : Fin 512) : V m c main_v0 (ix2 r i) = mA m c (ix2 r i) := by
  unfold V hostOps0
  simp only [List.flatten_cons, List.flatten_nil, List.cons_append, List.nil_append, List.append_nil]
  after_reads_at

theorem host_1 (r : Fin 8192) (j : Fin 1024) : V m c main_v1 (ix2 r j) = mB m c (ix2 r j) := by
  unfold V hostOps0
  simp only [List.flatten_cons, List.flatten_nil, List.cons_append, List.nil_append, List.append_nil]
  after_reads_at

theorem point_lt (t : Fin cfg0.N) : t.val < 16 := lt_of_lt_of_eq t.isLt (show cfg0.N = 16 from N_0)

theorem index_0 : ∀ t : Fin cfg0.N, win0_0.index t 0 * 512 = 512 * (t.val % 16) ∧ win0_0.index t 1 * 512 = 512 * (t.val / 16) := by decide +kernel
theorem index_1 : ∀ t : Fin cfg0.N, win0_1.index t 0 * 512 = 512 * (t.val % 16) ∧ win0_1.index t 1 * 1024 = 0 := by decide +kernel
theorem index_2 : ∀ t : Fin cfg0.N, win0_2.index t 0 * 512 = 512 * (t.val / 16) ∧ win0_2.index t 1 * 1024 = 0 := by decide +kernel

theorem iblk_0 (t : Fin cfg0.N) (k : Fin 512) (p : Fin 512) (r : Fin 8192) (i : Fin 512)
    (hr : r.val = 512 * (t.val % 16) + k.val) (hc : i.val = 512 * (t.val / 16) + p.val) :
    iblk m c 0 t (ix2 k p) = mA m c (ix2 r i) := by
  rw [← host_0]
  unfold iblk
  rw [View.read_apply]
  exact congrArg (V m c main_v0) (eq_ix2_of (index_0 t) rfl rfl hr.symm hc.symm)

theorem iblk_1 (t : Fin cfg0.N) (k : Fin 512) (j : Fin 1024) (r : Fin 8192) (hr : r.val = 512 * (t.val % 16) + k.val) :
    iblk m c 1 t (ix2 k j) = mB m c (ix2 r j) := by
  rw [← host_1]
  unfold iblk
  rw [View.read_apply]
  exact congrArg (V m c main_v1) (eq_ix2_of (index_1 t) rfl rfl hr.symm (Nat.zero_add _))

/-- The scratch after the first point of a tile. -/
theorem acc_A (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out

theorem acc_B (t : Fin cfg0.N) (h0 : ¬t.val % 16 = 0) :
    (outsAt0 m c t.val t.isLt).2
      = k0_pay2 (iblk m c 0 t) (outsAt0 m c (t.val - 1) (Nat.lt_of_le_of_lt (Nat.sub_le _ _) t.isLt)).2 (iblk m c 1 t) := by
  by_cases h1 : t.val % 16 = 15
  · rw [outsAt0_C m c t h0 h1]
    frame_out
    rw [read_unread_whole]
  · rw [outsAt0_B m c t h0 h1]
    frame_out
    rw [read_unread_whole]

theorem out_C (t : Fin cfg0.N) (h0 : ¬t.val % 16 = 0) (h1 : t.val % 16 = 15) :
    (outsAt0 m c t.val t.isLt).1
      = k0_pay3 (k0_pay2 (iblk m c 0 t) (outsAt0 m c (t.val - 1) (Nat.lt_of_le_of_lt (Nat.sub_le _ _) t.isLt)).2 (iblk m c 1 t)) := by
  rw [outsAt0_C m c t h0 h1]
  frame_out
  rw [read_unread_whole]

abbrev b0 (t : Fin cfg0.N) : S512x512.Idx → EReal := iblk m c 0 t
abbrev b1 (t : Fin cfg0.N) : S512x1024.Idx → EReal := iblk m c 1 t

/-- The scratch holds the rows of its tile met so far. -/
theorem acc_eq (t : Fin cfg0.N) (p : Fin 512) (j : Fin 1024) (i : Fin 512) (hc : i.val = 512 * (t.val / 16) + p.val) :
    (outsAt0 m c t.val t.isLt).2 (ix2 p j) = ∑ r ∈ Finset.range (512 * (t.val % 16 + 1)), AtB.term (mA m c) (mB m c) i j r := by
  refine AtB.rows (b0 m c) (b1 m c) (fun n hn => (outsAt0 m c n hn).2) (iblk_0 m c) (iblk_1 m c) (fun t h0 p j => ?_)
    (fun t h0 p j => ?_) t.val t.isLt p j i hc
  · rw [acc_A m c t h0 (by omega)]
    refine (pay2_apply (b0 m c t) _ (b1 m c t) p j).trans ?_
    rw [pay1_apply]
  · rw [acc_B m c t h0]
    exact pay2_apply (b0 m c t) _ (b1 m c t) p j

/-- The block written back after the last point of a tile. -/
theorem out_eq (t : Fin cfg0.N) (h1 : t.val % 16 = 15) (p : Fin 512) (j : Fin 1024) (i : Fin 512)
    (hc : i.val = 512 * (t.val / 16) + p.val) :
    (outsAt0 m c t.val t.isLt).1 (ix2 p j) = prod (mA m c) (mB m c) (ix2 i j) := by
  have h0 : ¬t.val % 16 = 0 := by omega
  have e := acc_eq m c t p j i hc
  rw [acc_B m c t h0, h1] at e
  rw [out_C m c t h0 h1]
  exact e.trans (AtB.prod_eq i j).symm

theorem emb_2 (t : Fin cfg0.N) (p : Fin 512) (j : Fin 1024) (i : Fin 512) (hc : i.val = 512 * (t.val / 16) + p.val) :
    ((cfg0.win 2).blk t).view.emb (ix2 p j) = (ix2 i j : S512x1024.Idx) :=
  eq_ix2_of (index_2 t) rfl rfl hc.symm (Nat.zero_add _)

theorem final_2 : (dats m 0 c).arrAt 2 cfg0.N = prod (mA m c) (mB m c) := by
  refine (dats m 0 c).arrAt_eq_of_cover 2 (prod (mA m c) (mB m c)) (fun t hf => ?_) fun y => ?_
  · have ht := point_lt t
    rw [Cert.AttnDwOutIdeal.Value.flushed2]
    funext y
    obtain ⟨p, j, rfl⟩ := exists_ix2 y
    obtain ⟨i, hi⟩ : ∃ i : Fin 512, i.val = 512 * (t.val / 16) + p.val := ⟨⟨512 * (t.val / 16) + p.val, by omega⟩, rfl⟩
    rw [View.read_apply, emb_2 t p j i hi]
    exact out_eq m c t ((flush0_2 t).mp hf) p j i hi
  · obtain ⟨i, j, rfl⟩ := exists_ix2 y
    have hN : 16 * (i.val / 512) + 15 < cfg0.N := by rw [show cfg0.N = 16 from N_0]; omega
    obtain ⟨t, ht⟩ : ∃ t : Fin cfg0.N, t.val = 16 * (i.val / 512) + 15 := ⟨⟨_, hN⟩, rfl⟩
    refine ⟨t, (flush0_2 t).mpr (by omega), ?_⟩
    rw [← emb_2 t ⟨i.val % 512, Nat.mod_lt _ (by decide)⟩ j i (by show i.val = 512 * (t.val / 16) + i.val % 512; omega)]
    exact View.emb_mem_set _ _

theorem kernel_run (ρ : Dev nD → PrngReg) : θ_run defs (onTc (τ := τ) (main (F := Ideal))) ⟨m, fun _ => 0, ρ⟩ fun r => ∀ c : Dev nD,
      r.2.mem ((c : Thread nD τ).loc main_v2) = prod (mA m c) (mB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.AttnDwOutIdeal.Value.run_blocks m ρ)
end

end Cert.AttnDwOut

namespace Cert.AttnDwOut

open Cert.AttnDwOutReferenceIdeal Cert.AttnDwOutReferenceIdeal.Gen

/-- The reference's result is the same product. -/
theorem reference_eq (A : FVec Ideal S8192x512 .f32) (B : FVec Ideal S8192x1024 .f32) :
    (truncf .bf16 (transpose S512x1024 [1, 0] (Host.dotGeneral dot_S8192x1024_S8192x512_S1024x512_0_0_1_1_n_n none B A) transposes_S1024x512_S512x1024_1_0) bitsLt_bf16_f32 : FVec Ideal S512x1024 .bf16) = prod A B := by
  funext y
  obtain ⟨i, j, rfl⟩ := exists_ix2 y
  show _ = ∑ r : Fin 8192, A (ix2 r i) * B (ix2 r j)
  pointwise
  first | done | exact Finset.sum_congr rfl fun _ _ => mul_comm _ _

end Cert.AttnDwOut

end
-- ==== Proof.FfnOutValue.lean ====
/-
  The feed-forward's output: the launch adds a block of rows of the product to its rows of the residual;
  what its array holds after the grid, and what the reference computes.
-/
module

public import proofs.«01_k».proof.Proof.Blocks
public import proofs.«01_k».proof.Proof.Gen.FfnOutIdeal.Value
public import proofs.«01_k».proof.Proof.Gen.FfnOutReferenceIdeal.Run

@[expose] public section

set_option maxRecDepth 16384
noncomputable section
open Idealize.ShloMosaic Idealize.ShloMosaic.TcCoe Idealize.SL.Sem Cert.Blocks

namespace Cert.FfnOut

open Cert.FfnOutIdeal Cert.FfnOutIdeal.Gen

/-- The residual plus the product of the rows with the weight. -/
def res_3 (X0 : S8192x2816.Idx → EReal) (X1 : S2816x1024.Idx → EReal) (X2 : S8192x1024.Idx → EReal) (y : S8192x1024.Idx) : EReal :=
  X2 (ix2 (y 0) (y 1)) + ∑ k : Fin 2816, X0 (ix2 (y 0) k) * X1 (ix2 k (y 1))

theorem blk_3 (x0 : Vec Ideal S512x2816 .bf16) (x1 : Vec Ideal S2816x1024 .bf16) (x2 : Vec Ideal S512x1024 .f32) (p : Fin 512) (j : Fin 1024) :
    out0_3 (F := Ideal) x0 x1 x2 (ix2 p j) = x2 (ix2 p j) + ∑ k : Fin 2816, x0 (ix2 p k) * x1 (ix2 k j) := by
  unfold out0_3
  rw [canon_all, ld_all, ld_all, ld_all]
  unfold k0_pay1
  pointwise
  exact add_comm _ _

section
variable (m : (ℓ : Loc nD τ sig) → Buf (Elt Ideal) ℓ) (c : Dev nD)

abbrev m0 : S8192x2816.Idx → EReal := m ((c : Thread nD τ).loc main_arg0)
abbrev m1 : S2816x1024.Idx → EReal := m ((c : Thread nD τ).loc main_arg1)
abbrev m2 : S8192x1024.Idx → EReal := m ((c : Thread nD τ).loc main_arg2)

theorem host_0 (a : Fin 8192) (b : Fin 2816) : V m c main_v0 (ix2 a b) = m0 m c (ix2 a b) := by
  unfold V hostOps0
  simp only [List.flatten_cons, List.flatten_nil, List.cons_append, List.nil_append, List.append_nil]
  after_reads_at

theorem host_1 (a : Fin 2816) (b : Fin 1024) : V m c main_v1 (ix2 a b) = m1 m c (ix2 a b) := by
  unfold V hostOps0
  simp only [List.flatten_cons, List.flatten_nil, List.cons_append, List.nil_append, List.append_nil]
  after_reads_at

theorem host_2 (a : Fin 8192) (b : Fin 1024) : V m c main_arg2 (ix2 a b) = m2 m c (ix2 a b) := by
  rw [V_main_arg2]

theorem point_lt (t : Fin cfg0.N) : t.val < 16 := lt_of_lt_of_eq t.isLt (show cfg0.N = 16 from N_0)

/-- The array's row at row `p` of block `t`. -/
def rowAt (t : Fin cfg0.N) (p : Fin 512) : Fin 8192 := ⟨512 * t.val + p.val, by have := point_lt t; omega⟩

theorem exists_rowAt (i : Fin 8192) : ∃ t p, rowAt t p = i := by
  have hN : i.val / 512 < cfg0.N := by rw [show cfg0.N = 16 from N_0]; omega
  exact ⟨⟨_, hN⟩, ⟨i.val % 512, Nat.mod_lt _ (by decide)⟩, Fin.ext (Nat.div_add_mod i.val 512)⟩

def b0 (t : Fin cfg0.N) : S512x2816.Idx → EReal := iblk m c 0 t

theorem index_0 : ∀ t : Fin cfg0.N, win0_0.index t 0 * 512 = 512 * t.val ∧ win0_0.index t 1 * 2816 = 0 := by decide +kernel

theorem iblk_0 (t : Fin cfg0.N) (a : Fin 512) (b : Fin 2816) : b0 m c t (ix2 a b) = m0 m c (ix2 (rowAt t a) b) := by
  rw [← host_0]
  unfold b0 iblk
  rw [View.read_apply]
  exact congrArg (V m c main_v0) (eq_ix2_of (index_0 t) rfl rfl rfl (Nat.zero_add _))

def b1 (t : Fin cfg0.N) : S2816x1024.Idx → EReal := iblk m c 1 t

theorem index_1 : ∀ t : Fin cfg0.N, win0_1.index t 0 * 2816 = 0 ∧ win0_1.index t 1 * 1024 = 0 := by decide +kernel

theorem iblk_1 (t : Fin cfg0.N) (a : Fin 2816) (b : Fin 1024) : b1 m c t (ix2 a b) = m1 m c (ix2 a b) := by
  rw [← host_1]
  unfold b1 iblk
  rw [View.read_apply]
  exact congrArg (V m c main_v1) (eq_ix2_of (index_1 t) rfl rfl (Nat.zero_add _) (Nat.zero_add _))

def b2 (t : Fin cfg0.N) : S512x1024.Idx → EReal := iblk m c 2 t

theorem index_2 : ∀ t : Fin cfg0.N, win0_2.index t 0 * 512 = 512 * t.val ∧ win0_2.index t 1 * 1024 = 0 := by decide +kernel

theorem iblk_2 (t : Fin cfg0.N) (a : Fin 512) (b : Fin 1024) : b2 m c t (ix2 a b) = m2 m c (ix2 (rowAt t a) b) := by
  rw [← host_2]
  unfold b2 iblk
  rw [View.read_apply]
  exact congrArg (V m c main_arg2) (eq_ix2_of (index_2 t) rfl rfl rfl (Nat.zero_add _))

theorem point_3 (t : Fin cfg0.N) (p : Fin 512) (j : Fin 1024) :
    out0_3 (F := Ideal) (b0 m c t) (b1 m c t) (b2 m c t) (ix2 p j) = res_3 (m0 m c) (m1 m c) (m2 m c) (ix2 (rowAt t p) j) := by
  refine (blk_3 (b0 m c t) (b1 m c t) (b2 m c t) p j).trans ?_
  simp only [iblk_0, iblk_1, iblk_2]
  rfl

theorem index_3 : ∀ t : Fin cfg0.N, win0_3.index t 0 * 512 = 512 * t.val ∧ win0_3.index t 1 * 1024 = 0 := by decide +kernel

theorem flush_3 : ∀ t : Fin cfg0.N, (cfg0.win 3).flush t = true := by decide +kernel

theorem emb_3 (t : Fin cfg0.N) (p : Fin 512) (j : Fin 1024) :
    ((cfg0.win 3).blk t).view.emb (ix2 p j) = (ix2 (rowAt t p) j : S8192x1024.Idx) :=
  eq_ix2_of (index_3 t) rfl rfl rfl (Nat.zero_add _)

theorem final_3 : (dats m 0 c).arrAt 3 cfg0.N = res_3 (m0 m c) (m1 m c) (m2 m c) := by
  refine (dats m 0 c).arrAt_eq_of_cover 3 (res_3 (m0 m c) (m1 m c) (m2 m c)) (fun t hf => ?_) fun y => ?_
  · rw [Cert.FfnOutIdeal.Value.flushed3]
    funext y
    obtain ⟨p, j, rfl⟩ := exists_ix2 y
    rw [View.read_apply, emb_3 t p j]
    exact point_3 m c t p j
  · obtain ⟨i, j, rfl⟩ := exists_ix2 y
    obtain ⟨t, p, rfl⟩ := exists_rowAt i
    exact ⟨t, flush_3 t, emb_3 t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v2) = res_3 (m0 m c) (m1 m c) (m2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_3 m c), (h c).2⟩) (Cert.FfnOutIdeal.Value.run_blocks m ρ)
end

end Cert.FfnOut

namespace Cert.FfnOut

open Cert.FfnOutReferenceIdeal Cert.FfnOutReferenceIdeal.Gen

/-- What the reference computes. -/
theorem reference_eq_3 (A0 : FVec Ideal S8192x2816 .f32) (A1 : FVec Ideal S2816x1024 .f32) (A2 : FVec Ideal S8192x1024 .f32) :
    (addf A2 (Host.dotGeneral dot_S8192x2816_S2816x1024_S8192x1024_1_0_0_1_n_n none A0 A1) : FVec Ideal S8192x1024 .f32) = res_3 A0 A1 A2 := by
  funext y
  obtain ⟨i, j, rfl⟩ := exists_ix2 y
  unfold res_3
  pointwise

end Cert.FfnOut

end
-- ==== Proof.SsmOutValue.lean ====
/-
  The state-space layer's output: the launch adds a block of rows of the product to its rows of the residual;
  what its array holds after the grid, and what the reference computes.
-/
module

public import proofs.«01_k».proof.Proof.Blocks
public import proofs.«01_k».proof.Proof.Gen.SsmOutIdeal.Value
public import proofs.«01_k».proof.Proof.Gen.SsmOutReferenceIdeal.Run

@[expose] public section

set_option maxRecDepth 16384
noncomputable section
open Idealize.ShloMosaic Idealize.ShloMosaic.TcCoe Idealize.SL.Sem Cert.Blocks

namespace Cert.SsmOut

open Cert.SsmOutIdeal Cert.SsmOutIdeal.Gen

/-- The residual plus the product of the rows with the weight. -/
def res_3 (X0 : S8192x2048.Idx → EReal) (X1 : S2048x1024.Idx → EReal) (X2 : S8192x1024.Idx → EReal) (y : S8192x1024.Idx) : EReal :=
  X2 (ix2 (y 0) (y 1)) + ∑ k : Fin 2048, X0 (ix2 (y 0) k) * X1 (ix2 k (y 1))

theorem blk_3 (x0 : Vec Ideal S512x2048 .bf16) (x1 : Vec Ideal S2048x1024 .bf16) (x2 : Vec Ideal S512x1024 .f32) (p : Fin 512) (j : Fin 1024) :
    out0_3 (F := Ideal) x0 x1 x2 (ix2 p j) = x2 (ix2 p j) + ∑ k : Fin 2048, x0 (ix2 p k) * x1 (ix2 k j) := by
  unfold out0_3
  rw [canon_all, ld_all, ld_all, ld_all]
  unfold k0_pay1
  pointwise
  exact add_comm _ _

section
variable (m : (ℓ : Loc nD τ sig) → Buf (Elt Ideal) ℓ) (c : Dev nD)

abbrev m0 : S8192x2048.Idx → EReal := m ((c : Thread nD τ).loc main_arg0)
abbrev m1 : S2048x1024.Idx → EReal := m ((c : Thread nD τ).loc main_arg1)
abbrev m2 : S8192x1024.Idx → EReal := m ((c : Thread nD τ).loc main_arg2)

theorem host_0 (a : Fin 8192) (b : Fin 2048) : V m c main_v0 (ix2 a b) = m0 m c (ix2 a b) := by
  unfold V hostOps0
  simp only [List.flatten_cons, List.flatten_nil, List.cons_append, List.nil_append, List.append_nil]
  after_reads_at

theorem host_1 (a : Fin 2048) (b : Fin 1024) : V m c main_v1 (ix2 a b) = m1 m c (ix2 a b) := by
  unfold V hostOps0
  simp only [List.flatten_cons, List.flatten_nil, List.cons_append, List.nil_append, List.append_nil]
  after_reads_at

theorem host_2 (a : Fin 8192) (b : Fin 1024) : V m c main_arg2 (ix2 a b) = m2 m c (ix2 a b) := by
  rw [V_main_arg2]

theorem point_lt (t : Fin cfg0.N) : t.val < 16 := lt_of_lt_of_eq t.isLt (show cfg0.N = 16 from N_0)

/-- The array's row at row `p` of block `t`. -/
def rowAt (t : Fin cfg0.N) (p : Fin 512) : Fin 8192 := ⟨512 * t.val + p.val, by have := point_lt t; omega⟩

theorem exists_rowAt (i : Fin 8192) : ∃ t p, rowAt t p = i := by
  have hN : i.val / 512 < cfg0.N := by rw [show cfg0.N = 16 from N_0]; omega
  exact ⟨⟨_, hN⟩, ⟨i.val % 512, Nat.mod_lt _ (by decide)⟩, Fin.ext (Nat.div_add_mod i.val 512)⟩

def b0 (t : Fin cfg0.N) : S512x2048.Idx → EReal := iblk m c 0 t

theorem index_0 : ∀ t : Fin cfg0.N, win0_0.index t 0 * 512 = 512 * t.val ∧ win0_0.index t 1 * 2048 = 0 := by decide +kernel

theorem iblk_0 (t : Fin cfg0.N) (a : Fin 512) (b : Fin 2048) : b0 m c t (ix2 a b) = m0 m c (ix2 (rowAt t a) b) := by
  rw [← host_0]
  unfold b0 iblk
  rw [View.read_apply]
  exact congrArg (V m c main_v0) (eq_ix2_of (index_0 t) rfl rfl rfl (Nat.zero_add _))

def b1 (t : Fin cfg0.N) : S2048x1024.Idx → EReal := iblk m c 1 t

theorem index_1 : ∀ t : Fin cfg0.N, win0_1.index t 0 * 2048 = 0 ∧ win0_1.index t 1 * 1024 = 0 := by decide +kernel

theorem iblk_1 (t : Fin cfg0.N) (a : Fin 2048) (b : Fin 1024) : b1 m c t (ix2 a b) = m1 m c (ix2 a b) := by
  rw [← host_1]
  unfold b1 iblk
  rw [View.read_apply]
  exact congrArg (V m c main_v1) (eq_ix2_of (index_1 t) rfl rfl (Nat.zero_add _) (Nat.zero_add _))

def b2 (t : Fin cfg0.N) : S512x1024.Idx → EReal := iblk m c 2 t

theorem index_2 : ∀ t : Fin cfg0.N, win0_2.index t 0 * 512 = 512 * t.val ∧ win0_2.index t 1 * 1024 = 0 := by decide +kernel

theorem iblk_2 (t : Fin cfg0.N) (a : Fin 512) (b : Fin 1024) : b2 m c t (ix2 a b) = m2 m c (ix2 (rowAt t a) b) := by
  rw [← host_2]
  unfold b2 iblk
  rw [View.read_apply]
  exact congrArg (V m c main_arg2) (eq_ix2_of (index_2 t) rfl rfl rfl (Nat.zero_add _))

theorem point_3 (t : Fin cfg0.N) (p : Fin 512) (j : Fin 1024) :
    out0_3 (F := Ideal) (b0 m c t) (b1 m c t) (b2 m c t) (ix2 p j) = res_3 (m0 m c) (m1 m c) (m2 m c) (ix2 (rowAt t p) j) := by
  refine (blk_3 (b0 m c t) (b1 m c t) (b2 m c t) p j).trans ?_
  simp only [iblk_0, iblk_1, iblk_2]
  rfl

theorem index_3 : ∀ t : Fin cfg0.N, win0_3.index t 0 * 512 = 512 * t.val ∧ win0_3.index t 1 * 1024 = 0 := by decide +kernel

theorem flush_3 : ∀ t : Fin cfg0.N, (cfg0.win 3).flush t = true := by decide +kernel

theorem emb_3 (t : Fin cfg0.N) (p : Fin 512) (j : Fin 1024) :
    ((cfg0.win 3).blk t).view.emb (ix2 p j) = (ix2 (rowAt t p) j : S8192x1024.Idx) :=
  eq_ix2_of (index_3 t) rfl rfl rfl (Nat.zero_add _)

theorem final_3 : (dats m 0 c).arrAt 3 cfg0.N = res_3 (m0 m c) (m1 m c) (m2 m c) := by
  refine (dats m 0 c).arrAt_eq_of_cover 3 (res_3 (m0 m c) (m1 m c) (m2 m c)) (fun t hf => ?_) fun y => ?_
  · rw [Cert.SsmOutIdeal.Value.flushed3]
    funext y
    obtain ⟨p, j, rfl⟩ := exists_ix2 y
    rw [View.read_apply, emb_3 t p j]
    exact point_3 m c t p j
  · obtain ⟨i, j, rfl⟩ := exists_ix2 y
    obtain ⟨t, p, rfl⟩ := exists_rowAt i
    exact ⟨t, flush_3 t, emb_3 t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v2) = res_3 (m0 m c) (m1 m c) (m2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_3 m c), (h c).2⟩) (Cert.SsmOutIdeal.Value.run_blocks m ρ)
end

end Cert.SsmOut

namespace Cert.SsmOut

open Cert.SsmOutReferenceIdeal Cert.SsmOutReferenceIdeal.Gen

/-- What the reference computes. -/
theorem reference_eq_3 (A0 : FVec Ideal S8192x2048 .f32) (A1 : FVec Ideal S2048x1024 .f32) (A2 : FVec Ideal S8192x1024 .f32) :
    (addf A2 (Host.dotGeneral dot_S8192x2048_S2048x1024_S8192x1024_1_0_0_1_n_n none A0 A1) : FVec Ideal S8192x1024 .f32) = res_3 A0 A1 A2 := by
  funext y
  obtain ⟨i, j, rfl⟩ := exists_ix2 y
  unfold res_3
  pointwise

end Cert.SsmOut

end
-- ==== Proof.SsmDyValue.lean ====
/-
  The gradient of the state-space layer's output before its projection: a block of rows times the transposed weight,
  in two halves of the columns; what the launch's array holds after the grid, and what the reference computes.
-/
module

public import proofs.«01_k».proof.Proof.Blocks
public import proofs.«01_k».proof.Proof.Gen.SsmDyIdeal.Value
public import proofs.«01_k».proof.Proof.Gen.SsmDyReferenceIdeal.Run

@[expose] public section

set_option maxRecDepth 16384
noncomputable section
open Idealize.ShloMosaic Idealize.ShloMosaic.TcCoe Idealize.SL.Sem Cert.Blocks

namespace Cert.SsmDy

open Cert.SsmDyIdeal Cert.SsmDyIdeal.Gen

/-- The product of the rows with the weight's rows. -/
def res_2 (X0 : S8192x1024.Idx → EReal) (X1 : S2048x1024.Idx → EReal) (y : S8192x2048.Idx) : EReal :=
  ∑ k : Fin 1024, X0 (ix2 (y 0) k) * X1 (ix2 (y 1) k)

theorem pay2_apply (v0 : Vec Ideal S512x1024 .bf16) (v2 : Vec Ideal S1024x1024 .bf16) (p : Fin 512) (j : Fin 1024) :
    k0_pay2 (F := Ideal) v0 v2 (ix2 p j) = ∑ k : Fin 1024, v0 (ix2 p k) * v2 (ix2 j k) := by
  unfold k0_pay2 k0_pay1
  pointwise

theorem pay3_apply (v0 : Vec Ideal S512x1024 .bf16) (v2 : Vec Ideal S1024x1024 .bf16) (p : Fin 512) (j : Fin 1024) :
    k0_pay3 (F := Ideal) v0 v2 (ix2 p j) = ∑ k : Fin 1024, v0 (ix2 p k) * v2 (ix2 j k) := by
  unfold k0_pay3 k0_pay1
  pointwise

def blkOf (x0 : S512x1024.Idx → EReal) (x1 : S2048x1024.Idx → EReal) (y : S512x2048.Idx) : EReal :=
  ∑ k : Fin 1024, x0 (ix2 (y 0) k) * x1 (ix2 (y 1) k)

theorem blk_2 (x0 : Vec Ideal S512x1024 .bf16) (x1 : Vec Ideal S2048x1024 .bf16) (p : Fin 512) (j : Fin 2048) :
    out0_2 (F := Ideal) x0 x1 (ix2 p j) = ∑ k : Fin 1024, x0 (ix2 p k) * x1 (ix2 j k) := by
  unfold out0_2
  refine canon_of_cover (e := .f32) (blkOf x0 x1) _ ?_ (ix2 p j) (cover0_2 _ _ _)
  intro pc h
  rcases List.mem_cons.mp h with rfl | h
  · refine store_ix2 (e := .f32) inb_S512x2048_S512x1024_0_1024 (k0_pay3 (F := Ideal) (View.ld x0 r0_0) (View.ld x1 r0_3)) (blkOf x0 x1) fun p j p' j' hp hj => ?_
    rw [pay3_apply, ld_all]
    obtain rfl : p = p' := Fin.ext (by omega)
    exact Finset.sum_congr rfl fun k _ => congrArg (_ * ·) (ld_ix2 x1 _ j k j' k hj (Nat.zero_add _))
  · obtain rfl := List.mem_singleton.mp h
    refine store_ix2 (e := .f32) inb_S512x2048_S512x1024_0_0 (k0_pay2 (F := Ideal) (View.ld x0 r0_0) (View.ld x1 r0_1)) (blkOf x0 x1) fun p j p' j' hp hj => ?_
    rw [pay2_apply, ld_all]
    obtain rfl : p = p' := Fin.ext (by omega)
    exact Finset.sum_congr rfl fun k _ => congrArg (_ * ·) (ld_ix2 x1 _ j k j' k hj (Nat.zero_add _))

section
variable (m : (ℓ : Loc nD τ sig) → Buf (Elt Ideal) ℓ) (c : Dev nD)

abbrev m0 : S8192x1024.Idx → EReal := m ((c : Thread nD τ).loc main_arg0)
abbrev m1 : S2048x1024.Idx → EReal := m ((c : Thread nD τ).loc main_arg1)

theorem host_0 (a : Fin 8192) (b : Fin 1024) : V m c main_v0 (ix2 a b) = m0 m c (ix2 a b) := by
  unfold V hostOps0
  simp only [List.flatten_cons, List.flatten_nil, List.cons_append, List.nil_append, List.append_nil]
  after_reads_at

theorem host_1 (a : Fin 2048) (b : Fin 1024) : V m c main_v1 (ix2 a b) = m1 m c (ix2 a b) := by
  unfold V hostOps0
  simp only [List.flatten_cons, List.flatten_nil, List.cons_append, List.nil_append, List.append_nil]
  after_reads_at

theorem point_lt (t : Fin cfg0.N) : t.val < 16 := lt_of_lt_of_eq t.isLt (show cfg0.N = 16 from N_0)

/-- The array's row at row `p` of block `t`. -/
def rowAt (t : Fin cfg0.N) (p : Fin 512) : Fin 8192 := ⟨512 * t.val + p.val, by have := point_lt t; omega⟩

theorem exists_rowAt (i : Fin 8192) : ∃ t p, rowAt t p = i := by
  have hN : i.val / 512 < cfg0.N := by rw [show cfg0.N = 16 from N_0]; omega
  exact ⟨⟨_, hN⟩, ⟨i.val % 512, Nat.mod_lt _ (by decide)⟩, Fin.ext (Nat.div_add_mod i.val 512)⟩

def b0 (t : Fin cfg0.N) : S512x1024.Idx → EReal := iblk m c 0 t

theorem index_0 : ∀ t : Fin cfg0.N, win0_0.index t 0 * 512 = 512 * t.val ∧ win0_0.index t 1 * 1024 = 0 := by decide +kernel

theorem iblk_0 (t : Fin cfg0.N) (a : Fin 512) (b : Fin 1024) : b0 m c t (ix2 a b) = m0 m c (ix2 (rowAt t a) b) := by
  rw [← host_0]
  unfold b0 iblk
  rw [View.read_apply]
  exact congrArg (V m c main_v0) (eq_ix2_of (index_0 t) rfl rfl rfl (Nat.zero_add _))

def b1 (t : Fin cfg0.N) : S2048x1024.Idx → EReal := iblk m c 1 t

theorem index_1 : ∀ t : Fin cfg0.N, win0_1.index t 0 * 2048 = 0 ∧ win0_1.index t 1 * 1024 = 0 := by decide +kernel

theorem iblk_1 (t : Fin cfg0.N) (a : Fin 2048) (b : Fin 1024) : b1 m c t (ix2 a b) = m1 m c (ix2 a b) := by
  rw [← host_1]
  unfold b1 iblk
  rw [View.read_apply]
  exact congrArg (V m c main_v1) (eq_ix2_of (index_1 t) rfl rfl (Nat.zero_add _) (Nat.zero_add _))

theorem point_2 (t : Fin cfg0.N) (p : Fin 512) (j : Fin 2048) :
    out0_2 (F := Ideal) (b0 m c t) (b1 m c t) (ix2 p j) = res_2 (m0 m c) (m1 m c) (ix2 (rowAt t p) j) := by
  refine (blk_2 (b0 m c t) (b1 m c t) p j).trans ?_
  simp only [iblk_0, iblk_1]
  rfl

theorem index_2 : ∀ t : Fin cfg0.N, win0_2.index t 0 * 512 = 512 * t.val ∧ win0_2.index t 1 * 2048 = 0 := by decide +kernel

theorem flush_2 : ∀ t : Fin cfg0.N, (cfg0.win 2).flush t = true := by decide +kernel

theorem emb_2 (t : Fin cfg0.N) (p : Fin 512) (j : Fin 2048) :
    ((cfg0.win 2).blk t).view.emb (ix2 p j) = (ix2 (rowAt t p) j : S8192x2048.Idx) :=
  eq_ix2_of (index_2 t) rfl rfl rfl (Nat.zero_add _)

theorem final_2 : (dats m 0 c).arrAt 2 cfg0.N = res_2 (m0 m c) (m1 m c) := by
  refine (dats m 0 c).arrAt_eq_of_cover 2 (res_2 (m0 m c) (m1 m c)) (fun t hf => ?_) fun y => ?_
  · rw [Cert.SsmDyIdeal.Value.flushed2]
    funext y
    obtain ⟨p, j, rfl⟩ := exists_ix2 y
    rw [View.read_apply, emb_2 t p j]
    exact point_2 m c t p j
  · obtain ⟨i, j, rfl⟩ := exists_ix2 y
    obtain ⟨t, p, rfl⟩ := exists_rowAt i
    exact ⟨t, flush_2 t, emb_2 t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v2) = res_2 (m0 m c) (m1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.SsmDyIdeal.Value.run_blocks m ρ)
end

end Cert.SsmDy

namespace Cert.SsmDy

open Cert.SsmDyReferenceIdeal Cert.SsmDyReferenceIdeal.Gen

/-- What the reference computes. -/
theorem reference_eq_2 (A0 : FVec Ideal S8192x1024 .f32) (A1 : FVec Ideal S2048x1024 .f32) :
    (Host.dotGeneral dot_S8192x1024_S2048x1024_S8192x2048_1_1_0_0_n_n none A0 A1 : FVec Ideal S8192x2048 .f32) = res_2 A0 A1 := by
  funext y
  obtain ⟨i, j, rfl⟩ := exists_ix2 y
  unfold res_2
  pointwise

end Cert.SsmDy

end
-- ==== Proof.AttnDoValue.lean ====
/-
  The gradient of the attention's output before its projection: a block of rows times the transposed weight;
  what the launch's array holds after the grid, and what the reference computes.
-/
module

public import proofs.«01_k».proof.Proof.Blocks
public import proofs.«01_k».proof.Proof.Gen.AttnDoIdeal.Value
public import proofs.«01_k».proof.Proof.Gen.AttnDoReferenceIdeal.Run

@[expose] public section

set_option maxRecDepth 16384
noncomputable section
open Idealize.ShloMosaic Idealize.ShloMosaic.TcCoe Idealize.SL.Sem Cert.Blocks

namespace Cert.AttnDo

open Cert.AttnDoIdeal Cert.AttnDoIdeal.Gen

/-- The product of the rows with the weight's rows. -/
def res_2 (X0 : S8192x1024.Idx → EReal) (X1 : S1024x1024.Idx → EReal) (y : S8192x1024.Idx) : EReal :=
  ∑ k : Fin 1024, X0 (ix2 (y 0) k) * X1 (ix2 (y 1) k)

theorem blk_2 (x0 : Vec Ideal S512x1024 .bf16) (x1 : Vec Ideal S1024x1024 .bf16) (p : Fin 512) (j : Fin 1024) :
    out0_2 (F := Ideal) x0 x1 (ix2 p j) = ∑ k : Fin 1024, x0 (ix2 p k) * x1 (ix2 j k) := by
  unfold out0_2
  rw [canon_all, ld_all, ld_all]
  unfold k0_pay1
  pointwise

section
variable (m : (ℓ : Loc nD τ sig) → Buf (Elt Ideal) ℓ) (c : Dev nD)

abbrev m0 : S8192x1024.Idx → EReal := m ((c : Thread nD τ).loc main_arg0)
abbrev m1 : S1024x1024.Idx → EReal := m ((c : Thread nD τ).loc main_arg1)

theorem host_0 (a : Fin 8192) (b : Fin 1024) : V m c main_v0 (ix2 a b) = m0 m c (ix2 a b) := by
  unfold V hostOps0
  simp only [List.flatten_cons, List.flatten_nil, List.cons_append, List.nil_append, List.append_nil]
  after_reads_at

theorem host_1 (a : Fin 1024) (b : Fin 1024) : V m c main_v1 (ix2 a b) = m1 m c (ix2 a b) := by
  unfold V hostOps0
  simp only [List.flatten_cons, List.flatten_nil, List.cons_append, List.nil_append, List.append_nil]
  after_reads_at

theorem point_lt (t : Fin cfg0.N) : t.val < 16 := lt_of_lt_of_eq t.isLt (show cfg0.N = 16 from N_0)

/-- The array's row at row `p` of block `t`. -/
def rowAt (t : Fin cfg0.N) (p : Fin 512) : Fin 8192 := ⟨512 * t.val + p.val, by have := point_lt t; omega⟩

theorem exists_rowAt (i : Fin 8192) : ∃ t p, rowAt t p = i := by
  have hN : i.val / 512 < cfg0.N := by rw [show cfg0.N = 16 from N_0]; omega
  exact ⟨⟨_, hN⟩, ⟨i.val % 512, Nat.mod_lt _ (by decide)⟩, Fin.ext (Nat.div_add_mod i.val 512)⟩

def b0 (t : Fin cfg0.N) : S512x1024.Idx → EReal := iblk m c 0 t

theorem index_0 : ∀ t : Fin cfg0.N, win0_0.index t 0 * 512 = 512 * t.val ∧ win0_0.index t 1 * 1024 = 0 := by decide +kernel

theorem iblk_0 (t : Fin cfg0.N) (a : Fin 512) (b : Fin 1024) : b0 m c t (ix2 a b) = m0 m c (ix2 (rowAt t a) b) := by
  rw [← host_0]
  unfold b0 iblk
  rw [View.read_apply]
  exact congrArg (V m c main_v0) (eq_ix2_of (index_0 t) rfl rfl rfl (Nat.zero_add _))

def b1 (t : Fin cfg0.N) : S1024x1024.Idx → EReal := iblk m c 1 t

theorem index_1 : ∀ t : Fin cfg0.N, win0_1.index t 0 * 1024 = 0 ∧ win0_1.index t 1 * 1024 = 0 := by decide +kernel

theorem iblk_1 (t : Fin cfg0.N) (a : Fin 1024) (b : Fin 1024) : b1 m c t (ix2 a b) = m1 m c (ix2 a b) := by
  rw [← host_1]
  unfold b1 iblk
  rw [View.read_apply]
  exact congrArg (V m c main_v1) (eq_ix2_of (index_1 t) rfl rfl (Nat.zero_add _) (Nat.zero_add _))

theorem point_2 (t : Fin cfg0.N) (p : Fin 512) (j : Fin 1024) :
    out0_2 (F := Ideal) (b0 m c t) (b1 m c t) (ix2 p j) = res_2 (m0 m c) (m1 m c) (ix2 (rowAt t p) j) := by
  refine (blk_2 (b0 m c t) (b1 m c t) p j).trans ?_
  simp only [iblk_0, iblk_1]
  rfl

theorem index_2 : ∀ t : Fin cfg0.N, win0_2.index t 0 * 512 = 512 * t.val ∧ win0_2.index t 1 * 1024 = 0 := by decide +kernel

theorem flush_2 : ∀ t : Fin cfg0.N, (cfg0.win 2).flush t = true := by decide +kernel

theorem emb_2 (t : Fin cfg0.N) (p : Fin 512) (j : Fin 1024) :
    ((cfg0.win 2).blk t).view.emb (ix2 p j) = (ix2 (rowAt t p) j : S8192x1024.Idx) :=
  eq_ix2_of (index_2 t) rfl rfl rfl (Nat.zero_add _)

theorem final_2 : (dats m 0 c).arrAt 2 cfg0.N = res_2 (m0 m c) (m1 m c) := by
  refine (dats m 0 c).arrAt_eq_of_cover 2 (res_2 (m0 m c) (m1 m c)) (fun t hf => ?_) fun y => ?_
  · rw [Cert.AttnDoIdeal.Value.flushed2]
    funext y
    obtain ⟨p, j, rfl⟩ := exists_ix2 y
    rw [View.read_apply, emb_2 t p j]
    exact point_2 m c t p j
  · obtain ⟨i, j, rfl⟩ := exists_ix2 y
    obtain ⟨t, p, rfl⟩ := exists_rowAt i
    exact ⟨t, flush_2 t, emb_2 t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v2) = res_2 (m0 m c) (m1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.AttnDoIdeal.Value.run_blocks m ρ)
end

end Cert.AttnDo

namespace Cert.AttnDo

open Cert.AttnDoReferenceIdeal Cert.AttnDoReferenceIdeal.Gen

/-- What the reference computes. -/
theorem reference_eq_2 (A0 : FVec Ideal S8192x1024 .f32) (A1 : FVec Ideal S1024x1024 .f32) :
    (truncf .bf16 (Host.dotGeneral dot_S8192x1024_S1024x1024_S8192x1024_1_1_0_0_n_n none A0 A1) bitsLt_bf16_f32 : FVec Ideal S8192x1024 .bf16) = res_2 A0 A1 := by
  funext y
  obtain ⟨i, j, rfl⟩ := exists_ix2 y
  unfold res_2
  pointwise

end Cert.AttnDo

end
-- ==== Proof.AttnOutValue.lean ====
/-
  The attention layer's output: the launch adds two products, one for each half of the heads, to its rows of the residual;
  what its array holds after the grid, and what the reference computes.
-/
module

public import proofs.«01_k».proof.Proof.Blocks
public import proofs.«01_k».proof.Proof.Gen.AttnOutIdeal.Value
public import proofs.«01_k».proof.Proof.Gen.AttnOutReferenceIdeal.Run

@[expose] public section

set_option maxRecDepth 16384
noncomputable section
open Idealize.ShloMosaic Idealize.ShloMosaic.TcCoe Idealize.SL.Sem Cert.Blocks

namespace Cert.AttnOut

open Cert.AttnOutIdeal Cert.AttnOutIdeal.Gen

/-- The residual plus the two halves' products with the weight. -/
def res_4 (X0 : S8192x512.Idx → EReal) (X1 : S8192x512.Idx → EReal) (X2 : S1024x1024.Idx → EReal) (X3 : S8192x1024.Idx → EReal) (y : S8192x1024.Idx) : EReal :=
  X3 (ix2 (y 0) (y 1)) + (∑ k : Fin 512, X0 (ix2 (y 0) k) * X2 (ix2 (⟨k.val, by omega⟩ : Fin 1024) (y 1)) + ∑ k : Fin 512, X1 (ix2 (y 0) k) * X2 (ix2 (⟨512 + k.val, by omega⟩ : Fin 1024) (y 1)))

theorem pay1_apply (v0 : Vec Ideal S512x512 .bf16) (v2 : Vec Ideal S512x1024 .bf16) (v5 : Vec Ideal S512x512 .bf16)
    (v7 : Vec Ideal S512x1024 .bf16) (v11 : Vec Ideal S512x1024 .f32) (p : Fin 512) (j : Fin 1024) :
    k0_pay1 (F := Ideal) v0 v2 v5 v7 v11 (ix2 p j)
      = v11 (ix2 p j) + (∑ k, v0 (ix2 p k) * v2 (ix2 k j) + ∑ k, v5 (ix2 p k) * v7 (ix2 k j)) := by
  unfold k0_pay1
  pointwise
  exact add_comm _ _

theorem blk_4 (x0 : Vec Ideal S512x512 .bf16) (x1 : Vec Ideal S512x512 .bf16) (x2 : Vec Ideal S1024x1024 .bf16) (x3 : Vec Ideal S512x1024 .f32) (p : Fin 512) (j : Fin 1024) :
    out0_4 (F := Ideal) x0 x1 x2 x3 (ix2 p j) = x3 (ix2 p j) + (∑ k : Fin 512, x0 (ix2 p k) * x2 (ix2 (⟨k.val, by omega⟩ : Fin 1024) j) + ∑ k : Fin 512, x1 (ix2 p k) * x2 (ix2 (⟨512 + k.val, by omega⟩ : Fin 1024) j)) := by
  unfold out0_4
  rw [canon_all, pay1_apply, ld_all, ld_all, ld_all]
  refine congrArg (x3 (ix2 p j) + ·) (congrArg₂ (· + ·) ?_ ?_)
  · exact Finset.sum_congr rfl fun k _ => congrArg (x0 (ix2 p k) * ·) (ld_ix2 x2 _ k j _ j (Nat.zero_add _) (Nat.zero_add _))
  · exact Finset.sum_congr rfl fun k _ => congrArg (x1 (ix2 p k) * ·) (ld_ix2 x2 _ k j _ j rfl (Nat.zero_add _))

section
variable (m : (ℓ : Loc nD τ sig) → Buf (Elt Ideal) ℓ) (c : Dev nD)

abbrev m0 : S8192x512.Idx → EReal := m ((c : Thread nD τ).loc main_arg0)
abbrev m1 : S8192x512.Idx → EReal := m ((c : Thread nD τ).loc main_arg1)
abbrev m2 : S1024x1024.Idx → EReal := m ((c : Thread nD τ).loc main_arg2)
abbrev m3 : S8192x1024.Idx → EReal := m ((c : Thread nD τ).loc main_arg3)

theorem host_0 (a : Fin 8192) (b : Fin 512) : V m c main_v0 (ix2 a b) = m0 m c (ix2 a b) := by
  unfold V hostOps0
  simp only [List.flatten_cons, List.flatten_nil, List.cons_append, List.nil_append, List.append_nil]
  after_reads_at

theorem host_1 (a : Fin 8192) (b : Fin 512) : V m c main_v1 (ix2 a b) = m1 m c (ix2 a b) := by
  unfold V hostOps0
  simp only [List.flatten_cons, List.flatten_nil, List.cons_append, List.nil_append, List.append_nil]
  after_reads_at

theorem host_2 (a : Fin 1024) (b : Fin 1024) : V m c main_v2 (ix2 a b) = m2 m c (ix2 a b) := by
  unfold V hostOps0
  simp only [List.flatten_cons, List.flatten_nil, List.cons_append, List.nil_append, List.append_nil]
  after_reads_at

theorem host_3 (a : Fin 8192) (b : Fin 1024) : V m c main_arg3 (ix2 a b) = m3 m c (ix2 a b) := by
  rw [V_main_arg3]

theorem point_lt (t : Fin cfg0.N) : t.val < 16 := lt_of_lt_of_eq t.isLt (show cfg0.N = 16 from N_0)

/-- The array's row at row `p` of block `t`. -/
def rowAt (t : Fin cfg0.N) (p : Fin 512) : Fin 8192 := ⟨512 * t.val + p.val, by have := point_lt t; omega⟩

theorem exists_rowAt (i : Fin 8192) : ∃ t p, rowAt t p = i := by
  have hN : i.val / 512 < cfg0.N := by rw [show cfg0.N = 16 from N_0]; omega
  exact ⟨⟨_, hN⟩, ⟨i.val % 512, Nat.mod_lt _ (by decide)⟩, Fin.ext (Nat.div_add_mod i.val 512)⟩

def b0 (t : Fin cfg0.N) : S512x512.Idx → EReal := iblk m c 0 t

theorem index_0 : ∀ t : Fin cfg0.N, win0_0.index t 0 * 512 = 512 * t.val ∧ win0_0.index t 1 * 512 = 0 := by decide +kernel

theorem iblk_0 (t : Fin cfg0.N) (a : Fin 512) (b : Fin 512) : b0 m c t (ix2 a b) = m0 m c (ix2 (rowAt t a) b) := by
  rw [← host_0]
  unfold b0 iblk
  rw [View.read_apply]
  exact congrArg (V m c main_v0) (eq_ix2_of (index_0 t) rfl rfl rfl (Nat.zero_add _))

def b1 (t : Fin cfg0.N) : S512x512.Idx → EReal := iblk m c 1 t

theorem index_1 : ∀ t : Fin cfg0.N, win0_1.index t 0 * 512 = 512 * t.val ∧ win0_1.index t 1 * 512 = 0 := by decide +kernel

theorem iblk_1 (t : Fin cfg0.N) (a : Fin 512) (b : Fin 512) : b1 m c t (ix2 a b) = m1 m c (ix2 (rowAt t a) b) := by
  rw [← host_1]
  unfold b1 iblk
  rw [View.read_apply]
  exact congrArg (V m c main_v1) (eq_ix2_of (index_1 t) rfl rfl rfl (Nat.zero_add _))

def b2 (t : Fin cfg0.N) : S1024x1024.Idx → EReal := iblk m c 2 t

theorem index_2 : ∀ t : Fin cfg0.N, win0_2.index t 0 * 1024 = 0 ∧ win0_2.index t 1 * 1024 = 0 := by decide +kernel

theorem iblk_2 (t : Fin cfg0.N) (a : Fin 1024) (b : Fin 1024) : b2 m c t (ix2 a b) = m2 m c (ix2 a b) := by
  rw [← host_2]
  unfold b2 iblk
  rw [View.read_apply]
  exact congrArg (V m c main_v2) (eq_ix2_of (index_2 t) rfl rfl (Nat.zero_add _) (Nat.zero_add _))

def b3 (t : Fin cfg0.N) : S512x1024.Idx → EReal := iblk m c 3 t

theorem index_3 : ∀ t : Fin cfg0.N, win0_3.index t 0 * 512 = 512 * t.val ∧ win0_3.index t 1 * 1024 = 0 := by decide +kernel

theorem iblk_3 (t : Fin cfg0.N) (a : Fin 512) (b : Fin 1024) : b3 m c t (ix2 a b) = m3 m c (ix2 (rowAt t a) b) := by
  rw [← host_3]
  unfold b3 iblk
  rw [View.read_apply]
  exact congrArg (V m c main_arg3) (eq_ix2_of (index_3 t) rfl rfl rfl (Nat.zero_add _))

theorem point_4 (t : Fin cfg0.N) (p : Fin 512) (j : Fin 1024) :
    out0_4 (F := Ideal) (b0 m c t) (b1 m c t) (b2 m c t) (b3 m c t) (ix2 p j) = res_4 (m0 m c) (m1 m c) (m2 m c) (m3 m c) (ix2 (rowAt t p) j) := by
  refine (blk_4 (b0 m c t) (b1 m c t) (b2 m c t) (b3 m c t) p j).trans ?_
  simp only [iblk_0, iblk_1, iblk_2, iblk_3]
  rfl

theorem index_4 : ∀ t : Fin cfg0.N, win0_4.index t 0 * 512 = 512 * t.val ∧ win0_4.index t 1 * 1024 = 0 := by decide +kernel

theorem flush_4 : ∀ t : Fin cfg0.N, (cfg0.win 4).flush t = true := by decide +kernel

theorem emb_4 (t : Fin cfg0.N) (p : Fin 512) (j : Fin 1024) :
    ((cfg0.win 4).blk t).view.emb (ix2 p j) = (ix2 (rowAt t p) j : S8192x1024.Idx) :=
  eq_ix2_of (index_4 t) rfl rfl rfl (Nat.zero_add _)

theorem final_4 : (dats m 0 c).arrAt 4 cfg0.N = res_4 (m0 m c) (m1 m c) (m2 m c) (m3 m c) := by
  refine (dats m 0 c).arrAt_eq_of_cover 4 (res_4 (m0 m c) (m1 m c) (m2 m c) (m3 m c)) (fun t hf => ?_) fun y => ?_
  · rw [Cert.AttnOutIdeal.Value.flushed4]
    funext y
    obtain ⟨p, j, rfl⟩ := exists_ix2 y
    rw [View.read_apply, emb_4 t p j]
    exact point_4 m c t p j
  · obtain ⟨i, j, rfl⟩ := exists_ix2 y
    obtain ⟨t, p, rfl⟩ := exists_rowAt i
    exact ⟨t, flush_4 t, emb_4 t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v3) = res_4 (m0 m c) (m1 m c) (m2 m c) (m3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_4 m c), (h c).2⟩) (Cert.AttnOutIdeal.Value.run_blocks m ρ)
end

end Cert.AttnOut

namespace Cert.AttnOut

open Cert.AttnOutReferenceIdeal Cert.AttnOutReferenceIdeal.Gen

/-- What the reference computes. -/
theorem reference_eq_4 (A0 : FVec Ideal S8192x512 .f32) (A1 : FVec Ideal S8192x512 .f32) (A2 : FVec Ideal S1024x1024 .f32) (A3 : FVec Ideal S8192x1024 .f32) :
    (addf A3 (Host.dotGeneral dot_S8192x1024_S1024x1024_S8192x1024_1_0_0_1_n_n none (concatenate S8192x1024 1 [⟨S8192x512, A0⟩, ⟨S8192x512, A1⟩] concatenates_S8192x512_S8192x512_S8192x1024_d1) A2) : FVec Ideal S8192x1024 .f32) = res_4 A0 A1 A2 A3 := by
  funext y
  obtain ⟨i, j, rfl⟩ := exists_ix2 y
  unfold res_4
  pointwise

end Cert.AttnOut

end
-- ==== Proof.Norm.lean ====
/-
  The root-mean-square normalisation of one row of 1024 numbers.
-/
module

public import Idealize.ShloMosaic.PureOps.Ideal

@[expose] public section

noncomputable section

open Idealize.ShloMosaic

namespace Cert.Norm

/-- The mean of the row's squares, plus the small constant. -/
def meanSq (x : Fin 1024 → EReal) : EReal :=
  Ideal.div (∑ k, x k * x k) (Ideal.ofBits .f32 0x44800000#32) + Ideal.ofBits .f32 0x358637BD#32

/-- The row's inverse root mean square. -/
def rinv (x : Fin 1024 → EReal) : EReal := Ideal.rsqrt (meanSq x)

/-- The row normalised and scaled. -/
def normed (x g : Fin 1024 → EReal) (j : Fin 1024) : EReal := x j * rinv x * g j

end Cert.Norm

end
-- ==== Proof.AttnInValue.lean ====
/-
  The attention layer's input: a block of rows is normalised and multiplied by the weight, in two halves of the columns;
  what the launch's arrays hold after the grid, and what the reference computes.
-/
module

public import proofs.«01_k».proof.Proof.Blocks
public import proofs.«01_k».proof.Proof.Norm
public import proofs.«01_k».proof.Proof.Gen.AttnInIdeal.Value
public import proofs.«01_k».proof.Proof.Gen.AttnInReferenceIdeal.Run

@[expose] public section

set_option maxRecDepth 16384
noncomputable section
open Idealize.ShloMosaic Idealize.ShloMosaic.TcCoe Idealize.SL.Sem Cert.Blocks

namespace Cert.AttnIn

open Cert.AttnInIdeal Cert.AttnInIdeal.Gen

/-- The normalised rows times the weight. -/
def res_3 (X0 : S8192x1024.Idx → EReal) (X1 : S1x1024.Idx → EReal) (X2 : S1024x2304.Idx → EReal) (y : S8192x2304.Idx) : EReal :=
  ∑ k : Fin 1024, Norm.normed (fun k => X0 (ix2 (y 0) k)) (fun k => X1 (ix2 0 k)) k * X2 (ix2 k (y 1))

/-- The normalised rows. -/
def res_4 (X0 : S8192x1024.Idx → EReal) (X1 : S1x1024.Idx → EReal) (X2 : S1024x2304.Idx → EReal) (y : S8192x1024.Idx) : EReal :=
  Norm.normed (fun k => X0 (ix2 (y 0) k)) (fun k => X1 (ix2 0 k)) (y 1)

theorem pay1_apply (v0 : Vec Ideal S256x1024 .f32) (v1 : Vec Ideal S1x1024 .f32) (p : Fin 256) (j : Fin 1024) :
    k0_pay1 (F := Ideal) v0 v1 (ix2 p j) = Norm.normed (fun k => v0 (ix2 p k)) (fun k => v1 (ix2 0 k)) j := by
  unfold k0_pay1
  pointwise
  rfl

theorem pay2_apply (v0 : Vec Ideal S256x1024 .f32) (v1 : Vec Ideal S1x1024 .f32) (v2 : Vec Ideal S1152x1024 .bf16) (p : Fin 256) (j : Fin 1152) :
    k0_pay2 (F := Ideal) v0 v1 v2 (ix2 p j)
      = ∑ k : Fin 1024, Norm.normed (fun k => v0 (ix2 p k)) (fun k => v1 (ix2 0 k)) k * v2 (ix2 j k) := by
  unfold k0_pay2
  pointwise
  exact Finset.sum_congr rfl fun k _ => congrArg (· * _) (pay1_apply v0 v1 p k)

theorem pay3_apply (v0 : Vec Ideal S256x1024 .f32) (v1 : Vec Ideal S1x1024 .f32) (v2 : Vec Ideal S1152x1024 .bf16) (p : Fin 256) (j : Fin 1152) :
    k0_pay3 (F := Ideal) v0 v1 v2 (ix2 p j)
      = ∑ k : Fin 1024, Norm.normed (fun k => v0 (ix2 p k)) (fun k => v1 (ix2 0 k)) k * v2 (ix2 j k) := by
  unfold k0_pay3
  pointwise
  exact Finset.sum_congr rfl fun k _ => congrArg (· * _) (pay1_apply v0 v1 p k)

def blkOf (x0 : S256x1024.Idx → EReal) (x1 : S1x1024.Idx → EReal) (x2 : S2304x1024.Idx → EReal) (y : S256x2304.Idx) : EReal :=
  ∑ k : Fin 1024, Norm.normed (fun k => x0 (ix2 (y 0) k)) (fun k => x1 (ix2 0 k)) k * x2 (ix2 (y 1) k)

theorem blk_3 (x0 : Vec Ideal S256x1024 .f32) (x1 : Vec Ideal S1x1024 .f32) (x2 : Vec Ideal S2304x1024 .bf16) (p : Fin 256) (j : Fin 2304) :
    out0_3 (F := Ideal) x0 x1 x2 (ix2 p j) = ∑ k : Fin 1024, Norm.normed (fun k => x0 (ix2 p k)) (fun k => x1 (ix2 0 k)) k * x2 (ix2 j k) := by
  unfold out0_3
  refine canon_of_cover (e := .f32) (blkOf x0 x1 x2) _ ?_ (ix2 p j) (cover0_3 _ _ _)
  intro pc h
  rcases List.mem_cons.mp h with rfl | h
  · refine store_ix2 (e := .f32) inb_S256x2304_S256x1152_0_1152 (k0_pay3 (F := Ideal) (View.ld x0 r0_0) (View.ld x1 r0_1) (View.ld x2 r0_4)) (blkOf x0 x1 x2) fun p j p' j' hp hj => ?_
    rw [pay3_apply, ld_all, ld_all]
    obtain rfl : p = p' := Fin.ext (by omega)
    exact Finset.sum_congr rfl fun k _ => congrArg (_ * ·) (ld_ix2 x2 _ j k j' k hj (Nat.zero_add _))
  · obtain rfl := List.mem_singleton.mp h
    refine store_ix2 (e := .f32) inb_S256x2304_S256x1152_0_0 (k0_pay2 (F := Ideal) (View.ld x0 r0_0) (View.ld x1 r0_1) (View.ld x2 r0_2)) (blkOf x0 x1 x2) fun p j p' j' hp hj => ?_
    rw [pay2_apply, ld_all, ld_all]
    obtain rfl : p = p' := Fin.ext (by omega)
    exact Finset.sum_congr rfl fun k _ => congrArg (_ * ·) (ld_ix2 x2 _ j k j' k hj (Nat.zero_add _))

theorem blk_4 (x0 : Vec Ideal S256x1024 .f32) (x1 : Vec Ideal S1x1024 .f32) (x2 : Vec Ideal S2304x1024 .bf16) (p : Fin 256) (j : Fin 1024) :
    out0_4 (F := Ideal) x0 x1 x2 (ix2 p j) = Norm.normed (fun k => x0 (ix2 p k)) (fun k => x1 (ix2 0 k)) j := by
  unfold out0_4
  rw [canon_all, ld_all, ld_all]
  exact pay1_apply x0 x1 p j

section
variable (m : (ℓ : Loc nD τ sig) → Buf (Elt Ideal) ℓ) (c : Dev nD)

abbrev m0 : S8192x1024.Idx → EReal := m ((c : Thread nD τ).loc main_arg0)
abbrev m1 : S1x1024.Idx → EReal := m ((c : Thread nD τ).loc main_arg1)
abbrev m2 : S1024x2304.Idx → EReal := m ((c : Thread nD τ).loc main_arg2)

theorem host_0 (a : Fin 8192) (b : Fin 1024) : V m c main_arg0 (ix2 a b) = m0 m c (ix2 a b) := by
  rw [V_main_arg0]

theorem host_1 (a : Fin 1) (b : Fin 1024) : V m c main_arg1 (ix2 a b) = m1 m c (ix2 a b) := by
  rw [V_main_arg1]

theorem host_2 (a : Fin 2304) (b : Fin 1024) : V m c main_v1 (ix2 a b) = m2 m c (ix2 b a) := by
  unfold V hostOps0
  simp only [List.flatten_cons, List.flatten_nil, List.cons_append, List.nil_append, List.append_nil]
  after_reads_at

theorem point_lt (t : Fin cfg0.N) : t.val < 32 := lt_of_lt_of_eq t.isLt (show cfg0.N = 32 from N_0)

/-- The array's row at row `p` of block `t`. -/
def rowAt (t : Fin cfg0.N) (p : Fin 256) : Fin 8192 := ⟨256 * t.val + p.val, by have := point_lt t; omega⟩

theorem exists_rowAt (i : Fin 8192) : ∃ t p, rowAt t p = i := by
  have hN : i.val / 256 < cfg0.N := by rw [show cfg0.N = 32 from N_0]; omega
  exact ⟨⟨_, hN⟩, ⟨i.val % 256, Nat.mod_lt _ (by decide)⟩, Fin.ext (Nat.div_add_mod i.val 256)⟩

def b0 (t : Fin cfg0.N) : S256x1024.Idx → EReal := iblk m c 0 t

theorem index_0 : ∀ t : Fin cfg0.N, win0_0.index t 0 * 256 = 256 * t.val ∧ win0_0.index t 1 * 1024 = 0 := by decide +kernel

theorem iblk_0 (t : Fin cfg0.N) (a : Fin 256) (b : Fin 1024) : b0 m c t (ix2 a b) = m0 m c (ix2 (rowAt t a) b) := by
  rw [← host_0]
  unfold b0 iblk
  rw [View.read_apply]
  exact congrArg (V m c main_arg0) (eq_ix2_of (index_0 t) rfl rfl rfl (Nat.zero_add _))

def b1 (t : Fin cfg0.N) : S1x1024.Idx → EReal := iblk m c 1 t

theorem index_1 : ∀ t : Fin cfg0.N, win0_1.index t 0 * 1 = 0 ∧ win0_1.index t 1 * 1024 = 0 := by decide +kernel

theorem iblk_1 (t : Fin cfg0.N) (a : Fin 1) (b : Fin 1024) : b1 m c t (ix2 a b) = m1 m c (ix2 a b) := by
  rw [← host_1]
  unfold b1 iblk
  rw [View.read_apply]
  exact congrArg (V m c main_arg1) (eq_ix2_of (index_1 t) rfl rfl (Nat.zero_add _) (Nat.zero_add _))

def b2 (t : Fin cfg0.N) : S2304x1024.Idx → EReal := iblk m c 2 t

theorem index_2 : ∀ t : Fin cfg0.N, win0_2.index t 0 * 2304 = 0 ∧ win0_2.index t 1 * 1024 = 0 := by decide +kernel

theorem iblk_2 (t : Fin cfg0.N) (a : Fin 2304) (b : Fin 1024) : b2 m c t (ix2 a b) = m2 m c (ix2 b a) := by
  rw [← host_2]
  unfold b2 iblk
  rw [View.read_apply]
  exact congrArg (V m c main_v1) (eq_ix2_of (index_2 t) rfl rfl (Nat.zero_add _) (Nat.zero_add _))

theorem point_3 (t : Fin cfg0.N) (p : Fin 256) (j : Fin 2304) :
    out0_3 (F := Ideal) (b0 m c t) (b1 m c t) (b2 m c t) (ix2 p j) = res_3 (m0 m c) (m1 m c) (m2 m c) (ix2 (rowAt t p) j) := by
  refine (blk_3 (b0 m c t) (b1 m c t) (b2 m c t) p j).trans ?_
  simp only [iblk_0, iblk_1, iblk_2]
  rfl

theorem index_3 : ∀ t : Fin cfg0.N, win0_3.index t 0 * 256 = 256 * t.val ∧ win0_3.index t 1 * 2304 = 0 := by decide +kernel

theorem flush_3 : ∀ t : Fin cfg0.N, (cfg0.win 3).flush t = true := by decide +kernel

theorem emb_3 (t : Fin cfg0.N) (p : Fin 256) (j : Fin 2304) :
    ((cfg0.win 3).blk t).view.emb (ix2 p j) = (ix2 (rowAt t p) j : S8192x2304.Idx) :=
  eq_ix2_of (index_3 t) rfl rfl rfl (Nat.zero_add _)

theorem final_3 : (dats m 0 c).arrAt 3 cfg0.N = res_3 (m0 m c) (m1 m c) (m2 m c) := by
  refine (dats m 0 c).arrAt_eq_of_cover 3 (res_3 (m0 m c) (m1 m c) (m2 m c)) (fun t hf => ?_) fun y => ?_
  · rw [Cert.AttnInIdeal.Value.flushed3]
    funext y
    obtain ⟨p, j, rfl⟩ := exists_ix2 y
    rw [View.read_apply, emb_3 t p j]
    exact point_3 m c t p j
  · obtain ⟨i, j, rfl⟩ := exists_ix2 y
    obtain ⟨t, p, rfl⟩ := exists_rowAt i
    exact ⟨t, flush_3 t, emb_3 t p j ▸ View.emb_mem_set _ _⟩

theorem point_4 (t : Fin cfg0.N) (p : Fin 256) (j : Fin 1024) :
    out0_4 (F := Ideal) (b0 m c t) (b1 m c t) (b2 m c t) (ix2 p j) = res_4 (m0 m c) (m1 m c) (m2 m c) (ix2 (rowAt t p) j) := by
  refine (blk_4 (b0 m c t) (b1 m c t) (b2 m c t) p j).trans ?_
  simp only [iblk_0, iblk_1, iblk_2]
  rfl

theorem index_4 : ∀ t : Fin cfg0.N, win0_4.index t 0 * 256 = 256 * t.val ∧ win0_4.index t 1 * 1024 = 0 := by decide +kernel

theorem flush_4 : ∀ t : Fin cfg0.N, (cfg0.win 4).flush t = true := by decide +kernel

theorem emb_4 (t : Fin cfg0.N) (p : Fin 256) (j : Fin 1024) :
    ((cfg0.win 4).blk t).view.emb (ix2 p j) = (ix2 (rowAt t p) j : S8192x1024.Idx) :=
  eq_ix2_of (index_4 t) rfl rfl rfl (Nat.zero_add _)

theorem final_4 : (dats m 0 c).arrAt 4 cfg0.N = res_4 (m0 m c) (m1 m c) (m2 m c) := by
  refine (dats m 0 c).arrAt_eq_of_cover 4 (res_4 (m0 m c) (m1 m c) (m2 m c)) (fun t hf => ?_) fun y => ?_
  · rw [Cert.AttnInIdeal.Value.flushed4]
    funext y
    obtain ⟨p, j, rfl⟩ := exists_ix2 y
    rw [View.read_apply, emb_4 t p j]
    exact point_4 m c t p j
  · obtain ⟨i, j, rfl⟩ := exists_ix2 y
    obtain ⟨t, p, rfl⟩ := exists_rowAt i
    exact ⟨t, flush_4 t, emb_4 t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v2_0) = res_3 (m0 m c) (m1 m c) (m2 m c)
      ∧ r.2.mem ((c : Thread nD τ).loc main_v2_1) = res_4 (m0 m c) (m1 m c) (m2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_3 m c), ((h c).2).1.trans (final_4 m c), (h c).2.2⟩) (Cert.AttnInIdeal.Value.run_blocks m ρ)
end

end Cert.AttnIn

namespace Cert.AttnIn

open Cert.AttnInReferenceIdeal Cert.AttnInReferenceIdeal.Gen

/-- What the reference computes. -/
theorem reference_eq_3 (A0 : FVec Ideal S8192x1024 .f32) (A1 : FVec Ideal S1x1024 .f32) (A2 : FVec Ideal S1024x2304 .f32) :
    (Host.dotGeneral dot_S8192x1024_S1024x2304_S8192x2304_1_0_0_1_n_n none (mulf (mulf A0 (broadcastInDim S8192x1024 ![0, 1] bcast_S8192x1_S8192x1024_0_1 (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 A1)) A2 : FVec Ideal S8192x2304 .f32) = res_3 A0 A1 A2 := by
  funext y
  obtain ⟨i, j, rfl⟩ := exists_ix2 y
  unfold res_3
  pointwise
  rfl

/-- What the reference computes. -/
theorem reference_eq_4 (A0 : FVec Ideal S8192x1024 .f32) (A1 : FVec Ideal S1x1024 .f32) (A2 : FVec Ideal S1024x2304 .f32) :
    (truncf .bf16 (mulf (mulf A0 (broadcastInDim S8192x1024 ![0, 1] bcast_S8192x1_S8192x1024_0_1 (Host.rsqrt (addf (Host.divf (broadcastInDim S8192x1 ![0] bcast_S8192_S8192x1_0 (Host.reduceAdd (mulf A0 A0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 A1)) bitsLt_bf16_f32 : FVec Ideal S8192x1024 .bf16) = res_4 A0 A1 A2 := by
  funext y
  obtain ⟨i, j, rfl⟩ := exists_ix2 y
  unfold res_4
  pointwise
  rfl

end Cert.AttnIn

end
-- ==== Proof.NormGrad.lean ====
/-
  The gradient of the root-mean-square normalisation of one row: two arrangements of it agree on every extended real.
-/
module

public import proofs.«01_k».proof.Proof.Norm
public import Idealize.ShloMosaic.PureOps.Ideal.Laws
public import Mathlib.Data.EReal.Inv

@[expose] public section

noncomputable section

open Idealize.ShloMosaic

namespace Cert.Norm

/-- The gradient at `j` of the normalised row, whose scaled upstream gradient is `t`. -/
def grad (x t : Fin 1024 → EReal) (j : Fin 1024) : EReal :=
  rinv x * (t j - x j * rinv x * Ideal.div (∑ k, t k * (x k * rinv x)) (Ideal.ofBits .f32 0x44800000#32))

/-- The gradient reaching the mean of the squares, per entry. -/
def meanGrad (x t : Fin 1024 → EReal) : EReal :=
  Ideal.div ((∑ k, x k * t k) * (Ideal.ofBits .f32 0xBF000000#32 * Ideal.div (rinv x) (meanSq x))) (Ideal.ofBits .f32 0x44800000#32)

theorem ofBits_width : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_small : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem div_coe (a : EReal) {b : ℝ} (hb : b ≠ 0) : Ideal.div a (b : EReal) = a * ((b⁻¹ : ℝ) : EReal) := by
  unfold Ideal.div
  rw [if_neg (by simpa using hb), EReal.coe_inv]

/-- A square is not negative. -/
theorem sq_nonneg' (a : EReal) : 0 ≤ a * a := by
  rcases le_total 0 a with h | h
  · exact mul_nonneg h h
  · rw [← neg_mul_neg]
    exact mul_nonneg (EReal.neg_nonneg.mpr h) (EReal.neg_nonneg.mpr h)

/-- The mean of squares is infinite or a positive real. -/
theorem meanSq_cases (x : Fin 1024 → EReal) : meanSq x = ⊤ ∨ ∃ v : ℝ, 0 < v ∧ meanSq x = (v : EReal) := by
  obtain ⟨e, he, h⟩ := ofBits_small
  have hs : 0 ≤ ∑ k, x k * x k := Finset.sum_nonneg fun k _ => sq_nonneg' (x k)
  unfold meanSq
  rw [h, ofBits_width, div_coe _ (by norm_num)]
  generalize (∑ k, x k * x k) = s at hs
  induction s with
  | bot => exact absurd hs (by simp)
  | top => left; rw [EReal.top_mul_coe_of_pos (by norm_num)]; simp
  | coe a =>
    right
    have ha : 0 ≤ a := by exact_mod_cast hs
    exact ⟨a * 1024⁻¹ + e, by positivity, by push_cast; rfl⟩

theorem sum_mul_real {ι : Type} (s : Finset ι) (f : ι → EReal) {b : ℝ} (hb : 0 ≤ b) :
    ∑ k ∈ s, f k * (b : EReal) = (∑ k ∈ s, f k) * (b : EReal) := by
  classical
  induction s using Finset.induction_on with
  | empty => simp
  | insert a s ha ih =>
    rw [Finset.sum_insert ha, Finset.sum_insert ha, ih,
      EReal.right_distrib_of_nonneg_of_ne_top (by exact_mod_cast hb) (EReal.coe_ne_top b)]

/-- Half of the negation, taken twice, is the negation. -/
theorem half_twice (z : EReal) : z * ((-(1 / 2) : ℝ) : EReal) + z * ((-(1 / 2) : ℝ) : EReal) = -z := by
  induction z with
  | bot => rw [EReal.bot_mul_coe_of_neg (by norm_num)]; rfl
  | top => rw [EReal.top_mul_coe_of_neg (by norm_num)]; rfl
  | coe a => rw [← EReal.coe_mul, ← EReal.coe_add, ← EReal.coe_neg]; congr 1; ring

theorem grad_eq (x t : Fin 1024 → EReal) (j : Fin 1024) (a : EReal) :
    a + t j * rinv x + x j * meanGrad x t + meanGrad x t * x j = a + grad x t j := by
  rcases meanSq_cases x with h | ⟨v, hv, h⟩
  · have hr : rinv x = 0 := by unfold rinv; rw [h]; rfl
    have hm : meanGrad x t = 0 := by
      unfold meanGrad
      rw [hr, h, ofBits_width, div_coe _ (by norm_num)]
      simp [Ideal.div]
    unfold grad
    rw [hr, hm]
    simp
  · obtain ⟨b, hb, hr, hv'⟩ : ∃ b : ℝ, 0 < b ∧ rinv x = (b : EReal) ∧ v⁻¹ = b * b := by
      refine ⟨(Real.sqrt v)⁻¹, by positivity, ?_, ?_⟩
      · unfold rinv
        rw [h, Ideal.rsqrt_coe, if_neg (not_lt.mpr hv.le), if_neg hv.ne']
      · rw [← mul_inv, Real.mul_self_sqrt hv.le]
    have hb0 : (0 : EReal) ≤ (b : EReal) := by exact_mod_cast hb.le
    obtain ⟨S, hS⟩ : ∃ S : EReal, S = ∑ k, x k * t k := ⟨_, rfl⟩
    have hm : meanGrad x t = S * ((b * (b * b) * 1024⁻¹ : ℝ) : EReal) * ((-(1 / 2) : ℝ) : EReal) := by
      unfold meanGrad
      rw [hr, h, div_coe _ hv.ne', hv', ofBits_neg_half, ofBits_width, div_coe _ (by norm_num), ← hS]
      rw [← EReal.coe_mul, ← EReal.coe_mul, mul_assoc, ← EReal.coe_mul, mul_assoc S, ← EReal.coe_mul]
      congr 2
      ring
    have hg : grad x t j = t j * (b : EReal) + -(x j * (S * ((b * (b * b) * 1024⁻¹ : ℝ) : EReal))) := by
      unfold grad
      have hsum : ∑ k, t k * (x k * (b : EReal)) = S * (b : EReal) := by
        rw [hS, ← sum_mul_real _ _ hb.le]
        exact Finset.sum_congr rfl fun k _ => by rw [← mul_assoc, mul_comm (t k)]
      rw [hr, hsum, ofBits_width, div_coe _ (by norm_num), sub_eq_add_neg,
        EReal.left_distrib_of_nonneg_of_ne_top hb0 (EReal.coe_ne_top b), mul_comm (b : EReal) (t j), mul_neg]
      congr 2
      have e : ∀ p q u w : EReal, p * (q * p * (u * p * w)) = q * (u * (p * (p * p) * w)) := by
        intro p q u w; ac_rfl
      rw [e]
      push_cast
      rfl
    rw [hm, hg, hr, mul_comm (S * _ * _) (x j), add_assoc, ← mul_assoc (x j), half_twice, add_assoc]

end Cert.Norm

end
-- ==== Proof.FfnDhValue.lean ====
/-
  The gradient of the feed-forward's input: a block of rows times the transposed weight, brought back through the normalisation
  and added to the residual's gradient, with the gradient of the normalisation's scale summed over the blocks;
  what the launch's arrays hold after the grid, and what the reference computes.
-/
module

public import proofs.«01_k».proof.Proof.Blocks
public import proofs.«01_k».proof.Proof.NormGrad
public import proofs.«01_k».proof.Proof.Gen.FfnDhIdeal.Value
public import proofs.«01_k».proof.Proof.Gen.FfnDhReferenceIdeal.Run
public import proofs.«01_k».proof.Proof.Gen.FfnDhReferenceIdeal.Read

@[expose] public section

set_option maxRecDepth 16384
noncomputable section
open Idealize.ShloMosaic Idealize.ShloMosaic.TcCoe Idealize.SL.Sem Cert.Blocks

namespace Cert.FfnDh

open Cert.FfnDhIdeal Cert.FfnDhIdeal.Gen

/-- The gradient of the normalisation's input, added to the residual's. -/
def res_5 (X0 : S8192x5632.Idx → EReal) (X1 : S1024x5632.Idx → EReal) (X2 : S8192x1024.Idx → EReal) (X3 : S1x1024.Idx → EReal) (X4 : S8192x1024.Idx → EReal) (y : S8192x1024.Idx) : EReal :=
  X4 (ix2 (y 0) (y 1)) + Norm.grad (fun k => X2 (ix2 (y 0) k)) (fun k => (∑ e : Fin 5632, X0 (ix2 (y 0) e) * X1 (ix2 k e)) * X3 (ix2 0 k)) (y 1)

/-- The same in the other float type. -/
def res_6 (X0 : S8192x5632.Idx → EReal) (X1 : S1024x5632.Idx → EReal) (X2 : S8192x1024.Idx → EReal) (X3 : S1x1024.Idx → EReal) (X4 : S8192x1024.Idx → EReal) (y : S8192x1024.Idx) : EReal :=
  X4 (ix2 (y 0) (y 1)) + Norm.grad (fun k => X2 (ix2 (y 0) k)) (fun k => (∑ e : Fin 5632, X0 (ix2 (y 0) e) * X1 (ix2 k e)) * X3 (ix2 0 k)) (y 1)

/-- One row's part of the sum over the rows. -/
def row_7 (X0 : S8192x5632.Idx → EReal) (X1 : S1024x5632.Idx → EReal) (X2 : S8192x1024.Idx → EReal) (X3 : S1x1024.Idx → EReal) (X4 : S8192x1024.Idx → EReal) (j : Fin 1024) (r : Fin 8192) : EReal :=
  (∑ e : Fin 5632, X0 (ix2 r e) * X1 (ix2 j e)) * (X2 (ix2 r j) * Norm.rinv (fun k => X2 (ix2 r k)))

/-- The row's part, and nothing past the last row. -/
def part_7 (X0 : S8192x5632.Idx → EReal) (X1 : S1024x5632.Idx → EReal) (X2 : S8192x1024.Idx → EReal) (X3 : S1x1024.Idx → EReal) (X4 : S8192x1024.Idx → EReal) (j : Fin 1024) (r : ℕ) : EReal := if h : r < 8192 then row_7 X0 X1 X2 X3 X4 j ⟨r, h⟩ else 0

/-- The gradient of the normalisation's scale. -/
def res_7 (X0 : S8192x5632.Idx → EReal) (X1 : S1024x5632.Idx → EReal) (X2 : S8192x1024.Idx → EReal) (X3 : S1x1024.Idx → EReal) (X4 : S8192x1024.Idx → EReal) (y : S1x1024.Idx) : EReal := ∑ r : Fin 8192, row_7 X0 X1 X2 X3 X4 (y 1) r

theorem sum_7 (X0 : S8192x5632.Idx → EReal) (X1 : S1024x5632.Idx → EReal) (X2 : S8192x1024.Idx → EReal) (X3 : S1x1024.Idx → EReal) (X4 : S8192x1024.Idx → EReal) (z : Fin 1) (j : Fin 1024) :
    res_7 X0 X1 X2 X3 X4 (ix2 z j) = ∑ r ∈ Finset.range 8192, part_7 X0 X1 X2 X3 X4 j r := by
  rw [Finset.sum_range]
  refine Finset.sum_congr rfl fun r _ => ?_
  unfold part_7
  rw [dif_pos r.isLt]
  rfl

theorem blk_5 (x0 : Vec Ideal S256x5632 .bf16) (x1 : Vec Ideal S5632x1024 .bf16) (x2 : Vec Ideal S256x1024 .f32) (x3 : Vec Ideal S1x1024 .f32) (x4 : Vec Ideal S256x1024 .f32) (p : Fin 256) (j : Fin 1024) :
    k0_pay6 (x0) (x1) (x2) (x3) (x4) (ix2 p j) = x4 (ix2 p j) + Norm.grad (fun k => x2 (ix2 p k)) (fun k => (∑ e : Fin 5632, x0 (ix2 p e) * x1 (ix2 e k)) * x3 (ix2 0 k)) j := by
  unfold k0_pay6 k0_pay5 k0_pay4 k0_pay3
  pointwise
  rfl

theorem blk_6 (x0 : Vec Ideal S256x5632 .bf16) (x1 : Vec Ideal S5632x1024 .bf16) (x2 : Vec Ideal S256x1024 .f32) (x3 : Vec Ideal S1x1024 .f32) (x4 : Vec Ideal S256x1024 .f32) (p : Fin 256) (j : Fin 1024) :
    k0_pay7 (x0) (x1) (x2) (x3) (x4) (ix2 p j) = x4 (ix2 p j) + Norm.grad (fun k => x2 (ix2 p k)) (fun k => (∑ e : Fin 5632, x0 (ix2 p e) * x1 (ix2 e k)) * x3 (ix2 0 k)) j := by
  unfold k0_pay7 k0_pay6 k0_pay5 k0_pay4 k0_pay3
  pointwise
  rfl

theorem zero_7 (z : Fin 1) (j : Fin 1024) : k0_pay1 (F := Ideal) (ix2 z j) = 0 := by
  unfold k0_pay1
  pointwise

theorem add_7 (x0 : Vec Ideal S256x5632 .bf16) (x1 : Vec Ideal S5632x1024 .bf16) (x2 : Vec Ideal S256x1024 .f32) (x3 : Vec Ideal S1x1024 .f32) (x4 : Vec Ideal S256x1024 .f32) (acc : Vec Ideal S1x1024 .f32) (z : Fin 1) (j : Fin 1024) :
    k0_pay2 (k0_pay3 (x0) (x1)) (k0_pay5 (x2)) acc (ix2 z j) = acc (ix2 z j) + ∑ p : Fin 256, (∑ e : Fin 5632, x0 (ix2 p e) * x1 (ix2 e j)) * (x2 (ix2 p j) * Norm.rinv (fun k => x2 (ix2 p k))) := by
  unfold k0_pay2 k0_pay5 k0_pay4 k0_pay3
  pointwise
  rfl

section
variable (m : (ℓ : Loc nD τ sig) → Buf (Elt Ideal) ℓ) (c : Dev nD)

abbrev m0 : S8192x5632.Idx → EReal := m ((c : Thread nD τ).loc main_arg0)
abbrev m1 : S1024x5632.Idx → EReal := m ((c : Thread nD τ).loc main_arg1)
abbrev m2 : S8192x1024.Idx → EReal := m ((c : Thread nD τ).loc main_arg2)
abbrev m3 : S1x1024.Idx → EReal := m ((c : Thread nD τ).loc main_arg3)
abbrev m4 : S8192x1024.Idx → EReal := m ((c : Thread nD τ).loc main_arg4)

theorem host_0 (a : Fin 8192) (b : Fin 5632) : V m c main_v0 (ix2 a b) = m0 m c (ix2 a b) := by
  unfold V hostOps0
  simp only [List.flatten_cons, List.flatten_nil, List.cons_append, List.nil_append, List.append_nil]
  after_reads_at

theorem host_1 (a : Fin 5632) (b : Fin 1024) : V m c main_v2 (ix2 a b) = m1 m c (ix2 b a) := by
  unfold V hostOps0
  simp only [List.flatten_cons, List.flatten_nil, List.cons_append, List.nil_append, List.append_nil]
  after_reads_at

theorem host_2 (a : Fin 8192) (b : Fin 1024) : V m c main_arg2 (ix2 a b) = m2 m c (ix2 a b) := by
  rw [V_main_arg2]

theorem host_3 (a : Fin 1) (b : Fin 1024) : V m c main_arg3 (ix2 a b) = m3 m c (ix2 a b) := by
  rw [V_main_arg3]

theorem host_4 (a : Fin 8192) (b : Fin 1024) : V m c main_arg4 (ix2 a b) = m4 m c (ix2 a b) := by
  rw [V_main_arg4]

theorem point_lt (t : Fin cfg0.N) : t.val < 32 := lt_of_lt_of_eq t.isLt (show cfg0.N = 32 from N_0)

/-- The array's row at row `p` of block `t`. -/
def rowAt (t : Fin cfg0.N) (p : Fin 256) : Fin 8192 := ⟨256 * t.val + p.val, by have := point_lt t; omega⟩

theorem exists_rowAt (i : Fin 8192) : ∃ t p, rowAt t p = i := by
  have hN : i.val / 256 < cfg0.N := by rw [show cfg0.N = 32 from N_0]; omega
  exact ⟨⟨_, hN⟩, ⟨i.val % 256, Nat.mod_lt _ (by decide)⟩, Fin.ext (Nat.div_add_mod i.val 256)⟩

def b0 (t : Fin cfg0.N) : S256x5632.Idx → EReal := iblk m c 0 t

theorem index_0 : ∀ t : Fin cfg0.N, win0_0.index t 0 * 256 = 256 * t.val ∧ win0_0.index t 1 * 5632 = 0 := by decide +kernel

theorem iblk_0 (t : Fin cfg0.N) (a : Fin 256) (b : Fin 5632) : b0 m c t (ix2 a b) = m0 m c (ix2 (rowAt t a) b) := by
  rw [← host_0]
  unfold b0 iblk
  rw [View.read_apply]
  exact congrArg (V m c main_v0) (eq_ix2_of (index_0 t) rfl rfl rfl (Nat.zero_add _))

def b1 (t : Fin cfg0.N) : S5632x1024.Idx → EReal := iblk m c 1 t

theorem index_1 : ∀ t : Fin cfg0.N, win0_1.index t 0 * 5632 = 0 ∧ win0_1.index t 1 * 1024 = 0 := by decide +kernel

theorem iblk_1 (t : Fin cfg0.N) (a : Fin 5632) (b : Fin 1024) : b1 m c t (ix2 a b) = m1 m c (ix2 b a) := by
  rw [← host_1]
  unfold b1 iblk
  rw [View.read_apply]
  exact congrArg (V m c main_v2) (eq_ix2_of (index_1 t) rfl rfl (Nat.zero_add _) (Nat.zero_add _))

def b2 (t : Fin cfg0.N) : S256x1024.Idx → EReal := iblk m c 2 t

theorem index_2 : ∀ t : Fin cfg0.N, win0_2.index t 0 * 256 = 256 * t.val ∧ win0_2.index t 1 * 1024 = 0 := by decide +kernel

theorem iblk_2 (t : Fin cfg0.N) (a : Fin 256) (b : Fin 1024) : b2 m c t (ix2 a b) = m2 m c (ix2 (rowAt t a) b) := by
  rw [← host_2]
  unfold b2 iblk
  rw [View.read_apply]
  exact congrArg (V m c main_arg2) (eq_ix2_of (index_2 t) rfl rfl rfl (Nat.zero_add _))

def b3 (t : Fin cfg0.N) : S1x1024.Idx → EReal := iblk m c 3 t

theorem index_3 : ∀ t : Fin cfg0.N, win0_3.index t 0 * 1 = 0 ∧ win0_3.index t 1 * 1024 = 0 := by decide +kernel

theorem iblk_3 (t : Fin cfg0.N) (a : Fin 1) (b : Fin 1024) : b3 m c t (ix2 a b) = m3 m c (ix2 a b) := by
  rw [← host_3]
  unfold b3 iblk
  rw [View.read_apply]
  exact congrArg (V m c main_arg3) (eq_ix2_of (index_3 t) rfl rfl (Nat.zero_add _) (Nat.zero_add _))

def b4 (t : Fin cfg0.N) : S256x1024.Idx → EReal := iblk m c 4 t

theorem index_4 : ∀ t : Fin cfg0.N, win0_4.index t 0 * 256 = 256 * t.val ∧ win0_4.index t 1 * 1024 = 0 := by decide +kernel

theorem iblk_4 (t : Fin cfg0.N) (a : Fin 256) (b : Fin 1024) : b4 m c t (ix2 a b) = m4 m c (ix2 (rowAt t a) b) := by
  rw [← host_4]
  unfold b4 iblk
  rw [View.read_apply]
  exact congrArg (V m c main_arg4) (eq_ix2_of (index_4 t) rfl rfl rfl (Nat.zero_add _))

/-- What a point leaves in the output buffer 5. -/
theorem left_5 (t : Fin cfg0.N) : (outsAt0 m c t.val t.isLt).1 = k0_pay6 (iblk m c 0 t) (iblk m c 1 t) (iblk m c 2 t) (iblk m c 3 t) (iblk m c 4 t) := by
  by_cases h0 : t.val % 32 = 0
  · rw [outsAt0_A m c t h0]
    frame_out
  · rw [outsAt0_B m c t h0]
    frame_out

theorem point_5 (t : Fin cfg0.N) (p : Fin 256) (j : Fin 1024) :
    (outsAt0 m c t.val t.isLt).1 (ix2 p j) = res_5 (m0 m c) (m1 m c) (m2 m c) (m3 m c) (m4 m c) (ix2 (rowAt t p) j) := by
  rw [left_5 m c t]
  refine (blk_5 (b0 m c t) (b1 m c t) (b2 m c t) (b3 m c t) (b4 m c t) p j).trans ?_
  simp only [iblk_0, iblk_1, iblk_2, iblk_3, iblk_4]
  rfl

/-- What a point leaves in the output buffer 6. -/
theorem left_6 (t : Fin cfg0.N) : (outsAt0 m c t.val t.isLt).2.1 = k0_pay7 (iblk m c 0 t) (iblk m c 1 t) (iblk m c 2 t) (iblk m c 3 t) (iblk m c 4 t) := by
  by_cases h0 : t.val % 32 = 0
  · rw [outsAt0_A m c t h0]
    frame_out
  · rw [outsAt0_B m c t h0]
    frame_out

theorem point_6 (t : Fin cfg0.N) (p : Fin 256) (j : Fin 1024) :
    (outsAt0 m c t.val t.isLt).2.1 (ix2 p j) = res_6 (m0 m c) (m1 m c) (m2 m c) (m3 m c) (m4 m c) (ix2 (rowAt t p) j) := by
  rw [left_6 m c t]
  refine (blk_6 (b0 m c t) (b1 m c t) (b2 m c t) (b3 m c t) (b4 m c t) p j).trans ?_
  simp only [iblk_0, iblk_1, iblk_2, iblk_3, iblk_4]
  rfl

theorem index_5 : ∀ t : Fin cfg0.N, win0_5.index t 0 * 256 = 256 * t.val ∧ win0_5.index t 1 * 1024 = 0 := by decide +kernel

theorem flush_5 : ∀ t : Fin cfg0.N, (cfg0.win 5).flush t = true := by decide +kernel

theorem emb_5 (t : Fin cfg0.N) (p : Fin 256) (j : Fin 1024) :
    ((cfg0.win 5).blk t).view.emb (ix2 p j) = (ix2 (rowAt t p) j : S8192x1024.Idx) :=
  eq_ix2_of (index_5 t) rfl rfl rfl (Nat.zero_add _)

theorem final_5 : (dats m 0 c).arrAt 5 cfg0.N = res_5 (m0 m c) (m1 m c) (m2 m c) (m3 m c) (m4 m c) := by
  refine (dats m 0 c).arrAt_eq_of_cover 5 (res_5 (m0 m c) (m1 m c) (m2 m c) (m3 m c) (m4 m c)) (fun t hf => ?_) fun y => ?_
  · rw [Cert.FfnDhIdeal.Value.flushed5]
    funext y
    obtain ⟨p, j, rfl⟩ := exists_ix2 y
    rw [View.read_apply, emb_5 t p j]
    exact point_5 m c t p j
  · obtain ⟨i, j, rfl⟩ := exists_ix2 y
    obtain ⟨t, p, rfl⟩ := exists_rowAt i
    exact ⟨t, flush_5 t, emb_5 t p j ▸ View.emb_mem_set _ _⟩

theorem index_6 : ∀ t : Fin cfg0.N, win0_6.index t 0 * 256 = 256 * t.val ∧ win0_6.index t 1 * 1024 = 0 := by decide +kernel

theorem flush_6 : ∀ t : Fin cfg0.N, (cfg0.win 6).flush t = true := by decide +kernel

theorem emb_6 (t : Fin cfg0.N) (p : Fin 256) (j : Fin 1024) :
    ((cfg0.win 6).blk t).view.emb (ix2 p j) = (ix2 (rowAt t p) j : S8192x1024.Idx) :=
  eq_ix2_of (index_6 t) rfl rfl rfl (Nat.zero_add _)

theorem final_6 : (dats m 0 c).arrAt 6 cfg0.N = res_6 (m0 m c) (m1 m c) (m2 m c) (m3 m c) (m4 m c) := by
  refine (dats m 0 c).arrAt_eq_of_cover 6 (res_6 (m0 m c) (m1 m c) (m2 m c) (m3 m c) (m4 m c)) (fun t hf => ?_) fun y => ?_
  · rw [Cert.FfnDhIdeal.Value.flushed6]
    funext y
    obtain ⟨p, j, rfl⟩ := exists_ix2 y
    rw [View.read_apply, emb_6 t p j]
    exact point_6 m c t p j
  · obtain ⟨i, j, rfl⟩ := exists_ix2 y
    obtain ⟨t, p, rfl⟩ := exists_rowAt i
    exact ⟨t, flush_6 t, emb_6 t p j ▸ View.emb_mem_set _ _⟩

theorem kept_A_7 (t : Fin cfg0.N) (h0 : t.val % 32 = 0) :
    (outsAt0 m c t.val t.isLt).2.2 = k0_pay2 (k0_pay3 (iblk m c 0 t) (iblk m c 1 t)) (k0_pay5 (iblk m c 2 t)) (k0_pay1 (F := Ideal)) := by
  rw [outsAt0_A m c t h0]
  frame_out

theorem kept_B_7 (t : Fin cfg0.N) (h0 : ¬t.val % 32 = 0) :
    (outsAt0 m c t.val t.isLt).2.2 = k0_pay2 (k0_pay3 (iblk m c 0 t) (iblk m c 1 t)) (k0_pay5 (iblk m c 2 t)) (outsAt0 m c (t.val - 1) (Nat.lt_of_le_of_lt (Nat.sub_le _ _) t.isLt)).2.2 := by
  rw [outsAt0_B m c t h0]
  frame_out

theorem rows_7 (t : Fin cfg0.N) (j : Fin 1024) :
    (∑ p : Fin 256, (∑ e : Fin 5632, b0 m c t (ix2 p e) * b1 m c t (ix2 e j)) * (b2 m c t (ix2 p j) * Norm.rinv (fun k => b2 m c t (ix2 p k)))) = ∑ k ∈ Finset.range 256, part_7 (m0 m c) (m1 m c) (m2 m c) (m3 m c) (m4 m c) j (256 * t.val + k) := by
  rw [Finset.sum_range]
  refine Finset.sum_congr rfl fun p _ => ?_
  have hr : 256 * t.val + p.val < 8192 := by have := point_lt t; omega
  unfold part_7
  rw [dif_pos hr]
  simp only [iblk_0, iblk_1, iblk_2, iblk_3, iblk_4]
  rfl

/-- The accumulated output holds the sum over the rows met so far. -/
theorem acc_7 (n : ℕ) : ∀ (hn : n < cfg0.N) (z : Fin 1) (j : Fin 1024),
    (outsAt0 m c n hn).2.2 (ix2 z j) = ∑ r ∈ Finset.range (256 * (n + 1)), part_7 (m0 m c) (m1 m c) (m2 m c) (m3 m c) (m4 m c) j r := by
  have step : ∀ (t : Fin cfg0.N) (z : Fin 1) (j : Fin 1024) (acc : Vec Ideal S1x1024 .f32),
      acc (ix2 z j) = ∑ r ∈ Finset.range (256 * t.val), part_7 (m0 m c) (m1 m c) (m2 m c) (m3 m c) (m4 m c) j r →
      k0_pay2 (k0_pay3 (iblk m c 0 t) (iblk m c 1 t)) (k0_pay5 (iblk m c 2 t)) acc (ix2 z j) = ∑ r ∈ Finset.range (256 * (t.val + 1)), part_7 (m0 m c) (m1 m c) (m2 m c) (m3 m c) (m4 m c) j r := by
    intro t z j acc ha
    refine (add_7 (b0 m c t) (b1 m c t) (b2 m c t) (b3 m c t) (b4 m c t) acc z j).trans ?_
    rw [ha, rows_7 m c t j, Nat.mul_succ, Finset.sum_range_add]
  induction n with
  | zero =>
    intro hn z j
    exact (congrFun (kept_A_7 m c ⟨0, hn⟩ rfl) _).trans (step ⟨0, hn⟩ z j _ (zero_7 z j))
  | succ n ih =>
    intro hn z j
    have hN := point_lt ⟨n + 1, hn⟩
    exact (congrFun (kept_B_7 m c ⟨n + 1, hn⟩ (by show ¬(n + 1) % 32 = 0; dsimp only at hN; omega)) _).trans
      (step ⟨n + 1, hn⟩ z j _ (ih (Nat.lt_of_succ_lt hn) z j))

theorem index_7 : ∀ t : Fin cfg0.N, win0_7.index t 0 = 0 ∧ win0_7.index t 1 = 0 := by decide +kernel

theorem emb_7 (t : Fin cfg0.N) (z : Fin 1) (j : Fin 1024) :
    ((cfg0.win 7).blk t).view.emb (ix2 z j) = (ix2 z j : S1x1024.Idx) := by
  have hi := index_7 t
  refine funext fun a => Fin.ext ?_
  match a with
  | ⟨0, _⟩ => show win0_7.index t 0 * 1 + 1 * z.val = z.val; rw [hi.1]; omega
  | ⟨1, _⟩ => show win0_7.index t 1 * 1024 + 1 * j.val = j.val; rw [hi.2]; omega

theorem mem_7 (t : Fin cfg0.N) (z : Fin 1) (j : Fin 1024) : (ix2 z j : S1x1024.Idx) ∈ ((cfg0.win 7).blk t).view.set := by
  rw [← emb_7 t z j]
  exact View.emb_mem_set _ _

theorem final_7 : (dats m 0 c).arrAt 7 cfg0.N = res_7 (m0 m c) (m1 m c) (m2 m c) (m3 m c) (m4 m c) := by
  refine (dats m 0 c).arrAt_eq_of_cover 7 (res_7 (m0 m c) (m1 m c) (m2 m c) (m3 m c) (m4 m c)) (fun t hf => ?_) fun y => ?_
  · rw [Cert.FfnDhIdeal.Value.flushed7]
    funext y
    obtain ⟨z, j, rfl⟩ := exists_ix2 y
    rw [View.read_apply, emb_7 t z j, sum_7]
    refine (acc_7 m c t.val t.isLt z j).trans ?_
    have ht := (flush0_7 t).mp hf
    have hN := point_lt t
    rw [show 256 * (t.val + 1) = 8192 by omega]
    rfl
  · obtain ⟨z, j, rfl⟩ := exists_ix2 y
    obtain ⟨t, ht⟩ : ∃ t : Fin cfg0.N, t.val = 31 := ⟨⟨31, by rw [show cfg0.N = 32 from N_0]; decide⟩, rfl⟩
    exact ⟨t, (flush0_7 t).mpr (by rw [ht]), mem_7 t z j⟩

theorem kernel_run (ρ : Dev nD → PrngReg) : θ_run defs (onTc (τ := τ) (main (F := Ideal))) ⟨m, fun _ => 0, ρ⟩ fun r => ∀ c : Dev nD,
      r.2.mem ((c : Thread nD τ).loc main_v3_0) = res_5 (m0 m c) (m1 m c) (m2 m c) (m3 m c) (m4 m c)
      ∧ r.2.mem ((c : Thread nD τ).loc main_v3_1) = res_6 (m0 m c) (m1 m c) (m2 m c) (m3 m c) (m4 m c)
      ∧ r.2.mem ((c : Thread nD τ).loc main_v3_2) = res_7 (m0 m c) (m1 m c) (m2 m c) (m3 m c) (m4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_5 m c), ((h c).2).1.trans (final_6 m c), ((h c).2.2).1.trans (final_7 m c), (h c).2.2.2⟩) (Cert.FfnDhIdeal.Value.run_blocks m ρ)
end

end Cert.FfnDh

namespace Cert.FfnDh

open Cert.FfnDhReferenceIdeal Cert.FfnDhReferenceIdeal.Gen Cert.FfnDhReferenceIdeal.Read

theorem ref_row (A0 : FVec Ideal S8192x5632 .f32) (A1 : FVec Ideal S1024x5632 .f32) (A2 : FVec Ideal S8192x1024 .f32)
    (A3 : FVec Ideal S1x1024 .f32) (A4 : FVec Ideal S8192x1024 .f32) (i : Fin 8192) (j : Fin 1024) :
    val_main_v36 (F := Ideal) A0 A1 A2 A3 A4 (ix2 i j) = A4 (ix2 i j)
      + Norm.grad (fun k => A2 (ix2 i k)) (fun k => (∑ e : Fin 5632, A0 (ix2 i e) * A1 (ix2 k e)) * A3 (ix2 0 k)) j := by
  unfold val_main_v36 val_main_v35 val_main_v34 val_main_v33 val_main_v32 val_main_v31 val_main_v30 val_main_v29 val_main_v28 val_main_v27 val_main_v26 val_main_v25 val_main_v24 val_main_v23 val_main_v22 val_main_v21 val_main_v20 val_main_v16 val_main_v10 val_main_v9 val_main_v8 val_main_v7 val_main_v6 val_main_v5 val_main_v4 val_main_v3 val_main_v2 val_main_v1 val_main_v0 val_main_cst val_main_cst_0 val_main_cst_1 val_main_cst_2 val_main_cst_4 val_main_cst_5 val_main_cst_6
  pointwise
  simp only [Fintype.sum_subsingleton _ (0 : Fin 1)]
  exact Norm.grad_eq (fun k => A2 (ix2 i k)) (fun k => (∑ e : Fin 5632, A0 (ix2 i e) * A1 (ix2 k e)) * A3 (ix2 0 k)) j _

/-- What the reference computes. -/
theorem reference_eq_5 (A0 : FVec Ideal S8192x5632 .f32) (A1 : FVec Ideal S1024x5632 .f32) (A2 : FVec Ideal S8192x1024 .f32) (A3 : FVec Ideal S1x1024 .f32) (A4 : FVec Ideal S8192x1024 .f32) :
    (val_main_v36 (F := Ideal) A0 A1 A2 A3 A4 : FVec Ideal S8192x1024 .f32) = res_5 A0 A1 A2 A3 A4 := by
  funext y
  obtain ⟨i, j, rfl⟩ := exists_ix2 y
  exact ref_row A0 A1 A2 A3 A4 i j

/-- What the reference computes. -/
theorem reference_eq_6 (A0 : FVec Ideal S8192x5632 .f32) (A1 : FVec Ideal S1024x5632 .f32) (A2 : FVec Ideal S8192x1024 .f32) (A3 : FVec Ideal S1x1024 .f32) (A4 : FVec Ideal S8192x1024 .f32) :
    (val_main_v37 (F := Ideal) A0 A1 A2 A3 A4 : FVec Ideal S8192x1024 .bf16) = res_6 A0 A1 A2 A3 A4 := by
  funext y
  obtain ⟨i, j, rfl⟩ := exists_ix2 y
  unfold val_main_v37
  exact ref_row A0 A1 A2 A3 A4 i j

/-- What the reference computes. -/
theorem reference_eq_7 (A0 : FVec Ideal S8192x5632 .f32) (A1 : FVec Ideal S1024x5632 .f32) (A2 : FVec Ideal S8192x1024 .f32) (A3 : FVec Ideal S1x1024 .f32) (A4 : FVec Ideal S8192x1024 .f32) :
    (val_main_v19 (F := Ideal) A0 A1 A2 : FVec Ideal S1x1024 .f32) = res_7 A0 A1 A2 A3 A4 := by
  funext y
  obtain ⟨i, j, rfl⟩ := exists_ix2 y
  unfold val_main_v19 val_main_v18 val_main_v17 val_main_v16 val_main_v12 val_main_v11 val_main_v7 val_main_v6 val_main_v5 val_main_v4 val_main_v3 val_main_v2 val_main_v1 val_main_v0 val_main_cst val_main_cst_0 val_main_cst_1 val_main_cst_3
  pointwise
  exact Finset.sum_congr rfl fun r _ => mul_comm _ _

end Cert.FfnDh

end
-- ==== Proof.FfnLossValue.lean ====
/-
  The last feed-forward layer with the loss: a block of rows of the product is added to the residual and compared with the
  targets; what the launch's arrays hold after the grid - the gradient of the loss and the sum over the rows of the
  squared differences - and what the reference computes.
-/
module

public import proofs.«01_k».proof.Proof.Blocks
public import proofs.«01_k».proof.Proof.NormGrad
public import proofs.«01_k».proof.Proof.Gen.FfnLossIdeal.Value
public import proofs.«01_k».proof.Proof.Gen.FfnLossReferenceIdeal.Run
public import proofs.«01_k».proof.Proof.Gen.FfnLossReferenceIdeal.Read

@[expose] public section

set_option maxRecDepth 16384
noncomputable section
open Idealize.ShloMosaic Idealize.ShloMosaic.TcCoe Idealize.SL.Sem Cert.Blocks

namespace Cert.FfnLoss

open Cert.FfnLossIdeal Cert.FfnLossIdeal.Gen

/-- The gradient of the loss: the difference from the target over the row's length. -/
def res_4 (X0 : S8192x2816.Idx → EReal) (X1 : S2816x1024.Idx → EReal) (X2 : S8192x1024.Idx → EReal) (X3 : S8192x1024.Idx → EReal) (y : S8192x1024.Idx) : EReal :=
  (X2 (ix2 (y 0) (y 1)) + ∑ k : Fin 2816, X0 (ix2 (y 0) k) * X1 (ix2 k (y 1)) - X3 (ix2 (y 0) (y 1))) * Ideal.ofBits .f32 0x3A800000#32

/-- The same in the other float type. -/
def res_5 (X0 : S8192x2816.Idx → EReal) (X1 : S2816x1024.Idx → EReal) (X2 : S8192x1024.Idx → EReal) (X3 : S8192x1024.Idx → EReal) (y : S8192x1024.Idx) : EReal :=
  (X2 (ix2 (y 0) (y 1)) + ∑ k : Fin 2816, X0 (ix2 (y 0) k) * X1 (ix2 k (y 1)) - X3 (ix2 (y 0) (y 1))) * Ideal.ofBits .f32 0x3A800000#32

/-- One row's part of the sum over the rows. -/
def row_6 (X0 : S8192x2816.Idx → EReal) (X1 : S2816x1024.Idx → EReal) (X2 : S8192x1024.Idx → EReal) (X3 : S8192x1024.Idx → EReal) (j : Fin 1024) (r : Fin 8192) : EReal :=
  (X2 (ix2 r j) + ∑ k : Fin 2816, X0 (ix2 r k) * X1 (ix2 k j) - X3 (ix2 r j)) * (X2 (ix2 r j) + ∑ k : Fin 2816, X0 (ix2 r k) * X1 (ix2 k j) - X3 (ix2 r j))

/-- The row's part, and nothing past the last row. -/
def part_6 (X0 : S8192x2816.Idx → EReal) (X1 : S2816x1024.Idx → EReal) (X2 : S8192x1024.Idx → EReal) (X3 : S8192x1024.Idx → EReal) (j : Fin 1024) (r : ℕ) : EReal := if h : r < 8192 then row_6 X0 X1 X2 X3 j ⟨r, h⟩ else 0

/-- The sum over the rows of the squared differences. -/
def res_6 (X0 : S8192x2816.Idx → EReal) (X1 : S2816x1024.Idx → EReal) (X2 : S8192x1024.Idx → EReal) (X3 : S8192x1024.Idx → EReal) (y : S1x1024.Idx) : EReal := ∑ r : Fin 8192, row_6 X0 X1 X2 X3 (y 1) r

theorem sum_6 (X0 : S8192x2816.Idx → EReal) (X1 : S2816x1024.Idx → EReal) (X2 : S8192x1024.Idx → EReal) (X3 : S8192x1024.Idx → EReal) (z : Fin 1) (j : Fin 1024) :
    res_6 X0 X1 X2 X3 (ix2 z j) = ∑ r ∈ Finset.range 8192, part_6 X0 X1 X2 X3 j r := by
  rw [Finset.sum_range]
  refine Finset.sum_congr rfl fun r _ => ?_
  unfold part_6
  rw [dif_pos r.isLt]
  rfl

theorem diff_apply (x0 : Vec Ideal S512x2816 .bf16) (x1 : Vec Ideal S2816x1024 .bf16) (x2 : Vec Ideal S512x1024 .f32)
    (x3 : Vec Ideal S512x1024 .f32) (p : Fin 512) (j : Fin 1024) :
    k0_pay2 (F := Ideal) x0 x1 x2 x3 (ix2 p j) = x2 (ix2 p j) + ∑ k : Fin 2816, x0 (ix2 p k) * x1 (ix2 k j) - x3 (ix2 p j) := by
  unfold k0_pay2
  pointwise
  exact congrArg (· - _) (add_comm _ _)

/-- Half the derivative of a square over the row's length is the difference over the row's length. -/
theorem scale_eq (e : EReal) :
    Ideal.div (Ideal.ofBits .f32 0x3F000000#32) (Ideal.ofBits .f32 0x44800000#32)
      * (Ideal.ofBits .f32 0x40000000#32 * e) = e * Ideal.ofBits .f32 0x3A800000#32 := by
  have h1 : Ideal.ofBits .f32 0x3F000000#32 = ((1 / 2 : ℝ) : EReal) := by simp [Ideal.ofBits, Ideal.ieee, -EReal.coe_mul]; norm_num
  have h3 : Ideal.ofBits .f32 0x44800000#32 = ((1024 : ℝ) : EReal) := by simp [Ideal.ofBits, Ideal.ieee, -EReal.coe_mul]; norm_num
  have h4 : Ideal.ofBits .f32 0x40000000#32 = ((2 : ℝ) : EReal) := by simp [Ideal.ofBits, Ideal.ieee, -EReal.coe_mul]; norm_num
  have h5 : Ideal.ofBits .f32 0x3A800000#32 = ((1 / 1024 : ℝ) : EReal) := by simp [Ideal.ofBits, Ideal.ieee, -EReal.coe_mul]; norm_num
  rw [h1, h3, h4, h5, Norm.div_coe _ (by norm_num : (1024 : ℝ) ≠ 0), ← mul_assoc, ← EReal.coe_mul, ← EReal.coe_mul, mul_comm]
  congr 2
  norm_num

theorem blk_4 (x0 : Vec Ideal S512x2816 .bf16) (x1 : Vec Ideal S2816x1024 .bf16) (x2 : Vec Ideal S512x1024 .f32) (x3 : Vec Ideal S512x1024 .f32) (p : Fin 512) (j : Fin 1024) :
    k0_pay3 (x0) (x1) (x2) (x3) (ix2 p j) = (x2 (ix2 p j) + ∑ k : Fin 2816, x0 (ix2 p k) * x1 (ix2 k j) - x3 (ix2 p j)) * Ideal.ofBits .f32 0x3A800000#32 := by
  unfold k0_pay3
  pointwise
  exact congrArg (· * _) (diff_apply x0 x1 x2 x3 p j)

theorem blk_5 (x0 : Vec Ideal S512x2816 .bf16) (x1 : Vec Ideal S2816x1024 .bf16) (x2 : Vec Ideal S512x1024 .f32) (x3 : Vec Ideal S512x1024 .f32) (p : Fin 512) (j : Fin 1024) :
    k0_pay4 (x0) (x1) (x2) (x3) (ix2 p j) = (x2 (ix2 p j) + ∑ k : Fin 2816, x0 (ix2 p k) * x1 (ix2 k j) - x3 (ix2 p j)) * Ideal.ofBits .f32 0x3A800000#32 := by
  unfold k0_pay4
  exact blk_4 x0 x1 x2 x3 p j

theorem zero_6 (z : Fin 1) (j : Fin 1024) : k0_pay1 (F := Ideal) (ix2 z j) = 0 := by
  unfold k0_pay1
  pointwise

theorem add_6 (x0 : Vec Ideal S512x2816 .bf16) (x1 : Vec Ideal S2816x1024 .bf16) (x2 : Vec Ideal S512x1024 .f32) (x3 : Vec Ideal S512x1024 .f32) (acc : Vec Ideal S1x1024 .f32) (z : Fin 1) (j : Fin 1024) :
    k0_pay5 (x0) (x1) (x2) (x3) (acc) (ix2 z j) = acc (ix2 z j) + ∑ p : Fin 512, (x2 (ix2 p j) + ∑ k : Fin 2816, x0 (ix2 p k) * x1 (ix2 k j) - x3 (ix2 p j)) * (x2 (ix2 p j) + ∑ k : Fin 2816, x0 (ix2 p k) * x1 (ix2 k j) - x3 (ix2 p j)) := by
  unfold k0_pay5
  pointwise
  exact congrArg (acc (ix2 z j) + ·) (Finset.sum_congr rfl fun p _ => congrArg₂ (· * ·) (diff_apply x0 x1 x2 x3 p j) (diff_apply x0 x1 x2 x3 p j))

section
variable (m : (ℓ : Loc nD τ sig) → Buf (Elt Ideal) ℓ) (c : Dev nD)

abbrev m0 : S8192x2816.Idx → EReal := m ((c : Thread nD τ).loc main_arg0)
abbrev m1 : S2816x1024.Idx → EReal := m ((c : Thread nD τ).loc main_arg1)
abbrev m2 : S8192x1024.Idx → EReal := m ((c : Thread nD τ).loc main_arg2)
abbrev m3 : S8192x1024.Idx → EReal := m ((c : Thread nD τ).loc main_arg3)

theorem host_0 (a : Fin 8192) (b : Fin 2816) : V m c main_v0 (ix2 a b) = m0 m c (ix2 a b) := by
  unfold V hostOps0
  simp only [List.flatten_cons, List.flatten_nil, List.cons_append, List.nil_append, List.append_nil]
  after_reads_at

theorem host_1 (a : Fin 2816) (b : Fin 1024) : V m c main_v1 (ix2 a b) = m1 m c (ix2 a b) := by
  unfold V hostOps0
  simp only [List.flatten_cons, List.flatten_nil, List.cons_append, List.nil_append, List.append_nil]
  after_reads_at

theorem host_2 (a : Fin 8192) (b : Fin 1024) : V m c main_arg2 (ix2 a b) = m2 m c (ix2 a b) := by
  rw [V_main_arg2]

theorem host_3 (a : Fin 8192) (b : Fin 1024) : V m c main_arg3 (ix2 a b) = m3 m c (ix2 a b) := by
  rw [V_main_arg3]

theorem point_lt (t : Fin cfg0.N) : t.val < 16 := lt_of_lt_of_eq t.isLt (show cfg0.N = 16 from N_0)

/-- The array's row at row `p` of block `t`. -/
def rowAt (t : Fin cfg0.N) (p : Fin 512) : Fin 8192 := ⟨512 * t.val + p.val, by have := point_lt t; omega⟩

theorem exists_rowAt (i : Fin 8192) : ∃ t p, rowAt t p = i := by
  have hN : i.val / 512 < cfg0.N := by rw [show cfg0.N = 16 from N_0]; omega
  exact ⟨⟨_, hN⟩, ⟨i.val % 512, Nat.mod_lt _ (by decide)⟩, Fin.ext (Nat.div_add_mod i.val 512)⟩

def b0 (t : Fin cfg0.N) : S512x2816.Idx → EReal := iblk m c 0 t

theorem index_0 : ∀ t : Fin cfg0.N, win0_0.index t 0 * 512 = 512 * t.val ∧ win0_0.index t 1 * 2816 = 0 := by decide +kernel

theorem iblk_0 (t : Fin cfg0.N) (a : Fin 512) (b : Fin 2816) : b0 m c t (ix2 a b) = m0 m c (ix2 (rowAt t a) b) := by
  rw [← host_0]
  unfold b0 iblk
  rw [View.read_apply]
  exact congrArg (V m c main_v0) (eq_ix2_of (index_0 t) rfl rfl rfl (Nat.zero_add _))

def b1 (t : Fin cfg0.N) : S2816x1024.Idx → EReal := iblk m c 1 t

theorem index_1 : ∀ t : Fin cfg0.N, win0_1.index t 0 * 2816 = 0 ∧ win0_1.index t 1 * 1024 = 0 := by decide +kernel

theorem iblk_1 (t : Fin cfg0.N) (a : Fin 2816) (b : Fin 1024) : b1 m c t (ix2 a b) = m1 m c (ix2 a b) := by
  rw [← host_1]
  unfold b1 iblk
  rw [View.read_apply]
  exact congrArg (V m c main_v1) (eq_ix2_of (index_1 t) rfl rfl (Nat.zero_add _) (Nat.zero_add _))

def b2 (t : Fin cfg0.N) : S512x1024.Idx → EReal := iblk m c 2 t

theorem index_2 : ∀ t : Fin cfg0.N, win0_2.index t 0 * 512 = 512 * t.val ∧ win0_2.index t 1 * 1024 = 0 := by decide +kernel

theorem iblk_2 (t : Fin cfg0.N) (a : Fin 512) (b : Fin 1024) : b2 m c t (ix2 a b) = m2 m c (ix2 (rowAt t a) b) := by
  rw [← host_2]
  unfold b2 iblk
  rw [View.read_apply]
  exact congrArg (V m c main_arg2) (eq_ix2_of (index_2 t) rfl rfl rfl (Nat.zero_add _))

def b3 (t : Fin cfg0.N) : S512x1024.Idx → EReal := iblk m c 3 t

theorem index_3 : ∀ t : Fin cfg0.N, win0_3.index t 0 * 512 = 512 * t.val ∧ win0_3.index t 1 * 1024 = 0 := by decide +kernel

theorem iblk_3 (t : Fin cfg0.N) (a : Fin 512) (b : Fin 1024) : b3 m c t (ix2 a b) = m3 m c (ix2 (rowAt t a) b) := by
  rw [← host_3]
  unfold b3 iblk
  rw [View.read_apply]
  exact congrArg (V m c main_arg3) (eq_ix2_of (index_3 t) rfl rfl rfl (Nat.zero_add _))

/-- What a point leaves in the output buffer 4. -/
theorem left_4 (t : Fin cfg0.N) : (outsAt0 m c t.val t.isLt).1 = k0_pay3 (iblk m c 0 t) (iblk m c 1 t) (iblk m c 2 t) (iblk m c 3 t) := by
  by_cases h0 : t.val % 16 = 0
  · rw [outsAt0_A m c t h0]
    frame_out
  · rw [outsAt0_B m c t h0]
    frame_out

theorem point_4 (t : Fin cfg0.N) (p : Fin 512) (j : Fin 1024) :
    (outsAt0 m c t.val t.isLt).1 (ix2 p j) = res_4 (m0 m c) (m1 m c) (m2 m c) (m3 m c) (ix2 (rowAt t p) j) := by
  rw [left_4 m c t]
  refine (blk_4 (b0 m c t) (b1 m c t) (b2 m c t) (b3 m c t) p j).trans ?_
  simp only [iblk_0, iblk_1, iblk_2, iblk_3]
  rfl

/-- What a point leaves in the output buffer 5. -/
theorem left_5 (t : Fin cfg0.N) : (outsAt0 m c t.val t.isLt).2.1 = k0_pay4 (iblk m c 0 t) (iblk m c 1 t) (iblk m c 2 t) (iblk m c 3 t) := by
  by_cases h0 : t.val % 16 = 0
  · rw [outsAt0_A m c t h0]
    frame_out
  · rw [outsAt0_B m c t h0]
    frame_out

theorem point_5 (t : Fin cfg0.N) (p : Fin 512) (j : Fin 1024) :
    (outsAt0 m c t.val t.isLt).2.1 (ix2 p j) = res_5 (m0 m c) (m1 m c) (m2 m c) (m3 m c) (ix2 (rowAt t p) j) := by
  rw [left_5 m c t]
  refine (blk_5 (b0 m c t) (b1 m c t) (b2 m c t) (b3 m c t) p j).trans ?_
  simp only [iblk_0, iblk_1, iblk_2, iblk_3]
  rfl

theorem index_4 : ∀ t : Fin cfg0.N, win0_4.index t 0 * 512 = 512 * t.val ∧ win0_4.index t 1 * 1024 = 0 := by decide +kernel

theorem flush_4 : ∀ t : Fin cfg0.N, (cfg0.win 4).flush t = true := by decide +kernel

theorem emb_4 (t : Fin cfg0.N) (p : Fin 512) (j : Fin 1024) :
    ((cfg0.win 4).blk t).view.emb (ix2 p j) = (ix2 (rowAt t p) j : S8192x1024.Idx) :=
  eq_ix2_of (index_4 t) rfl rfl rfl (Nat.zero_add _)

theorem final_4 : (dats m 0 c).arrAt 4 cfg0.N = res_4 (m0 m c) (m1 m c) (m2 m c) (m3 m c) := by
  refine (dats m 0 c).arrAt_eq_of_cover 4 (res_4 (m0 m c) (m1 m c) (m2 m c) (m3 m c)) (fun t hf => ?_) fun y => ?_
  · rw [Cert.FfnLossIdeal.Value.flushed4]
    funext y
    obtain ⟨p, j, rfl⟩ := exists_ix2 y
    rw [View.read_apply, emb_4 t p j]
    exact point_4 m c t p j
  · obtain ⟨i, j, rfl⟩ := exists_ix2 y
    obtain ⟨t, p, rfl⟩ := exists_rowAt i
    exact ⟨t, flush_4 t, emb_4 t p j ▸ View.emb_mem_set _ _⟩

theorem index_5 : ∀ t : Fin cfg0.N, win0_5.index t 0 * 512 = 512 * t.val ∧ win0_5.index t 1 * 1024 = 0 := by decide +kernel

theorem flush_5 : ∀ t : Fin cfg0.N, (cfg0.win 5).flush t = true := by decide +kernel

theorem emb_5 (t : Fin cfg0.N) (p : Fin 512) (j : Fin 1024) :
    ((cfg0.win 5).blk t).view.emb (ix2 p j) = (ix2 (rowAt t p) j : S8192x1024.Idx) :=
  eq_ix2_of (index_5 t) rfl rfl rfl (Nat.zero_add _)

theorem final_5 : (dats m 0 c).arrAt 5 cfg0.N = res_5 (m0 m c) (m1 m c) (m2 m c) (m3 m c) := by
  refine (dats m 0 c).arrAt_eq_of_cover 5 (res_5 (m0 m c) (m1 m c) (m2 m c) (m3 m c)) (fun t hf => ?_) fun y => ?_
  · rw [Cert.FfnLossIdeal.Value.flushed5]
    funext y
    obtain ⟨p, j, rfl⟩ := exists_ix2 y
    rw [View.read_apply, emb_5 t p j]
    exact point_5 m c t p j
  · obtain ⟨i, j, rfl⟩ := exists_ix2 y
    obtain ⟨t, p, rfl⟩ := exists_rowAt i
    exact ⟨t, flush_5 t, emb_5 t p j ▸ View.emb_mem_set _ _⟩

theorem kept_A_6 (t : Fin cfg0.N) (h0 : t.val % 16 = 0) :
    (outsAt0 m c t.val t.isLt).2.2 = k0_pay5 (iblk m c 0 t) (iblk m c 1 t) (iblk m c 2 t) (iblk m c 3 t) ((k0_pay1 (F := Ideal))) := by
  rw [outsAt0_A m c t h0]
  frame_out

theorem kept_B_6 (t : Fin cfg0.N) (h0 : ¬t.val % 16 = 0) :
    (outsAt0 m c t.val t.isLt).2.2 = k0_pay5 (iblk m c 0 t) (iblk m c 1 t) (iblk m c 2 t) (iblk m c 3 t) ((outsAt0 m c (t.val - 1) (Nat.lt_of_le_of_lt (Nat.sub_le _ _) t.isLt)).2.2) := by
  rw [outsAt0_B m c t h0]
  frame_out

theorem rows_6 (t : Fin cfg0.N) (j : Fin 1024) :
    (∑ p : Fin 512, (b2 m c t (ix2 p j) + ∑ k : Fin 2816, b0 m c t (ix2 p k) * b1 m c t (ix2 k j) - b3 m c t (ix2 p j)) * (b2 m c t (ix2 p j) + ∑ k : Fin 2816, b0 m c t (ix2 p k) * b1 m c t (ix2 k j) - b3 m c t (ix2 p j))) = ∑ k ∈ Finset.range 512, part_6 (m0 m c) (m1 m c) (m2 m c) (m3 m c) j (512 * t.val + k) := by
  rw [Finset.sum_range]
  refine Finset.sum_congr rfl fun p _ => ?_
  have hr : 512 * t.val + p.val < 8192 := by have := point_lt t; omega
  unfold part_6
  rw [dif_pos hr]
  simp only [iblk_0, iblk_1, iblk_2, iblk_3]
  rfl

/-- The accumulated output holds the sum over the rows met so far. -/
theorem acc_6 (n : ℕ) : ∀ (hn : n < cfg0.N) (z : Fin 1) (j : Fin 1024),
    (outsAt0 m c n hn).2.2 (ix2 z j) = ∑ r ∈ Finset.range (512 * (n + 1)), part_6 (m0 m c) (m1 m c) (m2 m c) (m3 m c) j r := by
  have step : ∀ (t : Fin cfg0.N) (z : Fin 1) (j : Fin 1024) (acc : Vec Ideal S1x1024 .f32),
      acc (ix2 z j) = ∑ r ∈ Finset.range (512 * t.val), part_6 (m0 m c) (m1 m c) (m2 m c) (m3 m c) j r →
      k0_pay5 (iblk m c 0 t) (iblk m c 1 t) (iblk m c 2 t) (iblk m c 3 t) (acc) (ix2 z j) = ∑ r ∈ Finset.range (512 * (t.val + 1)), part_6 (m0 m c) (m1 m c) (m2 m c) (m3 m c) j r := by
    intro t z j acc ha
    refine (add_6 (b0 m c t) (b1 m c t) (b2 m c t) (b3 m c t) acc z j).trans ?_
    rw [ha, rows_6 m c t j, Nat.mul_succ, Finset.sum_range_add]
  induction n with
  | zero =>
    intro hn z j
    exact (congrFun (kept_A_6 m c ⟨0, hn⟩ rfl) _).trans (step ⟨0, hn⟩ z j _ (zero_6 z j))
  | succ n ih =>
    intro hn z j
    have hN := point_lt ⟨n + 1, hn⟩
    exact (congrFun (kept_B_6 m c ⟨n + 1, hn⟩ (by show ¬(n + 1) % 16 = 0; dsimp only at hN; omega)) _).trans
      (step ⟨n + 1, hn⟩ z j _ (ih (Nat.lt_of_succ_lt hn) z j))

theorem index_6 : ∀ t : Fin cfg0.N, win0_6.index t 0 = 0 ∧ win0_6.index t 1 = 0 := by decide +kernel

theorem emb_6 (t : Fin cfg0.N) (z : Fin 1) (j : Fin 1024) :
    ((cfg0.win 6).blk t).view.emb (ix2 z j) = (ix2 z j : S1x1024.Idx) := by
  have hi := index_6 t
  refine funext fun a => Fin.ext ?_
  match a with
  | ⟨0, _⟩ => show win0_6.index t 0 * 1 + 1 * z.val = z.val; rw [hi.1]; omega
  | ⟨1, _⟩ => show win0_6.index t 1 * 1024 + 1 * j.val = j.val; rw [hi.2]; omega

theorem mem_6 (t : Fin cfg0.N) (z : Fin 1) (j : Fin 1024) : (ix2 z j : S1x1024.Idx) ∈ ((cfg0.win 6).blk t).view.set := by
  rw [← emb_6 t z j]
  exact View.emb_mem_set _ _

theorem final_6 : (dats m 0 c).arrAt 6 cfg0.N = res_6 (m0 m c) (m1 m c) (m2 m c) (m3 m c) := by
  refine (dats m 0 c).arrAt_eq_of_cover 6 (res_6 (m0 m c) (m1 m c) (m2 m c) (m3 m c)) (fun t hf => ?_) fun y => ?_
  · rw [Cert.FfnLossIdeal.Value.flushed6]
    funext y
    obtain ⟨z, j, rfl⟩ := exists_ix2 y
    rw [View.read_apply, emb_6 t z j, sum_6]
    refine (acc_6 m c t.val t.isLt z j).trans ?_
    have ht := (flush0_6 t).mp hf
    have hN := point_lt t
    rw [show 512 * (t.val + 1) = 8192 by omega]
    rfl
  · obtain ⟨z, j, rfl⟩ := exists_ix2 y
    obtain ⟨t, ht⟩ : ∃ t : Fin cfg0.N, t.val = 15 := ⟨⟨15, by rw [show cfg0.N = 16 from N_0]; decide⟩, rfl⟩
    exact ⟨t, (flush0_6 t).mpr (by rw [ht]), mem_6 t z j⟩

theorem kernel_run (ρ : Dev nD → PrngReg) : θ_run defs (onTc (τ := τ) (main (F := Ideal))) ⟨m, fun _ => 0, ρ⟩ fun r => ∀ c : Dev nD,
      r.2.mem ((c : Thread nD τ).loc main_v2_0) = res_4 (m0 m c) (m1 m c) (m2 m c) (m3 m c)
      ∧ r.2.mem ((c : Thread nD τ).loc main_v2_1) = res_5 (m0 m c) (m1 m c) (m2 m c) (m3 m c)
      ∧ r.2.mem ((c : Thread nD τ).loc main_v2_2) = res_6 (m0 m c) (m1 m c) (m2 m c) (m3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_4 m c), ((h c).2).1.trans (final_5 m c), ((h c).2.2).1.trans (final_6 m c), (h c).2.2.2⟩) (Cert.FfnLossIdeal.Value.run_blocks m ρ)
end

end Cert.FfnLoss

namespace Cert.FfnLoss

open Cert.FfnLossReferenceIdeal Cert.FfnLossReferenceIdeal.Gen Cert.FfnLossReferenceIdeal.Read

theorem ref_row (A0 : FVec Ideal S8192x2816 .f32) (A1 : FVec Ideal S2816x1024 .f32) (A2 A3 : FVec Ideal S8192x1024 .f32)
    (i : Fin 8192) (j : Fin 1024) :
    val_main_v16 (F := Ideal) A0 A1 A2 A3 (ix2 i j) = (A2 (ix2 i j) + ∑ k : Fin 2816, A0 (ix2 i k) * A1 (ix2 k j) - A3 (ix2 i j))
      * Ideal.ofBits .f32 0x3A800000#32 := by
  unfold val_main_v16 val_main_v15 val_main_v14 val_main_v13 val_main_v12 val_main_v11 val_main_v5 val_main_v4 val_main_v2 val_main_v1 val_main_v0 val_main_cst val_main_cst_4 val_main_cst_5 val_main_cst_6
  pointwise
  exact scale_eq _

/-- What the reference computes. -/
theorem reference_eq_4 (A0 : FVec Ideal S8192x2816 .f32) (A1 : FVec Ideal S2816x1024 .f32) (A2 : FVec Ideal S8192x1024 .f32) (A3 : FVec Ideal S8192x1024 .f32) :
    (val_main_v16 (F := Ideal) A0 A1 A2 A3 : FVec Ideal S8192x1024 .f32) = res_4 A0 A1 A2 A3 := by
  funext y
  obtain ⟨i, j, rfl⟩ := exists_ix2 y
  exact ref_row A0 A1 A2 A3 i j

/-- What the reference computes. -/
theorem reference_eq_5 (A0 : FVec Ideal S8192x2816 .f32) (A1 : FVec Ideal S2816x1024 .f32) (A2 : FVec Ideal S8192x1024 .f32) (A3 : FVec Ideal S8192x1024 .f32) :
    (val_main_v17 (F := Ideal) A0 A1 A2 A3 : FVec Ideal S8192x1024 .bf16) = res_5 A0 A1 A2 A3 := by
  funext y
  obtain ⟨i, j, rfl⟩ := exists_ix2 y
  unfold val_main_v17
  exact ref_row A0 A1 A2 A3 i j

/-- What the reference computes. -/
theorem reference_eq_6 (A0 : FVec Ideal S8192x2816 .f32) (A1 : FVec Ideal S2816x1024 .f32) (A2 : FVec Ideal S8192x1024 .f32) (A3 : FVec Ideal S8192x1024 .f32) :
    (val_main_v21 (F := Ideal) A0 A1 A2 A3 : FVec Ideal S1x1024 .f32) = res_6 A0 A1 A2 A3 := by
  funext y
  obtain ⟨i, j, rfl⟩ := exists_ix2 y
  unfold val_main_v21 val_main_v20 val_main_v19 val_main_v18 val_main_v1 val_main_v0 val_main_cst_7
  pointwise
  rfl

end Cert.FfnLoss

end
-- ==== Proof.FfnInBlock.lean ====
/-
  The feed-forward's input, block by block: the normalised and projected rows, the gate's convolution over the rows carried from the
  block before, and its activation.
-/
module

public import proofs.«01_k».proof.Proof.Blocks
public import proofs.«01_k».proof.Proof.Norm
public import proofs.«01_k».proof.Proof.Gen.FfnInIdeal.Value
public import proofs.«01_k».proof.Proof.Gen.FfnInReferenceIdeal.Run
public import proofs.«01_k».proof.Proof.Gen.FfnInReferenceIdeal.Read

@[expose] public section

set_option maxRecDepth 16384
noncomputable section
open Idealize.ShloMosaic Idealize.ShloMosaic.TcCoe Idealize.SL.Sem Cert.Blocks

namespace Cert.FfnIn

open Cert.FfnInIdeal Cert.FfnInIdeal.Gen

/-- The normalised rows. -/
def norm (X0 : S8192x1024.Idx → EReal) (X1 : S1x1024.Idx → EReal) (r : Fin 8192) (k : Fin 1024) : EReal := Norm.normed (fun k => X0 (ix2 r k)) (fun k => X1 (ix2 0 k)) k

/-- The normalised rows times the weight. -/
def proj (X0 : S8192x1024.Idx → EReal) (X1 : S1x1024.Idx → EReal) (X2 : S1024x5632.Idx → EReal) (r : Fin 8192) (j : Fin 5632) : EReal := ∑ k : Fin 1024, norm X0 X1 r k * X2 (ix2 k j)

/-- The gate half, after eight rows of zeros. -/
def past (X0 : S8192x1024.Idx → EReal) (X1 : S1x1024.Idx → EReal) (X2 : S1024x5632.Idx → EReal) (s : ℕ) (j : Fin 2816) : EReal :=
  if s < 8 then 0 else if h : s - 8 < 8192 then proj X0 X1 X2 ⟨s - 8, h⟩ ⟨j.val, by omega⟩ else 0

/-- The gate after the causal convolution of width three. -/
def conv (X0 : S8192x1024.Idx → EReal) (X1 : S1x1024.Idx → EReal) (X2 : S1024x5632.Idx → EReal) (X3 : S3x2816.Idx → EReal) (X4 : S1x2816.Idx → EReal) (r : Fin 8192) (j : Fin 2816) : EReal :=
  X4 (ix2 0 j) + proj X0 X1 X2 r ⟨j.val, by omega⟩ * X3 (ix2 2 j) + past X0 X1 X2 (r.val + 7) j * X3 (ix2 1 j) + past X0 X1 X2 (r.val + 6) j * X3 (ix2 0 j)

/-- The projection. -/
def res_5 (X0 : S8192x1024.Idx → EReal) (X1 : S1x1024.Idx → EReal) (X2 : S1024x5632.Idx → EReal) (X3 : S3x2816.Idx → EReal) (X4 : S1x2816.Idx → EReal) (y : S8192x5632.Idx) : EReal := proj X0 X1 X2 (y 0) (y 1)

/-- The normalised rows. -/
def res_6 (X0 : S8192x1024.Idx → EReal) (X1 : S1x1024.Idx → EReal) (X2 : S1024x5632.Idx → EReal) (X3 : S3x2816.Idx → EReal) (X4 : S1x2816.Idx → EReal) (y : S8192x1024.Idx) : EReal := norm X0 X1 (y 0) (y 1)

/-- The activated gate times the other half. -/
def res_7 (X0 : S8192x1024.Idx → EReal) (X1 : S1x1024.Idx → EReal) (X2 : S1024x5632.Idx → EReal) (X3 : S3x2816.Idx → EReal) (X4 : S1x2816.Idx → EReal) (y : S8192x2816.Idx) : EReal :=
  conv X0 X1 X2 X3 X4 (y 0) (y 1) * Ideal.logistic (conv X0 X1 X2 X3 X4 (y 0) (y 1)) * proj X0 X1 X2 (y 0) ⟨2816 + (y 1).val, by have : (y 1).val < 2816 := (y 1).isLt; omega⟩

/-- The convolved gate. -/
def res_8 (X0 : S8192x1024.Idx → EReal) (X1 : S1x1024.Idx → EReal) (X2 : S1024x5632.Idx → EReal) (X3 : S3x2816.Idx → EReal) (X4 : S1x2816.Idx → EReal) (y : S8192x2816.Idx) : EReal := conv X0 X1 X2 X3 X4 (y 0) (y 1)

/-- A block of rows with the eight rows before it. -/
def ext {n : ℕ} (H : (⟨2, ![8, n]⟩ : Shape).Idx → EReal) (G : Fin 256 → Fin n → EReal) (q : ℕ) (j : Fin n) : EReal :=
  if h : q < 8 then H (ix2 ⟨q, h⟩ j) else if h' : q - 8 < 256 then G ⟨q - 8, h'⟩ j else 0

theorem pay2_apply (q : Fin 8) (j : Fin 2816) : k0_pay2 (F := Ideal) (ix2 q j) = 0 := by
  unfold k0_pay2
  pointwise

section
variable (v3 : Vec Ideal S256x1024 .f32) (v14 : Vec Ideal S1x1024 .f32) (v19 v23 : Vec Ideal S1408x1024 .bf16)

theorem pay3_apply (p : Fin 256) (k : Fin 1024) :
    k0_pay3 (F := Ideal) v3 v14 (ix2 p k) = Norm.normed (fun k => v3 (ix2 p k)) (fun k => v14 (ix2 0 k)) k := by
  unfold k0_pay3
  pointwise
  rfl

theorem pay4_apply (p : Fin 256) (j : Fin 1408) : k0_pay4 (F := Ideal) v3 v14 v19 (ix2 p j)
    = ∑ k : Fin 1024, Norm.normed (fun k => v3 (ix2 p k)) (fun k => v14 (ix2 0 k)) k * v19 (ix2 j k) := by
  unfold k0_pay4
  pointwise
  exact Finset.sum_congr rfl fun k _ => congrArg (· * _) (pay3_apply v3 v14 p k)

theorem pay5_apply (p : Fin 256) (j : Fin 1408) : k0_pay5 (F := Ideal) v3 v14 v23 (ix2 p j)
    = ∑ k : Fin 1024, Norm.normed (fun k => v3 (ix2 p k)) (fun k => v14 (ix2 0 k)) k * v23 (ix2 j k) := by
  unfold k0_pay5
  pointwise
  exact Finset.sum_congr rfl fun k _ => congrArg (· * _) (pay3_apply v3 v14 p k)

theorem pay6_apply (p : Fin 256) (j : Fin 1408) : k0_pay6 (F := Ideal) v3 v14 v19 (ix2 p j)
    = ∑ k : Fin 1024, Norm.normed (fun k => v3 (ix2 p k)) (fun k => v14 (ix2 0 k)) k * v19 (ix2 j k) := by
  unfold k0_pay6
  exact pay4_apply v3 v14 v19 p j

theorem pay7_apply (v30 : Vec Ideal S8x1408 .f32) (q : Fin 264) (j : Fin 1408) :
    k0_pay7 (F := Ideal) v3 v14 v19 v30 (ix2 q j) = ext v30 (fun p j => k0_pay6 (F := Ideal) v3 v14 v19 (ix2 p j)) q.val j := by
  unfold k0_pay7 ext
  pointwise
  by_cases h : q.val < 8
  · simp only [h, dite_true]
  · have h' : q.val - 8 < 256 := by omega
    simp only [h, h', dite_true, dite_false]

end

section
variable (v17 : FVec Ideal S256x1024 .bf16) (v65 v69 : Vec Ideal S1408x1024 .bf16) (v68 : FVec Ideal S256x1408 .bf16) (v76 : Vec Ideal S8x1408 .f32)
  (v26 : FVec Ideal S256x1408 .bf16) (v29 : FVec Ideal S256x1408 .f32) (v31 : FVec Ideal S264x1408 .f32)
  (v32 v33 v41 v48 : Vec Ideal S1x1408 .f32)

theorem pay12_apply (p : Fin 256) (j : Fin 1408) : k0_pay12 (F := Ideal) v17 v65 (ix2 p j) = ∑ k : Fin 1024, v17 (ix2 p k) * v65 (ix2 j k) := by
  unfold k0_pay12
  pointwise

theorem pay13_apply (p : Fin 256) (j : Fin 1408) : k0_pay13 (F := Ideal) v17 v69 (ix2 p j) = ∑ k : Fin 1024, v17 (ix2 p k) * v69 (ix2 j k) := by
  unfold k0_pay13
  pointwise

theorem pay11_apply (q : Fin 8) (j : Fin 1408) : k0_pay11 (F := Ideal) v29 (ix2 q j) = v29 (ix2 ⟨248 + q.val, by omega⟩ j) := by
  unfold k0_pay11
  pointwise

theorem pay1_apply (q : Fin 8) (j : Fin 1408) : k0_pay1 (F := Ideal) v29 (ix2 q j) = v29 (ix2 ⟨248 + q.val, by omega⟩ j) := by
  unfold k0_pay1
  pointwise

theorem pay8_apply (p : Fin 256) (j : Fin 1408) : k0_pay8 (F := Ideal) v29 v31 v32 v33 v41 v48 (ix2 p j)
    = v32 (ix2 0 j) + v29 (ix2 p j) * v33 (ix2 0 j) + v31 (ix2 ⟨p.val + 7, by omega⟩ j) * v41 (ix2 0 j)
      + v31 (ix2 ⟨p.val + 6, by omega⟩ j) * v48 (ix2 0 j) := by
  unfold k0_pay8
  pointwise
  have e1 : (8 + p.val + 264 - 1) % 264 = p.val + 7 := by omega
  have e2 : (8 + p.val + 264 - 2) % 264 = p.val + 6 := by omega
  simp only [e1, e2]

theorem pay9_apply (p : Fin 256) (j : Fin 1408) : k0_pay9 (F := Ideal) v26 v29 v31 v32 v33 v41 v48 (ix2 p j)
    = k0_pay8 (F := Ideal) v29 v31 v32 v33 v41 v48 (ix2 p j) * Ideal.logistic (k0_pay8 (F := Ideal) v29 v31 v32 v33 v41 v48 (ix2 p j)) * v26 (ix2 p j) := by
  unfold k0_pay9
  pointwise

theorem pay10_apply (p : Fin 256) (j : Fin 1408) : k0_pay10 (F := Ideal) v29 v31 v32 v33 v41 v48 (ix2 p j)
    = k0_pay8 (F := Ideal) v29 v31 v32 v33 v41 v48 (ix2 p j) := by
  unfold k0_pay10
  pointwise

theorem pay14_apply (p : Fin 256) (j : Fin 1408) : k0_pay14 (F := Ideal) v68 (ix2 p j) = v68 (ix2 p j) := by
  unfold k0_pay14
  pointwise

theorem pay15_apply (p : Fin 256) (j : Fin 1408) : k0_pay15 (F := Ideal) v68 v76 v32 v33 v41 v48 (ix2 p j)
    = v32 (ix2 0 j) + v68 (ix2 p j) * v33 (ix2 0 j) + ext v76 (fun p j => v68 (ix2 p j)) (p.val + 7) j * v41 (ix2 0 j)
      + ext v76 (fun p j => v68 (ix2 p j)) (p.val + 6) j * v48 (ix2 0 j) := by
  unfold k0_pay15 k0_pay14 ext
  pointwise
  have e1 : (8 + p.val + 264 - 1) % 264 = p.val + 7 := by omega
  have e2 : (8 + p.val + 264 - 2) % 264 = p.val + 6 := by omega
  have h1 : p.val + 7 - 8 < 256 := by omega
  have h2 : p.val + 6 - 8 < 256 := by omega
  simp only [e1, e2, h1, h2, dite_true]

theorem pay16_apply (p : Fin 256) (j : Fin 1408) : k0_pay16 (F := Ideal) v17 v68 v69 v76 v32 v33 v41 v48 (ix2 p j)
    = k0_pay15 (F := Ideal) v68 v76 v32 v33 v41 v48 (ix2 p j) * Ideal.logistic (k0_pay15 (F := Ideal) v68 v76 v32 v33 v41 v48 (ix2 p j))
      * k0_pay13 (F := Ideal) v17 v69 (ix2 p j) := by
  unfold k0_pay16
  pointwise

theorem pay17_apply (p : Fin 256) (j : Fin 1408) : k0_pay17 (F := Ideal) v68 v76 v32 v33 v41 v48 (ix2 p j)
    = k0_pay15 (F := Ideal) v68 v76 v32 v33 v41 v48 (ix2 p j) := by
  unfold k0_pay17
  pointwise

end

/-- A block's normalised rows. -/
def bnorm (x0 : Vec Ideal S256x1024 .f32) (x1 : Vec Ideal S1x1024 .f32) (p : Fin 256) (k : Fin 1024) : EReal := Norm.normed (fun k => x0 (ix2 p k)) (fun k => x1 (ix2 0 k)) k

/-- A block's projected rows. -/
def bproj (x0 : Vec Ideal S256x1024 .f32) (x1 : Vec Ideal S1x1024 .f32) (x2 : Vec Ideal S5632x1024 .bf16) (p : Fin 256) (j : Fin 5632) : EReal := ∑ k : Fin 1024, bnorm x0 x1 p k * x2 (ix2 j k)

/-- A block's gate. -/
def bgate (x0 : Vec Ideal S256x1024 .f32) (x1 : Vec Ideal S1x1024 .f32) (x2 : Vec Ideal S5632x1024 .bf16) (p : Fin 256) (j : Fin 2816) : EReal := bproj x0 x1 x2 p ⟨j.val, by omega⟩

/-- A block's convolved gate. -/
def bconv (x0 : Vec Ideal S256x1024 .f32) (x1 : Vec Ideal S1x1024 .f32) (x2 : Vec Ideal S5632x1024 .bf16) (x3 : Vec Ideal S8x2816 .f32) (x4 : Vec Ideal S1x2816 .f32) (H : Vec Ideal S8x2816 .f32) (p : Fin 256) (j : Fin 2816) : EReal :=
  x4 (ix2 0 j) + bgate x0 x1 x2 p j * x3 (ix2 2 j) + ext H (bgate x0 x1 x2) (p.val + 7) j * x3 (ix2 1 j) + ext H (bgate x0 x1 x2) (p.val + 6) j * x3 (ix2 0 j)

/-- The four stores of the projection. -/
def out_5 (x0 : Vec Ideal S256x1024 .f32) (x1 : Vec Ideal S1x1024 .f32) (x2 : Vec Ideal S5632x1024 .bf16) : Vec Ideal S256x5632 .bf16 :=
  View.canon [⟨Rect.unit ![0, 4224] ![256, 1408] inb_S256x5632_S256x1408_0_4224, k0_pay13 (k0_pay3 x0 x1) (View.ld x2 (Rect.unit ![4224, 0] ![1408, 1024] inb_S5632x1024_S1408x1024_4224_0))⟩,
    ⟨Rect.unit ![0, 1408] ![256, 1408] inb_S256x5632_S256x1408_0_1408, k0_pay12 (k0_pay3 x0 x1) (View.ld x2 (Rect.unit ![1408, 0] ![1408, 1024] inb_S5632x1024_S1408x1024_1408_0))⟩,
    ⟨Rect.unit ![0, 2816] ![256, 1408] inb_S256x5632_S256x1408_0_2816, k0_pay5 x0 x1 (View.ld x2 (Rect.unit ![2816, 0] ![1408, 1024] inb_S5632x1024_S1408x1024_2816_0))⟩,
    ⟨Rect.unit ![0, 0] ![256, 1408] inb_S256x5632_S256x1408_0_0, k0_pay4 x0 x1 (View.ld x2 (Rect.unit ![0, 0] ![1408, 1024] inb_S5632x1024_S1408x1024_0_0))⟩]

/-- The two stores of the activated product. -/
def out_7 (x0 : Vec Ideal S256x1024 .f32) (x1 : Vec Ideal S1x1024 .f32) (x2 : Vec Ideal S5632x1024 .bf16) (x3 : Vec Ideal S8x2816 .f32) (x4 : Vec Ideal S1x2816 .f32) (H : Vec Ideal S8x2816 .f32) : Vec Ideal S256x2816 .bf16 :=
  View.canon [⟨Rect.unit ![0, 1408] ![256, 1408] inb_S256x2816_S256x1408_0_1408, k0_pay16 (k0_pay3 x0 x1) (k0_pay12 (k0_pay3 x0 x1) (View.ld x2 (Rect.unit ![1408, 0] ![1408, 1024] inb_S5632x1024_S1408x1024_1408_0))) (View.ld x2 (Rect.unit ![4224, 0] ![1408, 1024] inb_S5632x1024_S1408x1024_4224_0)) (View.ld H (Rect.unit ![0, 1408] ![8, 1408] inb_S8x2816_S8x1408_0_1408)) (View.ld x4 (Rect.unit ![0, 1408] ![1, 1408] inb_S1x2816_S1x1408_0_1408)) (View.ld x3 (Rect.unit ![2, 1408] ![1, 1408] inb_S8x2816_S1x1408_2_1408)) (View.ld x3 (Rect.unit ![1, 1408] ![1, 1408] inb_S8x2816_S1x1408_1_1408)) (View.ld x3 (Rect.unit ![0, 1408] ![1, 1408] inb_S8x2816_S1x1408_0_1408))⟩,
    ⟨Rect.unit ![0, 0] ![256, 1408] inb_S256x2816_S256x1408_0_0, k0_pay9 (k0_pay5 x0 x1 (View.ld x2 (Rect.unit ![2816, 0] ![1408, 1024] inb_S5632x1024_S1408x1024_2816_0))) (k0_pay6 x0 x1 (View.ld x2 (Rect.unit ![0, 0] ![1408, 1024] inb_S5632x1024_S1408x1024_0_0))) (k0_pay7 x0 x1 (View.ld x2 (Rect.unit ![0, 0] ![1408, 1024] inb_S5632x1024_S1408x1024_0_0)) (View.ld H (Rect.unit ![0, 0] ![8, 1408] inb_S8x2816_S8x1408_0_0))) (View.ld x4 (Rect.unit ![0, 0] ![1, 1408] inb_S1x2816_S1x1408_0_0)) (View.ld x3 (Rect.unit ![2, 0] ![1, 1408] inb_S8x2816_S1x1408_2_0)) (View.ld x3 (Rect.unit ![1, 0] ![1, 1408] inb_S8x2816_S1x1408_1_0)) (View.ld x3 (Rect.unit ![0, 0] ![1, 1408] inb_S8x2816_S1x1408_0_0))⟩]

/-- The two stores of the convolved gate. -/
def out_8 (x0 : Vec Ideal S256x1024 .f32) (x1 : Vec Ideal S1x1024 .f32) (x2 : Vec Ideal S5632x1024 .bf16) (x3 : Vec Ideal S8x2816 .f32) (x4 : Vec Ideal S1x2816 .f32) (H : Vec Ideal S8x2816 .f32) : Vec Ideal S256x2816 .bf16 :=
  View.canon [⟨Rect.unit ![0, 1408] ![256, 1408] inb_S256x2816_S256x1408_0_1408, k0_pay17 (k0_pay12 (k0_pay3 x0 x1) (View.ld x2 (Rect.unit ![1408, 0] ![1408, 1024] inb_S5632x1024_S1408x1024_1408_0))) (View.ld H (Rect.unit ![0, 1408] ![8, 1408] inb_S8x2816_S8x1408_0_1408)) (View.ld x4 (Rect.unit ![0, 1408] ![1, 1408] inb_S1x2816_S1x1408_0_1408)) (View.ld x3 (Rect.unit ![2, 1408] ![1, 1408] inb_S8x2816_S1x1408_2_1408)) (View.ld x3 (Rect.unit ![1, 1408] ![1, 1408] inb_S8x2816_S1x1408_1_1408)) (View.ld x3 (Rect.unit ![0, 1408] ![1, 1408] inb_S8x2816_S1x1408_0_1408))⟩,
    ⟨Rect.unit ![0, 0] ![256, 1408] inb_S256x2816_S256x1408_0_0, k0_pay10 (k0_pay6 x0 x1 (View.ld x2 (Rect.unit ![0, 0] ![1408, 1024] inb_S5632x1024_S1408x1024_0_0))) (k0_pay7 x0 x1 (View.ld x2 (Rect.unit ![0, 0] ![1408, 1024] inb_S5632x1024_S1408x1024_0_0)) (View.ld H (Rect.unit ![0, 0] ![8, 1408] inb_S8x2816_S8x1408_0_0))) (View.ld x4 (Rect.unit ![0, 0] ![1, 1408] inb_S1x2816_S1x1408_0_0)) (View.ld x3 (Rect.unit ![2, 0] ![1, 1408] inb_S8x2816_S1x1408_2_0)) (View.ld x3 (Rect.unit ![1, 0] ![1, 1408] inb_S8x2816_S1x1408_1_0)) (View.ld x3 (Rect.unit ![0, 0] ![1, 1408] inb_S8x2816_S1x1408_0_0))⟩]

/-- The stores of the rows carried to the next block. -/
def carry (x0 : Vec Ideal S256x1024 .f32) (x1 : Vec Ideal S1x1024 .f32) (x2 : Vec Ideal S5632x1024 .bf16) : List (View.Piece (Elt Ideal) S8x2816 .f32) :=
  [⟨Rect.unit ![0, 1408] ![8, 1408] inb_S8x2816_S8x1408_0_1408, k0_pay1 (k0_pay14 (k0_pay12 (k0_pay3 x0 x1) (View.ld x2 (Rect.unit ![1408, 0] ![1408, 1024] inb_S5632x1024_S1408x1024_1408_0))))⟩,
    ⟨Rect.unit ![0, 0] ![8, 1408] inb_S8x2816_S8x1408_0_0, k0_pay11 (k0_pay6 x0 x1 (View.ld x2 (Rect.unit ![0, 0] ![1408, 1024] inb_S5632x1024_S1408x1024_0_0)))⟩]

theorem cover_5 (p0 p1 p2 p3 : Vec Ideal S256x1408 .bf16) (y : S256x5632.Idx) :
    ∃ pc ∈ ([⟨Rect.unit (s := S256x5632) ![0, 4224] ![256, 1408] inb_S256x5632_S256x1408_0_4224, p0⟩, ⟨Rect.unit (s := S256x5632) ![0, 1408] ![256, 1408] inb_S256x5632_S256x1408_0_1408, p1⟩, ⟨Rect.unit (s := S256x5632) ![0, 2816] ![256, 1408] inb_S256x5632_S256x1408_0_2816, p2⟩, ⟨Rect.unit (s := S256x5632) ![0, 0] ![256, 1408] inb_S256x5632_S256x1408_0_0, p3⟩] : List (View.Piece (Elt Ideal) S256x5632 .bf16)), y ∈ pc.1.set :=
  View.cover_of_tiled [⟨Rect.unit (s := S256x5632) ![0, 4224] ![256, 1408] inb_S256x5632_S256x1408_0_4224, p0⟩, ⟨Rect.unit (s := S256x5632) ![0, 1408] ![256, 1408] inb_S256x5632_S256x1408_0_1408, p1⟩, ⟨Rect.unit (s := S256x5632) ![0, 2816] ![256, 1408] inb_S256x5632_S256x1408_0_2816, p2⟩, ⟨Rect.unit (s := S256x5632) ![0, 0] ![256, 1408] inb_S256x5632_S256x1408_0_0, p3⟩] S256x1408.size (by rfl) y

theorem cover_7 (p0 p1 : Vec Ideal S256x1408 .bf16) (y : S256x2816.Idx) :
    ∃ pc ∈ ([⟨Rect.unit (s := S256x2816) ![0, 1408] ![256, 1408] inb_S256x2816_S256x1408_0_1408, p0⟩, ⟨Rect.unit (s := S256x2816) ![0, 0] ![256, 1408] inb_S256x2816_S256x1408_0_0, p1⟩] : List (View.Piece (Elt Ideal) S256x2816 .bf16)), y ∈ pc.1.set :=
  View.cover_of_tiled [⟨Rect.unit (s := S256x2816) ![0, 1408] ![256, 1408] inb_S256x2816_S256x1408_0_1408, p0⟩, ⟨Rect.unit (s := S256x2816) ![0, 0] ![256, 1408] inb_S256x2816_S256x1408_0_0, p1⟩] S256x1408.size (by rfl) y

theorem cover_kept (p0 p1 : Vec Ideal S8x1408 .f32) (y : S8x2816.Idx) :
    ∃ pc ∈ ([⟨Rect.unit (s := S8x2816) ![0, 1408] ![8, 1408] inb_S8x2816_S8x1408_0_1408, p0⟩, ⟨Rect.unit (s := S8x2816) ![0, 0] ![8, 1408] inb_S8x2816_S8x1408_0_0, p1⟩] : List (View.Piece (Elt Ideal) S8x2816 .f32)), y ∈ pc.1.set :=
  View.cover_of_tiled [⟨Rect.unit (s := S8x2816) ![0, 1408] ![8, 1408] inb_S8x2816_S8x1408_0_1408, p0⟩, ⟨Rect.unit (s := S8x2816) ![0, 0] ![8, 1408] inb_S8x2816_S8x1408_0_0, p1⟩] S8x1408.size (by rfl) y

theorem at_0 (x0 : Vec Ideal S256x1024 .f32) (x1 : Vec Ideal S1x1024 .f32) (x2 : Vec Ideal S5632x1024 .bf16) (p : Fin 256) (j : Fin 1408) : k0_pay4 (F := Ideal) x0 x1 (View.ld x2 (Rect.unit ![0, 0] ![1408, 1024] inb_S5632x1024_S1408x1024_0_0)) (ix2 p j) = bproj x0 x1 x2 p ⟨0 + j.val, by omega⟩ := by
  refine (pay4_apply _ _ _ p j).trans (Finset.sum_congr rfl fun k _ => ?_)
  exact congrArg (_ * ·) (ld_ix2 x2 _ j k ⟨0 + j.val, by omega⟩ k rfl (Nat.zero_add _))

theorem at_2816 (x0 : Vec Ideal S256x1024 .f32) (x1 : Vec Ideal S1x1024 .f32) (x2 : Vec Ideal S5632x1024 .bf16) (p : Fin 256) (j : Fin 1408) : k0_pay5 (F := Ideal) x0 x1 (View.ld x2 (Rect.unit ![2816, 0] ![1408, 1024] inb_S5632x1024_S1408x1024_2816_0)) (ix2 p j) = bproj x0 x1 x2 p ⟨2816 + j.val, by omega⟩ := by
  refine (pay5_apply _ _ _ p j).trans (Finset.sum_congr rfl fun k _ => ?_)
  exact congrArg (_ * ·) (ld_ix2 x2 _ j k ⟨2816 + j.val, by omega⟩ k rfl (Nat.zero_add _))

theorem at_1408 (x0 : Vec Ideal S256x1024 .f32) (x1 : Vec Ideal S1x1024 .f32) (x2 : Vec Ideal S5632x1024 .bf16) (p : Fin 256) (j : Fin 1408) : k0_pay12 (F := Ideal) (k0_pay3 x0 x1) (View.ld x2 (Rect.unit ![1408, 0] ![1408, 1024] inb_S5632x1024_S1408x1024_1408_0)) (ix2 p j) = bproj x0 x1 x2 p ⟨1408 + j.val, by omega⟩ := by
  refine (pay12_apply _ _ p j).trans (Finset.sum_congr rfl fun k _ => ?_)
  exact congrArg₂ (· * ·) (pay3_apply x0 x1 p k) (ld_ix2 x2 _ j k ⟨1408 + j.val, by omega⟩ k rfl (Nat.zero_add _))

theorem at_4224 (x0 : Vec Ideal S256x1024 .f32) (x1 : Vec Ideal S1x1024 .f32) (x2 : Vec Ideal S5632x1024 .bf16) (p : Fin 256) (j : Fin 1408) : k0_pay13 (F := Ideal) (k0_pay3 x0 x1) (View.ld x2 (Rect.unit ![4224, 0] ![1408, 1024] inb_S5632x1024_S1408x1024_4224_0)) (ix2 p j) = bproj x0 x1 x2 p ⟨4224 + j.val, by omega⟩ := by
  refine (pay13_apply _ _ p j).trans (Finset.sum_congr rfl fun k _ => ?_)
  exact congrArg₂ (· * ·) (pay3_apply x0 x1 p k) (ld_ix2 x2 _ j k ⟨4224 + j.val, by omega⟩ k rfl (Nat.zero_add _))

/-- The rows before a block's row, in a chunk of the channels. -/
theorem ext_chunk {n : ℕ} (o : ℕ) (H : Vec Ideal S8x2816 .f32) (G : Fin 256 → Fin 2816 → EReal) (H' : (⟨2, ![8, n]⟩ : Shape).Idx → EReal) (G' : Fin 256 → Fin n → EReal)
    (q : ℕ) (j : Fin n) (j' : Fin 2816) (hH : ∀ q, H' (ix2 q j) = H (ix2 q j')) (hG : ∀ p, G' p j = G p j') : ext H' G' q j = ext H G q j' := by
  unfold ext
  simp only [hH, hG]

theorem conv_0 (x0 : Vec Ideal S256x1024 .f32) (x1 : Vec Ideal S1x1024 .f32) (x2 : Vec Ideal S5632x1024 .bf16) (x3 : Vec Ideal S8x2816 .f32) (x4 : Vec Ideal S1x2816 .f32) (H : Vec Ideal S8x2816 .f32) (p : Fin 256) (j : Fin 1408) :
    k0_pay8 (F := Ideal) (k0_pay6 x0 x1 (View.ld x2 (Rect.unit ![0, 0] ![1408, 1024] inb_S5632x1024_S1408x1024_0_0))) (k0_pay7 x0 x1 (View.ld x2 (Rect.unit ![0, 0] ![1408, 1024] inb_S5632x1024_S1408x1024_0_0)) (View.ld H (Rect.unit ![0, 0] ![8, 1408] inb_S8x2816_S8x1408_0_0))) (View.ld x4 (Rect.unit ![0, 0] ![1, 1408] inb_S1x2816_S1x1408_0_0)) (View.ld x3 (Rect.unit ![2, 0] ![1, 1408] inb_S8x2816_S1x1408_2_0)) (View.ld x3 (Rect.unit ![1, 0] ![1, 1408] inb_S8x2816_S1x1408_1_0)) (View.ld x3 (Rect.unit ![0, 0] ![1, 1408] inb_S8x2816_S1x1408_0_0)) (ix2 p j) = bconv x0 x1 x2 x3 x4 H p ⟨j.val, by omega⟩ := by
  have hg : ∀ p, k0_pay6 (F := Ideal) x0 x1 (View.ld x2 (Rect.unit ![0, 0] ![1408, 1024] inb_S5632x1024_S1408x1024_0_0)) (ix2 p j) = bgate x0 x1 x2 p ⟨j.val, by omega⟩ := fun p => by
    refine ((pay6_apply _ _ _ p j).trans (pay4_apply _ _ _ p j).symm).trans ((at_0 x0 x1 x2 p j).trans ?_)
    unfold bgate
    exact congrArg (bproj x0 x1 x2 p) (Fin.ext (Nat.zero_add _))
  have he : ∀ q, ext (View.ld H (Rect.unit ![0, 0] ![8, 1408] inb_S8x2816_S8x1408_0_0)) (fun p j => k0_pay6 (F := Ideal) x0 x1 (View.ld x2 (Rect.unit ![0, 0] ![1408, 1024] inb_S5632x1024_S1408x1024_0_0)) (ix2 p j)) q j = ext H (bgate x0 x1 x2) q ⟨j.val, by omega⟩ := fun q =>
    ext_chunk 0 H _ _ _ q j _ (fun q => ld_ix2 H _ q j q ⟨j.val, by omega⟩ (Nat.zero_add _) (Nat.zero_add _)) hg
  rw [pay8_apply, pay7_apply, pay7_apply, hg, he, he,
    ld_ix2 x4 _ 0 j 0 ⟨j.val, by omega⟩ rfl (Nat.zero_add _), ld_ix2 x3 _ 0 j 2 ⟨j.val, by omega⟩ rfl (Nat.zero_add _),
    ld_ix2 x3 _ 0 j 1 ⟨j.val, by omega⟩ rfl (Nat.zero_add _), ld_ix2 x3 _ 0 j 0 ⟨j.val, by omega⟩ rfl (Nat.zero_add _)]
  rfl

theorem conv_1408 (x0 : Vec Ideal S256x1024 .f32) (x1 : Vec Ideal S1x1024 .f32) (x2 : Vec Ideal S5632x1024 .bf16) (x3 : Vec Ideal S8x2816 .f32) (x4 : Vec Ideal S1x2816 .f32) (H : Vec Ideal S8x2816 .f32) (p : Fin 256) (j : Fin 1408) :
    k0_pay15 (F := Ideal) (k0_pay12 (k0_pay3 x0 x1) (View.ld x2 (Rect.unit ![1408, 0] ![1408, 1024] inb_S5632x1024_S1408x1024_1408_0))) (View.ld H (Rect.unit ![0, 1408] ![8, 1408] inb_S8x2816_S8x1408_0_1408)) (View.ld x4 (Rect.unit ![0, 1408] ![1, 1408] inb_S1x2816_S1x1408_0_1408)) (View.ld x3 (Rect.unit ![2, 1408] ![1, 1408] inb_S8x2816_S1x1408_2_1408)) (View.ld x3 (Rect.unit ![1, 1408] ![1, 1408] inb_S8x2816_S1x1408_1_1408)) (View.ld x3 (Rect.unit ![0, 1408] ![1, 1408] inb_S8x2816_S1x1408_0_1408)) (ix2 p j) = bconv x0 x1 x2 x3 x4 H p ⟨1408 + j.val, by omega⟩ := by
  have hg : ∀ p, k0_pay12 (F := Ideal) (k0_pay3 x0 x1) (View.ld x2 (Rect.unit ![1408, 0] ![1408, 1024] inb_S5632x1024_S1408x1024_1408_0)) (ix2 p j) = bgate x0 x1 x2 p ⟨1408 + j.val, by omega⟩ := fun p => at_1408 x0 x1 x2 p j
  have he : ∀ q, ext (View.ld H (Rect.unit ![0, 1408] ![8, 1408] inb_S8x2816_S8x1408_0_1408)) (fun p j => k0_pay12 (F := Ideal) (k0_pay3 x0 x1) (View.ld x2 (Rect.unit ![1408, 0] ![1408, 1024] inb_S5632x1024_S1408x1024_1408_0)) (ix2 p j)) q j = ext H (bgate x0 x1 x2) q ⟨1408 + j.val, by omega⟩ := fun q =>
    ext_chunk 1408 H _ _ _ q j _ (fun q => ld_ix2 H _ q j q ⟨1408 + j.val, by omega⟩ (Nat.zero_add _) rfl) hg
  rw [pay15_apply, hg, he, he,
    ld_ix2 x4 _ 0 j 0 ⟨1408 + j.val, by omega⟩ rfl rfl, ld_ix2 x3 _ 0 j 2 ⟨1408 + j.val, by omega⟩ rfl rfl,
    ld_ix2 x3 _ 0 j 1 ⟨1408 + j.val, by omega⟩ rfl rfl, ld_ix2 x3 _ 0 j 0 ⟨1408 + j.val, by omega⟩ rfl rfl]
  rfl

theorem blk_5 (x0 : Vec Ideal S256x1024 .f32) (x1 : Vec Ideal S1x1024 .f32) (x2 : Vec Ideal S5632x1024 .bf16) (p : Fin 256) (j : Fin 5632) : out_5 x0 x1 x2 (ix2 p j) = bproj x0 x1 x2 p j := by
  unfold out_5
  refine canon_of_cover (e := .bf16) (fun y => bproj x0 x1 x2 (y 0) (y 1)) _ ?_ (ix2 p j) (cover_5 _ _ _ _ _)
  intro pc h
  rcases List.mem_cons.mp h with rfl | h
  · refine store_ix2 (e := .bf16) inb_S256x5632_S256x1408_0_4224 (k0_pay13 (F := Ideal) (k0_pay3 x0 x1) (View.ld x2 (Rect.unit ![4224, 0] ![1408, 1024] inb_S5632x1024_S1408x1024_4224_0))) (fun y => bproj x0 x1 x2 (y 0) (y 1)) fun p j p' j' hp hj => ?_
    obtain rfl : p = p' := Fin.ext (by omega)
    have ej : j' = ⟨4224 + j.val, by omega⟩ := Fin.ext hj.symm
    rw [ej]
    exact at_4224 x0 x1 x2 p j
  rcases List.mem_cons.mp h with rfl | h
  · refine store_ix2 (e := .bf16) inb_S256x5632_S256x1408_0_1408 (k0_pay12 (F := Ideal) (k0_pay3 x0 x1) (View.ld x2 (Rect.unit ![1408, 0] ![1408, 1024] inb_S5632x1024_S1408x1024_1408_0))) (fun y => bproj x0 x1 x2 (y 0) (y 1)) fun p j p' j' hp hj => ?_
    obtain rfl : p = p' := Fin.ext (by omega)
    have ej : j' = ⟨1408 + j.val, by omega⟩ := Fin.ext hj.symm
    rw [ej]
    exact at_1408 x0 x1 x2 p j
  rcases List.mem_cons.mp h with rfl | h
  · refine store_ix2 (e := .bf16) inb_S256x5632_S256x1408_0_2816 (k0_pay5 (F := Ideal) x0 x1 (View.ld x2 (Rect.unit ![2816, 0] ![1408, 1024] inb_S5632x1024_S1408x1024_2816_0))) (fun y => bproj x0 x1 x2 (y 0) (y 1)) fun p j p' j' hp hj => ?_
    obtain rfl : p = p' := Fin.ext (by omega)
    have ej : j' = ⟨2816 + j.val, by omega⟩ := Fin.ext hj.symm
    rw [ej]
    exact at_2816 x0 x1 x2 p j
  · obtain rfl := List.mem_singleton.mp h
    refine store_ix2 (e := .bf16) inb_S256x5632_S256x1408_0_0 (k0_pay4 (F := Ideal) x0 x1 (View.ld x2 (Rect.unit ![0, 0] ![1408, 1024] inb_S5632x1024_S1408x1024_0_0))) (fun y => bproj x0 x1 x2 (y 0) (y 1)) fun p j p' j' hp hj => ?_
    obtain rfl : p = p' := Fin.ext (by omega)
    have ej : j' = ⟨0 + j.val, by omega⟩ := Fin.ext hj.symm
    rw [ej]
    exact at_0 x0 x1 x2 p j

theorem blk_8 (x0 : Vec Ideal S256x1024 .f32) (x1 : Vec Ideal S1x1024 .f32) (x2 : Vec Ideal S5632x1024 .bf16) (x3 : Vec Ideal S8x2816 .f32) (x4 : Vec Ideal S1x2816 .f32) (H : Vec Ideal S8x2816 .f32) (p : Fin 256) (j : Fin 2816) : out_8 x0 x1 x2 x3 x4 H (ix2 p j) = bconv x0 x1 x2 x3 x4 H p j := by
  unfold out_8
  refine canon_of_cover (e := .bf16) (fun y => bconv x0 x1 x2 x3 x4 H (y 0) (y 1)) _ ?_ (ix2 p j) (cover_7 _ _ _)
  intro pc h
  rcases List.mem_cons.mp h with rfl | h
  · refine store_ix2 (e := .bf16) inb_S256x2816_S256x1408_0_1408 (k0_pay17 (F := Ideal) (k0_pay12 (k0_pay3 x0 x1) (View.ld x2 (Rect.unit ![1408, 0] ![1408, 1024] inb_S5632x1024_S1408x1024_1408_0))) (View.ld H (Rect.unit ![0, 1408] ![8, 1408] inb_S8x2816_S8x1408_0_1408)) (View.ld x4 (Rect.unit ![0, 1408] ![1, 1408] inb_S1x2816_S1x1408_0_1408)) (View.ld x3 (Rect.unit ![2, 1408] ![1, 1408] inb_S8x2816_S1x1408_2_1408)) (View.ld x3 (Rect.unit ![1, 1408] ![1, 1408] inb_S8x2816_S1x1408_1_1408)) (View.ld x3 (Rect.unit ![0, 1408] ![1, 1408] inb_S8x2816_S1x1408_0_1408))) (fun y => bconv x0 x1 x2 x3 x4 H (y 0) (y 1)) fun p j p' j' hp hj => ?_
    obtain rfl : p = p' := Fin.ext (by omega)
    have ej : j' = ⟨1408 + j.val, by omega⟩ := Fin.ext hj.symm
    rw [ej]
    exact (pay17_apply _ _ _ _ _ _ p j).trans (conv_1408 x0 x1 x2 x3 x4 H p j)
  · obtain rfl := List.mem_singleton.mp h
    refine store_ix2 (e := .bf16) inb_S256x2816_S256x1408_0_0 (k0_pay10 (F := Ideal) (k0_pay6 x0 x1 (View.ld x2 (Rect.unit ![0, 0] ![1408, 1024] inb_S5632x1024_S1408x1024_0_0))) (k0_pay7 x0 x1 (View.ld x2 (Rect.unit ![0, 0] ![1408, 1024] inb_S5632x1024_S1408x1024_0_0)) (View.ld H (Rect.unit ![0, 0] ![8, 1408] inb_S8x2816_S8x1408_0_0))) (View.ld x4 (Rect.unit ![0, 0] ![1, 1408] inb_S1x2816_S1x1408_0_0)) (View.ld x3 (Rect.unit ![2, 0] ![1, 1408] inb_S8x2816_S1x1408_2_0)) (View.ld x3 (Rect.unit ![1, 0] ![1, 1408] inb_S8x2816_S1x1408_1_0)) (View.ld x3 (Rect.unit ![0, 0] ![1, 1408] inb_S8x2816_S1x1408_0_0))) (fun y => bconv x0 x1 x2 x3 x4 H (y 0) (y 1)) fun p j p' j' hp hj => ?_
    obtain rfl : p = p' := Fin.ext (by omega)
    have ej : j' = ⟨0 + j.val, by omega⟩ := Fin.ext hj.symm
    rw [ej]
    have e0 : (⟨0 + j.val, by omega⟩ : Fin 2816) = ⟨j.val, by omega⟩ := Fin.ext (Nat.zero_add _)
    rw [e0]
    exact (pay10_apply _ _ _ _ _ _ p j).trans (conv_0 x0 x1 x2 x3 x4 H p j)

/-- The activated gate times the other half, in a block. -/
def bact (x0 : Vec Ideal S256x1024 .f32) (x1 : Vec Ideal S1x1024 .f32) (x2 : Vec Ideal S5632x1024 .bf16) (x3 : Vec Ideal S8x2816 .f32) (x4 : Vec Ideal S1x2816 .f32) (H : Vec Ideal S8x2816 .f32) (p : Fin 256) (j : Fin 2816) : EReal :=
  bconv x0 x1 x2 x3 x4 H p j * Ideal.logistic (bconv x0 x1 x2 x3 x4 H p j) * bproj x0 x1 x2 p ⟨2816 + (j).val, by omega⟩

theorem blk_7 (x0 : Vec Ideal S256x1024 .f32) (x1 : Vec Ideal S1x1024 .f32) (x2 : Vec Ideal S5632x1024 .bf16) (x3 : Vec Ideal S8x2816 .f32) (x4 : Vec Ideal S1x2816 .f32) (H : Vec Ideal S8x2816 .f32) (p : Fin 256) (j : Fin 2816) : out_7 x0 x1 x2 x3 x4 H (ix2 p j) = bact x0 x1 x2 x3 x4 H p j := by
  unfold out_7
  refine canon_of_cover (e := .bf16) (fun y => bact x0 x1 x2 x3 x4 H (y 0) (y 1)) _ ?_ (ix2 p j) (cover_7 _ _ _)
  intro pc h
  rcases List.mem_cons.mp h with rfl | h
  · refine store_ix2 (e := .bf16) inb_S256x2816_S256x1408_0_1408 (k0_pay16 (F := Ideal) (k0_pay3 x0 x1) (k0_pay12 (k0_pay3 x0 x1) (View.ld x2 (Rect.unit ![1408, 0] ![1408, 1024] inb_S5632x1024_S1408x1024_1408_0))) (View.ld x2 (Rect.unit ![4224, 0] ![1408, 1024] inb_S5632x1024_S1408x1024_4224_0)) (View.ld H (Rect.unit ![0, 1408] ![8, 1408] inb_S8x2816_S8x1408_0_1408)) (View.ld x4 (Rect.unit ![0, 1408] ![1, 1408] inb_S1x2816_S1x1408_0_1408)) (View.ld x3 (Rect.unit ![2, 1408] ![1, 1408] inb_S8x2816_S1x1408_2_1408)) (View.ld x3 (Rect.unit ![1, 1408] ![1, 1408] inb_S8x2816_S1x1408_1_1408)) (View.ld x3 (Rect.unit ![0, 1408] ![1, 1408] inb_S8x2816_S1x1408_0_1408))) (fun y => bact x0 x1 x2 x3 x4 H (y 0) (y 1)) fun p j p' j' hp hj => ?_
    obtain rfl : p = p' := Fin.ext (by omega)
    have ej : j' = ⟨1408 + j.val, by omega⟩ := Fin.ext hj.symm
    rw [ej]
    refine (pay16_apply _ _ _ _ _ _ _ _ p j).trans ?_
    rw [conv_1408 x0 x1 x2 x3 x4 H p j, at_4224 x0 x1 x2 p j]
    show _ = bact x0 x1 x2 x3 x4 H p ⟨1408 + j.val, by omega⟩
    unfold bact
    exact congrArg (_ * bproj x0 x1 x2 p ·) (Fin.ext (by show 4224 + j.val = 2816 + (1408 + j.val); omega))
  · obtain rfl := List.mem_singleton.mp h
    refine store_ix2 (e := .bf16) inb_S256x2816_S256x1408_0_0 (k0_pay9 (F := Ideal) (k0_pay5 x0 x1 (View.ld x2 (Rect.unit ![2816, 0] ![1408, 1024] inb_S5632x1024_S1408x1024_2816_0))) (k0_pay6 x0 x1 (View.ld x2 (Rect.unit ![0, 0] ![1408, 1024] inb_S5632x1024_S1408x1024_0_0))) (k0_pay7 x0 x1 (View.ld x2 (Rect.unit ![0, 0] ![1408, 1024] inb_S5632x1024_S1408x1024_0_0)) (View.ld H (Rect.unit ![0, 0] ![8, 1408] inb_S8x2816_S8x1408_0_0))) (View.ld x4 (Rect.unit ![0, 0] ![1, 1408] inb_S1x2816_S1x1408_0_0)) (View.ld x3 (Rect.unit ![2, 0] ![1, 1408] inb_S8x2816_S1x1408_2_0)) (View.ld x3 (Rect.unit ![1, 0] ![1, 1408] inb_S8x2816_S1x1408_1_0)) (View.ld x3 (Rect.unit ![0, 0] ![1, 1408] inb_S8x2816_S1x1408_0_0))) (fun y => bact x0 x1 x2 x3 x4 H (y 0) (y 1)) fun p j p' j' hp hj => ?_
    obtain rfl : p = p' := Fin.ext (by omega)
    have ej : j' = ⟨0 + j.val, by omega⟩ := Fin.ext hj.symm
    rw [ej]
    have e0 : (⟨0 + j.val, by omega⟩ : Fin 2816) = ⟨j.val, by omega⟩ := Fin.ext (Nat.zero_add _)
    rw [e0]
    refine (pay9_apply _ _ _ _ _ _ _ p j).trans ?_
    rw [conv_0 x0 x1 x2 x3 x4 H p j, at_2816 x0 x1 x2 p j]
    rfl

/-- The last eight rows of a block's gate. -/
def bkeep (x0 : Vec Ideal S256x1024 .f32) (x1 : Vec Ideal S1x1024 .f32) (x2 : Vec Ideal S5632x1024 .bf16) (q : Fin 8) (j : Fin 2816) : EReal := bgate x0 x1 x2 ⟨248 + q.val, by omega⟩ j

theorem kept_apply (x0 : Vec Ideal S256x1024 .f32) (x1 : Vec Ideal S1x1024 .f32) (x2 : Vec Ideal S5632x1024 .bf16) (L : List (View.Piece (Elt Ideal) S8x2816 .f32)) (p : Fin 8) (j : Fin 2816) :
    View.canon (carry x0 x1 x2 ++ L) (ix2 p j) = bkeep x0 x1 x2 p j := by
  refine canon_of_cover_append (e := .f32) (fun y => bkeep x0 x1 x2 (y 0) (y 1)) (carry x0 x1 x2) L ?_ (ix2 p j) (cover_kept _ _ _)
  intro pc h
  unfold carry at h
  rcases List.mem_cons.mp h with rfl | h
  · refine store_ix2 (e := .f32) inb_S8x2816_S8x1408_0_1408 (k0_pay1 (F := Ideal) (k0_pay14 (k0_pay12 (k0_pay3 x0 x1) (View.ld x2 (Rect.unit ![1408, 0] ![1408, 1024] inb_S5632x1024_S1408x1024_1408_0))))) (fun y => bkeep x0 x1 x2 (y 0) (y 1)) fun p j p' j' hp hj => ?_
    obtain rfl : p = p' := Fin.ext (by omega)
    have ej : j' = ⟨1408 + j.val, by omega⟩ := Fin.ext hj.symm
    rw [ej]
    exact ((pay1_apply _ p j).trans (pay14_apply _ _ j)).trans (at_1408 x0 x1 x2 _ j)
  · obtain rfl := List.mem_singleton.mp h
    refine store_ix2 (e := .f32) inb_S8x2816_S8x1408_0_0 (k0_pay11 (F := Ideal) (k0_pay6 x0 x1 (View.ld x2 (Rect.unit ![0, 0] ![1408, 1024] inb_S5632x1024_S1408x1024_0_0)))) (fun y => bkeep x0 x1 x2 (y 0) (y 1)) fun p j p' j' hp hj => ?_
    obtain rfl : p = p' := Fin.ext (by omega)
    have ej : j' = ⟨0 + j.val, by omega⟩ := Fin.ext hj.symm
    rw [ej]
    have e0 : (⟨0 + j.val, by omega⟩ : Fin 2816) = ⟨j.val, by omega⟩ := Fin.ext (Nat.zero_add _)
    rw [e0]
    refine ((pay11_apply _ p j).trans ((pay6_apply _ _ _ _ j).trans (pay4_apply _ _ _ _ j).symm)).trans ((at_0 x0 x1 x2 _ j).trans ?_)
    exact congrArg (bproj x0 x1 x2 _) (Fin.ext (Nat.zero_add _))

end Cert.FfnIn
end
-- ==== Proof.FfnInValue.lean ====
/-
  The feed-forward's input: a block of rows is normalised and projected, the gate half is convolved along the rows with the rows before
  it carried from block to block, and activated against the other half; what the launch's arrays hold after the grid, and
  what the reference computes.
-/
module

public import proofs.«01_k».proof.Proof.FfnInBlock
public import proofs.«01_k».proof.Proof.Blocks
public import proofs.«01_k».proof.Proof.Gen.FfnInReferenceIdeal.Read
public import proofs.«01_k».proof.Proof.Gen.FfnInIdeal.Value
public import proofs.«01_k».proof.Proof.Gen.FfnInReferenceIdeal.Run

@[expose] public section

set_option maxRecDepth 16384
noncomputable section
open Idealize.ShloMosaic Idealize.ShloMosaic.TcCoe Idealize.SL.Sem Cert.Blocks

namespace Cert.FfnIn

open Cert.FfnInIdeal Cert.FfnInIdeal.Gen

section
variable (m : (ℓ : Loc nD τ sig) → Buf (Elt Ideal) ℓ) (c : Dev nD)

abbrev m0 : S8192x1024.Idx → EReal := m ((c : Thread nD τ).loc main_arg0)
abbrev m1 : S1x1024.Idx → EReal := m ((c : Thread nD τ).loc main_arg1)
abbrev m2 : S1024x5632.Idx → EReal := m ((c : Thread nD τ).loc main_arg2)
abbrev m3 : S3x2816.Idx → EReal := m ((c : Thread nD τ).loc main_arg3)
abbrev m4 : S1x2816.Idx → EReal := m ((c : Thread nD τ).loc main_arg4)

theorem host_0 (a : Fin 8192) (b : Fin 1024) : V m c main_arg0 (ix2 a b) = m0 m c (ix2 a b) := by
  rw [V_main_arg0]

theorem host_1 (a : Fin 1) (b : Fin 1024) : V m c main_arg1 (ix2 a b) = m1 m c (ix2 a b) := by
  rw [V_main_arg1]

theorem host_2 (a : Fin 5632) (b : Fin 1024) : V m c main_v1 (ix2 a b) = m2 m c (ix2 b a) := by
  unfold V hostOps0
  simp only [List.flatten_cons, List.flatten_nil, List.cons_append, List.nil_append, List.append_nil]
  after_reads_at

theorem host_3 (a : Fin 8) (b : Fin 2816) (h : a.val < 3) : V m c main_v2 (ix2 a b) = m3 m c (ix2 ⟨a.val, h⟩ b) := by
  unfold V hostOps0
  simp only [List.flatten_cons, List.flatten_nil, List.cons_append, List.nil_append, List.append_nil]
  after_reads_at
  rw [dif_pos h]

theorem host_4 (a : Fin 1) (b : Fin 2816) : V m c main_arg4 (ix2 a b) = m4 m c (ix2 a b) := by
  rw [V_main_arg4]

theorem point_lt (t : Fin cfg0.N) : t.val < 32 := lt_of_lt_of_eq t.isLt (show cfg0.N = 32 from N_0)

/-- The array's row at row `p` of block `t`. -/
def rowAt (t : Fin cfg0.N) (p : Fin 256) : Fin 8192 := ⟨256 * t.val + p.val, by have := point_lt t; omega⟩

theorem exists_rowAt (i : Fin 8192) : ∃ t p, rowAt t p = i := by
  have hN : i.val / 256 < cfg0.N := by rw [show cfg0.N = 32 from N_0]; omega
  exact ⟨⟨_, hN⟩, ⟨i.val % 256, Nat.mod_lt _ (by decide)⟩, Fin.ext (Nat.div_add_mod i.val 256)⟩

def b0 (t : Fin cfg0.N) : S256x1024.Idx → EReal := iblk m c 0 t

theorem index_0 : ∀ t : Fin cfg0.N, win0_0.index t 0 * 256 = 256 * t.val ∧ win0_0.index t 1 * 1024 = 0 := by decide +kernel

theorem iblk_0 (t : Fin cfg0.N) (a : Fin 256) (b : Fin 1024) : b0 m c t (ix2 a b) = m0 m c (ix2 (rowAt t a) b) := by
  rw [← host_0]
  unfold b0 iblk
  rw [View.read_apply]
  exact congrArg (V m c main_arg0) (eq_ix2_of (index_0 t) rfl rfl rfl (Nat.zero_add _))

def b1 (t : Fin cfg0.N) : S1x1024.Idx → EReal := iblk m c 1 t

theorem index_1 : ∀ t : Fin cfg0.N, win0_1.index t 0 * 1 = 0 ∧ win0_1.index t 1 * 1024 = 0 := by decide +kernel

theorem iblk_1 (t : Fin cfg0.N) (a : Fin 1) (b : Fin 1024) : b1 m c t (ix2 a b) = m1 m c (ix2 a b) := by
  rw [← host_1]
  unfold b1 iblk
  rw [View.read_apply]
  exact congrArg (V m c main_arg1) (eq_ix2_of (index_1 t) rfl rfl (Nat.zero_add _) (Nat.zero_add _))

def b2 (t : Fin cfg0.N) : S5632x1024.Idx → EReal := iblk m c 2 t

theorem index_2 : ∀ t : Fin cfg0.N, win0_2.index t 0 * 5632 = 0 ∧ win0_2.index t 1 * 1024 = 0 := by decide +kernel

theorem iblk_2 (t : Fin cfg0.N) (a : Fin 5632) (b : Fin 1024) : b2 m c t (ix2 a b) = m2 m c (ix2 b a) := by
  rw [← host_2]
  unfold b2 iblk
  rw [View.read_apply]
  exact congrArg (V m c main_v1) (eq_ix2_of (index_2 t) rfl rfl (Nat.zero_add _) (Nat.zero_add _))

def b3 (t : Fin cfg0.N) : S8x2816.Idx → EReal := iblk m c 3 t

theorem index_3 : ∀ t : Fin cfg0.N, win0_3.index t 0 * 8 = 0 ∧ win0_3.index t 1 * 2816 = 0 := by decide +kernel

theorem iblk_3 (t : Fin cfg0.N) (a : Fin 8) (b : Fin 2816) (h : a.val < 3) : b3 m c t (ix2 a b) = m3 m c (ix2 ⟨a.val, h⟩ b) := by
  rw [← host_3 m c a b h]
  unfold b3 iblk
  rw [View.read_apply]
  exact congrArg (V m c main_v2) (eq_ix2_of (index_3 t) rfl rfl (Nat.zero_add _) (Nat.zero_add _))

def b4 (t : Fin cfg0.N) : S1x2816.Idx → EReal := iblk m c 4 t

theorem index_4 : ∀ t : Fin cfg0.N, win0_4.index t 0 * 1 = 0 ∧ win0_4.index t 1 * 2816 = 0 := by decide +kernel

theorem iblk_4 (t : Fin cfg0.N) (a : Fin 1) (b : Fin 2816) : b4 m c t (ix2 a b) = m4 m c (ix2 a b) := by
  rw [← host_4]
  unfold b4 iblk
  rw [View.read_apply]
  exact congrArg (V m c main_arg4) (eq_ix2_of (index_4 t) rfl rfl (Nat.zero_add _) (Nat.zero_add _))

theorem left_5 (t : Fin cfg0.N) : (outsAt0 m c t.val t.isLt).1 = out_5 (iblk m c 0 t) (iblk m c 1 t) (iblk m c 2 t) := by
  unfold out_5
  by_cases h0 : t.val % 32 = 0
  · rw [outsAt0_A m c t h0]
    frame_out
  · rw [outsAt0_B m c t h0]
    frame_out

theorem left_6 (t : Fin cfg0.N) : (outsAt0 m c t.val t.isLt).2.1 = k0_pay3 (iblk m c 0 t) (iblk m c 1 t) := by
  by_cases h0 : t.val % 32 = 0
  · rw [outsAt0_A m c t h0]
    frame_out
  · rw [outsAt0_B m c t h0]
    frame_out

theorem left_7_A (t : Fin cfg0.N) (h0 : t.val % 32 = 0) : (outsAt0 m c t.val t.isLt).2.2.1 = out_7 (iblk m c 0 t) (iblk m c 1 t) (iblk m c 2 t) (iblk m c 3 t) (iblk m c 4 t) (k0_pay2 (F := Ideal)) := by
  unfold out_7
  rw [outsAt0_A m c t h0]
  frame_out
  simp (disch := decide) only [↓ View.readCov_skip, ↓ View.readCov_cons_toLoadRect, ↓ View.readCov_fill]

theorem left_7_B (t : Fin cfg0.N) (h0 : ¬t.val % 32 = 0) : (outsAt0 m c t.val t.isLt).2.2.1 = out_7 (iblk m c 0 t) (iblk m c 1 t) (iblk m c 2 t) (iblk m c 3 t) (iblk m c 4 t) (outsAt0 m c (t.val - 1) (Nat.lt_of_le_of_lt (Nat.sub_le _ _) t.isLt)).2.2.2.2 := by
  unfold out_7
  rw [outsAt0_B m c t h0]
  frame_out
  simp only [read_unread_whole]

theorem left_8_A (t : Fin cfg0.N) (h0 : t.val % 32 = 0) : (outsAt0 m c t.val t.isLt).2.2.2.1 = out_8 (iblk m c 0 t) (iblk m c 1 t) (iblk m c 2 t) (iblk m c 3 t) (iblk m c 4 t) (k0_pay2 (F := Ideal)) := by
  unfold out_8
  rw [outsAt0_A m c t h0]
  frame_out
  simp (disch := decide) only [↓ View.readCov_skip, ↓ View.readCov_cons_toLoadRect, ↓ View.readCov_fill]

theorem left_8_B (t : Fin cfg0.N) (h0 : ¬t.val % 32 = 0) : (outsAt0 m c t.val t.isLt).2.2.2.1 = out_8 (iblk m c 0 t) (iblk m c 1 t) (iblk m c 2 t) (iblk m c 3 t) (iblk m c 4 t) (outsAt0 m c (t.val - 1) (Nat.lt_of_le_of_lt (Nat.sub_le _ _) t.isLt)).2.2.2.2 := by
  unfold out_8
  rw [outsAt0_B m c t h0]
  frame_out
  simp only [read_unread_whole]

/-- What a point leaves in the carried rows: its own last rows. -/
theorem kept (t : Fin cfg0.N) (q : Fin 8) (j : Fin 2816) :
    (outsAt0 m c t.val t.isLt).2.2.2.2 (ix2 q j) = bkeep (b0 m c t) (b1 m c t) (b2 m c t) q j := by
  by_cases h0 : t.val % 32 = 0
  · refine Eq.trans (congrFun (?_ : _ = View.canon (carry (iblk m c 0 t) (iblk m c 1 t) (iblk m c 2 t) ++ [⟨Rect.unit (s := S8x2816) ![0, 0] ![8, 2816] inb_S8x2816_S8x2816_0_0, k0_pay2 (F := Ideal)⟩])) _) (kept_apply (b0 m c t) (b1 m c t) (b2 m c t) _ q j)
    rw [outsAt0_A m c t h0]
    unfold carry
    frame_out
    rfl
  · refine Eq.trans (congrFun (?_ : _ = View.canon (carry (iblk m c 0 t) (iblk m c 1 t) (iblk m c 2 t) ++ [])) _) (kept_apply (b0 m c t) (b1 m c t) (b2 m c t) _ q j)
    rw [outsAt0_B m c t h0, List.append_nil]
    unfold carry
    frame_out

theorem proj_eq (t : Fin cfg0.N) (p : Fin 256) (j : Fin 5632) : bproj (b0 m c t) (b1 m c t) (b2 m c t) p j = proj (m0 m c) (m1 m c) (m2 m c) (rowAt t p) j := by
  unfold bproj bnorm proj norm
  simp only [iblk_0, iblk_1, iblk_2]

theorem norm_eq (t : Fin cfg0.N) (p : Fin 256) (k : Fin 1024) : bnorm (b0 m c t) (b1 m c t) p k = norm (m0 m c) (m1 m c) (rowAt t p) k := by
  unfold bnorm norm
  simp only [iblk_0, iblk_1]

/-- The rows before a point's rows are the array's rows before them. -/
theorem ext_eq (t : Fin cfg0.N) (H : Vec Ideal S8x2816 .f32) (hH : ∀ (q : Fin 8) (j : Fin 2816), H (ix2 q j) = past (m0 m c) (m1 m c) (m2 m c) (256 * t.val + q.val) j)
    (q : ℕ) (hq : q < 264) (j : Fin 2816) : ext H (bgate (b0 m c t) (b1 m c t) (b2 m c t)) q j = past (m0 m c) (m1 m c) (m2 m c) (256 * t.val + q) j := by
  have ht := point_lt t
  unfold ext
  split_ifs with h h'
  · exact hH _ j
  · unfold bgate past
    rw [proj_eq, if_neg (by omega), dif_pos (by omega)]
    exact congrArg (proj (m0 m c) (m1 m c) (m2 m c) · _) (Fin.ext (by show 256 * t.val + (q - 8) = 256 * t.val + q - 8; omega))
  · omega

/-- The carried rows a point finds are the array's rows before its own. -/
theorem found_B (t : Fin cfg0.N) (h0 : ¬t.val % 32 = 0) (q : Fin 8) (j : Fin 2816) : (outsAt0 m c (t.val - 1) (Nat.lt_of_le_of_lt (Nat.sub_le _ _) t.isLt)).2.2.2.2 (ix2 q j) = past (m0 m c) (m1 m c) (m2 m c) (256 * t.val + q.val) j := by
  have ht := point_lt t
  refine (kept m c ⟨t.val - 1, Nat.lt_of_le_of_lt (Nat.sub_le _ _) t.isLt⟩ q j).trans ?_
  unfold bkeep bgate past
  rw [proj_eq, if_neg (by omega), dif_pos (by omega)]
  exact congrArg (proj (m0 m c) (m1 m c) (m2 m c) · _) (Fin.ext (by show 256 * (t.val - 1) + (248 + q.val) = 256 * t.val + q.val - 8; omega))

theorem found_A (t : Fin cfg0.N) (h0 : t.val % 32 = 0) (q : Fin 8) (j : Fin 2816) : k0_pay2 (F := Ideal) (ix2 q j) = past (m0 m c) (m1 m c) (m2 m c) (256 * t.val + q.val) j := by
  have ht := point_lt t
  rw [pay2_apply]
  unfold past
  rw [if_pos (by omega)]

theorem conv_eq (t : Fin cfg0.N) (H : Vec Ideal S8x2816 .f32) (hH : ∀ (q : Fin 8) (j : Fin 2816), H (ix2 q j) = past (m0 m c) (m1 m c) (m2 m c) (256 * t.val + q.val) j)
    (p : Fin 256) (j : Fin 2816) : bconv (b0 m c t) (b1 m c t) (b2 m c t) (b3 m c t) (b4 m c t) H p j = conv (m0 m c) (m1 m c) (m2 m c) (m3 m c) (m4 m c) (rowAt t p) j := by
  unfold bconv conv
  rw [ext_eq m c t H hH (p.val + 7) (by omega) j, ext_eq m c t H hH (p.val + 6) (by omega) j, iblk_4, iblk_3 m c t 2 j (by decide),
    iblk_3 m c t 1 j (by decide), iblk_3 m c t 0 j (by decide)]
  unfold bgate
  rw [proj_eq]
  rfl

theorem act_eq (t : Fin cfg0.N) (H : Vec Ideal S8x2816 .f32) (hH : ∀ (q : Fin 8) (j : Fin 2816), H (ix2 q j) = past (m0 m c) (m1 m c) (m2 m c) (256 * t.val + q.val) j)
    (p : Fin 256) (j : Fin 2816) : bact (b0 m c t) (b1 m c t) (b2 m c t) (b3 m c t) (b4 m c t) H p j = res_7 (m0 m c) (m1 m c) (m2 m c) (m3 m c) (m4 m c) (ix2 (rowAt t p) j) := by
  unfold bact res_7
  rw [conv_eq m c t H hH, proj_eq]
  rfl

theorem point_5 (t : Fin cfg0.N) (p : Fin 256) (j : Fin 5632) : (outsAt0 m c t.val t.isLt).1 (ix2 p j) = res_5 (m0 m c) (m1 m c) (m2 m c) (m3 m c) (m4 m c) (ix2 (rowAt t p) j) := by
  rw [left_5 m c t]
  exact (blk_5 (b0 m c t) (b1 m c t) (b2 m c t) p j).trans (proj_eq m c t p j)

theorem point_6 (t : Fin cfg0.N) (p : Fin 256) (j : Fin 1024) : (outsAt0 m c t.val t.isLt).2.1 (ix2 p j) = res_6 (m0 m c) (m1 m c) (m2 m c) (m3 m c) (m4 m c) (ix2 (rowAt t p) j) := by
  rw [left_6 m c t]
  exact (pay3_apply (b0 m c t) (b1 m c t) p j).trans (norm_eq m c t p j)

theorem point_7 (t : Fin cfg0.N) (p : Fin 256) (j : Fin 2816) : (outsAt0 m c t.val t.isLt).2.2.1 (ix2 p j) = res_7 (m0 m c) (m1 m c) (m2 m c) (m3 m c) (m4 m c) (ix2 (rowAt t p) j) := by
  by_cases h0 : t.val % 32 = 0
  · rw [left_7_A m c t h0]
    exact (blk_7 (b0 m c t) (b1 m c t) (b2 m c t) (b3 m c t) (b4 m c t) _ p j).trans (act_eq m c t _ (found_A m c t h0) p j)
  · rw [left_7_B m c t h0]
    exact (blk_7 (b0 m c t) (b1 m c t) (b2 m c t) (b3 m c t) (b4 m c t) _ p j).trans (act_eq m c t _ (found_B m c t h0) p j)

theorem point_8 (t : Fin cfg0.N) (p : Fin 256) (j : Fin 2816) : (outsAt0 m c t.val t.isLt).2.2.2.1 (ix2 p j) = res_8 (m0 m c) (m1 m c) (m2 m c) (m3 m c) (m4 m c) (ix2 (rowAt t p) j) := by
  by_cases h0 : t.val % 32 = 0
  · rw [left_8_A m c t h0]
    exact (blk_8 (b0 m c t) (b1 m c t) (b2 m c t) (b3 m c t) (b4 m c t) _ p j).trans (conv_eq m c t _ (found_A m c t h0) p j)
  · rw [left_8_B m c t h0]
    exact (blk_8 (b0 m c t) (b1 m c t) (b2 m c t) (b3 m c t) (b4 m c t) _ p j).trans (conv_eq m c t _ (found_B m c t h0) p j)

theorem index_5 : ∀ t : Fin cfg0.N, win0_5.index t 0 * 256 = 256 * t.val ∧ win0_5.index t 1 * 5632 = 0 := by decide +kernel

theorem flush_5 : ∀ t : Fin cfg0.N, (cfg0.win 5).flush t = true := by decide +kernel

theorem emb_5 (t : Fin cfg0.N) (p : Fin 256) (j : Fin 5632) :
    ((cfg0.win 5).blk t).view.emb (ix2 p j) = (ix2 (rowAt t p) j : S8192x5632.Idx) :=
  eq_ix2_of (index_5 t) rfl rfl rfl (Nat.zero_add _)

theorem final_5 : (dats m 0 c).arrAt 5 cfg0.N = res_5 (m0 m c) (m1 m c) (m2 m c) (m3 m c) (m4 m c) := by
  refine (dats m 0 c).arrAt_eq_of_cover 5 (res_5 (m0 m c) (m1 m c) (m2 m c) (m3 m c) (m4 m c)) (fun t hf => ?_) fun y => ?_
  · rw [Cert.FfnInIdeal.Value.flushed5]
    funext y
    obtain ⟨p, j, rfl⟩ := exists_ix2 y
    rw [View.read_apply, emb_5 t p j]
    exact point_5 m c t p j
  · obtain ⟨i, j, rfl⟩ := exists_ix2 y
    obtain ⟨t, p, rfl⟩ := exists_rowAt i
    exact ⟨t, flush_5 t, emb_5 t p j ▸ View.emb_mem_set _ _⟩

theorem index_6 : ∀ t : Fin cfg0.N, win0_6.index t 0 * 256 = 256 * t.val ∧ win0_6.index t 1 * 1024 = 0 := by decide +kernel

theorem flush_6 : ∀ t : Fin cfg0.N, (cfg0.win 6).flush t = true := by decide +kernel

theorem emb_6 (t : Fin cfg0.N) (p : Fin 256) (j : Fin 1024) :
    ((cfg0.win 6).blk t).view.emb (ix2 p j) = (ix2 (rowAt t p) j : S8192x1024.Idx) :=
  eq_ix2_of (index_6 t) rfl rfl rfl (Nat.zero_add _)

theorem final_6 : (dats m 0 c).arrAt 6 cfg0.N = res_6 (m0 m c) (m1 m c) (m2 m c) (m3 m c) (m4 m c) := by
  refine (dats m 0 c).arrAt_eq_of_cover 6 (res_6 (m0 m c) (m1 m c) (m2 m c) (m3 m c) (m4 m c)) (fun t hf => ?_) fun y => ?_
  · rw [Cert.FfnInIdeal.Value.flushed6]
    funext y
    obtain ⟨p, j, rfl⟩ := exists_ix2 y
    rw [View.read_apply, emb_6 t p j]
    exact point_6 m c t p j
  · obtain ⟨i, j, rfl⟩ := exists_ix2 y
    obtain ⟨t, p, rfl⟩ := exists_rowAt i
    exact ⟨t, flush_6 t, emb_6 t p j ▸ View.emb_mem_set _ _⟩

theorem index_7 : ∀ t : Fin cfg0.N, win0_7.index t 0 * 256 = 256 * t.val ∧ win0_7.index t 1 * 2816 = 0 := by decide +kernel

theorem flush_7 : ∀ t : Fin cfg0.N, (cfg0.win 7).flush t = true := by decide +kernel

theorem emb_7 (t : Fin cfg0.N) (p : Fin 256) (j : Fin 2816) :
    ((cfg0.win 7).blk t).view.emb (ix2 p j) = (ix2 (rowAt t p) j : S8192x2816.Idx) :=
  eq_ix2_of (index_7 t) rfl rfl rfl (Nat.zero_add _)

theorem final_7 : (dats m 0 c).arrAt 7 cfg0.N = res_7 (m0 m c) (m1 m c) (m2 m c) (m3 m c) (m4 m c) := by
  refine (dats m 0 c).arrAt_eq_of_cover 7 (res_7 (m0 m c) (m1 m c) (m2 m c) (m3 m c) (m4 m c)) (fun t hf => ?_) fun y => ?_
  · rw [Cert.FfnInIdeal.Value.flushed7]
    funext y
    obtain ⟨p, j, rfl⟩ := exists_ix2 y
    rw [View.read_apply, emb_7 t p j]
    exact point_7 m c t p j
  · obtain ⟨i, j, rfl⟩ := exists_ix2 y
    obtain ⟨t, p, rfl⟩ := exists_rowAt i
    exact ⟨t, flush_7 t, emb_7 t p j ▸ View.emb_mem_set _ _⟩

theorem index_8 : ∀ t : Fin cfg0.N, win0_8.index t 0 * 256 = 256 * t.val ∧ win0_8.index t 1 * 2816 = 0 := by decide +kernel

theorem flush_8 : ∀ t : Fin cfg0.N, (cfg0.win 8).flush t = true := by decide +kernel

theorem emb_8 (t : Fin cfg0.N) (p : Fin 256) (j : Fin 2816) :
    ((cfg0.win 8).blk t).view.emb (ix2 p j) = (ix2 (rowAt t p) j : S8192x2816.Idx) :=
  eq_ix2_of (index_8 t) rfl rfl rfl (Nat.zero_add _)

theorem final_8 : (dats m 0 c).arrAt 8 cfg0.N = res_8 (m0 m c) (m1 m c) (m2 m c) (m3 m c) (m4 m c) := by
  refine (dats m 0 c).arrAt_eq_of_cover 8 (res_8 (m0 m c) (m1 m c) (m2 m c) (m3 m c) (m4 m c)) (fun t hf => ?_) fun y => ?_
  · rw [Cert.FfnInIdeal.Value.flushed8]
    funext y
    obtain ⟨p, j, rfl⟩ := exists_ix2 y
    rw [View.read_apply, emb_8 t p j]
    exact point_8 m c t p j
  · obtain ⟨i, j, rfl⟩ := exists_ix2 y
    obtain ⟨t, p, rfl⟩ := exists_rowAt i
    exact ⟨t, flush_8 t, emb_8 t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v3_0) = res_5 (m0 m c) (m1 m c) (m2 m c) (m3 m c) (m4 m c)
      ∧ r.2.mem ((c : Thread nD τ).loc main_v3_1) = res_6 (m0 m c) (m1 m c) (m2 m c) (m3 m c) (m4 m c)
      ∧ r.2.mem ((c : Thread nD τ).loc main_v3_2) = res_7 (m0 m c) (m1 m c) (m2 m c) (m3 m c) (m4 m c)
      ∧ r.2.mem ((c : Thread nD τ).loc main_v3_3) = res_8 (m0 m c) (m1 m c) (m2 m c) (m3 m c) (m4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_5 m c), ((h c).2).1.trans (final_6 m c), ((h c).2.2).1.trans (final_7 m c), ((h c).2.2.2).1.trans (final_8 m c), (h c).2.2.2.2⟩) (Cert.FfnInIdeal.Value.run_blocks m ρ)
end

end Cert.FfnIn

namespace Cert.FfnIn

open Cert.FfnInReferenceIdeal Cert.FfnInReferenceIdeal.Gen Cert.FfnInReferenceIdeal.Read

theorem ref_norm (A0 : FVec Ideal S8192x1024 .f32) (A1 : FVec Ideal S1x1024 .f32) (i : Fin 8192) (k : Fin 1024) :
    (val_main_v11 (F := Ideal) A0 A1 : S8192x1024.Idx → EReal) (ix2 i k) = norm A0 A1 i k := by
  unfold val_main_v11 val_main_v9 val_main_v8 val_main_v7 val_main_v6 val_main_v4 val_main_v2 val_main_v1 val_main_v0 val_main_v3 val_main_v5 val_main_v10 val_main_cst val_main_cst_0 val_main_cst_1
  pointwise
  rfl

theorem ref_proj (A0 : FVec Ideal S8192x1024 .f32) (A1 : FVec Ideal S1x1024 .f32) (A2 : FVec Ideal S1024x5632 .f32) (i : Fin 8192) (j : Fin 5632) :
    (val_main_v12 (F := Ideal) A0 A1 A2 : S8192x5632.Idx → EReal) (ix2 i j) = proj A0 A1 A2 i j := by
  have h := ref_norm A0 A1
  unfold val_main_v12
  generalize val_main_v11 (F := Ideal) A0 A1 = N at h ⊢
  pointwise
  exact Finset.sum_congr rfl fun k _ => congrArg (· * _) (h i k)

theorem past_eq (A0 : S8192x1024.Idx → EReal) (A1 : FVec Ideal S1x1024 .f32) (A2 : FVec Ideal S1024x5632 .f32) (P : S8192x5632.Idx → EReal) (hP : ∀ i j, P (ix2 i j) = proj A0 A1 A2 i j) (r s : ℕ) (j : Fin 2816) (hs : s = r + 6)
    (h0 : ∀ _ : ¬r < 2, r - 2 < 8192) (hj : j.val < 5632) :
    (if h : r < 2 then 0 else P (ix2 ⟨r - 2, h0 h⟩ ⟨j.val, hj⟩)) = past A0 A1 A2 s j := by
  subst hs
  unfold past
  split_ifs with h h' h'' h'
  · rfl
  · omega
  · omega
  · omega
  · rw [hP]
    exact congrArg (proj A0 A1 A2 · _) (Fin.ext (by show r - 2 = r + 6 - 8; omega))
  · omega

theorem conv_sum (a b d e : EReal) : a + b + d + e = e + d + b + a := by
  rw [add_comm (a + b + d) e, add_comm (a + b) d, add_comm a b, ← add_assoc, ← add_assoc]

theorem conv_ref (A0 : S8192x1024.Idx → EReal) (A1 : S1x1024.Idx → EReal) (A2 : S1024x5632.Idx → EReal) (A3 : S3x2816.Idx → EReal) (A4 : S1x2816.Idx → EReal) (P : S8192x5632.Idx → EReal) (hP : ∀ i j, P (ix2 i j) = proj A0 A1 A2 i j) (i : Fin 8192) (j : Fin 2816)
    (h0 : ∀ _ : ¬i.val < 2, i.val - 2 < 8192) (h1 : ∀ _ : ¬1 + i.val < 2, 1 + i.val - 2 < 8192) (hj : j.val < 5632) :
    (if h : i.val < 2 then 0 else P (ix2 ⟨i.val - 2, h0 h⟩ ⟨j.val, hj⟩)) * A3 (ix2 0 j)
      + (if h : 1 + i.val < 2 then 0 else P (ix2 ⟨1 + i.val - 2, h1 h⟩ ⟨j.val, hj⟩)) * A3 (ix2 1 j)
      + P (ix2 i ⟨j.val, hj⟩) * A3 (ix2 2 j) + A4 (ix2 0 j) = conv A0 A1 A2 A3 A4 i j := by
  rw [past_eq A0 A1 A2 P hP i.val (i.val + 6) j rfl, past_eq A0 A1 A2 P hP (1 + i.val) (i.val + 7) j (by omega), hP, conv_sum]
  rfl

theorem ref_conv (A0 : FVec Ideal S8192x1024 .f32) (A1 : FVec Ideal S1x1024 .f32) (A2 : FVec Ideal S1024x5632 .f32) (A3 : FVec Ideal S3x2816 .f32) (A4 : FVec Ideal S1x2816 .f32) (i : Fin 8192) (j : Fin 2816) :
    (val_main_v40 (F := Ideal) A0 A1 A2 A3 A4 : S8192x2816.Idx → EReal) (ix2 i j) = conv A0 A1 A2 A3 A4 i j := by
  have h := ref_proj A0 A1 A2
  unfold val_main_v40 val_main_v38 val_main_v31 val_main_v24 val_main_v22 val_main_v17 val_main_v30 val_main_v25 val_main_v37 val_main_v32 val_main_v16 val_main_v13 val_main_v15 val_main_v21 val_main_v20 val_main_v19 val_main_v18 val_main_v29 val_main_v28 val_main_v27 val_main_v26 val_main_v36 val_main_v35 val_main_v34 val_main_v33 val_main_v39 val_main_v23 val_main_cst_2 val_main_cst_3
  generalize val_main_v12 (F := Ideal) A0 A1 A2 = P at h ⊢
  pointwise
  exact conv_ref A0 A1 A2 A3 A4 P h i j (fun _ => by omega) (fun _ => by omega) (by omega)

/-- What the reference computes. -/
theorem reference_eq_5 (A0 : FVec Ideal S8192x1024 .f32) (A1 : FVec Ideal S1x1024 .f32) (A2 : FVec Ideal S1024x5632 .f32) (A3 : FVec Ideal S3x2816 .f32) (A4 : FVec Ideal S1x2816 .f32) :
    (val_main_v43 (F := Ideal) A0 A1 A2 : FVec Ideal S8192x5632 .bf16) = res_5 A0 A1 A2 A3 A4 := by
  funext y
  obtain ⟨i, j, rfl⟩ := exists_ix2 y
  unfold val_main_v43
  exact ref_proj A0 A1 A2 i j

/-- What the reference computes. -/
theorem reference_eq_6 (A0 : FVec Ideal S8192x1024 .f32) (A1 : FVec Ideal S1x1024 .f32) (A2 : FVec Ideal S1024x5632 .f32) (A3 : FVec Ideal S3x2816 .f32) (A4 : FVec Ideal S1x2816 .f32) :
    (val_main_v44 (F := Ideal) A0 A1 : FVec Ideal S8192x1024 .bf16) = res_6 A0 A1 A2 A3 A4 := by
  funext y
  obtain ⟨i, j, rfl⟩ := exists_ix2 y
  unfold val_main_v44
  exact ref_norm A0 A1 i j

/-- What the reference computes. -/
theorem reference_eq_7 (A0 : FVec Ideal S8192x1024 .f32) (A1 : FVec Ideal S1x1024 .f32) (A2 : FVec Ideal S1024x5632 .f32) (A3 : FVec Ideal S3x2816 .f32) (A4 : FVec Ideal S1x2816 .f32) :
    (val_main_v45 (F := Ideal) A0 A1 A2 A3 A4 : FVec Ideal S8192x2816 .bf16) = res_7 A0 A1 A2 A3 A4 := by
  funext y
  obtain ⟨i, j, rfl⟩ := exists_ix2 y
  have h := ref_conv A0 A1 A2 A3 A4 i j
  have h' := ref_proj A0 A1 A2 i ⟨2816 + j.val, by omega⟩
  unfold val_main_v45 val_main_v42 val_main_v41 val_main_call0_v5 val_main_call0_v4 val_main_call0_cst_0 val_main_call0_v3 val_main_call0_v2 val_main_call0_cst val_main_call0_v1 val_main_call0_v0 val_main_v14
  pointwise
  rw [h]
  unfold res_7 Ideal.logistic
  exact congrArg₂ (· * ·) rfl h'

/-- What the reference computes. -/
theorem reference_eq_8 (A0 : FVec Ideal S8192x1024 .f32) (A1 : FVec Ideal S1x1024 .f32) (A2 : FVec Ideal S1024x5632 .f32) (A3 : FVec Ideal S3x2816 .f32) (A4 : FVec Ideal S1x2816 .f32) :
    (val_main_v46 (F := Ideal) A0 A1 A2 A3 A4 : FVec Ideal S8192x2816 .bf16) = res_8 A0 A1 A2 A3 A4 := by
  funext y
  obtain ⟨i, j, rfl⟩ := exists_ix2 y
  unfold val_main_v46
  exact ref_conv A0 A1 A2 A3 A4 i j

end Cert.FfnIn

end
-- ==== Proof.SsmDhValue.lean ====
/-
  The gradient of the state-space layer's input: a block of rows of three gradients times their parts of the transposed weight,
  brought back through the normalisation and added to the residual's gradient, with the gradient of the normalisation's scale
  summed over the blocks; what the launch's arrays hold after the grid, and what the reference computes.
-/
module

public import proofs.«01_k».proof.Proof.Blocks
public import proofs.«01_k».proof.Proof.NormGrad
public import proofs.«01_k».proof.Proof.Gen.SsmDhIdeal.Value
public import proofs.«01_k».proof.Proof.Gen.SsmDhReferenceIdeal.Run
public import proofs.«01_k».proof.Proof.Gen.SsmDhReferenceIdeal.Read

@[expose] public section

set_option maxRecDepth 16384
noncomputable section
open Idealize.ShloMosaic Idealize.ShloMosaic.TcCoe Idealize.SL.Sem Cert.Blocks

namespace Cert.SsmDh

open Cert.SsmDhIdeal Cert.SsmDhIdeal.Gen

/-- The integer zero is the real zero. -/
theorem int_zero (φ : FTy) : (FloatOps.sitofp φ 0#32 : Ideal φ) = 0 := by
  show ((((0#32 : BitVec 32).toInt : ℤ) : ℝ) : EReal) = 0
  simp

/-- A row of the third gradient, followed by zeros up to a full tile. -/
def padRow (X : S8192x32.Idx → EReal) (r : Fin 8192) (e : Fin 128) : EReal := if h : e.val < 32 then X (ix2 r ⟨e.val, h⟩) else 0

/-- The weight's last columns, followed by zeros up to a full tile. -/
def padCol (X : S1024x5152.Idx → EReal) (e : Fin 128) (k : Fin 1024) : EReal := if h : e.val < 32 then X (ix2 k ⟨5120 + e.val, by omega⟩) else 0

/-- The gradient of the normalisation's input, added to the residual's. -/
def res_8 (X0 : S8192x2048.Idx → EReal) (X1 : S8192x3072.Idx → EReal) (X2 : S8192x32.Idx → EReal) (X3 : S1024x5152.Idx → EReal) (X4 : S8192x1024.Idx → EReal) (X5 : S1x1024.Idx → EReal) (X6 : S8192x1024.Idx → EReal) (y : S8192x1024.Idx) : EReal :=
  X6 (ix2 (y 0) (y 1)) + Norm.grad (fun k => X4 (ix2 (y 0) k)) (fun k => (∑ e : Fin 2048, X0 (ix2 (y 0) e) * X3 (ix2 k ⟨e.val, by omega⟩) + ∑ e : Fin 3072, X1 (ix2 (y 0) e) * X3 (ix2 k ⟨2048 + e.val, by omega⟩) + ∑ e : Fin 128, padRow X2 (y 0) e * padCol X3 e k) * X5 (ix2 0 k)) (y 1)

/-- The same in the other float type. -/
def res_9 (X0 : S8192x2048.Idx → EReal) (X1 : S8192x3072.Idx → EReal) (X2 : S8192x32.Idx → EReal) (X3 : S1024x5152.Idx → EReal) (X4 : S8192x1024.Idx → EReal) (X5 : S1x1024.Idx → EReal) (X6 : S8192x1024.Idx → EReal) (y : S8192x1024.Idx) : EReal :=
  X6 (ix2 (y 0) (y 1)) + Norm.grad (fun k => X4 (ix2 (y 0) k)) (fun k => (∑ e : Fin 2048, X0 (ix2 (y 0) e) * X3 (ix2 k ⟨e.val, by omega⟩) + ∑ e : Fin 3072, X1 (ix2 (y 0) e) * X3 (ix2 k ⟨2048 + e.val, by omega⟩) + ∑ e : Fin 128, padRow X2 (y 0) e * padCol X3 e k) * X5 (ix2 0 k)) (y 1)

/-- One row's part of the sum over the rows. -/
def row_10 (X0 : S8192x2048.Idx → EReal) (X1 : S8192x3072.Idx → EReal) (X2 : S8192x32.Idx → EReal) (X3 : S1024x5152.Idx → EReal) (X4 : S8192x1024.Idx → EReal) (X5 : S1x1024.Idx → EReal) (X6 : S8192x1024.Idx → EReal) (j : Fin 1024) (r : Fin 8192) : EReal :=
  (∑ e : Fin 2048, X0 (ix2 r e) * X3 (ix2 j ⟨e.val, by omega⟩) + ∑ e : Fin 3072, X1 (ix2 r e) * X3 (ix2 j ⟨2048 + e.val, by omega⟩) + ∑ e : Fin 128, padRow X2 r e * padCol X3 e j) * (X4 (ix2 r j) * Norm.rinv (fun k => X4 (ix2 r k)))

/-- The row's part, and nothing past the last row. -/
def part_10 (X0 : S8192x2048.Idx → EReal) (X1 : S8192x3072.Idx → EReal) (X2 : S8192x32.Idx → EReal) (X3 : S1024x5152.Idx → EReal) (X4 : S8192x1024.Idx → EReal) (X5 : S1x1024.Idx → EReal) (X6 : S8192x1024.Idx → EReal) (j : Fin 1024) (r : ℕ) : EReal := if h : r < 8192 then row_10 X0 X1 X2 X3 X4 X5 X6 j ⟨r, h⟩ else 0

/-- The gradient of the normalisation's scale. -/
def res_10 (X0 : S8192x2048.Idx → EReal) (X1 : S8192x3072.Idx → EReal) (X2 : S8192x32.Idx → EReal) (X3 : S1024x5152.Idx → EReal) (X4 : S8192x1024.Idx → EReal) (X5 : S1x1024.Idx → EReal) (X6 : S8192x1024.Idx → EReal) (y : S1x1024.Idx) : EReal := ∑ r : Fin 8192, row_10 X0 X1 X2 X3 X4 X5 X6 (y 1) r

theorem sum_10 (X0 : S8192x2048.Idx → EReal) (X1 : S8192x3072.Idx → EReal) (X2 : S8192x32.Idx → EReal) (X3 : S1024x5152.Idx → EReal) (X4 : S8192x1024.Idx → EReal) (X5 : S1x1024.Idx → EReal) (X6 : S8192x1024.Idx → EReal) (z : Fin 1) (j : Fin 1024) :
    res_10 X0 X1 X2 X3 X4 X5 X6 (ix2 z j) = ∑ r ∈ Finset.range 8192, part_10 X0 X1 X2 X3 X4 X5 X6 j r := by
  rw [Finset.sum_range]
  refine Finset.sum_congr rfl fun r _ => ?_
  unfold part_10
  rw [dif_pos r.isLt]
  rfl

theorem dh_apply (x0 : Vec Ideal S256x2048 .bf16) (x1 : Vec Ideal S256x3072 .bf16) (x2 : Vec Ideal S256x128 .bf16) (x3 : Vec Ideal S5152x1024 .bf16)
    (x4 : Vec Ideal S128x1024 .bf16) (p : Fin 256) (k : Fin 1024) : k0_pay5 (F := Ideal) (x0) (View.ld (x3) (Rect.unit ![0, 0] ![2048, 1024] inb_S5152x1024_S2048x1024_0_0)) (x1) (View.ld (x3) (Rect.unit ![2048, 0] ![3072, 1024] inb_S5152x1024_S3072x1024_2048_0)) (x2) (x4) (ix2 p k)
    = (∑ e : Fin 2048, x0 (ix2 p e) * x3 (ix2 ⟨e.val, by omega⟩ k) + ∑ e : Fin 3072, x1 (ix2 p e) * x3 (ix2 ⟨2048 + e.val, by omega⟩ k) + ∑ e : Fin 128, x2 (ix2 p e) * x4 (ix2 e k)) := by
  unfold k0_pay5
  pointwise

theorem blk_8 (x0 : Vec Ideal S256x2048 .bf16) (x1 : Vec Ideal S256x3072 .bf16) (x2 : Vec Ideal S256x128 .bf16) (x3 : Vec Ideal S5152x1024 .bf16) (x4 : Vec Ideal S128x1024 .bf16) (x5 : Vec Ideal S256x1024 .f32) (x6 : Vec Ideal S1x1024 .f32) (x7 : Vec Ideal S256x1024 .f32) (p : Fin 256) (j : Fin 1024) :
    k0_pay1 (k0_pay6 (x5)) (k0_pay7 (x5)) (k0_pay8 (x0) (View.ld (x3) (Rect.unit ![0, 0] ![2048, 1024] inb_S5152x1024_S2048x1024_0_0)) (x1) (View.ld (x3) (Rect.unit ![2048, 0] ![3072, 1024] inb_S5152x1024_S3072x1024_2048_0)) (x2) (x4) (x6)) (x7) (k0_pay9 (x0) (View.ld (x3) (Rect.unit ![0, 0] ![2048, 1024] inb_S5152x1024_S2048x1024_0_0)) (x1) (View.ld (x3) (Rect.unit ![2048, 0] ![3072, 1024] inb_S5152x1024_S3072x1024_2048_0)) (x2) (x4) (x5) (x6)) (ix2 p j) = x7 (ix2 p j) + Norm.grad (fun k => x5 (ix2 p k)) (fun k => (∑ e : Fin 2048, x0 (ix2 p e) * x3 (ix2 ⟨e.val, by omega⟩ k) + ∑ e : Fin 3072, x1 (ix2 p e) * x3 (ix2 ⟨2048 + e.val, by omega⟩ k) + ∑ e : Fin 128, x2 (ix2 p e) * x4 (ix2 e k)) * x6 (ix2 0 k)) j := by
  unfold k0_pay1 k0_pay9 k0_pay8 k0_pay7 k0_pay6
  have h := fun k => dh_apply x0 x1 x2 x3 x4 p k
  generalize k0_pay5 (F := Ideal) (x0) (View.ld (x3) (Rect.unit ![0, 0] ![2048, 1024] inb_S5152x1024_S2048x1024_0_0)) (x1) (View.ld (x3) (Rect.unit ![2048, 0] ![3072, 1024] inb_S5152x1024_S3072x1024_2048_0)) (x2) (x4) = D at h ⊢
  simp only [← h]
  pointwise
  rfl

theorem blk_9 (x0 : Vec Ideal S256x2048 .bf16) (x1 : Vec Ideal S256x3072 .bf16) (x2 : Vec Ideal S256x128 .bf16) (x3 : Vec Ideal S5152x1024 .bf16) (x4 : Vec Ideal S128x1024 .bf16) (x5 : Vec Ideal S256x1024 .f32) (x6 : Vec Ideal S1x1024 .f32) (x7 : Vec Ideal S256x1024 .f32) (p : Fin 256) (j : Fin 1024) :
    k0_pay2 (k0_pay6 (x5)) (k0_pay7 (x5)) (k0_pay8 (x0) (View.ld (x3) (Rect.unit ![0, 0] ![2048, 1024] inb_S5152x1024_S2048x1024_0_0)) (x1) (View.ld (x3) (Rect.unit ![2048, 0] ![3072, 1024] inb_S5152x1024_S3072x1024_2048_0)) (x2) (x4) (x6)) (x7) (k0_pay9 (x0) (View.ld (x3) (Rect.unit ![0, 0] ![2048, 1024] inb_S5152x1024_S2048x1024_0_0)) (x1) (View.ld (x3) (Rect.unit ![2048, 0] ![3072, 1024] inb_S5152x1024_S3072x1024_2048_0)) (x2) (x4) (x5) (x6)) (ix2 p j) = x7 (ix2 p j) + Norm.grad (fun k => x5 (ix2 p k)) (fun k => (∑ e : Fin 2048, x0 (ix2 p e) * x3 (ix2 ⟨e.val, by omega⟩ k) + ∑ e : Fin 3072, x1 (ix2 p e) * x3 (ix2 ⟨2048 + e.val, by omega⟩ k) + ∑ e : Fin 128, x2 (ix2 p e) * x4 (ix2 e k)) * x6 (ix2 0 k)) j := by
  unfold k0_pay2
  exact blk_8 x0 x1 x2 x3 x4 x5 x6 x7 p j

theorem zero_10 (z : Fin 1) (j : Fin 1024) : k0_pay3 (F := Ideal) (ix2 z j) = 0 := by
  unfold k0_pay3
  pointwise

theorem add_10 (x0 : Vec Ideal S256x2048 .bf16) (x1 : Vec Ideal S256x3072 .bf16) (x2 : Vec Ideal S256x128 .bf16) (x3 : Vec Ideal S5152x1024 .bf16) (x4 : Vec Ideal S128x1024 .bf16) (x5 : Vec Ideal S256x1024 .f32) (x6 : Vec Ideal S1x1024 .f32) (x7 : Vec Ideal S256x1024 .f32) (acc : Vec Ideal S1x1024 .f32) (z : Fin 1) (j : Fin 1024) :
    k0_pay4 (k0_pay5 (x0) (View.ld (x3) (Rect.unit ![0, 0] ![2048, 1024] inb_S5152x1024_S2048x1024_0_0)) (x1) (View.ld (x3) (Rect.unit ![2048, 0] ![3072, 1024] inb_S5152x1024_S3072x1024_2048_0)) (x2) (x4)) (k0_pay7 (x5)) acc (ix2 z j) = acc (ix2 z j) + ∑ p : Fin 256, (∑ e : Fin 2048, x0 (ix2 p e) * x3 (ix2 ⟨e.val, by omega⟩ j) + ∑ e : Fin 3072, x1 (ix2 p e) * x3 (ix2 ⟨2048 + e.val, by omega⟩ j) + ∑ e : Fin 128, x2 (ix2 p e) * x4 (ix2 e j)) * (x5 (ix2 p j) * Norm.rinv (fun k => x5 (ix2 p k))) := by
  have h := fun p => dh_apply x0 x1 x2 x3 x4 p j
  unfold k0_pay4 k0_pay7 k0_pay6
  generalize k0_pay5 (F := Ideal) (x0) (View.ld (x3) (Rect.unit ![0, 0] ![2048, 1024] inb_S5152x1024_S2048x1024_0_0)) (x1) (View.ld (x3) (Rect.unit ![2048, 0] ![3072, 1024] inb_S5152x1024_S3072x1024_2048_0)) (x2) (x4) = D at h ⊢
  simp only [← h]
  pointwise
  rfl

section
variable (m : (ℓ : Loc nD τ sig) → Buf (Elt Ideal) ℓ) (c : Dev nD)

abbrev m0 : S8192x2048.Idx → EReal := m ((c : Thread nD τ).loc main_arg0)
abbrev m1 : S8192x3072.Idx → EReal := m ((c : Thread nD τ).loc main_arg1)
abbrev m2 : S8192x32.Idx → EReal := m ((c : Thread nD τ).loc main_arg2)
abbrev m3 : S1024x5152.Idx → EReal := m ((c : Thread nD τ).loc main_arg3)
abbrev m4 : S8192x1024.Idx → EReal := m ((c : Thread nD τ).loc main_arg4)
abbrev m5 : S1x1024.Idx → EReal := m ((c : Thread nD τ).loc main_arg5)
abbrev m6 : S8192x1024.Idx → EReal := m ((c : Thread nD τ).loc main_arg6)

theorem host_0 (a : Fin 8192) (b : Fin 2048) : V m c main_v6 (ix2 a b) = m0 m c (ix2 a b) := by
  unfold V hostOps0 hostOps0_1 hostOps0_2 hostOps0_3 hostOps0_4
  simp only [List.flatten_cons, List.flatten_nil, List.cons_append, List.nil_append, List.append_nil]
  after_reads_at

theorem host_1 (a : Fin 8192) (b : Fin 3072) : V m c main_v7 (ix2 a b) = m1 m c (ix2 a b) := by
  unfold V hostOps0 hostOps0_1 hostOps0_2 hostOps0_3 hostOps0_4
  simp only [List.flatten_cons, List.flatten_nil, List.cons_append, List.nil_append, List.append_nil]
  after_reads_at

theorem host_2 (a : Fin 8192) (b : Fin 128) : V m c main_v5 (ix2 a b) = padRow (m2 m c) a b := by
  unfold V hostOps0 hostOps0_1 hostOps0_2 hostOps0_3 hostOps0_4
  simp only [List.flatten_cons, List.flatten_nil, List.cons_append, List.nil_append, List.append_nil]
  after_reads_at
  unfold padRow
  split_ifs with h
  · rfl
  · exact int_zero _

theorem host_3 (a : Fin 5152) (b : Fin 1024) : V m c main_v1 (ix2 a b) = m3 m c (ix2 b a) := by
  unfold V hostOps0 hostOps0_1 hostOps0_2 hostOps0_3 hostOps0_4
  simp only [List.flatten_cons, List.flatten_nil, List.cons_append, List.nil_append, List.append_nil]
  after_reads_at

theorem host_4 (a : Fin 128) (b : Fin 1024) : V m c main_v3 (ix2 a b) = padCol (m3 m c) a b := by
  unfold V hostOps0 hostOps0_1 hostOps0_2 hostOps0_3 hostOps0_4
  simp only [List.flatten_cons, List.flatten_nil, List.cons_append, List.nil_append, List.append_nil]
  after_reads_at
  unfold padCol
  split_ifs with h
  · rfl
  · exact int_zero _

theorem host_5 (a : Fin 8192) (b : Fin 1024) : V m c main_arg4 (ix2 a b) = m4 m c (ix2 a b) := by
  rw [V_main_arg4]

theorem host_6 (a : Fin 1) (b : Fin 1024) : V m c main_arg5 (ix2 a b) = m5 m c (ix2 a b) := by
  rw [V_main_arg5]

theorem host_7 (a : Fin 8192) (b : Fin 1024) : V m c main_arg6 (ix2 a b) = m6 m c (ix2 a b) := by
  rw [V_main_arg6]

theorem point_lt (t : Fin cfg0.N) : t.val < 32 := lt_of_lt_of_eq t.isLt (show cfg0.N = 32 from N_0)

/-- The array's row at row `p` of block `t`. -/
def rowAt (t : Fin cfg0.N) (p : Fin 256) : Fin 8192 := ⟨256 * t.val + p.val, by have := point_lt t; omega⟩

theorem exists_rowAt (i : Fin 8192) : ∃ t p, rowAt t p = i := by
  have hN : i.val / 256 < cfg0.N := by rw [show cfg0.N = 32 from N_0]; omega
  exact ⟨⟨_, hN⟩, ⟨i.val % 256, Nat.mod_lt _ (by decide)⟩, Fin.ext (Nat.div_add_mod i.val 256)⟩

def b0 (t : Fin cfg0.N) : S256x2048.Idx → EReal := iblk m c 0 t

theorem index_0 : ∀ t : Fin cfg0.N, win0_0.index t 0 * 256 = 256 * t.val ∧ win0_0.index t 1 * 2048 = 0 := by decide +kernel

theorem iblk_0 (t : Fin cfg0.N) (a : Fin 256) (b : Fin 2048) : b0 m c t (ix2 a b) = m0 m c (ix2 (rowAt t a) b) := by
  rw [← host_0]
  unfold b0 iblk
  rw [View.read_apply]
  exact congrArg (V m c main_v6) (eq_ix2_of (index_0 t) rfl rfl rfl (Nat.zero_add _))

def b1 (t : Fin cfg0.N) : S256x3072.Idx → EReal := iblk m c 1 t

theorem index_1 : ∀ t : Fin cfg0.N, win0_1.index t 0 * 256 = 256 * t.val ∧ win0_1.index t 1 * 3072 = 0 := by decide +kernel

theorem iblk_1 (t : Fin cfg0.N) (a : Fin 256) (b : Fin 3072) : b1 m c t (ix2 a b) = m1 m c (ix2 (rowAt t a) b) := by
  rw [← host_1]
  unfold b1 iblk
  rw [View.read_apply]
  exact congrArg (V m c main_v7) (eq_ix2_of (index_1 t) rfl rfl rfl (Nat.zero_add _))

def b2 (t : Fin cfg0.N) : S256x128.Idx → EReal := iblk m c 2 t

theorem index_2 : ∀ t : Fin cfg0.N, win0_2.index t 0 * 256 = 256 * t.val ∧ win0_2.index t 1 * 128 = 0 := by decide +kernel

theorem iblk_2 (t : Fin cfg0.N) (a : Fin 256) (b : Fin 128) : b2 m c t (ix2 a b) = padRow (m2 m c) (rowAt t a) b := by
  rw [← host_2]
  unfold b2 iblk
  rw [View.read_apply]
  exact congrArg (V m c main_v5) (eq_ix2_of (index_2 t) rfl rfl rfl (Nat.zero_add _))

def b3 (t : Fin cfg0.N) : S5152x1024.Idx → EReal := iblk m c 3 t

theorem index_3 : ∀ t : Fin cfg0.N, win0_3.index t 0 * 5152 = 0 ∧ win0_3.index t 1 * 1024 = 0 := by decide +kernel

theorem iblk_3 (t : Fin cfg0.N) (a : Fin 5152) (b : Fin 1024) : b3 m c t (ix2 a b) = m3 m c (ix2 b a) := by
  rw [← host_3]
  unfold b3 iblk
  rw [View.read_apply]
  exact congrArg (V m c main_v1) (eq_ix2_of (index_3 t) rfl rfl (Nat.zero_add _) (Nat.zero_add _))

def b4 (t : Fin cfg0.N) : S128x1024.Idx → EReal := iblk m c 4 t

theorem index_4 : ∀ t : Fin cfg0.N, win0_4.index t 0 * 128 = 0 ∧ win0_4.index t 1 * 1024 = 0 := by decide +kernel

theorem iblk_4 (t : Fin cfg0.N) (a : Fin 128) (b : Fin 1024) : b4 m c t (ix2 a b) = padCol (m3 m c) a b := by
  rw [← host_4]
  unfold b4 iblk
  rw [View.read_apply]
  exact congrArg (V m c main_v3) (eq_ix2_of (index_4 t) rfl rfl (Nat.zero_add _) (Nat.zero_add _))

def b5 (t : Fin cfg0.N) : S256x1024.Idx → EReal := iblk m c 5 t

theorem index_5 : ∀ t : Fin cfg0.N, win0_5.index t 0 * 256 = 256 * t.val ∧ win0_5.index t 1 * 1024 = 0 := by decide +kernel

theorem iblk_5 (t : Fin cfg0.N) (a : Fin 256) (b : Fin 1024) : b5 m c t (ix2 a b) = m4 m c (ix2 (rowAt t a) b) := by
  rw [← host_5]
  unfold b5 iblk
  rw [View.read_apply]
  exact congrArg (V m c main_arg4) (eq_ix2_of (index_5 t) rfl rfl rfl (Nat.zero_add _))

def b6 (t : Fin cfg0.N) : S1x1024.Idx → EReal := iblk m c 6 t

theorem index_6 : ∀ t : Fin cfg0.N, win0_6.index t 0 * 1 = 0 ∧ win0_6.index t 1 * 1024 = 0 := by decide +kernel

theorem iblk_6 (t : Fin cfg0.N) (a : Fin 1) (b : Fin 1024) : b6 m c t (ix2 a b) = m5 m c (ix2 a b) := by
  rw [← host_6]
  unfold b6 iblk
  rw [View.read_apply]
  exact congrArg (V m c main_arg5) (eq_ix2_of (index_6 t) rfl rfl (Nat.zero_add _) (Nat.zero_add _))

def b7 (t : Fin cfg0.N) : S256x1024.Idx → EReal := iblk m c 7 t

theorem index_7 : ∀ t : Fin cfg0.N, win0_7.index t 0 * 256 = 256 * t.val ∧ win0_7.index t 1 * 1024 = 0 := by decide +kernel

theorem iblk_7 (t : Fin cfg0.N) (a : Fin 256) (b : Fin 1024) : b7 m c t (ix2 a b) = m6 m c (ix2 (rowAt t a) b) := by
  rw [← host_7]
  unfold b7 iblk
  rw [View.read_apply]
  exact congrArg (V m c main_arg6) (eq_ix2_of (index_7 t) rfl rfl rfl (Nat.zero_add _))

/-- What a point leaves in the output buffer 8. -/
theorem left_8 (t : Fin cfg0.N) : (outsAt0 m c t.val t.isLt).1 = k0_pay1 (k0_pay6 (iblk m c 5 t)) (k0_pay7 (iblk m c 5 t)) (k0_pay8 (iblk m c 0 t) (View.ld (iblk m c 3 t) (Rect.unit ![0, 0] ![2048, 1024] inb_S5152x1024_S2048x1024_0_0)) (iblk m c 1 t) (View.ld (iblk m c 3 t) (Rect.unit ![2048, 0] ![3072, 1024] inb_S5152x1024_S3072x1024_2048_0)) (iblk m c 2 t) (iblk m c 4 t) (iblk m c 6 t)) (iblk m c 7 t) (k0_pay9 (iblk m c 0 t) (View.ld (iblk m c 3 t) (Rect.unit ![0, 0] ![2048, 1024] inb_S5152x1024_S2048x1024_0_0)) (iblk m c 1 t) (View.ld (iblk m c 3 t) (Rect.unit ![2048, 0] ![3072, 1024] inb_S5152x1024_S3072x1024_2048_0)) (iblk m c 2 t) (iblk m c 4 t) (iblk m c 5 t) (iblk m c 6 t)) := by
  by_cases h0 : t.val % 32 = 0
  · rw [outsAt0_A m c t h0]
    frame_out
    rfl
  · rw [outsAt0_B m c t h0]
    frame_out
    rfl

theorem point_8 (t : Fin cfg0.N) (p : Fin 256) (j : Fin 1024) :
    (outsAt0 m c t.val t.isLt).1 (ix2 p j) = res_8 (m0 m c) (m1 m c) (m2 m c) (m3 m c) (m4 m c) (m5 m c) (m6 m c) (ix2 (rowAt t p) j) := by
  rw [left_8 m c t]
  refine (blk_8 (b0 m c t) (b1 m c t) (b2 m c t) (b3 m c t) (b4 m c t) (b5 m c t) (b6 m c t) (b7 m c t) p j).trans ?_
  simp only [iblk_0, iblk_1, iblk_2, iblk_3, iblk_4, iblk_5, iblk_6, iblk_7]
  rfl

/-- What a point leaves in the output buffer 9. -/
theorem left_9 (t : Fin cfg0.N) : (outsAt0 m c t.val t.isLt).2.1 = k0_pay2 (k0_pay6 (iblk m c 5 t)) (k0_pay7 (iblk m c 5 t)) (k0_pay8 (iblk m c 0 t) (View.ld (iblk m c 3 t) (Rect.unit ![0, 0] ![2048, 1024] inb_S5152x1024_S2048x1024_0_0)) (iblk m c 1 t) (View.ld (iblk m c 3 t) (Rect.unit ![2048, 0] ![3072, 1024] inb_S5152x1024_S3072x1024_2048_0)) (iblk m c 2 t) (iblk m c 4 t) (iblk m c 6 t)) (iblk m c 7 t) (k0_pay9 (iblk m c 0 t) (View.ld (iblk m c 3 t) (Rect.unit ![0, 0] ![2048, 1024] inb_S5152x1024_S2048x1024_0_0)) (iblk m c 1 t) (View.ld (iblk m c 3 t) (Rect.unit ![2048, 0] ![3072, 1024] inb_S5152x1024_S3072x1024_2048_0)) (iblk m c 2 t) (iblk m c 4 t) (iblk m c 5 t) (iblk m c 6 t)) := by
  by_cases h0 : t.val % 32 = 0
  · rw [outsAt0_A m c t h0]
    frame_out
    rfl
  · rw [outsAt0_B m c t h0]
    frame_out
    rfl

theorem point_9 (t : Fin cfg0.N) (p : Fin 256) (j : Fin 1024) :
    (outsAt0 m c t.val t.isLt).2.1 (ix2 p j) = res_9 (m0 m c) (m1 m c) (m2 m c) (m3 m c) (m4 m c) (m5 m c) (m6 m c) (ix2 (rowAt t p) j) := by
  rw [left_9 m c t]
  refine (blk_9 (b0 m c t) (b1 m c t) (b2 m c t) (b3 m c t) (b4 m c t) (b5 m c t) (b6 m c t) (b7 m c t) p j).trans ?_
  simp only [iblk_0, iblk_1, iblk_2, iblk_3, iblk_4, iblk_5, iblk_6, iblk_7]
  rfl

theorem index_8 : ∀ t : Fin cfg0.N, win0_8.index t 0 * 256 = 256 * t.val ∧ win0_8.index t 1 * 1024 = 0 := by decide +kernel

theorem flush_8 : ∀ t : Fin cfg0.N, (cfg0.win 8).flush t = true := by decide +kernel

theorem emb_8 (t : Fin cfg0.N) (p : Fin 256) (j : Fin 1024) :
    ((cfg0.win 8).blk t).view.emb (ix2 p j) = (ix2 (rowAt t p) j : S8192x1024.Idx) :=
  eq_ix2_of (index_8 t) rfl rfl rfl (Nat.zero_add _)

theorem final_8 : (dats m 0 c).arrAt 8 cfg0.N = res_8 (m0 m c) (m1 m c) (m2 m c) (m3 m c) (m4 m c) (m5 m c) (m6 m c) := by
  refine (dats m 0 c).arrAt_eq_of_cover 8 (res_8 (m0 m c) (m1 m c) (m2 m c) (m3 m c) (m4 m c) (m5 m c) (m6 m c)) (fun t hf => ?_) fun y => ?_
  · rw [Cert.SsmDhIdeal.Value.flushed8]
    funext y
    obtain ⟨p, j, rfl⟩ := exists_ix2 y
    rw [View.read_apply, emb_8 t p j]
    exact point_8 m c t p j
  · obtain ⟨i, j, rfl⟩ := exists_ix2 y
    obtain ⟨t, p, rfl⟩ := exists_rowAt i
    exact ⟨t, flush_8 t, emb_8 t p j ▸ View.emb_mem_set _ _⟩

theorem index_9 : ∀ t : Fin cfg0.N, win0_9.index t 0 * 256 = 256 * t.val ∧ win0_9.index t 1 * 1024 = 0 := by decide +kernel

theorem flush_9 : ∀ t : Fin cfg0.N, (cfg0.win 9).flush t = true := by decide +kernel

theorem emb_9 (t : Fin cfg0.N) (p : Fin 256) (j : Fin 1024) :
    ((cfg0.win 9).blk t).view.emb (ix2 p j) = (ix2 (rowAt t p) j : S8192x1024.Idx) :=
  eq_ix2_of (index_9 t) rfl rfl rfl (Nat.zero_add _)

theorem final_9 : (dats m 0 c).arrAt 9 cfg0.N = res_9 (m0 m c) (m1 m c) (m2 m c) (m3 m c) (m4 m c) (m5 m c) (m6 m c) := by
  refine (dats m 0 c).arrAt_eq_of_cover 9 (res_9 (m0 m c) (m1 m c) (m2 m c) (m3 m c) (m4 m c) (m5 m c) (m6 m c)) (fun t hf => ?_) fun y => ?_
  · rw [Cert.SsmDhIdeal.Value.flushed9]
    funext y
    obtain ⟨p, j, rfl⟩ := exists_ix2 y
    rw [View.read_apply, emb_9 t p j]
    exact point_9 m c t p j
  · obtain ⟨i, j, rfl⟩ := exists_ix2 y
    obtain ⟨t, p, rfl⟩ := exists_rowAt i
    exact ⟨t, flush_9 t, emb_9 t p j ▸ View.emb_mem_set _ _⟩

theorem kept_A_10 (t : Fin cfg0.N) (h0 : t.val % 32 = 0) :
    (outsAt0 m c t.val t.isLt).2.2 = k0_pay4 (k0_pay5 (iblk m c 0 t) (View.ld (iblk m c 3 t) (Rect.unit ![0, 0] ![2048, 1024] inb_S5152x1024_S2048x1024_0_0)) (iblk m c 1 t) (View.ld (iblk m c 3 t) (Rect.unit ![2048, 0] ![3072, 1024] inb_S5152x1024_S3072x1024_2048_0)) (iblk m c 2 t) (iblk m c 4 t)) (k0_pay7 (iblk m c 5 t)) (k0_pay3 (F := Ideal)) := by
  rw [outsAt0_A m c t h0]
  frame_out
  rfl

theorem kept_B_10 (t : Fin cfg0.N) (h0 : ¬t.val % 32 = 0) :
    (outsAt0 m c t.val t.isLt).2.2 = k0_pay4 (k0_pay5 (iblk m c 0 t) (View.ld (iblk m c 3 t) (Rect.unit ![0, 0] ![2048, 1024] inb_S5152x1024_S2048x1024_0_0)) (iblk m c 1 t) (View.ld (iblk m c 3 t) (Rect.unit ![2048, 0] ![3072, 1024] inb_S5152x1024_S3072x1024_2048_0)) (iblk m c 2 t) (iblk m c 4 t)) (k0_pay7 (iblk m c 5 t)) (outsAt0 m c (t.val - 1) (Nat.lt_of_le_of_lt (Nat.sub_le _ _) t.isLt)).2.2 := by
  rw [outsAt0_B m c t h0]
  frame_out
  rfl

theorem rows_10 (t : Fin cfg0.N) (j : Fin 1024) :
    (∑ p : Fin 256, (∑ e : Fin 2048, b0 m c t (ix2 p e) * b3 m c t (ix2 ⟨e.val, by omega⟩ j) + ∑ e : Fin 3072, b1 m c t (ix2 p e) * b3 m c t (ix2 ⟨2048 + e.val, by omega⟩ j) + ∑ e : Fin 128, b2 m c t (ix2 p e) * b4 m c t (ix2 e j)) * (b5 m c t (ix2 p j) * Norm.rinv (fun k => b5 m c t (ix2 p k)))) = ∑ k ∈ Finset.range 256, part_10 (m0 m c) (m1 m c) (m2 m c) (m3 m c) (m4 m c) (m5 m c) (m6 m c) j (256 * t.val + k) := by
  rw [Finset.sum_range]
  refine Finset.sum_congr rfl fun p _ => ?_
  have hr : 256 * t.val + p.val < 8192 := by have := point_lt t; omega
  unfold part_10
  rw [dif_pos hr]
  simp only [iblk_0, iblk_1, iblk_2, iblk_3, iblk_4, iblk_5, iblk_6, iblk_7]
  rfl

/-- The accumulated output holds the sum over the rows met so far. -/
theorem acc_10 (n : ℕ) : ∀ (hn : n < cfg0.N) (z : Fin 1) (j : Fin 1024),
    (outsAt0 m c n hn).2.2 (ix2 z j) = ∑ r ∈ Finset.range (256 * (n + 1)), part_10 (m0 m c) (m1 m c) (m2 m c) (m3 m c) (m4 m c) (m5 m c) (m6 m c) j r := by
  have step : ∀ (t : Fin cfg0.N) (z : Fin 1) (j : Fin 1024) (acc : Vec Ideal S1x1024 .f32),
      acc (ix2 z j) = ∑ r ∈ Finset.range (256 * t.val), part_10 (m0 m c) (m1 m c) (m2 m c) (m3 m c) (m4 m c) (m5 m c) (m6 m c) j r →
      k0_pay4 (k0_pay5 (iblk m c 0 t) (View.ld (iblk m c 3 t) (Rect.unit ![0, 0] ![2048, 1024] inb_S5152x1024_S2048x1024_0_0)) (iblk m c 1 t) (View.ld (iblk m c 3 t) (Rect.unit ![2048, 0] ![3072, 1024] inb_S5152x1024_S3072x1024_2048_0)) (iblk m c 2 t) (iblk m c 4 t)) (k0_pay7 (iblk m c 5 t)) acc (ix2 z j) = ∑ r ∈ Finset.range (256 * (t.val + 1)), part_10 (m0 m c) (m1 m c) (m2 m c) (m3 m c) (m4 m c) (m5 m c) (m6 m c) j r := by
    intro t z j acc ha
    refine (add_10 (b0 m c t) (b1 m c t) (b2 m c t) (b3 m c t) (b4 m c t) (b5 m c t) (b6 m c t) (b7 m c t) acc z j).trans ?_
    rw [ha, rows_10 m c t j, Nat.mul_succ, Finset.sum_range_add]
  induction n with
  | zero =>
    intro hn z j
    exact (congrFun (kept_A_10 m c ⟨0, hn⟩ rfl) _).trans (step ⟨0, hn⟩ z j _ (zero_10 z j))
  | succ n ih =>
    intro hn z j
    have hN := point_lt ⟨n + 1, hn⟩
    exact (congrFun (kept_B_10 m c ⟨n + 1, hn⟩ (by show ¬(n + 1) % 32 = 0; dsimp only at hN; omega)) _).trans
      (step ⟨n + 1, hn⟩ z j _ (ih (Nat.lt_of_succ_lt hn) z j))

theorem index_10 : ∀ t : Fin cfg0.N, win0_10.index t 0 = 0 ∧ win0_10.index t 1 = 0 := by decide +kernel

theorem emb_10 (t : Fin cfg0.N) (z : Fin 1) (j : Fin 1024) :
    ((cfg0.win 10).blk t).view.emb (ix2 z j) = (ix2 z j : S1x1024.Idx) := by
  have hi := index_10 t
  refine funext fun a => Fin.ext ?_
  match a with
  | ⟨0, _⟩ => show win0_10.index t 0 * 1 + 1 * z.val = z.val; rw [hi.1]; omega
  | ⟨1, _⟩ => show win0_10.index t 1 * 1024 + 1 * j.val = j.val; rw [hi.2]; omega

theorem mem_10 (t : Fin cfg0.N) (z : Fin 1) (j : Fin 1024) : (ix2 z j : S1x1024.Idx) ∈ ((cfg0.win 10).blk t).view.set := by
  rw [← emb_10 t z j]
  exact View.emb_mem_set _ _

theorem final_10 : (dats m 0 c).arrAt 10 cfg0.N = res_10 (m0 m c) (m1 m c) (m2 m c) (m3 m c) (m4 m c) (m5 m c) (m6 m c) := by
  refine (dats m 0 c).arrAt_eq_of_cover 10 (res_10 (m0 m c) (m1 m c) (m2 m c) (m3 m c) (m4 m c) (m5 m c) (m6 m c)) (fun t hf => ?_) fun y => ?_
  · rw [Cert.SsmDhIdeal.Value.flushed10]
    funext y
    obtain ⟨z, j, rfl⟩ := exists_ix2 y
    rw [View.read_apply, emb_10 t z j, sum_10]
    refine (acc_10 m c t.val t.isLt z j).trans ?_
    have ht := (flush0_10 t).mp hf
    have hN := point_lt t
    rw [show 256 * (t.val + 1) = 8192 by omega]
    rfl
  · obtain ⟨z, j, rfl⟩ := exists_ix2 y
    obtain ⟨t, ht⟩ : ∃ t : Fin cfg0.N, t.val = 31 := ⟨⟨31, by rw [show cfg0.N = 32 from N_0]; decide⟩, rfl⟩
    exact ⟨t, (flush0_10 t).mpr (by rw [ht]), mem_10 t z j⟩

theorem kernel_run (ρ : Dev nD → PrngReg) : θ_run defs (onTc (τ := τ) (main (F := Ideal))) ⟨m, fun _ => 0, ρ⟩ fun r => ∀ c : Dev nD,
      r.2.mem ((c : Thread nD τ).loc main_v8_0) = res_8 (m0 m c) (m1 m c) (m2 m c) (m3 m c) (m4 m c) (m5 m c) (m6 m c)
      ∧ r.2.mem ((c : Thread nD τ).loc main_v8_1) = res_9 (m0 m c) (m1 m c) (m2 m c) (m3 m c) (m4 m c) (m5 m c) (m6 m c)
      ∧ r.2.mem ((c : Thread nD τ).loc main_v8_2) = res_10 (m0 m c) (m1 m c) (m2 m c) (m3 m c) (m4 m c) (m5 m c) (m6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final_8 m c), ((h c).2).1.trans (final_9 m c), ((h c).2.2).1.trans (final_10 m c), (h c).2.2.2⟩) (Cert.SsmDhIdeal.Value.run_blocks m ρ)
end

end Cert.SsmDh

namespace Cert.SsmDh

open Cert.SsmDhReferenceIdeal Cert.SsmDhReferenceIdeal.Gen Cert.SsmDhReferenceIdeal.Read

theorem sum_pad (f : Fin 32 → EReal) : ∑ e : Fin 128, (if h : e.val < 32 then f ⟨e.val, h⟩ else 0) = ∑ e : Fin 32, f e := by
  refine (Fin.sum_univ_add (a := 32) (b := 96) fun e : Fin 128 => if h : e.val < 32 then f ⟨e.val, h⟩ else 0).trans ?_
  have h0 : ∑ e : Fin 96, (if h : (Fin.natAdd 32 e).val < 32 then f ⟨(Fin.natAdd 32 e).val, h⟩ else 0) = 0 :=
    Finset.sum_eq_zero fun e _ => dif_neg (by show ¬32 + e.val < 32; omega)
  rw [h0, add_zero]
  exact Finset.sum_congr rfl fun e _ => dif_pos e.isLt

theorem sum_split (f : Fin 5152 → EReal) : ∑ e, f e
    = ∑ e : Fin 2048, f ⟨e.val, by omega⟩ + ∑ e : Fin 3072, f ⟨2048 + e.val, by omega⟩ + ∑ e : Fin 32, f ⟨5120 + e.val, by omega⟩ := by
  refine (Fin.sum_univ_add (a := 5120) (b := 32) f).trans (congrArg (· + _) ?_)
  exact Fin.sum_univ_add (a := 2048) (b := 3072) fun e : Fin 5120 => f ⟨e.val, by omega⟩

theorem pad_mul (X : S8192x32.Idx → EReal) (Y : S1024x5152.Idx → EReal) (r : Fin 8192) (k : Fin 1024) :
    ∑ e : Fin 128, padRow X r e * padCol Y e k = ∑ e : Fin 32, X (ix2 r e) * Y (ix2 k ⟨5120 + e.val, by omega⟩) := by
  rw [← sum_pad]
  refine Finset.sum_congr rfl fun e _ => ?_
  unfold padRow padCol
  split_ifs with h
  · rfl
  · exact zero_mul _

theorem ref_dh (A0 : FVec Ideal S8192x2048 .f32) (A1 : FVec Ideal S8192x3072 .f32) (A2 : FVec Ideal S8192x32 .f32) (A3 : FVec Ideal S1024x5152 .f32) (i : Fin 8192) (k : Fin 1024) :
    (val_main_v20 (F := Ideal) A0 A1 A2 A3 : S8192x1024.Idx → EReal) (ix2 i k) = (∑ e : Fin 2048, A0 (ix2 i e) * A3 (ix2 k ⟨e.val, by omega⟩) + ∑ e : Fin 3072, A1 (ix2 i e) * A3 (ix2 k ⟨2048 + e.val, by omega⟩) + ∑ e : Fin 128, padRow A2 i e * padCol A3 e k) := by
  rw [pad_mul]
  unfold val_main_v20 val_main_v19
  pointwise
  refine (sum_split _).trans (congrArg₂ (· + ·) (congrArg₂ (· + ·) (Finset.sum_congr rfl fun e _ => ?_) (Finset.sum_congr rfl fun e _ => ?_)) (Finset.sum_congr rfl fun e _ => ?_))
  · simp
  · simp
  · rw [dif_neg (by show ¬5120 + e.val < 2048; omega), dif_neg (by show ¬5120 + e.val - 2048 < 3072; omega)]
    exact congrArg (fun a => A2 (ix2 i a) * A3 (ix2 k ⟨5120 + e.val, by omega⟩)) (Fin.ext (by show 5120 + e.val - 2048 - 3072 = e.val; omega))

theorem ref_row (A0 : FVec Ideal S8192x2048 .f32) (A1 : FVec Ideal S8192x3072 .f32) (A2 : FVec Ideal S8192x32 .f32) (A3 : FVec Ideal S1024x5152 .f32) (A4 : FVec Ideal S8192x1024 .f32)
    (A5 : FVec Ideal S1x1024 .f32) (A6 : FVec Ideal S8192x1024 .f32) (i : Fin 8192) (j : Fin 1024) :
    val_main_v40 (F := Ideal) A0 A1 A2 A3 A4 A5 A6 (ix2 i j) = A6 (ix2 i j) + Norm.grad (fun k => A4 (ix2 i k)) (fun k => (∑ e : Fin 2048, A0 (ix2 i e) * A3 (ix2 k ⟨e.val, by omega⟩) + ∑ e : Fin 3072, A1 (ix2 i e) * A3 (ix2 k ⟨2048 + e.val, by omega⟩) + ∑ e : Fin 128, padRow A2 i e * padCol A3 e k) * A5 (ix2 0 k)) j := by
  have h := fun k => ref_dh A0 A1 A2 A3 i k
  unfold val_main_v40 val_main_v39 val_main_v38 val_main_v37 val_main_v36 val_main_v35 val_main_v34 val_main_v33 val_main_v32 val_main_v31 val_main_v30 val_main_v29 val_main_v28 val_main_v27 val_main_v26 val_main_v25 val_main_v24 val_main_v10 val_main_v9 val_main_v8 val_main_v7 val_main_v6 val_main_v5 val_main_v4 val_main_v3 val_main_v2 val_main_v1 val_main_v0 val_main_cst val_main_cst_0 val_main_cst_1 val_main_cst_2 val_main_cst_4 val_main_cst_5 val_main_cst_6
  generalize val_main_v20 (F := Ideal) A0 A1 A2 A3 = D at h ⊢
  simp only [← h]
  pointwise
  simp only [Fintype.sum_subsingleton _ (0 : Fin 1)]
  exact Norm.grad_eq (fun k => A4 (ix2 i k)) (fun k => D (ix2 i k) * A5 (ix2 0 k)) j _

/-- What the reference computes. -/
theorem reference_eq_8 (A0 : FVec Ideal S8192x2048 .f32) (A1 : FVec Ideal S8192x3072 .f32) (A2 : FVec Ideal S8192x32 .f32) (A3 : FVec Ideal S1024x5152 .f32) (A4 : FVec Ideal S8192x1024 .f32) (A5 : FVec Ideal S1x1024 .f32) (A6 : FVec Ideal S8192x1024 .f32) :
    (val_main_v40 (F := Ideal) A0 A1 A2 A3 A4 A5 A6 : FVec Ideal S8192x1024 .f32) = res_8 A0 A1 A2 A3 A4 A5 A6 := by
  funext y
  obtain ⟨i, j, rfl⟩ := exists_ix2 y
  exact ref_row A0 A1 A2 A3 A4 A5 A6 i j

/-- What the reference computes. -/
theorem reference_eq_9 (A0 : FVec Ideal S8192x2048 .f32) (A1 : FVec Ideal S8192x3072 .f32) (A2 : FVec Ideal S8192x32 .f32) (A3 : FVec Ideal S1024x5152 .f32) (A4 : FVec Ideal S8192x1024 .f32) (A5 : FVec Ideal S1x1024 .f32) (A6 : FVec Ideal S8192x1024 .f32) :
    (val_main_v41 (F := Ideal) A0 A1 A2 A3 A4 A5 A6 : FVec Ideal S8192x1024 .bf16) = res_9 A0 A1 A2 A3 A4 A5 A6 := by
  funext y
  obtain ⟨i, j, rfl⟩ := exists_ix2 y
  unfold val_main_v41
  exact ref_row A0 A1 A2 A3 A4 A5 A6 i j

/-- What the reference computes. -/
theorem reference_eq_10 (A0 : FVec Ideal S8192x2048 .f32) (A1 : FVec Ideal S8192x3072 .f32) (A2 : FVec Ideal S8192x32 .f32) (A3 : FVec Ideal S1024x5152 .f32) (A4 : FVec Ideal S8192x1024 .f32) (A5 : FVec Ideal S1x1024 .f32) (A6 : FVec Ideal S8192x1024 .f32) :
    (val_main_v23 (F := Ideal) A0 A1 A2 A3 A4 : FVec Ideal S1x1024 .f32) = res_10 A0 A1 A2 A3 A4 A5 A6 := by
  funext y
  obtain ⟨i, j, rfl⟩ := exists_ix2 y
  have h := fun r => ref_dh A0 A1 A2 A3 r j
  unfold val_main_v23 val_main_v22 val_main_v21 val_main_v12 val_main_v11 val_main_v7 val_main_v6 val_main_v5 val_main_v4 val_main_v3 val_main_v2 val_main_v1 val_main_v0 val_main_cst val_main_cst_0 val_main_cst_1 val_main_cst_3
  generalize val_main_v20 (F := Ideal) A0 A1 A2 A3 = D at h ⊢
  pointwise
  exact Finset.sum_congr rfl fun r _ => (mul_comm _ _).trans (congrArg (· * _) (h r))

end Cert.SsmDh

end
-- ==== Proof.SsmInBlock.lean ====
/-
  The state-space layer's input, block by block: the normalised and projected rows, the convolution over the rows carried from the
  block before, and its activation.
-/
module

public import proofs.«01_k».proof.Proof.Blocks
public import proofs.«01_k».proof.Proof.Norm
public import proofs.«01_k».proof.Proof.Gen.SsmInIdeal.Value
public import proofs.«01_k».proof.Proof.Gen.SsmInReferenceIdeal.Run
public import proofs.«01_k».proof.Proof.Gen.SsmInReferenceIdeal.Read

@[expose] public section

set_option maxRecDepth 16384
noncomputable section
open Idealize.ShloMosaic Idealize.ShloMosaic.TcCoe Idealize.SL.Sem Cert.Blocks

namespace Cert.SsmIn

open Cert.SsmInIdeal Cert.SsmInIdeal.Gen

/-- The integer zero is the real zero. -/
theorem int_zero (φ : FTy) : (FloatOps.sitofp φ 0#32 : Ideal φ) = 0 := by
  show ((((0#32 : BitVec 32).toInt : ℤ) : ℝ) : EReal) = 0
  simp

/-- The maximum with zero plus the logarithm of one plus the exponential of minus the magnitude. -/
def softplus (x : EReal) : EReal := max x 0 + Ideal.log (1 + Ideal.exp (0 - FloatOps.absf (F := Ideal) (φ := .f32) x))

/-- The weight's last columns, followed by zeros up to a full tile. -/
def padCol (X : S1024x5152.Idx → EReal) (e : Fin 128) (k : Fin 1024) : EReal := if h : e.val < 32 then X (ix2 k ⟨5120 + e.val, by omega⟩) else 0

/-- The bias of the steps, followed by zeros up to a full tile. -/
def padVec (X : S32.Idx → EReal) (e : Fin 128) : EReal := if h : e.val < 32 then X (ix1 ⟨e.val, h⟩) else 0

/-- The normalised rows. -/
def norm (X0 : S8192x1024.Idx → EReal) (X1 : S1x1024.Idx → EReal) (r : Fin 8192) (k : Fin 1024) : EReal := Norm.normed (fun k => X0 (ix2 r k)) (fun k => X1 (ix2 0 k)) k

/-- The normalised rows times the weight. -/
def proj (X0 : S8192x1024.Idx → EReal) (X1 : S1x1024.Idx → EReal) (X2 : S1024x5152.Idx → EReal) (r : Fin 8192) (j : Fin 5152) : EReal := ∑ k : Fin 1024, norm X0 X1 r k * X2 (ix2 k j)

/-- The part that is convolved, after eight rows of zeros. -/
def past (X0 : S8192x1024.Idx → EReal) (X1 : S1x1024.Idx → EReal) (X2 : S1024x5152.Idx → EReal) (s : ℕ) (j : Fin 3072) : EReal :=
  if s < 8 then 0 else if h : s - 8 < 8192 then proj X0 X1 X2 ⟨s - 8, h⟩ ⟨2048 + j.val, by omega⟩ else 0

/-- The causal convolution of width four. -/
def conv (X0 : S8192x1024.Idx → EReal) (X1 : S1x1024.Idx → EReal) (X2 : S1024x5152.Idx → EReal) (X3 : S4x3072.Idx → EReal) (X4 : S1x3072.Idx → EReal) (r : Fin 8192) (j : Fin 3072) : EReal :=
  X4 (ix2 0 j) + proj X0 X1 X2 r ⟨2048 + j.val, by omega⟩ * X3 (ix2 3 j) + past X0 X1 X2 (r.val + 7) j * X3 (ix2 2 j)
    + past X0 X1 X2 (r.val + 6) j * X3 (ix2 1 j) + past X0 X1 X2 (r.val + 5) j * X3 (ix2 0 j)

/-- The projection's two wide parts. -/
def res_7 (X0 : S8192x1024.Idx → EReal) (X1 : S1x1024.Idx → EReal) (X2 : S1024x5152.Idx → EReal) (X3 : S4x3072.Idx → EReal) (X4 : S1x3072.Idx → EReal) (X5 : S32.Idx → EReal) (y : S8192x5120.Idx) : EReal := proj X0 X1 X2 (y 0) ⟨(y 1).val, by have : (y 1).val < 5120 := (y 1).isLt; omega⟩

/-- The normalised rows. -/
def res_8 (X0 : S8192x1024.Idx → EReal) (X1 : S1x1024.Idx → EReal) (X2 : S1024x5152.Idx → EReal) (X3 : S4x3072.Idx → EReal) (X4 : S1x3072.Idx → EReal) (X5 : S32.Idx → EReal) (y : S8192x1024.Idx) : EReal := norm X0 X1 (y 0) (y 1)

/-- The activated convolution. -/
def res_9 (X0 : S8192x1024.Idx → EReal) (X1 : S1x1024.Idx → EReal) (X2 : S1024x5152.Idx → EReal) (X3 : S4x3072.Idx → EReal) (X4 : S1x3072.Idx → EReal) (X5 : S32.Idx → EReal) (y : S8192x3072.Idx) : EReal := conv X0 X1 X2 X3 X4 (y 0) (y 1) * Ideal.logistic (conv X0 X1 X2 X3 X4 (y 0) (y 1))

/-- The convolution. -/
def res_10 (X0 : S8192x1024.Idx → EReal) (X1 : S1x1024.Idx → EReal) (X2 : S1024x5152.Idx → EReal) (X3 : S4x3072.Idx → EReal) (X4 : S1x3072.Idx → EReal) (X5 : S32.Idx → EReal) (y : S8192x3072.Idx) : EReal := conv X0 X1 X2 X3 X4 (y 0) (y 1)

/-- The steps before the activation, followed by zeros. -/
def res_11 (X0 : S8192x1024.Idx → EReal) (X1 : S1x1024.Idx → EReal) (X2 : S1024x5152.Idx → EReal) (X3 : S4x3072.Idx → EReal) (X4 : S1x3072.Idx → EReal) (X5 : S32.Idx → EReal) (y : S8192x128.Idx) : EReal := if h : (y 1).val < 32 then proj X0 X1 X2 (y 0) ⟨5120 + (y 1).val, by omega⟩ else 0

/-- The steps, followed by zeros. -/
def res_12 (X0 : S8192x1024.Idx → EReal) (X1 : S1x1024.Idx → EReal) (X2 : S1024x5152.Idx → EReal) (X3 : S4x3072.Idx → EReal) (X4 : S1x3072.Idx → EReal) (X5 : S32.Idx → EReal) (y : S8192x128.Idx) : EReal :=
  if h : (y 1).val < 32 then softplus (proj X0 X1 X2 (y 0) ⟨5120 + (y 1).val, by omega⟩ + X5 (ix1 ⟨(y 1).val, h⟩)) else 0

/-- A block of rows with the eight rows before it. -/
def ext {n : ℕ} (H : (⟨2, ![8, n]⟩ : Shape).Idx → EReal) (G : Fin 256 → Fin n → EReal) (q : ℕ) (j : Fin n) : EReal :=
  if h : q < 8 then H (ix2 ⟨q, h⟩ j) else if h' : q - 8 < 256 then G ⟨q - 8, h'⟩ j else 0

/-- The sum of the row before the convolution's taps: the row itself and the three rows before it. -/
def taps {n : ℕ} (H : (⟨2, ![8, n]⟩ : Shape).Idx → EReal) (G : Fin 256 → Fin n → EReal) (b w3 w2 w1 w0 : EReal) (p : Fin 256) (j : Fin n) : EReal :=
  b + G p j * w3 + ext H G (p.val + 7) j * w2 + ext H G (p.val + 6) j * w1 + ext H G (p.val + 5) j * w0

theorem lane_lt : ∀ j : Fin 128, IntOp.cmpi CmpIPredicate.slt (BitVec.ofNat 32 j.val) 32#32 = if j.val < 32 then 1#1 else 0#1 := by decide +kernel

theorem pay3_apply (q : Fin 8) (j : Fin 3072) : k0_pay3 (F := Ideal) (ix2 q j) = 0 := by
  unfold k0_pay3
  pointwise

section
variable (v3 : Vec Ideal S256x1024 .f32) (v14 : Vec Ideal S1x1024 .f32) (v19 : Vec Ideal S128x1024 .bf16) (v23 : Vec Ideal S1x128 .f32)

theorem pay4_apply (p : Fin 256) (k : Fin 1024) :
    k0_pay4 (F := Ideal) v3 v14 (ix2 p k) = Norm.normed (fun k => v3 (ix2 p k)) (fun k => v14 (ix2 0 k)) k := by
  unfold k0_pay4
  pointwise
  rfl

theorem pay5_apply (p : Fin 256) (j : Fin 128) : k0_pay5 (F := Ideal) v3 v14 v19 (ix2 p j)
    = ∑ k : Fin 1024, Norm.normed (fun k => v3 (ix2 p k)) (fun k => v14 (ix2 0 k)) k * v19 (ix2 j k) := by
  unfold k0_pay5
  pointwise
  exact Finset.sum_congr rfl fun k _ => congrArg (· * _) (pay4_apply v3 v14 p k)

theorem pay9_apply (p : Fin 256) (j : Fin 128) : k0_pay9 (F := Ideal) (k0_pay7 (F := Ideal) v3 v14 v19 v23) (k0_pay8 (F := Ideal) v3 v14 v19 v23) (ix2 p j)
    = if j.val < 32 then softplus (k0_pay5 (F := Ideal) v3 v14 v19 (ix2 p j) + v23 (ix2 0 j)) else 0 := by
  unfold k0_pay9 k0_pay8 k0_pay7 k0_pay6
  generalize k0_pay5 (F := Ideal) v3 v14 v19 = D
  pointwise
  rw [lane_lt]
  by_cases h : j.val < 32
  · simp only [h, if_true]
    rfl
  · simp only [h, if_false]
    rfl

end

section
variable (v17 : FVec Ideal S256x1024 .bf16) (v45 : Vec Ideal S1024x1024 .bf16) (H : Vec Ideal S8x1024 .f32) (v98 v141 : FVec Ideal S256x1024 .f32)
  (c b w3 w2 w1 w0 : Vec Ideal S1x1024 .f32)

theorem pay10_apply (p : Fin 256) (j : Fin 1024) : k0_pay10 (F := Ideal) v17 v45 (ix2 p j) = ∑ k : Fin 1024, v17 (ix2 p k) * v45 (ix2 j k) := by
  unfold k0_pay10
  pointwise

theorem pay11_apply (p : Fin 256) (j : Fin 1024) : k0_pay11 (F := Ideal) v17 v45 (ix2 p j) = ∑ k : Fin 1024, v17 (ix2 p k) * v45 (ix2 j k) := by
  unfold k0_pay11
  pointwise

theorem pay12_apply (p : Fin 256) (j : Fin 1024) : k0_pay12 (F := Ideal) v17 v45 (ix2 p j) = ∑ k : Fin 1024, v17 (ix2 p k) * v45 (ix2 j k) := by
  unfold k0_pay12
  pointwise

theorem pay19_apply (p : Fin 256) (j : Fin 1024) : k0_pay19 (F := Ideal) v17 v45 (ix2 p j) = ∑ k : Fin 1024, v17 (ix2 p k) * v45 (ix2 j k) := by
  unfold k0_pay19
  pointwise

theorem pay24_apply (p : Fin 256) (j : Fin 1024) : k0_pay24 (F := Ideal) v17 v45 (ix2 p j) = ∑ k : Fin 1024, v17 (ix2 p k) * v45 (ix2 j k) := by
  unfold k0_pay24
  pointwise

theorem pay18_apply (q : Fin 8) (j : Fin 1024) : k0_pay18 (F := Ideal) v98 (ix2 q j) = v98 (ix2 ⟨248 + q.val, by omega⟩ j) := by
  unfold k0_pay18
  pointwise

theorem pay23_apply (q : Fin 8) (j : Fin 1024) : k0_pay23 (F := Ideal) v98 (ix2 q j) = v98 (ix2 ⟨248 + q.val, by omega⟩ j) := by
  unfold k0_pay23
  pointwise

theorem pay2_apply (q : Fin 8) (j : Fin 1024) : k0_pay2 (F := Ideal) v98 (ix2 q j) = v98 (ix2 ⟨248 + q.val, by omega⟩ j) := by
  unfold k0_pay2
  pointwise

theorem pay15_apply (p : Fin 256) (j : Fin 1024) : k0_pay15 (F := Ideal) (k0_pay13 (F := Ideal) v17 v45 H) (k0_pay14 (F := Ideal) v17 v45 b w3) w2 w1 w0 (ix2 p j)
    = taps H (fun p j => k0_pay12 (F := Ideal) v17 v45 (ix2 p j)) (b (ix2 0 j)) (w3 (ix2 0 j)) (w2 (ix2 0 j)) (w1 (ix2 0 j)) (w0 (ix2 0 j)) p j := by
  unfold k0_pay15 k0_pay14 k0_pay13 taps ext
  generalize k0_pay12 (F := Ideal) v17 v45 = D
  pointwise
  have e1 : (8 + p.val + 264 - 1) % 264 = p.val + 7 := by omega
  have e2 : (8 + p.val + 264 - 2) % 264 = p.val + 6 := by omega
  have e3 : (8 + p.val + 264 - 3) % 264 = p.val + 5 := by omega
  have h1 : p.val + 7 - 8 < 256 := by omega
  have h2 : p.val + 6 - 8 < 256 := by omega
  have h3 : p.val + 5 - 8 < 256 := by omega
  simp only [e1, e2, e3, h1, h2, h3, dite_true]

theorem pay20_apply (p : Fin 256) (j : Fin 1024) : k0_pay20 (F := Ideal) v98 H b w3 w2 w1 w0 (ix2 p j)
    = taps H (fun p j => v98 (ix2 p j)) (b (ix2 0 j)) (w3 (ix2 0 j)) (w2 (ix2 0 j)) (w1 (ix2 0 j)) (w0 (ix2 0 j)) p j := by
  unfold k0_pay20 taps ext
  pointwise
  have e1 : (8 + p.val + 264 - 1) % 264 = p.val + 7 := by omega
  have e2 : (8 + p.val + 264 - 2) % 264 = p.val + 6 := by omega
  have e3 : (8 + p.val + 264 - 3) % 264 = p.val + 5 := by omega
  have h1 : p.val + 7 - 8 < 256 := by omega
  have h2 : p.val + 6 - 8 < 256 := by omega
  have h3 : p.val + 5 - 8 < 256 := by omega
  simp only [e1, e2, e3, h1, h2, h3, dite_true]

theorem pay25_apply (p : Fin 256) (j : Fin 1024) : k0_pay25 (F := Ideal) v17 v45 H b w3 w2 w1 w0 (ix2 p j)
    = taps H (fun p j => k0_pay24 (F := Ideal) v17 v45 (ix2 p j)) (b (ix2 0 j)) (w3 (ix2 0 j)) (w2 (ix2 0 j)) (w1 (ix2 0 j)) (w0 (ix2 0 j)) p j := by
  unfold k0_pay25 taps ext
  generalize k0_pay24 (F := Ideal) v17 v45 = D
  pointwise
  have e1 : (8 + p.val + 264 - 1) % 264 = p.val + 7 := by omega
  have e2 : (8 + p.val + 264 - 2) % 264 = p.val + 6 := by omega
  have e3 : (8 + p.val + 264 - 3) % 264 = p.val + 5 := by omega
  have h1 : p.val + 7 - 8 < 256 := by omega
  have h2 : p.val + 6 - 8 < 256 := by omega
  have h3 : p.val + 5 - 8 < 256 := by omega
  simp only [e1, e2, e3, h1, h2, h3, dite_true]

theorem pay16_apply (v131 : FVec Ideal S264x1024 .f32) (v65 : FVec Ideal S256x1024 .f32) (p : Fin 256) (j : Fin 1024) : k0_pay16 (F := Ideal) v131 v65 w2 w1 w0 (ix2 p j)
    = k0_pay15 (F := Ideal) v131 v65 w2 w1 w0 (ix2 p j) * Ideal.logistic (k0_pay15 (F := Ideal) v131 v65 w2 w1 w0 (ix2 p j)) := by
  unfold k0_pay16
  pointwise

theorem pay21_apply (p : Fin 256) (j : Fin 1024) : k0_pay21 (F := Ideal) v98 H b w3 w2 w1 w0 (ix2 p j)
    = k0_pay20 (F := Ideal) v98 H b w3 w2 w1 w0 (ix2 p j) * Ideal.logistic (k0_pay20 (F := Ideal) v98 H b w3 w2 w1 w0 (ix2 p j)) := by
  unfold k0_pay21
  pointwise

theorem pay26_apply (p : Fin 256) (j : Fin 1024) : k0_pay26 (F := Ideal) v17 v45 H b w3 w2 w1 w0 (ix2 p j)
    = k0_pay25 (F := Ideal) v17 v45 H b w3 w2 w1 w0 (ix2 p j) * Ideal.logistic (k0_pay25 (F := Ideal) v17 v45 H b w3 w2 w1 w0 (ix2 p j)) := by
  unfold k0_pay26
  pointwise

theorem pay17_apply (v131 : FVec Ideal S264x1024 .f32) (v65 : FVec Ideal S256x1024 .f32) (p : Fin 256) (j : Fin 1024) : k0_pay17 (F := Ideal) v131 v65 w2 w1 w0 (ix2 p j)
    = k0_pay15 (F := Ideal) v131 v65 w2 w1 w0 (ix2 p j) := by
  unfold k0_pay17
  pointwise

theorem pay22_apply (p : Fin 256) (j : Fin 1024) : k0_pay22 (F := Ideal) v98 H b w3 w2 w1 w0 (ix2 p j)
    = k0_pay20 (F := Ideal) v98 H b w3 w2 w1 w0 (ix2 p j) := by
  unfold k0_pay22
  pointwise

theorem pay1_apply (p : Fin 256) (j : Fin 1024) : k0_pay1 (F := Ideal) v98 (ix2 p j) = v98 (ix2 p j) := by
  unfold k0_pay1
  pointwise

end

/-- A block's normalised rows. -/
def bnorm (x0 : Vec Ideal S256x1024 .f32) (x1 : Vec Ideal S1x1024 .f32) (p : Fin 256) (k : Fin 1024) : EReal := Norm.normed (fun k => x0 (ix2 p k)) (fun k => x1 (ix2 0 k)) k

/-- A block's projected rows. -/
def bproj (x0 : Vec Ideal S256x1024 .f32) (x1 : Vec Ideal S1x1024 .f32) (x2 : Vec Ideal S5152x1024 .bf16) (p : Fin 256) (j : Fin 5152) : EReal := ∑ k : Fin 1024, bnorm x0 x1 p k * x2 (ix2 j k)

/-- A block's part that is convolved. -/
def bpart (x0 : Vec Ideal S256x1024 .f32) (x1 : Vec Ideal S1x1024 .f32) (x2 : Vec Ideal S5152x1024 .bf16) (p : Fin 256) (j : Fin 3072) : EReal := bproj x0 x1 x2 p ⟨2048 + j.val, by omega⟩

/-- A block's convolution. -/
def bconv (x0 : Vec Ideal S256x1024 .f32) (x1 : Vec Ideal S1x1024 .f32) (x2 : Vec Ideal S5152x1024 .bf16) (x4 : Vec Ideal S8x3072 .f32) (x5 : Vec Ideal S1x3072 .f32) (H : Vec Ideal S8x3072 .f32) (p : Fin 256) (j : Fin 3072) : EReal :=
  taps H (bpart x0 x1 x2) (x5 (ix2 0 j)) (x4 (ix2 3 j)) (x4 (ix2 2 j)) (x4 (ix2 1 j)) (x4 (ix2 0 j)) p j

/-- A block's activated convolution. -/
def bact (x0 : Vec Ideal S256x1024 .f32) (x1 : Vec Ideal S1x1024 .f32) (x2 : Vec Ideal S5152x1024 .bf16) (x4 : Vec Ideal S8x3072 .f32) (x5 : Vec Ideal S1x3072 .f32) (H : Vec Ideal S8x3072 .f32) (p : Fin 256) (j : Fin 3072) : EReal := bconv x0 x1 x2 x4 x5 H p j * Ideal.logistic (bconv x0 x1 x2 x4 x5 H p j)

/-- The last eight rows of a block's part that is convolved. -/
def bkeep (x0 : Vec Ideal S256x1024 .f32) (x1 : Vec Ideal S1x1024 .f32) (x2 : Vec Ideal S5152x1024 .bf16) (q : Fin 8) (j : Fin 3072) : EReal := bpart x0 x1 x2 ⟨248 + q.val, by omega⟩ j

/-- The five stores of the projection. -/
def out_7 (x0 : Vec Ideal S256x1024 .f32) (x1 : Vec Ideal S1x1024 .f32) (x2 : Vec Ideal S5152x1024 .bf16) : Vec Ideal S256x5120 .f32 :=
  View.canon [⟨Rect.unit ![0, 4096] ![256, 1024] inb_S256x5120_S256x1024_0_4096, k0_pay24 (F := Ideal) (k0_pay4 (F := Ideal) x0 x1) (View.ld x2 (Rect.unit ![4096, 0] ![1024, 1024] inb_S5152x1024_S1024x1024_4096_0))⟩,
    ⟨Rect.unit ![0, 3072] ![256, 1024] inb_S256x5120_S256x1024_0_3072, k0_pay19 (F := Ideal) (k0_pay4 (F := Ideal) x0 x1) (View.ld x2 (Rect.unit ![3072, 0] ![1024, 1024] inb_S5152x1024_S1024x1024_3072_0))⟩,
    ⟨Rect.unit ![0, 2048] ![256, 1024] inb_S256x5120_S256x1024_0_2048, k0_pay12 (F := Ideal) (k0_pay4 (F := Ideal) x0 x1) (View.ld x2 (Rect.unit ![2048, 0] ![1024, 1024] inb_S5152x1024_S1024x1024_2048_0))⟩,
    ⟨Rect.unit ![0, 1024] ![256, 1024] inb_S256x5120_S256x1024_0_1024, k0_pay11 (F := Ideal) (k0_pay4 (F := Ideal) x0 x1) (View.ld x2 (Rect.unit ![1024, 0] ![1024, 1024] inb_S5152x1024_S1024x1024_1024_0))⟩,
    ⟨Rect.unit ![0, 0] ![256, 1024] inb_S256x5120_S256x1024_0_0, k0_pay10 (F := Ideal) (k0_pay4 (F := Ideal) x0 x1) (View.ld x2 (Rect.unit ![0, 0] ![1024, 1024] inb_S5152x1024_S1024x1024_0_0))⟩]

/-- The three stores of the activated convolution. -/
def out_9 (x0 : Vec Ideal S256x1024 .f32) (x1 : Vec Ideal S1x1024 .f32) (x2 : Vec Ideal S5152x1024 .bf16) (x4 : Vec Ideal S8x3072 .f32) (x5 : Vec Ideal S1x3072 .f32) (H : Vec Ideal S8x3072 .f32) : Vec Ideal S256x3072 .f32 :=
  View.canon [⟨Rect.unit ![0, 2048] ![256, 1024] inb_S256x3072_S256x1024_0_2048, k0_pay26 (F := Ideal) (k0_pay4 (F := Ideal) x0 x1) (View.ld x2 (Rect.unit ![4096, 0] ![1024, 1024] inb_S5152x1024_S1024x1024_4096_0)) (View.ld H (Rect.unit ![0, 2048] ![8, 1024] inb_S8x3072_S8x1024_0_2048)) (View.ld x5 (Rect.unit ![0, 2048] ![1, 1024] inb_S1x3072_S1x1024_0_2048)) (View.ld x4 (Rect.unit ![3, 2048] ![1, 1024] inb_S8x3072_S1x1024_3_2048)) (View.ld x4 (Rect.unit ![2, 2048] ![1, 1024] inb_S8x3072_S1x1024_2_2048)) (View.ld x4 (Rect.unit ![1, 2048] ![1, 1024] inb_S8x3072_S1x1024_1_2048)) (View.ld x4 (Rect.unit ![0, 2048] ![1, 1024] inb_S8x3072_S1x1024_0_2048))⟩,
    ⟨Rect.unit ![0, 1024] ![256, 1024] inb_S256x3072_S256x1024_0_1024, k0_pay21 (F := Ideal) (k0_pay19 (F := Ideal) (k0_pay4 (F := Ideal) x0 x1) (View.ld x2 (Rect.unit ![3072, 0] ![1024, 1024] inb_S5152x1024_S1024x1024_3072_0))) (View.ld H (Rect.unit ![0, 1024] ![8, 1024] inb_S8x3072_S8x1024_0_1024)) (View.ld x5 (Rect.unit ![0, 1024] ![1, 1024] inb_S1x3072_S1x1024_0_1024)) (View.ld x4 (Rect.unit ![3, 1024] ![1, 1024] inb_S8x3072_S1x1024_3_1024)) (View.ld x4 (Rect.unit ![2, 1024] ![1, 1024] inb_S8x3072_S1x1024_2_1024)) (View.ld x4 (Rect.unit ![1, 1024] ![1, 1024] inb_S8x3072_S1x1024_1_1024)) (View.ld x4 (Rect.unit ![0, 1024] ![1, 1024] inb_S8x3072_S1x1024_0_1024))⟩,
    ⟨Rect.unit ![0, 0] ![256, 1024] inb_S256x3072_S256x1024_0_0, k0_pay16 (F := Ideal) (k0_pay13 (F := Ideal) (k0_pay4 (F := Ideal) x0 x1) (View.ld x2 (Rect.unit ![2048, 0] ![1024, 1024] inb_S5152x1024_S1024x1024_2048_0)) (View.ld H (Rect.unit ![0, 0] ![8, 1024] inb_S8x3072_S8x1024_0_0))) (k0_pay14 (F := Ideal) (k0_pay4 (F := Ideal) x0 x1) (View.ld x2 (Rect.unit ![2048, 0] ![1024, 1024] inb_S5152x1024_S1024x1024_2048_0)) (View.ld x5 (Rect.unit ![0, 0] ![1, 1024] inb_S1x3072_S1x1024_0_0)) (View.ld x4 (Rect.unit ![3, 0] ![1, 1024] inb_S8x3072_S1x1024_3_0))) (View.ld x4 (Rect.unit ![2, 0] ![1, 1024] inb_S8x3072_S1x1024_2_0)) (View.ld x4 (Rect.unit ![1, 0] ![1, 1024] inb_S8x3072_S1x1024_1_0)) (View.ld x4 (Rect.unit ![0, 0] ![1, 1024] inb_S8x3072_S1x1024_0_0))⟩]

/-- The three stores of the convolution. -/
def out_10 (x0 : Vec Ideal S256x1024 .f32) (x1 : Vec Ideal S1x1024 .f32) (x2 : Vec Ideal S5152x1024 .bf16) (x4 : Vec Ideal S8x3072 .f32) (x5 : Vec Ideal S1x3072 .f32) (H : Vec Ideal S8x3072 .f32) : Vec Ideal S256x3072 .bf16 :=
  View.canon [⟨Rect.unit ![0, 2048] ![256, 1024] inb_S256x3072_S256x1024_0_2048, k0_pay1 (F := Ideal) (k0_pay25 (F := Ideal) (k0_pay4 (F := Ideal) x0 x1) (View.ld x2 (Rect.unit ![4096, 0] ![1024, 1024] inb_S5152x1024_S1024x1024_4096_0)) (View.ld H (Rect.unit ![0, 2048] ![8, 1024] inb_S8x3072_S8x1024_0_2048)) (View.ld x5 (Rect.unit ![0, 2048] ![1, 1024] inb_S1x3072_S1x1024_0_2048)) (View.ld x4 (Rect.unit ![3, 2048] ![1, 1024] inb_S8x3072_S1x1024_3_2048)) (View.ld x4 (Rect.unit ![2, 2048] ![1, 1024] inb_S8x3072_S1x1024_2_2048)) (View.ld x4 (Rect.unit ![1, 2048] ![1, 1024] inb_S8x3072_S1x1024_1_2048)) (View.ld x4 (Rect.unit ![0, 2048] ![1, 1024] inb_S8x3072_S1x1024_0_2048)))⟩,
    ⟨Rect.unit ![0, 1024] ![256, 1024] inb_S256x3072_S256x1024_0_1024, k0_pay22 (F := Ideal) (k0_pay19 (F := Ideal) (k0_pay4 (F := Ideal) x0 x1) (View.ld x2 (Rect.unit ![3072, 0] ![1024, 1024] inb_S5152x1024_S1024x1024_3072_0))) (View.ld H (Rect.unit ![0, 1024] ![8, 1024] inb_S8x3072_S8x1024_0_1024)) (View.ld x5 (Rect.unit ![0, 1024] ![1, 1024] inb_S1x3072_S1x1024_0_1024)) (View.ld x4 (Rect.unit ![3, 1024] ![1, 1024] inb_S8x3072_S1x1024_3_1024)) (View.ld x4 (Rect.unit ![2, 1024] ![1, 1024] inb_S8x3072_S1x1024_2_1024)) (View.ld x4 (Rect.unit ![1, 1024] ![1, 1024] inb_S8x3072_S1x1024_1_1024)) (View.ld x4 (Rect.unit ![0, 1024] ![1, 1024] inb_S8x3072_S1x1024_0_1024))⟩,
    ⟨Rect.unit ![0, 0] ![256, 1024] inb_S256x3072_S256x1024_0_0, k0_pay17 (F := Ideal) (k0_pay13 (F := Ideal) (k0_pay4 (F := Ideal) x0 x1) (View.ld x2 (Rect.unit ![2048, 0] ![1024, 1024] inb_S5152x1024_S1024x1024_2048_0)) (View.ld H (Rect.unit ![0, 0] ![8, 1024] inb_S8x3072_S8x1024_0_0))) (k0_pay14 (F := Ideal) (k0_pay4 (F := Ideal) x0 x1) (View.ld x2 (Rect.unit ![2048, 0] ![1024, 1024] inb_S5152x1024_S1024x1024_2048_0)) (View.ld x5 (Rect.unit ![0, 0] ![1, 1024] inb_S1x3072_S1x1024_0_0)) (View.ld x4 (Rect.unit ![3, 0] ![1, 1024] inb_S8x3072_S1x1024_3_0))) (View.ld x4 (Rect.unit ![2, 0] ![1, 1024] inb_S8x3072_S1x1024_2_0)) (View.ld x4 (Rect.unit ![1, 0] ![1, 1024] inb_S8x3072_S1x1024_1_0)) (View.ld x4 (Rect.unit ![0, 0] ![1, 1024] inb_S8x3072_S1x1024_0_0))⟩]

/-- The stores of the rows carried to the next block. -/
def carry (x0 : Vec Ideal S256x1024 .f32) (x1 : Vec Ideal S1x1024 .f32) (x2 : Vec Ideal S5152x1024 .bf16) : List (View.Piece (Elt Ideal) S8x3072 .f32) :=
  [⟨Rect.unit ![0, 2048] ![8, 1024] inb_S8x3072_S8x1024_0_2048, k0_pay2 (F := Ideal) (k0_pay24 (F := Ideal) (k0_pay4 (F := Ideal) x0 x1) (View.ld x2 (Rect.unit ![4096, 0] ![1024, 1024] inb_S5152x1024_S1024x1024_4096_0)))⟩,
    ⟨Rect.unit ![0, 1024] ![8, 1024] inb_S8x3072_S8x1024_0_1024, k0_pay23 (F := Ideal) (k0_pay19 (F := Ideal) (k0_pay4 (F := Ideal) x0 x1) (View.ld x2 (Rect.unit ![3072, 0] ![1024, 1024] inb_S5152x1024_S1024x1024_3072_0)))⟩,
    ⟨Rect.unit ![0, 0] ![8, 1024] inb_S8x3072_S8x1024_0_0, k0_pay18 (F := Ideal) (k0_pay12 (F := Ideal) (k0_pay4 (F := Ideal) x0 x1) (View.ld x2 (Rect.unit ![2048, 0] ![1024, 1024] inb_S5152x1024_S1024x1024_2048_0)))⟩]

theorem cover_7 (p0 p1 p2 p3 p4 : Vec Ideal S256x1024 .f32) (y : S256x5120.Idx) :
    ∃ pc ∈ ([⟨Rect.unit (s := S256x5120) ![0, 4096] ![256, 1024] inb_S256x5120_S256x1024_0_4096, p0⟩, ⟨Rect.unit (s := S256x5120) ![0, 3072] ![256, 1024] inb_S256x5120_S256x1024_0_3072, p1⟩, ⟨Rect.unit (s := S256x5120) ![0, 2048] ![256, 1024] inb_S256x5120_S256x1024_0_2048, p2⟩, ⟨Rect.unit (s := S256x5120) ![0, 1024] ![256, 1024] inb_S256x5120_S256x1024_0_1024, p3⟩, ⟨Rect.unit (s := S256x5120) ![0, 0] ![256, 1024] inb_S256x5120_S256x1024_0_0, p4⟩] : List (View.Piece (Elt Ideal) S256x5120 .f32)), y ∈ pc.1.set :=
  View.cover_of_tiled [⟨Rect.unit (s := S256x5120) ![0, 4096] ![256, 1024] inb_S256x5120_S256x1024_0_4096, p0⟩, ⟨Rect.unit (s := S256x5120) ![0, 3072] ![256, 1024] inb_S256x5120_S256x1024_0_3072, p1⟩, ⟨Rect.unit (s := S256x5120) ![0, 2048] ![256, 1024] inb_S256x5120_S256x1024_0_2048, p2⟩, ⟨Rect.unit (s := S256x5120) ![0, 1024] ![256, 1024] inb_S256x5120_S256x1024_0_1024, p3⟩, ⟨Rect.unit (s := S256x5120) ![0, 0] ![256, 1024] inb_S256x5120_S256x1024_0_0, p4⟩] S256x1024.size (by rfl) y

theorem cover_9 (p0 p1 p2 : Vec Ideal S256x1024 .f32) (y : S256x3072.Idx) :
    ∃ pc ∈ ([⟨Rect.unit (s := S256x3072) ![0, 2048] ![256, 1024] inb_S256x3072_S256x1024_0_2048, p0⟩, ⟨Rect.unit (s := S256x3072) ![0, 1024] ![256, 1024] inb_S256x3072_S256x1024_0_1024, p1⟩, ⟨Rect.unit (s := S256x3072) ![0, 0] ![256, 1024] inb_S256x3072_S256x1024_0_0, p2⟩] : List (View.Piece (Elt Ideal) S256x3072 .f32)), y ∈ pc.1.set :=
  View.cover_of_tiled [⟨Rect.unit (s := S256x3072) ![0, 2048] ![256, 1024] inb_S256x3072_S256x1024_0_2048, p0⟩, ⟨Rect.unit (s := S256x3072) ![0, 1024] ![256, 1024] inb_S256x3072_S256x1024_0_1024, p1⟩, ⟨Rect.unit (s := S256x3072) ![0, 0] ![256, 1024] inb_S256x3072_S256x1024_0_0, p2⟩] S256x1024.size (by rfl) y

theorem cover_10 (p0 p1 p2 : Vec Ideal S256x1024 .bf16) (y : S256x3072.Idx) :
    ∃ pc ∈ ([⟨Rect.unit (s := S256x3072) ![0, 2048] ![256, 1024] inb_S256x3072_S256x1024_0_2048, p0⟩, ⟨Rect.unit (s := S256x3072) ![0, 1024] ![256, 1024] inb_S256x3072_S256x1024_0_1024, p1⟩, ⟨Rect.unit (s := S256x3072) ![0, 0] ![256, 1024] inb_S256x3072_S256x1024_0_0, p2⟩] : List (View.Piece (Elt Ideal) S256x3072 .bf16)), y ∈ pc.1.set :=
  View.cover_of_tiled [⟨Rect.unit (s := S256x3072) ![0, 2048] ![256, 1024] inb_S256x3072_S256x1024_0_2048, p0⟩, ⟨Rect.unit (s := S256x3072) ![0, 1024] ![256, 1024] inb_S256x3072_S256x1024_0_1024, p1⟩, ⟨Rect.unit (s := S256x3072) ![0, 0] ![256, 1024] inb_S256x3072_S256x1024_0_0, p2⟩] S256x1024.size (by rfl) y

theorem cover_kept (p0 p1 p2 : Vec Ideal S8x1024 .f32) (y : S8x3072.Idx) :
    ∃ pc ∈ ([⟨Rect.unit (s := S8x3072) ![0, 2048] ![8, 1024] inb_S8x3072_S8x1024_0_2048, p0⟩, ⟨Rect.unit (s := S8x3072) ![0, 1024] ![8, 1024] inb_S8x3072_S8x1024_0_1024, p1⟩, ⟨Rect.unit (s := S8x3072) ![0, 0] ![8, 1024] inb_S8x3072_S8x1024_0_0, p2⟩] : List (View.Piece (Elt Ideal) S8x3072 .f32)), y ∈ pc.1.set :=
  View.cover_of_tiled [⟨Rect.unit (s := S8x3072) ![0, 2048] ![8, 1024] inb_S8x3072_S8x1024_0_2048, p0⟩, ⟨Rect.unit (s := S8x3072) ![0, 1024] ![8, 1024] inb_S8x3072_S8x1024_0_1024, p1⟩, ⟨Rect.unit (s := S8x3072) ![0, 0] ![8, 1024] inb_S8x3072_S8x1024_0_0, p2⟩] S8x1024.size (by rfl) y

theorem at_0 (x0 : Vec Ideal S256x1024 .f32) (x1 : Vec Ideal S1x1024 .f32) (x2 : Vec Ideal S5152x1024 .bf16) (p : Fin 256) (j : Fin 1024) : k0_pay10 (F := Ideal) (k0_pay4 (F := Ideal) x0 x1) (View.ld x2 (Rect.unit ![0, 0] ![1024, 1024] inb_S5152x1024_S1024x1024_0_0)) (ix2 p j) = bproj x0 x1 x2 p ⟨0 + j.val, by omega⟩ := by
  refine (pay10_apply _ _ p j).trans (Finset.sum_congr rfl fun k _ => ?_)
  exact congrArg₂ (· * ·) (pay4_apply x0 x1 p k) (ld_ix2 x2 _ j k ⟨0 + j.val, by omega⟩ k rfl (Nat.zero_add _))

theorem at_1024 (x0 : Vec Ideal S256x1024 .f32) (x1 : Vec Ideal S1x1024 .f32) (x2 : Vec Ideal S5152x1024 .bf16) (p : Fin 256) (j : Fin 1024) : k0_pay11 (F := Ideal) (k0_pay4 (F := Ideal) x0 x1) (View.ld x2 (Rect.unit ![1024, 0] ![1024, 1024] inb_S5152x1024_S1024x1024_1024_0)) (ix2 p j) = bproj x0 x1 x2 p ⟨1024 + j.val, by omega⟩ := by
  refine (pay11_apply _ _ p j).trans (Finset.sum_congr rfl fun k _ => ?_)
  exact congrArg₂ (· * ·) (pay4_apply x0 x1 p k) (ld_ix2 x2 _ j k ⟨1024 + j.val, by omega⟩ k rfl (Nat.zero_add _))

theorem at_2048 (x0 : Vec Ideal S256x1024 .f32) (x1 : Vec Ideal S1x1024 .f32) (x2 : Vec Ideal S5152x1024 .bf16) (p : Fin 256) (j : Fin 1024) : k0_pay12 (F := Ideal) (k0_pay4 (F := Ideal) x0 x1) (View.ld x2 (Rect.unit ![2048, 0] ![1024, 1024] inb_S5152x1024_S1024x1024_2048_0)) (ix2 p j) = bproj x0 x1 x2 p ⟨2048 + j.val, by omega⟩ := by
  refine (pay12_apply _ _ p j).trans (Finset.sum_congr rfl fun k _ => ?_)
  exact congrArg₂ (· * ·) (pay4_apply x0 x1 p k) (ld_ix2 x2 _ j k ⟨2048 + j.val, by omega⟩ k rfl (Nat.zero_add _))

theorem at_3072 (x0 : Vec Ideal S256x1024 .f32) (x1 : Vec Ideal S1x1024 .f32) (x2 : Vec Ideal S5152x1024 .bf16) (p : Fin 256) (j : Fin 1024) : k0_pay19 (F := Ideal) (k0_pay4 (F := Ideal) x0 x1) (View.ld x2 (Rect.unit ![3072, 0] ![1024, 1024] inb_S5152x1024_S1024x1024_3072_0)) (ix2 p j) = bproj x0 x1 x2 p ⟨3072 + j.val, by omega⟩ := by
  refine (pay19_apply _ _ p j).trans (Finset.sum_congr rfl fun k _ => ?_)
  exact congrArg₂ (· * ·) (pay4_apply x0 x1 p k) (ld_ix2 x2 _ j k ⟨3072 + j.val, by omega⟩ k rfl (Nat.zero_add _))

theorem at_4096 (x0 : Vec Ideal S256x1024 .f32) (x1 : Vec Ideal S1x1024 .f32) (x2 : Vec Ideal S5152x1024 .bf16) (p : Fin 256) (j : Fin 1024) : k0_pay24 (F := Ideal) (k0_pay4 (F := Ideal) x0 x1) (View.ld x2 (Rect.unit ![4096, 0] ![1024, 1024] inb_S5152x1024_S1024x1024_4096_0)) (ix2 p j) = bproj x0 x1 x2 p ⟨4096 + j.val, by omega⟩ := by
  refine (pay24_apply _ _ p j).trans (Finset.sum_congr rfl fun k _ => ?_)
  exact congrArg₂ (· * ·) (pay4_apply x0 x1 p k) (ld_ix2 x2 _ j k ⟨4096 + j.val, by omega⟩ k rfl (Nat.zero_add _))

/-- The taps in a chunk of the channels. -/
theorem taps_chunk {n : ℕ} (H : Vec Ideal S8x3072 .f32) (G : Fin 256 → Fin 3072 → EReal) (H' : (⟨2, ![8, n]⟩ : Shape).Idx → EReal) (G' : Fin 256 → Fin n → EReal)
    (b w3 w2 w1 w0 b' w3' w2' w1' w0' : EReal) (p : Fin 256) (j : Fin n) (j' : Fin 3072) (hH : ∀ q, H' (ix2 q j) = H (ix2 q j')) (hG : ∀ p, G' p j = G p j')
    (eb : b' = b) (e3 : w3' = w3) (e2 : w2' = w2) (e1 : w1' = w1) (e0 : w0' = w0) : taps H' G' b' w3' w2' w1' w0' p j = taps H G b w3 w2 w1 w0 p j' := by
  subst eb e3 e2 e1 e0
  unfold taps ext
  simp only [hH, hG]

theorem conv_0 (x0 : Vec Ideal S256x1024 .f32) (x1 : Vec Ideal S1x1024 .f32) (x2 : Vec Ideal S5152x1024 .bf16) (x4 : Vec Ideal S8x3072 .f32) (x5 : Vec Ideal S1x3072 .f32) (H : Vec Ideal S8x3072 .f32) (p : Fin 256) (j : Fin 1024) :
    k0_pay15 (F := Ideal) (k0_pay13 (F := Ideal) (k0_pay4 (F := Ideal) x0 x1) (View.ld x2 (Rect.unit ![2048, 0] ![1024, 1024] inb_S5152x1024_S1024x1024_2048_0)) (View.ld H (Rect.unit ![0, 0] ![8, 1024] inb_S8x3072_S8x1024_0_0))) (k0_pay14 (F := Ideal) (k0_pay4 (F := Ideal) x0 x1) (View.ld x2 (Rect.unit ![2048, 0] ![1024, 1024] inb_S5152x1024_S1024x1024_2048_0)) (View.ld x5 (Rect.unit ![0, 0] ![1, 1024] inb_S1x3072_S1x1024_0_0)) (View.ld x4 (Rect.unit ![3, 0] ![1, 1024] inb_S8x3072_S1x1024_3_0))) (View.ld x4 (Rect.unit ![2, 0] ![1, 1024] inb_S8x3072_S1x1024_2_0)) (View.ld x4 (Rect.unit ![1, 0] ![1, 1024] inb_S8x3072_S1x1024_1_0)) (View.ld x4 (Rect.unit ![0, 0] ![1, 1024] inb_S8x3072_S1x1024_0_0)) (ix2 p j) = bconv x0 x1 x2 x4 x5 H p ⟨0 + j.val, by omega⟩ := by
  have hg : ∀ p, k0_pay12 (F := Ideal) (k0_pay4 (F := Ideal) x0 x1) (View.ld x2 (Rect.unit ![2048, 0] ![1024, 1024] inb_S5152x1024_S1024x1024_2048_0)) (ix2 p j) = bpart x0 x1 x2 p ⟨0 + j.val, by omega⟩ := fun p => by
    refine (at_2048 x0 x1 x2 p j).trans ?_
    unfold bpart
    exact congrArg (bproj x0 x1 x2 p) (Fin.ext (by show 2048 + j.val = 2048 + (0 + j.val); omega))
  refine (pay15_apply _ _ _ _ _ _ _ _ p j).trans ?_
  exact taps_chunk H _ _ _ _ _ _ _ _ _ _ _ _ _ p j ⟨0 + j.val, by omega⟩ (fun q => ld_ix2 H _ q j q ⟨0 + j.val, by omega⟩ (Nat.zero_add _) rfl) hg
    (ld_ix2 x5 _ 0 j 0 ⟨0 + j.val, by omega⟩ rfl rfl) (ld_ix2 x4 _ 0 j 3 ⟨0 + j.val, by omega⟩ rfl rfl) (ld_ix2 x4 _ 0 j 2 ⟨0 + j.val, by omega⟩ rfl rfl) (ld_ix2 x4 _ 0 j 1 ⟨0 + j.val, by omega⟩ rfl rfl) (ld_ix2 x4 _ 0 j 0 ⟨0 + j.val, by omega⟩ rfl rfl)

theorem conv_1024 (x0 : Vec Ideal S256x1024 .f32) (x1 : Vec Ideal S1x1024 .f32) (x2 : Vec Ideal S5152x1024 .bf16) (x4 : Vec Ideal S8x3072 .f32) (x5 : Vec Ideal S1x3072 .f32) (H : Vec Ideal S8x3072 .f32) (p : Fin 256) (j : Fin 1024) :
    k0_pay20 (F := Ideal) (k0_pay19 (F := Ideal) (k0_pay4 (F := Ideal) x0 x1) (View.ld x2 (Rect.unit ![3072, 0] ![1024, 1024] inb_S5152x1024_S1024x1024_3072_0))) (View.ld H (Rect.unit ![0, 1024] ![8, 1024] inb_S8x3072_S8x1024_0_1024)) (View.ld x5 (Rect.unit ![0, 1024] ![1, 1024] inb_S1x3072_S1x1024_0_1024)) (View.ld x4 (Rect.unit ![3, 1024] ![1, 1024] inb_S8x3072_S1x1024_3_1024)) (View.ld x4 (Rect.unit ![2, 1024] ![1, 1024] inb_S8x3072_S1x1024_2_1024)) (View.ld x4 (Rect.unit ![1, 1024] ![1, 1024] inb_S8x3072_S1x1024_1_1024)) (View.ld x4 (Rect.unit ![0, 1024] ![1, 1024] inb_S8x3072_S1x1024_0_1024)) (ix2 p j) = bconv x0 x1 x2 x4 x5 H p ⟨1024 + j.val, by omega⟩ := by
  have hg : ∀ p, k0_pay19 (F := Ideal) (k0_pay4 (F := Ideal) x0 x1) (View.ld x2 (Rect.unit ![3072, 0] ![1024, 1024] inb_S5152x1024_S1024x1024_3072_0)) (ix2 p j) = bpart x0 x1 x2 p ⟨1024 + j.val, by omega⟩ := fun p => by
    refine (at_3072 x0 x1 x2 p j).trans ?_
    unfold bpart
    exact congrArg (bproj x0 x1 x2 p) (Fin.ext (by show 3072 + j.val = 2048 + (1024 + j.val); omega))
  refine (pay20_apply _ _ _ _ _ _ _ p j).trans ?_
  exact taps_chunk H _ _ _ _ _ _ _ _ _ _ _ _ _ p j ⟨1024 + j.val, by omega⟩ (fun q => ld_ix2 H _ q j q ⟨1024 + j.val, by omega⟩ (Nat.zero_add _) rfl) hg
    (ld_ix2 x5 _ 0 j 0 ⟨1024 + j.val, by omega⟩ rfl rfl) (ld_ix2 x4 _ 0 j 3 ⟨1024 + j.val, by omega⟩ rfl rfl) (ld_ix2 x4 _ 0 j 2 ⟨1024 + j.val, by omega⟩ rfl rfl) (ld_ix2 x4 _ 0 j 1 ⟨1024 + j.val, by omega⟩ rfl rfl) (ld_ix2 x4 _ 0 j 0 ⟨1024 + j.val, by omega⟩ rfl rfl)

theorem conv_2048 (x0 : Vec Ideal S256x1024 .f32) (x1 : Vec Ideal S1x1024 .f32) (x2 : Vec Ideal S5152x1024 .bf16) (x4 : Vec Ideal S8x3072 .f32) (x5 : Vec Ideal S1x3072 .f32) (H : Vec Ideal S8x3072 .f32) (p : Fin 256) (j : Fin 1024) :
    k0_pay25 (F := Ideal) (k0_pay4 (F := Ideal) x0 x1) (View.ld x2 (Rect.unit ![4096, 0] ![1024, 1024] inb_S5152x1024_S1024x1024_4096_0)) (View.ld H (Rect.unit ![0, 2048] ![8, 1024] inb_S8x3072_S8x1024_0_2048)) (View.ld x5 (Rect.unit ![0, 2048] ![1, 1024] inb_S1x3072_S1x1024_0_2048)) (View.ld x4 (Rect.unit ![3, 2048] ![1, 1024] inb_S8x3072_S1x1024_3_2048)) (View.ld x4 (Rect.unit ![2, 2048] ![1, 1024] inb_S8x3072_S1x1024_2_2048)) (View.ld x4 (Rect.unit ![1, 2048] ![1, 1024] inb_S8x3072_S1x1024_1_2048)) (View.ld x4 (Rect.unit ![0, 2048] ![1, 1024] inb_S8x3072_S1x1024_0_2048)) (ix2 p j) = bconv x0 x1 x2 x4 x5 H p ⟨2048 + j.val, by omega⟩ := by
  have hg : ∀ p, k0_pay24 (F := Ideal) (k0_pay4 (F := Ideal) x0 x1) (View.ld x2 (Rect.unit ![4096, 0] ![1024, 1024] inb_S5152x1024_S1024x1024_4096_0)) (ix2 p j) = bpart x0 x1 x2 p ⟨2048 + j.val, by omega⟩ := fun p => by
    refine (at_4096 x0 x1 x2 p j).trans ?_
    unfold bpart
    exact congrArg (bproj x0 x1 x2 p) (Fin.ext (by show 4096 + j.val = 2048 + (2048 + j.val); omega))
  refine (pay25_apply _ _ _ _ _ _ _ _ p j).trans ?_
  exact taps_chunk H _ _ _ _ _ _ _ _ _ _ _ _ _ p j ⟨2048 + j.val, by omega⟩ (fun q => ld_ix2 H _ q j q ⟨2048 + j.val, by omega⟩ (Nat.zero_add _) rfl) hg
    (ld_ix2 x5 _ 0 j 0 ⟨2048 + j.val, by omega⟩ rfl rfl) (ld_ix2 x4 _ 0 j 3 ⟨2048 + j.val, by omega⟩ rfl rfl) (ld_ix2 x4 _ 0 j 2 ⟨2048 + j.val, by omega⟩ rfl rfl) (ld_ix2 x4 _ 0 j 1 ⟨2048 + j.val, by omega⟩ rfl rfl) (ld_ix2 x4 _ 0 j 0 ⟨2048 + j.val, by omega⟩ rfl rfl)

theorem blk_7 (x0 : Vec Ideal S256x1024 .f32) (x1 : Vec Ideal S1x1024 .f32) (x2 : Vec Ideal S5152x1024 .bf16) (p : Fin 256) (j : Fin 5120) : out_7 x0 x1 x2 (ix2 p j) = bproj x0 x1 x2 p ⟨j.val, by omega⟩ := by
  unfold out_7
  refine canon_of_cover (e := .f32) (fun y => bproj x0 x1 x2 (y 0) ⟨(y 1).val, by have : (y 1).val < 5120 := (y 1).isLt; omega⟩) _ ?_ (ix2 p j) (cover_7 _ _ _ _ _ _)
  intro pc h
  rcases List.mem_cons.mp h with rfl | h
  · refine store_ix2 (e := .f32) inb_S256x5120_S256x1024_0_4096 (k0_pay24 (F := Ideal) (k0_pay4 (F := Ideal) x0 x1) (View.ld x2 (Rect.unit ![4096, 0] ![1024, 1024] inb_S5152x1024_S1024x1024_4096_0))) (fun y => bproj x0 x1 x2 (y 0) ⟨(y 1).val, by have : (y 1).val < 5120 := (y 1).isLt; omega⟩) fun p j p' j' hp hj => ?_
    obtain rfl : p = p' := Fin.ext (by omega)
    have ej : j' = ⟨4096 + j.val, by omega⟩ := Fin.ext hj.symm
    rw [ej]
    exact at_4096 x0 x1 x2 p j
  rcases List.mem_cons.mp h with rfl | h
  · refine store_ix2 (e := .f32) inb_S256x5120_S256x1024_0_3072 (k0_pay19 (F := Ideal) (k0_pay4 (F := Ideal) x0 x1) (View.ld x2 (Rect.unit ![3072, 0] ![1024, 1024] inb_S5152x1024_S1024x1024_3072_0))) (fun y => bproj x0 x1 x2 (y 0) ⟨(y 1).val, by have : (y 1).val < 5120 := (y 1).isLt; omega⟩) fun p j p' j' hp hj => ?_
    obtain rfl : p = p' := Fin.ext (by omega)
    have ej : j' = ⟨3072 + j.val, by omega⟩ := Fin.ext hj.symm
    rw [ej]
    exact at_3072 x0 x1 x2 p j
  rcases List.mem_cons.mp h with rfl | h
  · refine store_ix2 (e := .f32) inb_S256x5120_S256x1024_0_2048 (k0_pay12 (F := Ideal) (k0_pay4 (F := Ideal) x0 x1) (View.ld x2 (Rect.unit ![2048, 0] ![1024, 1024] inb_S5152x1024_S1024x1024_2048_0))) (fun y => bproj x0 x1 x2 (y 0) ⟨(y 1).val, by have : (y 1).val < 5120 := (y 1).isLt; omega⟩) fun p j p' j' hp hj => ?_
    obtain rfl : p = p' := Fin.ext (by omega)
    have ej : j' = ⟨2048 + j.val, by omega⟩ := Fin.ext hj.symm
    rw [ej]
    exact at_2048 x0 x1 x2 p j
  rcases List.mem_cons.mp h with rfl | h
  · refine store_ix2 (e := .f32) inb_S256x5120_S256x1024_0_1024 (k0_pay11 (F := Ideal) (k0_pay4 (F := Ideal) x0 x1) (View.ld x2 (Rect.unit ![1024, 0] ![1024, 1024] inb_S5152x1024_S1024x1024_1024_0))) (fun y => bproj x0 x1 x2 (y 0) ⟨(y 1).val, by have : (y 1).val < 5120 := (y 1).isLt; omega⟩) fun p j p' j' hp hj => ?_
    obtain rfl : p = p' := Fin.ext (by omega)
    have ej : j' = ⟨1024 + j.val, by omega⟩ := Fin.ext hj.symm
    rw [ej]
    exact at_1024 x0 x1 x2 p j
  · obtain rfl := List.mem_singleton.mp h
    refine store_ix2 (e := .f32) inb_S256x5120_S256x1024_0_0 (k0_pay10 (F := Ideal) (k0_pay4 (F := Ideal) x0 x1) (View.ld x2 (Rect.unit ![0, 0] ![1024, 1024] inb_S5152x1024_S1024x1024_0_0))) (fun y => bproj x0 x1 x2 (y 0) ⟨(y 1).val, by have : (y 1).val < 5120 := (y 1).isLt; omega⟩) fun p j p' j' hp hj => ?_
    obtain rfl : p = p' := Fin.ext (by omega)
    have ej : j' = ⟨0 + j.val, by omega⟩ := Fin.ext hj.symm
    rw [ej]
    exact at_0 x0 x1 x2 p j

theorem blk_9 (x0 : Vec Ideal S256x1024 .f32) (x1 : Vec Ideal S1x1024 .f32) (x2 : Vec Ideal S5152x1024 .bf16) (x4 : Vec Ideal S8x3072 .f32) (x5 : Vec Ideal S1x3072 .f32) (H : Vec Ideal S8x3072 .f32) (p : Fin 256) (j : Fin 3072) : out_9 x0 x1 x2 x4 x5 H (ix2 p j) = bact x0 x1 x2 x4 x5 H p j := by
  unfold out_9
  refine canon_of_cover (e := .f32) (fun y => bact x0 x1 x2 x4 x5 H (y 0) (y 1)) _ ?_ (ix2 p j) (cover_9 _ _ _ _)
  intro pc h
  rcases List.mem_cons.mp h with rfl | h
  · refine store_ix2 (e := .f32) inb_S256x3072_S256x1024_0_2048 (k0_pay26 (F := Ideal) (k0_pay4 (F := Ideal) x0 x1) (View.ld x2 (Rect.unit ![4096, 0] ![1024, 1024] inb_S5152x1024_S1024x1024_4096_0)) (View.ld H (Rect.unit ![0, 2048] ![8, 1024] inb_S8x3072_S8x1024_0_2048)) (View.ld x5 (Rect.unit ![0, 2048] ![1, 1024] inb_S1x3072_S1x1024_0_2048)) (View.ld x4 (Rect.unit ![3, 2048] ![1, 1024] inb_S8x3072_S1x1024_3_2048)) (View.ld x4 (Rect.unit ![2, 2048] ![1, 1024] inb_S8x3072_S1x1024_2_2048)) (View.ld x4 (Rect.unit ![1, 2048] ![1, 1024] inb_S8x3072_S1x1024_1_2048)) (View.ld x4 (Rect.unit ![0, 2048] ![1, 1024] inb_S8x3072_S1x1024_0_2048))) (fun y => bact x0 x1 x2 x4 x5 H (y 0) (y 1)) fun p j p' j' hp hj => ?_
    obtain rfl : p = p' := Fin.ext (by omega)
    have ej : j' = ⟨2048 + j.val, by omega⟩ := Fin.ext hj.symm
    rw [ej]
    refine (pay26_apply _ _ _ _ _ _ _ _ p j).trans ?_
    rw [conv_2048 x0 x1 x2 x4 x5 H p j]
    rfl
  rcases List.mem_cons.mp h with rfl | h
  · refine store_ix2 (e := .f32) inb_S256x3072_S256x1024_0_1024 (k0_pay21 (F := Ideal) (k0_pay19 (F := Ideal) (k0_pay4 (F := Ideal) x0 x1) (View.ld x2 (Rect.unit ![3072, 0] ![1024, 1024] inb_S5152x1024_S1024x1024_3072_0))) (View.ld H (Rect.unit ![0, 1024] ![8, 1024] inb_S8x3072_S8x1024_0_1024)) (View.ld x5 (Rect.unit ![0, 1024] ![1, 1024] inb_S1x3072_S1x1024_0_1024)) (View.ld x4 (Rect.unit ![3, 1024] ![1, 1024] inb_S8x3072_S1x1024_3_1024)) (View.ld x4 (Rect.unit ![2, 1024] ![1, 1024] inb_S8x3072_S1x1024_2_1024)) (View.ld x4 (Rect.unit ![1, 1024] ![1, 1024] inb_S8x3072_S1x1024_1_1024)) (View.ld x4 (Rect.unit ![0, 1024] ![1, 1024] inb_S8x3072_S1x1024_0_1024))) (fun y => bact x0 x1 x2 x4 x5 H (y 0) (y 1)) fun p j p' j' hp hj => ?_
    obtain rfl : p = p' := Fin.ext (by omega)
    have ej : j' = ⟨1024 + j.val, by omega⟩ := Fin.ext hj.symm
    rw [ej]
    refine (pay21_apply _ _ _ _ _ _ _ p j).trans ?_
    rw [conv_1024 x0 x1 x2 x4 x5 H p j]
    rfl
  · obtain rfl := List.mem_singleton.mp h
    refine store_ix2 (e := .f32) inb_S256x3072_S256x1024_0_0 (k0_pay16 (F := Ideal) (k0_pay13 (F := Ideal) (k0_pay4 (F := Ideal) x0 x1) (View.ld x2 (Rect.unit ![2048, 0] ![1024, 1024] inb_S5152x1024_S1024x1024_2048_0)) (View.ld H (Rect.unit ![0, 0] ![8, 1024] inb_S8x3072_S8x1024_0_0))) (k0_pay14 (F := Ideal) (k0_pay4 (F := Ideal) x0 x1) (View.ld x2 (Rect.unit ![2048, 0] ![1024, 1024] inb_S5152x1024_S1024x1024_2048_0)) (View.ld x5 (Rect.unit ![0, 0] ![1, 1024] inb_S1x3072_S1x1024_0_0)) (View.ld x4 (Rect.unit ![3, 0] ![1, 1024] inb_S8x3072_S1x1024_3_0))) (View.ld x4 (Rect.unit ![2, 0] ![1, 1024] inb_S8x3072_S1x1024_2_0)) (View.ld x4 (Rect.unit ![1, 0] ![1, 1024] inb_S8x3072_S1x1024_1_0)) (View.ld x4 (Rect.unit ![0, 0] ![1, 1024] inb_S8x3072_S1x1024_0_0))) (fun y => bact x0 x1 x2 x4 x5 H (y 0) (y 1)) fun p j p' j' hp hj => ?_
    obtain rfl : p = p' := Fin.ext (by omega)
    have ej : j' = ⟨0 + j.val, by omega⟩ := Fin.ext hj.symm
    rw [ej]
    refine (pay16_apply _ _ _ _ _ p j).trans ?_
    rw [conv_0 x0 x1 x2 x4 x5 H p j]
    rfl

theorem blk_10 (x0 : Vec Ideal S256x1024 .f32) (x1 : Vec Ideal S1x1024 .f32) (x2 : Vec Ideal S5152x1024 .bf16) (x4 : Vec Ideal S8x3072 .f32) (x5 : Vec Ideal S1x3072 .f32) (H : Vec Ideal S8x3072 .f32) (p : Fin 256) (j : Fin 3072) : out_10 x0 x1 x2 x4 x5 H (ix2 p j) = bconv x0 x1 x2 x4 x5 H p j := by
  unfold out_10
  refine canon_of_cover (e := .bf16) (fun y => bconv x0 x1 x2 x4 x5 H (y 0) (y 1)) _ ?_ (ix2 p j) (cover_10 _ _ _ _)
  intro pc h
  rcases List.mem_cons.mp h with rfl | h
  · refine store_ix2 (e := .bf16) inb_S256x3072_S256x1024_0_2048 (k0_pay1 (F := Ideal) (k0_pay25 (F := Ideal) (k0_pay4 (F := Ideal) x0 x1) (View.ld x2 (Rect.unit ![4096, 0] ![1024, 1024] inb_S5152x1024_S1024x1024_4096_0)) (View.ld H (Rect.unit ![0, 2048] ![8, 1024] inb_S8x3072_S8x1024_0_2048)) (View.ld x5 (Rect.unit ![0, 2048] ![1, 1024] inb_S1x3072_S1x1024_0_2048)) (View.ld x4 (Rect.unit ![3, 2048] ![1, 1024] inb_S8x3072_S1x1024_3_2048)) (View.ld x4 (Rect.unit ![2, 2048] ![1, 1024] inb_S8x3072_S1x1024_2_2048)) (View.ld x4 (Rect.unit ![1, 2048] ![1, 1024] inb_S8x3072_S1x1024_1_2048)) (View.ld x4 (Rect.unit ![0, 2048] ![1, 1024] inb_S8x3072_S1x1024_0_2048)))) (fun y => bconv x0 x1 x2 x4 x5 H (y 0) (y 1)) fun p j p' j' hp hj => ?_
    obtain rfl : p = p' := Fin.ext (by omega)
    have ej : j' = ⟨2048 + j.val, by omega⟩ := Fin.ext hj.symm
    rw [ej]
    exact (pay1_apply _ p j).trans (conv_2048 x0 x1 x2 x4 x5 H p j)
  rcases List.mem_cons.mp h with rfl | h
  · refine store_ix2 (e := .bf16) inb_S256x3072_S256x1024_0_1024 (k0_pay22 (F := Ideal) (k0_pay19 (F := Ideal) (k0_pay4 (F := Ideal) x0 x1) (View.ld x2 (Rect.unit ![3072, 0] ![1024, 1024] inb_S5152x1024_S1024x1024_3072_0))) (View.ld H (Rect.unit ![0, 1024] ![8, 1024] inb_S8x3072_S8x1024_0_1024)) (View.ld x5 (Rect.unit ![0, 1024] ![1, 1024] inb_S1x3072_S1x1024_0_1024)) (View.ld x4 (Rect.unit ![3, 1024] ![1, 1024] inb_S8x3072_S1x1024_3_1024)) (View.ld x4 (Rect.unit ![2, 1024] ![1, 1024] inb_S8x3072_S1x1024_2_1024)) (View.ld x4 (Rect.unit ![1, 1024] ![1, 1024] inb_S8x3072_S1x1024_1_1024)) (View.ld x4 (Rect.unit ![0, 1024] ![1, 1024] inb_S8x3072_S1x1024_0_1024))) (fun y => bconv x0 x1 x2 x4 x5 H (y 0) (y 1)) fun p j p' j' hp hj => ?_
    obtain rfl : p = p' := Fin.ext (by omega)
    have ej : j' = ⟨1024 + j.val, by omega⟩ := Fin.ext hj.symm
    rw [ej]
    exact (pay22_apply _ _ _ _ _ _ _ p j).trans (conv_1024 x0 x1 x2 x4 x5 H p j)
  · obtain rfl := List.mem_singleton.mp h
    refine store_ix2 (e := .bf16) inb_S256x3072_S256x1024_0_0 (k0_pay17 (F := Ideal) (k0_pay13 (F := Ideal) (k0_pay4 (F := Ideal) x0 x1) (View.ld x2 (Rect.unit ![2048, 0] ![1024, 1024] inb_S5152x1024_S1024x1024_2048_0)) (View.ld H (Rect.unit ![0, 0] ![8, 1024] inb_S8x3072_S8x1024_0_0))) (k0_pay14 (F := Ideal) (k0_pay4 (F := Ideal) x0 x1) (View.ld x2 (Rect.unit ![2048, 0] ![1024, 1024] inb_S5152x1024_S1024x1024_2048_0)) (View.ld x5 (Rect.unit ![0, 0] ![1, 1024] inb_S1x3072_S1x1024_0_0)) (View.ld x4 (Rect.unit ![3, 0] ![1, 1024] inb_S8x3072_S1x1024_3_0))) (View.ld x4 (Rect.unit ![2, 0] ![1, 1024] inb_S8x3072_S1x1024_2_0)) (View.ld x4 (Rect.unit ![1, 0] ![1, 1024] inb_S8x3072_S1x1024_1_0)) (View.ld x4 (Rect.unit ![0, 0] ![1, 1024] inb_S8x3072_S1x1024_0_0))) (fun y => bconv x0 x1 x2 x4 x5 H (y 0) (y 1)) fun p j p' j' hp hj => ?_
    obtain rfl : p = p' := Fin.ext (by omega)
    have ej : j' = ⟨0 + j.val, by omega⟩ := Fin.ext hj.symm
    rw [ej]
    exact (pay17_apply _ _ _ _ _ p j).trans (conv_0 x0 x1 x2 x4 x5 H p j)

theorem kept_apply (x0 : Vec Ideal S256x1024 .f32) (x1 : Vec Ideal S1x1024 .f32) (x2 : Vec Ideal S5152x1024 .bf16) (L : List (View.Piece (Elt Ideal) S8x3072 .f32)) (p : Fin 8) (j : Fin 3072) :
    View.canon (carry x0 x1 x2 ++ L) (ix2 p j) = bkeep x0 x1 x2 p j := by
  refine canon_of_cover_append (e := .f32) (fun y => bkeep x0 x1 x2 (y 0) (y 1)) (carry x0 x1 x2) L ?_ (ix2 p j) (cover_kept _ _ _ _)
  intro pc h
  unfold carry at h
  rcases List.mem_cons.mp h with rfl | h
  · refine store_ix2 (e := .f32) inb_S8x3072_S8x1024_0_2048 (k0_pay2 (F := Ideal) (k0_pay24 (F := Ideal) (k0_pay4 (F := Ideal) x0 x1) (View.ld x2 (Rect.unit ![4096, 0] ![1024, 1024] inb_S5152x1024_S1024x1024_4096_0)))) (fun y => bkeep x0 x1 x2 (y 0) (y 1)) fun p j p' j' hp hj => ?_
    obtain rfl : p = p' := Fin.ext (by omega)
    have ej : j' = ⟨2048 + j.val, by omega⟩ := Fin.ext hj.symm
    rw [ej]
    refine (pay2_apply _ p j).trans ((at_4096 x0 x1 x2 _ j).trans ?_)
    exact congrArg (bproj x0 x1 x2 _) (Fin.ext (by show 4096 + j.val = 2048 + (2048 + j.val); omega))
  rcases List.mem_cons.mp h with rfl | h
  · refine store_ix2 (e := .f32) inb_S8x3072_S8x1024_0_1024 (k0_pay23 (F := Ideal) (k0_pay19 (F := Ideal) (k0_pay4 (F := Ideal) x0 x1) (View.ld x2 (Rect.unit ![3072, 0] ![1024, 1024] inb_S5152x1024_S1024x1024_3072_0)))) (fun y => bkeep x0 x1 x2 (y 0) (y 1)) fun p j p' j' hp hj => ?_
    obtain rfl : p = p' := Fin.ext (by omega)
    have ej : j' = ⟨1024 + j.val, by omega⟩ := Fin.ext hj.symm
    rw [ej]
    refine (pay23_apply _ p j).trans ((at_3072 x0 x1 x2 _ j).trans ?_)
    exact congrArg (bproj x0 x1 x2 _) (Fin.ext (by show 3072 + j.val = 2048 + (1024 + j.val); omega))
  · obtain rfl := List.mem_singleton.mp h
    refine store_ix2 (e := .f32) inb_S8x3072_S8x1024_0_0 (k0_pay18 (F := Ideal) (k0_pay12 (F := Ideal) (k0_pay4 (F := Ideal) x0 x1) (View.ld x2 (Rect.unit ![2048, 0] ![1024, 1024] inb_S5152x1024_S1024x1024_2048_0)))) (fun y => bkeep x0 x1 x2 (y 0) (y 1)) fun p j p' j' hp hj => ?_
    obtain rfl : p = p' := Fin.ext (by omega)
    have ej : j' = ⟨0 + j.val, by omega⟩ := Fin.ext hj.symm
    rw [ej]
    refine (pay18_apply _ p j).trans ((at_2048 x0 x1 x2 _ j).trans ?_)
    exact congrArg (bproj x0 x1 x2 _) (Fin.ext (by show 2048 + j.val = 2048 + (0 + j.val); omega))

end Cert.SsmIn
end
-- ==== Proof.SsmInValue.lean ====
/-
  The state-space layer's input over the grid: what the launch's arrays hold, and what the reference computes.
-/
module

public import proofs.«01_k».proof.Proof.SsmInBlock
public import proofs.«01_k».proof.Proof.Blocks
public import proofs.«01_k».proof.Proof.Gen.SsmInReferenceIdeal.Read
public import proofs.«01_k».proof.Proof.Gen.SsmInIdeal.Value
public import proofs.«01_k».proof.Proof.Gen.SsmInReferenceIdeal.Run

@[expose] public section

set_option maxRecDepth 16384
noncomputable section
open Idealize.ShloMosaic Idealize.ShloMosaic.TcCoe Idealize.SL.Sem Cert.Blocks

namespace Cert.SsmIn

open Cert.SsmInIdeal Cert.SsmInIdeal.Gen

section
variable (m : (ℓ : Loc nD τ sig) → Buf (Elt Ideal) ℓ) (c : Dev nD)

abbrev m0 : S8192x1024.Idx → EReal := m ((c : Thread nD τ).loc main_arg0)
abbrev m1 : S1x1024.Idx → EReal := m ((c : Thread nD τ).loc main_arg1)
abbrev m2 : S1024x5152.Idx → EReal := m ((c : Thread nD τ).loc main_arg2)
abbrev m3 : S4x3072.Idx → EReal := m ((c : Thread nD τ).loc main_arg3)
abbrev m4 : S1x3072.Idx → EReal := m ((c : Thread nD τ).loc main_arg4)
abbrev m5 : S32.Idx → EReal := m ((c : Thread nD τ).loc main_arg5)

theorem host_0 (a : Fin 8192) (b : Fin 1024) : V m c main_arg0 (ix2 a b) = m0 m c (ix2 a b) := by
  rw [V_main_arg0]

theorem host_1 (a : Fin 1) (b : Fin 1024) : V m c main_arg1 (ix2 a b) = m1 m c (ix2 a b) := by
  rw [V_main_arg1]

theorem host_2 (a : Fin 5152) (b : Fin 1024) : V m c main_v1 (ix2 a b) = m2 m c (ix2 b a) := by
  unfold V hostOps0 hostOps0_1 hostOps0_2 hostOps0_3 hostOps0_4 hostOps0_5 hostOps0_6
  simp only [List.flatten_cons, List.flatten_nil, List.cons_append, List.nil_append, List.append_nil]
  after_reads_at

theorem host_3 (a : Fin 128) (b : Fin 1024) : V m c main_v3 (ix2 a b) = padCol (m2 m c) a b := by
  unfold V hostOps0 hostOps0_1 hostOps0_2 hostOps0_3 hostOps0_4 hostOps0_5 hostOps0_6
  simp only [List.flatten_cons, List.flatten_nil, List.cons_append, List.nil_append, List.append_nil]
  after_reads_at
  unfold padCol
  split_ifs with h
  · rfl
  · exact int_zero _

theorem host_4 (a : Fin 8) (b : Fin 3072) (h : a.val < 4) : V m c main_v4 (ix2 a b) = m3 m c (ix2 ⟨a.val, h⟩ b) := by
  unfold V hostOps0 hostOps0_1 hostOps0_2 hostOps0_3 hostOps0_4 hostOps0_5 hostOps0_6
  simp only [List.flatten_cons, List.flatten_nil, List.cons_append, List.nil_append, List.append_nil]
  after_reads_at
  rw [dif_pos h]

theorem host_5 (a : Fin 1) (b : Fin 3072) : V m c main_arg4 (ix2 a b) = m4 m c (ix2 a b) := by
  rw [V_main_arg4]

theorem host_6 (a : Fin 1) (b : Fin 128) : V m c main_v6 (ix2 a b) = padVec (m5 m c) b := by
  unfold V hostOps0 hostOps0_1 hostOps0_2 hostOps0_3 hostOps0_4 hostOps0_5 hostOps0_6
  simp only [List.flatten_cons, List.flatten_nil, List.cons_append, List.nil_append, List.append_nil]
  after_reads_at
  unfold padVec
  split_ifs with h
  · rfl
  · exact int_zero _

theorem point_lt (t : Fin cfg0.N) : t.val < 32 := lt_of_lt_of_eq t.isLt (show cfg0.N = 32 from N_0)

/-- The array's row at row `p` of block `t`. -/
def rowAt (t : Fin cfg0.N) (p : Fin 256) : Fin 8192 := ⟨256 * t.val + p.val, by have := point_lt t; omega⟩

theorem exists_rowAt (i : Fin 8192) : ∃ t p, rowAt t p = i := by
  have hN : i.val / 256 < cfg0.N := by rw [show cfg0.N = 32 from N_0]; omega
  exact ⟨⟨_, hN⟩, ⟨i.val % 256, Nat.mod_lt _ (by decide)⟩, Fin.ext (Nat.div_add_mod i.val 256)⟩

def b0 (t : Fin cfg0.N) : S256x1024.Idx → EReal := iblk m c 0 t

theorem index_0 : ∀ t : Fin cfg0.N, win0_0.index t 0 * 256 = 256 * t.val ∧ win0_0.index t 1 * 1024 = 0 := by decide +kernel

theorem iblk_0 (t : Fin cfg0.N) (a : Fin 256) (b : Fin 1024) : b0 m c t (ix2 a b) = m0 m c (ix2 (rowAt t a) b) := by
  rw [← host_0]
  unfold b0 iblk
  rw [View.read_apply]
  exact congrArg (V m c main_arg0) (eq_ix2_of (index_0 t) rfl rfl rfl (Nat.zero_add _))

def b1 (t : Fin cfg0.N) : S1x1024.Idx → EReal := iblk m c 1 t

theorem index_1 : ∀ t : Fin cfg0.N, win0_1.index t 0 * 1 = 0 ∧ win0_1.index t 1 * 1024 = 0 := by decide +kernel

theorem iblk_1 (t : Fin cfg0.N) (a : Fin 1) (b : Fin 1024) : b1 m c t (ix2 a b) = m1 m c (ix2 a b) := by
  rw [← host_1]
  unfold b1 iblk
  rw [View.read_apply]
  exact congrArg (V m c main_arg1) (eq_ix2_of (index_1 t) rfl rfl (Nat.zero_add _) (Nat.zero_add _))

def b2 (t : Fin cfg0.N) : S5152x1024.Idx → EReal := iblk m c 2 t

theorem index_2 : ∀ t : Fin cfg0.N, win0_2.index t 0 * 5152 = 0 ∧ win0_2.index t 1 * 1024 = 0 := by decide +kernel

theorem iblk_2 (t : Fin cfg0.N) (a : Fin 5152) (b : Fin 1024) : b2 m c t (ix2 a b) = m2 m c (ix2 b a) := by
  rw [← host_2]
  unfold b2 iblk
  rw [View.read_apply]
  exact congrArg (V m c main_v1) (eq_ix2_of (index_2 t) rfl rfl (Nat.zero_add _) (Nat.zero_add _))

def b3 (t : Fin cfg0.N) : S128x1024.Idx → EReal := iblk m c 3 t

theorem index_3 : ∀ t : Fin cfg0.N, win0_3.index t 0 * 128 = 0 ∧ win0_3.index t 1 * 1024 = 0 := by decide +kernel

theorem iblk_3 (t : Fin cfg0.N) (a : Fin 128) (b : Fin 1024) : b3 m c t (ix2 a b) = padCol (m2 m c) a b := by
  rw [← host_3]
  unfold b3 iblk
  rw [View.read_apply]
  exact congrArg (V m c main_v3) (eq_ix2_of (index_3 t) rfl rfl (Nat.zero_add _) (Nat.zero_add _))

def b4 (t : Fin cfg0.N) : S8x3072.Idx → EReal := iblk m c 4 t

theorem index_4 : ∀ t : Fin cfg0.N, win0_4.index t 0 * 8 = 0 ∧ win0_4.index t 1 * 3072 = 0 := by decide +kernel

theorem iblk_4 (t : Fin cfg0.N) (a : Fin 8) (b : Fin 3072) (h : a.val < 4) : b4 m c t (ix2 a b) = m3 m c (ix2 ⟨a.val, h⟩ b) := by
  rw [← host_4 m c a b h]
  unfold b4 iblk
  rw [View.read_apply]
  exact congrArg (V m c main_v4) (eq_ix2_of (index_4 t) rfl rfl (Nat.zero_add _) (Nat.zero_add _))

def b5 (t : Fin cfg0.N) : S1x3072.Idx → EReal := iblk m c 5 t

theorem index_5 : ∀ t : Fin cfg0.N, win0_5.index t 0 * 1 = 0 ∧ win0_5.index t 1 * 3072 = 0 := by decide +kernel

theorem iblk_5 (t : Fin cfg0.N) (a : Fin 1) (b : Fin 3072) : b5 m c t (ix2 a b) = m4 m c (ix2 a b) := by
  rw [← host_5]
  unfold b5 iblk
  rw [View.read_apply]
  exact congrArg (V m c main_arg4) (eq_ix2_of (index_5 t) rfl rfl (Nat.zero_add _) (Nat.zero_add _))

def b6 (t : Fin cfg0.N) : S1x128.Idx → EReal := iblk m c 6 t

theorem index_6 : ∀ t : Fin cfg0.N, win0_6.index t 0 * 1 = 0 ∧ win0_6.index t 1 * 128 = 0 := by decide +kernel

theorem iblk_6 (t : Fin cfg0.N) (a : Fin 1) (b : Fin 128) : b6 m c t (ix2 a b) = padVec (m5 m c) b := by
  rw [← host_6 m c a b]
  unfold b6 iblk
  rw [View.read_apply]
  exact congrArg (V m c main_v6) (eq_ix2_of (index_6 t) rfl rfl (Nat.zero_add _) (Nat.zero_add _))

theorem left_7 (t : Fin cfg0.N) : (outsAt0 m c t.val t.isLt).1 = out_7 (iblk m c 0 t) (iblk m c 1 t) (iblk m c 2 t) := by
  unfold out_7
  by_cases h0 : t.val % 32 = 0
  · rw [outsAt0_A m c t h0]
    frame_out
  · rw [outsAt0_B m c t h0]
    frame_out

theorem left_8 (t : Fin cfg0.N) : (outsAt0 m c t.val t.isLt).2.1 = k0_pay4 (iblk m c 0 t) (iblk m c 1 t) := by
  by_cases h0 : t.val % 32 = 0
  · rw [outsAt0_A m c t h0]
    frame_out
  · rw [outsAt0_B m c t h0]
    frame_out

theorem left_11 (t : Fin cfg0.N) : (outsAt0 m c t.val t.isLt).2.2.2.2.1 = k0_pay5 (iblk m c 0 t) (iblk m c 1 t) (iblk m c 3 t) := by
  by_cases h0 : t.val % 32 = 0
  · rw [outsAt0_A m c t h0]
    frame_out
  · rw [outsAt0_B m c t h0]
    frame_out

theorem left_12 (t : Fin cfg0.N) : (outsAt0 m c t.val t.isLt).2.2.2.2.2.1 = k0_pay9 (k0_pay7 (iblk m c 0 t) (iblk m c 1 t) (iblk m c 3 t) (iblk m c 6 t)) (k0_pay8 (iblk m c 0 t) (iblk m c 1 t) (iblk m c 3 t) (iblk m c 6 t)) := by
  by_cases h0 : t.val % 32 = 0
  · rw [outsAt0_A m c t h0]
    frame_out
  · rw [outsAt0_B m c t h0]
    frame_out

theorem left_9_A (t : Fin cfg0.N) (h0 : t.val % 32 = 0) : (outsAt0 m c t.val t.isLt).2.2.1 = out_9 (iblk m c 0 t) (iblk m c 1 t) (iblk m c 2 t) (iblk m c 4 t) (iblk m c 5 t) (k0_pay3 (F := Ideal)) := by
  unfold out_9
  rw [outsAt0_A m c t h0]
  frame_out
  simp (disch := decide) only [↓ View.readCov_skip, ↓ View.readCov_cons_toLoadRect, ↓ View.readCov_fill]

theorem left_9_B (t : Fin cfg0.N) (h0 : ¬t.val % 32 = 0) : (outsAt0 m c t.val t.isLt).2.2.1 = out_9 (iblk m c 0 t) (iblk m c 1 t) (iblk m c 2 t) (iblk m c 4 t) (iblk m c 5 t) (outsAt0 m c (t.val - 1) (Nat.lt_of_le_of_lt (Nat.sub_le _ _) t.isLt)).2.2.2.2.2.2 := by
  unfold out_9
  rw [outsAt0_B m c t h0]
  frame_out
  simp only [read_unread_whole]

theorem left_10_A (t : Fin cfg0.N) (h0 : t.val % 32 = 0) : (outsAt0 m c t.val t.isLt).2.2.2.1 = out_10 (iblk m c 0 t) (iblk m c 1 t) (iblk m c 2 t) (iblk m c 4 t) (iblk m c 5 t) (k0_pay3 (F := Ideal)) := by
  unfold out_10
  rw [outsAt0_A m c t h0]
  frame_out
  simp (disch := decide) only [↓ View.readCov_skip, ↓ View.readCov_cons_toLoadRect, ↓ View.readCov_fill]

theorem left_10_B (t : Fin cfg0.N) (h0 : ¬t.val % 32 = 0) : (outsAt0 m c t.val t.isLt).2.2.2.1 = out_10 (iblk m c 0 t) (iblk m c 1 t) (iblk m c 2 t) (iblk m c 4 t) (iblk m c 5 t) (outsAt0 m c (t.val - 1) (Nat.lt_of_le_of_lt (Nat.sub_le _ _) t.isLt)).2.2.2.2.2.2 := by
  unfold out_10
  rw [outsAt0_B m c t h0]
  frame_out
  simp only [read_unread_whole]

/-- What a point leaves in the carried rows: its own last rows. -/
theorem kept (t : Fin cfg0.N) (q : Fin 8) (j : Fin 3072) :
    (outsAt0 m c t.val t.isLt).2.2.2.2.2.2 (ix2 q j) = bkeep (b0 m c t) (b1 m c t) (b2 m c t) q j := by
  by_cases h0 : t.val % 32 = 0
  · refine Eq.trans (congrFun (?_ : _ = View.canon (carry (iblk m c 0 t) (iblk m c 1 t) (iblk m c 2 t) ++ [⟨Rect.unit (s := S8x3072) ![0, 0] ![8, 3072] inb_S8x3072_S8x3072_0_0, k0_pay3 (F := Ideal)⟩])) _) (kept_apply (b0 m c t) (b1 m c t) (b2 m c t) _ q j)
    rw [outsAt0_A m c t h0]
    unfold carry
    frame_out
    rfl
  · refine Eq.trans (congrFun (?_ : _ = View.canon (carry (iblk m c 0 t) (iblk m c 1 t) (iblk m c 2 t) ++ [])) _) (kept_apply (b0 m c t) (b1 m c t) (b2 m c t) _ q j)
    rw [outsAt0_B m c t h0, List.append_nil]
    unfold carry
    frame_out

theorem proj_eq (t : Fin cfg0.N) (p : Fin 256) (j : Fin 5152) : bproj (b0 m c t) (b1 m c t) (b2 m c t) p j = proj (m0 m c) (m1 m c) (m2 m c) (rowAt t p) j := by
  unfold bproj bnorm proj norm
  simp only [iblk_0, iblk_1, iblk_2]

theorem norm_eq (t : Fin cfg0.N) (p : Fin 256) (k : Fin 1024) : bnorm (b0 m c t) (b1 m c t) p k = norm (m0 m c) (m1 m c) (rowAt t p) k := by
  unfold bnorm norm
  simp only [iblk_0, iblk_1]

/-- The rows before a point's rows are the array's rows before them. -/
theorem ext_eq (t : Fin cfg0.N) (H : Vec Ideal S8x3072 .f32) (hH : ∀ (q : Fin 8) (j : Fin 3072), H (ix2 q j) = past (m0 m c) (m1 m c) (m2 m c) (256 * t.val + q.val) j)
    (q : ℕ) (hq : q < 264) (j : Fin 3072) : ext H (bpart (b0 m c t) (b1 m c t) (b2 m c t)) q j = past (m0 m c) (m1 m c) (m2 m c) (256 * t.val + q) j := by
  have ht := point_lt t
  unfold ext
  split_ifs with h h'
  · exact hH _ j
  · unfold bpart past
    rw [proj_eq, if_neg (by omega), dif_pos (by omega)]
    exact congrArg (proj (m0 m c) (m1 m c) (m2 m c) · _) (Fin.ext (by show 256 * t.val + (q - 8) = 256 * t.val + q - 8; omega))
  · omega

/-- The carried rows a point finds are the array's rows before its own. -/
theorem found_B (t : Fin cfg0.N) (h0 : ¬t.val % 32 = 0) (q : Fin 8) (j : Fin 3072) : (outsAt0 m c (t.val - 1) (Nat.lt_of_le_of_lt (Nat.sub_le _ _) t.isLt)).2.2.2.2.2.2 (ix2 q j) = past (m0 m c) (m1 m c) (m2 m c) (256 * t.val + q.val) j := by
  have ht := point_lt t
  refine (kept m c ⟨t.val - 1, Nat.lt_of_le_of_lt (Nat.sub_le _ _) t.isLt⟩ q j).trans ?_
  unfold bkeep bpart past
  rw [proj_eq, if_neg (by omega), dif_pos (by omega)]
  exact congrArg (proj (m0 m c) (m1 m c) (m2 m c) · _) (Fin.ext (by show 256 * (t.val - 1) + (248 + q.val) = 256 * t.val + q.val - 8; omega))

theorem found_A (t : Fin cfg0.N) (h0 : t.val % 32 = 0) (q : Fin 8) (j : Fin 3072) : k0_pay3 (F := Ideal) (ix2 q j) = past (m0 m c) (m1 m c) (m2 m c) (256 * t.val + q.val) j := by
  have ht := point_lt t
  rw [pay3_apply]
  unfold past
  rw [if_pos (by omega)]

theorem conv_eq (t : Fin cfg0.N) (H : Vec Ideal S8x3072 .f32) (hH : ∀ (q : Fin 8) (j : Fin 3072), H (ix2 q j) = past (m0 m c) (m1 m c) (m2 m c) (256 * t.val + q.val) j)
    (p : Fin 256) (j : Fin 3072) : bconv (b0 m c t) (b1 m c t) (b2 m c t) (b4 m c t) (b5 m c t) H p j = conv (m0 m c) (m1 m c) (m2 m c) (m3 m c) (m4 m c) (rowAt t p) j := by
  unfold bconv taps conv
  rw [ext_eq m c t H hH (p.val + 7) (by omega) j, ext_eq m c t H hH (p.val + 6) (by omega) j, ext_eq m c t H hH (p.val + 5) (by omega) j, iblk_5,
    iblk_4 m c t 3 j (by decide), iblk_4 m c t 2 j (by decide), iblk_4 m c t 1 j (by decide), iblk_4 m c t 0 j (by decide)]
  unfold bpart
  rw [proj_eq]
  rfl

theorem act_eq (t : Fin cfg0.N) (H : Vec Ideal S8x3072 .f32) (hH : ∀ (q : Fin 8) (j : Fin 3072), H (ix2 q j) = past (m0 m c) (m1 m c) (m2 m c) (256 * t.val + q.val) j)
    (p : Fin 256) (j : Fin 3072) : bact (b0 m c t) (b1 m c t) (b2 m c t) (b4 m c t) (b5 m c t) H p j = res_9 (m0 m c) (m1 m c) (m2 m c) (m3 m c) (m4 m c) (m5 m c) (ix2 (rowAt t p) j) := by
  unfold bact res_9
  rw [conv_eq m c t H hH]
  rfl

theorem pad_sum (N : Fin 1024 → EReal) (X : S1024x5152.Idx → EReal) (j : Fin 128) :
    ∑ k : Fin 1024, N k * padCol X j k = if h : j.val < 32 then ∑ k : Fin 1024, N k * X (ix2 k ⟨5120 + j.val, by omega⟩) else 0 := by
  unfold padCol
  split_ifs with h
  · rfl
  · exact Finset.sum_eq_zero fun k _ => mul_zero _

theorem step_eq (t : Fin cfg0.N) (p : Fin 256) (j : Fin 128) : k0_pay5 (F := Ideal) (b0 m c t) (b1 m c t) (b3 m c t) (ix2 p j) = res_11 (m0 m c) (m1 m c) (m2 m c) (m3 m c) (m4 m c) (m5 m c) (ix2 (rowAt t p) j) := by
  rw [pay5_apply]
  simp only [iblk_0, iblk_1, iblk_3]
  rw [pad_sum]
  rfl

theorem act_step_eq (t : Fin cfg0.N) (p : Fin 256) (j : Fin 128) :
    k0_pay9 (F := Ideal) (k0_pay7 (b0 m c t) (b1 m c t) (b3 m c t) (b6 m c t)) (k0_pay8 (b0 m c t) (b1 m c t) (b3 m c t) (b6 m c t)) (ix2 p j) = res_12 (m0 m c) (m1 m c) (m2 m c) (m3 m c) (m4 m c) (m5 m c) (ix2 (rowAt t p) j) := by
  rw [pay9_apply, step_eq, iblk_6]
  unfold res_11 res_12 padVec
  show (if j.val < 32 then softplus ((if h : j.val < 32 then proj (m0 m c) (m1 m c) (m2 m c) (rowAt t p) ⟨5120 + j.val, by omega⟩ else 0)
      + (if h : j.val < 32 then m5 m c (ix1 ⟨j.val, h⟩) else 0)) else 0)
    = if h : j.val < 32 then softplus (proj (m0 m c) (m1 m c) (m2 m c) (rowAt t p) ⟨5120 + j.val, by omega⟩ + m5 m c (ix1 ⟨j.val, h⟩)) else 0
  by_cases h : j.val < 32
  · simp only [h, if_true, dite_true]
  · simp only [h, if_false, dite_false]

theorem point_7 (t : Fin cfg0.N) (p : Fin 256) (j : Fin 5120) : (outsAt0 m c t.val t.isLt).1 (ix2 p j) = res_7 (m0 m c) (m1 m c) (m2 m c) (m3 m c) (m4 m c) (m5 m c) (ix2 (rowAt t p) j) := by
  rw [left_7 m c t]
  exact (blk_7 (b0 m c t) (b1 m c t) (b2 m c t) p j).trans (proj_eq m c t p _)

theorem point_8 (t : Fin cfg0.N) (p : Fin 256) (j : Fin 1024) : (outsAt0 m c t.val t.isLt).2.1 (ix2 p j) = res_8 (m0 m c) (m1 m c) (m2 m c) (m3 m c) (m4 m c) (m5 m c) (ix2 (rowAt t p) j) := by
  rw [left_8 m c t]
  exact (pay4_apply (b0 m c t) (b1 m c t) p j).trans (norm_eq m c t p j)

theorem point_9 (t : Fin cfg0.N) (p : Fin 256) (j : Fin 3072) : (outsAt0 m c t.val t.isLt).2.2.1 (ix2 p j) = res_9 (m0 m c) (m1 m c) (m2 m c) (m3 m c) (m4 m c) (m5 m c) (ix2 (rowAt t p) j) := by
  by_cases h0 : t.val % 32 = 0
  · rw [left_9_A m c t h0]
    exact (blk_9 (b0 m c t) (b1 m c t) (b2 m c t) (b4 m c t) (b5 m c t) _ p j).trans (act_eq m c t _ (found_A m c t h0) p j)
  · rw [left_9_B m c t h0]
    exact (blk_9 (b0 m c t) (b1 m c t) (b2 m c t) (b4 m c t) (b5 m c t) _ p j).trans (act_eq m c t _ (found_B m c t h0) p j)

theorem point_10 (t : Fin cfg0.N) (p : Fin 256) (j : Fin 3072) : (outsAt0 m c t.val t.isLt).2.2.2.1 (ix2 p j) = res_10 (m0 m c) (m1 m c) (m2 m c) (m3 m c) (m4 m c) (m5 m c) (ix2 (rowAt t p) j) := by
  by_cases h0 : t.val % 32 = 0
  · rw [left_10_A m c t h0]
    exact (blk_10 (b0 m c t) (b1 m c t) (b2 m c t) (b4 m c t) (b5 m c t) _ p j).trans (conv_eq m c t _ (found_A m c t h0) p j)
  · rw [left_10_B m c t h0]
    exact (blk_10 (b0 m c t) (b1 m c t) (b2 m c t) (b4 m c t) (b5 m c t) _ p j).trans (conv_eq m c t _ (found_B m c t h0) p j)

theorem point_11 (t : Fin cfg0.N) (p : Fin 256) (j : Fin 128) : (outsAt0 m c t.val t.isLt).2.2.2.2.1 (ix2 p j) = res_11 (m0 m c) (m1 m c) (m2 m c) (m3 m c) (m4 m c) (m5 m c) (ix2 (rowAt t p) j) := by
  rw [left_11 m c t]
  exact step_eq m c t p j

theorem point_12 (t : Fin cfg0.N) (p : Fin 256) (j : Fin 128) : (outsAt0 m c t.val t.isLt).2.2.2.2.2.1 (ix2 p j) = res_12 (m0 m c) (m1 m c) (m2 m c) (m3 m c) (m4 m c) (m5 m c) (ix2 (rowAt t p) j) := by
  rw [left_12 m c t]
  exact act_step_eq m c t p j

theorem index_7 : ∀ t : Fin cfg0.N, win0_7.index t 0 * 256 = 256 * t.val ∧ win0_7.index t 1 * 5120 = 0 := by decide +kernel

theorem flush_7 : ∀ t : Fin cfg0.N, (cfg0.win 7).flush t = true := by decide +kernel

theorem emb_7 (t : Fin cfg0.N) (p : Fin 256) (j : Fin 5120) :
    ((cfg0.win 7).blk t).view.emb (ix2 p j) = (ix2 (rowAt t p) j : S8192x5120.Idx) :=
  eq_ix2_of (index_7 t) rfl rfl rfl (Nat.zero_add _)

theorem final_7 : (dats m 0 c).arrAt 7 cfg0.N = res_7 (m0 m c) (m1 m c) (m2 m c) (m3 m c) (m4 m c) (m5 m c) := by
  refine (dats m 0 c).arrAt_eq_of_cover 7 (res_7 (m0 m c) (m1 m c) (m2 m c) (m3 m c) (m4 m c) (m5 m c)) (fun t hf => ?_) fun y => ?_
  · rw [Cert.SsmInIdeal.Value.flushed7]
    funext y
    obtain ⟨p, j, rfl⟩ := exists_ix2 y
    rw [View.read_apply, emb_7 t p j]
    exact point_7 m c t p j
  · obtain ⟨i, j, rfl⟩ := exists_ix2 y
    obtain ⟨t, p, rfl⟩ := exists_rowAt i
    exact ⟨t, flush_7 t, emb_7 t p j ▸ View.emb_mem_set _ _⟩

theorem index_8 : ∀ t : Fin cfg0.N, win0_8.index t 0 * 256 = 256 * t.val ∧ win0_8.index t 1 * 1024 = 0 := by decide +kernel

theorem flush_8 : ∀ t : Fin cfg0.N, (cfg0.win 8).flush t = true := by decide +kernel

theorem emb_8 (t : Fin cfg0.N) (p : Fin 256) (j : Fin 1024) :
    ((cfg0.win 8).blk t).view.emb (ix2 p j) = (ix2 (rowAt t p) j : S8192x1024.Idx) :=
  eq_ix2_of (index_8 t) rfl rfl rfl (Nat.zero_add _)

theorem final_8 : (dats m 0 c).arrAt 8 cfg0.N = res_8 (m0 m c) (m1 m c) (m2 m c) (m3 m c) (m4 m c) (m5 m c) := by
  refine (dats m 0 c).arrAt_eq_of_cover 8 (res_8 (m0 m c) (m1 m c) (m2 m c) (m3 m c) (m4 m c) (m5 m c)) (fun t hf => ?_) fun y => ?_
  · rw [Cert.SsmInIdeal.Value.flushed8]
    funext y
    obtain ⟨p, j, rfl⟩ := exists_ix2 y
    rw [View.read_apply, emb_8 t p j]
    exact point_8 m c t p j
  · obtain ⟨i, j, rfl⟩ := exists_ix2 y
    obtain ⟨t, p, rfl⟩ := exists_rowAt i
    exact ⟨t, flush_8 t, emb_8 t p j ▸ View.emb_mem_set _ _⟩

theorem index_9 : ∀ t : Fin cfg0.N, win0_9.index t 0 * 256 = 256 * t.val ∧ win0_9.index t 1 * 3072 = 0 := by decide +kernel

theorem flush_9 : ∀ t : Fin cfg0.N, (cfg0.win 9).flush t = true := by decide +kernel

theorem emb_9 (t : Fin cfg0.N) (p : Fin 256) (j : Fin 3072) :
    ((cfg0.win 9).blk t).view.emb (ix2 p j) = (ix2 (rowAt t p) j : S8192x3072.Idx) :=
  eq_ix2_of (index_9 t) rfl rfl rfl (Nat.zero_add _)

theorem final_9 : (dats m 0 c).arrAt 9 cfg0.N = res_9 (m0 m c) (m1 m c) (m2 m c) (m3 m c) (m4 m c) (m5 m c) := by
  refine (dats m 0 c).arrAt_eq_of_cover 9 (res_9 (m0 m c) (m1 m c) (m2 m c) (m3 m c) (m4 m c) (m5 m c)) (fun t hf => ?_) fun y => ?_
  · rw [Cert.SsmInIdeal.Value.flushed9]
    funext y
    obtain ⟨p, j, rfl⟩ := exists_ix2 y
    rw [View.read_apply, emb_9 t p j]
    exact point_9 m c t p j
  · obtain ⟨i, j, rfl⟩ := exists_ix2 y
    obtain ⟨t, p, rfl⟩ := exists_rowAt i
    exact ⟨t, flush_9 t, emb_9 t p j ▸ View.emb_mem_set _ _⟩

theorem index_10 : ∀ t : Fin cfg0.N, win0_10.index t 0 * 256 = 256 * t.val ∧ win0_10.index t 1 * 3072 = 0 := by decide +kernel

theorem flush_10 : ∀ t : Fin cfg0.N, (cfg0.win 10).flush t = true := by decide +kernel

theorem emb_10 (t : Fin cfg0.N) (p : Fin 256) (j : Fin 3072) :
    ((cfg0.win 10).blk t).view.emb (ix2 p j) = (ix2 (rowAt t p) j : S8192x3072.Idx) :=
  eq_ix2_of (index_10 t) rfl rfl rfl (Nat.zero_add _)

theorem final_10 : (dats m 0 c).arrAt 10 cfg0.N = res_10 (m0 m c) (m1 m c) (m2 m c) (m3 m c) (m4 m c) (m5 m c) := by
  refine (dats m 0 c).arrAt_eq_of_cover 10 (res_10 (m0 m c) (m1 m c) (m2 m c) (m3 m c) (m4 m c) (m5 m c)) (fun t hf => ?_) fun y => ?_
  · rw [Cert.SsmInIdeal.Value.flushed10]
    funext y
    obtain ⟨p, j, rfl⟩ := exists_ix2 y
    rw [View.read_apply, emb_10 t p j]
    exact point_10 m c t p j
  · obtain ⟨i, j, rfl⟩ := exists_ix2 y
    obtain ⟨t, p, rfl⟩ := exists_rowAt i
    exact ⟨t, flush_10 t, emb_10 t p j ▸ View.emb_mem_set _ _⟩

theorem index_11 : ∀ t : Fin cfg0.N, win0_11.index t 0 * 256 = 256 * t.val ∧ win0_11.index t 1 * 128 = 0 := by decide +kernel

theorem flush_11 : ∀ t : Fin cfg0.N, (cfg0.win 11).flush t = true := by decide +kernel

theorem emb_11 (t : Fin cfg0.N) (p : Fin 256) (j : Fin 128) :
    ((cfg0.win 11).blk t).view.emb (ix2 p j) = (ix2 (rowAt t p) j : S8192x128.Idx) :=
  eq_ix2_of (index_11 t) rfl rfl rfl (Nat.zero_add _)

theorem final_11 : (dats m 0 c).arrAt 11 cfg0.N = res_11 (m0 m c) (m1 m c) (m2 m c) (m3 m c) (m4 m c) (m5 m c) := by
  refine (dats m 0 c).arrAt_eq_of_cover 11 (res_11 (m0 m c) (m1 m c) (m2 m c) (m3 m c) (m4 m c) (m5 m c)) (fun t hf => ?_) fun y => ?_
  · rw [Cert.SsmInIdeal.Value.flushed11]
    funext y
    obtain ⟨p, j, rfl⟩ := exists_ix2 y
    rw [View.read_apply, emb_11 t p j]
    exact point_11 m c t p j
  · obtain ⟨i, j, rfl⟩ := exists_ix2 y
    obtain ⟨t, p, rfl⟩ := exists_rowAt i
    exact ⟨t, flush_11 t, emb_11 t p j ▸ View.emb_mem_set _ _⟩

theorem index_12 : ∀ t : Fin cfg0.N, win0_12.index t 0 * 256 = 256 * t.val ∧ win0_12.index t 1 * 128 = 0 := by decide +kernel

theorem flush_12 : ∀ t : Fin cfg0.N, (cfg0.win 12).flush t = true := by decide +kernel

theorem emb_12 (t : Fin cfg0.N) (p : Fin 256) (j : Fin 128) :
    ((cfg0.win 12).blk t).view.emb (ix2 p j) = (ix2 (rowAt t p) j : S8192x128.Idx) :=
  eq_ix2_of (index_12 t) rfl rfl rfl (Nat.zero_add _)

theorem final_12 : (dats m 0 c).arrAt 12 cfg0.N = res_12 (m0 m c) (m1 m c) (m2 m c) (m3 m c) (m4 m c) (m5 m c) := by
  refine (dats m 0 c).arrAt_eq_of_cover 12 (res_12 (m0 m c) (m1 m c) (m2 m c) (m3 m c) (m4 m c) (m5 m c)) (fun t hf => ?_) fun y => ?_
  · rw [Cert.SsmInIdeal.Value.flushed12]
    funext y
    obtain ⟨p, j, rfl⟩ := exists_ix2 y
    rw [View.read_apply, emb_12 t p j]
    exact point_12 m c t p j
  · obtain ⟨i, j, rfl⟩ := exists_ix2 y
    obtain ⟨t, p, rfl⟩ := exists_rowAt i
    exact ⟨t, flush_12 t, emb_12 t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v7_0) = res_7 (m0 m c) (m1 m c) (m2 m c) (m3 m c) (m4 m c) (m5 m c)
      ∧ r.2.mem ((c : Thread nD τ).loc main_v7_1) = res_8 (m0 m c) (m1 m c) (m2 m c) (m3 m c) (m4 m c) (m5 m c)
      ∧ r.2.mem ((c : Thread nD τ).loc main_v7_2) = res_9 (m0 m c) (m1 m c) (m2 m c) (m3 m c) (m4 m c) (m5 m c)
      ∧ r.2.mem ((c : Thread nD τ).loc main_v7_3) = res_10 (m0 m c) (m1 m c) (m2 m c) (m3 m c) (m4 m c) (m5 m c)
      ∧ r.2.mem ((c : Thread nD τ).loc main_v7_4) = res_11 (m0 m c) (m1 m c) (m2 m c) (m3 m c) (m4 m c) (m5 m c)
      ∧ r.2.mem ((c : Thread nD τ).loc main_v7_5) = res_12 (m0 m c) (m1 m c) (m2 m c) (m3 m c) (m4 m c) (m5 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_7 m c), ((h c).2).1.trans (final_8 m c), ((h c).2.2).1.trans (final_9 m c), ((h c).2.2.2).1.trans (final_10 m c), ((h c).2.2.2.2).1.trans (final_11 m c), ((h c).2.2.2.2.2).1.trans (final_12 m c), (h c).2.2.2.2.2.2⟩) (Cert.SsmInIdeal.Value.run_blocks m ρ)
end

end Cert.SsmIn

namespace Cert.SsmIn

open Cert.SsmInReferenceIdeal Cert.SsmInReferenceIdeal.Gen Cert.SsmInReferenceIdeal.Read

theorem ref_norm (A0 : FVec Ideal S8192x1024 .f32) (A1 : FVec Ideal S1x1024 .f32) (i : Fin 8192) (k : Fin 1024) :
    (val_main_v11 (F := Ideal) A0 A1 : S8192x1024.Idx → EReal) (ix2 i k) = norm A0 A1 i k := by
  unfold val_main_v11 val_main_v9 val_main_v8 val_main_v7 val_main_v6 val_main_v4 val_main_v2 val_main_v1 val_main_v0 val_main_v3 val_main_v5 val_main_v10 val_main_cst val_main_cst_0 val_main_cst_1
  pointwise
  rfl

theorem ref_proj (A0 : FVec Ideal S8192x1024 .f32) (A1 : FVec Ideal S1x1024 .f32) (A2 : FVec Ideal S1024x5152 .f32) (i : Fin 8192) (j : Fin 5152) :
    (val_main_v12 (F := Ideal) A0 A1 A2 : S8192x5152.Idx → EReal) (ix2 i j) = proj A0 A1 A2 i j := by
  have h := ref_norm A0 A1
  unfold val_main_v12
  generalize val_main_v11 (F := Ideal) A0 A1 = N at h ⊢
  pointwise
  exact Finset.sum_congr rfl fun k _ => congrArg (· * _) (h i k)

theorem past_eq (A0 : S8192x1024.Idx → EReal) (A1 : FVec Ideal S1x1024 .f32) (A2 : FVec Ideal S1024x5152 .f32) (P : S8192x5152.Idx → EReal) (hP : ∀ i j, P (ix2 i j) = proj A0 A1 A2 i j) (r s : ℕ) (j : Fin 3072) (hs : s = r + 5)
    (h0 : ∀ _ : ¬r < 3, r - 3 < 8192) (hj : 2048 + j.val < 5152) :
    (if h : r < 3 then 0 else P (ix2 ⟨r - 3, h0 h⟩ ⟨2048 + j.val, hj⟩)) = past A0 A1 A2 s j := by
  subst hs
  unfold past
  split_ifs with h h' h'' h'
  · rfl
  · omega
  · omega
  · omega
  · rw [hP]
    exact congrArg (proj A0 A1 A2 · _) (Fin.ext (by show r - 3 = r + 5 - 8; omega))
  · omega

theorem conv_sum (a b d f e : EReal) : a + b + d + f + e = e + f + d + b + a := by
  rw [add_comm (a + b + d + f) e, add_comm (a + b + d) f, add_comm (a + b) d, add_comm a b, ← add_assoc, ← add_assoc, ← add_assoc]

theorem conv_ref (A0 : S8192x1024.Idx → EReal) (A1 : S1x1024.Idx → EReal) (A2 : S1024x5152.Idx → EReal) (A3 : S4x3072.Idx → EReal) (A4 : S1x3072.Idx → EReal) (P : S8192x5152.Idx → EReal) (hP : ∀ i j, P (ix2 i j) = proj A0 A1 A2 i j) (i : Fin 8192) (j : Fin 3072)
    (h0 : ∀ _ : ¬i.val < 3, i.val - 3 < 8192) (h1 : ∀ _ : ¬1 + i.val < 3, 1 + i.val - 3 < 8192) (h2 : ∀ _ : ¬2 + i.val < 3, 2 + i.val - 3 < 8192) (hj : 2048 + j.val < 5152) :
    (if h : i.val < 3 then 0 else P (ix2 ⟨i.val - 3, h0 h⟩ ⟨2048 + j.val, hj⟩)) * A3 (ix2 0 j)
      + (if h : 1 + i.val < 3 then 0 else P (ix2 ⟨1 + i.val - 3, h1 h⟩ ⟨2048 + j.val, hj⟩)) * A3 (ix2 1 j)
      + (if h : 2 + i.val < 3 then 0 else P (ix2 ⟨2 + i.val - 3, h2 h⟩ ⟨2048 + j.val, hj⟩)) * A3 (ix2 2 j)
      + P (ix2 i ⟨2048 + j.val, hj⟩) * A3 (ix2 3 j) + A4 (ix2 0 j) = conv A0 A1 A2 A3 A4 i j := by
  rw [past_eq A0 A1 A2 P hP i.val (i.val + 5) j rfl, past_eq A0 A1 A2 P hP (1 + i.val) (i.val + 6) j (by omega),
    past_eq A0 A1 A2 P hP (2 + i.val) (i.val + 7) j (by omega), hP, conv_sum]
  rfl

theorem ref_conv (A0 : FVec Ideal S8192x1024 .f32) (A1 : FVec Ideal S1x1024 .f32) (A2 : FVec Ideal S1024x5152 .f32) (A3 : FVec Ideal S4x3072 .f32) (A4 : FVec Ideal S1x3072 .f32) (i : Fin 8192) (j : Fin 3072) :
    (val_main_v48 (F := Ideal) A0 A1 A2 A3 A4 : S8192x3072.Idx → EReal) (ix2 i j) = conv A0 A1 A2 A3 A4 i j := by
  have h := ref_proj A0 A1 A2
  unfold val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v14 val_main_cst_2 val_main_cst_3
  generalize val_main_v12 (F := Ideal) A0 A1 A2 = P at h ⊢
  pointwise
  exact conv_ref A0 A1 A2 A3 A4 P h i j (fun _ => by omega) (fun _ => by omega) (fun _ => by omega) (by omega)

theorem softplus_eq (x : EReal) : (if x ≠ x then x else max x 0 + Ideal.log1p (Ideal.exp (-FloatOps.absf (F := Ideal) (φ := .f32) x))) = softplus x := by
  rw [if_neg (not_not.mpr rfl)]
  unfold softplus Ideal.log1p
  rw [zero_sub]

/-- What the reference computes. -/
theorem reference_eq_7 (A0 : FVec Ideal S8192x1024 .f32) (A1 : FVec Ideal S1x1024 .f32) (A2 : FVec Ideal S1024x5152 .f32) (A3 : FVec Ideal S4x3072 .f32) (A4 : FVec Ideal S1x3072 .f32) (A5 : FVec Ideal S32 .f32) :
    (val_main_v49 (F := Ideal) A0 A1 A2 : FVec Ideal S8192x5120 .f32) = res_7 A0 A1 A2 A3 A4 A5 := by
  funext y
  obtain ⟨i, j, rfl⟩ := exists_ix2 y
  have h := ref_proj A0 A1 A2
  unfold val_main_v49 val_main_v13 val_main_v14
  generalize val_main_v12 (F := Ideal) A0 A1 A2 = P at h ⊢
  pointwise
  refine Eq.trans ?_ (h i ⟨j.val, by omega⟩)
  split_ifs with hj
  · rfl
  all_goals exact congrArg (fun a => P (ix2 i a)) (Fin.ext (by show 2048 + (j.val - 2048) = j.val; omega))

/-- What the reference computes. -/
theorem reference_eq_8 (A0 : FVec Ideal S8192x1024 .f32) (A1 : FVec Ideal S1x1024 .f32) (A2 : FVec Ideal S1024x5152 .f32) (A3 : FVec Ideal S4x3072 .f32) (A4 : FVec Ideal S1x3072 .f32) (A5 : FVec Ideal S32 .f32) :
    (val_main_v50 (F := Ideal) A0 A1 : FVec Ideal S8192x1024 .bf16) = res_8 A0 A1 A2 A3 A4 A5 := by
  funext y
  obtain ⟨i, j, rfl⟩ := exists_ix2 y
  unfold val_main_v50
  exact ref_norm A0 A1 i j

/-- What the reference computes. -/
theorem reference_eq_9 (A0 : FVec Ideal S8192x1024 .f32) (A1 : FVec Ideal S1x1024 .f32) (A2 : FVec Ideal S1024x5152 .f32) (A3 : FVec Ideal S4x3072 .f32) (A4 : FVec Ideal S1x3072 .f32) (A5 : FVec Ideal S32 .f32) :
    (val_main_v51 (F := Ideal) A0 A1 A2 A3 A4 : FVec Ideal S8192x3072 .f32) = res_9 A0 A1 A2 A3 A4 A5 := by
  funext y
  obtain ⟨i, j, rfl⟩ := exists_ix2 y
  have h := ref_conv A0 A1 A2 A3 A4
  unfold val_main_v51 val_main_call0_v5 val_main_call0_v4 val_main_call0_v3 val_main_call0_v2 val_main_call0_v1 val_main_call0_v0 val_main_call0_cst val_main_call0_cst_0
  generalize val_main_v48 (F := Ideal) A0 A1 A2 A3 A4 = C at h ⊢
  pointwise
  rw [h]
  rfl

/-- What the reference computes. -/
theorem reference_eq_10 (A0 : FVec Ideal S8192x1024 .f32) (A1 : FVec Ideal S1x1024 .f32) (A2 : FVec Ideal S1024x5152 .f32) (A3 : FVec Ideal S4x3072 .f32) (A4 : FVec Ideal S1x3072 .f32) (A5 : FVec Ideal S32 .f32) :
    (val_main_v52 (F := Ideal) A0 A1 A2 A3 A4 : FVec Ideal S8192x3072 .bf16) = res_10 A0 A1 A2 A3 A4 A5 := by
  funext y
  obtain ⟨i, j, rfl⟩ := exists_ix2 y
  unfold val_main_v52
  exact ref_conv A0 A1 A2 A3 A4 i j

/-- What the reference computes. -/
theorem reference_eq_11 (A0 : FVec Ideal S8192x1024 .f32) (A1 : FVec Ideal S1x1024 .f32) (A2 : FVec Ideal S1024x5152 .f32) (A3 : FVec Ideal S4x3072 .f32) (A4 : FVec Ideal S1x3072 .f32) (A5 : FVec Ideal S32 .f32) :
    (val_main_v53 (F := Ideal) A0 A1 A2 : FVec Ideal S8192x128 .f32) = res_11 A0 A1 A2 A3 A4 A5 := by
  funext y
  obtain ⟨i, j, rfl⟩ := exists_ix2 y
  have h := ref_proj A0 A1 A2
  unfold val_main_v53 val_main_v15 val_main_call1_v0 val_main_c
  generalize val_main_v12 (F := Ideal) A0 A1 A2 = P at h ⊢
  pointwise
  unfold res_11
  show _ = if h : j.val < 32 then proj A0 A1 A2 i ⟨5120 + j.val, by omega⟩ else 0
  split_ifs with hj
  · exact h i _
  · exact int_zero _

/-- What the reference computes. -/
theorem reference_eq_12 (A0 : FVec Ideal S8192x1024 .f32) (A1 : FVec Ideal S1x1024 .f32) (A2 : FVec Ideal S1024x5152 .f32) (A3 : FVec Ideal S4x3072 .f32) (A4 : FVec Ideal S1x3072 .f32) (A5 : FVec Ideal S32 .f32) :
    (val_main_v58 (F := Ideal) A0 A1 A2 A5 : FVec Ideal S8192x128 .f32) = res_12 A0 A1 A2 A3 A4 A5 := by
  funext y
  obtain ⟨i, j, rfl⟩ := exists_ix2 y
  have h := ref_proj A0 A1 A2
  unfold val_main_v58 val_main_v57 val_main_call2_v11 val_main_call2_v10 val_main_call2_v9 val_main_call2_v8 val_main_call2_v7 val_main_call2_v6 val_main_call2_v5 val_main_call2_v4 val_main_call2_v3 val_main_call2_v2 val_main_call2_v1 val_main_call2_v0 val_main_call2_cst val_main_v56 val_main_v55 val_main_v54 val_main_v15 val_main_call3_v0 val_main_c_4
  generalize val_main_v12 (F := Ideal) A0 A1 A2 = P at h ⊢
  pointwise
  unfold res_12
  show _ = if h : j.val < 32 then softplus (proj A0 A1 A2 i ⟨5120 + j.val, by omega⟩ + A5 (ix1 ⟨j.val, h⟩)) else 0
  by_cases hj : j.val < 32
  · rw [dif_pos hj, dif_pos hj, ← h]
    exact softplus_eq _
  · rw [dif_neg hj, dif_neg hj]
    exact int_zero _

end Cert.SsmIn

end
-- ==== Proof.AdamRows.lean ====
/-
  Facts the launches of the optimiser share: its formulas on extended reals, and what a three-dimensional buffer holds
  after loads and stores of it.
-/
module

public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.PureOps.Ideal

@[expose] public section

noncomputable section

open Idealize.ShloMosaic Idealize.ShloMosaic.TcCoe Idealize.SL.Sem

namespace Cert.AdamRows

theorem emb_ix3 {K M N k m n q r o : ℕ}
    (h : ∀ a, (![q, r, o] : Fin 3 → ℕ) a + (![k, m, n] : Fin 3 → ℕ) a ≤ (⟨3, ![K, M, N]⟩ : Shape).size a)
    (u : Fin k) (p : Fin m) (j : Fin n) :
    (Rect.unit (s := ⟨3, ![K, M, N]⟩) ![q, r, o] ![k, m, n] h).emb (ix3 u p j)
      = ix3 ⟨q + u.val, by have := h 0; simp at this; omega⟩ ⟨r + p.val, by have := h 1; simp at this; omega⟩
          ⟨o + j.val, by have := h 2; simp at this; omega⟩ := by
  funext a; fin_cases a <;> exact Fin.ext (by simp [Rect.unit, Rect.emb, LoadRect.idx])

/-- An entry of a loaded rectangle is the buffer's entry at the rectangle's offset. -/
theorem ld_ix3 {K M N k m n q : ℕ} {e : EltTy} (X : (⟨3, ![K, M, N]⟩ : Shape).Idx → Elt Ideal e)
    (h : ∀ a, (![q, 0, 0] : Fin 3 → ℕ) a + (![k, m, n] : Fin 3 → ℕ) a ≤ (⟨3, ![K, M, N]⟩ : Shape).size a)
    (u : Fin k) (p : Fin m) (j : Fin n) (u' : Fin K) (p' : Fin M) (j' : Fin N)
    (hu : q + u.val = u'.val) (hp : p.val = p'.val) (hj : j.val = j'.val) :
    View.ld (Val := Elt Ideal) X (Rect.unit (s := ⟨3, ![K, M, N]⟩) ![q, 0, 0] ![k, m, n] h) (ix3 u p j) = X (ix3 u' p' j') := by
  refine congrArg X ((emb_ix3 h u p j).trans ?_)
  have e0 : ∀ (a b : Fin K) (c d : Fin M) (f g : Fin N), a = b → c = d → f = g → ix3 a c f = ix3 b d g := by
    rintro _ _ _ _ _ _ rfl rfl rfl; rfl
  exact e0 _ _ _ _ _ _ (Fin.ext hu) (Fin.ext ((Nat.zero_add _).trans hp)) (Fin.ext ((Nat.zero_add _).trans hj))

theorem ld_all {K M N : ℕ} {e : EltTy} (X : (⟨3, ![K, M, N]⟩ : Shape).Idx → Elt Ideal e)
    (h : ∀ a, (![0, 0, 0] : Fin 3 → ℕ) a + (![K, M, N] : Fin 3 → ℕ) a ≤ (⟨3, ![K, M, N]⟩ : Shape).size a) :
    View.ld (Val := Elt Ideal) X (Rect.unit (s := ⟨3, ![K, M, N]⟩) ![0, 0, 0] ![K, M, N] h) = X := by
  funext y
  obtain ⟨u, p, j, rfl⟩ : ∃ (u : Fin K) (p : Fin M) (j : Fin N), y = ix3 u p j := ⟨y 0, y 1, y 2, eq_ix3 y⟩
  exact ld_ix3 X h u p j u p j (Nat.zero_add _) rfl rfl

/-- One store of the whole buffer leaves what it stores. -/
theorem canon_all {K M N : ℕ} {e : EltTy}
    (h : ∀ a, (![0, 0, 0] : Fin 3 → ℕ) a + (![K, M, N] : Fin 3 → ℕ) a ≤ (⟨3, ![K, M, N]⟩ : Shape).size a)
    (w : (⟨3, ![K, M, N]⟩ : Shape).Idx → Elt Ideal e) :
    View.canon (Val := Elt Ideal) [⟨Rect.unit (s := ⟨3, ![K, M, N]⟩) ![0, 0, 0] ![K, M, N] h, w⟩] = w := by
  funext y
  obtain ⟨u, p, j, rfl⟩ : ∃ (u : Fin K) (p : Fin M) (j : Fin N), y = ix3 u p j := ⟨y 0, y 1, y 2, eq_ix3 y⟩
  have e := View.canon_cons_emb (Rect.unit (s := ⟨3, ![K, M, N]⟩) ![0, 0, 0] ![K, M, N] h) w [] (ix3 u p j)
  rw [emb_ix3] at e
  refine Eq.trans ?_ e
  refine congrArg (View.canon _) (funext fun a => Fin.ext ?_)
  match a with
  | ⟨0, _⟩ => exact (Nat.zero_add _).symm
  | ⟨1, _⟩ => exact (Nat.zero_add _).symm
  | ⟨2, _⟩ => exact (Nat.zero_add _).symm

theorem exists_ix3 {M N : ℕ} (y : (⟨3, ![1, M, N]⟩ : Shape).Idx) : ∃ (p : Fin M) (j : Fin N), y = ix3 0 p j := by
  obtain ⟨u, p, j, rfl⟩ : ∃ (u : Fin 1) (p : Fin M) (j : Fin N), y = ix3 u p j := ⟨y 0, y 1, y 2, eq_ix3 y⟩
  obtain rfl : u = 0 := Subsingleton.elim _ _
  exact ⟨p, j, rfl⟩

/-- The new first moment. -/
def newM (m g : EReal) : EReal := Ideal.ofBits .f32 0x3F666666#32 * m + Ideal.ofBits .f32 0x3DCCCCCD#32 * g

/-- The new second moment. -/
def newV (v g : EReal) : EReal := Ideal.ofBits .f32 0x3F7FBE77#32 * v + Ideal.ofBits .f32 0x3A83126F#32 * (g * g)

/-- The change of the weight. -/
def delta (w m v g : EReal) : EReal :=
  Ideal.ofBits .f32 0xBA83126F#32 *
    (Ideal.div (Ideal.div (newM m g) (Ideal.ofBits .f32 0x3F26BD02#32))
        (Ideal.sqrt (Ideal.div (newV v g) (Ideal.ofBits .f32 0x3C231ACC#32)) + Ideal.ofBits .f32 0x322BCC77#32)
      + Ideal.ofBits .f32 0x3C23D70A#32 * w)

/-- The choice between two layers by the grid's first coordinate. -/
theorem select_layer {α : Type} (n : Fin 2) (a b : α) :
    Scalar.select (Scalar.cmpi .eq (BitVec.ofNat 32 n.val) 1#32) a b = if n.val = 1 then a else b := by
  fin_cases n <;> rfl

/-- Every row of an array is a row of one of its blocks. -/
theorem exists_point {nl r tr nt N : ℕ} (hN : N = nl * nt) (hr : r = nt * tr) (a : Fin nl) (b : Fin r) :
    ∃ (t : Fin N) (p : Fin tr), t.val / nt = a.val ∧ tr * (t.val % nt) + p.val = b.val := by
  have hb : b.val < tr * nt := lt_of_lt_of_eq b.isLt (hr.trans (Nat.mul_comm _ _))
  have htr : 0 < tr := Nat.pos_of_ne_zero fun h => by rw [h, Nat.zero_mul] at hb; omega
  have hq : b.val / tr < nt := Nat.div_lt_of_lt_mul hb
  have hlt : a.val * nt + b.val / tr < N := by
    rw [hN]
    calc a.val * nt + b.val / tr < a.val * nt + nt := Nat.add_lt_add_left hq _
      _ = (a.val + 1) * nt := by rw [Nat.succ_mul]
      _ ≤ nl * nt := Nat.mul_le_mul_right _ a.isLt
  refine ⟨⟨a.val * nt + b.val / tr, hlt⟩, ⟨b.val % tr, Nat.mod_lt _ htr⟩, ?_, ?_⟩
  · show (a.val * nt + b.val / tr) / nt = a.val
    rw [Nat.add_comm, Nat.add_mul_div_right _ _ (Nat.zero_lt_of_lt hq), Nat.div_eq_of_lt hq, Nat.zero_add]
  · show tr * ((a.val * nt + b.val / tr) % nt) + b.val % tr = b.val
    rw [Nat.add_comm (a.val * nt), Nat.add_mul_mod_self_right, Nat.mod_eq_of_lt hq, Nat.div_add_mod]

end Cert.AdamRows

end
-- ==== Proof.AdamAttnWInValue.lean ====
/-
  The optimiser's launch on the attention layer's input weight: the gradient, the change of the
  weight and the new moments; what its arrays hold after the grid, and what the reference computes.
-/
module

public import proofs.«01_k».proof.Proof.AdamRows
public import Idealize.ShloMosaic.Lib.StableHlo.ReadAt
public import proofs.«01_k».proof.Proof.Gen.AdamAttnWInIdeal.Value
public import proofs.«01_k».proof.Proof.Gen.AdamAttnWInReferenceIdeal.Run
public import proofs.«01_k».proof.Proof.Gen.AdamAttnWInReferenceIdeal.Read

@[expose] public section

set_option maxRecDepth 16384
noncomputable section
open Idealize.ShloMosaic Idealize.ShloMosaic.TcCoe Idealize.SL.Sem Cert.AdamRows

namespace Cert.AdamAttnWIn

open Cert.AdamAttnWInIdeal Cert.AdamAttnWInIdeal.Gen

/-- The gradient. -/
def grad (X0 : S1024x288.Idx → EReal) (y : S1x1024x288.Idx) : EReal :=
  X0 (ix2 (y 1) (y 2))

def res_4 (X0 : S1024x288.Idx → EReal) (_X1 : S1x1024x288.Idx → EReal) (_X2 : S1x1024x288.Idx → EReal) (_X3 : S1x1024x288.Idx → EReal) (y : S1x1024x288.Idx) : EReal := grad X0 y
def res_5 (X0 : S1024x288.Idx → EReal) (X1 : S1x1024x288.Idx → EReal) (X2 : S1x1024x288.Idx → EReal) (X3 : S1x1024x288.Idx → EReal) (y : S1x1024x288.Idx) : EReal := delta (X1 y) (X2 y) (X3 y) (grad X0 y)
def res_6 (X0 : S1024x288.Idx → EReal) (_X1 : S1x1024x288.Idx → EReal) (X2 : S1x1024x288.Idx → EReal) (_X3 : S1x1024x288.Idx → EReal) (y : S1x1024x288.Idx) : EReal := newM (X2 y) (grad X0 y)
def res_7 (X0 : S1024x288.Idx → EReal) (_X1 : S1x1024x288.Idx → EReal) (_X2 : S1x1024x288.Idx → EReal) (X3 : S1x1024x288.Idx → EReal) (y : S1x1024x288.Idx) : EReal := newV (X3 y) (grad X0 y)

theorem blk_4 (x0 : Vec Ideal S1x256x288 .f32) (x1 x2 x3 : Vec Ideal S1x256x288 .f32) (p : Fin 256) (j : Fin 288) :
    out0_4 (F := Ideal) x0 x1 x2 x3 (ix3 0 p j) = (x0 (ix3 0 p j) : EReal) := by
  unfold out0_4
  rw [canon_all]
  unfold k0_pay5 k0_pay2
  pointwise

theorem blk_5 (x0 : Vec Ideal S1x256x288 .f32) (x1 x2 x3 : Vec Ideal S1x256x288 .f32) (p : Fin 256) (j : Fin 288) :
    out0_5 (F := Ideal) x0 x1 x2 x3 (ix3 0 p j) = delta (x1 (ix3 0 p j)) (x2 (ix3 0 p j)) (x3 (ix3 0 p j)) (out0_4 (F := Ideal) x0 x1 x2 x3 (ix3 0 p j)) := by
  unfold out0_5
  unfold out0_4
  rw [canon_all, canon_all]
  generalize k0_pay2 (F := Ideal) _ = g
  unfold k0_pay1 k0_pay8 k0_pay9 k0_pay3 k0_pay4 k0_pay5
  pointwise
  rfl

theorem blk_6 (x0 : Vec Ideal S1x256x288 .f32) (x1 x2 x3 : Vec Ideal S1x256x288 .f32) (p : Fin 256) (j : Fin 288) :
    out0_6 (F := Ideal) x0 x1 x2 x3 (ix3 0 p j) = newM (x2 (ix3 0 p j)) (out0_4 (F := Ideal) x0 x1 x2 x3 (ix3 0 p j)) := by
  unfold out0_6
  unfold out0_4
  rw [canon_all, canon_all]
  generalize k0_pay2 (F := Ideal) _ = g
  unfold k0_pay6 k0_pay3 k0_pay5
  pointwise
  rfl

theorem blk_7 (x0 : Vec Ideal S1x256x288 .f32) (x1 x2 x3 : Vec Ideal S1x256x288 .f32) (p : Fin 256) (j : Fin 288) :
    out0_7 (F := Ideal) x0 x1 x2 x3 (ix3 0 p j) = newV (x3 (ix3 0 p j)) (out0_4 (F := Ideal) x0 x1 x2 x3 (ix3 0 p j)) := by
  unfold out0_7
  unfold out0_4
  rw [canon_all, canon_all]
  generalize k0_pay2 (F := Ideal) _ = g
  unfold k0_pay7 k0_pay4 k0_pay5
  pointwise
  rfl

section
variable (m : (ℓ : Loc nD τ sig) → Buf (Elt Ideal) ℓ) (c : Dev nD)

abbrev m0 : S1024x288.Idx → EReal := m ((c : Thread nD τ).loc main_arg0)
abbrev m1 : S1x1024x288.Idx → EReal := m ((c : Thread nD τ).loc main_arg1)
abbrev m2 : S1x1024x288.Idx → EReal := m ((c : Thread nD τ).loc main_arg2)
abbrev m3 : S1x1024x288.Idx → EReal := m ((c : Thread nD τ).loc main_arg3)
abbrev b0 (t : Fin cfg0.N) : S1x256x288.Idx → EReal := iblk m c 0 t
abbrev b1 (t : Fin cfg0.N) : S1x256x288.Idx → EReal := iblk m c 1 t
abbrev b2 (t : Fin cfg0.N) : S1x256x288.Idx → EReal := iblk m c 2 t
abbrev b3 (t : Fin cfg0.N) : S1x256x288.Idx → EReal := iblk m c 3 t

theorem host_0 (k : Fin 1) (a : Fin 1024) (b : Fin 288) : V m c main_v0 (ix3 k a b) = m0 m c (ix2 a b) := by
  unfold V hostOps0
  simp only [List.flatten_cons, List.flatten_nil, List.cons_append, List.nil_append, List.append_nil]
  after_reads_at

theorem point_lt (t : Fin cfg0.N) : t.val < 4 := lt_of_lt_of_eq t.isLt (show cfg0.N = 4 from N_0)

/-- The array's row at row `p` of the block of point `t`. -/
def rowAt (t : Fin cfg0.N) (p : Fin 256) : Fin 1024 := ⟨256 * (t.val % 4) + p.val, by omega⟩

def idxAt (t : Fin cfg0.N) (p : Fin 256) (j : Fin 288) : S1x1024x288.Idx :=
  ix3 (⟨t.val / 4, by have := point_lt t; omega⟩ : Fin 1) (rowAt t p) j

theorem exists_idxAt (y : S1x1024x288.Idx) : ∃ t p j, idxAt t p j = y := by
  obtain ⟨a, b, j, rfl⟩ : ∃ (a : Fin 1) (b : Fin 1024) (j : Fin 288), y = ix3 a b j := ⟨y 0, y 1, y 2, eq_ix3 y⟩
  obtain ⟨t, p, h0, h1⟩ := exists_point (tr := 256) (nt := 4) (show cfg0.N = 1 * 4 from N_0) (by decide) a b
  refine ⟨t, p, j, funext fun d => Fin.ext ?_⟩
  match d with
  | ⟨0, _⟩ => exact h0
  | ⟨1, _⟩ => exact h1
  | ⟨2, _⟩ => rfl

/-- Where the block of a point starts. -/
def start (t : Fin cfg0.N) : Fin 3 → ℕ := ![t.val / 4, 256 * (t.val % 4), 0]

theorem eq_idxAt (t : Fin cfg0.N) (p : Fin 256) (j : Fin 288) (x : S1x1024x288.Idx)
    (h : ∀ d, (x d).val = start t d + 1 * ((ix3 0 p j : S1x256x288.Idx) d).val) : x = idxAt t p j := by
  refine funext fun d => Fin.ext ((h d).trans ?_)
  match d with
  | ⟨0, _⟩ => rfl
  | ⟨1, _⟩ => exact congrArg _ (Nat.one_mul _)
  | ⟨2, _⟩ => exact (Nat.zero_add _).trans (Nat.one_mul _)

theorem iblk_0 (t : Fin cfg0.N) (k : Fin 1) (p : Fin 256) (j : Fin 288) : b0 m c t (ix3 k p j) = m0 m c (ix2 (rowAt t p) j) := by
  have hi : ∀ t : Fin cfg0.N, win0_0.index t 0 = 0 ∧ win0_0.index t 1 = t.val % 4 ∧ win0_0.index t 2 = 0 := by decide +kernel
  have hi := hi t
  rw [← host_0 m c k (rowAt t p) j]
  unfold b0 iblk
  rw [View.read_apply]
  show V m c main_v0 _ = V m c main_v0 _
  refine congrArg (V m c main_v0) (funext fun d => Fin.ext ?_)
  match d with
  | ⟨0, _⟩ => show win0_0.index t 0 * 1 + 1 * k.val = k.val; rw [hi.1]; omega
  | ⟨1, _⟩ => show win0_0.index t 1 * 256 + 1 * p.val = 256 * (t.val % 4) + p.val; rw [hi.2.1]; omega
  | ⟨2, _⟩ => show win0_0.index t 2 * 288 + 1 * j.val = j.val; rw [hi.2.2]; omega

theorem iblk_1 (t : Fin cfg0.N) (p : Fin 256) (j : Fin 288) : b1 m c t (ix3 0 p j) = m1 m c (idxAt t p j) := by
  have hi : ∀ t d, win0_1.index t d * S1x256x288.size d = start t d := by decide +kernel
  refine Eq.trans ?_ (congrFun (V_main_arg1 m c) (idxAt t p j))
  unfold b1 iblk
  rw [View.read_apply]
  exact congrArg (V m c main_arg1) (eq_idxAt t p j _ fun d => congrArg (· + _) (hi t d))

theorem iblk_2 (t : Fin cfg0.N) (p : Fin 256) (j : Fin 288) : b2 m c t (ix3 0 p j) = m2 m c (idxAt t p j) := by
  have hi : ∀ t d, win0_2.index t d * S1x256x288.size d = start t d := by decide +kernel
  refine Eq.trans ?_ (congrFun (V_main_arg2 m c) (idxAt t p j))
  unfold b2 iblk
  rw [View.read_apply]
  exact congrArg (V m c main_arg2) (eq_idxAt t p j _ fun d => congrArg (· + _) (hi t d))

theorem iblk_3 (t : Fin cfg0.N) (p : Fin 256) (j : Fin 288) : b3 m c t (ix3 0 p j) = m3 m c (idxAt t p j) := by
  have hi : ∀ t d, win0_3.index t d * S1x256x288.size d = start t d := by decide +kernel
  refine Eq.trans ?_ (congrFun (V_main_arg3 m c) (idxAt t p j))
  unfold b3 iblk
  rw [View.read_apply]
  exact congrArg (V m c main_arg3) (eq_idxAt t p j _ fun d => congrArg (· + _) (hi t d))

theorem point_4 (t : Fin cfg0.N) (p : Fin 256) (j : Fin 288) :
    out0_4 (F := Ideal) (b0 m c t) (b1 m c t) (b2 m c t) (b3 m c t) (ix3 0 p j) = res_4 (m0 m c) (m1 m c) (m2 m c) (m3 m c) (idxAt t p j) := by
  refine (blk_4 (b0 m c t) (b1 m c t) (b2 m c t) (b3 m c t) p j).trans ?_
  simp only [iblk_0]
  rfl

theorem point_5 (t : Fin cfg0.N) (p : Fin 256) (j : Fin 288) :
    out0_5 (F := Ideal) (b0 m c t) (b1 m c t) (b2 m c t) (b3 m c t) (ix3 0 p j) = res_5 (m0 m c) (m1 m c) (m2 m c) (m3 m c) (idxAt t p j) := by
  refine (blk_5 (b0 m c t) (b1 m c t) (b2 m c t) (b3 m c t) p j).trans ?_
  rw [point_4, iblk_1, iblk_2, iblk_3]
  rfl

theorem point_6 (t : Fin cfg0.N) (p : Fin 256) (j : Fin 288) :
    out0_6 (F := Ideal) (b0 m c t) (b1 m c t) (b2 m c t) (b3 m c t) (ix3 0 p j) = res_6 (m0 m c) (m1 m c) (m2 m c) (m3 m c) (idxAt t p j) := by
  refine (blk_6 (b0 m c t) (b1 m c t) (b2 m c t) (b3 m c t) p j).trans ?_
  rw [point_4, iblk_2]
  rfl

theorem point_7 (t : Fin cfg0.N) (p : Fin 256) (j : Fin 288) :
    out0_7 (F := Ideal) (b0 m c t) (b1 m c t) (b2 m c t) (b3 m c t) (ix3 0 p j) = res_7 (m0 m c) (m1 m c) (m2 m c) (m3 m c) (idxAt t p j) := by
  refine (blk_7 (b0 m c t) (b1 m c t) (b2 m c t) (b3 m c t) p j).trans ?_
  rw [point_4, iblk_3]
  rfl

theorem final_4 : (dats m 0 c).arrAt 4 cfg0.N = res_4 (m0 m c) (m1 m c) (m2 m c) (m3 m c) := by
  have hi : ∀ t d, win0_4.index t d * S1x256x288.size d = start t d := by decide +kernel
  have hf : ∀ t : Fin cfg0.N, (cfg0.win 4).flush t = true := by decide +kernel
  have he : ∀ (t : Fin cfg0.N) (p : Fin 256) (j : Fin 288), ((cfg0.win 4).blk t).view.emb (ix3 0 p j) = idxAt t p j := fun t p j =>
    eq_idxAt t p j _ fun d => congrArg (· + _) (hi t d)
  refine (dats m 0 c).arrAt_eq_of_cover 4 _ (fun t _ => ?_) fun y => ?_
  · rw [Cert.AdamAttnWInIdeal.Value.flushed4]
    funext y
    obtain ⟨p, j, rfl⟩ := exists_ix3 y
    rw [View.read_apply, he]
    exact point_4 m c t p j
  · obtain ⟨t, p, j, rfl⟩ := exists_idxAt y
    exact ⟨t, hf t, he t p j ▸ View.emb_mem_set _ _⟩

theorem final_5 : (dats m 0 c).arrAt 5 cfg0.N = res_5 (m0 m c) (m1 m c) (m2 m c) (m3 m c) := by
  have hi : ∀ t d, win0_5.index t d * S1x256x288.size d = start t d := by decide +kernel
  have hf : ∀ t : Fin cfg0.N, (cfg0.win 5).flush t = true := by decide +kernel
  have he : ∀ (t : Fin cfg0.N) (p : Fin 256) (j : Fin 288), ((cfg0.win 5).blk t).view.emb (ix3 0 p j) = idxAt t p j := fun t p j =>
    eq_idxAt t p j _ fun d => congrArg (· + _) (hi t d)
  refine (dats m 0 c).arrAt_eq_of_cover 5 _ (fun t _ => ?_) fun y => ?_
  · rw [Cert.AdamAttnWInIdeal.Value.flushed5]
    funext y
    obtain ⟨p, j, rfl⟩ := exists_ix3 y
    rw [View.read_apply, he]
    exact point_5 m c t p j
  · obtain ⟨t, p, j, rfl⟩ := exists_idxAt y
    exact ⟨t, hf t, he t p j ▸ View.emb_mem_set _ _⟩

theorem final_6 : (dats m 0 c).arrAt 6 cfg0.N = res_6 (m0 m c) (m1 m c) (m2 m c) (m3 m c) := by
  have hi : ∀ t d, win0_6.index t d * S1x256x288.size d = start t d := by decide +kernel
  have hf : ∀ t : Fin cfg0.N, (cfg0.win 6).flush t = true := by decide +kernel
  have he : ∀ (t : Fin cfg0.N) (p : Fin 256) (j : Fin 288), ((cfg0.win 6).blk t).view.emb (ix3 0 p j) = idxAt t p j := fun t p j =>
    eq_idxAt t p j _ fun d => congrArg (· + _) (hi t d)
  refine (dats m 0 c).arrAt_eq_of_cover 6 _ (fun t _ => ?_) fun y => ?_
  · rw [Cert.AdamAttnWInIdeal.Value.flushed6]
    funext y
    obtain ⟨p, j, rfl⟩ := exists_ix3 y
    rw [View.read_apply, he]
    exact point_6 m c t p j
  · obtain ⟨t, p, j, rfl⟩ := exists_idxAt y
    exact ⟨t, hf t, he t p j ▸ View.emb_mem_set _ _⟩

theorem final_7 : (dats m 0 c).arrAt 7 cfg0.N = res_7 (m0 m c) (m1 m c) (m2 m c) (m3 m c) := by
  have hi : ∀ t d, win0_7.index t d * S1x256x288.size d = start t d := by decide +kernel
  have hf : ∀ t : Fin cfg0.N, (cfg0.win 7).flush t = true := by decide +kernel
  have he : ∀ (t : Fin cfg0.N) (p : Fin 256) (j : Fin 288), ((cfg0.win 7).blk t).view.emb (ix3 0 p j) = idxAt t p j := fun t p j =>
    eq_idxAt t p j _ fun d => congrArg (· + _) (hi t d)
  refine (dats m 0 c).arrAt_eq_of_cover 7 _ (fun t _ => ?_) fun y => ?_
  · rw [Cert.AdamAttnWInIdeal.Value.flushed7]
    funext y
    obtain ⟨p, j, rfl⟩ := exists_ix3 y
    rw [View.read_apply, he]
    exact point_7 m c t p j
  · obtain ⟨t, p, j, rfl⟩ := exists_idxAt y
    exact ⟨t, hf t, he t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v1_0) = res_4 (m0 m c) (m1 m c) (m2 m c) (m3 m c)
      ∧ r.2.mem ((c : Thread nD τ).loc main_v1_1) = res_5 (m0 m c) (m1 m c) (m2 m c) (m3 m c)
      ∧ r.2.mem ((c : Thread nD τ).loc main_v1_2) = res_6 (m0 m c) (m1 m c) (m2 m c) (m3 m c)
      ∧ r.2.mem ((c : Thread nD τ).loc main_v1_3) = res_7 (m0 m c) (m1 m c) (m2 m c) (m3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_4 m c), (h c).2.1.trans (final_5 m c), (h c).2.2.1.trans (final_6 m c),
    (h c).2.2.2.1.trans (final_7 m c), (h c).2.2.2.2⟩) (Cert.AdamAttnWInIdeal.Value.run_blocks m ρ)
end

end Cert.AdamAttnWIn

namespace Cert.AdamAttnWIn

open Cert.AdamAttnWInReferenceIdeal Cert.AdamAttnWInReferenceIdeal.Gen Cert.AdamAttnWInReferenceIdeal.Read

theorem reference_grad (X0 : FVec Ideal S1024x288 .f32) : val_main_v0 (F := Ideal) X0 = grad X0 := by
  funext y
  obtain ⟨a, b, j, rfl⟩ : ∃ (a : Fin 1) (b : Fin 1024) (j : Fin 288), y = ix3 a b j := ⟨y 0, y 1, y 2, eq_ix3 y⟩
  unfold val_main_v0
  unfold grad
  pointwise

theorem reference_5 (X0 : FVec Ideal S1024x288 .f32) (X1 X2 X3 : FVec Ideal S1x1024x288 .f32) : val_main_v24 (F := Ideal) X0 X1 X2 X3 = res_5 X0 X1 X2 X3 := by
  funext y
  unfold val_main_v24 val_main_v23 val_main_v22 val_main_v19 val_main_v21 val_main_v13 val_main_v18 val_main_v20 val_main_v5 val_main_v12 val_main_v16 val_main_v17 val_main_v2 val_main_v4 val_main_v15 val_main_v1 val_main_v3 val_main_v11 val_main_v14 val_main_v7 val_main_v10 val_main_v6 val_main_v9 val_main_v8 val_main_cst val_main_cst_0 val_main_cst_1 val_main_cst_2 val_main_cst_3 val_main_cst_4 val_main_cst_5 val_main_cst_6 val_main_cst_7
  rw [reference_grad]
  obtain ⟨a, b, j, rfl⟩ : ∃ (a : Fin 1) (b : Fin 1024) (j : Fin 288), y = ix3 a b j := ⟨y 0, y 1, y 2, eq_ix3 y⟩
  unfold res_5
  generalize grad X0 = g
  pointwise
  rfl

theorem reference_6 (X0 : FVec Ideal S1024x288 .f32) (X1 X2 X3 : FVec Ideal S1x1024x288 .f32) : val_main_v5 (F := Ideal) X0 X2 = res_6 X0 X1 X2 X3 := by
  funext y
  unfold val_main_v5 val_main_v2 val_main_v4 val_main_v1 val_main_v3 val_main_cst val_main_cst_0
  rw [reference_grad]
  obtain ⟨a, b, j, rfl⟩ : ∃ (a : Fin 1) (b : Fin 1024) (j : Fin 288), y = ix3 a b j := ⟨y 0, y 1, y 2, eq_ix3 y⟩
  unfold res_6
  generalize grad X0 = g
  pointwise
  rfl

theorem reference_7 (X0 : FVec Ideal S1024x288 .f32) (X1 X2 X3 : FVec Ideal S1x1024x288 .f32) : val_main_v11 (F := Ideal) X0 X3 = res_7 X0 X1 X2 X3 := by
  funext y
  unfold val_main_v11 val_main_v7 val_main_v10 val_main_v6 val_main_v9 val_main_v8 val_main_cst_1 val_main_cst_2
  rw [reference_grad]
  obtain ⟨a, b, j, rfl⟩ : ∃ (a : Fin 1) (b : Fin 1024) (j : Fin 288), y = ix3 a b j := ⟨y 0, y 1, y 2, eq_ix3 y⟩
  unfold res_7
  generalize grad X0 = g
  pointwise
  rfl

end Cert.AdamAttnWIn

end
-- ==== Proof.AdamAttnWOutValue.lean ====
/-
  The optimiser's launch on the attention layer's output weight: the gradient summed from its eight parts, the change of the
  weight and the new moments; what its arrays hold after the grid, and what the reference computes.
-/
module

public import proofs.«01_k».proof.Proof.AdamRows
public import Idealize.ShloMosaic.Lib.StableHlo.ReadAt
public import proofs.«01_k».proof.Proof.Gen.AdamAttnWOutIdeal.Value
public import proofs.«01_k».proof.Proof.Gen.AdamAttnWOutReferenceIdeal.Run
public import proofs.«01_k».proof.Proof.Gen.AdamAttnWOutReferenceIdeal.Read

@[expose] public section

set_option maxRecDepth 16384
noncomputable section
open Idealize.ShloMosaic Idealize.ShloMosaic.TcCoe Idealize.SL.Sem Cert.AdamRows

namespace Cert.AdamAttnWOut

open Cert.AdamAttnWOutIdeal Cert.AdamAttnWOutIdeal.Gen

/-- The gradient. -/
def grad (X0 : S8x128x1024.Idx → EReal) (y : S1x128x1024.Idx) : EReal :=
  ∑ k : Fin 8, X0 (ix3 k (y 1) (y 2))

def res_4 (X0 : S8x128x1024.Idx → EReal) (_X1 : S1x128x1024.Idx → EReal) (_X2 : S1x128x1024.Idx → EReal) (_X3 : S1x128x1024.Idx → EReal) (y : S1x128x1024.Idx) : EReal := grad X0 y
def res_5 (X0 : S8x128x1024.Idx → EReal) (X1 : S1x128x1024.Idx → EReal) (X2 : S1x128x1024.Idx → EReal) (X3 : S1x128x1024.Idx → EReal) (y : S1x128x1024.Idx) : EReal := delta (X1 y) (X2 y) (X3 y) (grad X0 y)
def res_6 (X0 : S8x128x1024.Idx → EReal) (_X1 : S1x128x1024.Idx → EReal) (X2 : S1x128x1024.Idx → EReal) (_X3 : S1x128x1024.Idx → EReal) (y : S1x128x1024.Idx) : EReal := newM (X2 y) (grad X0 y)
def res_7 (X0 : S8x128x1024.Idx → EReal) (_X1 : S1x128x1024.Idx → EReal) (_X2 : S1x128x1024.Idx → EReal) (X3 : S1x128x1024.Idx → EReal) (y : S1x128x1024.Idx) : EReal := newV (X3 y) (grad X0 y)

theorem blk_4 (x0 : Vec Ideal S8x128x1024 .bf16) (x1 x2 x3 : Vec Ideal S1x128x1024 .f32) (p : Fin 128) (j : Fin 1024) :
    out0_4 (F := Ideal) x0 x1 x2 x3 (ix3 0 p j) = (∑ k : Fin 8, x0 (ix3 k p j) : EReal) := by
  unfold_out out0_4
  rw [canon_all]
  unfold k0_pay5 k0_pay2
  pointwise
  rw [Fin.sum_univ_eight]

theorem blk_5 (x0 : Vec Ideal S8x128x1024 .bf16) (x1 x2 x3 : Vec Ideal S1x128x1024 .f32) (p : Fin 128) (j : Fin 1024) :
    out0_5 (F := Ideal) x0 x1 x2 x3 (ix3 0 p j) = delta (x1 (ix3 0 p j)) (x2 (ix3 0 p j)) (x3 (ix3 0 p j)) (out0_4 (F := Ideal) x0 x1 x2 x3 (ix3 0 p j)) := by
  unfold_out out0_5
  unfold_out out0_4
  rw [canon_all, canon_all]
  generalize k0_pay2 (F := Ideal) _ _ _ _ _ _ _ _ = g
  unfold k0_pay1 k0_pay8 k0_pay9 k0_pay3 k0_pay4 k0_pay5
  pointwise
  rfl

theorem blk_6 (x0 : Vec Ideal S8x128x1024 .bf16) (x1 x2 x3 : Vec Ideal S1x128x1024 .f32) (p : Fin 128) (j : Fin 1024) :
    out0_6 (F := Ideal) x0 x1 x2 x3 (ix3 0 p j) = newM (x2 (ix3 0 p j)) (out0_4 (F := Ideal) x0 x1 x2 x3 (ix3 0 p j)) := by
  unfold_out out0_6
  unfold_out out0_4
  rw [canon_all, canon_all]
  generalize k0_pay2 (F := Ideal) _ _ _ _ _ _ _ _ = g
  unfold k0_pay6 k0_pay3 k0_pay5
  pointwise
  rfl

theorem blk_7 (x0 : Vec Ideal S8x128x1024 .bf16) (x1 x2 x3 : Vec Ideal S1x128x1024 .f32) (p : Fin 128) (j : Fin 1024) :
    out0_7 (F := Ideal) x0 x1 x2 x3 (ix3 0 p j) = newV (x3 (ix3 0 p j)) (out0_4 (F := Ideal) x0 x1 x2 x3 (ix3 0 p j)) := by
  unfold_out out0_7
  unfold_out out0_4
  rw [canon_all, canon_all]
  generalize k0_pay2 (F := Ideal) _ _ _ _ _ _ _ _ = g
  unfold k0_pay7 k0_pay4 k0_pay5
  pointwise
  rfl

section
variable (m : (ℓ : Loc nD τ sig) → Buf (Elt Ideal) ℓ) (c : Dev nD)

abbrev m0 : S8x128x1024.Idx → EReal := m ((c : Thread nD τ).loc main_arg0)
abbrev m1 : S1x128x1024.Idx → EReal := m ((c : Thread nD τ).loc main_arg1)
abbrev m2 : S1x128x1024.Idx → EReal := m ((c : Thread nD τ).loc main_arg2)
abbrev m3 : S1x128x1024.Idx → EReal := m ((c : Thread nD τ).loc main_arg3)
abbrev b0 (t : Fin cfg0.N) : S8x128x1024.Idx → EReal := iblk m c 0 t
abbrev b1 (t : Fin cfg0.N) : S1x128x1024.Idx → EReal := iblk m c 1 t
abbrev b2 (t : Fin cfg0.N) : S1x128x1024.Idx → EReal := iblk m c 2 t
abbrev b3 (t : Fin cfg0.N) : S1x128x1024.Idx → EReal := iblk m c 3 t

theorem host_0 (k : Fin 8) (a : Fin 128) (b : Fin 1024) : V m c main_v0 (ix3 k a b) = m0 m c (ix3 k a b) := by
  unfold V hostOps0
  simp only [List.flatten_cons, List.flatten_nil, List.cons_append, List.nil_append, List.append_nil]
  after_reads_at

theorem point_lt (t : Fin cfg0.N) : t.val < 1 := lt_of_lt_of_eq t.isLt (show cfg0.N = 1 from N_0)

/-- The array's row at row `p` of the block of point `t`. -/
def rowAt (t : Fin cfg0.N) (p : Fin 128) : Fin 128 := ⟨128 * (t.val % 1) + p.val, by omega⟩

def idxAt (t : Fin cfg0.N) (p : Fin 128) (j : Fin 1024) : S1x128x1024.Idx :=
  ix3 (⟨t.val / 1, by have := point_lt t; omega⟩ : Fin 1) (rowAt t p) j

theorem exists_idxAt (y : S1x128x1024.Idx) : ∃ t p j, idxAt t p j = y := by
  obtain ⟨a, b, j, rfl⟩ : ∃ (a : Fin 1) (b : Fin 128) (j : Fin 1024), y = ix3 a b j := ⟨y 0, y 1, y 2, eq_ix3 y⟩
  obtain ⟨t, p, h0, h1⟩ := exists_point (tr := 128) (nt := 1) (show cfg0.N = 1 * 1 from N_0) (by decide) a b
  refine ⟨t, p, j, funext fun d => Fin.ext ?_⟩
  match d with
  | ⟨0, _⟩ => exact h0
  | ⟨1, _⟩ => exact h1
  | ⟨2, _⟩ => rfl

/-- Where the block of a point starts. -/
def start (t : Fin cfg0.N) : Fin 3 → ℕ := ![t.val / 1, 128 * (t.val % 1), 0]

theorem eq_idxAt (t : Fin cfg0.N) (p : Fin 128) (j : Fin 1024) (x : S1x128x1024.Idx)
    (h : ∀ d, (x d).val = start t d + 1 * ((ix3 0 p j : S1x128x1024.Idx) d).val) : x = idxAt t p j := by
  refine funext fun d => Fin.ext ((h d).trans ?_)
  match d with
  | ⟨0, _⟩ => rfl
  | ⟨1, _⟩ => exact congrArg _ (Nat.one_mul _)
  | ⟨2, _⟩ => exact (Nat.zero_add _).trans (Nat.one_mul _)

theorem iblk_0 (t : Fin cfg0.N) (k : Fin 8) (p : Fin 128) (j : Fin 1024) : b0 m c t (ix3 k p j) = m0 m c (ix3 k (rowAt t p) j) := by
  have hi : ∀ t : Fin cfg0.N, win0_0.index t 0 = 0 ∧ win0_0.index t 1 = t.val % 1 ∧ win0_0.index t 2 = 0 := by decide +kernel
  have hi := hi t
  rw [← host_0 m c k (rowAt t p) j]
  unfold b0 iblk
  rw [View.read_apply]
  show V m c main_v0 _ = V m c main_v0 _
  refine congrArg (V m c main_v0) (funext fun d => Fin.ext ?_)
  match d with
  | ⟨0, _⟩ => show win0_0.index t 0 * 8 + 1 * k.val = k.val; rw [hi.1]; omega
  | ⟨1, _⟩ => show win0_0.index t 1 * 128 + 1 * p.val = 128 * (t.val % 1) + p.val; rw [hi.2.1]; omega
  | ⟨2, _⟩ => show win0_0.index t 2 * 1024 + 1 * j.val = j.val; rw [hi.2.2]; omega

theorem iblk_1 (t : Fin cfg0.N) (p : Fin 128) (j : Fin 1024) : b1 m c t (ix3 0 p j) = m1 m c (idxAt t p j) := by
  have hi : ∀ t d, win0_1.index t d * S1x128x1024.size d = start t d := by decide +kernel
  refine Eq.trans ?_ (congrFun (V_main_arg1 m c) (idxAt t p j))
  unfold b1 iblk
  rw [View.read_apply]
  exact congrArg (V m c main_arg1) (eq_idxAt t p j _ fun d => congrArg (· + _) (hi t d))

theorem iblk_2 (t : Fin cfg0.N) (p : Fin 128) (j : Fin 1024) : b2 m c t (ix3 0 p j) = m2 m c (idxAt t p j) := by
  have hi : ∀ t d, win0_2.index t d * S1x128x1024.size d = start t d := by decide +kernel
  refine Eq.trans ?_ (congrFun (V_main_arg2 m c) (idxAt t p j))
  unfold b2 iblk
  rw [View.read_apply]
  exact congrArg (V m c main_arg2) (eq_idxAt t p j _ fun d => congrArg (· + _) (hi t d))

theorem iblk_3 (t : Fin cfg0.N) (p : Fin 128) (j : Fin 1024) : b3 m c t (ix3 0 p j) = m3 m c (idxAt t p j) := by
  have hi : ∀ t d, win0_3.index t d * S1x128x1024.size d = start t d := by decide +kernel
  refine Eq.trans ?_ (congrFun (V_main_arg3 m c) (idxAt t p j))
  unfold b3 iblk
  rw [View.read_apply]
  exact congrArg (V m c main_arg3) (eq_idxAt t p j _ fun d => congrArg (· + _) (hi t d))

theorem point_4 (t : Fin cfg0.N) (p : Fin 128) (j : Fin 1024) :
    out0_4 (F := Ideal) (b0 m c t) (b1 m c t) (b2 m c t) (b3 m c t) (ix3 0 p j) = res_4 (m0 m c) (m1 m c) (m2 m c) (m3 m c) (idxAt t p j) := by
  refine (blk_4 (b0 m c t) (b1 m c t) (b2 m c t) (b3 m c t) p j).trans ?_
  simp only [iblk_0]
  rfl

theorem point_5 (t : Fin cfg0.N) (p : Fin 128) (j : Fin 1024) :
    out0_5 (F := Ideal) (b0 m c t) (b1 m c t) (b2 m c t) (b3 m c t) (ix3 0 p j) = res_5 (m0 m c) (m1 m c) (m2 m c) (m3 m c) (idxAt t p j) := by
  refine (blk_5 (b0 m c t) (b1 m c t) (b2 m c t) (b3 m c t) p j).trans ?_
  rw [point_4, iblk_1, iblk_2, iblk_3]
  rfl

theorem point_6 (t : Fin cfg0.N) (p : Fin 128) (j : Fin 1024) :
    out0_6 (F := Ideal) (b0 m c t) (b1 m c t) (b2 m c t) (b3 m c t) (ix3 0 p j) = res_6 (m0 m c) (m1 m c) (m2 m c) (m3 m c) (idxAt t p j) := by
  refine (blk_6 (b0 m c t) (b1 m c t) (b2 m c t) (b3 m c t) p j).trans ?_
  rw [point_4, iblk_2]
  rfl

theorem point_7 (t : Fin cfg0.N) (p : Fin 128) (j : Fin 1024) :
    out0_7 (F := Ideal) (b0 m c t) (b1 m c t) (b2 m c t) (b3 m c t) (ix3 0 p j) = res_7 (m0 m c) (m1 m c) (m2 m c) (m3 m c) (idxAt t p j) := by
  refine (blk_7 (b0 m c t) (b1 m c t) (b2 m c t) (b3 m c t) p j).trans ?_
  rw [point_4, iblk_3]
  rfl

theorem final_4 : (dats m 0 c).arrAt 4 cfg0.N = res_4 (m0 m c) (m1 m c) (m2 m c) (m3 m c) := by
  have hi : ∀ t d, win0_4.index t d * S1x128x1024.size d = start t d := by decide +kernel
  have hf : ∀ t : Fin cfg0.N, (cfg0.win 4).flush t = true := by decide +kernel
  have he : ∀ (t : Fin cfg0.N) (p : Fin 128) (j : Fin 1024), ((cfg0.win 4).blk t).view.emb (ix3 0 p j) = idxAt t p j := fun t p j =>
    eq_idxAt t p j _ fun d => congrArg (· + _) (hi t d)
  refine (dats m 0 c).arrAt_eq_of_cover 4 _ (fun t _ => ?_) fun y => ?_
  · rw [Cert.AdamAttnWOutIdeal.Value.flushed4]
    funext y
    obtain ⟨p, j, rfl⟩ := exists_ix3 y
    rw [View.read_apply, he]
    exact point_4 m c t p j
  · obtain ⟨t, p, j, rfl⟩ := exists_idxAt y
    exact ⟨t, hf t, he t p j ▸ View.emb_mem_set _ _⟩

theorem final_5 : (dats m 0 c).arrAt 5 cfg0.N = res_5 (m0 m c) (m1 m c) (m2 m c) (m3 m c) := by
  have hi : ∀ t d, win0_5.index t d * S1x128x1024.size d = start t d := by decide +kernel
  have hf : ∀ t : Fin cfg0.N, (cfg0.win 5).flush t = true := by decide +kernel
  have he : ∀ (t : Fin cfg0.N) (p : Fin 128) (j : Fin 1024), ((cfg0.win 5).blk t).view.emb (ix3 0 p j) = idxAt t p j := fun t p j =>
    eq_idxAt t p j _ fun d => congrArg (· + _) (hi t d)
  refine (dats m 0 c).arrAt_eq_of_cover 5 _ (fun t _ => ?_) fun y => ?_
  · rw [Cert.AdamAttnWOutIdeal.Value.flushed5]
    funext y
    obtain ⟨p, j, rfl⟩ := exists_ix3 y
    rw [View.read_apply, he]
    exact point_5 m c t p j
  · obtain ⟨t, p, j, rfl⟩ := exists_idxAt y
    exact ⟨t, hf t, he t p j ▸ View.emb_mem_set _ _⟩

theorem final_6 : (dats m 0 c).arrAt 6 cfg0.N = res_6 (m0 m c) (m1 m c) (m2 m c) (m3 m c) := by
  have hi : ∀ t d, win0_6.index t d * S1x128x1024.size d = start t d := by decide +kernel
  have hf : ∀ t : Fin cfg0.N, (cfg0.win 6).flush t = true := by decide +kernel
  have he : ∀ (t : Fin cfg0.N) (p : Fin 128) (j : Fin 1024), ((cfg0.win 6).blk t).view.emb (ix3 0 p j) = idxAt t p j := fun t p j =>
    eq_idxAt t p j _ fun d => congrArg (· + _) (hi t d)
  refine (dats m 0 c).arrAt_eq_of_cover 6 _ (fun t _ => ?_) fun y => ?_
  · rw [Cert.AdamAttnWOutIdeal.Value.flushed6]
    funext y
    obtain ⟨p, j, rfl⟩ := exists_ix3 y
    rw [View.read_apply, he]
    exact point_6 m c t p j
  · obtain ⟨t, p, j, rfl⟩ := exists_idxAt y
    exact ⟨t, hf t, he t p j ▸ View.emb_mem_set _ _⟩

theorem final_7 : (dats m 0 c).arrAt 7 cfg0.N = res_7 (m0 m c) (m1 m c) (m2 m c) (m3 m c) := by
  have hi : ∀ t d, win0_7.index t d * S1x128x1024.size d = start t d := by decide +kernel
  have hf : ∀ t : Fin cfg0.N, (cfg0.win 7).flush t = true := by decide +kernel
  have he : ∀ (t : Fin cfg0.N) (p : Fin 128) (j : Fin 1024), ((cfg0.win 7).blk t).view.emb (ix3 0 p j) = idxAt t p j := fun t p j =>
    eq_idxAt t p j _ fun d => congrArg (· + _) (hi t d)
  refine (dats m 0 c).arrAt_eq_of_cover 7 _ (fun t _ => ?_) fun y => ?_
  · rw [Cert.AdamAttnWOutIdeal.Value.flushed7]
    funext y
    obtain ⟨p, j, rfl⟩ := exists_ix3 y
    rw [View.read_apply, he]
    exact point_7 m c t p j
  · obtain ⟨t, p, j, rfl⟩ := exists_idxAt y
    exact ⟨t, hf t, he t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v1_0) = res_4 (m0 m c) (m1 m c) (m2 m c) (m3 m c)
      ∧ r.2.mem ((c : Thread nD τ).loc main_v1_1) = res_5 (m0 m c) (m1 m c) (m2 m c) (m3 m c)
      ∧ r.2.mem ((c : Thread nD τ).loc main_v1_2) = res_6 (m0 m c) (m1 m c) (m2 m c) (m3 m c)
      ∧ r.2.mem ((c : Thread nD τ).loc main_v1_3) = res_7 (m0 m c) (m1 m c) (m2 m c) (m3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_4 m c), (h c).2.1.trans (final_5 m c), (h c).2.2.1.trans (final_6 m c),
    (h c).2.2.2.1.trans (final_7 m c), (h c).2.2.2.2⟩) (Cert.AdamAttnWOutIdeal.Value.run_blocks m ρ)
end

end Cert.AdamAttnWOut

namespace Cert.AdamAttnWOut

open Cert.AdamAttnWOutReferenceIdeal Cert.AdamAttnWOutReferenceIdeal.Gen Cert.AdamAttnWOutReferenceIdeal.Read

theorem reference_grad (X0 : FVec Ideal S8x128x1024 .f32) : val_main_v1 (F := Ideal) X0 = grad X0 := by
  funext y
  obtain ⟨a, b, j, rfl⟩ : ∃ (a : Fin 1) (b : Fin 128) (j : Fin 1024), y = ix3 a b j := ⟨y 0, y 1, y 2, eq_ix3 y⟩
  unfold val_main_v1 val_main_v0 val_main_cst
  unfold grad
  pointwise

theorem reference_5 (X0 : FVec Ideal S8x128x1024 .f32) (X1 X2 X3 : FVec Ideal S1x128x1024 .f32) : val_main_v25 (F := Ideal) X0 X1 X2 X3 = res_5 X0 X1 X2 X3 := by
  funext y
  unfold val_main_v25 val_main_v24 val_main_v23 val_main_v20 val_main_v22 val_main_v14 val_main_v19 val_main_v21 val_main_v6 val_main_v13 val_main_v17 val_main_v18 val_main_v3 val_main_v5 val_main_v16 val_main_v2 val_main_v4 val_main_v12 val_main_v15 val_main_v8 val_main_v11 val_main_v7 val_main_v10 val_main_v9 val_main_cst_0 val_main_cst_1 val_main_cst_2 val_main_cst_3 val_main_cst_4 val_main_cst_5 val_main_cst_6 val_main_cst_7 val_main_cst_8
  rw [reference_grad]
  obtain ⟨a, b, j, rfl⟩ : ∃ (a : Fin 1) (b : Fin 128) (j : Fin 1024), y = ix3 a b j := ⟨y 0, y 1, y 2, eq_ix3 y⟩
  unfold res_5
  generalize grad X0 = g
  pointwise
  rfl

theorem reference_6 (X0 : FVec Ideal S8x128x1024 .f32) (X1 X2 X3 : FVec Ideal S1x128x1024 .f32) : val_main_v6 (F := Ideal) X0 X2 = res_6 X0 X1 X2 X3 := by
  funext y
  unfold val_main_v6 val_main_v3 val_main_v5 val_main_v2 val_main_v4 val_main_cst_0 val_main_cst_1
  rw [reference_grad]
  obtain ⟨a, b, j, rfl⟩ : ∃ (a : Fin 1) (b : Fin 128) (j : Fin 1024), y = ix3 a b j := ⟨y 0, y 1, y 2, eq_ix3 y⟩
  unfold res_6
  generalize grad X0 = g
  pointwise
  rfl

theorem reference_7 (X0 : FVec Ideal S8x128x1024 .f32) (X1 X2 X3 : FVec Ideal S1x128x1024 .f32) : val_main_v12 (F := Ideal) X0 X3 = res_7 X0 X1 X2 X3 := by
  funext y
  unfold val_main_v12 val_main_v8 val_main_v11 val_main_v7 val_main_v10 val_main_v9 val_main_cst_2 val_main_cst_3
  rw [reference_grad]
  obtain ⟨a, b, j, rfl⟩ : ∃ (a : Fin 1) (b : Fin 128) (j : Fin 1024), y = ix3 a b j := ⟨y 0, y 1, y 2, eq_ix3 y⟩
  unfold res_7
  generalize grad X0 = g
  pointwise
  rfl

end Cert.AdamAttnWOut

end
-- ==== Proof.AdamSsmWInValue.lean ====
/-
  The optimiser's launch on the state-space layer's input weight: the gradient, the change of the
  weight and the new moments; what its arrays hold after the grid, and what the reference computes.
-/
module

public import proofs.«01_k».proof.Proof.AdamRows
public import Idealize.ShloMosaic.Lib.StableHlo.ReadAt
public import proofs.«01_k».proof.Proof.Gen.AdamSsmWInIdeal.Value
public import proofs.«01_k».proof.Proof.Gen.AdamSsmWInReferenceIdeal.Run
public import proofs.«01_k».proof.Proof.Gen.AdamSsmWInReferenceIdeal.Read

@[expose] public section

set_option maxRecDepth 16384
noncomputable section
open Idealize.ShloMosaic Idealize.ShloMosaic.TcCoe Idealize.SL.Sem Cert.AdamRows

namespace Cert.AdamSsmWIn

open Cert.AdamSsmWInIdeal Cert.AdamSsmWInIdeal.Gen

/-- The gradient. -/
def grad (X0 : S1024x644.Idx → EReal) (y : S1x1024x644.Idx) : EReal :=
  X0 (ix2 (y 1) (y 2))

def res_4 (X0 : S1024x644.Idx → EReal) (_X1 : S1x1024x644.Idx → EReal) (_X2 : S1x1024x644.Idx → EReal) (_X3 : S1x1024x644.Idx → EReal) (y : S1x1024x644.Idx) : EReal := grad X0 y
def res_5 (X0 : S1024x644.Idx → EReal) (X1 : S1x1024x644.Idx → EReal) (X2 : S1x1024x644.Idx → EReal) (X3 : S1x1024x644.Idx → EReal) (y : S1x1024x644.Idx) : EReal := delta (X1 y) (X2 y) (X3 y) (grad X0 y)
def res_6 (X0 : S1024x644.Idx → EReal) (_X1 : S1x1024x644.Idx → EReal) (X2 : S1x1024x644.Idx → EReal) (_X3 : S1x1024x644.Idx → EReal) (y : S1x1024x644.Idx) : EReal := newM (X2 y) (grad X0 y)
def res_7 (X0 : S1024x644.Idx → EReal) (_X1 : S1x1024x644.Idx → EReal) (_X2 : S1x1024x644.Idx → EReal) (X3 : S1x1024x644.Idx → EReal) (y : S1x1024x644.Idx) : EReal := newV (X3 y) (grad X0 y)

theorem blk_4 (x0 : Vec Ideal S1x256x644 .f32) (x1 x2 x3 : Vec Ideal S1x256x644 .f32) (p : Fin 256) (j : Fin 644) :
    out0_4 (F := Ideal) x0 x1 x2 x3 (ix3 0 p j) = (x0 (ix3 0 p j) : EReal) := by
  unfold out0_4
  rw [canon_all]
  unfold k0_pay5 k0_pay2
  pointwise

theorem blk_5 (x0 : Vec Ideal S1x256x644 .f32) (x1 x2 x3 : Vec Ideal S1x256x644 .f32) (p : Fin 256) (j : Fin 644) :
    out0_5 (F := Ideal) x0 x1 x2 x3 (ix3 0 p j) = delta (x1 (ix3 0 p j)) (x2 (ix3 0 p j)) (x3 (ix3 0 p j)) (out0_4 (F := Ideal) x0 x1 x2 x3 (ix3 0 p j)) := by
  unfold out0_5
  unfold out0_4
  rw [canon_all, canon_all]
  generalize k0_pay2 (F := Ideal) _ = g
  unfold k0_pay1 k0_pay8 k0_pay9 k0_pay3 k0_pay4 k0_pay5
  pointwise
  rfl

theorem blk_6 (x0 : Vec Ideal S1x256x644 .f32) (x1 x2 x3 : Vec Ideal S1x256x644 .f32) (p : Fin 256) (j : Fin 644) :
    out0_6 (F := Ideal) x0 x1 x2 x3 (ix3 0 p j) = newM (x2 (ix3 0 p j)) (out0_4 (F := Ideal) x0 x1 x2 x3 (ix3 0 p j)) := by
  unfold out0_6
  unfold out0_4
  rw [canon_all, canon_all]
  generalize k0_pay2 (F := Ideal) _ = g
  unfold k0_pay6 k0_pay3 k0_pay5
  pointwise
  rfl

theorem blk_7 (x0 : Vec Ideal S1x256x644 .f32) (x1 x2 x3 : Vec Ideal S1x256x644 .f32) (p : Fin 256) (j : Fin 644) :
    out0_7 (F := Ideal) x0 x1 x2 x3 (ix3 0 p j) = newV (x3 (ix3 0 p j)) (out0_4 (F := Ideal) x0 x1 x2 x3 (ix3 0 p j)) := by
  unfold out0_7
  unfold out0_4
  rw [canon_all, canon_all]
  generalize k0_pay2 (F := Ideal) _ = g
  unfold k0_pay7 k0_pay4 k0_pay5
  pointwise
  rfl

section
variable (m : (ℓ : Loc nD τ sig) → Buf (Elt Ideal) ℓ) (c : Dev nD)

abbrev m0 : S1024x644.Idx → EReal := m ((c : Thread nD τ).loc main_arg0)
abbrev m1 : S1x1024x644.Idx → EReal := m ((c : Thread nD τ).loc main_arg1)
abbrev m2 : S1x1024x644.Idx → EReal := m ((c : Thread nD τ).loc main_arg2)
abbrev m3 : S1x1024x644.Idx → EReal := m ((c : Thread nD τ).loc main_arg3)
abbrev b0 (t : Fin cfg0.N) : S1x256x644.Idx → EReal := iblk m c 0 t
abbrev b1 (t : Fin cfg0.N) : S1x256x644.Idx → EReal := iblk m c 1 t
abbrev b2 (t : Fin cfg0.N) : S1x256x644.Idx → EReal := iblk m c 2 t
abbrev b3 (t : Fin cfg0.N) : S1x256x644.Idx → EReal := iblk m c 3 t

theorem host_0 (k : Fin 1) (a : Fin 1024) (b : Fin 644) : V m c main_v0 (ix3 k a b) = m0 m c (ix2 a b) := by
  unfold V hostOps0
  simp only [List.flatten_cons, List.flatten_nil, List.cons_append, List.nil_append, List.append_nil]
  after_reads_at

theorem point_lt (t : Fin cfg0.N) : t.val < 4 := lt_of_lt_of_eq t.isLt (show cfg0.N = 4 from N_0)

/-- The array's row at row `p` of the block of point `t`. -/
def rowAt (t : Fin cfg0.N) (p : Fin 256) : Fin 1024 := ⟨256 * (t.val % 4) + p.val, by omega⟩

def idxAt (t : Fin cfg0.N) (p : Fin 256) (j : Fin 644) : S1x1024x644.Idx :=
  ix3 (⟨t.val / 4, by have := point_lt t; omega⟩ : Fin 1) (rowAt t p) j

theorem exists_idxAt (y : S1x1024x644.Idx) : ∃ t p j, idxAt t p j = y := by
  obtain ⟨a, b, j, rfl⟩ : ∃ (a : Fin 1) (b : Fin 1024) (j : Fin 644), y = ix3 a b j := ⟨y 0, y 1, y 2, eq_ix3 y⟩
  obtain ⟨t, p, h0, h1⟩ := exists_point (tr := 256) (nt := 4) (show cfg0.N = 1 * 4 from N_0) (by decide) a b
  refine ⟨t, p, j, funext fun d => Fin.ext ?_⟩
  match d with
  | ⟨0, _⟩ => exact h0
  | ⟨1, _⟩ => exact h1
  | ⟨2, _⟩ => rfl

/-- Where the block of a point starts. -/
def start (t : Fin cfg0.N) : Fin 3 → ℕ := ![t.val / 4, 256 * (t.val % 4), 0]

theorem eq_idxAt (t : Fin cfg0.N) (p : Fin 256) (j : Fin 644) (x : S1x1024x644.Idx)
    (h : ∀ d, (x d).val = start t d + 1 * ((ix3 0 p j : S1x256x644.Idx) d).val) : x = idxAt t p j := by
  refine funext fun d => Fin.ext ((h d).trans ?_)
  match d with
  | ⟨0, _⟩ => rfl
  | ⟨1, _⟩ => exact congrArg _ (Nat.one_mul _)
  | ⟨2, _⟩ => exact (Nat.zero_add _).trans (Nat.one_mul _)

theorem iblk_0 (t : Fin cfg0.N) (k : Fin 1) (p : Fin 256) (j : Fin 644) : b0 m c t (ix3 k p j) = m0 m c (ix2 (rowAt t p) j) := by
  have hi : ∀ t : Fin cfg0.N, win0_0.index t 0 = 0 ∧ win0_0.index t 1 = t.val % 4 ∧ win0_0.index t 2 = 0 := by decide +kernel
  have hi := hi t
  rw [← host_0 m c k (rowAt t p) j]
  unfold b0 iblk
  rw [View.read_apply]
  show V m c main_v0 _ = V m c main_v0 _
  refine congrArg (V m c main_v0) (funext fun d => Fin.ext ?_)
  match d with
  | ⟨0, _⟩ => show win0_0.index t 0 * 1 + 1 * k.val = k.val; rw [hi.1]; omega
  | ⟨1, _⟩ => show win0_0.index t 1 * 256 + 1 * p.val = 256 * (t.val % 4) + p.val; rw [hi.2.1]; omega
  | ⟨2, _⟩ => show win0_0.index t 2 * 644 + 1 * j.val = j.val; rw [hi.2.2]; omega

theorem iblk_1 (t : Fin cfg0.N) (p : Fin 256) (j : Fin 644) : b1 m c t (ix3 0 p j) = m1 m c (idxAt t p j) := by
  have hi : ∀ t d, win0_1.index t d * S1x256x644.size d = start t d := by decide +kernel
  refine Eq.trans ?_ (congrFun (V_main_arg1 m c) (idxAt t p j))
  unfold b1 iblk
  rw [View.read_apply]
  exact congrArg (V m c main_arg1) (eq_idxAt t p j _ fun d => congrArg (· + _) (hi t d))

theorem iblk_2 (t : Fin cfg0.N) (p : Fin 256) (j : Fin 644) : b2 m c t (ix3 0 p j) = m2 m c (idxAt t p j) := by
  have hi : ∀ t d, win0_2.index t d * S1x256x644.size d = start t d := by decide +kernel
  refine Eq.trans ?_ (congrFun (V_main_arg2 m c) (idxAt t p j))
  unfold b2 iblk
  rw [View.read_apply]
  exact congrArg (V m c main_arg2) (eq_idxAt t p j _ fun d => congrArg (· + _) (hi t d))

theorem iblk_3 (t : Fin cfg0.N) (p : Fin 256) (j : Fin 644) : b3 m c t (ix3 0 p j) = m3 m c (idxAt t p j) := by
  have hi : ∀ t d, win0_3.index t d * S1x256x644.size d = start t d := by decide +kernel
  refine Eq.trans ?_ (congrFun (V_main_arg3 m c) (idxAt t p j))
  unfold b3 iblk
  rw [View.read_apply]
  exact congrArg (V m c main_arg3) (eq_idxAt t p j _ fun d => congrArg (· + _) (hi t d))

theorem point_4 (t : Fin cfg0.N) (p : Fin 256) (j : Fin 644) :
    out0_4 (F := Ideal) (b0 m c t) (b1 m c t) (b2 m c t) (b3 m c t) (ix3 0 p j) = res_4 (m0 m c) (m1 m c) (m2 m c) (m3 m c) (idxAt t p j) := by
  refine (blk_4 (b0 m c t) (b1 m c t) (b2 m c t) (b3 m c t) p j).trans ?_
  simp only [iblk_0]
  rfl

theorem point_5 (t : Fin cfg0.N) (p : Fin 256) (j : Fin 644) :
    out0_5 (F := Ideal) (b0 m c t) (b1 m c t) (b2 m c t) (b3 m c t) (ix3 0 p j) = res_5 (m0 m c) (m1 m c) (m2 m c) (m3 m c) (idxAt t p j) := by
  refine (blk_5 (b0 m c t) (b1 m c t) (b2 m c t) (b3 m c t) p j).trans ?_
  rw [point_4, iblk_1, iblk_2, iblk_3]
  rfl

theorem point_6 (t : Fin cfg0.N) (p : Fin 256) (j : Fin 644) :
    out0_6 (F := Ideal) (b0 m c t) (b1 m c t) (b2 m c t) (b3 m c t) (ix3 0 p j) = res_6 (m0 m c) (m1 m c) (m2 m c) (m3 m c) (idxAt t p j) := by
  refine (blk_6 (b0 m c t) (b1 m c t) (b2 m c t) (b3 m c t) p j).trans ?_
  rw [point_4, iblk_2]
  rfl

theorem point_7 (t : Fin cfg0.N) (p : Fin 256) (j : Fin 644) :
    out0_7 (F := Ideal) (b0 m c t) (b1 m c t) (b2 m c t) (b3 m c t) (ix3 0 p j) = res_7 (m0 m c) (m1 m c) (m2 m c) (m3 m c) (idxAt t p j) := by
  refine (blk_7 (b0 m c t) (b1 m c t) (b2 m c t) (b3 m c t) p j).trans ?_
  rw [point_4, iblk_3]
  rfl

theorem final_4 : (dats m 0 c).arrAt 4 cfg0.N = res_4 (m0 m c) (m1 m c) (m2 m c) (m3 m c) := by
  have hi : ∀ t d, win0_4.index t d * S1x256x644.size d = start t d := by decide +kernel
  have hf : ∀ t : Fin cfg0.N, (cfg0.win 4).flush t = true := by decide +kernel
  have he : ∀ (t : Fin cfg0.N) (p : Fin 256) (j : Fin 644), ((cfg0.win 4).blk t).view.emb (ix3 0 p j) = idxAt t p j := fun t p j =>
    eq_idxAt t p j _ fun d => congrArg (· + _) (hi t d)
  refine (dats m 0 c).arrAt_eq_of_cover 4 _ (fun t _ => ?_) fun y => ?_
  · rw [Cert.AdamSsmWInIdeal.Value.flushed4]
    funext y
    obtain ⟨p, j, rfl⟩ := exists_ix3 y
    rw [View.read_apply, he]
    exact point_4 m c t p j
  · obtain ⟨t, p, j, rfl⟩ := exists_idxAt y
    exact ⟨t, hf t, he t p j ▸ View.emb_mem_set _ _⟩

theorem final_5 : (dats m 0 c).arrAt 5 cfg0.N = res_5 (m0 m c) (m1 m c) (m2 m c) (m3 m c) := by
  have hi : ∀ t d, win0_5.index t d * S1x256x644.size d = start t d := by decide +kernel
  have hf : ∀ t : Fin cfg0.N, (cfg0.win 5).flush t = true := by decide +kernel
  have he : ∀ (t : Fin cfg0.N) (p : Fin 256) (j : Fin 644), ((cfg0.win 5).blk t).view.emb (ix3 0 p j) = idxAt t p j := fun t p j =>
    eq_idxAt t p j _ fun d => congrArg (· + _) (hi t d)
  refine (dats m 0 c).arrAt_eq_of_cover 5 _ (fun t _ => ?_) fun y => ?_
  · rw [Cert.AdamSsmWInIdeal.Value.flushed5]
    funext y
    obtain ⟨p, j, rfl⟩ := exists_ix3 y
    rw [View.read_apply, he]
    exact point_5 m c t p j
  · obtain ⟨t, p, j, rfl⟩ := exists_idxAt y
    exact ⟨t, hf t, he t p j ▸ View.emb_mem_set _ _⟩

theorem final_6 : (dats m 0 c).arrAt 6 cfg0.N = res_6 (m0 m c) (m1 m c) (m2 m c) (m3 m c) := by
  have hi : ∀ t d, win0_6.index t d * S1x256x644.size d = start t d := by decide +kernel
  have hf : ∀ t : Fin cfg0.N, (cfg0.win 6).flush t = true := by decide +kernel
  have he : ∀ (t : Fin cfg0.N) (p : Fin 256) (j : Fin 644), ((cfg0.win 6).blk t).view.emb (ix3 0 p j) = idxAt t p j := fun t p j =>
    eq_idxAt t p j _ fun d => congrArg (· + _) (hi t d)
  refine (dats m 0 c).arrAt_eq_of_cover 6 _ (fun t _ => ?_) fun y => ?_
  · rw [Cert.AdamSsmWInIdeal.Value.flushed6]
    funext y
    obtain ⟨p, j, rfl⟩ := exists_ix3 y
    rw [View.read_apply, he]
    exact point_6 m c t p j
  · obtain ⟨t, p, j, rfl⟩ := exists_idxAt y
    exact ⟨t, hf t, he t p j ▸ View.emb_mem_set _ _⟩

theorem final_7 : (dats m 0 c).arrAt 7 cfg0.N = res_7 (m0 m c) (m1 m c) (m2 m c) (m3 m c) := by
  have hi : ∀ t d, win0_7.index t d * S1x256x644.size d = start t d := by decide +kernel
  have hf : ∀ t : Fin cfg0.N, (cfg0.win 7).flush t = true := by decide +kernel
  have he : ∀ (t : Fin cfg0.N) (p : Fin 256) (j : Fin 644), ((cfg0.win 7).blk t).view.emb (ix3 0 p j) = idxAt t p j := fun t p j =>
    eq_idxAt t p j _ fun d => congrArg (· + _) (hi t d)
  refine (dats m 0 c).arrAt_eq_of_cover 7 _ (fun t _ => ?_) fun y => ?_
  · rw [Cert.AdamSsmWInIdeal.Value.flushed7]
    funext y
    obtain ⟨p, j, rfl⟩ := exists_ix3 y
    rw [View.read_apply, he]
    exact point_7 m c t p j
  · obtain ⟨t, p, j, rfl⟩ := exists_idxAt y
    exact ⟨t, hf t, he t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v1_0) = res_4 (m0 m c) (m1 m c) (m2 m c) (m3 m c)
      ∧ r.2.mem ((c : Thread nD τ).loc main_v1_1) = res_5 (m0 m c) (m1 m c) (m2 m c) (m3 m c)
      ∧ r.2.mem ((c : Thread nD τ).loc main_v1_2) = res_6 (m0 m c) (m1 m c) (m2 m c) (m3 m c)
      ∧ r.2.mem ((c : Thread nD τ).loc main_v1_3) = res_7 (m0 m c) (m1 m c) (m2 m c) (m3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_4 m c), (h c).2.1.trans (final_5 m c), (h c).2.2.1.trans (final_6 m c),
    (h c).2.2.2.1.trans (final_7 m c), (h c).2.2.2.2⟩) (Cert.AdamSsmWInIdeal.Value.run_blocks m ρ)
end

end Cert.AdamSsmWIn

namespace Cert.AdamSsmWIn

open Cert.AdamSsmWInReferenceIdeal Cert.AdamSsmWInReferenceIdeal.Gen Cert.AdamSsmWInReferenceIdeal.Read

theorem reference_grad (X0 : FVec Ideal S1024x644 .f32) : val_main_v0 (F := Ideal) X0 = grad X0 := by
  funext y
  obtain ⟨a, b, j, rfl⟩ : ∃ (a : Fin 1) (b : Fin 1024) (j : Fin 644), y = ix3 a b j := ⟨y 0, y 1, y 2, eq_ix3 y⟩
  unfold val_main_v0
  unfold grad
  pointwise

theorem reference_5 (X0 : FVec Ideal S1024x644 .f32) (X1 X2 X3 : FVec Ideal S1x1024x644 .f32) : val_main_v24 (F := Ideal) X0 X1 X2 X3 = res_5 X0 X1 X2 X3 := by
  funext y
  unfold val_main_v24 val_main_v23 val_main_v22 val_main_v19 val_main_v21 val_main_v13 val_main_v18 val_main_v20 val_main_v5 val_main_v12 val_main_v16 val_main_v17 val_main_v2 val_main_v4 val_main_v15 val_main_v1 val_main_v3 val_main_v11 val_main_v14 val_main_v7 val_main_v10 val_main_v6 val_main_v9 val_main_v8 val_main_cst val_main_cst_0 val_main_cst_1 val_main_cst_2 val_main_cst_3 val_main_cst_4 val_main_cst_5 val_main_cst_6 val_main_cst_7
  rw [reference_grad]
  obtain ⟨a, b, j, rfl⟩ : ∃ (a : Fin 1) (b : Fin 1024) (j : Fin 644), y = ix3 a b j := ⟨y 0, y 1, y 2, eq_ix3 y⟩
  unfold res_5
  generalize grad X0 = g
  pointwise
  rfl

theorem reference_6 (X0 : FVec Ideal S1024x644 .f32) (X1 X2 X3 : FVec Ideal S1x1024x644 .f32) : val_main_v5 (F := Ideal) X0 X2 = res_6 X0 X1 X2 X3 := by
  funext y
  unfold val_main_v5 val_main_v2 val_main_v4 val_main_v1 val_main_v3 val_main_cst val_main_cst_0
  rw [reference_grad]
  obtain ⟨a, b, j, rfl⟩ : ∃ (a : Fin 1) (b : Fin 1024) (j : Fin 644), y = ix3 a b j := ⟨y 0, y 1, y 2, eq_ix3 y⟩
  unfold res_6
  generalize grad X0 = g
  pointwise
  rfl

theorem reference_7 (X0 : FVec Ideal S1024x644 .f32) (X1 X2 X3 : FVec Ideal S1x1024x644 .f32) : val_main_v11 (F := Ideal) X0 X3 = res_7 X0 X1 X2 X3 := by
  funext y
  unfold val_main_v11 val_main_v7 val_main_v10 val_main_v6 val_main_v9 val_main_v8 val_main_cst_1 val_main_cst_2
  rw [reference_grad]
  obtain ⟨a, b, j, rfl⟩ : ∃ (a : Fin 1) (b : Fin 1024) (j : Fin 644), y = ix3 a b j := ⟨y 0, y 1, y 2, eq_ix3 y⟩
  unfold res_7
  generalize grad X0 = g
  pointwise
  rfl

end Cert.AdamSsmWIn

end
-- ==== Proof.AdamSsmWOutValue.lean ====
/-
  The optimiser's launch on the state-space layer's output weight: the gradient summed from its eight parts, the change of the
  weight and the new moments; what its arrays hold after the grid, and what the reference computes.
-/
module

public import proofs.«01_k».proof.Proof.AdamRows
public import Idealize.ShloMosaic.Lib.StableHlo.ReadAt
public import proofs.«01_k».proof.Proof.Gen.AdamSsmWOutIdeal.Value
public import proofs.«01_k».proof.Proof.Gen.AdamSsmWOutReferenceIdeal.Run
public import proofs.«01_k».proof.Proof.Gen.AdamSsmWOutReferenceIdeal.Read

@[expose] public section

set_option maxRecDepth 16384
noncomputable section
open Idealize.ShloMosaic Idealize.ShloMosaic.TcCoe Idealize.SL.Sem Cert.AdamRows

namespace Cert.AdamSsmWOut

open Cert.AdamSsmWOutIdeal Cert.AdamSsmWOutIdeal.Gen

/-- The gradient. -/
def grad (X0 : S8x256x1024.Idx → EReal) (y : S1x256x1024.Idx) : EReal :=
  ∑ k : Fin 8, X0 (ix3 k (y 1) (y 2))

def res_4 (X0 : S8x256x1024.Idx → EReal) (_X1 : S1x256x1024.Idx → EReal) (_X2 : S1x256x1024.Idx → EReal) (_X3 : S1x256x1024.Idx → EReal) (y : S1x256x1024.Idx) : EReal := grad X0 y
def res_5 (X0 : S8x256x1024.Idx → EReal) (X1 : S1x256x1024.Idx → EReal) (X2 : S1x256x1024.Idx → EReal) (X3 : S1x256x1024.Idx → EReal) (y : S1x256x1024.Idx) : EReal := delta (X1 y) (X2 y) (X3 y) (grad X0 y)
def res_6 (X0 : S8x256x1024.Idx → EReal) (_X1 : S1x256x1024.Idx → EReal) (X2 : S1x256x1024.Idx → EReal) (_X3 : S1x256x1024.Idx → EReal) (y : S1x256x1024.Idx) : EReal := newM (X2 y) (grad X0 y)
def res_7 (X0 : S8x256x1024.Idx → EReal) (_X1 : S1x256x1024.Idx → EReal) (_X2 : S1x256x1024.Idx → EReal) (X3 : S1x256x1024.Idx → EReal) (y : S1x256x1024.Idx) : EReal := newV (X3 y) (grad X0 y)

theorem blk_4 (x0 : Vec Ideal S8x256x1024 .bf16) (x1 x2 x3 : Vec Ideal S1x256x1024 .f32) (p : Fin 256) (j : Fin 1024) :
    out0_4 (F := Ideal) x0 x1 x2 x3 (ix3 0 p j) = (∑ k : Fin 8, x0 (ix3 k p j) : EReal) := by
  unfold_out out0_4
  rw [canon_all]
  unfold k0_pay5 k0_pay2
  pointwise
  rw [Fin.sum_univ_eight]

theorem blk_5 (x0 : Vec Ideal S8x256x1024 .bf16) (x1 x2 x3 : Vec Ideal S1x256x1024 .f32) (p : Fin 256) (j : Fin 1024) :
    out0_5 (F := Ideal) x0 x1 x2 x3 (ix3 0 p j) = delta (x1 (ix3 0 p j)) (x2 (ix3 0 p j)) (x3 (ix3 0 p j)) (out0_4 (F := Ideal) x0 x1 x2 x3 (ix3 0 p j)) := by
  unfold_out out0_5
  unfold_out out0_4
  rw [canon_all, canon_all]
  generalize k0_pay2 (F := Ideal) _ _ _ _ _ _ _ _ = g
  unfold k0_pay1 k0_pay8 k0_pay9 k0_pay3 k0_pay4 k0_pay5
  pointwise
  rfl

theorem blk_6 (x0 : Vec Ideal S8x256x1024 .bf16) (x1 x2 x3 : Vec Ideal S1x256x1024 .f32) (p : Fin 256) (j : Fin 1024) :
    out0_6 (F := Ideal) x0 x1 x2 x3 (ix3 0 p j) = newM (x2 (ix3 0 p j)) (out0_4 (F := Ideal) x0 x1 x2 x3 (ix3 0 p j)) := by
  unfold_out out0_6
  unfold_out out0_4
  rw [canon_all, canon_all]
  generalize k0_pay2 (F := Ideal) _ _ _ _ _ _ _ _ = g
  unfold k0_pay6 k0_pay3 k0_pay5
  pointwise
  rfl

theorem blk_7 (x0 : Vec Ideal S8x256x1024 .bf16) (x1 x2 x3 : Vec Ideal S1x256x1024 .f32) (p : Fin 256) (j : Fin 1024) :
    out0_7 (F := Ideal) x0 x1 x2 x3 (ix3 0 p j) = newV (x3 (ix3 0 p j)) (out0_4 (F := Ideal) x0 x1 x2 x3 (ix3 0 p j)) := by
  unfold_out out0_7
  unfold_out out0_4
  rw [canon_all, canon_all]
  generalize k0_pay2 (F := Ideal) _ _ _ _ _ _ _ _ = g
  unfold k0_pay7 k0_pay4 k0_pay5
  pointwise
  rfl

section
variable (m : (ℓ : Loc nD τ sig) → Buf (Elt Ideal) ℓ) (c : Dev nD)

abbrev m0 : S8x256x1024.Idx → EReal := m ((c : Thread nD τ).loc main_arg0)
abbrev m1 : S1x256x1024.Idx → EReal := m ((c : Thread nD τ).loc main_arg1)
abbrev m2 : S1x256x1024.Idx → EReal := m ((c : Thread nD τ).loc main_arg2)
abbrev m3 : S1x256x1024.Idx → EReal := m ((c : Thread nD τ).loc main_arg3)
abbrev b0 (t : Fin cfg0.N) : S8x256x1024.Idx → EReal := iblk m c 0 t
abbrev b1 (t : Fin cfg0.N) : S1x256x1024.Idx → EReal := iblk m c 1 t
abbrev b2 (t : Fin cfg0.N) : S1x256x1024.Idx → EReal := iblk m c 2 t
abbrev b3 (t : Fin cfg0.N) : S1x256x1024.Idx → EReal := iblk m c 3 t

theorem host_0 (k : Fin 8) (a : Fin 256) (b : Fin 1024) : V m c main_v0 (ix3 k a b) = m0 m c (ix3 k a b) := by
  unfold V hostOps0
  simp only [List.flatten_cons, List.flatten_nil, List.cons_append, List.nil_append, List.append_nil]
  after_reads_at

theorem point_lt (t : Fin cfg0.N) : t.val < 1 := lt_of_lt_of_eq t.isLt (show cfg0.N = 1 from N_0)

/-- The array's row at row `p` of the block of point `t`. -/
def rowAt (t : Fin cfg0.N) (p : Fin 256) : Fin 256 := ⟨256 * (t.val % 1) + p.val, by omega⟩

def idxAt (t : Fin cfg0.N) (p : Fin 256) (j : Fin 1024) : S1x256x1024.Idx :=
  ix3 (⟨t.val / 1, by have := point_lt t; omega⟩ : Fin 1) (rowAt t p) j

theorem exists_idxAt (y : S1x256x1024.Idx) : ∃ t p j, idxAt t p j = y := by
  obtain ⟨a, b, j, rfl⟩ : ∃ (a : Fin 1) (b : Fin 256) (j : Fin 1024), y = ix3 a b j := ⟨y 0, y 1, y 2, eq_ix3 y⟩
  obtain ⟨t, p, h0, h1⟩ := exists_point (tr := 256) (nt := 1) (show cfg0.N = 1 * 1 from N_0) (by decide) a b
  refine ⟨t, p, j, funext fun d => Fin.ext ?_⟩
  match d with
  | ⟨0, _⟩ => exact h0
  | ⟨1, _⟩ => exact h1
  | ⟨2, _⟩ => rfl

/-- Where the block of a point starts. -/
def start (t : Fin cfg0.N) : Fin 3 → ℕ := ![t.val / 1, 256 * (t.val % 1), 0]

theorem eq_idxAt (t : Fin cfg0.N) (p : Fin 256) (j : Fin 1024) (x : S1x256x1024.Idx)
    (h : ∀ d, (x d).val = start t d + 1 * ((ix3 0 p j : S1x256x1024.Idx) d).val) : x = idxAt t p j := by
  refine funext fun d => Fin.ext ((h d).trans ?_)
  match d with
  | ⟨0, _⟩ => rfl
  | ⟨1, _⟩ => exact congrArg _ (Nat.one_mul _)
  | ⟨2, _⟩ => exact (Nat.zero_add _).trans (Nat.one_mul _)

theorem iblk_0 (t : Fin cfg0.N) (k : Fin 8) (p : Fin 256) (j : Fin 1024) : b0 m c t (ix3 k p j) = m0 m c (ix3 k (rowAt t p) j) := by
  have hi : ∀ t : Fin cfg0.N, win0_0.index t 0 = 0 ∧ win0_0.index t 1 = t.val % 1 ∧ win0_0.index t 2 = 0 := by decide +kernel
  have hi := hi t
  rw [← host_0 m c k (rowAt t p) j]
  unfold b0 iblk
  rw [View.read_apply]
  show V m c main_v0 _ = V m c main_v0 _
  refine congrArg (V m c main_v0) (funext fun d => Fin.ext ?_)
  match d with
  | ⟨0, _⟩ => show win0_0.index t 0 * 8 + 1 * k.val = k.val; rw [hi.1]; omega
  | ⟨1, _⟩ => show win0_0.index t 1 * 256 + 1 * p.val = 256 * (t.val % 1) + p.val; rw [hi.2.1]; omega
  | ⟨2, _⟩ => show win0_0.index t 2 * 1024 + 1 * j.val = j.val; rw [hi.2.2]; omega

theorem iblk_1 (t : Fin cfg0.N) (p : Fin 256) (j : Fin 1024) : b1 m c t (ix3 0 p j) = m1 m c (idxAt t p j) := by
  have hi : ∀ t d, win0_1.index t d * S1x256x1024.size d = start t d := by decide +kernel
  refine Eq.trans ?_ (congrFun (V_main_arg1 m c) (idxAt t p j))
  unfold b1 iblk
  rw [View.read_apply]
  exact congrArg (V m c main_arg1) (eq_idxAt t p j _ fun d => congrArg (· + _) (hi t d))

theorem iblk_2 (t : Fin cfg0.N) (p : Fin 256) (j : Fin 1024) : b2 m c t (ix3 0 p j) = m2 m c (idxAt t p j) := by
  have hi : ∀ t d, win0_2.index t d * S1x256x1024.size d = start t d := by decide +kernel
  refine Eq.trans ?_ (congrFun (V_main_arg2 m c) (idxAt t p j))
  unfold b2 iblk
  rw [View.read_apply]
  exact congrArg (V m c main_arg2) (eq_idxAt t p j _ fun d => congrArg (· + _) (hi t d))

theorem iblk_3 (t : Fin cfg0.N) (p : Fin 256) (j : Fin 1024) : b3 m c t (ix3 0 p j) = m3 m c (idxAt t p j) := by
  have hi : ∀ t d, win0_3.index t d * S1x256x1024.size d = start t d := by decide +kernel
  refine Eq.trans ?_ (congrFun (V_main_arg3 m c) (idxAt t p j))
  unfold b3 iblk
  rw [View.read_apply]
  exact congrArg (V m c main_arg3) (eq_idxAt t p j _ fun d => congrArg (· + _) (hi t d))

theorem point_4 (t : Fin cfg0.N) (p : Fin 256) (j : Fin 1024) :
    out0_4 (F := Ideal) (b0 m c t) (b1 m c t) (b2 m c t) (b3 m c t) (ix3 0 p j) = res_4 (m0 m c) (m1 m c) (m2 m c) (m3 m c) (idxAt t p j) := by
  refine (blk_4 (b0 m c t) (b1 m c t) (b2 m c t) (b3 m c t) p j).trans ?_
  simp only [iblk_0]
  rfl

theorem point_5 (t : Fin cfg0.N) (p : Fin 256) (j : Fin 1024) :
    out0_5 (F := Ideal) (b0 m c t) (b1 m c t) (b2 m c t) (b3 m c t) (ix3 0 p j) = res_5 (m0 m c) (m1 m c) (m2 m c) (m3 m c) (idxAt t p j) := by
  refine (blk_5 (b0 m c t) (b1 m c t) (b2 m c t) (b3 m c t) p j).trans ?_
  rw [point_4, iblk_1, iblk_2, iblk_3]
  rfl

theorem point_6 (t : Fin cfg0.N) (p : Fin 256) (j : Fin 1024) :
    out0_6 (F := Ideal) (b0 m c t) (b1 m c t) (b2 m c t) (b3 m c t) (ix3 0 p j) = res_6 (m0 m c) (m1 m c) (m2 m c) (m3 m c) (idxAt t p j) := by
  refine (blk_6 (b0 m c t) (b1 m c t) (b2 m c t) (b3 m c t) p j).trans ?_
  rw [point_4, iblk_2]
  rfl

theorem point_7 (t : Fin cfg0.N) (p : Fin 256) (j : Fin 1024) :
    out0_7 (F := Ideal) (b0 m c t) (b1 m c t) (b2 m c t) (b3 m c t) (ix3 0 p j) = res_7 (m0 m c) (m1 m c) (m2 m c) (m3 m c) (idxAt t p j) := by
  refine (blk_7 (b0 m c t) (b1 m c t) (b2 m c t) (b3 m c t) p j).trans ?_
  rw [point_4, iblk_3]
  rfl

theorem final_4 : (dats m 0 c).arrAt 4 cfg0.N = res_4 (m0 m c) (m1 m c) (m2 m c) (m3 m c) := by
  have hi : ∀ t d, win0_4.index t d * S1x256x1024.size d = start t d := by decide +kernel
  have hf : ∀ t : Fin cfg0.N, (cfg0.win 4).flush t = true := by decide +kernel
  have he : ∀ (t : Fin cfg0.N) (p : Fin 256) (j : Fin 1024), ((cfg0.win 4).blk t).view.emb (ix3 0 p j) = idxAt t p j := fun t p j =>
    eq_idxAt t p j _ fun d => congrArg (· + _) (hi t d)
  refine (dats m 0 c).arrAt_eq_of_cover 4 _ (fun t _ => ?_) fun y => ?_
  · rw [Cert.AdamSsmWOutIdeal.Value.flushed4]
    funext y
    obtain ⟨p, j, rfl⟩ := exists_ix3 y
    rw [View.read_apply, he]
    exact point_4 m c t p j
  · obtain ⟨t, p, j, rfl⟩ := exists_idxAt y
    exact ⟨t, hf t, he t p j ▸ View.emb_mem_set _ _⟩

theorem final_5 : (dats m 0 c).arrAt 5 cfg0.N = res_5 (m0 m c) (m1 m c) (m2 m c) (m3 m c) := by
  have hi : ∀ t d, win0_5.index t d * S1x256x1024.size d = start t d := by decide +kernel
  have hf : ∀ t : Fin cfg0.N, (cfg0.win 5).flush t = true := by decide +kernel
  have he : ∀ (t : Fin cfg0.N) (p : Fin 256) (j : Fin 1024), ((cfg0.win 5).blk t).view.emb (ix3 0 p j) = idxAt t p j := fun t p j =>
    eq_idxAt t p j _ fun d => congrArg (· + _) (hi t d)
  refine (dats m 0 c).arrAt_eq_of_cover 5 _ (fun t _ => ?_) fun y => ?_
  · rw [Cert.AdamSsmWOutIdeal.Value.flushed5]
    funext y
    obtain ⟨p, j, rfl⟩ := exists_ix3 y
    rw [View.read_apply, he]
    exact point_5 m c t p j
  · obtain ⟨t, p, j, rfl⟩ := exists_idxAt y
    exact ⟨t, hf t, he t p j ▸ View.emb_mem_set _ _⟩

theorem final_6 : (dats m 0 c).arrAt 6 cfg0.N = res_6 (m0 m c) (m1 m c) (m2 m c) (m3 m c) := by
  have hi : ∀ t d, win0_6.index t d * S1x256x1024.size d = start t d := by decide +kernel
  have hf : ∀ t : Fin cfg0.N, (cfg0.win 6).flush t = true := by decide +kernel
  have he : ∀ (t : Fin cfg0.N) (p : Fin 256) (j : Fin 1024), ((cfg0.win 6).blk t).view.emb (ix3 0 p j) = idxAt t p j := fun t p j =>
    eq_idxAt t p j _ fun d => congrArg (· + _) (hi t d)
  refine (dats m 0 c).arrAt_eq_of_cover 6 _ (fun t _ => ?_) fun y => ?_
  · rw [Cert.AdamSsmWOutIdeal.Value.flushed6]
    funext y
    obtain ⟨p, j, rfl⟩ := exists_ix3 y
    rw [View.read_apply, he]
    exact point_6 m c t p j
  · obtain ⟨t, p, j, rfl⟩ := exists_idxAt y
    exact ⟨t, hf t, he t p j ▸ View.emb_mem_set _ _⟩

theorem final_7 : (dats m 0 c).arrAt 7 cfg0.N = res_7 (m0 m c) (m1 m c) (m2 m c) (m3 m c) := by
  have hi : ∀ t d, win0_7.index t d * S1x256x1024.size d = start t d := by decide +kernel
  have hf : ∀ t : Fin cfg0.N, (cfg0.win 7).flush t = true := by decide +kernel
  have he : ∀ (t : Fin cfg0.N) (p : Fin 256) (j : Fin 1024), ((cfg0.win 7).blk t).view.emb (ix3 0 p j) = idxAt t p j := fun t p j =>
    eq_idxAt t p j _ fun d => congrArg (· + _) (hi t d)
  refine (dats m 0 c).arrAt_eq_of_cover 7 _ (fun t _ => ?_) fun y => ?_
  · rw [Cert.AdamSsmWOutIdeal.Value.flushed7]
    funext y
    obtain ⟨p, j, rfl⟩ := exists_ix3 y
    rw [View.read_apply, he]
    exact point_7 m c t p j
  · obtain ⟨t, p, j, rfl⟩ := exists_idxAt y
    exact ⟨t, hf t, he t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v1_0) = res_4 (m0 m c) (m1 m c) (m2 m c) (m3 m c)
      ∧ r.2.mem ((c : Thread nD τ).loc main_v1_1) = res_5 (m0 m c) (m1 m c) (m2 m c) (m3 m c)
      ∧ r.2.mem ((c : Thread nD τ).loc main_v1_2) = res_6 (m0 m c) (m1 m c) (m2 m c) (m3 m c)
      ∧ r.2.mem ((c : Thread nD τ).loc main_v1_3) = res_7 (m0 m c) (m1 m c) (m2 m c) (m3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_4 m c), (h c).2.1.trans (final_5 m c), (h c).2.2.1.trans (final_6 m c),
    (h c).2.2.2.1.trans (final_7 m c), (h c).2.2.2.2⟩) (Cert.AdamSsmWOutIdeal.Value.run_blocks m ρ)
end

end Cert.AdamSsmWOut

namespace Cert.AdamSsmWOut

open Cert.AdamSsmWOutReferenceIdeal Cert.AdamSsmWOutReferenceIdeal.Gen Cert.AdamSsmWOutReferenceIdeal.Read

theorem reference_grad (X0 : FVec Ideal S8x256x1024 .f32) : val_main_v1 (F := Ideal) X0 = grad X0 := by
  funext y
  obtain ⟨a, b, j, rfl⟩ : ∃ (a : Fin 1) (b : Fin 256) (j : Fin 1024), y = ix3 a b j := ⟨y 0, y 1, y 2, eq_ix3 y⟩
  unfold val_main_v1 val_main_v0 val_main_cst
  unfold grad
  pointwise

theorem reference_5 (X0 : FVec Ideal S8x256x1024 .f32) (X1 X2 X3 : FVec Ideal S1x256x1024 .f32) : val_main_v25 (F := Ideal) X0 X1 X2 X3 = res_5 X0 X1 X2 X3 := by
  funext y
  unfold val_main_v25 val_main_v24 val_main_v23 val_main_v20 val_main_v22 val_main_v14 val_main_v19 val_main_v21 val_main_v6 val_main_v13 val_main_v17 val_main_v18 val_main_v3 val_main_v5 val_main_v16 val_main_v2 val_main_v4 val_main_v12 val_main_v15 val_main_v8 val_main_v11 val_main_v7 val_main_v10 val_main_v9 val_main_cst_0 val_main_cst_1 val_main_cst_2 val_main_cst_3 val_main_cst_4 val_main_cst_5 val_main_cst_6 val_main_cst_7 val_main_cst_8
  rw [reference_grad]
  obtain ⟨a, b, j, rfl⟩ : ∃ (a : Fin 1) (b : Fin 256) (j : Fin 1024), y = ix3 a b j := ⟨y 0, y 1, y 2, eq_ix3 y⟩
  unfold res_5
  generalize grad X0 = g
  pointwise
  rfl

theorem reference_6 (X0 : FVec Ideal S8x256x1024 .f32) (X1 X2 X3 : FVec Ideal S1x256x1024 .f32) : val_main_v6 (F := Ideal) X0 X2 = res_6 X0 X1 X2 X3 := by
  funext y
  unfold val_main_v6 val_main_v3 val_main_v5 val_main_v2 val_main_v4 val_main_cst_0 val_main_cst_1
  rw [reference_grad]
  obtain ⟨a, b, j, rfl⟩ : ∃ (a : Fin 1) (b : Fin 256) (j : Fin 1024), y = ix3 a b j := ⟨y 0, y 1, y 2, eq_ix3 y⟩
  unfold res_6
  generalize grad X0 = g
  pointwise
  rfl

theorem reference_7 (X0 : FVec Ideal S8x256x1024 .f32) (X1 X2 X3 : FVec Ideal S1x256x1024 .f32) : val_main_v12 (F := Ideal) X0 X3 = res_7 X0 X1 X2 X3 := by
  funext y
  unfold val_main_v12 val_main_v8 val_main_v11 val_main_v7 val_main_v10 val_main_v9 val_main_cst_2 val_main_cst_3
  rw [reference_grad]
  obtain ⟨a, b, j, rfl⟩ : ∃ (a : Fin 1) (b : Fin 256) (j : Fin 1024), y = ix3 a b j := ⟨y 0, y 1, y 2, eq_ix3 y⟩
  unfold res_7
  generalize grad X0 = g
  pointwise
  rfl

end Cert.AdamSsmWOut

end
-- ==== Proof.AdamFfnWInValue.lean ====
/-
  The optimiser's launch on the feed-forward layers' input weights: the gradient, the change of the
  weight and the new moments; what its arrays hold after the grid, and what the reference computes.
-/
module

public import proofs.«01_k».proof.Proof.AdamRows
public import Idealize.ShloMosaic.Lib.StableHlo.ReadAt
public import proofs.«01_k».proof.Proof.Gen.AdamFfnWInIdeal.Value
public import proofs.«01_k».proof.Proof.Gen.AdamFfnWInReferenceIdeal.Run
public import proofs.«01_k».proof.Proof.Gen.AdamFfnWInReferenceIdeal.Read

@[expose] public section

set_option maxRecDepth 16384
noncomputable section
open Idealize.ShloMosaic Idealize.ShloMosaic.TcCoe Idealize.SL.Sem Cert.AdamRows

namespace Cert.AdamFfnWIn

open Cert.AdamFfnWInIdeal Cert.AdamFfnWInIdeal.Gen

/-- The gradient. -/
def grad (X0 X1 : S1024x704.Idx → EReal) (y : S2x1024x704.Idx) : EReal :=
  if (y 0).val = 1 then X1 (ix2 (y 1) (y 2)) else X0 (ix2 (y 1) (y 2))

def res_5 (X0 X1 : S1024x704.Idx → EReal) (_X2 : S2x1024x704.Idx → EReal) (_X3 : S2x1024x704.Idx → EReal) (_X4 : S2x1024x704.Idx → EReal) (y : S2x1024x704.Idx) : EReal := grad X0 X1 y
def res_6 (X0 X1 : S1024x704.Idx → EReal) (X2 : S2x1024x704.Idx → EReal) (X3 : S2x1024x704.Idx → EReal) (X4 : S2x1024x704.Idx → EReal) (y : S2x1024x704.Idx) : EReal := delta (X2 y) (X3 y) (X4 y) (grad X0 X1 y)
def res_7 (X0 X1 : S1024x704.Idx → EReal) (_X2 : S2x1024x704.Idx → EReal) (X3 : S2x1024x704.Idx → EReal) (_X4 : S2x1024x704.Idx → EReal) (y : S2x1024x704.Idx) : EReal := newM (X3 y) (grad X0 X1 y)
def res_8 (X0 X1 : S1024x704.Idx → EReal) (_X2 : S2x1024x704.Idx → EReal) (_X3 : S2x1024x704.Idx → EReal) (X4 : S2x1024x704.Idx → EReal) (y : S2x1024x704.Idx) : EReal := newV (X4 y) (grad X0 X1 y)

theorem blk_5 (i : grid0.Coords) (x0 x1 : Vec Ideal S1x256x704 .f32) (x2 x3 x4 : Vec Ideal S1x256x704 .f32) (p : Fin 256) (j : Fin 704) :
    out0_5 (F := Ideal) i x0 x1 x2 x3 x4 (ix3 0 p j) = (if (i 0).val = 1 then x1 (ix3 0 p j) else x0 (ix3 0 p j) : EReal) := by
  unfold out0_5
  rw [canon_all]
  unfold k0_pay5 k0_pay2
  pointwise
  exact select_layer (i 0) _ _

theorem blk_6 (i : grid0.Coords) (x0 x1 : Vec Ideal S1x256x704 .f32) (x2 x3 x4 : Vec Ideal S1x256x704 .f32) (p : Fin 256) (j : Fin 704) :
    out0_6 (F := Ideal) i x0 x1 x2 x3 x4 (ix3 0 p j) = delta (x2 (ix3 0 p j)) (x3 (ix3 0 p j)) (x4 (ix3 0 p j)) (out0_5 (F := Ideal) i x0 x1 x2 x3 x4 (ix3 0 p j)) := by
  unfold out0_6
  unfold out0_5
  rw [canon_all, canon_all]
  generalize k0_pay2 (F := Ideal) _ _ _ = g
  unfold k0_pay1 k0_pay3 k0_pay4 k0_pay5
  pointwise
  rfl

theorem blk_7 (i : grid0.Coords) (x0 x1 : Vec Ideal S1x256x704 .f32) (x2 x3 x4 : Vec Ideal S1x256x704 .f32) (p : Fin 256) (j : Fin 704) :
    out0_7 (F := Ideal) i x0 x1 x2 x3 x4 (ix3 0 p j) = newM (x3 (ix3 0 p j)) (out0_5 (F := Ideal) i x0 x1 x2 x3 x4 (ix3 0 p j)) := by
  unfold out0_7
  unfold out0_5
  rw [canon_all, canon_all]
  generalize k0_pay2 (F := Ideal) _ _ _ = g
  unfold k0_pay6 k0_pay3 k0_pay5
  pointwise
  rfl

theorem blk_8 (i : grid0.Coords) (x0 x1 : Vec Ideal S1x256x704 .f32) (x2 x3 x4 : Vec Ideal S1x256x704 .f32) (p : Fin 256) (j : Fin 704) :
    out0_8 (F := Ideal) i x0 x1 x2 x3 x4 (ix3 0 p j) = newV (x4 (ix3 0 p j)) (out0_5 (F := Ideal) i x0 x1 x2 x3 x4 (ix3 0 p j)) := by
  unfold out0_8
  unfold out0_5
  rw [canon_all, canon_all]
  generalize k0_pay2 (F := Ideal) _ _ _ = g
  unfold k0_pay7 k0_pay4 k0_pay5
  pointwise
  rfl

section
variable (m : (ℓ : Loc nD τ sig) → Buf (Elt Ideal) ℓ) (c : Dev nD)

abbrev m0 : S1024x704.Idx → EReal := m ((c : Thread nD τ).loc main_arg0)
abbrev m1 : S1024x704.Idx → EReal := m ((c : Thread nD τ).loc main_arg1)
abbrev m2 : S2x1024x704.Idx → EReal := m ((c : Thread nD τ).loc main_arg2)
abbrev m3 : S2x1024x704.Idx → EReal := m ((c : Thread nD τ).loc main_arg3)
abbrev m4 : S2x1024x704.Idx → EReal := m ((c : Thread nD τ).loc main_arg4)
abbrev b0 (t : Fin cfg0.N) : S1x256x704.Idx → EReal := iblk m c 0 t
abbrev b1 (t : Fin cfg0.N) : S1x256x704.Idx → EReal := iblk m c 1 t
abbrev b2 (t : Fin cfg0.N) : S1x256x704.Idx → EReal := iblk m c 2 t
abbrev b3 (t : Fin cfg0.N) : S1x256x704.Idx → EReal := iblk m c 3 t
abbrev b4 (t : Fin cfg0.N) : S1x256x704.Idx → EReal := iblk m c 4 t

theorem host_0 (k : Fin 1) (a : Fin 1024) (b : Fin 704) : V m c main_v0 (ix3 k a b) = m0 m c (ix2 a b) := by
  unfold V hostOps0
  simp only [List.flatten_cons, List.flatten_nil, List.cons_append, List.nil_append, List.append_nil]
  after_reads_at

theorem host_1 (k : Fin 1) (a : Fin 1024) (b : Fin 704) : V m c main_v1 (ix3 k a b) = m1 m c (ix2 a b) := by
  unfold V hostOps0
  simp only [List.flatten_cons, List.flatten_nil, List.cons_append, List.nil_append, List.append_nil]
  after_reads_at

theorem point_lt (t : Fin cfg0.N) : t.val < 8 := lt_of_lt_of_eq t.isLt (show cfg0.N = 8 from N_0)

/-- The array's row at row `p` of the block of point `t`. -/
def rowAt (t : Fin cfg0.N) (p : Fin 256) : Fin 1024 := ⟨256 * (t.val % 4) + p.val, by omega⟩

def idxAt (t : Fin cfg0.N) (p : Fin 256) (j : Fin 704) : S2x1024x704.Idx :=
  ix3 (⟨t.val / 4, by have := point_lt t; omega⟩ : Fin 2) (rowAt t p) j

theorem exists_idxAt (y : S2x1024x704.Idx) : ∃ t p j, idxAt t p j = y := by
  obtain ⟨a, b, j, rfl⟩ : ∃ (a : Fin 2) (b : Fin 1024) (j : Fin 704), y = ix3 a b j := ⟨y 0, y 1, y 2, eq_ix3 y⟩
  obtain ⟨t, p, h0, h1⟩ := exists_point (tr := 256) (nt := 4) (show cfg0.N = 2 * 4 from N_0) (by decide) a b
  refine ⟨t, p, j, funext fun d => Fin.ext ?_⟩
  match d with
  | ⟨0, _⟩ => exact h0
  | ⟨1, _⟩ => exact h1
  | ⟨2, _⟩ => rfl

/-- Where the block of a point starts. -/
def start (t : Fin cfg0.N) : Fin 3 → ℕ := ![t.val / 4, 256 * (t.val % 4), 0]

theorem eq_idxAt (t : Fin cfg0.N) (p : Fin 256) (j : Fin 704) (x : S2x1024x704.Idx)
    (h : ∀ d, (x d).val = start t d + 1 * ((ix3 0 p j : S1x256x704.Idx) d).val) : x = idxAt t p j := by
  refine funext fun d => Fin.ext ((h d).trans ?_)
  match d with
  | ⟨0, _⟩ => rfl
  | ⟨1, _⟩ => exact congrArg _ (Nat.one_mul _)
  | ⟨2, _⟩ => exact (Nat.zero_add _).trans (Nat.one_mul _)

theorem coord_0 : ∀ t : Fin cfg0.N, (grid0.coords t 0).val = t.val / 4 := by decide +kernel

theorem iblk_0 (t : Fin cfg0.N) (k : Fin 1) (p : Fin 256) (j : Fin 704) : b0 m c t (ix3 k p j) = m0 m c (ix2 (rowAt t p) j) := by
  have hi : ∀ t : Fin cfg0.N, win0_0.index t 0 = 0 ∧ win0_0.index t 1 = t.val % 4 ∧ win0_0.index t 2 = 0 := by decide +kernel
  have hi := hi t
  rw [← host_0 m c k (rowAt t p) j]
  unfold b0 iblk
  rw [View.read_apply]
  show V m c main_v0 _ = V m c main_v0 _
  refine congrArg (V m c main_v0) (funext fun d => Fin.ext ?_)
  match d with
  | ⟨0, _⟩ => show win0_0.index t 0 * 1 + 1 * k.val = k.val; rw [hi.1]; omega
  | ⟨1, _⟩ => show win0_0.index t 1 * 256 + 1 * p.val = 256 * (t.val % 4) + p.val; rw [hi.2.1]; omega
  | ⟨2, _⟩ => show win0_0.index t 2 * 704 + 1 * j.val = j.val; rw [hi.2.2]; omega

theorem iblk_1 (t : Fin cfg0.N) (k : Fin 1) (p : Fin 256) (j : Fin 704) : b1 m c t (ix3 k p j) = m1 m c (ix2 (rowAt t p) j) := by
  have hi : ∀ t : Fin cfg0.N, win0_1.index t 0 = 0 ∧ win0_1.index t 1 = t.val % 4 ∧ win0_1.index t 2 = 0 := by decide +kernel
  have hi := hi t
  rw [← host_1 m c k (rowAt t p) j]
  unfold b1 iblk
  rw [View.read_apply]
  show V m c main_v1 _ = V m c main_v1 _
  refine congrArg (V m c main_v1) (funext fun d => Fin.ext ?_)
  match d with
  | ⟨0, _⟩ => show win0_1.index t 0 * 1 + 1 * k.val = k.val; rw [hi.1]; omega
  | ⟨1, _⟩ => show win0_1.index t 1 * 256 + 1 * p.val = 256 * (t.val % 4) + p.val; rw [hi.2.1]; omega
  | ⟨2, _⟩ => show win0_1.index t 2 * 704 + 1 * j.val = j.val; rw [hi.2.2]; omega

theorem iblk_2 (t : Fin cfg0.N) (p : Fin 256) (j : Fin 704) : b2 m c t (ix3 0 p j) = m2 m c (idxAt t p j) := by
  have hi : ∀ t d, win0_2.index t d * S1x256x704.size d = start t d := by decide +kernel
  refine Eq.trans ?_ (congrFun (V_main_arg2 m c) (idxAt t p j))
  unfold b2 iblk
  rw [View.read_apply]
  exact congrArg (V m c main_arg2) (eq_idxAt t p j _ fun d => congrArg (· + _) (hi t d))

theorem iblk_3 (t : Fin cfg0.N) (p : Fin 256) (j : Fin 704) : b3 m c t (ix3 0 p j) = m3 m c (idxAt t p j) := by
  have hi : ∀ t d, win0_3.index t d * S1x256x704.size d = start t d := by decide +kernel
  refine Eq.trans ?_ (congrFun (V_main_arg3 m c) (idxAt t p j))
  unfold b3 iblk
  rw [View.read_apply]
  exact congrArg (V m c main_arg3) (eq_idxAt t p j _ fun d => congrArg (· + _) (hi t d))

theorem iblk_4 (t : Fin cfg0.N) (p : Fin 256) (j : Fin 704) : b4 m c t (ix3 0 p j) = m4 m c (idxAt t p j) := by
  have hi : ∀ t d, win0_4.index t d * S1x256x704.size d = start t d := by decide +kernel
  refine Eq.trans ?_ (congrFun (V_main_arg4 m c) (idxAt t p j))
  unfold b4 iblk
  rw [View.read_apply]
  exact congrArg (V m c main_arg4) (eq_idxAt t p j _ fun d => congrArg (· + _) (hi t d))

theorem point_5 (t : Fin cfg0.N) (p : Fin 256) (j : Fin 704) :
    out0_5 (F := Ideal) (grid0.coords t) (b0 m c t) (b1 m c t) (b2 m c t) (b3 m c t) (b4 m c t) (ix3 0 p j) = res_5 (m0 m c) (m1 m c) (m2 m c) (m3 m c) (m4 m c) (idxAt t p j) := by
  refine (blk_5 (grid0.coords t) (b0 m c t) (b1 m c t) (b2 m c t) (b3 m c t) (b4 m c t) p j).trans ?_
  simp only [iblk_0, iblk_1, coord_0]
  rfl

theorem point_6 (t : Fin cfg0.N) (p : Fin 256) (j : Fin 704) :
    out0_6 (F := Ideal) (grid0.coords t) (b0 m c t) (b1 m c t) (b2 m c t) (b3 m c t) (b4 m c t) (ix3 0 p j) = res_6 (m0 m c) (m1 m c) (m2 m c) (m3 m c) (m4 m c) (idxAt t p j) := by
  refine (blk_6 (grid0.coords t) (b0 m c t) (b1 m c t) (b2 m c t) (b3 m c t) (b4 m c t) p j).trans ?_
  rw [point_5, iblk_2, iblk_3, iblk_4]
  rfl

theorem point_7 (t : Fin cfg0.N) (p : Fin 256) (j : Fin 704) :
    out0_7 (F := Ideal) (grid0.coords t) (b0 m c t) (b1 m c t) (b2 m c t) (b3 m c t) (b4 m c t) (ix3 0 p j) = res_7 (m0 m c) (m1 m c) (m2 m c) (m3 m c) (m4 m c) (idxAt t p j) := by
  refine (blk_7 (grid0.coords t) (b0 m c t) (b1 m c t) (b2 m c t) (b3 m c t) (b4 m c t) p j).trans ?_
  rw [point_5, iblk_3]
  rfl

theorem point_8 (t : Fin cfg0.N) (p : Fin 256) (j : Fin 704) :
    out0_8 (F := Ideal) (grid0.coords t) (b0 m c t) (b1 m c t) (b2 m c t) (b3 m c t) (b4 m c t) (ix3 0 p j) = res_8 (m0 m c) (m1 m c) (m2 m c) (m3 m c) (m4 m c) (idxAt t p j) := by
  refine (blk_8 (grid0.coords t) (b0 m c t) (b1 m c t) (b2 m c t) (b3 m c t) (b4 m c t) p j).trans ?_
  rw [point_5, iblk_4]
  rfl

theorem final_5 : (dats m 0 c).arrAt 5 cfg0.N = res_5 (m0 m c) (m1 m c) (m2 m c) (m3 m c) (m4 m c) := by
  have hi : ∀ t d, win0_5.index t d * S1x256x704.size d = start t d := by decide +kernel
  have hf : ∀ t : Fin cfg0.N, (cfg0.win 5).flush t = true := by decide +kernel
  have he : ∀ (t : Fin cfg0.N) (p : Fin 256) (j : Fin 704), ((cfg0.win 5).blk t).view.emb (ix3 0 p j) = idxAt t p j := fun t p j =>
    eq_idxAt t p j _ fun d => congrArg (· + _) (hi t d)
  refine (dats m 0 c).arrAt_eq_of_cover 5 _ (fun t _ => ?_) fun y => ?_
  · rw [Cert.AdamFfnWInIdeal.Value.flushed5]
    funext y
    obtain ⟨p, j, rfl⟩ := exists_ix3 y
    rw [View.read_apply, he]
    exact point_5 m c t p j
  · obtain ⟨t, p, j, rfl⟩ := exists_idxAt y
    exact ⟨t, hf t, he t p j ▸ View.emb_mem_set _ _⟩

theorem final_6 : (dats m 0 c).arrAt 6 cfg0.N = res_6 (m0 m c) (m1 m c) (m2 m c) (m3 m c) (m4 m c) := by
  have hi : ∀ t d, win0_6.index t d * S1x256x704.size d = start t d := by decide +kernel
  have hf : ∀ t : Fin cfg0.N, (cfg0.win 6).flush t = true := by decide +kernel
  have he : ∀ (t : Fin cfg0.N) (p : Fin 256) (j : Fin 704), ((cfg0.win 6).blk t).view.emb (ix3 0 p j) = idxAt t p j := fun t p j =>
    eq_idxAt t p j _ fun d => congrArg (· + _) (hi t d)
  refine (dats m 0 c).arrAt_eq_of_cover 6 _ (fun t _ => ?_) fun y => ?_
  · rw [Cert.AdamFfnWInIdeal.Value.flushed6]
    funext y
    obtain ⟨p, j, rfl⟩ := exists_ix3 y
    rw [View.read_apply, he]
    exact point_6 m c t p j
  · obtain ⟨t, p, j, rfl⟩ := exists_idxAt y
    exact ⟨t, hf t, he t p j ▸ View.emb_mem_set _ _⟩

theorem final_7 : (dats m 0 c).arrAt 7 cfg0.N = res_7 (m0 m c) (m1 m c) (m2 m c) (m3 m c) (m4 m c) := by
  have hi : ∀ t d, win0_7.index t d * S1x256x704.size d = start t d := by decide +kernel
  have hf : ∀ t : Fin cfg0.N, (cfg0.win 7).flush t = true := by decide +kernel
  have he : ∀ (t : Fin cfg0.N) (p : Fin 256) (j : Fin 704), ((cfg0.win 7).blk t).view.emb (ix3 0 p j) = idxAt t p j := fun t p j =>
    eq_idxAt t p j _ fun d => congrArg (· + _) (hi t d)
  refine (dats m 0 c).arrAt_eq_of_cover 7 _ (fun t _ => ?_) fun y => ?_
  · rw [Cert.AdamFfnWInIdeal.Value.flushed7]
    funext y
    obtain ⟨p, j, rfl⟩ := exists_ix3 y
    rw [View.read_apply, he]
    exact point_7 m c t p j
  · obtain ⟨t, p, j, rfl⟩ := exists_idxAt y
    exact ⟨t, hf t, he t p j ▸ View.emb_mem_set _ _⟩

theorem final_8 : (dats m 0 c).arrAt 8 cfg0.N = res_8 (m0 m c) (m1 m c) (m2 m c) (m3 m c) (m4 m c) := by
  have hi : ∀ t d, win0_8.index t d * S1x256x704.size d = start t d := by decide +kernel
  have hf : ∀ t : Fin cfg0.N, (cfg0.win 8).flush t = true := by decide +kernel
  have he : ∀ (t : Fin cfg0.N) (p : Fin 256) (j : Fin 704), ((cfg0.win 8).blk t).view.emb (ix3 0 p j) = idxAt t p j := fun t p j =>
    eq_idxAt t p j _ fun d => congrArg (· + _) (hi t d)
  refine (dats m 0 c).arrAt_eq_of_cover 8 _ (fun t _ => ?_) fun y => ?_
  · rw [Cert.AdamFfnWInIdeal.Value.flushed8]
    funext y
    obtain ⟨p, j, rfl⟩ := exists_ix3 y
    rw [View.read_apply, he]
    exact point_8 m c t p j
  · obtain ⟨t, p, j, rfl⟩ := exists_idxAt y
    exact ⟨t, hf t, he t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v2_0) = res_5 (m0 m c) (m1 m c) (m2 m c) (m3 m c) (m4 m c)
      ∧ r.2.mem ((c : Thread nD τ).loc main_v2_1) = res_6 (m0 m c) (m1 m c) (m2 m c) (m3 m c) (m4 m c)
      ∧ r.2.mem ((c : Thread nD τ).loc main_v2_2) = res_7 (m0 m c) (m1 m c) (m2 m c) (m3 m c) (m4 m c)
      ∧ r.2.mem ((c : Thread nD τ).loc main_v2_3) = res_8 (m0 m c) (m1 m c) (m2 m c) (m3 m c) (m4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_5 m c), (h c).2.1.trans (final_6 m c), (h c).2.2.1.trans (final_7 m c),
    (h c).2.2.2.1.trans (final_8 m c), (h c).2.2.2.2⟩) (Cert.AdamFfnWInIdeal.Value.run_blocks m ρ)
end

end Cert.AdamFfnWIn

namespace Cert.AdamFfnWIn

open Cert.AdamFfnWInReferenceIdeal Cert.AdamFfnWInReferenceIdeal.Gen Cert.AdamFfnWInReferenceIdeal.Read

theorem reference_grad (X0 X1 : FVec Ideal S1024x704 .f32) : val_main_v2 (F := Ideal) X0 X1 = grad X0 X1 := by
  funext y
  obtain ⟨a, b, j, rfl⟩ : ∃ (a : Fin 2) (b : Fin 1024) (j : Fin 704), y = ix3 a b j := ⟨y 0, y 1, y 2, eq_ix3 y⟩
  unfold val_main_v2 val_main_v0 val_main_v1
  unfold grad
  pointwise
  fin_cases a <;> rfl

theorem reference_6 (X0 X1 : FVec Ideal S1024x704 .f32) (X2 X3 X4 : FVec Ideal S2x1024x704 .f32) : val_main_v26 (F := Ideal) X0 X1 X2 X3 X4 = res_6 X0 X1 X2 X3 X4 := by
  funext y
  unfold val_main_v26 val_main_v25 val_main_v24 val_main_v21 val_main_v23 val_main_v15 val_main_v20 val_main_v22 val_main_v7 val_main_v14 val_main_v18 val_main_v19 val_main_v4 val_main_v6 val_main_v17 val_main_v3 val_main_v5 val_main_v13 val_main_v16 val_main_v9 val_main_v12 val_main_v8 val_main_v11 val_main_v10 val_main_cst val_main_cst_0 val_main_cst_1 val_main_cst_2 val_main_cst_3 val_main_cst_4 val_main_cst_5 val_main_cst_6 val_main_cst_7
  rw [reference_grad]
  obtain ⟨a, b, j, rfl⟩ : ∃ (a : Fin 2) (b : Fin 1024) (j : Fin 704), y = ix3 a b j := ⟨y 0, y 1, y 2, eq_ix3 y⟩
  unfold res_6
  generalize grad X0 X1 = g
  pointwise
  rfl

theorem reference_7 (X0 X1 : FVec Ideal S1024x704 .f32) (X2 X3 X4 : FVec Ideal S2x1024x704 .f32) : val_main_v7 (F := Ideal) X0 X1 X3 = res_7 X0 X1 X2 X3 X4 := by
  funext y
  unfold val_main_v7 val_main_v4 val_main_v6 val_main_v3 val_main_v5 val_main_cst val_main_cst_0
  rw [reference_grad]
  obtain ⟨a, b, j, rfl⟩ : ∃ (a : Fin 2) (b : Fin 1024) (j : Fin 704), y = ix3 a b j := ⟨y 0, y 1, y 2, eq_ix3 y⟩
  unfold res_7
  generalize grad X0 X1 = g
  pointwise
  rfl

theorem reference_8 (X0 X1 : FVec Ideal S1024x704 .f32) (X2 X3 X4 : FVec Ideal S2x1024x704 .f32) : val_main_v13 (F := Ideal) X0 X1 X4 = res_8 X0 X1 X2 X3 X4 := by
  funext y
  unfold val_main_v13 val_main_v9 val_main_v12 val_main_v8 val_main_v11 val_main_v10 val_main_cst_1 val_main_cst_2
  rw [reference_grad]
  obtain ⟨a, b, j, rfl⟩ : ∃ (a : Fin 2) (b : Fin 1024) (j : Fin 704), y = ix3 a b j := ⟨y 0, y 1, y 2, eq_ix3 y⟩
  unfold res_8
  generalize grad X0 X1 = g
  pointwise
  rfl

end Cert.AdamFfnWIn

end
-- ==== Proof.AdamFfnWOutValue.lean ====
/-
  The optimiser's launch on the feed-forward layers' output weights: the gradient summed from its eight parts, the change of the
  weight and the new moments; what its arrays hold after the grid, and what the reference computes.
-/
module

public import proofs.«01_k».proof.Proof.AdamRows
public import Idealize.ShloMosaic.Lib.StableHlo.ReadAt
public import proofs.«01_k».proof.Proof.Gen.AdamFfnWOutIdeal.Value
public import proofs.«01_k».proof.Proof.Gen.AdamFfnWOutReferenceIdeal.Run
public import proofs.«01_k».proof.Proof.Gen.AdamFfnWOutReferenceIdeal.Read

@[expose] public section

set_option maxRecDepth 16384
noncomputable section
open Idealize.ShloMosaic Idealize.ShloMosaic.TcCoe Idealize.SL.Sem Cert.AdamRows

namespace Cert.AdamFfnWOut

open Cert.AdamFfnWOutIdeal Cert.AdamFfnWOutIdeal.Gen

/-- The gradient. -/
def grad (X0 X1 : S8x352x1024.Idx → EReal) (y : S2x352x1024.Idx) : EReal :=
  if (y 0).val = 1 then ∑ k : Fin 8, X1 (ix3 k (y 1) (y 2)) else ∑ k : Fin 8, X0 (ix3 k (y 1) (y 2))

def res_5 (X0 X1 : S8x352x1024.Idx → EReal) (_X2 : S2x352x1024.Idx → EReal) (_X3 : S2x352x1024.Idx → EReal) (_X4 : S2x352x1024.Idx → EReal) (y : S2x352x1024.Idx) : EReal := grad X0 X1 y
def res_6 (X0 X1 : S8x352x1024.Idx → EReal) (X2 : S2x352x1024.Idx → EReal) (X3 : S2x352x1024.Idx → EReal) (X4 : S2x352x1024.Idx → EReal) (y : S2x352x1024.Idx) : EReal := delta (X2 y) (X3 y) (X4 y) (grad X0 X1 y)
def res_7 (X0 X1 : S8x352x1024.Idx → EReal) (_X2 : S2x352x1024.Idx → EReal) (X3 : S2x352x1024.Idx → EReal) (_X4 : S2x352x1024.Idx → EReal) (y : S2x352x1024.Idx) : EReal := newM (X3 y) (grad X0 X1 y)
def res_8 (X0 X1 : S8x352x1024.Idx → EReal) (_X2 : S2x352x1024.Idx → EReal) (_X3 : S2x352x1024.Idx → EReal) (X4 : S2x352x1024.Idx → EReal) (y : S2x352x1024.Idx) : EReal := newV (X4 y) (grad X0 X1 y)

theorem blk_5 (i : grid0.Coords) (x0 x1 : Vec Ideal S8x352x1024 .bf16) (x2 x3 x4 : Vec Ideal S1x352x1024 .f32) (p : Fin 352) (j : Fin 1024) :
    out0_5 (F := Ideal) i x0 x1 x2 x3 x4 (ix3 0 p j) = (if (i 0).val = 1 then ∑ k : Fin 8, x1 (ix3 k p j) else ∑ k : Fin 8, x0 (ix3 k p j) : EReal) := by
  unfold_out out0_5
  rw [canon_all]
  unfold k0_pay7 k0_pay2 k0_pay3
  pointwise
  rw [Fin.sum_univ_eight, Fin.sum_univ_eight]
  exact select_layer (i 0) _ _

theorem blk_6 (i : grid0.Coords) (x0 x1 : Vec Ideal S8x352x1024 .bf16) (x2 x3 x4 : Vec Ideal S1x352x1024 .f32) (p : Fin 352) (j : Fin 1024) :
    out0_6 (F := Ideal) i x0 x1 x2 x3 x4 (ix3 0 p j) = delta (x2 (ix3 0 p j)) (x3 (ix3 0 p j)) (x4 (ix3 0 p j)) (out0_5 (F := Ideal) i x0 x1 x2 x3 x4 (ix3 0 p j)) := by
  unfold_out out0_6
  unfold_out out0_5
  rw [canon_all, canon_all]
  generalize k0_pay3 (F := Ideal) _ _ _ _ _ _ _ _ _ _ = g
  unfold k0_pay1 k0_pay10 k0_pay11 k0_pay4 k0_pay5 k0_pay6 k0_pay7
  pointwise
  rfl

theorem blk_7 (i : grid0.Coords) (x0 x1 : Vec Ideal S8x352x1024 .bf16) (x2 x3 x4 : Vec Ideal S1x352x1024 .f32) (p : Fin 352) (j : Fin 1024) :
    out0_7 (F := Ideal) i x0 x1 x2 x3 x4 (ix3 0 p j) = newM (x3 (ix3 0 p j)) (out0_5 (F := Ideal) i x0 x1 x2 x3 x4 (ix3 0 p j)) := by
  unfold_out out0_7
  unfold_out out0_5
  rw [canon_all, canon_all]
  generalize k0_pay3 (F := Ideal) _ _ _ _ _ _ _ _ _ _ = g
  unfold k0_pay8 k0_pay4 k0_pay5 k0_pay7
  pointwise
  rfl

theorem blk_8 (i : grid0.Coords) (x0 x1 : Vec Ideal S8x352x1024 .bf16) (x2 x3 x4 : Vec Ideal S1x352x1024 .f32) (p : Fin 352) (j : Fin 1024) :
    out0_8 (F := Ideal) i x0 x1 x2 x3 x4 (ix3 0 p j) = newV (x4 (ix3 0 p j)) (out0_5 (F := Ideal) i x0 x1 x2 x3 x4 (ix3 0 p j)) := by
  unfold_out out0_8
  unfold_out out0_5
  rw [canon_all, canon_all]
  generalize k0_pay3 (F := Ideal) _ _ _ _ _ _ _ _ _ _ = g
  unfold k0_pay9 k0_pay6 k0_pay7
  pointwise
  rfl

section
variable (m : (ℓ : Loc nD τ sig) → Buf (Elt Ideal) ℓ) (c : Dev nD)

abbrev m0 : S8x352x1024.Idx → EReal := m ((c : Thread nD τ).loc main_arg0)
abbrev m1 : S8x352x1024.Idx → EReal := m ((c : Thread nD τ).loc main_arg1)
abbrev m2 : S2x352x1024.Idx → EReal := m ((c : Thread nD τ).loc main_arg2)
abbrev m3 : S2x352x1024.Idx → EReal := m ((c : Thread nD τ).loc main_arg3)
abbrev m4 : S2x352x1024.Idx → EReal := m ((c : Thread nD τ).loc main_arg4)
abbrev b0 (t : Fin cfg0.N) : S8x352x1024.Idx → EReal := iblk m c 0 t
abbrev b1 (t : Fin cfg0.N) : S8x352x1024.Idx → EReal := iblk m c 1 t
abbrev b2 (t : Fin cfg0.N) : S1x352x1024.Idx → EReal := iblk m c 2 t
abbrev b3 (t : Fin cfg0.N) : S1x352x1024.Idx → EReal := iblk m c 3 t
abbrev b4 (t : Fin cfg0.N) : S1x352x1024.Idx → EReal := iblk m c 4 t

theorem host_0 (k : Fin 8) (a : Fin 352) (b : Fin 1024) : V m c main_v0 (ix3 k a b) = m0 m c (ix3 k a b) := by
  unfold V hostOps0
  simp only [List.flatten_cons, List.flatten_nil, List.cons_append, List.nil_append, List.append_nil]
  after_reads_at

theorem host_1 (k : Fin 8) (a : Fin 352) (b : Fin 1024) : V m c main_v1 (ix3 k a b) = m1 m c (ix3 k a b) := by
  unfold V hostOps0
  simp only [List.flatten_cons, List.flatten_nil, List.cons_append, List.nil_append, List.append_nil]
  after_reads_at

theorem point_lt (t : Fin cfg0.N) : t.val < 2 := lt_of_lt_of_eq t.isLt (show cfg0.N = 2 from N_0)

/-- The array's row at row `p` of the block of point `t`. -/
def rowAt (t : Fin cfg0.N) (p : Fin 352) : Fin 352 := ⟨352 * (t.val % 1) + p.val, by omega⟩

def idxAt (t : Fin cfg0.N) (p : Fin 352) (j : Fin 1024) : S2x352x1024.Idx :=
  ix3 (⟨t.val / 1, by have := point_lt t; omega⟩ : Fin 2) (rowAt t p) j

theorem exists_idxAt (y : S2x352x1024.Idx) : ∃ t p j, idxAt t p j = y := by
  obtain ⟨a, b, j, rfl⟩ : ∃ (a : Fin 2) (b : Fin 352) (j : Fin 1024), y = ix3 a b j := ⟨y 0, y 1, y 2, eq_ix3 y⟩
  obtain ⟨t, p, h0, h1⟩ := exists_point (tr := 352) (nt := 1) (show cfg0.N = 2 * 1 from N_0) (by decide) a b
  refine ⟨t, p, j, funext fun d => Fin.ext ?_⟩
  match d with
  | ⟨0, _⟩ => exact h0
  | ⟨1, _⟩ => exact h1
  | ⟨2, _⟩ => rfl

/-- Where the block of a point starts. -/
def start (t : Fin cfg0.N) : Fin 3 → ℕ := ![t.val / 1, 352 * (t.val % 1), 0]

theorem eq_idxAt (t : Fin cfg0.N) (p : Fin 352) (j : Fin 1024) (x : S2x352x1024.Idx)
    (h : ∀ d, (x d).val = start t d + 1 * ((ix3 0 p j : S1x352x1024.Idx) d).val) : x = idxAt t p j := by
  refine funext fun d => Fin.ext ((h d).trans ?_)
  match d with
  | ⟨0, _⟩ => rfl
  | ⟨1, _⟩ => exact congrArg _ (Nat.one_mul _)
  | ⟨2, _⟩ => exact (Nat.zero_add _).trans (Nat.one_mul _)

theorem coord_0 : ∀ t : Fin cfg0.N, (grid0.coords t 0).val = t.val / 1 := by decide +kernel

theorem iblk_0 (t : Fin cfg0.N) (k : Fin 8) (p : Fin 352) (j : Fin 1024) : b0 m c t (ix3 k p j) = m0 m c (ix3 k (rowAt t p) j) := by
  have hi : ∀ t : Fin cfg0.N, win0_0.index t 0 = 0 ∧ win0_0.index t 1 = t.val % 1 ∧ win0_0.index t 2 = 0 := by decide +kernel
  have hi := hi t
  rw [← host_0 m c k (rowAt t p) j]
  unfold b0 iblk
  rw [View.read_apply]
  show V m c main_v0 _ = V m c main_v0 _
  refine congrArg (V m c main_v0) (funext fun d => Fin.ext ?_)
  match d with
  | ⟨0, _⟩ => show win0_0.index t 0 * 8 + 1 * k.val = k.val; rw [hi.1]; omega
  | ⟨1, _⟩ => show win0_0.index t 1 * 352 + 1 * p.val = 352 * (t.val % 1) + p.val; rw [hi.2.1]; omega
  | ⟨2, _⟩ => show win0_0.index t 2 * 1024 + 1 * j.val = j.val; rw [hi.2.2]; omega

theorem iblk_1 (t : Fin cfg0.N) (k : Fin 8) (p : Fin 352) (j : Fin 1024) : b1 m c t (ix3 k p j) = m1 m c (ix3 k (rowAt t p) j) := by
  have hi : ∀ t : Fin cfg0.N, win0_1.index t 0 = 0 ∧ win0_1.index t 1 = t.val % 1 ∧ win0_1.index t 2 = 0 := by decide +kernel
  have hi := hi t
  rw [← host_1 m c k (rowAt t p) j]
  unfold b1 iblk
  rw [View.read_apply]
  show V m c main_v1 _ = V m c main_v1 _
  refine congrArg (V m c main_v1) (funext fun d => Fin.ext ?_)
  match d with
  | ⟨0, _⟩ => show win0_1.index t 0 * 8 + 1 * k.val = k.val; rw [hi.1]; omega
  | ⟨1, _⟩ => show win0_1.index t 1 * 352 + 1 * p.val = 352 * (t.val % 1) + p.val; rw [hi.2.1]; omega
  | ⟨2, _⟩ => show win0_1.index t 2 * 1024 + 1 * j.val = j.val; rw [hi.2.2]; omega

theorem iblk_2 (t : Fin cfg0.N) (p : Fin 352) (j : Fin 1024) : b2 m c t (ix3 0 p j) = m2 m c (idxAt t p j) := by
  have hi : ∀ t d, win0_2.index t d * S1x352x1024.size d = start t d := by decide +kernel
  refine Eq.trans ?_ (congrFun (V_main_arg2 m c) (idxAt t p j))
  unfold b2 iblk
  rw [View.read_apply]
  exact congrArg (V m c main_arg2) (eq_idxAt t p j _ fun d => congrArg (· + _) (hi t d))

theorem iblk_3 (t : Fin cfg0.N) (p : Fin 352) (j : Fin 1024) : b3 m c t (ix3 0 p j) = m3 m c (idxAt t p j) := by
  have hi : ∀ t d, win0_3.index t d * S1x352x1024.size d = start t d := by decide +kernel
  refine Eq.trans ?_ (congrFun (V_main_arg3 m c) (idxAt t p j))
  unfold b3 iblk
  rw [View.read_apply]
  exact congrArg (V m c main_arg3) (eq_idxAt t p j _ fun d => congrArg (· + _) (hi t d))

theorem iblk_4 (t : Fin cfg0.N) (p : Fin 352) (j : Fin 1024) : b4 m c t (ix3 0 p j) = m4 m c (idxAt t p j) := by
  have hi : ∀ t d, win0_4.index t d * S1x352x1024.size d = start t d := by decide +kernel
  refine Eq.trans ?_ (congrFun (V_main_arg4 m c) (idxAt t p j))
  unfold b4 iblk
  rw [View.read_apply]
  exact congrArg (V m c main_arg4) (eq_idxAt t p j _ fun d => congrArg (· + _) (hi t d))

theorem point_5 (t : Fin cfg0.N) (p : Fin 352) (j : Fin 1024) :
    out0_5 (F := Ideal) (grid0.coords t) (b0 m c t) (b1 m c t) (b2 m c t) (b3 m c t) (b4 m c t) (ix3 0 p j) = res_5 (m0 m c) (m1 m c) (m2 m c) (m3 m c) (m4 m c) (idxAt t p j) := by
  refine (blk_5 (grid0.coords t) (b0 m c t) (b1 m c t) (b2 m c t) (b3 m c t) (b4 m c t) p j).trans ?_
  simp only [iblk_0, iblk_1, coord_0]
  rfl

theorem point_6 (t : Fin cfg0.N) (p : Fin 352) (j : Fin 1024) :
    out0_6 (F := Ideal) (grid0.coords t) (b0 m c t) (b1 m c t) (b2 m c t) (b3 m c t) (b4 m c t) (ix3 0 p j) = res_6 (m0 m c) (m1 m c) (m2 m c) (m3 m c) (m4 m c) (idxAt t p j) := by
  refine (blk_6 (grid0.coords t) (b0 m c t) (b1 m c t) (b2 m c t) (b3 m c t) (b4 m c t) p j).trans ?_
  rw [point_5, iblk_2, iblk_3, iblk_4]
  rfl

theorem point_7 (t : Fin cfg0.N) (p : Fin 352) (j : Fin 1024) :
    out0_7 (F := Ideal) (grid0.coords t) (b0 m c t) (b1 m c t) (b2 m c t) (b3 m c t) (b4 m c t) (ix3 0 p j) = res_7 (m0 m c) (m1 m c) (m2 m c) (m3 m c) (m4 m c) (idxAt t p j) := by
  refine (blk_7 (grid0.coords t) (b0 m c t) (b1 m c t) (b2 m c t) (b3 m c t) (b4 m c t) p j).trans ?_
  rw [point_5, iblk_3]
  rfl

theorem point_8 (t : Fin cfg0.N) (p : Fin 352) (j : Fin 1024) :
    out0_8 (F := Ideal) (grid0.coords t) (b0 m c t) (b1 m c t) (b2 m c t) (b3 m c t) (b4 m c t) (ix3 0 p j) = res_8 (m0 m c) (m1 m c) (m2 m c) (m3 m c) (m4 m c) (idxAt t p j) := by
  refine (blk_8 (grid0.coords t) (b0 m c t) (b1 m c t) (b2 m c t) (b3 m c t) (b4 m c t) p j).trans ?_
  rw [point_5, iblk_4]
  rfl

theorem final_5 : (dats m 0 c).arrAt 5 cfg0.N = res_5 (m0 m c) (m1 m c) (m2 m c) (m3 m c) (m4 m c) := by
  have hi : ∀ t d, win0_5.index t d * S1x352x1024.size d = start t d := by decide +kernel
  have hf : ∀ t : Fin cfg0.N, (cfg0.win 5).flush t = true := by decide +kernel
  have he : ∀ (t : Fin cfg0.N) (p : Fin 352) (j : Fin 1024), ((cfg0.win 5).blk t).view.emb (ix3 0 p j) = idxAt t p j := fun t p j =>
    eq_idxAt t p j _ fun d => congrArg (· + _) (hi t d)
  refine (dats m 0 c).arrAt_eq_of_cover 5 _ (fun t _ => ?_) fun y => ?_
  · rw [Cert.AdamFfnWOutIdeal.Value.flushed5]
    funext y
    obtain ⟨p, j, rfl⟩ := exists_ix3 y
    rw [View.read_apply, he]
    exact point_5 m c t p j
  · obtain ⟨t, p, j, rfl⟩ := exists_idxAt y
    exact ⟨t, hf t, he t p j ▸ View.emb_mem_set _ _⟩

theorem final_6 : (dats m 0 c).arrAt 6 cfg0.N = res_6 (m0 m c) (m1 m c) (m2 m c) (m3 m c) (m4 m c) := by
  have hi : ∀ t d, win0_6.index t d * S1x352x1024.size d = start t d := by decide +kernel
  have hf : ∀ t : Fin cfg0.N, (cfg0.win 6).flush t = true := by decide +kernel
  have he : ∀ (t : Fin cfg0.N) (p : Fin 352) (j : Fin 1024), ((cfg0.win 6).blk t).view.emb (ix3 0 p j) = idxAt t p j := fun t p j =>
    eq_idxAt t p j _ fun d => congrArg (· + _) (hi t d)
  refine (dats m 0 c).arrAt_eq_of_cover 6 _ (fun t _ => ?_) fun y => ?_
  · rw [Cert.AdamFfnWOutIdeal.Value.flushed6]
    funext y
    obtain ⟨p, j, rfl⟩ := exists_ix3 y
    rw [View.read_apply, he]
    exact point_6 m c t p j
  · obtain ⟨t, p, j, rfl⟩ := exists_idxAt y
    exact ⟨t, hf t, he t p j ▸ View.emb_mem_set _ _⟩

theorem final_7 : (dats m 0 c).arrAt 7 cfg0.N = res_7 (m0 m c) (m1 m c) (m2 m c) (m3 m c) (m4 m c) := by
  have hi : ∀ t d, win0_7.index t d * S1x352x1024.size d = start t d := by decide +kernel
  have hf : ∀ t : Fin cfg0.N, (cfg0.win 7).flush t = true := by decide +kernel
  have he : ∀ (t : Fin cfg0.N) (p : Fin 352) (j : Fin 1024), ((cfg0.win 7).blk t).view.emb (ix3 0 p j) = idxAt t p j := fun t p j =>
    eq_idxAt t p j _ fun d => congrArg (· + _) (hi t d)
  refine (dats m 0 c).arrAt_eq_of_cover 7 _ (fun t _ => ?_) fun y => ?_
  · rw [Cert.AdamFfnWOutIdeal.Value.flushed7]
    funext y
    obtain ⟨p, j, rfl⟩ := exists_ix3 y
    rw [View.read_apply, he]
    exact point_7 m c t p j
  · obtain ⟨t, p, j, rfl⟩ := exists_idxAt y
    exact ⟨t, hf t, he t p j ▸ View.emb_mem_set _ _⟩

theorem final_8 : (dats m 0 c).arrAt 8 cfg0.N = res_8 (m0 m c) (m1 m c) (m2 m c) (m3 m c) (m4 m c) := by
  have hi : ∀ t d, win0_8.index t d * S1x352x1024.size d = start t d := by decide +kernel
  have hf : ∀ t : Fin cfg0.N, (cfg0.win 8).flush t = true := by decide +kernel
  have he : ∀ (t : Fin cfg0.N) (p : Fin 352) (j : Fin 1024), ((cfg0.win 8).blk t).view.emb (ix3 0 p j) = idxAt t p j := fun t p j =>
    eq_idxAt t p j _ fun d => congrArg (· + _) (hi t d)
  refine (dats m 0 c).arrAt_eq_of_cover 8 _ (fun t _ => ?_) fun y => ?_
  · rw [Cert.AdamFfnWOutIdeal.Value.flushed8]
    funext y
    obtain ⟨p, j, rfl⟩ := exists_ix3 y
    rw [View.read_apply, he]
    exact point_8 m c t p j
  · obtain ⟨t, p, j, rfl⟩ := exists_idxAt y
    exact ⟨t, hf t, he t p j ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v2_0) = res_5 (m0 m c) (m1 m c) (m2 m c) (m3 m c) (m4 m c)
      ∧ r.2.mem ((c : Thread nD τ).loc main_v2_1) = res_6 (m0 m c) (m1 m c) (m2 m c) (m3 m c) (m4 m c)
      ∧ r.2.mem ((c : Thread nD τ).loc main_v2_2) = res_7 (m0 m c) (m1 m c) (m2 m c) (m3 m c) (m4 m c)
      ∧ r.2.mem ((c : Thread nD τ).loc main_v2_3) = res_8 (m0 m c) (m1 m c) (m2 m c) (m3 m c) (m4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_5 m c), (h c).2.1.trans (final_6 m c), (h c).2.2.1.trans (final_7 m c),
    (h c).2.2.2.1.trans (final_8 m c), (h c).2.2.2.2⟩) (Cert.AdamFfnWOutIdeal.Value.run_blocks m ρ)
end

end Cert.AdamFfnWOut

namespace Cert.AdamFfnWOut

open Cert.AdamFfnWOutReferenceIdeal Cert.AdamFfnWOutReferenceIdeal.Gen Cert.AdamFfnWOutReferenceIdeal.Read

theorem reference_grad (X0 X1 : FVec Ideal S8x352x1024 .f32) : val_main_v4 (F := Ideal) X0 X1 = grad X0 X1 := by
  funext y
  obtain ⟨a, b, j, rfl⟩ : ∃ (a : Fin 2) (b : Fin 352) (j : Fin 1024), y = ix3 a b j := ⟨y 0, y 1, y 2, eq_ix3 y⟩
  unfold val_main_v4 val_main_v2 val_main_v3 val_main_v0 val_main_v1 val_main_cst val_main_cst_0
  unfold grad
  pointwise
  fin_cases a <;> rfl

theorem reference_6 (X0 X1 : FVec Ideal S8x352x1024 .f32) (X2 X3 X4 : FVec Ideal S2x352x1024 .f32) : val_main_v28 (F := Ideal) X0 X1 X2 X3 X4 = res_6 X0 X1 X2 X3 X4 := by
  funext y
  unfold val_main_v28 val_main_v27 val_main_v26 val_main_v23 val_main_v25 val_main_v17 val_main_v22 val_main_v24 val_main_v9 val_main_v16 val_main_v20 val_main_v21 val_main_v6 val_main_v8 val_main_v19 val_main_v5 val_main_v7 val_main_v15 val_main_v18 val_main_v11 val_main_v14 val_main_v10 val_main_v13 val_main_v12 val_main_cst_1 val_main_cst_2 val_main_cst_3 val_main_cst_4 val_main_cst_5 val_main_cst_6 val_main_cst_7 val_main_cst_8 val_main_cst_9
  rw [reference_grad]
  obtain ⟨a, b, j, rfl⟩ : ∃ (a : Fin 2) (b : Fin 352) (j : Fin 1024), y = ix3 a b j := ⟨y 0, y 1, y 2, eq_ix3 y⟩
  unfold res_6
  generalize grad X0 X1 = g
  pointwise
  rfl

theorem reference_7 (X0 X1 : FVec Ideal S8x352x1024 .f32) (X2 X3 X4 : FVec Ideal S2x352x1024 .f32) : val_main_v9 (F := Ideal) X0 X1 X3 = res_7 X0 X1 X2 X3 X4 := by
  funext y
  unfold val_main_v9 val_main_v6 val_main_v8 val_main_v5 val_main_v7 val_main_cst_1 val_main_cst_2
  rw [reference_grad]
  obtain ⟨a, b, j, rfl⟩ : ∃ (a : Fin 2) (b : Fin 352) (j : Fin 1024), y = ix3 a b j := ⟨y 0, y 1, y 2, eq_ix3 y⟩
  unfold res_7
  generalize grad X0 X1 = g
  pointwise
  rfl

theorem reference_8 (X0 X1 : FVec Ideal S8x352x1024 .f32) (X2 X3 X4 : FVec Ideal S2x352x1024 .f32) : val_main_v15 (F := Ideal) X0 X1 X4 = res_8 X0 X1 X2 X3 X4 := by
  funext y
  unfold val_main_v15 val_main_v11 val_main_v14 val_main_v10 val_main_v13 val_main_v12 val_main_cst_3 val_main_cst_4
  rw [reference_grad]
  obtain ⟨a, b, j, rfl⟩ : ∃ (a : Fin 2) (b : Fin 352) (j : Fin 1024), y = ix3 a b j := ⟨y 0, y 1, y 2, eq_ix3 y⟩
  unfold res_8
  generalize grad X0 X1 = g
  pointwise
  rfl

end Cert.AdamFfnWOut

end
-- ==== Proof.SumAttnWInValue.lean ====
/-
  The gradient of the attention layer's input weight, summed from its eight parts: what the launch's array holds after the grid, and
  what the reference computes.
-/
module

public import proofs.«01_k».proof.Proof.AdamRows
public import proofs.«01_k».proof.Proof.Blocks
public import Idealize.ShloMosaic.Lib.StableHlo.ReadAt
public import proofs.«01_k».proof.Proof.Gen.SumAttnWInIdeal.Value
public import proofs.«01_k».proof.Proof.Gen.SumAttnWInReferenceIdeal.Run
public import proofs.«01_k».proof.Proof.Gen.SumAttnWInReferenceIdeal.Read

@[expose] public section

set_option maxRecDepth 16384
noncomputable section
open Idealize.ShloMosaic Idealize.ShloMosaic.TcCoe Idealize.SL.Sem

namespace Cert.SumAttnWIn

open Cert.SumAttnWInIdeal Cert.SumAttnWInIdeal.Gen

/-- The sum of the eight parts. -/
def res_1 (X0 : S8x288x1024.Idx → EReal) (y : S288x1024.Idx) : EReal := ∑ k : Fin 8, X0 (ix3 k (y 0) (y 1))

theorem blk_1 (x0 : Vec Ideal S8x288x256 .bf16) (p : Fin 288) (j : Fin 256) :
    out0_1 (F := Ideal) x0 (ix2 p j) = (∑ k : Fin 8, x0 (ix3 k p j) : EReal) := by
  unfold out0_1
  rw [Blocks.canon_all]
  unfold k0_pay1
  pointwise
  rw [Fin.sum_univ_eight]

section
variable (m : (ℓ : Loc nD τ sig) → Buf (Elt Ideal) ℓ) (c : Dev nD)

abbrev m0 : S8x288x1024.Idx → EReal := m ((c : Thread nD τ).loc main_arg0)
abbrev b0 (t : Fin cfg0.N) : S8x288x256.Idx → EReal := iblk m c 0 t

theorem host_0 (k : Fin 8) (a : Fin 288) (b : Fin 1024) : V m c main_v0 (ix3 k a b) = m0 m c (ix3 k a b) := by
  unfold V hostOps0
  simp only [List.flatten, List.append_nil]
  after_reads_at

/-- The array's column at column `j` of block `t`. -/
def colAt (t : Fin cfg0.N) (j : Fin 256) : Fin 1024 := ⟨256 * t.val + j.val, by have := lt_of_lt_of_eq t.isLt (show cfg0.N = 4 from N_0); omega⟩

theorem exists_colAt (i : Fin 1024) : ∃ t j, colAt t j = i := by
  have hN : i.val / 256 < cfg0.N := by rw [show cfg0.N = 4 from N_0]; omega
  exact ⟨⟨_, hN⟩, ⟨i.val % 256, Nat.mod_lt _ (by decide)⟩, Fin.ext (Nat.div_add_mod i.val 256)⟩

theorem iblk_0 (t : Fin cfg0.N) (k : Fin 8) (p : Fin 288) (j : Fin 256) : b0 m c t (ix3 k p j) = m0 m c (ix3 k p (colAt t j)) := by
  have hi : ∀ t, win0_0.index t 0 = 0 ∧ win0_0.index t 1 = 0 ∧ win0_0.index t 2 = t.val := by decide +kernel
  have hi := hi t
  rw [← host_0 m c k p (colAt t j)]
  unfold b0 iblk
  rw [View.read_apply]
  refine congrArg (V m c main_v0) (funext fun d => Fin.ext ?_)
  match d with
  | ⟨0, _⟩ => show win0_0.index t 0 * 8 + 1 * k.val = k.val; rw [hi.1]; omega
  | ⟨1, _⟩ => show win0_0.index t 1 * 288 + 1 * p.val = p.val; rw [hi.2.1]; omega
  | ⟨2, _⟩ => show win0_0.index t 2 * 256 + 1 * j.val = 256 * t.val + j.val; rw [hi.2.2]; omega

theorem point_1 (t : Fin cfg0.N) (p : Fin 288) (j : Fin 256) :
    out0_1 (F := Ideal) (b0 m c t) (ix2 p j) = res_1 (m0 m c) (ix2 p (colAt t j)) := by
  refine (blk_1 (b0 m c t) p j).trans ?_
  simp only [iblk_0]
  rfl

theorem index_1 : ∀ t : Fin cfg0.N, win0_1.index t 0 * 288 = 0 ∧ win0_1.index t 1 * 256 = 256 * t.val := by decide +kernel
theorem flush_1 : ∀ t : Fin cfg0.N, (cfg0.win 1).flush t = true := by decide +kernel

theorem emb_1 (t : Fin cfg0.N) (p : Fin 288) (j : Fin 256) :
    ((cfg0.win 1).blk t).view.emb (ix2 p j) = (ix2 p (colAt t j) : S288x1024.Idx) :=
  Blocks.eq_ix2_of (index_1 t) rfl rfl (Nat.zero_add _) rfl

theorem final_1 : (dats m 0 c).arrAt 1 cfg0.N = res_1 (m0 m c) := by
  refine (dats m 0 c).arrAt_eq_of_cover 1 (res_1 (m0 m c)) (fun t hf => ?_) fun y => ?_
  · rw [Cert.SumAttnWInIdeal.Value.flushed1]
    funext y
    obtain ⟨p, j, rfl⟩ := Blocks.exists_ix2 y
    rw [View.read_apply, emb_1 t p j]
    exact point_1 m c t p j
  · obtain ⟨i, j, rfl⟩ := Blocks.exists_ix2 y
    obtain ⟨t, q, rfl⟩ := exists_colAt j
    exact ⟨t, flush_1 t, emb_1 t i q ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v1) = res_1 (m0 m c)
      ∧ r.2.mem ((c : Thread nD τ).loc main_arg0) = m ((c : Thread nD τ).loc main_arg0) :=
  (θ_run defs _ _).mono (fun _ h c => ⟨(h c).1.trans (final_1 m c), (h c).2⟩) (Cert.SumAttnWInIdeal.Value.run_blocks m ρ)
end

end Cert.SumAttnWIn

namespace Cert.SumAttnWIn

open Cert.SumAttnWInReferenceIdeal Cert.SumAttnWInReferenceIdeal.Gen Cert.SumAttnWInReferenceIdeal.Read

/-- What the reference computes. -/
theorem reference_eq_1 (A0 : FVec Ideal S8x288x1024 .f32) :
    (Host.reduceAdd A0 (constant S_ .f32 0x00000000#32) reducesTo_S8x288x1024_S288x1024_d0 h_S_ : FVec Ideal S288x1024 .f32) = res_1 A0 := by
  funext y
  obtain ⟨i, j, rfl⟩ := Blocks.exists_ix2 y
  unfold res_1
  pointwise

end Cert.SumAttnWIn

end
-- ==== Proof.SumSsmWInValue.lean ====
/-
  The gradient of the state-space layer's input weight, summed from its eight parts: what the launch's array holds after the grid, and
  what the reference computes.
-/
module

public import proofs.«01_k».proof.Proof.AdamRows
public import proofs.«01_k».proof.Proof.Blocks
public import Idealize.ShloMosaic.Lib.StableHlo.ReadAt
public import proofs.«01_k».proof.Proof.Gen.SumSsmWInIdeal.Value
public import proofs.«01_k».proof.Proof.Gen.SumSsmWInReferenceIdeal.Run
public import proofs.«01_k».proof.Proof.Gen.SumSsmWInReferenceIdeal.Read

@[expose] public section

set_option maxRecDepth 16384
noncomputable section
open Idealize.ShloMosaic Idealize.ShloMosaic.TcCoe Idealize.SL.Sem

namespace Cert.SumSsmWIn

open Cert.SumSsmWInIdeal Cert.SumSsmWInIdeal.Gen

/-- The sum of the eight parts. -/
def res_1 (X0 : S8x644x1024.Idx → EReal) (y : S644x1024.Idx) : EReal := ∑ k : Fin 8, X0 (ix3 k (y 0) (y 1))

theorem blk_1 (x0 : Vec Ideal S8x644x256 .bf16) (p : Fin 644) (j : Fin 256) :
    out0_1 (F := Ideal) x0 (ix2 p j) = (∑ k : Fin 8, x0 (ix3 k p j) : EReal) := by
  unfold out0_1
  rw [Blocks.canon_all]
  unfold k0_pay1
  pointwise
  rw [Fin.sum_univ_eight]

section
variable (m : (ℓ : Loc nD τ sig) → Buf (Elt Ideal) ℓ) (c : Dev nD)

abbrev m0 : S8x644x1024.Idx → EReal := m ((c : Thread nD τ).loc main_arg0)
abbrev b0 (t : Fin cfg0.N) : S8x644x256.Idx → EReal := iblk m c 0 t

theorem host_0 (k : Fin 8) (a : Fin 644) (b : Fin 1024) : V m c main_v0 (ix3 k a b) = m0 m c (ix3 k a b) := by
  unfold V hostOps0
  simp only [List.flatten, List.append_nil]
  after_reads_at

/-- The array's column at column `j` of block `t`. -/
def colAt (t : Fin cfg0.N) (j : Fin 256) : Fin 1024 := ⟨256 * t.val + j.val, by have := lt_of_lt_of_eq t.isLt (show cfg0.N = 4 from N_0); omega⟩

theorem exists_colAt (i : Fin 1024) : ∃ t j, colAt t j = i := by
  have hN : i.val / 256 < cfg0.N := by rw [show cfg0.N = 4 from N_0]; omega
  exact ⟨⟨_, hN⟩, ⟨i.val % 256, Nat.mod_lt _ (by decide)⟩, Fin.ext (Nat.div_add_mod i.val 256)⟩

theorem iblk_0 (t : Fin cfg0.N) (k : Fin 8) (p : Fin 644) (j : Fin 256) : b0 m c t (ix3 k p j) = m0 m c (ix3 k p (colAt t j)) := by
  have hi : ∀ t, win0_0.index t 0 = 0 ∧ win0_0.index t 1 = 0 ∧ win0_0.index t 2 = t.val := by decide +kernel
  have hi := hi t
  rw [← host_0 m c k p (colAt t j)]
  unfold b0 iblk
  rw [View.read_apply]
  refine congrArg (V m c main_v0) (funext fun d => Fin.ext ?_)
  match d with
  | ⟨0, _⟩ => show win0_0.index t 0 * 8 + 1 * k.val = k.val; rw [hi.1]; omega
  | ⟨1, _⟩ => show win0_0.index t 1 * 644 + 1 * p.val = p.val; rw [hi.2.1]; omega
  | ⟨2, _⟩ => show win0_0.index t 2 * 256 + 1 * j.val = 256 * t.val + j.val; rw [hi.2.2]; omega

theorem point_1 (t : Fin cfg0.N) (p : Fin 644) (j : Fin 256) :
    out0_1 (F := Ideal) (b0 m c t) (ix2 p j) = res_1 (m0 m c) (ix2 p (colAt t j)) := by
  refine (blk_1 (b0 m c t) p j).trans ?_
  simp only [iblk_0]
  rfl

theorem index_1 : ∀ t : Fin cfg0.N, win0_1.index t 0 * 644 = 0 ∧ win0_1.index t 1 * 256 = 256 * t.val := by decide +kernel
theorem flush_1 : ∀ t : Fin cfg0.N, (cfg0.win 1).flush t = true := by decide +kernel

theorem emb_1 (t : Fin cfg0.N) (p : Fin 644) (j : Fin 256) :
    ((cfg0.win 1).blk t).view.emb (ix2 p j) = (ix2 p (colAt t j) : S644x1024.Idx) :=
  Blocks.eq_ix2_of (index_1 t) rfl rfl (Nat.zero_add _) rfl

theorem final_1 : (dats m 0 c).arrAt 1 cfg0.N = res_1 (m0 m c) := by
  refine (dats m 0 c).arrAt_eq_of_cover 1 (res_1 (m0 m c)) (fun t hf => ?_) fun y => ?_
  · rw [Cert.SumSsmWInIdeal.Value.flushed1]
    funext y
    obtain ⟨p, j, rfl⟩ := Blocks.exists_ix2 y
    rw [View.read_apply, emb_1 t p j]
    exact point_1 m c t p j
  · obtain ⟨i, j, rfl⟩ := Blocks.exists_ix2 y
    obtain ⟨t, q, rfl⟩ := exists_colAt j
    exact ⟨t, flush_1 t, emb_1 t i q ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v1) = res_1 (m0 m c)
      ∧ r.2.mem ((c : Thread nD τ).loc main_arg0) = m ((c : Thread nD τ).loc main_arg0) :=
  (θ_run defs _ _).mono (fun _ h c => ⟨(h c).1.trans (final_1 m c), (h c).2⟩) (Cert.SumSsmWInIdeal.Value.run_blocks m ρ)
end

end Cert.SumSsmWIn

namespace Cert.SumSsmWIn

open Cert.SumSsmWInReferenceIdeal Cert.SumSsmWInReferenceIdeal.Gen Cert.SumSsmWInReferenceIdeal.Read

/-- What the reference computes. -/
theorem reference_eq_1 (A0 : FVec Ideal S8x644x1024 .f32) :
    (Host.reduceAdd A0 (constant S_ .f32 0x00000000#32) reducesTo_S8x644x1024_S644x1024_d0 h_S_ : FVec Ideal S644x1024 .f32) = res_1 A0 := by
  funext y
  obtain ⟨i, j, rfl⟩ := Blocks.exists_ix2 y
  unfold res_1
  pointwise

end Cert.SumSsmWIn

end
-- ==== Proof.SumFfnWInValue.lean ====
/-
  The gradient of the feed-forward layer's input weight, summed from its eight parts: what the launch's array holds after the grid, and
  what the reference computes.
-/
module

public import proofs.«01_k».proof.Proof.AdamRows
public import proofs.«01_k».proof.Proof.Blocks
public import Idealize.ShloMosaic.Lib.StableHlo.ReadAt
public import proofs.«01_k».proof.Proof.Gen.SumFfnWInIdeal.Value
public import proofs.«01_k».proof.Proof.Gen.SumFfnWInReferenceIdeal.Run
public import proofs.«01_k».proof.Proof.Gen.SumFfnWInReferenceIdeal.Read

@[expose] public section

set_option maxRecDepth 16384
noncomputable section
open Idealize.ShloMosaic Idealize.ShloMosaic.TcCoe Idealize.SL.Sem

namespace Cert.SumFfnWIn

open Cert.SumFfnWInIdeal Cert.SumFfnWInIdeal.Gen

/-- The sum of the eight parts. -/
def res_1 (X0 : S8x704x1024.Idx → EReal) (y : S704x1024.Idx) : EReal := ∑ k : Fin 8, X0 (ix3 k (y 0) (y 1))

theorem blk_1 (x0 : Vec Ideal S8x704x256 .bf16) (p : Fin 704) (j : Fin 256) :
    out0_1 (F := Ideal) x0 (ix2 p j) = (∑ k : Fin 8, x0 (ix3 k p j) : EReal) := by
  unfold out0_1
  rw [Blocks.canon_all]
  unfold k0_pay1
  pointwise
  rw [Fin.sum_univ_eight]

section
variable (m : (ℓ : Loc nD τ sig) → Buf (Elt Ideal) ℓ) (c : Dev nD)

abbrev m0 : S8x704x1024.Idx → EReal := m ((c : Thread nD τ).loc main_arg0)
abbrev b0 (t : Fin cfg0.N) : S8x704x256.Idx → EReal := iblk m c 0 t

theorem host_0 (k : Fin 8) (a : Fin 704) (b : Fin 1024) : V m c main_v0 (ix3 k a b) = m0 m c (ix3 k a b) := by
  unfold V hostOps0
  simp only [List.flatten, List.append_nil]
  after_reads_at

/-- The array's column at column `j` of block `t`. -/
def colAt (t : Fin cfg0.N) (j : Fin 256) : Fin 1024 := ⟨256 * t.val + j.val, by have := lt_of_lt_of_eq t.isLt (show cfg0.N = 4 from N_0); omega⟩

theorem exists_colAt (i : Fin 1024) : ∃ t j, colAt t j = i := by
  have hN : i.val / 256 < cfg0.N := by rw [show cfg0.N = 4 from N_0]; omega
  exact ⟨⟨_, hN⟩, ⟨i.val % 256, Nat.mod_lt _ (by decide)⟩, Fin.ext (Nat.div_add_mod i.val 256)⟩

theorem iblk_0 (t : Fin cfg0.N) (k : Fin 8) (p : Fin 704) (j : Fin 256) : b0 m c t (ix3 k p j) = m0 m c (ix3 k p (colAt t j)) := by
  have hi : ∀ t, win0_0.index t 0 = 0 ∧ win0_0.index t 1 = 0 ∧ win0_0.index t 2 = t.val := by decide +kernel
  have hi := hi t
  rw [← host_0 m c k p (colAt t j)]
  unfold b0 iblk
  rw [View.read_apply]
  refine congrArg (V m c main_v0) (funext fun d => Fin.ext ?_)
  match d with
  | ⟨0, _⟩ => show win0_0.index t 0 * 8 + 1 * k.val = k.val; rw [hi.1]; omega
  | ⟨1, _⟩ => show win0_0.index t 1 * 704 + 1 * p.val = p.val; rw [hi.2.1]; omega
  | ⟨2, _⟩ => show win0_0.index t 2 * 256 + 1 * j.val = 256 * t.val + j.val; rw [hi.2.2]; omega

theorem point_1 (t : Fin cfg0.N) (p : Fin 704) (j : Fin 256) :
    out0_1 (F := Ideal) (b0 m c t) (ix2 p j) = res_1 (m0 m c) (ix2 p (colAt t j)) := by
  refine (blk_1 (b0 m c t) p j).trans ?_
  simp only [iblk_0]
  rfl

theorem index_1 : ∀ t : Fin cfg0.N, win0_1.index t 0 * 704 = 0 ∧ win0_1.index t 1 * 256 = 256 * t.val := by decide +kernel
theorem flush_1 : ∀ t : Fin cfg0.N, (cfg0.win 1).flush t = true := by decide +kernel

theorem emb_1 (t : Fin cfg0.N) (p : Fin 704) (j : Fin 256) :
    ((cfg0.win 1).blk t).view.emb (ix2 p j) = (ix2 p (colAt t j) : S704x1024.Idx) :=
  Blocks.eq_ix2_of (index_1 t) rfl rfl (Nat.zero_add _) rfl

theorem final_1 : (dats m 0 c).arrAt 1 cfg0.N = res_1 (m0 m c) := by
  refine (dats m 0 c).arrAt_eq_of_cover 1 (res_1 (m0 m c)) (fun t hf => ?_) fun y => ?_
  · rw [Cert.SumFfnWInIdeal.Value.flushed1]
    funext y
    obtain ⟨p, j, rfl⟩ := Blocks.exists_ix2 y
    rw [View.read_apply, emb_1 t p j]
    exact point_1 m c t p j
  · obtain ⟨i, j, rfl⟩ := Blocks.exists_ix2 y
    obtain ⟨t, q, rfl⟩ := exists_colAt j
    exact ⟨t, flush_1 t, emb_1 t i q ▸ View.emb_mem_set _ _⟩

theorem kernel_run (ρ : Dev nD → PrngReg) : θ_run defs (onTc (τ := τ) (main (F := Ideal))) ⟨m, fun _ => 0, ρ⟩ fun r => ∀ c : Dev nD,
      r.2.mem ((c : Thread nD τ).loc main_v1) = res_1 (m0 m c)
      ∧ r.2.mem ((c : Thread nD τ).loc main_arg0) = m ((c : Thread nD τ).loc main_arg0) :=
  (θ_run defs _ _).mono (fun _ h c => ⟨(h c).1.trans (final_1 m c), (h c).2⟩) (Cert.SumFfnWInIdeal.Value.run_blocks m ρ)
end

end Cert.SumFfnWIn

namespace Cert.SumFfnWIn

open Cert.SumFfnWInReferenceIdeal Cert.SumFfnWInReferenceIdeal.Gen Cert.SumFfnWInReferenceIdeal.Read

/-- What the reference computes. -/
theorem reference_eq_1 (A0 : FVec Ideal S8x704x1024 .f32) :
    (Host.reduceAdd A0 (constant S_ .f32 0x00000000#32) reducesTo_S8x704x1024_S704x1024_d0 h_S_ : FVec Ideal S704x1024 .f32) = res_1 A0 := by
  funext y
  obtain ⟨i, j, rfl⟩ := Blocks.exists_ix2 y
  unfold res_1
  pointwise

end Cert.SumFfnWIn

end
-- ==== Proof.SsmDwDtValue.lean ====
/-
  The gradient of the time steps' columns of the state-space layer's input weight: the launch sums the products of the rows of its two arrays;
  what its array holds after the grid, and what the reference computes.
-/
module

public import proofs.«01_k».proof.Proof.AtB
public import proofs.«01_k».proof.Proof.Gen.SsmDwDtIdeal.Value
public import proofs.«01_k».proof.Proof.Gen.SsmDwDtReferenceIdeal.Run

@[expose] public section

set_option maxRecDepth 16384
noncomputable section
open Idealize.ShloMosaic Idealize.ShloMosaic.TcCoe Idealize.SL.Sem Cert.Blocks

namespace Cert.SsmDwDt

open Cert.SsmDwDtIdeal Cert.SsmDwDtIdeal.Gen

/-- The product of the transpose of the first array with the second. -/
abbrev prod (A : S8192x128.Idx → EReal) (B : S8192x1024.Idx → EReal) : S128x1024.Idx → EReal := AtB.prod A B

/-- The block product added to the carried block. -/
theorem pay2_apply (a : Vec Ideal S512x128 .bf16) (acc : Vec Ideal S128x1024 .f32) (b : Vec Ideal S512x1024 .bf16)
    (p : Fin 128) (j : Fin 1024) :
    k0_pay2 (F := Ideal) a acc b (ix2 p j) = acc (ix2 p j) + ∑ k : Fin 512, a (ix2 k p) * b (ix2 k j) := by
  unfold k0_pay2
  pointwise

theorem pay1_apply (p : Fin 128) (j : Fin 1024) : k0_pay1 (F := Ideal) (ix2 p j) = 0 := by
  unfold k0_pay1
  pointwise

section
variable (m : (ℓ : Loc nD τ sig) → Buf (Elt Ideal) ℓ) (c : Dev nD)

abbrev mA : S8192x128.Idx → EReal := m ((c : Thread nD τ).loc main_arg0)
abbrev mB : S8192x1024.Idx → EReal := m ((c : Thread nD τ).loc main_arg1)

theorem host_0 (r : Fin 8192) (i : Fin 128) : V m c main_v0 (ix2 r i) = mA m c (ix2 r i) := by
  unfold V hostOps0
  simp only [List.flatten_cons, List.flatten_nil, List.cons_append, List.nil_append, List.append_nil]
  after_reads_at

theorem host_1 (r : Fin 8192) (j : Fin 1024) : V m c main_v1 (ix2 r j) = mB m c (ix2 r j) := by
  unfold V hostOps0
  simp only [List.flatten_cons, List.flatten_nil, List.cons_append, List.nil_append, List.append_nil]
  after_reads_at

theorem point_lt (t : Fin cfg0.N) : t.val < 16 := lt_of_lt_of_eq t.isLt (show cfg0.N = 16 from N_0)

theorem index_0 : ∀ t : Fin cfg0.N, win0_0.index t 0 * 512 = 512 * (t.val % 16) ∧ win0_0.index t 1 * 128 = 128 * (t.val / 16) := by decide +kernel
theorem index_1 : ∀ t : Fin cfg0.N, win0_1.index t 0 * 512 = 512 * (t.val % 16) ∧ win0_1.index t 1 * 1024 = 0 := by decide +kernel
theorem index_2 : ∀ t : Fin cfg0.N, win0_2.index t 0 * 128 = 128 * (t.val / 16) ∧ win0_2.index t 1 * 1024 = 0 := by decide +kernel

theorem iblk_0 (t : Fin cfg0.N) (k : Fin 512) (p : Fin 128) (r : Fin 8192) (i : Fin 128)
    (hr : r.val = 512 * (t.val % 16) + k.val) (hc : i.val = 128 * (t.val / 16) + p.val) :
    iblk m c 0 t (ix2 k p) = mA m c (ix2 r i) := by
  rw [← host_0]
  unfold iblk
  rw [View.read_apply]
  exact congrArg (V m c main_v0) (eq_ix2_of (index_0 t) rfl rfl hr.symm hc.symm)

theorem iblk_1 (t : Fin cfg0.N) (k : Fin 512) (j : Fin 1024) (r : Fin 8192) (hr : r.val = 512 * (t.val % 16) + k.val) :
    iblk m c 1 t (ix2 k j) = mB m c (ix2 r j) := by
  rw [← host_1]
  unfold iblk
  rw [View.read_apply]
  exact congrArg (V m c main_v1) (eq_ix2_of (index_1 t) rfl rfl hr.symm (Nat.zero_add _))

/-- The scratch after the first point of a tile. -/
theorem acc_A (t : Fin cfg0.N) (h0 : t.val % 16 = 0) (h1 : ¬t.val % 16 = 15) :
    (outsAt0 m c t.val t.isLt).2 = k0_pay2 (iblk m c 0 t) (k0_pay1 (F := Ideal)) (iblk m c 1 t) := by
  rw [outsAt0_A m c t h0 h1]
  frame_out

theorem acc_B (t : Fin cfg0.N) (h0 : ¬t.val % 16 = 0) :
    (outsAt0 m c t.val t.isLt).2
      = k0_pay2 (iblk m c 0 t) (outsAt0 m c (t.val - 1) (Nat.lt_of_le_of_lt (Nat.sub_le _ _) t.isLt)).2 (iblk m c 1 t) := by
  by_cases h1 : t.val % 16 = 15
  · rw [outsAt0_C m c t h0 h1]
    frame_out
    rw [read_unread_whole]
  · rw [outsAt0_B m c t h0 h1]
    frame_out
    rw [read_unread_whole]

theorem out_C (t : Fin cfg0.N) (h0 : ¬t.val % 16 = 0) (h1 : t.val % 16 = 15) :
    (outsAt0 m c t.val t.isLt).1
      = k0_pay3 (k0_pay2 (iblk m c 0 t) (outsAt0 m c (t.val - 1) (Nat.lt_of_le_of_lt (Nat.sub_le _ _) t.isLt)).2 (iblk m c 1 t)) := by
  rw [outsAt0_C m c t h0 h1]
  frame_out
  rw [read_unread_whole]

abbrev b0 (t : Fin cfg0.N) : S512x128.Idx → EReal := iblk m c 0 t
abbrev b1 (t : Fin cfg0.N) : S512x1024.Idx → EReal := iblk m c 1 t

/-- The scratch holds the rows of its tile met so far. -/
theorem acc_eq (t : Fin cfg0.N) (p : Fin 128) (j : Fin 1024) (i : Fin 128) (hc : i.val = 128 * (t.val / 16) + p.val) :
    (outsAt0 m c t.val t.isLt).2 (ix2 p j) = ∑ r ∈ Finset.range (512 * (t.val % 16 + 1)), AtB.term (mA m c) (mB m c) i j r := by
  refine AtB.rows (b0 m c) (b1 m c) (fun n hn => (outsAt0 m c n hn).2) (iblk_0 m c) (iblk_1 m c) (fun t h0 p j => ?_)
    (fun t h0 p j => ?_) t.val t.isLt p j i hc
  · rw [acc_A m c t h0 (by omega)]
    refine (pay2_apply (b0 m c t) _ (b1 m c t) p j).trans ?_
    rw [pay1_apply]
  · rw [acc_B m c t h0]
    exact pay2_apply (b0 m c t) _ (b1 m c t) p j

/-- The block written back after the last point of a tile. -/
theorem out_eq (t : Fin cfg0.N) (h1 : t.val % 16 = 15) (p : Fin 128) (j : Fin 1024) (i : Fin 128)
    (hc : i.val = 128 * (t.val / 16) + p.val) :
    (outsAt0 m c t.val t.isLt).1 (ix2 p j) = prod (mA m c) (mB m c) (ix2 i j) := by
  have h0 : ¬t.val % 16 = 0 := by omega
  have e := acc_eq m c t p j i hc
  rw [acc_B m c t h0, h1] at e
  rw [out_C m c t h0 h1]
  exact e.trans (AtB.prod_eq i j).symm

theorem emb_2 (t : Fin cfg0.N) (p : Fin 128) (j : Fin 1024) (i : Fin 128) (hc : i.val = 128 * (t.val / 16) + p.val) :
    ((cfg0.win 2).blk t).view.emb (ix2 p j) = (ix2 i j : S128x1024.Idx) :=
  eq_ix2_of (index_2 t) rfl rfl hc.symm (Nat.zero_add _)

theorem final_2 : (dats m 0 c).arrAt 2 cfg0.N = prod (mA m c) (mB m c) := by
  refine (dats m 0 c).arrAt_eq_of_cover 2 (prod (mA m c) (mB m c)) (fun t hf => ?_) fun y => ?_
  · have ht := point_lt t
    rw [Cert.SsmDwDtIdeal.Value.flushed2]
    funext y
    obtain ⟨p, j, rfl⟩ := exists_ix2 y
    obtain ⟨i, hi⟩ : ∃ i : Fin 128, i.val = 128 * (t.val / 16) + p.val := ⟨⟨128 * (t.val / 16) + p.val, by omega⟩, rfl⟩
    rw [View.read_apply, emb_2 t p j i hi]
    exact out_eq m c t ((flush0_2 t).mp hf) p j i hi
  · obtain ⟨i, j, rfl⟩ := exists_ix2 y
    have hN : 16 * (i.val / 128) + 15 < cfg0.N := by rw [show cfg0.N = 16 from N_0]; omega
    obtain ⟨t, ht⟩ : ∃ t : Fin cfg0.N, t.val = 16 * (i.val / 128) + 15 := ⟨⟨_, hN⟩, rfl⟩
    refine ⟨t, (flush0_2 t).mpr (by omega), ?_⟩
    rw [← emb_2 t ⟨i.val % 128, Nat.mod_lt _ (by decide)⟩ j i (by show i.val = 128 * (t.val / 16) + i.val % 128; omega)]
    exact View.emb_mem_set _ _

theorem kernel_run (ρ : Dev nD → PrngReg) : θ_run defs (onTc (τ := τ) (main (F := Ideal))) ⟨m, fun _ => 0, ρ⟩ fun r => ∀ c : Dev nD,
      r.2.mem ((c : Thread nD τ).loc main_v2) = prod (mA m c) (mB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_2 m c), (h c).2⟩) (Cert.SsmDwDtIdeal.Value.run_blocks m ρ)
end

end Cert.SsmDwDt

namespace Cert.SsmDwDt

open Cert.SsmDwDtReferenceIdeal Cert.SsmDwDtReferenceIdeal.Gen

/-- The reference's result is the same product. -/
theorem reference_eq (A : FVec Ideal S8192x128 .f32) (B : FVec Ideal S8192x1024 .f32) :
    (truncf .bf16 (transpose S128x1024 [1, 0] (transpose S1024x128 [1, 0] (Host.dotGeneral dot_S8192x128_S8192x1024_S128x1024_0_0_1_1_n_n none A B) transposes_S128x1024_S1024x128_1_0) transposes_S1024x128_S128x1024_1_0) bitsLt_bf16_f32 : FVec Ideal S128x1024 .bf16) = prod A B := by
  funext y
  obtain ⟨i, j, rfl⟩ := exists_ix2 y
  show _ = ∑ r : Fin 8192, A (ix2 r i) * B (ix2 r j)
  pointwise
  first | done | exact Finset.sum_congr rfl fun _ _ => mul_comm _ _

end Cert.SsmDwDt

end
-- ==== Proof.lean ====
/- The claims of the step's launches: each kernel runs and leaves its arguments alone, and over the reals it ends with
   what its reference ends with. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.FfnDwOut.Frame
public import proofs.«01_k».proof.Proof.Gen.FfnDwOutIdeal.Value
public import proofs.«01_k».proof.Proof.Gen.FfnDwOutReferenceIdeal.Run
public import proofs.«01_k».proof.Proof.Gen.FfnDwOutReferenceIdeal.Read
public import proofs.«01_k».proof.Proof.Gen.FfnDwIn.Frame
public import proofs.«01_k».proof.Proof.Gen.FfnDwInIdeal.Value
public import proofs.«01_k».proof.Proof.Gen.FfnDwInReferenceIdeal.Run
public import proofs.«01_k».proof.Proof.Gen.FfnDwInReferenceIdeal.Read
public import proofs.«01_k».proof.Proof.Gen.SsmDwOut.Frame
public import proofs.«01_k».proof.Proof.Gen.SsmDwOutIdeal.Value
public import proofs.«01_k».proof.Proof.Gen.SsmDwOutReferenceIdeal.Run
public import proofs.«01_k».proof.Proof.Gen.SsmDwOutReferenceIdeal.Read
public import proofs.«01_k».proof.Proof.Gen.SsmDwZ.Frame
public import proofs.«01_k».proof.Proof.Gen.SsmDwZIdeal.Value
public import proofs.«01_k».proof.Proof.Gen.SsmDwZReferenceIdeal.Run
public import proofs.«01_k».proof.Proof.Gen.SsmDwZReferenceIdeal.Read
public import proofs.«01_k».proof.Proof.Gen.SsmDwX.Frame
public import proofs.«01_k».proof.Proof.Gen.SsmDwXIdeal.Value
public import proofs.«01_k».proof.Proof.Gen.SsmDwXReferenceIdeal.Run
public import proofs.«01_k».proof.Proof.Gen.SsmDwXReferenceIdeal.Read
public import proofs.«01_k».proof.Proof.Gen.AttnDwIn.Frame
public import proofs.«01_k».proof.Proof.Gen.AttnDwInIdeal.Value
public import proofs.«01_k».proof.Proof.Gen.AttnDwInReferenceIdeal.Run
public import proofs.«01_k».proof.Proof.Gen.AttnDwInReferenceIdeal.Read
public import proofs.«01_k».proof.Proof.Gen.AttnDwOut.Frame
public import proofs.«01_k».proof.Proof.Gen.AttnDwOutIdeal.Value
public import proofs.«01_k».proof.Proof.Gen.AttnDwOutReferenceIdeal.Run
public import proofs.«01_k».proof.Proof.Gen.AttnDwOutReferenceIdeal.Read
public import proofs.«01_k».proof.Proof.Gen.FfnOut.Frame
public import proofs.«01_k».proof.Proof.Gen.FfnOutIdeal.Value
public import proofs.«01_k».proof.Proof.Gen.FfnOutReferenceIdeal.Run
public import proofs.«01_k».proof.Proof.Gen.FfnOutReferenceIdeal.Read
public import proofs.«01_k».proof.Proof.Gen.SsmOut.Frame
public import proofs.«01_k».proof.Proof.Gen.SsmOutIdeal.Value
public import proofs.«01_k».proof.Proof.Gen.SsmOutReferenceIdeal.Run
public import proofs.«01_k».proof.Proof.Gen.SsmOutReferenceIdeal.Read
public import proofs.«01_k».proof.Proof.Gen.SsmDy.Frame
public import proofs.«01_k».proof.Proof.Gen.SsmDyIdeal.Value
public import proofs.«01_k».proof.Proof.Gen.SsmDyReferenceIdeal.Run
public import proofs.«01_k».proof.Proof.Gen.SsmDyReferenceIdeal.Read
public import proofs.«01_k».proof.Proof.Gen.AttnDo.Frame
public import proofs.«01_k».proof.Proof.Gen.AttnDoIdeal.Value
public import proofs.«01_k».proof.Proof.Gen.AttnDoReferenceIdeal.Run
public import proofs.«01_k».proof.Proof.Gen.AttnDoReferenceIdeal.Read
public import proofs.«01_k».proof.Proof.Gen.AttnOut.Frame
public import proofs.«01_k».proof.Proof.Gen.AttnOutIdeal.Value
public import proofs.«01_k».proof.Proof.Gen.AttnOutReferenceIdeal.Run
public import proofs.«01_k».proof.Proof.Gen.AttnOutReferenceIdeal.Read
public import proofs.«01_k».proof.Proof.Gen.AttnIn.Frame
public import proofs.«01_k».proof.Proof.Gen.AttnInIdeal.Value
public import proofs.«01_k».proof.Proof.Gen.AttnInReferenceIdeal.Run
public import proofs.«01_k».proof.Proof.Gen.AttnInReferenceIdeal.Read
public import proofs.«01_k».proof.Proof.Gen.FfnDh.Frame
public import proofs.«01_k».proof.Proof.Gen.FfnDhIdeal.Value
public import proofs.«01_k».proof.Proof.Gen.FfnDhReferenceIdeal.Run
public import proofs.«01_k».proof.Proof.Gen.FfnDhReferenceIdeal.Read
public import proofs.«01_k».proof.Proof.Gen.FfnLoss.Frame
public import proofs.«01_k».proof.Proof.Gen.FfnLossIdeal.Value
public import proofs.«01_k».proof.Proof.Gen.FfnLossReferenceIdeal.Run
public import proofs.«01_k».proof.Proof.Gen.FfnLossReferenceIdeal.Read
public import proofs.«01_k».proof.Proof.Gen.FfnIn.Frame
public import proofs.«01_k».proof.Proof.Gen.FfnInIdeal.Value
public import proofs.«01_k».proof.Proof.Gen.FfnInReferenceIdeal.Run
public import proofs.«01_k».proof.Proof.Gen.FfnInReferenceIdeal.Read
public import proofs.«01_k».proof.Proof.Gen.SsmDh.Frame
public import proofs.«01_k».proof.Proof.Gen.SsmDhIdeal.Value
public import proofs.«01_k».proof.Proof.Gen.SsmDhReferenceIdeal.Run
public import proofs.«01_k».proof.Proof.Gen.SsmDhReferenceIdeal.Read
public import proofs.«01_k».proof.Proof.Gen.SsmIn.Frame
public import proofs.«01_k».proof.Proof.Gen.SsmInIdeal.Value
public import proofs.«01_k».proof.Proof.Gen.SsmInReferenceIdeal.Run
public import proofs.«01_k».proof.Proof.Gen.SsmInReferenceIdeal.Read
public import proofs.«01_k».proof.Proof.Gen.AdamAttnWIn.Frame
public import proofs.«01_k».proof.Proof.Gen.AdamAttnWInIdeal.Value
public import proofs.«01_k».proof.Proof.Gen.AdamAttnWInReferenceIdeal.Run
public import proofs.«01_k».proof.Proof.Gen.AdamAttnWInReferenceIdeal.Read
public import proofs.«01_k».proof.Proof.Gen.AdamAttnWOut.Frame
public import proofs.«01_k».proof.Proof.Gen.AdamAttnWOutIdeal.Value
public import proofs.«01_k».proof.Proof.Gen.AdamAttnWOutReferenceIdeal.Run
public import proofs.«01_k».proof.Proof.Gen.AdamAttnWOutReferenceIdeal.Read
public import proofs.«01_k».proof.Proof.Gen.AdamSsmWIn.Frame
public import proofs.«01_k».proof.Proof.Gen.AdamSsmWInIdeal.Value
public import proofs.«01_k».proof.Proof.Gen.AdamSsmWInReferenceIdeal.Run
public import proofs.«01_k».proof.Proof.Gen.AdamSsmWInReferenceIdeal.Read
public import proofs.«01_k».proof.Proof.Gen.AdamSsmWOut.Frame
public import proofs.«01_k».proof.Proof.Gen.AdamSsmWOutIdeal.Value
public import proofs.«01_k».proof.Proof.Gen.AdamSsmWOutReferenceIdeal.Run
public import proofs.«01_k».proof.Proof.Gen.AdamSsmWOutReferenceIdeal.Read
public import proofs.«01_k».proof.Proof.Gen.AdamFfnWIn.Frame
public import proofs.«01_k».proof.Proof.Gen.AdamFfnWInIdeal.Value
public import proofs.«01_k».proof.Proof.Gen.AdamFfnWInReferenceIdeal.Run
public import proofs.«01_k».proof.Proof.Gen.AdamFfnWInReferenceIdeal.Read
public import proofs.«01_k».proof.Proof.Gen.AdamFfnWOut.Frame
public import proofs.«01_k».proof.Proof.Gen.AdamFfnWOutIdeal.Value
public import proofs.«01_k».proof.Proof.Gen.AdamFfnWOutReferenceIdeal.Run
public import proofs.«01_k».proof.Proof.Gen.AdamFfnWOutReferenceIdeal.Read
public import proofs.«01_k».proof.Proof.Gen.SumAttnWIn.Frame
public import proofs.«01_k».proof.Proof.Gen.SumAttnWInIdeal.Value
public import proofs.«01_k».proof.Proof.Gen.SumAttnWInReferenceIdeal.Run
public import proofs.«01_k».proof.Proof.Gen.SumAttnWInReferenceIdeal.Read
public import proofs.«01_k».proof.Proof.Gen.SumSsmWIn.Frame
public import proofs.«01_k».proof.Proof.Gen.SumSsmWInIdeal.Value
public import proofs.«01_k».proof.Proof.Gen.SumSsmWInReferenceIdeal.Run
public import proofs.«01_k».proof.Proof.Gen.SumSsmWInReferenceIdeal.Read
public import proofs.«01_k».proof.Proof.Gen.SumFfnWIn.Frame
public import proofs.«01_k».proof.Proof.Gen.SumFfnWInIdeal.Value
public import proofs.«01_k».proof.Proof.Gen.SumFfnWInReferenceIdeal.Run
public import proofs.«01_k».proof.Proof.Gen.SumFfnWInReferenceIdeal.Read
public import proofs.«01_k».proof.Proof.Gen.SsmDwDt.Frame
public import proofs.«01_k».proof.Proof.Gen.SsmDwDtIdeal.Value
public import proofs.«01_k».proof.Proof.Gen.SsmDwDtReferenceIdeal.Run
public import proofs.«01_k».proof.Proof.Gen.SsmDwDtReferenceIdeal.Read
public import proofs.«01_k».proof.Proof.Gen.Pre_finite
public import proofs.«01_k».proof.Proof.FfnFinal
public import proofs.«01_k».proof.Proof.FfnEq
public import proofs.«01_k».proof.Proof.FfnDwOutValue
public import proofs.«01_k».proof.Proof.FfnDwInValue
public import proofs.«01_k».proof.Proof.SsmDwOutValue
public import proofs.«01_k».proof.Proof.SsmDwZValue
public import proofs.«01_k».proof.Proof.SsmDwXValue
public import proofs.«01_k».proof.Proof.AttnDwInValue
public import proofs.«01_k».proof.Proof.AttnDwOutValue
public import proofs.«01_k».proof.Proof.FfnOutValue
public import proofs.«01_k».proof.Proof.SsmOutValue
public import proofs.«01_k».proof.Proof.SsmDyValue
public import proofs.«01_k».proof.Proof.AttnDoValue
public import proofs.«01_k».proof.Proof.AttnOutValue
public import proofs.«01_k».proof.Proof.AttnInValue
public import proofs.«01_k».proof.Proof.FfnDhValue
public import proofs.«01_k».proof.Proof.FfnLossValue
public import proofs.«01_k».proof.Proof.FfnInValue
public import proofs.«01_k».proof.Proof.SsmDhValue
public import proofs.«01_k».proof.Proof.SsmInValue
public import proofs.«01_k».proof.Proof.AdamAttnWInValue
public import proofs.«01_k».proof.Proof.AdamAttnWOutValue
public import proofs.«01_k».proof.Proof.AdamSsmWInValue
public import proofs.«01_k».proof.Proof.AdamSsmWOutValue
public import proofs.«01_k».proof.Proof.AdamFfnWInValue
public import proofs.«01_k».proof.Proof.AdamFfnWOutValue
public import proofs.«01_k».proof.Proof.SumAttnWInValue
public import proofs.«01_k».proof.Proof.SumSsmWInValue
public import proofs.«01_k».proof.Proof.SumFfnWInValue
public import proofs.«01_k».proof.Proof.SsmDwDtValue
public import Idealize.ShloMosaic.Adequacy
public import Idealize.ShloMosaic.Init

@[expose] public section

noncomputable section

namespace Cert.Proof

open Idealize.ShloMosaic Idealize.SL.Sem

open ReferenceIdeal in
/-- The reference `Reference` leaves its arguments alone and ends quiescent. -/
theorem frame_ffn_mid : quiescent_ReferenceIdeal := fun m ρ _ =>
  (θ_run defs _ _).mono (fun r h => ⟨fun c => (h c).2.2.2, sem_eq_zero_of_no_sems (by decide) r.2⟩)
    (ReferenceIdeal.Value.run (F := Ideal) m ρ)

/-- On finite arguments the kernel and the reference end with the same three arrays. -/
theorem algebraic_ffn_mid : algebraic_KernelIdeal_ReferenceIdeal_pre_finite := fun m ρ m' ρ' hpre hag =>
  ⟨fun c => Ffn.dgu (Ffn.mP m c) (Ffn.mW m c) (Ffn.mB m c) (Ffn.mWo m c) (Ffn.mX m c),
    fun c => Ffn.dw (Ffn.mP m c) (Ffn.mW m c) (Ffn.mB m c) (Ffn.mWo m c) (Ffn.mX m c),
    fun c => Ffn.db (Ffn.mP m c) (Ffn.mW m c) (Ffn.mB m c) (Ffn.mWo m c) (Ffn.mX m c),
    Ffn.kernel_run m ρ,
    (θ_run ReferenceIdeal.defs _ _).mono (fun _ h c => by
      obtain ⟨hP, hW, hB, hWo, hX⟩ := Ffn.finite_entries _ _ _ _ _ (hpre c)
      obtain ⟨a0, a1, a2, a3, a4⟩ := hag c
      refine ⟨(h c).1.trans ((ReferenceIdeal.Read.val_main_v72_eq m' c).trans ?_),
        (h c).2.1.trans ((ReferenceIdeal.Read.val_main_v73_eq m' c).trans ?_),
        (h c).2.2.1.trans ((ReferenceIdeal.Read.val_main_v37_eq m' c).trans ?_), (h c).2.2.2⟩
      · rw [a0, a1, a2, a3, a4]
        exact Ffn.eq_dgu _ _ _ _ _ hP hW hB hWo hX
      · rw [a0, a1, a2, a3, a4]
        exact Ffn.eq_dw _ _ _ _ _ hP hW hB hWo hX
      · rw [a0, a1, a2, a3, a4]
        exact Ffn.eq_db _ _ _ _ _ hP hW hB hWo hX)
      (ReferenceIdeal.Value.run (F := Ideal) m' ρ')⟩

open FfnDwOutReferenceIdeal in
/-- The reference `FfnDwOutReference` leaves its arguments alone and ends quiescent. -/
theorem frame_ffn_dw_out : quiescent_FfnDwOutReferenceIdeal := fun m ρ _ =>
  (θ_run defs _ _).mono (fun r h => ⟨fun c => (h c).2, sem_eq_zero_of_no_sems (by decide) r.2⟩)
    (FfnDwOutReferenceIdeal.Value.run (F := Ideal) m ρ)

open FfnDwOut in
/-- The kernel `FfnDwOut` and its reference end with the same results. -/
theorem algebraic_ffn_dw_out : algebraic_FfnDwOutIdeal_FfnDwOutReferenceIdeal := fun m ρ m' ρ' _ hag =>
  ⟨fun c => prod (mA m c) (mB m c),
    kernel_run m ρ,
    (θ_run FfnDwOutReferenceIdeal.defs _ _).mono (fun _ h c => by
      obtain ⟨a0, a1⟩ := hag c
      refine ⟨(h c).1.trans ?_,
        (h c).2⟩
      rw [a0, a1]
      exact reference_eq _ _)
      (FfnDwOutReferenceIdeal.Value.run (F := Ideal) m' ρ')⟩

open FfnDwInReferenceIdeal in
/-- The reference `FfnDwInReference` leaves its arguments alone and ends quiescent. -/
theorem frame_ffn_dw_in : quiescent_FfnDwInReferenceIdeal := fun m ρ _ =>
  (θ_run defs _ _).mono (fun r h => ⟨fun c => (h c).2, sem_eq_zero_of_no_sems (by decide) r.2⟩)
    (FfnDwInReferenceIdeal.Value.run (F := Ideal) m ρ)

open FfnDwIn in
/-- The kernel `FfnDwIn` and its reference end with the same results. -/
theorem algebraic_ffn_dw_in : algebraic_FfnDwInIdeal_FfnDwInReferenceIdeal := fun m ρ m' ρ' _ hag =>
  ⟨fun c => prod (mA m c) (mB m c),
    kernel_run m ρ,
    (θ_run FfnDwInReferenceIdeal.defs _ _).mono (fun _ h c => by
      obtain ⟨a0, a1⟩ := hag c
      refine ⟨(h c).1.trans ?_,
        (h c).2⟩
      rw [a0, a1]
      exact reference_eq _ _)
      (FfnDwInReferenceIdeal.Value.run (F := Ideal) m' ρ')⟩

open SsmDwOutReferenceIdeal in
/-- The reference `SsmDwOutReference` leaves its arguments alone and ends quiescent. -/
theorem frame_ssm_dw_out : quiescent_SsmDwOutReferenceIdeal := fun m ρ _ =>
  (θ_run defs _ _).mono (fun r h => ⟨fun c => (h c).2, sem_eq_zero_of_no_sems (by decide) r.2⟩)
    (SsmDwOutReferenceIdeal.Value.run (F := Ideal) m ρ)

open SsmDwOut in
/-- The kernel `SsmDwOut` and its reference end with the same results. -/
theorem algebraic_ssm_dw_out : algebraic_SsmDwOutIdeal_SsmDwOutReferenceIdeal := fun m ρ m' ρ' _ hag =>
  ⟨fun c => prod (mA m c) (mB m c),
    kernel_run m ρ,
    (θ_run SsmDwOutReferenceIdeal.defs _ _).mono (fun _ h c => by
      obtain ⟨a0, a1⟩ := hag c
      refine ⟨(h c).1.trans ?_,
        (h c).2⟩
      rw [a0, a1]
      exact reference_eq _ _)
      (SsmDwOutReferenceIdeal.Value.run (F := Ideal) m' ρ')⟩

open SsmDwZReferenceIdeal in
/-- The reference `SsmDwZReference` leaves its arguments alone and ends quiescent. -/
theorem frame_ssm_dw_z : quiescent_SsmDwZReferenceIdeal := fun m ρ _ =>
  (θ_run defs _ _).mono (fun r h => ⟨fun c => (h c).2, sem_eq_zero_of_no_sems (by decide) r.2⟩)
    (SsmDwZReferenceIdeal.Value.run (F := Ideal) m ρ)

open SsmDwZ in
/-- The kernel `SsmDwZ` and its reference end with the same results. -/
theorem algebraic_ssm_dw_z : algebraic_SsmDwZIdeal_SsmDwZReferenceIdeal := fun m ρ m' ρ' _ hag =>
  ⟨fun c => prod (mA m c) (mB m c),
    kernel_run m ρ,
    (θ_run SsmDwZReferenceIdeal.defs _ _).mono (fun _ h c => by
      obtain ⟨a0, a1⟩ := hag c
      refine ⟨(h c).1.trans ?_,
        (h c).2⟩
      rw [a0, a1]
      exact reference_eq _ _)
      (SsmDwZReferenceIdeal.Value.run (F := Ideal) m' ρ')⟩

open SsmDwXReferenceIdeal in
/-- The reference `SsmDwXReference` leaves its arguments alone and ends quiescent. -/
theorem frame_ssm_dw_x : quiescent_SsmDwXReferenceIdeal := fun m ρ _ =>
  (θ_run defs _ _).mono (fun r h => ⟨fun c => (h c).2, sem_eq_zero_of_no_sems (by decide) r.2⟩)
    (SsmDwXReferenceIdeal.Value.run (F := Ideal) m ρ)

open SsmDwX in
/-- The kernel `SsmDwX` and its reference end with the same results. -/
theorem algebraic_ssm_dw_x : algebraic_SsmDwXIdeal_SsmDwXReferenceIdeal := fun m ρ m' ρ' _ hag =>
  ⟨fun c => prod (mA m c) (mB m c),
    kernel_run m ρ,
    (θ_run SsmDwXReferenceIdeal.defs _ _).mono (fun _ h c => by
      obtain ⟨a0, a1⟩ := hag c
      refine ⟨(h c).1.trans ?_,
        (h c).2⟩
      rw [a0, a1]
      exact reference_eq _ _)
      (SsmDwXReferenceIdeal.Value.run (F := Ideal) m' ρ')⟩

open AttnDwInReferenceIdeal in
/-- The reference `AttnDwInReference` leaves its arguments alone and ends quiescent. -/
theorem frame_attn_dw_in : quiescent_AttnDwInReferenceIdeal := fun m ρ _ =>
  (θ_run defs _ _).mono (fun r h => ⟨fun c => (h c).2, sem_eq_zero_of_no_sems (by decide) r.2⟩)
    (AttnDwInReferenceIdeal.Value.run (F := Ideal) m ρ)

open AttnDwIn in
/-- The kernel `AttnDwIn` and its reference end with the same results. -/
theorem algebraic_attn_dw_in : algebraic_AttnDwInIdeal_AttnDwInReferenceIdeal := fun m ρ m' ρ' _ hag =>
  ⟨fun c => prod (mA m c) (mB m c),
    kernel_run m ρ,
    (θ_run AttnDwInReferenceIdeal.defs _ _).mono (fun _ h c => by
      obtain ⟨a0, a1⟩ := hag c
      refine ⟨(h c).1.trans ?_,
        (h c).2⟩
      rw [a0, a1]
      exact reference_eq _ _)
      (AttnDwInReferenceIdeal.Value.run (F := Ideal) m' ρ')⟩

open AttnDwOutReferenceIdeal in
/-- The reference `AttnDwOutReference` leaves its arguments alone and ends quiescent. -/
theorem frame_attn_dw_out : quiescent_AttnDwOutReferenceIdeal := fun m ρ _ =>
  (θ_run defs _ _).mono (fun r h => ⟨fun c => (h c).2, sem_eq_zero_of_no_sems (by decide) r.2⟩)
    (AttnDwOutReferenceIdeal.Value.run (F := Ideal) m ρ)

open AttnDwOut in
/-- The kernel `AttnDwOut` and its reference end with the same results. -/
theorem algebraic_attn_dw_out : algebraic_AttnDwOutIdeal_AttnDwOutReferenceIdeal := fun m ρ m' ρ' _ hag =>
  ⟨fun c => prod (mA m c) (mB m c),
    kernel_run m ρ,
    (θ_run AttnDwOutReferenceIdeal.defs _ _).mono (fun _ h c => by
      obtain ⟨a0, a1⟩ := hag c
      refine ⟨(h c).1.trans ?_,
        (h c).2⟩
      rw [a0, a1]
      exact reference_eq _ _)
      (AttnDwOutReferenceIdeal.Value.run (F := Ideal) m' ρ')⟩

open FfnOutReferenceIdeal in
/-- The reference `FfnOutReference` leaves its arguments alone and ends quiescent. -/
theorem frame_ffn_out : quiescent_FfnOutReferenceIdeal := fun m ρ _ =>
  (θ_run defs _ _).mono (fun r h => ⟨fun c => (h c).2, sem_eq_zero_of_no_sems (by decide) r.2⟩)
    (FfnOutReferenceIdeal.Value.run (F := Ideal) m ρ)

open FfnOut in
/-- The kernel `FfnOut` and its reference end with the same results. -/
theorem algebraic_ffn_out : algebraic_FfnOutIdeal_FfnOutReferenceIdeal := fun m ρ m' ρ' _ hag =>
  ⟨fun c => res_3 (m0 m c) (m1 m c) (m2 m c),
    kernel_run m ρ,
    (θ_run FfnOutReferenceIdeal.defs _ _).mono (fun _ h c => by
      obtain ⟨a0, a1, a2⟩ := hag c
      refine ⟨(h c).1.trans ?_,
        (h c).2⟩
      rw [a0, a1, a2]
      exact reference_eq_3 _ _ _)
      (FfnOutReferenceIdeal.Value.run (F := Ideal) m' ρ')⟩

open SsmOutReferenceIdeal in
/-- The reference `SsmOutReference` leaves its arguments alone and ends quiescent. -/
theorem frame_ssm_out : quiescent_SsmOutReferenceIdeal := fun m ρ _ =>
  (θ_run defs _ _).mono (fun r h => ⟨fun c => (h c).2, sem_eq_zero_of_no_sems (by decide) r.2⟩)
    (SsmOutReferenceIdeal.Value.run (F := Ideal) m ρ)

open SsmOut in
/-- The kernel `SsmOut` and its reference end with the same results. -/
theorem algebraic_ssm_out : algebraic_SsmOutIdeal_SsmOutReferenceIdeal := fun m ρ m' ρ' _ hag =>
  ⟨fun c => res_3 (m0 m c) (m1 m c) (m2 m c),
    kernel_run m ρ,
    (θ_run SsmOutReferenceIdeal.defs _ _).mono (fun _ h c => by
      obtain ⟨a0, a1, a2⟩ := hag c
      refine ⟨(h c).1.trans ?_,
        (h c).2⟩
      rw [a0, a1, a2]
      exact reference_eq_3 _ _ _)
      (SsmOutReferenceIdeal.Value.run (F := Ideal) m' ρ')⟩

open SsmDyReferenceIdeal in
/-- The reference `SsmDyReference` leaves its arguments alone and ends quiescent. -/
theorem frame_ssm_dy : quiescent_SsmDyReferenceIdeal := fun m ρ _ =>
  (θ_run defs _ _).mono (fun r h => ⟨fun c => (h c).2, sem_eq_zero_of_no_sems (by decide) r.2⟩)
    (SsmDyReferenceIdeal.Value.run (F := Ideal) m ρ)

open SsmDy in
/-- The kernel `SsmDy` and its reference end with the same results. -/
theorem algebraic_ssm_dy : algebraic_SsmDyIdeal_SsmDyReferenceIdeal := fun m ρ m' ρ' _ hag =>
  ⟨fun c => res_2 (m0 m c) (m1 m c),
    kernel_run m ρ,
    (θ_run SsmDyReferenceIdeal.defs _ _).mono (fun _ h c => by
      obtain ⟨a0, a1⟩ := hag c
      refine ⟨(h c).1.trans ?_,
        (h c).2⟩
      rw [a0, a1]
      exact reference_eq_2 _ _)
      (SsmDyReferenceIdeal.Value.run (F := Ideal) m' ρ')⟩

open AttnDoReferenceIdeal in
/-- The reference `AttnDoReference` leaves its arguments alone and ends quiescent. -/
theorem frame_attn_do : quiescent_AttnDoReferenceIdeal := fun m ρ _ =>
  (θ_run defs _ _).mono (fun r h => ⟨fun c => (h c).2, sem_eq_zero_of_no_sems (by decide) r.2⟩)
    (AttnDoReferenceIdeal.Value.run (F := Ideal) m ρ)

open AttnDo in
/-- The kernel `AttnDo` and its reference end with the same results. -/
theorem algebraic_attn_do : algebraic_AttnDoIdeal_AttnDoReferenceIdeal := fun m ρ m' ρ' _ hag =>
  ⟨fun c => res_2 (m0 m c) (m1 m c),
    kernel_run m ρ,
    (θ_run AttnDoReferenceIdeal.defs _ _).mono (fun _ h c => by
      obtain ⟨a0, a1⟩ := hag c
      refine ⟨(h c).1.trans ?_,
        (h c).2⟩
      rw [a0, a1]
      exact reference_eq_2 _ _)
      (AttnDoReferenceIdeal.Value.run (F := Ideal) m' ρ')⟩

open AttnOutReferenceIdeal in
/-- The reference `AttnOutReference` leaves its arguments alone and ends quiescent. -/
theorem frame_attn_out : quiescent_AttnOutReferenceIdeal := fun m ρ _ =>
  (θ_run defs _ _).mono (fun r h => ⟨fun c => (h c).2, sem_eq_zero_of_no_sems (by decide) r.2⟩)
    (AttnOutReferenceIdeal.Value.run (F := Ideal) m ρ)

open AttnOut in
/-- The kernel `AttnOut` and its reference end with the same results. -/
theorem algebraic_attn_out : algebraic_AttnOutIdeal_AttnOutReferenceIdeal := fun m ρ m' ρ' _ hag =>
  ⟨fun c => res_4 (m0 m c) (m1 m c) (m2 m c) (m3 m c),
    kernel_run m ρ,
    (θ_run AttnOutReferenceIdeal.defs _ _).mono (fun _ h c => by
      obtain ⟨a0, a1, a2, a3⟩ := hag c
      refine ⟨(h c).1.trans ?_,
        (h c).2⟩
      rw [a0, a1, a2, a3]
      exact reference_eq_4 _ _ _ _)
      (AttnOutReferenceIdeal.Value.run (F := Ideal) m' ρ')⟩

open AttnInReferenceIdeal in
/-- The reference `AttnInReference` leaves its arguments alone and ends quiescent. -/
theorem frame_attn_in : quiescent_AttnInReferenceIdeal := fun m ρ _ =>
  (θ_run defs _ _).mono (fun r h => ⟨fun c => (h c).2.2, sem_eq_zero_of_no_sems (by decide) r.2⟩)
    (AttnInReferenceIdeal.Value.run (F := Ideal) m ρ)

open AttnIn in
/-- The kernel `AttnIn` and its reference end with the same results. -/
theorem algebraic_attn_in : algebraic_AttnInIdeal_AttnInReferenceIdeal := fun m ρ m' ρ' _ hag =>
  ⟨fun c => res_3 (m0 m c) (m1 m c) (m2 m c),
    fun c => res_4 (m0 m c) (m1 m c) (m2 m c),
    kernel_run m ρ,
    (θ_run AttnInReferenceIdeal.defs _ _).mono (fun _ h c => by
      obtain ⟨a0, a1, a2⟩ := hag c
      refine ⟨(h c).1.trans ?_,
        (h c).2.1.trans ?_,
        (h c).2.2⟩
      · rw [a0, a1, a2]
        exact reference_eq_3 _ _ _
      · rw [a0, a1]
        exact reference_eq_4 _ _ _)
      (AttnInReferenceIdeal.Value.run (F := Ideal) m' ρ')⟩

open FfnDhReferenceIdeal in
/-- The reference `FfnDhReference` leaves its arguments alone and ends quiescent. -/
theorem frame_ffn_dh : quiescent_FfnDhReferenceIdeal := fun m ρ _ =>
  (θ_run defs _ _).mono (fun r h => ⟨fun c => (h c).2.2.2, sem_eq_zero_of_no_sems (by decide) r.2⟩)
    (FfnDhReferenceIdeal.Value.run (F := Ideal) m ρ)

open FfnDh in
/-- The kernel `FfnDh` and its reference end with the same results. -/
theorem algebraic_ffn_dh : algebraic_FfnDhIdeal_FfnDhReferenceIdeal := fun m ρ m' ρ' _ hag =>
  ⟨fun c => res_5 (m0 m c) (m1 m c) (m2 m c) (m3 m c) (m4 m c),
    fun c => res_6 (m0 m c) (m1 m c) (m2 m c) (m3 m c) (m4 m c),
    fun c => res_7 (m0 m c) (m1 m c) (m2 m c) (m3 m c) (m4 m c),
    kernel_run m ρ,
    (θ_run FfnDhReferenceIdeal.defs _ _).mono (fun _ h c => by
      obtain ⟨a0, a1, a2, a3, a4⟩ := hag c
      refine ⟨(h c).1.trans ((FfnDhReferenceIdeal.Read.val_main_v36_eq m' c).trans ?_),
        (h c).2.1.trans ((FfnDhReferenceIdeal.Read.val_main_v37_eq m' c).trans ?_),
        (h c).2.2.1.trans ?_,
        (h c).2.2.2⟩
      · rw [a0, a1, a2, a3, a4]
        exact reference_eq_5 _ _ _ _ _
      · rw [a0, a1, a2, a3, a4]
        exact reference_eq_6 _ _ _ _ _
      · rw [a0, a1, a2]
        exact reference_eq_7 _ _ _ _ _)
      (FfnDhReferenceIdeal.Value.run (F := Ideal) m' ρ')⟩

open FfnLossReferenceIdeal in
/-- The reference `FfnLossReference` leaves its arguments alone and ends quiescent. -/
theorem frame_ffn_loss : quiescent_FfnLossReferenceIdeal := fun m ρ _ =>
  (θ_run defs _ _).mono (fun r h => ⟨fun c => (h c).2.2.2, sem_eq_zero_of_no_sems (by decide) r.2⟩)
    (FfnLossReferenceIdeal.Value.run (F := Ideal) m ρ)

open FfnLoss in
/-- The kernel `FfnLoss` and its reference end with the same results. -/
theorem algebraic_ffn_loss : algebraic_FfnLossIdeal_FfnLossReferenceIdeal := fun m ρ m' ρ' _ hag =>
  ⟨fun c => res_4 (m0 m c) (m1 m c) (m2 m c) (m3 m c),
    fun c => res_5 (m0 m c) (m1 m c) (m2 m c) (m3 m c),
    fun c => res_6 (m0 m c) (m1 m c) (m2 m c) (m3 m c),
    kernel_run m ρ,
    (θ_run FfnLossReferenceIdeal.defs _ _).mono (fun _ h c => by
      obtain ⟨a0, a1, a2, a3⟩ := hag c
      refine ⟨(h c).1.trans ?_,
        (h c).2.1.trans ?_,
        (h c).2.2.1.trans ?_,
        (h c).2.2.2⟩
      · rw [a0, a1, a2, a3]
        exact reference_eq_4 _ _ _ _
      · rw [a0, a1, a2, a3]
        exact reference_eq_5 _ _ _ _
      · rw [a0, a1, a2, a3]
        exact reference_eq_6 _ _ _ _)
      (FfnLossReferenceIdeal.Value.run (F := Ideal) m' ρ')⟩

open FfnInReferenceIdeal in
/-- The reference `FfnInReference` leaves its arguments alone and ends quiescent. -/
theorem frame_ffn_in : quiescent_FfnInReferenceIdeal := fun m ρ _ =>
  (θ_run defs _ _).mono (fun r h => ⟨fun c => (h c).2.2.2.2, sem_eq_zero_of_no_sems (by decide) r.2⟩)
    (FfnInReferenceIdeal.Value.run (F := Ideal) m ρ)

open FfnIn in
/-- The kernel `FfnIn` and its reference end with the same results. -/
theorem algebraic_ffn_in : algebraic_FfnInIdeal_FfnInReferenceIdeal := fun m ρ m' ρ' _ hag =>
  ⟨fun c => res_5 (m0 m c) (m1 m c) (m2 m c) (m3 m c) (m4 m c),
    fun c => res_6 (m0 m c) (m1 m c) (m2 m c) (m3 m c) (m4 m c),
    fun c => res_7 (m0 m c) (m1 m c) (m2 m c) (m3 m c) (m4 m c),
    fun c => res_8 (m0 m c) (m1 m c) (m2 m c) (m3 m c) (m4 m c),
    kernel_run m ρ,
    (θ_run FfnInReferenceIdeal.defs _ _).mono (fun _ h c => by
      obtain ⟨a0, a1, a2, a3, a4⟩ := hag c
      refine ⟨(h c).1.trans ?_,
        (h c).2.1.trans ?_,
        (h c).2.2.1.trans ((FfnInReferenceIdeal.Read.val_main_v45_eq m' c).trans ?_),
        (h c).2.2.2.1.trans ((FfnInReferenceIdeal.Read.val_main_v46_eq m' c).trans ?_),
        (h c).2.2.2.2⟩
      · rw [a0, a1, a2]
        exact reference_eq_5 _ _ _ _ _
      · rw [a0, a1]
        exact reference_eq_6 _ _ _ _ _
      · rw [a0, a1, a2, a3, a4]
        exact reference_eq_7 _ _ _ _ _
      · rw [a0, a1, a2, a3, a4]
        exact reference_eq_8 _ _ _ _ _)
      (FfnInReferenceIdeal.Value.run (F := Ideal) m' ρ')⟩

open SsmDhReferenceIdeal in
/-- The reference `SsmDhReference` leaves its arguments alone and ends quiescent. -/
theorem frame_ssm_dh : quiescent_SsmDhReferenceIdeal := fun m ρ _ =>
  (θ_run defs _ _).mono (fun r h => ⟨fun c => (h c).2.2.2, sem_eq_zero_of_no_sems (by decide) r.2⟩)
    (SsmDhReferenceIdeal.Value.run (F := Ideal) m ρ)

open SsmDh in
/-- The kernel `SsmDh` and its reference end with the same results. -/
theorem algebraic_ssm_dh : algebraic_SsmDhIdeal_SsmDhReferenceIdeal := fun m ρ m' ρ' _ hag =>
  ⟨fun c => res_8 (m0 m c) (m1 m c) (m2 m c) (m3 m c) (m4 m c) (m5 m c) (m6 m c),
    fun c => res_9 (m0 m c) (m1 m c) (m2 m c) (m3 m c) (m4 m c) (m5 m c) (m6 m c),
    fun c => res_10 (m0 m c) (m1 m c) (m2 m c) (m3 m c) (m4 m c) (m5 m c) (m6 m c),
    kernel_run m ρ,
    (θ_run SsmDhReferenceIdeal.defs _ _).mono (fun _ h c => by
      obtain ⟨a0, a1, a2, a3, a4, a5, a6⟩ := hag c
      refine ⟨(h c).1.trans ((SsmDhReferenceIdeal.Read.val_main_v40_eq m' c).trans ?_),
        (h c).2.1.trans ((SsmDhReferenceIdeal.Read.val_main_v41_eq m' c).trans ?_),
        (h c).2.2.1.trans ?_,
        (h c).2.2.2⟩
      · rw [a0, a1, a2, a3, a4, a5, a6]
        exact reference_eq_8 _ _ _ _ _ _ _
      · rw [a0, a1, a2, a3, a4, a5, a6]
        exact reference_eq_9 _ _ _ _ _ _ _
      · rw [a0, a1, a2, a3, a4]
        exact reference_eq_10 _ _ _ _ _ _ _)
      (SsmDhReferenceIdeal.Value.run (F := Ideal) m' ρ')⟩

open SsmInReferenceIdeal in
/-- The reference `SsmInReference` leaves its arguments alone and ends quiescent. -/
theorem frame_ssm_in : quiescent_SsmInReferenceIdeal := fun m ρ _ =>
  (θ_run defs _ _).mono (fun r h => ⟨fun c => (h c).2.2.2.2.2.2, sem_eq_zero_of_no_sems (by decide) r.2⟩)
    (SsmInReferenceIdeal.Value.run (F := Ideal) m ρ)

open SsmIn in
/-- The kernel `SsmIn` and its reference end with the same results. -/
theorem algebraic_ssm_in : algebraic_SsmInIdeal_SsmInReferenceIdeal := fun m ρ m' ρ' _ hag =>
  ⟨fun c => res_7 (m0 m c) (m1 m c) (m2 m c) (m3 m c) (m4 m c) (m5 m c),
    fun c => res_8 (m0 m c) (m1 m c) (m2 m c) (m3 m c) (m4 m c) (m5 m c),
    fun c => res_9 (m0 m c) (m1 m c) (m2 m c) (m3 m c) (m4 m c) (m5 m c),
    fun c => res_10 (m0 m c) (m1 m c) (m2 m c) (m3 m c) (m4 m c) (m5 m c),
    fun c => res_11 (m0 m c) (m1 m c) (m2 m c) (m3 m c) (m4 m c) (m5 m c),
    fun c => res_12 (m0 m c) (m1 m c) (m2 m c) (m3 m c) (m4 m c) (m5 m c),
    kernel_run m ρ,
    (θ_run SsmInReferenceIdeal.defs _ _).mono (fun _ h c => by
      obtain ⟨a0, a1, a2, a3, a4, a5⟩ := hag c
      refine ⟨(h c).1.trans ?_,
        (h c).2.1.trans ?_,
        (h c).2.2.1.trans ((SsmInReferenceIdeal.Read.val_main_v51_eq m' c).trans ?_),
        (h c).2.2.2.1.trans ((SsmInReferenceIdeal.Read.val_main_v52_eq m' c).trans ?_),
        (h c).2.2.2.2.1.trans ?_,
        (h c).2.2.2.2.2.1.trans ((SsmInReferenceIdeal.Read.val_main_v58_eq m' c).trans ?_),
        (h c).2.2.2.2.2.2⟩
      · rw [a0, a1, a2]
        exact reference_eq_7 _ _ _ _ _ _
      · rw [a0, a1]
        exact reference_eq_8 _ _ _ _ _ _
      · rw [a0, a1, a2, a3, a4]
        exact reference_eq_9 _ _ _ _ _ _
      · rw [a0, a1, a2, a3, a4]
        exact reference_eq_10 _ _ _ _ _ _
      · rw [a0, a1, a2]
        exact reference_eq_11 _ _ _ _ _ _
      · rw [a0, a1, a2, a5]
        exact reference_eq_12 _ _ _ _ _ _)
      (SsmInReferenceIdeal.Value.run (F := Ideal) m' ρ')⟩

open AdamAttnWInReferenceIdeal in
/-- The reference `AdamAttnWInReference` leaves its arguments alone and ends quiescent. -/
theorem frame_adam_attn_w_in : quiescent_AdamAttnWInReferenceIdeal := fun m ρ _ =>
  (θ_run defs _ _).mono (fun r h => ⟨fun c => (h c).2.2.2.2, sem_eq_zero_of_no_sems (by decide) r.2⟩)
    (AdamAttnWInReferenceIdeal.Value.run (F := Ideal) m ρ)

open AdamAttnWIn in
/-- The kernel `AdamAttnWIn` and its reference end with the same results. -/
theorem algebraic_adam_attn_w_in : algebraic_AdamAttnWInIdeal_AdamAttnWInReferenceIdeal := fun m ρ m' ρ' _ hag =>
  ⟨fun c => res_4 (m0 m c) (m1 m c) (m2 m c) (m3 m c),
    fun c => res_5 (m0 m c) (m1 m c) (m2 m c) (m3 m c),
    fun c => res_6 (m0 m c) (m1 m c) (m2 m c) (m3 m c),
    fun c => res_7 (m0 m c) (m1 m c) (m2 m c) (m3 m c),
    kernel_run m ρ,
    (θ_run AdamAttnWInReferenceIdeal.defs _ _).mono (fun _ h c => by
      obtain ⟨a0, a1, a2, a3⟩ := hag c
      refine ⟨(h c).1.trans ((AdamAttnWInReferenceIdeal.Read.val_main_v0_eq _).trans ?_),
        (h c).2.1.trans ((AdamAttnWInReferenceIdeal.Read.val_main_v24_eq _ _ _ _).trans ?_),
        (h c).2.2.1.trans ((AdamAttnWInReferenceIdeal.Read.val_main_v5_eq _ _).trans ?_),
        (h c).2.2.2.1.trans ((AdamAttnWInReferenceIdeal.Read.val_main_v11_eq _ _).trans ?_),
        (h c).2.2.2.2⟩
      · rw [a0]
        exact reference_grad _
      · rw [a0, a1, a2, a3]
        exact reference_5 _ _ _ _
      · rw [a0, a2]
        exact reference_6 _ _ _ _
      · rw [a0, a3]
        exact reference_7 _ _ _ _)
      (AdamAttnWInReferenceIdeal.Value.run (F := Ideal) m' ρ')⟩

open AdamAttnWOutReferenceIdeal in
/-- The reference `AdamAttnWOutReference` leaves its arguments alone and ends quiescent. -/
theorem frame_adam_attn_w_out : quiescent_AdamAttnWOutReferenceIdeal := fun m ρ _ =>
  (θ_run defs _ _).mono (fun r h => ⟨fun c => (h c).2.2.2.2, sem_eq_zero_of_no_sems (by decide) r.2⟩)
    (AdamAttnWOutReferenceIdeal.Value.run (F := Ideal) m ρ)

open AdamAttnWOut in
/-- The kernel `AdamAttnWOut` and its reference end with the same results. -/
theorem algebraic_adam_attn_w_out : algebraic_AdamAttnWOutIdeal_AdamAttnWOutReferenceIdeal := fun m ρ m' ρ' _ hag =>
  ⟨fun c => res_4 (m0 m c) (m1 m c) (m2 m c) (m3 m c),
    fun c => res_5 (m0 m c) (m1 m c) (m2 m c) (m3 m c),
    fun c => res_6 (m0 m c) (m1 m c) (m2 m c) (m3 m c),
    fun c => res_7 (m0 m c) (m1 m c) (m2 m c) (m3 m c),
    kernel_run m ρ,
    (θ_run AdamAttnWOutReferenceIdeal.defs _ _).mono (fun _ h c => by
      obtain ⟨a0, a1, a2, a3⟩ := hag c
      refine ⟨(h c).1.trans ((AdamAttnWOutReferenceIdeal.Read.val_main_v1_eq _).trans ?_),
        (h c).2.1.trans ((AdamAttnWOutReferenceIdeal.Read.val_main_v25_eq _ _ _ _).trans ?_),
        (h c).2.2.1.trans ((AdamAttnWOutReferenceIdeal.Read.val_main_v6_eq _ _).trans ?_),
        (h c).2.2.2.1.trans ((AdamAttnWOutReferenceIdeal.Read.val_main_v12_eq _ _).trans ?_),
        (h c).2.2.2.2⟩
      · rw [a0]
        exact reference_grad _
      · rw [a0, a1, a2, a3]
        exact reference_5 _ _ _ _
      · rw [a0, a2]
        exact reference_6 _ _ _ _
      · rw [a0, a3]
        exact reference_7 _ _ _ _)
      (AdamAttnWOutReferenceIdeal.Value.run (F := Ideal) m' ρ')⟩

open AdamSsmWInReferenceIdeal in
/-- The reference `AdamSsmWInReference` leaves its arguments alone and ends quiescent. -/
theorem frame_adam_ssm_w_in : quiescent_AdamSsmWInReferenceIdeal := fun m ρ _ =>
  (θ_run defs _ _).mono (fun r h => ⟨fun c => (h c).2.2.2.2, sem_eq_zero_of_no_sems (by decide) r.2⟩)
    (AdamSsmWInReferenceIdeal.Value.run (F := Ideal) m ρ)

open AdamSsmWIn in
/-- The kernel `AdamSsmWIn` and its reference end with the same results. -/
theorem algebraic_adam_ssm_w_in : algebraic_AdamSsmWInIdeal_AdamSsmWInReferenceIdeal := fun m ρ m' ρ' _ hag =>
  ⟨fun c => res_4 (m0 m c) (m1 m c) (m2 m c) (m3 m c),
    fun c => res_5 (m0 m c) (m1 m c) (m2 m c) (m3 m c),
    fun c => res_6 (m0 m c) (m1 m c) (m2 m c) (m3 m c),
    fun c => res_7 (m0 m c) (m1 m c) (m2 m c) (m3 m c),
    kernel_run m ρ,
    (θ_run AdamSsmWInReferenceIdeal.defs _ _).mono (fun _ h c => by
      obtain ⟨a0, a1, a2, a3⟩ := hag c
      refine ⟨(h c).1.trans ((AdamSsmWInReferenceIdeal.Read.val_main_v0_eq _).trans ?_),
        (h c).2.1.trans ((AdamSsmWInReferenceIdeal.Read.val_main_v24_eq _ _ _ _).trans ?_),
        (h c).2.2.1.trans ((AdamSsmWInReferenceIdeal.Read.val_main_v5_eq _ _).trans ?_),
        (h c).2.2.2.1.trans ((AdamSsmWInReferenceIdeal.Read.val_main_v11_eq _ _).trans ?_),
        (h c).2.2.2.2⟩
      · rw [a0]
        exact reference_grad _
      · rw [a0, a1, a2, a3]
        exact reference_5 _ _ _ _
      · rw [a0, a2]
        exact reference_6 _ _ _ _
      · rw [a0, a3]
        exact reference_7 _ _ _ _)
      (AdamSsmWInReferenceIdeal.Value.run (F := Ideal) m' ρ')⟩

open AdamSsmWOutReferenceIdeal in
/-- The reference `AdamSsmWOutReference` leaves its arguments alone and ends quiescent. -/
theorem frame_adam_ssm_w_out : quiescent_AdamSsmWOutReferenceIdeal := fun m ρ _ =>
  (θ_run defs _ _).mono (fun r h => ⟨fun c => (h c).2.2.2.2, sem_eq_zero_of_no_sems (by decide) r.2⟩)
    (AdamSsmWOutReferenceIdeal.Value.run (F := Ideal) m ρ)

open AdamSsmWOut in
/-- The kernel `AdamSsmWOut` and its reference end with the same results. -/
theorem algebraic_adam_ssm_w_out : algebraic_AdamSsmWOutIdeal_AdamSsmWOutReferenceIdeal := fun m ρ m' ρ' _ hag =>
  ⟨fun c => res_4 (m0 m c) (m1 m c) (m2 m c) (m3 m c),
    fun c => res_5 (m0 m c) (m1 m c) (m2 m c) (m3 m c),
    fun c => res_6 (m0 m c) (m1 m c) (m2 m c) (m3 m c),
    fun c => res_7 (m0 m c) (m1 m c) (m2 m c) (m3 m c),
    kernel_run m ρ,
    (θ_run AdamSsmWOutReferenceIdeal.defs _ _).mono (fun _ h c => by
      obtain ⟨a0, a1, a2, a3⟩ := hag c
      refine ⟨(h c).1.trans ((AdamSsmWOutReferenceIdeal.Read.val_main_v1_eq _).trans ?_),
        (h c).2.1.trans ((AdamSsmWOutReferenceIdeal.Read.val_main_v25_eq _ _ _ _).trans ?_),
        (h c).2.2.1.trans ((AdamSsmWOutReferenceIdeal.Read.val_main_v6_eq _ _).trans ?_),
        (h c).2.2.2.1.trans ((AdamSsmWOutReferenceIdeal.Read.val_main_v12_eq _ _).trans ?_),
        (h c).2.2.2.2⟩
      · rw [a0]
        exact reference_grad _
      · rw [a0, a1, a2, a3]
        exact reference_5 _ _ _ _
      · rw [a0, a2]
        exact reference_6 _ _ _ _
      · rw [a0, a3]
        exact reference_7 _ _ _ _)
      (AdamSsmWOutReferenceIdeal.Value.run (F := Ideal) m' ρ')⟩

open AdamFfnWInReferenceIdeal in
/-- The reference `AdamFfnWInReference` leaves its arguments alone and ends quiescent. -/
theorem frame_adam_ffn_w_in : quiescent_AdamFfnWInReferenceIdeal := fun m ρ _ =>
  (θ_run defs _ _).mono (fun r h => ⟨fun c => (h c).2.2.2.2, sem_eq_zero_of_no_sems (by decide) r.2⟩)
    (AdamFfnWInReferenceIdeal.Value.run (F := Ideal) m ρ)

open AdamFfnWIn in
/-- The kernel `AdamFfnWIn` and its reference end with the same results. -/
theorem algebraic_adam_ffn_w_in : algebraic_AdamFfnWInIdeal_AdamFfnWInReferenceIdeal := fun m ρ m' ρ' _ hag =>
  ⟨fun c => res_5 (m0 m c) (m1 m c) (m2 m c) (m3 m c) (m4 m c),
    fun c => res_6 (m0 m c) (m1 m c) (m2 m c) (m3 m c) (m4 m c),
    fun c => res_7 (m0 m c) (m1 m c) (m2 m c) (m3 m c) (m4 m c),
    fun c => res_8 (m0 m c) (m1 m c) (m2 m c) (m3 m c) (m4 m c),
    kernel_run m ρ,
    (θ_run AdamFfnWInReferenceIdeal.defs _ _).mono (fun _ h c => by
      obtain ⟨a0, a1, a2, a3, a4⟩ := hag c
      refine ⟨(h c).1.trans ((AdamFfnWInReferenceIdeal.Read.val_main_v2_eq _ _).trans ?_),
        (h c).2.1.trans ((AdamFfnWInReferenceIdeal.Read.val_main_v26_eq _ _ _ _ _).trans ?_),
        (h c).2.2.1.trans ((AdamFfnWInReferenceIdeal.Read.val_main_v7_eq _ _ _).trans ?_),
        (h c).2.2.2.1.trans ((AdamFfnWInReferenceIdeal.Read.val_main_v13_eq _ _ _).trans ?_),
        (h c).2.2.2.2⟩
      · rw [a0, a1]
        exact reference_grad _ _
      · rw [a0, a1, a2, a3, a4]
        exact reference_6 _ _ _ _ _
      · rw [a0, a1, a3]
        exact reference_7 _ _ _ _ _
      · rw [a0, a1, a4]
        exact reference_8 _ _ _ _ _)
      (AdamFfnWInReferenceIdeal.Value.run (F := Ideal) m' ρ')⟩

open AdamFfnWOutReferenceIdeal in
/-- The reference `AdamFfnWOutReference` leaves its arguments alone and ends quiescent. -/
theorem frame_adam_ffn_w_out : quiescent_AdamFfnWOutReferenceIdeal := fun m ρ _ =>
  (θ_run defs _ _).mono (fun r h => ⟨fun c => (h c).2.2.2.2, sem_eq_zero_of_no_sems (by decide) r.2⟩)
    (AdamFfnWOutReferenceIdeal.Value.run (F := Ideal) m ρ)

open AdamFfnWOut in
/-- The kernel `AdamFfnWOut` and its reference end with the same results. -/
theorem algebraic_adam_ffn_w_out : algebraic_AdamFfnWOutIdeal_AdamFfnWOutReferenceIdeal := fun m ρ m' ρ' _ hag =>
  ⟨fun c => res_5 (m0 m c) (m1 m c) (m2 m c) (m3 m c) (m4 m c),
    fun c => res_6 (m0 m c) (m1 m c) (m2 m c) (m3 m c) (m4 m c),
    fun c => res_7 (m0 m c) (m1 m c) (m2 m c) (m3 m c) (m4 m c),
    fun c => res_8 (m0 m c) (m1 m c) (m2 m c) (m3 m c) (m4 m c),
    kernel_run m ρ,
    (θ_run AdamFfnWOutReferenceIdeal.defs _ _).mono (fun _ h c => by
      obtain ⟨a0, a1, a2, a3, a4⟩ := hag c
      refine ⟨(h c).1.trans ((AdamFfnWOutReferenceIdeal.Read.val_main_v4_eq _ _).trans ?_),
        (h c).2.1.trans ((AdamFfnWOutReferenceIdeal.Read.val_main_v28_eq _ _ _ _ _).trans ?_),
        (h c).2.2.1.trans ((AdamFfnWOutReferenceIdeal.Read.val_main_v9_eq _ _ _).trans ?_),
        (h c).2.2.2.1.trans ((AdamFfnWOutReferenceIdeal.Read.val_main_v15_eq _ _ _).trans ?_),
        (h c).2.2.2.2⟩
      · rw [a0, a1]
        exact reference_grad _ _
      · rw [a0, a1, a2, a3, a4]
        exact reference_6 _ _ _ _ _
      · rw [a0, a1, a3]
        exact reference_7 _ _ _ _ _
      · rw [a0, a1, a4]
        exact reference_8 _ _ _ _ _)
      (AdamFfnWOutReferenceIdeal.Value.run (F := Ideal) m' ρ')⟩

open SumAttnWInReferenceIdeal in
/-- The reference `SumAttnWInReference` leaves its arguments alone and ends quiescent. -/
theorem frame_sum_attn_w_in : quiescent_SumAttnWInReferenceIdeal := fun m ρ _ =>
  (θ_run defs _ _).mono (fun r h => ⟨fun c => (h c).2, sem_eq_zero_of_no_sems (by decide) r.2⟩)
    (SumAttnWInReferenceIdeal.Value.run (F := Ideal) m ρ)

open SumAttnWIn in
/-- The kernel `SumAttnWIn` and its reference end with the same results. -/
theorem algebraic_sum_attn_w_in : algebraic_SumAttnWInIdeal_SumAttnWInReferenceIdeal := fun m ρ m' ρ' _ hag =>
  ⟨fun c => res_1 (m0 m c),
    kernel_run m ρ,
    (θ_run SumAttnWInReferenceIdeal.defs _ _).mono (fun _ h c => by
      have a0 := hag c
      refine ⟨(h c).1.trans ?_,
        (h c).2⟩
      rw [a0]
      exact reference_eq_1 _)
      (SumAttnWInReferenceIdeal.Value.run (F := Ideal) m' ρ')⟩

open SumSsmWInReferenceIdeal in
/-- The reference `SumSsmWInReference` leaves its arguments alone and ends quiescent. -/
theorem frame_sum_ssm_w_in : quiescent_SumSsmWInReferenceIdeal := fun m ρ _ =>
  (θ_run defs _ _).mono (fun r h => ⟨fun c => (h c).2, sem_eq_zero_of_no_sems (by decide) r.2⟩)
    (SumSsmWInReferenceIdeal.Value.run (F := Ideal) m ρ)

open SumSsmWIn in
/-- The kernel `SumSsmWIn` and its reference end with the same results. -/
theorem algebraic_sum_ssm_w_in : algebraic_SumSsmWInIdeal_SumSsmWInReferenceIdeal := fun m ρ m' ρ' _ hag =>
  ⟨fun c => res_1 (m0 m c),
    kernel_run m ρ,
    (θ_run SumSsmWInReferenceIdeal.defs _ _).mono (fun _ h c => by
      have a0 := hag c
      refine ⟨(h c).1.trans ?_,
        (h c).2⟩
      rw [a0]
      exact reference_eq_1 _)
      (SumSsmWInReferenceIdeal.Value.run (F := Ideal) m' ρ')⟩

open SumFfnWInReferenceIdeal in
/-- The reference `SumFfnWInReference` leaves its arguments alone and ends quiescent. -/
theorem frame_sum_ffn_w_in : quiescent_SumFfnWInReferenceIdeal := fun m ρ _ =>
  (θ_run defs _ _).mono (fun r h => ⟨fun c => (h c).2, sem_eq_zero_of_no_sems (by decide) r.2⟩)
    (SumFfnWInReferenceIdeal.Value.run (F := Ideal) m ρ)

open SumFfnWIn in
/-- The kernel `SumFfnWIn` and its reference end with the same results. -/
theorem algebraic_sum_ffn_w_in : algebraic_SumFfnWInIdeal_SumFfnWInReferenceIdeal := fun m ρ m' ρ' _ hag =>
  ⟨fun c => res_1 (m0 m c),
    kernel_run m ρ,
    (θ_run SumFfnWInReferenceIdeal.defs _ _).mono (fun _ h c => by
      have a0 := hag c
      refine ⟨(h c).1.trans ?_,
        (h c).2⟩
      rw [a0]
      exact reference_eq_1 _)
      (SumFfnWInReferenceIdeal.Value.run (F := Ideal) m' ρ')⟩

open SsmDwDtReferenceIdeal in
/-- The reference `SsmDwDtReference` leaves its arguments alone and ends quiescent. -/
theorem frame_ssm_dw_dt : quiescent_SsmDwDtReferenceIdeal := fun m ρ _ =>
  (θ_run defs _ _).mono (fun r h => ⟨fun c => (h c).2, sem_eq_zero_of_no_sems (by decide) r.2⟩)
    (SsmDwDtReferenceIdeal.Value.run (F := Ideal) m ρ)

open SsmDwDt in
/-- The kernel `SsmDwDt` and its reference end with the same results. -/
theorem algebraic_ssm_dw_dt : algebraic_SsmDwDtIdeal_SsmDwDtReferenceIdeal := fun m ρ m' ρ' _ hag =>
  ⟨fun c => prod (mA m c) (mB m c),
    kernel_run m ρ,
    (θ_run SsmDwDtReferenceIdeal.defs _ _).mono (fun _ h c => by
      obtain ⟨a0, a1⟩ := hag c
      refine ⟨(h c).1.trans ?_,
        (h c).2⟩
      rw [a0, a1]
      exact reference_eq _ _)
      (SsmDwDtReferenceIdeal.Value.run (F := Ideal) m' ρ')⟩

theorem claim : Claim := ⟨Kernel.Gen.facts,
  KernelIdeal.Gen.facts,
  ReferenceIdeal.Gen.facts,
  FfnDwOut.Gen.facts,
  FfnDwOutIdeal.Gen.facts,
  FfnDwOutReferenceIdeal.Gen.facts,
  FfnDwIn.Gen.facts,
  FfnDwInIdeal.Gen.facts,
  FfnDwInReferenceIdeal.Gen.facts,
  SsmDwOut.Gen.facts,
  SsmDwOutIdeal.Gen.facts,
  SsmDwOutReferenceIdeal.Gen.facts,
  SsmDwZ.Gen.facts,
  SsmDwZIdeal.Gen.facts,
  SsmDwZReferenceIdeal.Gen.facts,
  SsmDwX.Gen.facts,
  SsmDwXIdeal.Gen.facts,
  SsmDwXReferenceIdeal.Gen.facts,
  AttnDwIn.Gen.facts,
  AttnDwInIdeal.Gen.facts,
  AttnDwInReferenceIdeal.Gen.facts,
  AttnDwOut.Gen.facts,
  AttnDwOutIdeal.Gen.facts,
  AttnDwOutReferenceIdeal.Gen.facts,
  FfnOut.Gen.facts,
  FfnOutIdeal.Gen.facts,
  FfnOutReferenceIdeal.Gen.facts,
  SsmOut.Gen.facts,
  SsmOutIdeal.Gen.facts,
  SsmOutReferenceIdeal.Gen.facts,
  SsmDy.Gen.facts,
  SsmDyIdeal.Gen.facts,
  SsmDyReferenceIdeal.Gen.facts,
  AttnDo.Gen.facts,
  AttnDoIdeal.Gen.facts,
  AttnDoReferenceIdeal.Gen.facts,
  AttnOut.Gen.facts,
  AttnOutIdeal.Gen.facts,
  AttnOutReferenceIdeal.Gen.facts,
  AttnIn.Gen.facts,
  AttnInIdeal.Gen.facts,
  AttnInReferenceIdeal.Gen.facts,
  FfnDh.Gen.facts,
  FfnDhIdeal.Gen.facts,
  FfnDhReferenceIdeal.Gen.facts,
  FfnLoss.Gen.facts,
  FfnLossIdeal.Gen.facts,
  FfnLossReferenceIdeal.Gen.facts,
  FfnIn.Gen.facts,
  FfnInIdeal.Gen.facts,
  FfnInReferenceIdeal.Gen.facts,
  SsmDh.Gen.facts,
  SsmDhIdeal.Gen.facts,
  SsmDhReferenceIdeal.Gen.facts,
  SsmIn.Gen.facts,
  SsmInIdeal.Gen.facts,
  SsmInReferenceIdeal.Gen.facts,
  AdamAttnWIn.Gen.facts,
  AdamAttnWInIdeal.Gen.facts,
  AdamAttnWInReferenceIdeal.Gen.facts,
  AdamAttnWOut.Gen.facts,
  AdamAttnWOutIdeal.Gen.facts,
  AdamAttnWOutReferenceIdeal.Gen.facts,
  AdamSsmWIn.Gen.facts,
  AdamSsmWInIdeal.Gen.facts,
  AdamSsmWInReferenceIdeal.Gen.facts,
  AdamSsmWOut.Gen.facts,
  AdamSsmWOutIdeal.Gen.facts,
  AdamSsmWOutReferenceIdeal.Gen.facts,
  AdamFfnWIn.Gen.facts,
  AdamFfnWInIdeal.Gen.facts,
  AdamFfnWInReferenceIdeal.Gen.facts,
  AdamFfnWOut.Gen.facts,
  AdamFfnWOutIdeal.Gen.facts,
  AdamFfnWOutReferenceIdeal.Gen.facts,
  SumAttnWIn.Gen.facts,
  SumAttnWInIdeal.Gen.facts,
  SumAttnWInReferenceIdeal.Gen.facts,
  SumSsmWIn.Gen.facts,
  SumSsmWInIdeal.Gen.facts,
  SumSsmWInReferenceIdeal.Gen.facts,
  SumFfnWIn.Gen.facts,
  SumFfnWInIdeal.Gen.facts,
  SumFfnWInReferenceIdeal.Gen.facts,
  SsmDwDt.Gen.facts,
  SsmDwDtIdeal.Gen.facts,
  SsmDwDtReferenceIdeal.Gen.facts,
  Pre_finite.Gen.facts,
  fun m ρ _ => Kernel.Gen.frame m ρ,
  fun m ρ _ => KernelIdeal.Gen.frame m ρ,
  fun m ρ _ => KernelIdeal.Gen.frame m ρ,
  frame_ffn_mid,
  fun m ρ _ => frame_ffn_mid m ρ trivial,
  fun m ρ _ => FfnDwOut.Gen.frame m ρ,
  fun m ρ _ => FfnDwOutIdeal.Gen.frame m ρ,
  frame_ffn_dw_out,
  fun m ρ _ => FfnDwIn.Gen.frame m ρ,
  fun m ρ _ => FfnDwInIdeal.Gen.frame m ρ,
  frame_ffn_dw_in,
  fun m ρ _ => SsmDwOut.Gen.frame m ρ,
  fun m ρ _ => SsmDwOutIdeal.Gen.frame m ρ,
  frame_ssm_dw_out,
  fun m ρ _ => SsmDwZ.Gen.frame m ρ,
  fun m ρ _ => SsmDwZIdeal.Gen.frame m ρ,
  frame_ssm_dw_z,
  fun m ρ _ => SsmDwX.Gen.frame m ρ,
  fun m ρ _ => SsmDwXIdeal.Gen.frame m ρ,
  frame_ssm_dw_x,
  fun m ρ _ => AttnDwIn.Gen.frame m ρ,
  fun m ρ _ => AttnDwInIdeal.Gen.frame m ρ,
  frame_attn_dw_in,
  fun m ρ _ => AttnDwOut.Gen.frame m ρ,
  fun m ρ _ => AttnDwOutIdeal.Gen.frame m ρ,
  frame_attn_dw_out,
  fun m ρ _ => FfnOut.Gen.frame m ρ,
  fun m ρ _ => FfnOutIdeal.Gen.frame m ρ,
  frame_ffn_out,
  fun m ρ _ => SsmOut.Gen.frame m ρ,
  fun m ρ _ => SsmOutIdeal.Gen.frame m ρ,
  frame_ssm_out,
  fun m ρ _ => SsmDy.Gen.frame m ρ,
  fun m ρ _ => SsmDyIdeal.Gen.frame m ρ,
  frame_ssm_dy,
  fun m ρ _ => AttnDo.Gen.frame m ρ,
  fun m ρ _ => AttnDoIdeal.Gen.frame m ρ,
  frame_attn_do,
  fun m ρ _ => AttnOut.Gen.frame m ρ,
  fun m ρ _ => AttnOutIdeal.Gen.frame m ρ,
  frame_attn_out,
  fun m ρ _ => AttnIn.Gen.frame m ρ,
  fun m ρ _ => AttnInIdeal.Gen.frame m ρ,
  frame_attn_in,
  fun m ρ _ => FfnDh.Gen.frame m ρ,
  fun m ρ _ => FfnDhIdeal.Gen.frame m ρ,
  frame_ffn_dh,
  fun m ρ _ => FfnLoss.Gen.frame m ρ,
  fun m ρ _ => FfnLossIdeal.Gen.frame m ρ,
  frame_ffn_loss,
  fun m ρ _ => FfnIn.Gen.frame m ρ,
  fun m ρ _ => FfnInIdeal.Gen.frame m ρ,
  frame_ffn_in,
  fun m ρ _ => SsmDh.Gen.frame m ρ,
  fun m ρ _ => SsmDhIdeal.Gen.frame m ρ,
  frame_ssm_dh,
  fun m ρ _ => SsmIn.Gen.frame m ρ,
  fun m ρ _ => SsmInIdeal.Gen.frame m ρ,
  frame_ssm_in,
  fun m ρ _ => AdamAttnWIn.Gen.frame m ρ,
  fun m ρ _ => AdamAttnWInIdeal.Gen.frame m ρ,
  frame_adam_attn_w_in,
  fun m ρ _ => AdamAttnWOut.Gen.frame m ρ,
  fun m ρ _ => AdamAttnWOutIdeal.Gen.frame m ρ,
  frame_adam_attn_w_out,
  fun m ρ _ => AdamSsmWIn.Gen.frame m ρ,
  fun m ρ _ => AdamSsmWInIdeal.Gen.frame m ρ,
  frame_adam_ssm_w_in,
  fun m ρ _ => AdamSsmWOut.Gen.frame m ρ,
  fun m ρ _ => AdamSsmWOutIdeal.Gen.frame m ρ,
  frame_adam_ssm_w_out,
  fun m ρ _ => AdamFfnWIn.Gen.frame m ρ,
  fun m ρ _ => AdamFfnWInIdeal.Gen.frame m ρ,
  frame_adam_ffn_w_in,
  fun m ρ _ => AdamFfnWOut.Gen.frame m ρ,
  fun m ρ _ => AdamFfnWOutIdeal.Gen.frame m ρ,
  frame_adam_ffn_w_out,
  fun m ρ _ => SumAttnWIn.Gen.frame m ρ,
  fun m ρ _ => SumAttnWInIdeal.Gen.frame m ρ,
  frame_sum_attn_w_in,
  fun m ρ _ => SumSsmWIn.Gen.frame m ρ,
  fun m ρ _ => SumSsmWInIdeal.Gen.frame m ρ,
  frame_sum_ssm_w_in,
  fun m ρ _ => SumFfnWIn.Gen.frame m ρ,
  fun m ρ _ => SumFfnWInIdeal.Gen.frame m ρ,
  frame_sum_ffn_w_in,
  fun m ρ _ => SsmDwDt.Gen.frame m ρ,
  fun m ρ _ => SsmDwDtIdeal.Gen.frame m ρ,
  frame_ssm_dw_dt,
  trivial,
  algebraic_ffn_mid,
  trivial,
  algebraic_ffn_dw_out,
  trivial,
  algebraic_ffn_dw_in,
  trivial,
  algebraic_ssm_dw_out,
  trivial,
  algebraic_ssm_dw_z,
  trivial,
  algebraic_ssm_dw_x,
  trivial,
  algebraic_attn_dw_in,
  trivial,
  algebraic_attn_dw_out,
  trivial,
  algebraic_ffn_out,
  trivial,
  algebraic_ssm_out,
  trivial,
  algebraic_ssm_dy,
  trivial,
  algebraic_attn_do,
  trivial,
  algebraic_attn_out,
  trivial,
  algebraic_attn_in,
  trivial,
  algebraic_ffn_dh,
  trivial,
  algebraic_ffn_loss,
  trivial,
  algebraic_ffn_in,
  trivial,
  algebraic_ssm_dh,
  trivial,
  algebraic_ssm_in,
  trivial,
  algebraic_adam_attn_w_in,
  trivial,
  algebraic_adam_attn_w_out,
  trivial,
  algebraic_adam_ssm_w_in,
  trivial,
  algebraic_adam_ssm_w_out,
  trivial,
  algebraic_adam_ffn_w_in,
  trivial,
  algebraic_adam_ffn_w_out,
  trivial,
  algebraic_sum_attn_w_in,
  trivial,
  algebraic_sum_ssm_w_in,
  trivial,
  algebraic_sum_ffn_w_in,
  trivial,
  algebraic_ssm_dw_dt⟩

end Cert.Proof

end
